-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10)
      ∧ r.2.mem ((c.tc : Thread Cert.Kernel14.nD Cert.Kernel14.τ).loc Cert.Kernel14.main_arg11) = m ((c.tc : Thread Cert.Kernel14.nD Cert.Kernel14.τ).loc Cert.Kernel14.main_arg11)
      ∧ r.2.mem ((c.tc : Thread Cert.Kernel14.nD Cert.Kernel14.τ).loc Cert.Kernel14.main_arg12) = m ((c.tc : Thread Cert.Kernel14.nD Cert.Kernel14.τ).loc Cert.Kernel14.main_arg12))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
      ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11)
      ∧ r.2.mem ((c.tc : Thread Cert.Reference14Ideal.nD Cert.Reference14Ideal.τ).loc Cert.Reference14Ideal.main_arg12) = m ((c.tc : Thread Cert.Reference14Ideal.nD Cert.Reference14Ideal.τ).loc Cert.Reference14Ideal.main_arg12))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "exit" .f32 0xC2DC0000#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v31)) (v1 : (c : Dev Cert.Kernel2Ideal.nD) → Buf (Elt Ideal) ((c.tc : Thread Cert.Kernel2Ideal.nD Cert.Kernel2Ideal.τ).loc Cert.Kernel2Ideal.main_v29_1)) (v2 : (c : Dev Cert.Kernel2Ideal.nD) → Buf (Elt Ideal) ((c.tc : Thread Cert.Kernel2Ideal.nD Cert.Kernel2Ideal.τ).loc Cert.Kernel2Ideal.main_v29_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31) = v0 c
          ∧ r.2.mem ((c.tc : Thread Cert.Kernel2Ideal.nD Cert.Kernel2Ideal.τ).loc Cert.Kernel2Ideal.main_v29_1) = v1 c
          ∧ r.2.mem ((c.tc : Thread Cert.Kernel2Ideal.nD Cert.Kernel2Ideal.τ).loc Cert.Kernel2Ideal.main_v29_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)) (v1 : (c : Dev Cert.Kernel3Ideal.nD) → Buf (Elt Ideal) ((c.tc : Thread Cert.Kernel3Ideal.nD Cert.Kernel3Ideal.τ).loc Cert.Kernel3Ideal.main_v5)) (v2 : (c : Dev Cert.Kernel3Ideal.nD) → Buf (Elt Ideal) ((c.tc : Thread Cert.Kernel3Ideal.nD Cert.Kernel3Ideal.τ).loc Cert.Kernel3Ideal.main_v3_1)) (v3 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_v5) = v1 c
          ∧ r.2.mem ((c.tc : Thread Cert.Kernel3Ideal.nD Cert.Kernel3Ideal.τ).loc Cert.Kernel3Ideal.main_v3_1) = v2 c
          ∧ r.2.mem ((c.tc : Thread Cert.Kernel3Ideal.nD Cert.Kernel3Ideal.τ).loc Cert.Kernel3Ideal.main_v3_2) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v100) = v0 c
          ∧ r.2.mem ((c.tc : Thread Cert.Reference3Ideal.nD Cert.Reference3Ideal.τ).loc Cert.Reference3Ideal.main_v82) = v1 c
          ∧ r.2.mem ((c.tc : Thread Cert.Reference3Ideal.nD Cert.Reference3Ideal.τ).loc Cert.Reference3Ideal.main_v99) = v2 c
          ∧ r.2.mem ((c.tc : Thread Cert.Reference3Ideal.nD Cert.Reference3Ideal.τ).loc Cert.Reference3Ideal.main_v98) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v2) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v3)) (v3 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v3) = v2 c
          ∧ r.2.mem ((c.tc : Thread Cert.Kernel5Ideal.nD Cert.Kernel5Ideal.τ).loc Cert.Kernel5Ideal.main_v4) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v74) = v0 c
          ∧ r.2.mem ((c.tc : Thread Cert.Reference5Ideal.nD Cert.Reference5Ideal.τ).loc Cert.Reference5Ideal.main_v54) = v1 c
          ∧ r.2.mem ((c.tc : Thread Cert.Reference5Ideal.nD Cert.Reference5Ideal.τ).loc Cert.Reference5Ideal.main_v60) = v2 c
          ∧ r.2.mem ((c.tc : Thread Cert.Reference5Ideal.nD Cert.Reference5Ideal.τ).loc Cert.Reference5Ideal.main_v40) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v4) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_v23) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v4) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v39) = v1 c
          ∧ r.2.mem ((c.tc : Thread Cert.Reference9Ideal.nD Cert.Reference9Ideal.τ).loc Cert.Reference9Ideal.main_v23) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v7)) (v2 : (c : Dev Cert.Kernel11Ideal.nD) → Buf (Elt Ideal) ((c.tc : Thread Cert.Kernel11Ideal.nD Cert.Kernel11Ideal.τ).loc Cert.Kernel11Ideal.main_v8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v7) = v1 c
          ∧ r.2.mem ((c.tc : Thread Cert.Kernel11Ideal.nD Cert.Kernel11Ideal.τ).loc Cert.Kernel11Ideal.main_v8) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v60) = v0 c
          ∧ r.2.mem ((c.tc : Thread Cert.Reference11Ideal.nD Cert.Reference11Ideal.τ).loc Cert.Reference11Ideal.main_v65) = v1 c
          ∧ r.2.mem ((c.tc : Thread Cert.Reference11Ideal.nD Cert.Reference11Ideal.τ).loc Cert.Reference11Ideal.main_v41) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4)) (v1 : (c : Dev Cert.Kernel12Ideal.nD) → Buf (Elt Ideal) ((c.tc : Thread Cert.Kernel12Ideal.nD Cert.Kernel12Ideal.τ).loc Cert.Kernel12Ideal.main_v2_0)) (v2 : (c : Dev Cert.Kernel12Ideal.nD) → Buf (Elt Ideal) ((c.tc : Thread Cert.Kernel12Ideal.nD Cert.Kernel12Ideal.τ).loc Cert.Kernel12Ideal.main_v2_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_v2_0) = v1 c
          ∧ r.2.mem ((c.tc : Thread Cert.Kernel12Ideal.nD Cert.Kernel12Ideal.τ).loc Cert.Kernel12Ideal.main_v2_1) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_v16) = v1 c
          ∧ r.2.mem ((c.tc : Thread Cert.Reference12Ideal.nD Cert.Reference12Ideal.τ).loc Cert.Reference12Ideal.main_v17) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "exit" .f32 0xC2DC0000#32 ⊥

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v27) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v7) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v33) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v15) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v15) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v8_0)) (v1 : (c : Dev Cert.Kernel22Ideal.nD) → Buf (Elt Ideal) ((c.tc : Thread Cert.Kernel22Ideal.nD Cert.Kernel22Ideal.τ).loc Cert.Kernel22Ideal.main_v8_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v8_0) = v0 c
          ∧ r.2.mem ((c.tc : Thread Cert.Kernel22Ideal.nD Cert.Kernel22Ideal.τ).loc Cert.Kernel22Ideal.main_v8_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v33) = v0 c
          ∧ r.2.mem ((c.tc : Thread Cert.Reference22Ideal.nD Cert.Reference22Ideal.τ).loc Cert.Reference22Ideal.main_v35) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v3_0)) (v1 : (c : Dev Cert.Kernel24Ideal.nD) → Buf (Elt Ideal) ((c.tc : Thread Cert.Kernel24Ideal.nD Cert.Kernel24Ideal.τ).loc Cert.Kernel24Ideal.main_v3_1)) (v2 : (c : Dev Cert.Kernel24Ideal.nD) → Buf (Elt Ideal) ((c.tc : Thread Cert.Kernel24Ideal.nD Cert.Kernel24Ideal.τ).loc Cert.Kernel24Ideal.main_v3_2)) (v3 : (c : Dev Cert.Kernel24Ideal.nD) → Buf (Elt Ideal) ((c.tc : Thread Cert.Kernel24Ideal.nD Cert.Kernel24Ideal.τ).loc Cert.Kernel24Ideal.main_v3_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3_0) = v0 c
          ∧ r.2.mem ((c.tc : Thread Cert.Kernel24Ideal.nD Cert.Kernel24Ideal.τ).loc Cert.Kernel24Ideal.main_v3_1) = v1 c
          ∧ r.2.mem ((c.tc : Thread Cert.Kernel24Ideal.nD Cert.Kernel24Ideal.τ).loc Cert.Kernel24Ideal.main_v3_2) = v2 c
          ∧ r.2.mem ((c.tc : Thread Cert.Kernel24Ideal.nD Cert.Kernel24Ideal.τ).loc Cert.Kernel24Ideal.main_v3_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v29) = v0 c
          ∧ r.2.mem ((c.tc : Thread Cert.Reference24Ideal.nD Cert.Reference24Ideal.τ).loc Cert.Reference24Ideal.main_v13) = v1 c
          ∧ r.2.mem ((c.tc : Thread Cert.Reference24Ideal.nD Cert.Reference24Ideal.τ).loc Cert.Reference24Ideal.main_v31) = v2 c
          ∧ r.2.mem ((c.tc : Thread Cert.Reference24Ideal.nD Cert.Reference24Ideal.τ).loc Cert.Reference24Ideal.main_v33) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts) (hPre_finite3 : Cert.Pre_finite3.Facts) (hPre_finite13 : Cert.Pre_finite13.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S8192x512 : Shape := ⟨2, ![8192, 512]⟩
abbrev S8192x2048 : Shape := ⟨2, ![8192, 2048]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x512 .f32) (main_arg1 : FVec F S8192x512 .f32) (main_arg2 : FVec F S8192x2048 .f32) (main_arg3 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S8192x2048 .f32 := Host.absf main_arg2
  let main_cst_2 : FVec F S_ .f32 := constant S_ .f32 0x7F800000#32
  let main_v9 : FVec F S8192x2048 .f32 := broadcastInDim S8192x2048 ![] bcast_S_S8192x2048 main_cst_2
  let main_v10 : IVec S8192x2048 1 := cmpf .olt main_v8 main_v9
  let main_c_3 : IVec S_ 1 := constantI S_ 1 1#1
  let main_v11 : IVec S_ 1 := (fun x v => Host.reduce IntOp.andi x v reducesTo_S8192x2048_S_d0_1 h_S_) main_v10 main_c_3
  let main_v12 : FVec F S8192x512 .f32 := Host.absf main_arg3
  let main_cst_4 : FVec F S_ .f32 := constant S_ .f32 0x7F800000#32
  let main_v13 : FVec F S8192x512 .f32 := broadcastInDim S8192x512 ![] bcast_S_S8192x512 main_cst_4
  let main_v14 : IVec S8192x512 1 := cmpf .olt main_v12 main_v13
  let main_c_5 : IVec S_ 1 := constantI S_ 1 1#1
  let main_v15 : IVec S_ 1 := (fun x v => Host.reduce IntOp.andi x v reducesTo_S8192x512_S_d0_1 h_S_) main_v14 main_c_5
  fn_part1 (F := F) main_v3 main_v7 main_v11 main_v15
-- ==== Pre_finite13.lean ====
abbrev S8192x512 : Shape := ⟨2, ![8192, 512]⟩
abbrev S8192x2048 : Shape := ⟨2, ![8192, 2048]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x512 .f32) (main_arg1 : FVec F S8192x512 .f32) (main_arg2 : FVec F S8192x2048 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S8192x2048 .f32 := Host.absf main_arg2
  let main_cst_2 : FVec F S_ .f32 := constant S_ .f32 0x7F800000#32
  let main_v9 : FVec F S8192x2048 .f32 := broadcastInDim S8192x2048 ![] bcast_S_S8192x2048 main_cst_2
  let main_v10 : IVec S8192x2048 1 := cmpf .olt main_v8 main_v9
  let main_c_3 : IVec S_ 1 := constantI S_ 1 1#1
  let main_v11 : IVec S_ 1 := (fun x v => Host.reduce IntOp.andi x v reducesTo_S8192x2048_S_d0_1 h_S_) main_v10 main_c_3
  let main_v12 : IVec S_ 1 := andi main_v3 main_v7
  let main_v13 : IVec S_ 1 := andi main_v12 main_v11
  main_v13
-- ==== Pre_finite3.lean ====
abbrev S8192x512 : Shape := ⟨2, ![8192, 512]⟩
abbrev S128 : Shape := ⟨1, ![128]⟩
abbrev S256x512 : Shape := ⟨2, ![256, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S128 : S_.BroadcastsInDim S128 (![] : Fin 0 → Fin S128.rank)
  reducesTo_S128_S_d0 : S128.ReducesTo [0] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S8192x512 .f32) (main_v3 : IVec S_ 1) (main_v7 : IVec S_ 1) (main_v11 : IVec S_ 1) (main_v15 : IVec S_ 1) : IVec S_ 1 :=
  let main_v16 : FVec F S8192x512 .f32 := Host.absf main_arg4
  let main_cst_6 : FVec F S_ .f32 := constant S_ .f32 0x7F800000#32
  let main_v17 : FVec F S8192x512 .f32 := broadcastInDim S8192x512 ![] bcast_S_S8192x512 main_cst_6
  let main_v18 : IVec S8192x512 1 := cmpf .olt main_v16 main_v17
  let main_c_7 : IVec S_ 1 := constantI S_ 1 1#1
  let main_v19 : IVec S_ 1 := (fun x v => Host.reduce IntOp.andi x v reducesTo_S8192x512_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x512 .f32) (main_arg1 : FVec F S128 .f32) (main_arg2 : FVec F S256x512 .f32) (main_arg3 : FVec F S256x512 .f32) (main_arg4 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : FVec F S256x512 .f32 := Host.absf main_arg2
  let main_cst_2 : FVec F S_ .f32 := constant S_ .f32 0x7F800000#32
  let main_v9 : FVec F S256x512 .f32 := broadcastInDim S256x512 ![] bcast_S_S256x512 main_cst_2
  let main_v10 : IVec S256x512 1 := cmpf .olt main_v8 main_v9
  let main_c_3 : IVec S_ 1 := constantI S_ 1 1#1
  let main_v11 : IVec S_ 1 := (fun x v => Host.reduce IntOp.andi x v reducesTo_S256x512_S_d0_1 h_S_) main_v10 main_c_3
  let main_v12 : FVec F S256x512 .f32 := Host.absf main_arg3
  let main_cst_4 : FVec F S_ .f32 := constant S_ .f32 0x7F800000#32
  let main_v13 : FVec F S256x512 .f32 := broadcastInDim S256x512 ![] bcast_S_S256x512 main_cst_4
  let main_v14 : IVec S256x512 1 := cmpf .olt main_v12 main_v13
  let main_c_5 : IVec S_ 1 := constantI S_ 1 1#1
  let main_v15 : IVec S_ 1 := (fun x v => Host.reduce IntOp.andi x v reducesTo_S256x512_S_d0_1 h_S_) main_v14 main_c_5
  fn_part1 (F := F) main_arg4 main_v3 main_v7 main_v11 main_v15
-- ==== Kernel.lean ====
abbrev S8192x512 : Shape := ⟨2, ![8192, 512]⟩
abbrev S512x512 : Shape := ⟨2, ![512, 512]⟩
abbrev S4x8x256x512 : Shape := ⟨4, ![4, 8, 256, 512]⟩
abbrev S4x256x8x512 : Shape := ⟨4, ![4, 256, 8, 512]⟩
abbrev S1024x512 : Shape := ⟨2, ![1024, 512]⟩

abbrev nBuf : Space → Nat
  | .hbm => 21
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S8192x512, .f32⟩
  | .hbm, ⟨3, _⟩ => ⟨S4x8x256x512, .f32⟩
  | .hbm, ⟨4, _⟩ => ⟨S4x256x8x512, .f32⟩
  | .hbm, ⟨5, _⟩ => ⟨S8192x512, .f32⟩
  | .hbm, ⟨6, _⟩ => ⟨S8192x512, .bf16⟩
  | .hbm, ⟨7, _⟩ => ⟨S512x512, .bf16⟩
  | .hbm, ⟨8, _⟩ => ⟨S8192x512, .f32⟩
  | .hbm, ⟨9, _⟩ => ⟨S4x8x256x512, .f32⟩
  | .hbm, ⟨10, _⟩ => ⟨S4x256x8x512, .f32⟩
  | .hbm, ⟨11, _⟩ => ⟨S8192x512, .f32⟩
  | .hbm, ⟨12, _⟩ => ⟨S8192x512, .f32⟩
  | .hbm, ⟨13, _⟩ => ⟨S8192x512, .bf16⟩
  | .hbm, ⟨14, _⟩ => ⟨S4x256x8x512, .f32⟩
  | .hbm, ⟨15, _⟩ => ⟨S4x8x256x512, .f32⟩
  | .hbm, ⟨16, _⟩ => ⟨S8192x512, .f32⟩
  | .hbm, ⟨17, _⟩ => ⟨S8192x512, .f32⟩
  | .hbm, ⟨18, _⟩ => ⟨S4x256x8x512, .f32⟩
  | .hbm, ⟨19, _⟩ => ⟨S4x8x256x512, .f32⟩
  | .hbm, ⟨20, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x512 : Shape := ⟨2, ![8192, 512]⟩
abbrev S512x512 : Shape := ⟨2, ![512, 512]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel2.lean ====
abbrev S8192x512 : Shape := ⟨2, ![8192, 512]⟩
abbrev S8192x2048 : Shape := ⟨2, ![8192, 2048]⟩
abbrev S1x8192x8x64 : Shape := ⟨4, ![1, 8192, 8, 64]⟩
abbrev S1x8x8192x8192 : Shape := ⟨4, ![1, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8x64x8192 : Shape := ⟨4, ![1, 8, 64, 8192]⟩
abbrev S1024x128 : Shape := ⟨2, ![1024, 128]⟩
abbrev S8192x128 : Shape := ⟨2, ![8192, 128]⟩
abbrev S256x256 : Shape := ⟨2, ![256, 256]⟩
abbrev S256x128 : Shape := ⟨2, ![256, 128]⟩
abbrev S512x256 : Shape := ⟨2, ![512, 256]⟩
abbrev S256x1 : Shape := ⟨2, ![256, 1]⟩
abbrev S256 : Shape := ⟨1, ![256]⟩
abbrev S512x128 : Shape := ⟨2, ![512, 128]⟩
abbrev S256x512 : Shape := ⟨2, ![256, 512]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 81
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2048, .f32⟩
  | .hbm, ⟨3, _⟩ => ⟨S8192x512, .f32⟩
  | .hbm, ⟨4, _⟩ => ⟨S8192x512, .f32⟩
  | .hbm, ⟨5, _⟩ => ⟨S1x8192x8x64, .f32⟩
  | .hbm, ⟨6, _⟩ => ⟨S1x8192x8x64, .f32⟩
  | .hbm, ⟨7, _⟩ => ⟨S1x8192x8x64, .f32⟩
  | .hbm, ⟨8, _⟩ => ⟨S1x8x8192x8192, .f32⟩
  | .hbm, ⟨9, _⟩ => ⟨S_, .f32⟩
  | .hbm, ⟨10, _⟩ => ⟨S1x8x8192x8192, .f32⟩
  | .hbm, ⟨11, _⟩ => ⟨S1x8x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S1x8x8192x8192, .f32⟩
  | .hbm, ⟨19, _⟩ => ⟨S_, .f32⟩
  | .hbm, ⟨20, _⟩ => ⟨S1x8x8192x8192, .f32⟩
  | .hbm, ⟨21, _⟩ => ⟨S1x8x8192x8192, .f32⟩
  | .hbm, ⟨22, _⟩ => ⟨S1x8x8192x8192, .f32⟩
  | .hbm, ⟨23, _⟩ => ⟨S1x8x8192x8192, .f32⟩
  | .hbm, ⟨24, _⟩ => ⟨S1x8x8192x8192, .i1⟩
  | .hbm, ⟨25, _⟩ => ⟨S1x8x8192x8192, .f32⟩
  | .hbm, ⟨26, _⟩ => ⟨S1x8x8192x8192, .f32⟩
  | .hbm, ⟨27, _⟩ => ⟨S1x8x8192x8192, .f32⟩
  | .hbm, ⟨28, _⟩ => ⟨S1x8x8192x8192, .f32⟩
  | .hbm, ⟨29, _⟩ => ⟨S1x8x8192x8192, .f32⟩
  | .hbm, ⟨30, _⟩ => ⟨S1x8x8192x8192, .f32⟩
  | .hbm, ⟨31, _⟩ => ⟨S1x8x8192x8192, .f32⟩
  | .hbm, ⟨32, _⟩ => ⟨S1x8x8192x8192, .f32⟩
  | .hbm, ⟨33, _⟩ => ⟨S1x8x8192x8192, .f32⟩
  | .hbm, ⟨34, _⟩ => ⟨S1x8x8192x8192, .f32⟩
  | .hbm, ⟨35, _⟩ => ⟨S1x8x8192x8192, .f32⟩
  | .hbm, ⟨36, _⟩ => ⟨S_, .f32⟩
  | .hbm, ⟨37, _⟩ => ⟨S1x8x8192x8192, .f32⟩
  | .hbm, ⟨38, _⟩ => ⟨S1x8x8192x8192, .f32⟩
  | .hbm, ⟨39, _⟩ => ⟨S1x8x8192x8192, .f32⟩
  | .hbm, ⟨40, _⟩ => ⟨S1x8x8192x8192, .f32⟩
  | .hbm, ⟨41, _⟩ => ⟨S1x8x8192x8192, .i1⟩
  | .hbm, ⟨42, _⟩ => ⟨S1x8x8192x8192, .f32⟩
  | .hbm, ⟨43, _⟩ => ⟨S1x8x8192x8192, .f32⟩
  | .hbm, ⟨44, _⟩ => ⟨S1x8x8192x8192, .f32⟩
  | .hbm, ⟨45, _⟩ => ⟨S1x8x8192x8192, .f32⟩
  | .hbm, ⟨46, _⟩ => ⟨S1x8x8192x8192, .f32⟩
  | .hbm, ⟨47, _⟩ => ⟨S1x8x8192x8192, .f32⟩
  | .hbm, ⟨48, _⟩ => ⟨S1x8x8192x8192, .f32⟩
  | .hbm, ⟨49, _⟩ => ⟨S1x8x8192x8192, .f32⟩
  | .hbm, ⟨50, _⟩ => ⟨S1x8x8192x8192, .f32⟩
  | .hbm, ⟨51, _⟩ => ⟨S_, .f32⟩
  | .hbm, ⟨52, _⟩ => ⟨S_, .f32⟩
  | .hbm, ⟨53, _⟩ => ⟨S1x8x8192x8192, .i1⟩
  | .hbm, ⟨54, _⟩ => ⟨S1x8x8192x8192, .f32⟩
  | .hbm, ⟨55, _⟩ => ⟨S1x8x8192x8192, .f32⟩
  | .hbm, ⟨56, _⟩ => ⟨S_, .f32⟩
  | .hbm, ⟨57, _⟩ => ⟨S_, .f32⟩
  | .hbm, ⟨58, _⟩ => ⟨S1x8x8192x8192, .f32⟩
  | .hbm, ⟨59, _⟩ => ⟨S1x8x8192x8192, .f32⟩
  | .hbm, ⟨60, _⟩ => ⟨S1x8x8192x8192, .f32⟩
  | .hbm, ⟨61, _⟩ => ⟨S1x8x8192x8192, .f32⟩
  | .hbm, ⟨62, _⟩ => ⟨S_, .f32⟩
  | .hbm, ⟨63, _⟩ => ⟨S_, .f32⟩
  | .hbm, ⟨64, _⟩ => ⟨S1x8x8192x8192, .i1⟩
  | .hbm, ⟨65, _⟩ => ⟨S1x8x8192x8192, .f32⟩
  | .hbm, ⟨66, _⟩ => ⟨S1x8x8192x8192, .f32⟩
  | .hbm, ⟨67, _⟩ => ⟨S1x8x64x8192, .f32⟩
  | .hbm, ⟨68, _⟩ => ⟨S1x8192x8x64, .f32⟩
  | .hbm, ⟨69, _⟩ => ⟨S8192x512, .f32⟩
  | .hbm, ⟨70, _⟩ => ⟨S_, .f32⟩
  | .hbm, ⟨71, _⟩ => ⟨S8192x512, .f32⟩
  | .hbm, ⟨72, _⟩ => ⟨S8192x512, .f32⟩
  | .hbm, ⟨73, _⟩ => ⟨S8192x512, .bf16⟩
  | .hbm, ⟨74, _⟩ => ⟨S8192x512, .bf16⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S_, .f32⟩
  | .hbm, ⟨79, _⟩ => ⟨S8192x512, .f32⟩
  | .hbm, ⟨80, _⟩ => ⟨S8192x512, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .f32⟩
  | .local _ .vmem, ⟨5, _⟩ => ⟨S8192x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v13 : Ref sig .tc := ⟨.hbm, 33, rfl⟩
abbrev main_v14 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v15 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v16 : Ref sig .tc := ⟨.hbm, 55, rfl⟩
abbrev main_call3_cst : Ref sig .tc := ⟨.hbm, 56, rfl⟩
abbrev main_call3_v0 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_cst_2 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29_0 : Ref sig .tc := ⟨.hbm, 75, rfl⟩
abbrev main_v29_1 : Ref sig .tc := ⟨.hbm, 76, rfl⟩
abbrev main_v29_2 : Ref sig .tc := ⟨.hbm, 77, rfl⟩
abbrev main_cst_3 : Ref sig .tc := ⟨.hbm, 78, rfl⟩
abbrev main_v30 : Ref sig .tc := ⟨.hbm, 79, rfl⟩
abbrev main_v31 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c4_i32 : BitVec 32 := 4#32
  let v20 : BitVec 32 := Scalar.muli arg1 c4_i32
  let c0_i32_1 : BitVec 32 := 0#32
  let v21 : BitVec 32 := Scalar.addi v20 c0_i32_1
  let c0_i32_14 : BitVec 32 := 0#32
  let v47 : BitVec 32 := Scalar.subi v21 c0_i32_14
  let c0_i32_15 : BitVec 32 := 0#32
  let v48 : BitVec 32 := Scalar.maxsi v47 c0_i32_15
  let c256_i32 : BitVec 32 := 256#32
  let v49 : BitVec 32 := Scalar.muli v48 c256_i32
  v49
def k0_off1 (i : grid0.Coords) (c0_i32_1 : BitVec 32) (c0_i32_14 : BitVec 32) : Fin 2 → Nat :=
  let arg1 : BitVec 32 := BitVec.ofNat 32 (i 1).val
  let c4_i32 : BitVec 32 := 4#32
  let v20 : BitVec 32 := Scalar.muli arg1 c4_i32
  let v21 : BitVec 32 := Scalar.addi v20 c0_i32_1
  let v47 : BitVec 32 := Scalar.subi v21 c0_i32_14
  let c0_i32_15 : BitVec 32 := 0#32
  let v48 : BitVec 32 := Scalar.maxsi v47 c0_i32_15
  let c256_i32 : BitVec 32 := 256#32
  let v49 : BitVec 32 := Scalar.muli v48 c256_i32
  let v50 : BitVec 32 := v49
  let v51 : Index := Scalar.indexCast v50
  let c0_16 : Index := 0#32
  ![v51.toNat, 0]
def k0_mult2 (i : grid0.Coords) : BitVec 32 :=
  let arg1 : BitVec 32 := BitVec.ofNat 32 (i 1).val
  let c4_i32 : BitVec 32 := 4#32
  let v20 : BitVec 32 := Scalar.muli arg1 c4_i32
  let c0_i32_1 : BitVec 32 := 0#32
  let v21 : BitVec 32 := Scalar.addi v20 c0_i32_1
  let c1_i32 : BitVec 32 := 1#32
  let v184 : BitVec 32 := Scalar.subi v21 c1_i32
  let c0_i32_51 : BitVec 32 := 0#32
  let v185 : BitVec 32 := Scalar.maxsi v184 c0_i32_51
  let c256_i32_52 : BitVec 32 := 256#32
  let v186 : BitVec 32 := Scalar.muli v185 c256_i32_52
  v186
def k0_mult3 (i : grid0.Coords) : BitVec 32 :=
  let arg1 : BitVec 32 := BitVec.ofNat 32 (i 1).val
  let c4_i32_85 : BitVec 32 := 4#32
  let v315 : BitVec 32 := Scalar.muli arg1 c4_i32_85
  let c1_i32_86 : BitVec 32 := 1#32
  let v316 : BitVec 32 := Scalar.addi v315 c1_i32_86
  let c0_i32_99 : BitVec 32 := 0#32
  let v342 : BitVec 32 := Scalar.subi v316 c0_i32_99
  let c0_i32_100 : BitVec 32 := 0#32
  let v343 : BitVec 32 := Scalar.maxsi v342 c0_i32_100
  let c256_i32_101 : BitVec 32 := 256#32
  let v344 : BitVec 32 := Scalar.muli v343 c256_i32_101
  v344
def k0_mult4 (i : grid0.Coords) : BitVec 32 :=
  let arg1 : BitVec 32 := BitVec.ofNat 32 (i 1).val
  let c4_i32_85 : BitVec 32 := 4#32
  let v315 : BitVec 32 := Scalar.muli arg1 c4_i32_85
  let c1_i32_86 : BitVec 32 := 1#32
  let v316 : BitVec 32 := Scalar.addi v315 c1_i32_86
  let c1_i32_137 : BitVec 32 := 1#32
  let v479 : BitVec 32 := Scalar.subi v316 c1_i32_137
  let c0_i32_138 : BitVec 32 := 0#32
  let v480 : BitVec 32 := Scalar.maxsi v479 c0_i32_138
  let c256_i32_139 : BitVec 32 := 256#32
  let v481 : BitVec 32 := Scalar.muli v480 c256_i32_139
  v481
def k0_mult5 (i : grid0.Coords) : BitVec 32 :=
  let arg1 : BitVec 32 := BitVec.ofNat 32 (i 1).val
  let c4_i32_172 : BitVec 32 := 4#32
  let v610 : BitVec 32 := Scalar.muli arg1 c4_i32_172
  let c2_i32 : BitVec 32 := 2#32
  let v611 : BitVec 32 := Scalar.addi v610 c2_i32
  let c0_i32_185 : BitVec 32 := 0#32
  let v637 : BitVec 32 := Scalar.subi v611 c0_i32_185
  let c0_i32_186 : BitVec 32 := 0#32
  let v638 : BitVec 32 := Scalar.maxsi v637 c0_i32_186
  let c256_i32_187 : BitVec 32 := 256#32
  let v639 : BitVec 32 := Scalar.muli v638 c256_i32_187
  v639
def k0_mult6 (i : grid0.Coords) : BitVec 32 :=
  let arg1 : BitVec 32 := BitVec.ofNat 32 (i 1).val
  let c4_i32_172 : BitVec 32 := 4#32
  let v610 : BitVec 32 := Scalar.muli arg1 c4_i32_172
  let c2_i32 : BitVec 32 := 2#32
  let v611 : BitVec 32 := Scalar.addi v610 c2_i32
  let c1_i32_223 : BitVec 32 := 1#32
  let v774 : BitVec 32 := Scalar.subi v611 c1_i32_223
  let c0_i32_224 : BitVec 32 := 0#32
  let v775 : BitVec 32 := Scalar.maxsi v774 c0_i32_224
  let c256_i32_225 : BitVec 32 := 256#32
  let v776 : BitVec 32 := Scalar.muli v775 c256_i32_225
  v776
def k0_mult7 (i : grid0.Coords) : BitVec 32 :=
  let arg1 : BitVec 32 := BitVec.ofNat 32 (i 1).val
  let c4_i32_258 : BitVec 32 := 4#32
  let v905 : BitVec 32 := Scalar.muli arg1 c4_i32_258
  let c3_i32 : BitVec 32 := 3#32
  let v906 : BitVec 32 := Scalar.addi v905 c3_i32
  let c0_i32_271 : BitVec 32 := 0#32
  let v932 : BitVec 32 := Scalar.subi v906 c0_i32_271
  let c0_i32_272 : BitVec 32 := 0#32
  let v933 : BitVec 32 := Scalar.maxsi v932 c0_i32_272
  let c256_i32_273 : BitVec 32 := 256#32
  let v934 : BitVec 32 := Scalar.muli v933 c256_i32_273
  v934
def k0_mult8 (i : grid0.Coords) : BitVec 32 :=
  let arg1 : BitVec 32 := BitVec.ofNat 32 (i 1).val
  let c4_i32_258 : BitVec 32 := 4#32
  let v905 : BitVec 32 := Scalar.muli arg1 c4_i32_258
  let c3_i32 : BitVec 32 := 3#32
  let v906 : BitVec 32 := Scalar.addi v905 c3_i32
  let c1_i32_309 : BitVec 32 := 1#32
  let v1069 : BitVec 32 := Scalar.subi v906 c1_i32_309
  let c0_i32_310 : BitVec 32 := 0#32
  let v1070 : BitVec 32 := Scalar.maxsi v1069 c0_i32_310
  let c256_i32_311 : BitVec 32 := 256#32
  let v1071 : BitVec 32 := Scalar.muli v1070 c256_i32_311
  v1071
def k0_mult9 (i : grid0.Coords) (arg10 : BitVec 32) : BitVec 32 :=
  let arg1 : BitVec 32 := BitVec.ofNat 32 (i 1).val
  let c4_i32 : BitVec 32 := 4#32
  let v20 : BitVec 32 := Scalar.muli arg1 c4_i32
  let c0_i32_1 : BitVec 32 := 0#32
  let v21 : BitVec 32 := Scalar.addi v20 c0_i32_1
  let v1209 : BitVec 32 := Scalar.subi v21 arg10
  let c0_i32_357 : BitVec 32 := 0#32
  let v1210 : BitVec 32 := Scalar.maxsi v1209 c0_i32_357
  let c256_i32_358 : BitVec 32 := 256#32
  let v1211 : BitVec 32 := Scalar.muli v1210 c256_i32_358
  v1211

def k0_off2 (i : grid0.Coords) (arg10 : BitVec 32) : Fin 2 → Nat :=
  let arg1 : BitVec 32 := BitVec.ofNat 32 (i 1).val
  let c4_i32 : BitVec 32 := 4#32
  let v20 : BitVec 32 := Scalar.muli arg1 c4_i32
  let c0_i32_1 : BitVec 32 := 0#32
  let v21 : BitVec 32 := Scalar.addi v20 c0_i32_1
  let v1209 : BitVec 32 := Scalar.subi v21 arg10
  let c0_i32_357 : BitVec 32 := 0#32
  let v1210 : BitVec 32 := Scalar.maxsi v1209 c0_i32_357
  let c256_i32_358 : BitVec 32 := 256#32
  let v1211 : BitVec 32 := Scalar.muli v1210 c256_i32_358
  let v1212 : BitVec 32 := v1211
  let v1213 : Index := Scalar.indexCast v1212
  let c0_359 : Index := 0#32
  ![v1213.toNat, 0]

def k0_chk1 (i : grid0.Coords) (arg10 : BitVec 32) : Prop :=
  (256 ∣ (k0_mult9 i arg10).toNat) ∧
  (∀ a, (k0_off2 i arg10) a + S256x128.size a ≤ S8192x128.size a)
theorem k0_mult9_dvd : ∀ (i : grid0.Coords) (arg10 : BitVec 32) (k0_hw1 : k0_chk1 i arg10), 256 ∣ (k0_mult9 i arg10).toNat := fun i arg10 k0_hw1 => k0_hw1.1
theorem k0_off2_inb : ∀ (i : grid0.Coords) (arg10 : BitVec 32) (k0_hw1 : k0_chk1 i arg10), ∀ a, (k0_off2 i arg10) a + S256x128.size a ≤ S8192x128.size a := fun i arg10 k0_hw1 => k0_hw1.2

def k0_mult10 (i : grid0.Coords) (arg10 : BitVec 32) : BitVec 32 :=
  let arg1 : BitVec 32 := BitVec.ofNat 32 (i 1).val
  let c4_i32_85 : BitVec 32 := 4#32
  let v315 : BitVec 32 := Scalar.muli arg1 c4_i32_85
  let c1_i32_86 : BitVec 32 := 1#32
  let v316 : BitVec 32 := Scalar.addi v315 c1_i32_86
  let v1209 : BitVec 32 := Scalar.subi v316 arg10
  let c0_i32_357 : BitVec 32 := 0#32
  let v1210 : BitVec 32 := Scalar.maxsi v1209 c0_i32_357
  let c256_i32_358 : BitVec 32 := 256#32
  let v1211 : BitVec 32 := Scalar.muli v1210 c256_i32_358
  v1211

def k0_off3 (i : grid0.Coords) (arg10 : BitVec 32) : Fin 2 → Nat :=
  let arg1 : BitVec 32 := BitVec.ofNat 32 (i 1).val
  let c4_i32_85 : BitVec 32 := 4#32
  let v315 : BitVec 32 := Scalar.muli arg1 c4_i32_85
  let c1_i32_86 : BitVec 32 := 1#32
  let v316 : BitVec 32 := Scalar.addi v315 c1_i32_86
  let v1209 : BitVec 32 := Scalar.subi v316 arg10
  let c0_i32_357 : BitVec 32 := 0#32
  let v1210 : BitVec 32 := Scalar.maxsi v1209 c0_i32_357
  let c256_i32_358 : BitVec 32 := 256#32
  let v1211 : BitVec 32 := Scalar.muli v1210 c256_i32_358
  let v1212 : BitVec 32 := v1211
  let v1213 : Index := Scalar.indexCast v1212
  let c0_359 : Index := 0#32
  ![v1213.toNat, 0]

def k0_chk2 (i : grid0.Coords) (arg10 : BitVec 32) : Prop :=
  (256 ∣ (k0_mult10 i arg10).toNat) ∧
  (∀ a, (k0_off3 i arg10) a + S256x128.size a ≤ S8192x128.size a)
theorem k0_mult10_dvd : ∀ (i : grid0.Coords) (arg10 : BitVec 32) (k0_hw2 : k0_chk2 i arg10), 256 ∣ (k0_mult10 i arg10).toNat := fun i arg10 k0_hw2 => k0_hw2.1
theorem k0_off3_inb : ∀ (i : grid0.Coords) (arg10 : BitVec 32) (k0_hw2 : k0_chk2 i arg10), ∀ a, (k0_off3 i arg10) a + S256x128.size a ≤ S8192x128.size a := fun i arg10 k0_hw2 => k0_hw2.2

def k0_mult11 (i : grid0.Coords) (arg10 : BitVec 32) : BitVec 32 :=
  let arg1 : BitVec 32 := BitVec.ofNat 32 (i 1).val
  let c4_i32_172 : BitVec 32 := 4#32
  let v610 : BitVec 32 := Scalar.muli arg1 c4_i32_172
  let c2_i32 : BitVec 32 := 2#32
  let v611 : BitVec 32 := Scalar.addi v610 c2_i32
  let v1209 : BitVec 32 := Scalar.subi v611 arg10
  let c0_i32_357 : BitVec 32 := 0#32
  let v1210 : BitVec 32 := Scalar.maxsi v1209 c0_i32_357
  let c256_i32_358 : BitVec 32 := 256#32
  let v1211 : BitVec 32 := Scalar.muli v1210 c256_i32_358
  v1211

def k0_off4 (i : grid0.Coords) (arg10 : BitVec 32) : Fin 2 → Nat :=
  let arg1 : BitVec 32 := BitVec.ofNat 32 (i 1).val
  let c4_i32_172 : BitVec 32 := 4#32
  let v610 : BitVec 32 := Scalar.muli arg1 c4_i32_172
  let c2_i32 : BitVec 32 := 2#32
  let v611 : BitVec 32 := Scalar.addi v610 c2_i32
  let v1209 : BitVec 32 := Scalar.subi v611 arg10
  let c0_i32_357 : BitVec 32 := 0#32
  let v1210 : BitVec 32 := Scalar.maxsi v1209 c0_i32_357
  let c256_i32_358 : BitVec 32 := 256#32
  let v1211 : BitVec 32 := Scalar.muli v1210 c256_i32_358
  let v1212 : BitVec 32 := v1211
  let v1213 : Index := Scalar.indexCast v1212
  let c0_359 : Index := 0#32
  ![v1213.toNat, 0]

def k0_chk3 (i : grid0.Coords) (arg10 : BitVec 32) : Prop :=
  (256 ∣ (k0_mult11 i arg10).toNat) ∧
  (∀ a, (k0_off4 i arg10) a + S256x128.size a ≤ S8192x128.size a)
theorem k0_mult11_dvd : ∀ (i : grid0.Coords) (arg10 : BitVec 32) (k0_hw3 : k0_chk3 i arg10), 256 ∣ (k0_mult11 i arg10).toNat := fun i arg10 k0_hw3 => k0_hw3.1
theorem k0_off4_inb : ∀ (i : grid0.Coords) (arg10 : BitVec 32) (k0_hw3 : k0_chk3 i arg10), ∀ a, (k0_off4 i arg10) a + S256x128.size a ≤ S8192x128.size a := fun i arg10 k0_hw3 => k0_hw3.2

def k0_mult12 (i : grid0.Coords) (arg10 : BitVec 32) : BitVec 32 :=
  let arg1 : BitVec 32 := BitVec.ofNat 32 (i 1).val
  let c4_i32_258 : BitVec 32 := 4#32
  let v905 : BitVec 32 := Scalar.muli arg1 c4_i32_258
  let c3_i32 : BitVec 32 := 3#32
  let v906 : BitVec 32 := Scalar.addi v905 c3_i32
  let v1209 : BitVec 32 := Scalar.subi v906 arg10
  let c0_i32_357 : BitVec 32 := 0#32
  let v1210 : BitVec 32 := Scalar.maxsi v1209 c0_i32_357
  let c256_i32_358 : BitVec 32 := 256#32
  let v1211 : BitVec 32 := Scalar.muli v1210 c256_i32_358
  v1211

def k0_off5 (i : grid0.Coords) (arg10 : BitVec 32) : Fin 2 → Nat :=
  let arg1 : BitVec 32 := BitVec.ofNat 32 (i 1).val
  let c4_i32_258 : BitVec 32 := 4#32
  let v905 : BitVec 32 := Scalar.muli arg1 c4_i32_258
  let c3_i32 : BitVec 32 := 3#32
  let v906 : BitVec 32 := Scalar.addi v905 c3_i32
  let v1209 : BitVec 32 := Scalar.subi v906 arg10
  let c0_i32_357 : BitVec 32 := 0#32
  let v1210 : BitVec 32 := Scalar.maxsi v1209 c0_i32_357
  let c256_i32_358 : BitVec 32 := 256#32
  let v1211 : BitVec 32 := Scalar.muli v1210 c256_i32_358
  let v1212 : BitVec 32 := v1211
  let v1213 : Index := Scalar.indexCast v1212
  let c0_359 : Index := 0#32
  ![v1213.toNat, 0]

def k0_chk4 (i : grid0.Coords) (arg10 : BitVec 32) : Prop :=
  (256 ∣ (k0_mult12 i arg10).toNat) ∧
  (∀ a, (k0_off5 i arg10) a + S256x128.size a ≤ S8192x128.size a)
theorem k0_mult12_dvd : ∀ (i : grid0.Coords) (arg10 : BitVec 32) (k0_hw4 : k0_chk4 i arg10), 256 ∣ (k0_mult12 i arg10).toNat := fun i arg10 k0_hw4 => k0_hw4.1
theorem k0_off5_inb : ∀ (i : grid0.Coords) (arg10 : BitVec 32) (k0_hw4 : k0_chk4 i arg10), ∀ a, (k0_off5 i arg10) a + S256x128.size a ≤ S8192x128.size a := fun i arg10 k0_hw4 => k0_hw4.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel2Ideal.lean ====
variable {F : FTy → Type} [FloatOps F] [Named F]
def κ : String → Option EReal := fun
  | "exit" => some ⊥
  | _ => none
-- ==== Reference2Ideal.lean ====
abbrev S8192x512 : Shape := ⟨2, ![8192, 512]⟩
abbrev S8192x2048 : Shape := ⟨2, ![8192, 2048]⟩
abbrev S1x8192x8x64 : Shape := ⟨4, ![1, 8192, 8, 64]⟩
abbrev S1x8x8192x8192 : Shape := ⟨4, ![1, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8x64x8192 : Shape := ⟨4, ![1, 8, 64, 8192]⟩
abbrev S1x8x8192x64 : Shape := ⟨4, ![1, 8, 8192, 64]⟩

abbrev nBuf : Space → Nat
  | .hbm => 173
  | .vmem => 0
  | .smem => 0
  | _ => 0

abbrev hbmTy0_0 (i : Nat) : BufTy := match i % 128 with
  | 0 => ⟨S8192x512, .f32⟩
  | 1 => ⟨S8192x512, .f32⟩
  | 2 => ⟨S8192x2048, .f32⟩
  | 3 => ⟨S8192x512, .f32⟩
  | 4 => ⟨S8192x512, .f32⟩
  | 5 => ⟨S1x8192x8x64, .f32⟩
  | 6 => ⟨S1x8192x8x64, .f32⟩
  | 7 => ⟨S1x8192x8x64, .f32⟩
  | 8 => ⟨S1x8x8192x8192, .f32⟩
  | 9 => ⟨S_, .f32⟩
  | 10 => ⟨S1x8x8192x8192, .f32⟩
  | 11 => ⟨S1x8x8192x8192, .f32⟩
  | 12 => ⟨S8192, .i32⟩
  | 13 => ⟨S1x8192, .i32⟩
  | 14 => ⟨S8192x1, .i32⟩
  | 15 => ⟨S8192x8192, .i32⟩
  | 16 => ⟨S8192x8192, .i32⟩
  | 17 => ⟨S8192x8192, .i1⟩
  | 18 => ⟨S1x8x8192x8192, .f32⟩
  | 19 => ⟨S_, .f32⟩
  | 20 => ⟨S1x8x8192x8192, .f32⟩
  | 21 => ⟨S1x8x8192x8192, .f32⟩
  | 22 => ⟨S1x8x8192x8192, .f32⟩
  | 23 => ⟨S1x8x8192x8192, .f32⟩
  | 24 => ⟨S1x8x8192x8192, .i1⟩
  | 25 => ⟨S1x8x8192x8192, .f32⟩
  | 26 => ⟨S1x8x8192x8192, .f32⟩
  | 27 => ⟨S1x8x8192x8192, .f32⟩
  | 28 => ⟨S1x8x8192x8192, .f32⟩
  | 29 => ⟨S1x8x8192x8192, .f32⟩
  | 30 => ⟨S1x8x8192x8192, .f32⟩
  | 31 => ⟨S1x8x8192x8192, .f32⟩
  | 32 => ⟨S1x8x8192x8192, .f32⟩
  | 33 => ⟨S_, .f32⟩
  | 34 => ⟨S1x8x8192x8192, .f32⟩
  | 35 => ⟨S1x8x8192x8192, .i1⟩
  | 36 => ⟨S_, .f32⟩
  | 37 => ⟨S1x8x8192x8192, .f32⟩
  | 38 => ⟨S1x8x8192x8192, .f32⟩
  | 39 => ⟨S_, .f32⟩
  | 40 => ⟨S1x8x8192x8192, .f32⟩
  | 41 => ⟨S1x8x8192x8192, .i1⟩
  | 42 => ⟨S_, .f32⟩
  | 43 => ⟨S1x8x8192x8192, .f32⟩
  | 44 => ⟨S1x8x8192x8192, .f32⟩
  | 45 => ⟨S1x8x8192x8192, .f32⟩
  | 46 => ⟨S1x8x8192x8192, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S1x8x8192x8192, .f32⟩
  | 55 => ⟨S1x8x8192x8192, .i1⟩
  | 56 => ⟨S_, .f32⟩
  | 57 => ⟨S1x8x8192x8192, .f32⟩
  | 58 => ⟨S1x8x8192x8192, .f32⟩
  | 59 => ⟨S1x8x8192x8192, .f32⟩
  | 60 => ⟨S1x8x8192x8192, .f32⟩
  | 61 => ⟨S1x8x8192x8192, .f32⟩
  | 62 => ⟨S_, .f32⟩
  | 63 => ⟨S1x8x8192x8192, .f32⟩
  | 64 => ⟨S1x8x8192x8192, .f32⟩
  | 65 => ⟨S1x8x8192x8192, .f32⟩
  | 66 => ⟨S1x8x8192x8192, .f32⟩
  | 67 => ⟨S1x8x8192x8192, .f32⟩
  | 68 => ⟨S_, .f32⟩
  | 69 => ⟨S1x8x8192x8192, .f32⟩
  | 70 => ⟨S1x8x8192x8192, .f32⟩
  | 71 => ⟨S1x8x8192x8192, .f32⟩
  | 72 => ⟨S1x8x8192x8192, .f32⟩
  | 73 => ⟨S1x8x8192x8192, .i1⟩
  | 74 => ⟨S1x8x8192x8192, .f32⟩
  | 75 => ⟨S1x8x8192x8192, .f32⟩
  | 76 => ⟨S1x8x8192x8192, .f32⟩
  | 77 => ⟨S1x8x8192x8192, .f32⟩
  | 78 => ⟨S1x8x8192x8192, .f32⟩
  | 79 => ⟨S1x8x8192x8192, .f32⟩
  | 80 => ⟨S1x8x8192x8192, .f32⟩
  | 81 => ⟨S1x8x8192x8192, .f32⟩
  | 82 => ⟨S_, .f32⟩
  | 83 => ⟨S1x8x8192x8192, .f32⟩
  | 84 => ⟨S1x8x8192x8192, .i1⟩
  | 85 => ⟨S_, .f32⟩
  | 86 => ⟨S1x8x8192x8192, .f32⟩
  | 87 => ⟨S1x8x8192x8192, .f32⟩
  | 88 => ⟨S_, .f32⟩
  | 89 => ⟨S1x8x8192x8192, .f32⟩
  | 90 => ⟨S1x8x8192x8192, .i1⟩
  | 91 => ⟨S_, .f32⟩
  | 92 => ⟨S1x8x8192x8192, .f32⟩
  | 93 => ⟨S1x8x8192x8192, .f32⟩
  | 94 => ⟨S1x8x8192x8192, .f32⟩
  | 95 => ⟨S1x8x8192x8192, .f32⟩
  | 96 => ⟨S_, .f32⟩
  | 97 => ⟨S_, .f32⟩
  | 98 => ⟨S_, .i1⟩
  | 99 => ⟨S_, .f32⟩
  | 100 => ⟨S_, .f32⟩
  | 101 => ⟨S_, .f32⟩
  | 102 => ⟨S_, .f32⟩
  | 103 => ⟨S1x8x8192x8192, .f32⟩
  | 104 => ⟨S1x8x8192x8192, .i1⟩
  | 105 => ⟨S_, .f32⟩
  | 106 => ⟨S1x8x8192x8192, .f32⟩
  | 107 => ⟨S1x8x8192x8192, .f32⟩
  | 108 => ⟨S1x8x8192x8192, .f32⟩
  | 109 => ⟨S1x8x8192x8192, .f32⟩
  | 110 => ⟨S1x8x8192x8192, .f32⟩
  | 111 => ⟨S_, .f32⟩
  | 112 => ⟨S1x8x8192x8192, .f32⟩
  | 113 => ⟨S1x8x8192x8192, .f32⟩
  | 114 => ⟨S1x8x8192x8192, .f32⟩
  | 115 => ⟨S_, .f32⟩
  | 116 => ⟨S_, .f32⟩
  | 117 => ⟨S1x8x8192x8192, .i1⟩
  | 118 => ⟨S1x8x8192x8192, .f32⟩
  | 119 => ⟨S1x8x8192x8192, .f32⟩
  | 120 => ⟨S_, .f32⟩
  | 121 => ⟨S1x8x8192x8192, .f32⟩
  | 122 => ⟨S_, .f32⟩
  | 123 => ⟨S_, .f32⟩
  | 124 => ⟨S1x8x8192x8192, .f32⟩
  | 125 => ⟨S1x8x8192x8192, .f32⟩
  | 126 => ⟨S1x8x8192x8192, .f32⟩
  | 127 => ⟨S1x8x8192x8192, .f32⟩
  | _ => ⟨S8192x512, .f32⟩

abbrev hbmTy0_1 (i : Nat) : BufTy := match i % 128 with
  | 0 => ⟨S_, .f32⟩
  | 1 => ⟨S_, .f32⟩
  | 2 => ⟨S1x8x8192x8192, .i1⟩
  | 3 => ⟨S1x8x8192x8192, .f32⟩
  | 4 => ⟨S1x8x8192x8192, .f32⟩
  | 5 => ⟨S_, .f32⟩
  | 6 => ⟨S1x8x8192x8192, .f32⟩
  | 7 => ⟨S1x8x64x8192, .f32⟩
  | 8 => ⟨S1x8192x8x64, .f32⟩
  | 9 => ⟨S8192x512, .f32⟩
  | 10 => ⟨S1x8192x8x64, .f32⟩
  | 11 => ⟨S1x8x64x8192, .f32⟩
  | 12 => ⟨S1x8x8192x8192, .f32⟩
  | 13 => ⟨S1x8x64x8192, .f32⟩
  | 14 => ⟨S1x8192x8x64, .f32⟩
  | 15 => ⟨S_, .f32⟩
  | 16 => ⟨S1x8x8192x8192, .f32⟩
  | 17 => ⟨S1x8x8192x8192, .f32⟩
  | 18 => ⟨S1x8x8192x8192, .f32⟩
  | 19 => ⟨S1x8x8192x8192, .f32⟩
  | 20 => ⟨S_, .f32⟩
  | 21 => ⟨S_, .f32⟩
  | 22 => ⟨S1x8x8192x8192, .f32⟩
  | 23 => ⟨S1x8x8192x8192, .f32⟩
  | 24 => ⟨S_, .f32⟩
  | 25 => ⟨S1x8x8192x8192, .f32⟩
  | 26 => ⟨S1x8x8192x8192, .f32⟩
  | 27 => ⟨S1x8x8192x8192, .f32⟩
  | 28 => ⟨S1x8x8192x8192, .f32⟩
  | 29 => ⟨S1x8x8192x8192, .f32⟩
  | 30 => ⟨S1x8x8192x8192, .f32⟩
  | 31 => ⟨S1x8x8192x8192, .f32⟩
  | 32 => ⟨S1x8x8192x8192, .f32⟩
  | 33 => ⟨S1x8x8192x8192, .f32⟩
  | 34 => ⟨S1x8x8192x8192, .f32⟩
  | 35 => ⟨S_, .f32⟩
  | 36 => ⟨S1x8x8192x8192, .f32⟩
  | 37 => ⟨S1x8x8192x8192, .f32⟩
  | 38 => ⟨S1x8x8192x64, .f32⟩
  | 39 => ⟨S1x8192x8x64, .f32⟩
  | 40 => ⟨S1x8x8192x64, .f32⟩
  | 41 => ⟨S1x8192x8x64, .f32⟩
  | 42 => ⟨S8192x512, .f32⟩
  | 43 => ⟨S8192x512, .f32⟩
  | 44 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v13_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v13_2 : Ref sig .tc := ⟨.hbm, 64, rfl⟩
abbrev main_v13_0 : Ref sig .tc := ⟨.hbm, 65, rfl⟩
abbrev main_v14 : Ref sig .tc := ⟨.hbm, 66, rfl⟩
abbrev main_call1_v0 : Ref sig .tc := ⟨.hbm, 67, rfl⟩
abbrev main_call1_call0_cst : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_call0_v2 : Ref sig .tc := ⟨.hbm, 71, rfl⟩
abbrev main_call1_call0_v3 : Ref sig .tc := ⟨.hbm, 72, rfl⟩
abbrev main_call1_call0_v4 : Ref sig .tc := ⟨.hbm, 73, rfl⟩
abbrev main_call1_call0_v5 : Ref sig .tc := ⟨.hbm, 74, rfl⟩
abbrev main_call1_call0_v6 : Ref sig .tc := ⟨.hbm, 75, rfl⟩
abbrev main_call1_call0_v7 : Ref sig .tc := ⟨.hbm, 76, rfl⟩
abbrev main_call1_call0_v8 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_v1_0 : Ref sig .tc := ⟨.hbm, 81, rfl⟩
abbrev main_call1_call0_cst_0 : Ref sig .tc := ⟨.hbm, 82, rfl⟩
abbrev main_call1_call0_v13 : Ref sig .tc := ⟨.hbm, 83, rfl⟩
abbrev main_call1_call0_v14 : Ref sig .tc := ⟨.hbm, 84, rfl⟩
abbrev main_call1_call0_cst_1 : Ref sig .tc := ⟨.hbm, 85, rfl⟩
abbrev main_call1_call0_v15 : Ref sig .tc := ⟨.hbm, 86, rfl⟩
abbrev main_call1_call0_v16 : Ref sig .tc := ⟨.hbm, 87, rfl⟩
abbrev main_call1_call0_cst_2 : Ref sig .tc := ⟨.hbm, 88, rfl⟩
abbrev main_call1_call0_v17 : Ref sig .tc := ⟨.hbm, 89, rfl⟩
abbrev main_call1_call0_v18 : Ref sig .tc := ⟨.hbm, 90, rfl⟩
abbrev main_call1_call0_cst_3 : Ref sig .tc := ⟨.hbm, 91, rfl⟩
abbrev main_call1_call0_v19 : Ref sig .tc := ⟨.hbm, 92, rfl⟩
abbrev main_call1_call0_v20 : Ref sig .tc := ⟨.hbm, 93, rfl⟩
abbrev main_call1_call0_v21 : Ref sig .tc := ⟨.hbm, 94, rfl⟩
abbrev main_v15_1 : Ref sig .tc := ⟨.hbm, 95, rfl⟩
abbrev main_call1_call0_cst_4 : Ref sig .tc := ⟨.hbm, 96, rfl⟩
abbrev main_call1_call0_cst_5 : Ref sig .tc := ⟨.hbm, 97, rfl⟩
abbrev main_call1_call0_v23 : Ref sig .tc := ⟨.hbm, 98, rfl⟩
abbrev main_call1_call0_cst_6 : Ref sig .tc := ⟨.hbm, 99, rfl⟩
abbrev main_call1_call0_cst_7 : Ref sig .tc := ⟨.hbm, 100, rfl⟩
abbrev main_call1_call0_v24 : Ref sig .tc := ⟨.hbm, 101, rfl⟩
abbrev main_call1_call0_cst_8 : Ref sig .tc := ⟨.hbm, 102, rfl⟩
abbrev main_call1_call0_v25 : Ref sig .tc := ⟨.hbm, 103, rfl⟩
abbrev main_call1_call0_v26 : Ref sig .tc := ⟨.hbm, 104, rfl⟩
abbrev main_call1_call0_cst_9 : Ref sig .tc := ⟨.hbm, 105, rfl⟩
abbrev main_call1_call0_v27 : Ref sig .tc := ⟨.hbm, 106, rfl⟩
abbrev main_call1_call0_v28 : Ref sig .tc := ⟨.hbm, 107, rfl⟩
abbrev main_call1_call0_v29 : Ref sig .tc := ⟨.hbm, 108, rfl⟩
abbrev main_call1_call0_v30 : Ref sig .tc := ⟨.hbm, 109, rfl⟩
abbrev main_call1_call0_v31 : Ref sig .tc := ⟨.hbm, 110, rfl⟩
abbrev main_call1_call0_cst_10 : Ref sig .tc := ⟨.hbm, 111, rfl⟩
abbrev main_call1_call0_v32 : Ref sig .tc := ⟨.hbm, 112, rfl⟩
abbrev main_v15_2 : Ref sig .tc := ⟨.hbm, 113, rfl⟩
abbrev main_v15_0 : Ref sig .tc := ⟨.hbm, 114, rfl⟩
abbrev main_cst_0 : Ref sig .tc := ⟨.hbm, 115, rfl⟩
abbrev main_call2_v0 : Ref sig .tc := ⟨.hbm, 116, rfl⟩
abbrev main_v16_1 : Ref sig .tc := ⟨.hbm, 117, rfl⟩
abbrev main_call2_v2 : Ref sig .tc := ⟨.hbm, 118, rfl⟩
abbrev main_v16_0 : Ref sig .tc := ⟨.hbm, 119, rfl⟩
abbrev main_call2_cst : Ref sig .tc := ⟨.hbm, 120, rfl⟩
abbrev main_v16_2 : Ref sig .tc := ⟨.hbm, 121, rfl⟩
abbrev main_call3_cst : Ref sig .tc := ⟨.hbm, 122, rfl⟩
abbrev main_call3_v0 : Ref sig .tc := ⟨.hbm, 123, rfl⟩
abbrev main_v17 : Ref sig .tc := ⟨.hbm, 124, rfl⟩
abbrev main_v18 : Ref sig .tc := ⟨.hbm, 125, rfl⟩
abbrev main_v19 : Ref sig .tc := ⟨.hbm, 126, rfl⟩
abbrev main_v20 : Ref sig .tc := ⟨.hbm, 127, rfl⟩
abbrev main_cst_1 : Ref sig .tc := ⟨.hbm, 128, rfl⟩
abbrev main_call4_v0 : Ref sig .tc := ⟨.hbm, 129, rfl⟩
abbrev main_v21_1 : Ref sig .tc := ⟨.hbm, 130, rfl⟩
abbrev main_call4_v2 : Ref sig .tc := ⟨.hbm, 131, rfl⟩
abbrev main_v21_0 : Ref sig .tc := ⟨.hbm, 132, rfl⟩
abbrev main_call4_cst : Ref sig .tc := ⟨.hbm, 133, rfl⟩
abbrev main_v21_2 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_call5_cst : Ref sig .tc := ⟨.hbm, 143, rfl⟩
abbrev main_call5_v0 : Ref sig .tc := ⟨.hbm, 144, rfl⟩
abbrev main_v30 : Ref sig .tc := ⟨.hbm, 145, rfl⟩
abbrev main_v31 : Ref sig .tc := ⟨.hbm, 146, rfl⟩
abbrev main_v32 : Ref sig .tc := ⟨.hbm, 147, rfl⟩
abbrev main_call6_cst : Ref sig .tc := ⟨.hbm, 148, rfl⟩
abbrev main_call6_v0 : Ref sig .tc := ⟨.hbm, 149, rfl⟩
abbrev main_v33 : Ref sig .tc := ⟨.hbm, 150, rfl⟩
abbrev main_v34 : Ref sig .tc := ⟨.hbm, 151, rfl⟩
abbrev main_call7_cst : Ref sig .tc := ⟨.hbm, 152, rfl⟩
abbrev main_call7_v0 : Ref sig .tc := ⟨.hbm, 153, rfl⟩
abbrev main_v35 : Ref sig .tc := ⟨.hbm, 154, rfl⟩
abbrev main_call8_v0 : Ref sig .tc := ⟨.hbm, 155, rfl⟩
abbrev main_call8_v1 : Ref sig .tc := ⟨.hbm, 156, rfl⟩
abbrev main_v36 : Ref sig .tc := ⟨.hbm, 157, rfl⟩
abbrev main_v37 : Ref sig .tc := ⟨.hbm, 158, rfl⟩
abbrev main_call9_v0 : Ref sig .tc := ⟨.hbm, 159, rfl⟩
abbrev main_call9_v1 : Ref sig .tc := ⟨.hbm, 160, rfl⟩
abbrev main_v38 : Ref sig .tc := ⟨.hbm, 161, rfl⟩
abbrev main_v39 : Ref sig .tc := ⟨.hbm, 162, rfl⟩
abbrev main_cst_2 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩

abbrev nD : Nat := 1
abbrev τ : Topo := Topo.v7x

variable {F : FTy → Type} [FloatOps F]
-- ==== Kernel3.lean ====
abbrev S8192x512 : Shape := ⟨2, ![8192, 512]⟩
abbrev S128 : Shape := ⟨1, ![128]⟩
abbrev S256x512 : Shape := ⟨2, ![256, 512]⟩
abbrev S1x128 : Shape := ⟨2, ![1, 128]⟩
abbrev S512x512 : Shape := ⟨2, ![512, 512]⟩
abbrev S512x128 : Shape := ⟨2, ![512, 128]⟩
abbrev S256x128 : Shape := ⟨2, ![256, 128]⟩
abbrev S512 : Shape := ⟨1, ![512]⟩
abbrev S512x1 : Shape := ⟨2, ![512, 1]⟩
abbrev S512x256 : Shape := ⟨2, ![512, 256]⟩

abbrev nBuf : Space → Nat
  | .hbm => 14
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S128, .f32⟩
  | .hbm, ⟨2, _⟩ => ⟨S256x512, .f32⟩
  | .hbm, ⟨3, _⟩ => ⟨S256x512, .f32⟩
  | .hbm, ⟨4, _⟩ => ⟨S8192x512, .f32⟩
  | .hbm, ⟨5, _⟩ => ⟨S1x128, .f32⟩
  | .hbm, ⟨6, _⟩ => ⟨S256x512, .bf16⟩
  | .hbm, ⟨7, _⟩ => ⟨S256x512, .bf16⟩
  | .hbm, ⟨8, _⟩ => ⟨S8192x512, .bf16⟩
  | .hbm, ⟨9, _⟩ => ⟨S256x512, .f32⟩
  | .hbm, ⟨10, _⟩ => ⟨S256x512, .f32⟩
  | .hbm, ⟨11, _⟩ => ⟨S1x128, .f32⟩
  | .hbm, ⟨12, _⟩ => ⟨S8192x512, .f32⟩
  | .hbm, ⟨13, _⟩ => ⟨S128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | .local _ .vmem, ⟨7, _⟩ => ⟨S512x512, .bf16⟩
  | .local _ .vmem, ⟨8, _⟩ => ⟨S512x512, .bf16⟩
  | .local _ .vmem, ⟨9, _⟩ => ⟨S256x512, .f32⟩
  | .local _ .vmem, ⟨10, _⟩ => ⟨S256x512, .f32⟩
  | .local _ .vmem, ⟨11, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S8192x512 : Shape := ⟨2, ![8192, 512]⟩
abbrev S128 : Shape := ⟨1, ![128]⟩
abbrev S256x512 : Shape := ⟨2, ![256, 512]⟩
abbrev S1x8192x4x128 : Shape := ⟨4, ![1, 8192, 4, 128]⟩
abbrev S1x256x4x128 : Shape := ⟨4, ![1, 256, 4, 128]⟩
abbrev S_ : Shape := ⟨0, ![]⟩
abbrev S1x8192x4 : Shape := ⟨3, ![1, 8192, 4]⟩
abbrev S1x8192x4x1 : Shape := ⟨4, ![1, 8192, 4, 1]⟩
abbrev S1x1x1x128 : Shape := ⟨4, ![1, 1, 1, 128]⟩
abbrev S1x4x8192x256 : Shape := ⟨4, ![1, 4, 8192, 256]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S1x4x128x256 : Shape := ⟨4, ![1, 4, 128, 256]⟩
abbrev S4x8192 : Shape := ⟨2, ![4, 8192]⟩
abbrev S1x4x256x128 : Shape := ⟨4, ![1, 4, 256, 128]⟩
abbrev S1x4x8192x128 : Shape := ⟨4, ![1, 4, 8192, 128]⟩
abbrev S1x128 : Shape := ⟨2, ![1, 128]⟩
abbrev S8192x4 : Shape := ⟨2, ![8192, 4]⟩

abbrev nBuf : Space → Nat
  | .hbm => 129
  | .vmem => 0
  | .smem => 0
  | _ => 0

abbrev hbmTy0_0 (i : Nat) : BufTy := match i % 128 with
  | 0 => ⟨S8192x512, .f32⟩
  | 1 => ⟨S128, .f32⟩
  | 2 => ⟨S256x512, .f32⟩
  | 3 => ⟨S256x512, .f32⟩
  | 4 => ⟨S8192x512, .f32⟩
  | 5 => ⟨S1x8192x4x128, .f32⟩
  | 6 => ⟨S1x256x4x128, .f32⟩
  | 7 => ⟨S1x256x4x128, .f32⟩
  | 8 => ⟨S1x8192x4x128, .f32⟩
  | 9 => ⟨S_, .f32⟩
  | 10 => ⟨S1x8192x4, .f32⟩
  | 11 => ⟨S1x8192x4x1, .f32⟩
  | 12 => ⟨S_, .f32⟩
  | 13 => ⟨S1x8192x4x1, .f32⟩
  | 14 => ⟨S1x8192x4x1, .f32⟩
  | 15 => ⟨S_, .f32⟩
  | 16 => ⟨S1x8192x4x1, .f32⟩
  | 17 => ⟨S1x8192x4x1, .f32⟩
  | 18 => ⟨S1x8192x4x1, .f32⟩
  | 19 => ⟨S1x8192x4x1, .f32⟩
  | 20 => ⟨S_, .f32⟩
  | 21 => ⟨S1x8192x4x1, .f32⟩
  | 22 => ⟨S1x8192x4x1, .f32⟩
  | 23 => ⟨S1x8192x4x128, .f32⟩
  | 24 => ⟨S1x8192x4x128, .f32⟩
  | 25 => ⟨S1x1x1x128, .f32⟩
  | 26 => ⟨S1x8192x4x128, .f32⟩
  | 27 => ⟨S1x8192x4x128, .f32⟩
  | 28 => ⟨S1x4x8192x256, .f32⟩
  | 29 => ⟨S_, .f32⟩
  | 30 => ⟨S1x4x8192x256, .f32⟩
  | 31 => ⟨S1x4x8192x256, .f32⟩
  | 32 => ⟨S_, .f32⟩
  | 33 => ⟨S1x4x8192, .f32⟩
  | 34 => ⟨S1x4x8192x1, .f32⟩
  | 35 => ⟨S1x4x8192x256, .f32⟩
  | 36 => ⟨S1x4x8192x256, .i1⟩
  | 37 => ⟨S1x4x8192x256, .f32⟩
  | 38 => ⟨S_, .f32⟩
  | 39 => ⟨S1x4x8192, .f32⟩
  | 40 => ⟨S_, .f32⟩
  | 41 => ⟨S1x4x8192, .f32⟩
  | 42 => ⟨S1x4x8192, .f32⟩
  | 43 => ⟨S_, .f32⟩
  | 44 => ⟨S1x4x8192, .f32⟩
  | 45 => ⟨S1x4x8192, .i1⟩
  | 46 => ⟨S_, .f32⟩
  | 47 => ⟨S1x4x8192, .f32⟩
  | 48 => ⟨S1x4x8192, .i1⟩
  | 49 => ⟨S_, .f32⟩
  | 50 => ⟨S1x4x8192, .f32⟩
  | 51 => ⟨S_, .f32⟩
  | 52 => ⟨S1x4x8192, .f32⟩
  | 53 => ⟨S_, .f32⟩
  | 54 => ⟨S1x4x8192, .f32⟩
  | 55 => ⟨S1x4x8192, .f32⟩
  | 56 => ⟨S1x4x8192, .f32⟩
  | 57 => ⟨S1x4x8192x1, .f32⟩
  | 58 => ⟨S1x4x8192x256, .f32⟩
  | 59 => ⟨S1x4x8192x256, .f32⟩
  | 60 => ⟨S1x4x8192x256, .f32⟩
  | 61 => ⟨S_, .f32⟩
  | 62 => ⟨S1x4x8192, .f32⟩
  | 63 => ⟨S1x4x8192x1, .f32⟩
  | 64 => ⟨S1x4x8192x256, .f32⟩
  | 65 => ⟨S1x4x8192x256, .f32⟩
  | 66 => ⟨S1x4x8192x1, .f32⟩
  | 67 => ⟨S_, .f32⟩
  | 68 => ⟨S1x4x8192x1, .f32⟩
  | 69 => ⟨S1x4x8192x1, .f32⟩
  | 70 => ⟨S1x4x128x8192, .f32⟩
  | 71 => ⟨S1x8192x4x128, .f32⟩
  | 72 => ⟨S8192x512, .f32⟩
  | 73 => ⟨S1x8192x4x128, .f32⟩
  | 74 => ⟨S1x4x128x8192, .f32⟩
  | 75 => ⟨S1x4x8192x256, .f32⟩
  | 76 => ⟨S1x4x128x256, .f32⟩
  | 77 => ⟨S1x256x4x128, .f32⟩
  | 78 => ⟨S1x4x8192x256, .f32⟩
  | 79 => ⟨S1x4x8192x256, .f32⟩
  | 80 => ⟨S1x4x8192x256, .f32⟩
  | 81 => ⟨S_, .f32⟩
  | 82 => ⟨S1x4x8192, .f32⟩
  | 83 => ⟨S1x4x8192x1, .f32⟩
  | 84 => ⟨S1x4x8192x1, .f32⟩
  | 85 => ⟨S1x4x8192x256, .f32⟩
  | 86 => ⟨S1x4x8192x256, .f32⟩
  | 87 => ⟨S_, .f32⟩
  | 88 => ⟨S4x8192, .f32⟩
  | 89 => ⟨S1x4x8192, .f32⟩
  | 90 => ⟨S1x4x8192x256, .f32⟩
  | 91 => ⟨S1x4x8192x256, .f32⟩
  | 92 => ⟨S1x4x8192x256, .f32⟩
  | 93 => ⟨S_, .f32⟩
  | 94 => ⟨S1x4x8192x256, .f32⟩
  | 95 => ⟨S1x4x8192x256, .f32⟩
  | 96 => ⟨S1x4x256x128, .f32⟩
  | 97 => ⟨S1x256x4x128, .f32⟩
  | 98 => ⟨S1x4x8192x128, .f32⟩
  | 99 => ⟨S1x8192x4x128, .f32⟩
  | 100 => ⟨S1x8192x4x128, .f32⟩
  | 101 => ⟨S_, .f32⟩
  | 102 => ⟨S1x128, .f32⟩
  | 103 => ⟨S1x1x1x128, .f32⟩
  | 104 => ⟨S1x8192x4x128, .f32⟩
  | 105 => ⟨S1x8192x4x128, .f32⟩
  | 106 => ⟨S_, .f32⟩
  | 107 => ⟨S128, .f32⟩
  | 108 => ⟨S1x8192x4x128, .f32⟩
  | 109 => ⟨S_, .f32⟩
  | 110 => ⟨S1x8192x4, .f32⟩
  | 111 => ⟨S1x8192x4x1, .f32⟩
  | 112 => ⟨S1x8192x4x128, .f32⟩
  | 113 => ⟨S1x8192x4x128, .f32⟩
  | 114 => ⟨S1x8192x4x1, .f32⟩
  | 115 => ⟨S_, .f32⟩
  | 116 => ⟨S1x8192x4x1, .f32⟩
  | 117 => ⟨S1x8192x4x1, .f32⟩
  | 118 => ⟨S_, .f32⟩
  | 119 => ⟨S8192x4, .f32⟩
  | 120 => ⟨S1x8192x4, .f32⟩
  | 121 => ⟨S1x8192x4x128, .f32⟩
  | 122 => ⟨S1x8192x4x128, .f32⟩
  | 123 => ⟨S1x8192x4x128, .f32⟩
  | 124 => ⟨S1x8192x4x128, .f32⟩
  | 125 => ⟨S1x8192x4x128, .f32⟩
  | 126 => ⟨S256x512, .f32⟩
  | 127 => ⟨S256x512, .f32⟩
  | _ => ⟨S8192x512, .f32⟩

abbrev hbmTy0_1 (i : Nat) : BufTy := match i % 128 with
  | 0 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_14 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_15 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_17 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_18 : Ref sig .tc := ⟨.hbm, 106, rfl⟩
abbrev main_v82 : Ref sig .tc := ⟨.hbm, 107, rfl⟩
abbrev main_v83 : Ref sig .tc := ⟨.hbm, 108, rfl⟩
abbrev main_cst_19 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_20 : Ref sig .tc := ⟨.hbm, 115, rfl⟩
abbrev main_v89 : Ref sig .tc := ⟨.hbm, 116, rfl⟩
abbrev main_v90 : Ref sig .tc := ⟨.hbm, 117, rfl⟩
abbrev main_cst_21 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference4Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel5.lean ====
abbrev S8192x512 : Shape := ⟨2, ![8192, 512]⟩
abbrev S512 : Shape := ⟨1, ![512]⟩
abbrev S8192x1024 : Shape := ⟨2, ![8192, 1024]⟩
abbrev S1x512 : Shape := ⟨2, ![1, 512]⟩
abbrev S512x512 : Shape := ⟨2, ![512, 512]⟩
abbrev S512x1024 : Shape := ⟨2, ![512, 1024]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S8192x1024, .f32⟩
  | .hbm, ⟨5, _⟩ => ⟨S1x512, .f32⟩
  | .hbm, ⟨6, _⟩ => ⟨S1x512, .f32⟩
  | .hbm, ⟨7, _⟩ => ⟨S8192x512, .f32⟩
  | .hbm, ⟨8, _⟩ => ⟨S8192x512, .f32⟩
  | .hbm, ⟨9, _⟩ => ⟨S1x512, .f32⟩
  | .hbm, ⟨10, _⟩ => ⟨S1x512, .f32⟩
  | .hbm, ⟨11, _⟩ => ⟨S512, .f32⟩
  | .hbm, ⟨12, _⟩ => ⟨S512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S8192x512 : Shape := ⟨2, ![8192, 512]⟩
abbrev S512 : Shape := ⟨1, ![512]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 98
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S8192x1024, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x512, .f32⟩
  | .hbm, ⟨41, _⟩ => ⟨S8192x512, .f32⟩
  | .hbm, ⟨42, _⟩ => ⟨S1x512, .f32⟩
  | .hbm, ⟨43, _⟩ => ⟨S8192x512, .f32⟩
  | .hbm, ⟨44, _⟩ => ⟨S8192x512, .f32⟩
  | .hbm, ⟨45, _⟩ => ⟨S8192x1024, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S512, .f32⟩
  | .hbm, ⟨51, _⟩ => ⟨S1x512, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S512, .f32⟩
  | .hbm, ⟨56, _⟩ => ⟨S8192x512, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x512, .f32⟩
  | .hbm, ⟨61, _⟩ => ⟨S8192x512, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S_, .f32⟩
  | .hbm, ⟨75, _⟩ => ⟨S512, .f32⟩
  | .hbm, ⟨76, _⟩ => ⟨S1x512, .f32⟩
  | .hbm, ⟨77, _⟩ => ⟨S8192x512, .f32⟩
  | .hbm, ⟨78, _⟩ => ⟨S8192x512, .f32⟩
  | .hbm, ⟨79, _⟩ => ⟨S_, .f32⟩
  | .hbm, ⟨80, _⟩ => ⟨S512, .f32⟩
  | .hbm, ⟨81, _⟩ => ⟨S8192x512, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x512, .f32⟩
  | .hbm, ⟨86, _⟩ => ⟨S8192x512, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S8192x512, .f32⟩
  | .hbm, ⟨97, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_13 : Ref sig .tc := ⟨.hbm, 79, rfl⟩
abbrev main_v60 : Ref sig .tc := ⟨.hbm, 80, rfl⟩
abbrev main_v61 : Ref sig .tc := ⟨.hbm, 81, rfl⟩
abbrev main_cst_14 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_15 : Ref sig .tc := ⟨.hbm, 88, rfl⟩
abbrev main_v67 : Ref sig .tc := ⟨.hbm, 89, rfl⟩
abbrev main_v68 : Ref sig .tc := ⟨.hbm, 90, rfl⟩
abbrev main_cst_16 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x512 : Shape := ⟨2, ![1024, 512]⟩
abbrev S8192x512 : Shape := ⟨2, ![8192, 512]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x512, .f32⟩
  | .hbm, ⟨3, _⟩ => ⟨S8192x512, .f32⟩
  | .hbm, ⟨4, _⟩ => ⟨S8192x1024, .f32⟩
  | .hbm, ⟨5, _⟩ => ⟨S1x1024, .f32⟩
  | .hbm, ⟨6, _⟩ => ⟨S8192x512, .bf16⟩
  | .hbm, ⟨7, _⟩ => ⟨S1024x512, .bf16⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference6Ideal.lean ====
abbrev S8192x1024 : Shape := ⟨2, ![8192, 1024]⟩
abbrev S1024 : Shape := ⟨1, ![1024]⟩
abbrev S1024x512 : Shape := ⟨2, ![1024, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x512, .f32⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x512, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel7.lean ====
abbrev S8192x512 : Shape := ⟨2, ![8192, 512]⟩
abbrev S512x512 : Shape := ⟨2, ![512, 512]⟩
abbrev S1024x512 : Shape := ⟨2, ![1024, 512]⟩

abbrev nBuf : Space → Nat
  | .hbm => 7
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S8192x512, .f32⟩
  | .hbm, ⟨3, _⟩ => ⟨S8192x512, .f32⟩
  | .hbm, ⟨4, _⟩ => ⟨S8192x512, .bf16⟩
  | .hbm, ⟨5, _⟩ => ⟨S512x512, .bf16⟩
  | .hbm, ⟨6, _⟩ => ⟨S8192x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference7Ideal.lean ====
abbrev S8192x512 : Shape := ⟨2, ![8192, 512]⟩
abbrev S512x512 : Shape := ⟨2, ![512, 512]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel8.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x1024, .bf16⟩
  | .hbm, ⟨5, _⟩ => ⟨S1024x4096, .bf16⟩
  | .hbm, ⟨6, _⟩ => ⟨S8192x4096, .bf16⟩
  | .hbm, ⟨7, _⟩ => ⟨S8192x1024, .bf16⟩
  | .hbm, ⟨8, _⟩ => ⟨S4096x1024, .bf16⟩
  | .hbm, ⟨9, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x2048, .bf16⟩
  | .local _ .vmem, ⟨3, _⟩ => ⟨S1024x2048, .bf16⟩
  | .local _ .vmem, ⟨4, _⟩ => ⟨S2048x2048, .bf16⟩
  | .local _ .vmem, ⟨5, _⟩ => ⟨S2048x2048, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== Reference8Ideal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S1x1024, .f32⟩
  | .hbm, ⟨6, _⟩ => ⟨S8192x4096, .bf16⟩
  | .hbm, ⟨7, _⟩ => ⟨S1024x4096, .bf16⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_10 : BitVec 32 := 0#32
  let v18 : BitVec 1 := Scalar.cmpi .ne v17 c0_i32_10
  v18

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v19 : BitVec 32 := Scalar.extui v2
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference9Ideal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel10.lean ====
abbrev S8192x2048 : Shape := ⟨2, ![8192, 2048]⟩
abbrev S64 : Shape := ⟨1, ![64]⟩
abbrev S8192x512 : Shape := ⟨2, ![8192, 512]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S4x8x256x512 : Shape := ⟨4, ![4, 8, 256, 512]⟩
abbrev S4x256x8x512 : Shape := ⟨4, ![4, 256, 8, 512]⟩
abbrev S512x512 : Shape := ⟨2, ![512, 512]⟩
abbrev S512x2048 : Shape := ⟨2, ![512, 2048]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x384 : Shape := ⟨2, ![512, 384]⟩
abbrev S512x256 : Shape := ⟨2, ![512, 256]⟩
abbrev S8x64 : Shape := ⟨2, ![8, 64]⟩
abbrev S_ : Shape := ⟨0, ![]⟩

abbrev nBuf : Space → Nat
  | .hbm => 31
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S64, .f32⟩
  | .hbm, ⟨2, _⟩ => ⟨S64, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S1x64, .f32⟩
  | .hbm, ⟨8, _⟩ => ⟨S1x1x1x64, .f32⟩
  | .hbm, ⟨9, _⟩ => ⟨S1x1x8x64, .f32⟩
  | .hbm, ⟨10, _⟩ => ⟨S1x512, .f32⟩
  | .hbm, ⟨11, _⟩ => ⟨S1x64, .f32⟩
  | .hbm, ⟨12, _⟩ => ⟨S1x1x1x64, .f32⟩
  | .hbm, ⟨13, _⟩ => ⟨S1x1x8x64, .f32⟩
  | .hbm, ⟨14, _⟩ => ⟨S1x512, .f32⟩
  | .hbm, ⟨15, _⟩ => ⟨S4x8x256x512, .f32⟩
  | .hbm, ⟨16, _⟩ => ⟨S4x256x8x512, .f32⟩
  | .hbm, ⟨17, _⟩ => ⟨S8192x512, .f32⟩
  | .hbm, ⟨18, _⟩ => ⟨S8192x512, .bf16⟩
  | .hbm, ⟨19, _⟩ => ⟨S4x256x8x512, .bf16⟩
  | .hbm, ⟨20, _⟩ => ⟨S4x8x256x512, .bf16⟩
  | .hbm, ⟨21, _⟩ => ⟨S8192x512, .bf16⟩
  | .hbm, ⟨22, _⟩ => ⟨S8192x2048, .bf16⟩
  | .hbm, ⟨23, _⟩ => ⟨S1x512, .f32⟩
  | .hbm, ⟨24, _⟩ => ⟨S1x512, .f32⟩
  | .hbm, ⟨25, _⟩ => ⟨S8x64, .f32⟩
  | .hbm, ⟨26, _⟩ => ⟨S_, .f32⟩
  | .hbm, ⟨27, _⟩ => ⟨S64, .f32⟩
  | .hbm, ⟨28, _⟩ => ⟨S8x64, .f32⟩
  | .hbm, ⟨29, _⟩ => ⟨S_, .f32⟩
  | .hbm, ⟨30, _⟩ => ⟨S64, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S512x2048, .bf16⟩
  | .local _ .vmem, ⟨15, _⟩ => ⟨S512x2048, .bf16⟩
  | .local _ .vmem, ⟨16, _⟩ => ⟨S1x512, .f32⟩
  | .local _ .vmem, ⟨17, _⟩ => ⟨S1x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference10Ideal.lean ====
abbrev S8192x2048 : Shape := ⟨2, ![8192, 2048]⟩
abbrev S64 : Shape := ⟨1, ![64]⟩
abbrev S8192x512 : Shape := ⟨2, ![8192, 512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x1x64 : Shape := ⟨3, ![1, 1, 64]⟩

abbrev nBuf : Space → Nat
  | .hbm => 127
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S64, .f32⟩
  | .hbm, ⟨2, _⟩ => ⟨S64, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x8x64, .f32⟩
  | .hbm, ⟨9, _⟩ => ⟨S8192x8x64, .f32⟩
  | .hbm, ⟨10, _⟩ => ⟨S_, .f32⟩
  | .hbm, ⟨11, _⟩ => ⟨S8192x8, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S_, .f32⟩
  | .hbm, ⟨17, _⟩ => ⟨S8192x8x1, .f32⟩
  | .hbm, ⟨18, _⟩ => ⟨S8192x8x1, .f32⟩
  | .hbm, ⟨19, _⟩ => ⟨S8192x8x1, .f32⟩
  | .hbm, ⟨20, _⟩ => ⟨S8192x8x1, .f32⟩
  | .hbm, ⟨21, _⟩ => ⟨S_, .f32⟩
  | .hbm, ⟨22, _⟩ => ⟨S8192x8x1, .f32⟩
  | .hbm, ⟨23, _⟩ => ⟨S8192x8x1, .f32⟩
  | .hbm, ⟨24, _⟩ => ⟨S8192x8x64, .f32⟩
  | .hbm, ⟨25, _⟩ => ⟨S8192x8x64, .f32⟩
  | .hbm, ⟨26, _⟩ => ⟨S1x1x64, .f32⟩
  | .hbm, ⟨27, _⟩ => ⟨S8192x8x64, .f32⟩
  | .hbm, ⟨28, _⟩ => ⟨S8192x8x64, .f32⟩
  | .hbm, ⟨29, _⟩ => ⟨S_, .f32⟩
  | .hbm, ⟨30, _⟩ => ⟨S8192x8x64, .f32⟩
  | .hbm, ⟨31, _⟩ => ⟨S8192x8x64, .f32⟩
  | .hbm, ⟨32, _⟩ => ⟨S8192x512, .f32⟩
  | .hbm, ⟨33, _⟩ => ⟨S8192x8x64, .f32⟩
  | .hbm, ⟨34, _⟩ => ⟨S8192x8x64, .f32⟩
  | .hbm, ⟨35, _⟩ => ⟨S_, .f32⟩
  | .hbm, ⟨36, _⟩ => ⟨S8192x8, .f32⟩
  | .hbm, ⟨37, _⟩ => ⟨S8192x8x1, .f32⟩
  | .hbm, ⟨38, _⟩ => ⟨S_, .f32⟩
  | .hbm, ⟨39, _⟩ => ⟨S8192x8x1, .f32⟩
  | .hbm, ⟨40, _⟩ => ⟨S8192x8x1, .f32⟩
  | .hbm, ⟨41, _⟩ => ⟨S_, .f32⟩
  | .hbm, ⟨42, _⟩ => ⟨S8192x8x1, .f32⟩
  | .hbm, ⟨43, _⟩ => ⟨S8192x8x1, .f32⟩
  | .hbm, ⟨44, _⟩ => ⟨S8192x8x1, .f32⟩
  | .hbm, ⟨45, _⟩ => ⟨S8192x8x1, .f32⟩
  | .hbm, ⟨46, _⟩ => ⟨S_, .f32⟩
  | .hbm, ⟨47, _⟩ => ⟨S8192x8x1, .f32⟩
  | .hbm, ⟨48, _⟩ => ⟨S8192x8x1, .f32⟩
  | .hbm, ⟨49, _⟩ => ⟨S8192x8x64, .f32⟩
  | .hbm, ⟨50, _⟩ => ⟨S8192x8x64, .f32⟩
  | .hbm, ⟨51, _⟩ => ⟨S1x1x64, .f32⟩
  | .hbm, ⟨52, _⟩ => ⟨S8192x8x64, .f32⟩
  | .hbm, ⟨53, _⟩ => ⟨S8192x8x64, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S8192x2048, .f32⟩
  | .hbm, ⟨60, _⟩ => ⟨S8192x8x64, .f32⟩
  | .hbm, ⟨61, _⟩ => ⟨S8192x8x64, .f32⟩
  | .hbm, ⟨62, _⟩ => ⟨S_, .f32⟩
  | .hbm, ⟨63, _⟩ => ⟨S8192x2048, .f32⟩
  | .hbm, ⟨64, _⟩ => ⟨S8192x2048, .f32⟩
  | .hbm, ⟨65, _⟩ => ⟨S8192x8x64, .f32⟩
  | .hbm, ⟨66, _⟩ => ⟨S_, .f32⟩
  | .hbm, ⟨67, _⟩ => ⟨S64, .f32⟩
  | .hbm, ⟨68, _⟩ => ⟨S1x1x64, .f32⟩
  | .hbm, ⟨69, _⟩ => ⟨S8192x8x64, .f32⟩
  | .hbm, ⟨70, _⟩ => ⟨S8192x8x64, .f32⟩
  | .hbm, ⟨71, _⟩ => ⟨S_, .f32⟩
  | .hbm, ⟨72, _⟩ => ⟨S64, .f32⟩
  | .hbm, ⟨73, _⟩ => ⟨S8192x8x64, .f32⟩
  | .hbm, ⟨74, _⟩ => ⟨S_, .f32⟩
  | .hbm, ⟨75, _⟩ => ⟨S8192x8, .f32⟩
  | .hbm, ⟨76, _⟩ => ⟨S8192x8x1, .f32⟩
  | .hbm, ⟨77, _⟩ => ⟨S8192x8x64, .f32⟩
  | .hbm, ⟨78, _⟩ => ⟨S8192x8x64, .f32⟩
  | .hbm, ⟨79, _⟩ => ⟨S8192x8x1, .f32⟩
  | .hbm, ⟨80, _⟩ => ⟨S_, .f32⟩
  | .hbm, ⟨81, _⟩ => ⟨S8192x8x1, .f32⟩
  | .hbm, ⟨82, _⟩ => ⟨S8192x8x1, .f32⟩
  | .hbm, ⟨83, _⟩ => ⟨S_, .f32⟩
  | .hbm, ⟨84, _⟩ => ⟨S8192x8, .f32⟩
  | .hbm, ⟨85, _⟩ => ⟨S8192x8x64, .f32⟩
  | .hbm, ⟨86, _⟩ => ⟨S8192x8x64, .f32⟩
  | .hbm, ⟨87, _⟩ => ⟨S8192x8x64, .f32⟩
  | .hbm, ⟨88, _⟩ => ⟨S8192x8x64, .f32⟩
  | .hbm, ⟨89, _⟩ => ⟨S8192x8x64, .f32⟩
  | .hbm, ⟨90, _⟩ => ⟨S8192x512, .f32⟩
  | .hbm, ⟨91, _⟩ => ⟨S_, .f32⟩
  | .hbm, ⟨92, _⟩ => ⟨S8192x2048, .f32⟩
  | .hbm, ⟨93, _⟩ => ⟨S8192x2048, .f32⟩
  | .hbm, ⟨94, _⟩ => ⟨S_, .f32⟩
  | .hbm, ⟨95, _⟩ => ⟨S8192x8x64, .f32⟩
  | .hbm, ⟨96, _⟩ => ⟨S8192x8x64, .f32⟩
  | .hbm, ⟨97, _⟩ => ⟨S8192x8x64, .f32⟩
  | .hbm, ⟨98, _⟩ => ⟨S_, .f32⟩
  | .hbm, ⟨99, _⟩ => ⟨S64, .f32⟩
  | .hbm, ⟨100, _⟩ => ⟨S1x1x64, .f32⟩
  | .hbm, ⟨101, _⟩ => ⟨S8192x8x64, .f32⟩
  | .hbm, ⟨102, _⟩ => ⟨S8192x8x64, .f32⟩
  | .hbm, ⟨103, _⟩ => ⟨S_, .f32⟩
  | .hbm, ⟨104, _⟩ => ⟨S64, .f32⟩
  | .hbm, ⟨105, _⟩ => ⟨S8192x8x64, .f32⟩
  | .hbm, ⟨106, _⟩ => ⟨S_, .f32⟩
  | .hbm, ⟨107, _⟩ => ⟨S8192x8, .f32⟩
  | .hbm, ⟨108, _⟩ => ⟨S8192x8x1, .f32⟩
  | .hbm, ⟨109, _⟩ => ⟨S8192x8x64, .f32⟩
  | .hbm, ⟨110, _⟩ => ⟨S8192x8x64, .f32⟩
  | .hbm, ⟨111, _⟩ => ⟨S8192x8x1, .f32⟩
  | .hbm, ⟨112, _⟩ => ⟨S_, .f32⟩
  | .hbm, ⟨113, _⟩ => ⟨S8192x8x1, .f32⟩
  | .hbm, ⟨114, _⟩ => ⟨S8192x8x1, .f32⟩
  | .hbm, ⟨115, _⟩ => ⟨S_, .f32⟩
  | .hbm, ⟨116, _⟩ => ⟨S8192x8, .f32⟩
  | .hbm, ⟨117, _⟩ => ⟨S8192x8x64, .f32⟩
  | .hbm, ⟨118, _⟩ => ⟨S8192x8x64, .f32⟩
  | .hbm, ⟨119, _⟩ => ⟨S8192x8x64, .f32⟩
  | .hbm, ⟨120, _⟩ => ⟨S8192x8x64, .f32⟩
  | .hbm, ⟨121, _⟩ => ⟨S8192x8x64, .f32⟩
  | .hbm, ⟨122, _⟩ => ⟨S8192x512, .f32⟩
  | .hbm, ⟨123, _⟩ => ⟨S_, .f32⟩
  | .hbm, ⟨124, _⟩ => ⟨S8192x2048, .f32⟩
  | .hbm, ⟨125, _⟩ => ⟨S8192x2048, .f32⟩
  | .hbm, ⟨126, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_cst_14 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_cst_16 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_17 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_18 : Ref sig .tc := ⟨.hbm, 103, rfl⟩
abbrev main_v77 : Ref sig .tc := ⟨.hbm, 104, rfl⟩
abbrev main_v78 : Ref sig .tc := ⟨.hbm, 105, rfl⟩
abbrev main_cst_19 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_20 : Ref sig .tc := ⟨.hbm, 112, rfl⟩
abbrev main_v84 : Ref sig .tc := ⟨.hbm, 113, rfl⟩
abbrev main_v85 : Ref sig .tc := ⟨.hbm, 114, rfl⟩
abbrev main_cst_21 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_22 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]
-- ==== Kernel11.lean ====
abbrev S256x1024 : Shape := ⟨2, ![256, 1024]⟩
abbrev S1024 : Shape := ⟨1, ![1024]⟩
abbrev S1024x1024 : Shape := ⟨2, ![1024, 1024]⟩
abbrev S128 : Shape := ⟨1, ![128]⟩
abbrev S256x512 : Shape := ⟨2, ![256, 512]⟩
abbrev S1x1024 : Shape := ⟨2, ![1, 1024]⟩
abbrev S1x128 : Shape := ⟨2, ![1, 128]⟩
abbrev S256 : Shape := ⟨1, ![256]⟩
abbrev S256x1 : Shape := ⟨2, ![256, 1]⟩
abbrev S256x128 : Shape := ⟨2, ![256, 128]⟩

abbrev nBuf : Space → Nat
  | .hbm => 20
  | .vmem => 19
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S256x512, .f32⟩
  | .hbm, ⟨5, _⟩ => ⟨S256x512, .f32⟩
  | .hbm, ⟨6, _⟩ => ⟨S1024x1024, .bf16⟩
  | .hbm, ⟨7, _⟩ => ⟨S1x1024, .f32⟩
  | .hbm, ⟨8, _⟩ => ⟨S1x128, .f32⟩
  | .hbm, ⟨9, _⟩ => ⟨S256x1024, .bf16⟩
  | .hbm, ⟨10, _⟩ => ⟨S256x1024, .f32⟩
  | .hbm, ⟨11, _⟩ => ⟨S256x512, .bf16⟩
  | .hbm, ⟨12, _⟩ => ⟨S256x512, .bf16⟩
  | .hbm, ⟨13, _⟩ => ⟨S1x1024, .f32⟩
  | .hbm, ⟨14, _⟩ => ⟨S1x128, .f32⟩
  | .hbm, ⟨15, _⟩ => ⟨S1024x1024, .f32⟩
  | .hbm, ⟨16, _⟩ => ⟨S1x1024, .f32⟩
  | .hbm, ⟨17, _⟩ => ⟨S1x128, .f32⟩
  | .hbm, ⟨18, _⟩ => ⟨S1024, .f32⟩
  | .hbm, ⟨19, _⟩ => ⟨S128, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1x128, .f32⟩
  | .local _ .vmem, ⟨4, _⟩ => ⟨S256x1024, .bf16⟩
  | .local _ .vmem, ⟨5, _⟩ => ⟨S256x1024, .f32⟩
  | .local _ .vmem, ⟨6, _⟩ => ⟨S256x512, .bf16⟩
  | .local _ .vmem, ⟨7, _⟩ => ⟨S256x512, .bf16⟩
  | .local _ .vmem, ⟨8, _⟩ => ⟨S256x1024, .f32⟩
  | .local _ .vmem, ⟨9, _⟩ => ⟨S1x1024, .f32⟩
  | .local _ .vmem, ⟨10, _⟩ => ⟨S256x1024, .bf16⟩
  | .local _ .vmem, ⟨11, _⟩ => ⟨S1024x1024, .bf16⟩
  | .local _ .vmem, ⟨12, _⟩ => ⟨S256x1024, .f32⟩
  | .local _ .vmem, ⟨13, _⟩ => ⟨S1x128, .f32⟩
  | .local _ .vmem, ⟨14, _⟩ => ⟨S256x512, .f32⟩
  | .local _ .vmem, ⟨15, _⟩ => ⟨S256x512, .f32⟩
  | .local _ .vmem, ⟨16, _⟩ => ⟨S1024x1024, .f32⟩
  | .local _ .vmem, ⟨17, _⟩ => ⟨S1x1024, .f32⟩
  | .local _ .vmem, ⟨18, _⟩ => ⟨S1x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := .none

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S256x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S256x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1024x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
-- ==== Reference11Ideal.lean ====
abbrev S256x1024 : Shape := ⟨2, ![256, 1024]⟩
abbrev S1024 : Shape := ⟨1, ![1024]⟩
abbrev S1024x1024 : Shape := ⟨2, ![1024, 1024]⟩
abbrev S128 : Shape := ⟨1, ![128]⟩
abbrev S256x512 : Shape := ⟨2, ![256, 512]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x4x128 : Shape := ⟨3, ![256, 4, 128]⟩
abbrev S256x4 : Shape := ⟨2, ![256, 4]⟩
abbrev S256x4x1 : Shape := ⟨3, ![256, 4, 1]⟩
abbrev S1x1x128 : Shape := ⟨3, ![1, 1, 128]⟩

abbrev nBuf : Space → Nat
  | .hbm => 88
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S256x512, .f32⟩
  | .hbm, ⟨5, _⟩ => ⟨S256x512, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x512, .f32⟩
  | .hbm, ⟨24, _⟩ => ⟨S256x4x128, .f32⟩
  | .hbm, ⟨25, _⟩ => ⟨S256x4x128, .f32⟩
  | .hbm, ⟨26, _⟩ => ⟨S_, .f32⟩
  | .hbm, ⟨27, _⟩ => ⟨S256x4, .f32⟩
  | .hbm, ⟨28, _⟩ => ⟨S256x4x1, .f32⟩
  | .hbm, ⟨29, _⟩ => ⟨S_, .f32⟩
  | .hbm, ⟨30, _⟩ => ⟨S256x4x1, .f32⟩
  | .hbm, ⟨31, _⟩ => ⟨S256x4x1, .f32⟩
  | .hbm, ⟨32, _⟩ => ⟨S_, .f32⟩
  | .hbm, ⟨33, _⟩ => ⟨S256x4x1, .f32⟩
  | .hbm, ⟨34, _⟩ => ⟨S256x4x1, .f32⟩
  | .hbm, ⟨35, _⟩ => ⟨S256x4x1, .f32⟩
  | .hbm, ⟨36, _⟩ => ⟨S256x4x1, .f32⟩
  | .hbm, ⟨37, _⟩ => ⟨S_, .f32⟩
  | .hbm, ⟨38, _⟩ => ⟨S256x4x1, .f32⟩
  | .hbm, ⟨39, _⟩ => ⟨S256x4x1, .f32⟩
  | .hbm, ⟨40, _⟩ => ⟨S256x4x128, .f32⟩
  | .hbm, ⟨41, _⟩ => ⟨S256x4x128, .f32⟩
  | .hbm, ⟨42, _⟩ => ⟨S1x1x128, .f32⟩
  | .hbm, ⟨43, _⟩ => ⟨S256x4x128, .f32⟩
  | .hbm, ⟨44, _⟩ => ⟨S256x4x128, .f32⟩
  | .hbm, ⟨45, _⟩ => ⟨S256x512, .f32⟩
  | .hbm, ⟨46, _⟩ => ⟨S256x512, .f32⟩
  | .hbm, ⟨47, _⟩ => ⟨S_, .f32⟩
  | .hbm, ⟨48, _⟩ => ⟨S256x1024, .f32⟩
  | .hbm, ⟨49, _⟩ => ⟨S256x4x128, .f32⟩
  | .hbm, ⟨50, _⟩ => ⟨S256x4x128, .f32⟩
  | .hbm, ⟨51, _⟩ => ⟨S_, .f32⟩
  | .hbm, ⟨52, _⟩ => ⟨S128, .f32⟩
  | .hbm, ⟨53, _⟩ => ⟨S1x1x128, .f32⟩
  | .hbm, ⟨54, _⟩ => ⟨S256x4x128, .f32⟩
  | .hbm, ⟨55, _⟩ => ⟨S256x4x128, .f32⟩
  | .hbm, ⟨56, _⟩ => ⟨S_, .f32⟩
  | .hbm, ⟨57, _⟩ => ⟨S128, .f32⟩
  | .hbm, ⟨58, _⟩ => ⟨S256x4x128, .f32⟩
  | .hbm, ⟨59, _⟩ => ⟨S_, .f32⟩
  | .hbm, ⟨60, _⟩ => ⟨S256x4, .f32⟩
  | .hbm, ⟨61, _⟩ => ⟨S256x4x1, .f32⟩
  | .hbm, ⟨62, _⟩ => ⟨S256x4x128, .f32⟩
  | .hbm, ⟨63, _⟩ => ⟨S256x4x128, .f32⟩
  | .hbm, ⟨64, _⟩ => ⟨S256x4x1, .f32⟩
  | .hbm, ⟨65, _⟩ => ⟨S_, .f32⟩
  | .hbm, ⟨66, _⟩ => ⟨S256x4x1, .f32⟩
  | .hbm, ⟨67, _⟩ => ⟨S256x4x1, .f32⟩
  | .hbm, ⟨68, _⟩ => ⟨S_, .f32⟩
  | .hbm, ⟨69, _⟩ => ⟨S256x4, .f32⟩
  | .hbm, ⟨70, _⟩ => ⟨S256x4x128, .f32⟩
  | .hbm, ⟨71, _⟩ => ⟨S256x4x128, .f32⟩
  | .hbm, ⟨72, _⟩ => ⟨S256x4x128, .f32⟩
  | .hbm, ⟨73, _⟩ => ⟨S256x4x128, .f32⟩
  | .hbm, ⟨74, _⟩ => ⟨S256x4x128, .f32⟩
  | .hbm, ⟨75, _⟩ => ⟨S256x512, .f32⟩
  | .hbm, ⟨76, _⟩ => ⟨S_, .f32⟩
  | .hbm, ⟨77, _⟩ => ⟨S256x1024, .f32⟩
  | .hbm, ⟨78, _⟩ => ⟨S256x1024, .f32⟩
  | .hbm, ⟨79, _⟩ => ⟨S1024x1024, .f32⟩
  | .hbm, ⟨80, _⟩ => ⟨S1024x1024, .f32⟩
  | .hbm, ⟨81, _⟩ => ⟨S256x1024, .f32⟩
  | .hbm, ⟨82, _⟩ => ⟨S256x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S_, .f32⟩
  | .hbm, ⟨87, _⟩ => ⟨S1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel12.lean ====
abbrev S8192x1024 : Shape := ⟨2, ![8192, 1024]⟩
abbrev S8192x4096 : Shape := ⟨2, ![8192, 4096]⟩
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S8192x1024, .f32⟩
  | .hbm, ⟨4, _⟩ => ⟨S8192x4096, .bf16⟩
  | .hbm, ⟨5, _⟩ => ⟨S4096x1024, .bf16⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_10 : BitVec 32 := 0#32
  let v18 : BitVec 1 := Scalar.cmpi .ne v17 c0_i32_10
  v18

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v19 : BitVec 32 := Scalar.extui v2
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference12Ideal.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩
abbrev S8192 : Shape := ⟨1, ![8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1024, .f32⟩
  | .hbm, ⟨28, _⟩ => ⟨S8192x1024, .f32⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Kernel13.lean ====
abbrev S8192x512 : Shape := ⟨2, ![8192, 512]⟩
abbrev S8192x2048 : Shape := ⟨2, ![8192, 2048]⟩
abbrev S_ : Shape := ⟨0, ![]⟩
abbrev S1024x128 : Shape := ⟨2, ![1024, 128]⟩
abbrev S8192x128 : Shape := ⟨2, ![8192, 128]⟩
abbrev S256x256 : Shape := ⟨2, ![256, 256]⟩
abbrev S256x128 : Shape := ⟨2, ![256, 128]⟩
abbrev S512x256 : Shape := ⟨2, ![512, 256]⟩
abbrev S256x1 : Shape := ⟨2, ![256, 1]⟩
abbrev S256x512 : Shape := ⟨2, ![256, 512]⟩
abbrev S512x128 : Shape := ⟨2, ![512, 128]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 9
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2048, .f32⟩
  | .hbm, ⟨3, _⟩ => ⟨S_, .f32⟩
  | .hbm, ⟨4, _⟩ => ⟨S8192x512, .f32⟩
  | .hbm, ⟨5, _⟩ => ⟨S8192x512, .f32⟩
  | .hbm, ⟨6, _⟩ => ⟨S8192x512, .bf16⟩
  | .hbm, ⟨7, _⟩ => ⟨S8192x512, .bf16⟩
  | .hbm, ⟨8, _⟩ => ⟨S8192x512, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .f32⟩
  | .local _ .vmem, ⟨5, _⟩ => ⟨S8192x128, .f32⟩
  | .local _ .vmem, ⟨6, _⟩ => ⟨S1024x128, .f32⟩
  | .local _ .vmem, ⟨7, _⟩ => ⟨S1024x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c4_i32 : BitVec 32 := 4#32
  let v12 : BitVec 32 := Scalar.muli arg1 c4_i32
  let c0_i32 : BitVec 32 := 0#32
  let v13 : BitVec 32 := Scalar.addi v12 c0_i32
  let c0_i32_3 : BitVec 32 := 0#32
  let v20 : BitVec 32 := Scalar.subi v13 c0_i32_3
  let c0_i32_4 : BitVec 32 := 0#32
  let v21 : BitVec 32 := Scalar.maxsi v20 c0_i32_4
  let c256_i32 : BitVec 32 := 256#32
  let v22 : BitVec 32 := Scalar.muli v21 c256_i32
  v22
def k0_off1 (i : grid0.Coords) (c0_i32 : BitVec 32) (c0_i32_3 : BitVec 32) : Fin 2 → Nat :=
  let arg1 : BitVec 32 := BitVec.ofNat 32 (i 1).val
  let c4_i32 : BitVec 32 := 4#32
  let v12 : BitVec 32 := Scalar.muli arg1 c4_i32
  let v13 : BitVec 32 := Scalar.addi v12 c0_i32
  let v20 : BitVec 32 := Scalar.subi v13 c0_i32_3
  let c0_i32_4 : BitVec 32 := 0#32
  let v21 : BitVec 32 := Scalar.maxsi v20 c0_i32_4
  let c256_i32 : BitVec 32 := 256#32
  let v22 : BitVec 32 := Scalar.muli v21 c256_i32
  let v23 : BitVec 32 := v22
  let v24 : Index := Scalar.indexCast v23
  let c0_5 : Index := 0#32
  ![v24.toNat, 0]
def k0_mult2 (i : grid0.Coords) : BitVec 32 :=
  let arg1 : BitVec 32 := BitVec.ofNat 32 (i 1).val
  let c4_i32 : BitVec 32 := 4#32
  let v12 : BitVec 32 := Scalar.muli arg1 c4_i32
  let c0_i32 : BitVec 32 := 0#32
  let v13 : BitVec 32 := Scalar.addi v12 c0_i32
  let c1_i32 : BitVec 32 := 1#32
  let v99 : BitVec 32 := Scalar.subi v13 c1_i32
  let c0_i32_26 : BitVec 32 := 0#32
  let v100 : BitVec 32 := Scalar.maxsi v99 c0_i32_26
  let c256_i32_27 : BitVec 32 := 256#32
  let v101 : BitVec 32 := Scalar.muli v100 c256_i32_27
  v101
def k0_mult3 (i : grid0.Coords) : BitVec 32 :=
  let arg1 : BitVec 32 := BitVec.ofNat 32 (i 1).val
  let c4_i32_46 : BitVec 32 := 4#32
  let v172 : BitVec 32 := Scalar.muli arg1 c4_i32_46
  let c1_i32_47 : BitVec 32 := 1#32
  let v173 : BitVec 32 := Scalar.addi v172 c1_i32_47
  let c0_i32_51 : BitVec 32 := 0#32
  let v180 : BitVec 32 := Scalar.subi v173 c0_i32_51
  let c0_i32_52 : BitVec 32 := 0#32
  let v181 : BitVec 32 := Scalar.maxsi v180 c0_i32_52
  let c256_i32_53 : BitVec 32 := 256#32
  let v182 : BitVec 32 := Scalar.muli v181 c256_i32_53
  v182
def k0_mult4 (i : grid0.Coords) : BitVec 32 :=
  let arg1 : BitVec 32 := BitVec.ofNat 32 (i 1).val
  let c4_i32_46 : BitVec 32 := 4#32
  let v172 : BitVec 32 := Scalar.muli arg1 c4_i32_46
  let c1_i32_47 : BitVec 32 := 1#32
  let v173 : BitVec 32 := Scalar.addi v172 c1_i32_47
  let c1_i32_75 : BitVec 32 := 1#32
  let v259 : BitVec 32 := Scalar.subi v173 c1_i32_75
  let c0_i32_76 : BitVec 32 := 0#32
  let v260 : BitVec 32 := Scalar.maxsi v259 c0_i32_76
  let c256_i32_77 : BitVec 32 := 256#32
  let v261 : BitVec 32 := Scalar.muli v260 c256_i32_77
  v261
def k0_mult5 (i : grid0.Coords) : BitVec 32 :=
  let arg1 : BitVec 32 := BitVec.ofNat 32 (i 1).val
  let c4_i32_96 : BitVec 32 := 4#32
  let v332 : BitVec 32 := Scalar.muli arg1 c4_i32_96
  let c2_i32 : BitVec 32 := 2#32
  let v333 : BitVec 32 := Scalar.addi v332 c2_i32
  let c0_i32_100 : BitVec 32 := 0#32
  let v340 : BitVec 32 := Scalar.subi v333 c0_i32_100
  let c0_i32_101 : BitVec 32 := 0#32
  let v341 : BitVec 32 := Scalar.maxsi v340 c0_i32_101
  let c256_i32_102 : BitVec 32 := 256#32
  let v342 : BitVec 32 := Scalar.muli v341 c256_i32_102
  v342
def k0_mult6 (i : grid0.Coords) : BitVec 32 :=
  let arg1 : BitVec 32 := BitVec.ofNat 32 (i 1).val
  let c4_i32_96 : BitVec 32 := 4#32
  let v332 : BitVec 32 := Scalar.muli arg1 c4_i32_96
  let c2_i32 : BitVec 32 := 2#32
  let v333 : BitVec 32 := Scalar.addi v332 c2_i32
  let c1_i32_124 : BitVec 32 := 1#32
  let v419 : BitVec 32 := Scalar.subi v333 c1_i32_124
  let c0_i32_125 : BitVec 32 := 0#32
  let v420 : BitVec 32 := Scalar.maxsi v419 c0_i32_125
  let c256_i32_126 : BitVec 32 := 256#32
  let v421 : BitVec 32 := Scalar.muli v420 c256_i32_126
  v421
def k0_mult7 (i : grid0.Coords) : BitVec 32 :=
  let arg1 : BitVec 32 := BitVec.ofNat 32 (i 1).val
  let c4_i32_145 : BitVec 32 := 4#32
  let v492 : BitVec 32 := Scalar.muli arg1 c4_i32_145
  let c3_i32 : BitVec 32 := 3#32
  let v493 : BitVec 32 := Scalar.addi v492 c3_i32
  let c0_i32_149 : BitVec 32 := 0#32
  let v500 : BitVec 32 := Scalar.subi v493 c0_i32_149
  let c0_i32_150 : BitVec 32 := 0#32
  let v501 : BitVec 32 := Scalar.maxsi v500 c0_i32_150
  let c256_i32_151 : BitVec 32 := 256#32
  let v502 : BitVec 32 := Scalar.muli v501 c256_i32_151
  v502
def k0_mult8 (i : grid0.Coords) : BitVec 32 :=
  let arg1 : BitVec 32 := BitVec.ofNat 32 (i 1).val
  let c4_i32_145 : BitVec 32 := 4#32
  let v492 : BitVec 32 := Scalar.muli arg1 c4_i32_145
  let c3_i32 : BitVec 32 := 3#32
  let v493 : BitVec 32 := Scalar.addi v492 c3_i32
  let c1_i32_173 : BitVec 32 := 1#32
  let v579 : BitVec 32 := Scalar.subi v493 c1_i32_173
  let c0_i32_174 : BitVec 32 := 0#32
  let v580 : BitVec 32 := Scalar.maxsi v579 c0_i32_174
  let c256_i32_175 : BitVec 32 := 256#32
  let v581 : BitVec 32 := Scalar.muli v580 c256_i32_175
  v581
def k0_mult9 (i : grid0.Coords) (arg6 : BitVec 32) : BitVec 32 :=
  let arg1 : BitVec 32 := BitVec.ofNat 32 (i 1).val
  let c4_i32 : BitVec 32 := 4#32
  let v12 : BitVec 32 := Scalar.muli arg1 c4_i32
  let c0_i32 : BitVec 32 := 0#32
  let v13 : BitVec 32 := Scalar.addi v12 c0_i32
  let v661 : BitVec 32 := Scalar.subi v13 arg6
  let c0_i32_207 : BitVec 32 := 0#32
  let v662 : BitVec 32 := Scalar.maxsi v661 c0_i32_207
  let c256_i32_208 : BitVec 32 := 256#32
  let v663 : BitVec 32 := Scalar.muli v662 c256_i32_208
  v663

def k0_off2 (i : grid0.Coords) (arg6 : BitVec 32) : Fin 2 → Nat :=
  let arg1 : BitVec 32 := BitVec.ofNat 32 (i 1).val
  let c4_i32 : BitVec 32 := 4#32
  let v12 : BitVec 32 := Scalar.muli arg1 c4_i32
  let c0_i32 : BitVec 32 := 0#32
  let v13 : BitVec 32 := Scalar.addi v12 c0_i32
  let v661 : BitVec 32 := Scalar.subi v13 arg6
  let c0_i32_207 : BitVec 32 := 0#32
  let v662 : BitVec 32 := Scalar.maxsi v661 c0_i32_207
  let c256_i32_208 : BitVec 32 := 256#32
  let v663 : BitVec 32 := Scalar.muli v662 c256_i32_208
  let v664 : BitVec 32 := v663
  let v665 : Index := Scalar.indexCast v664
  let c0_209 : Index := 0#32
  ![v665.toNat, 0]

def k0_chk1 (i : grid0.Coords) (arg6 : BitVec 32) : Prop :=
  (256 ∣ (k0_mult9 i arg6).toNat) ∧
  (∀ a, (k0_off2 i arg6) a + S256x128.size a ≤ S8192x128.size a)
theorem k0_mult9_dvd : ∀ (i : grid0.Coords) (arg6 : BitVec 32) (k0_hw1 : k0_chk1 i arg6), 256 ∣ (k0_mult9 i arg6).toNat := fun i arg6 k0_hw1 => k0_hw1.1
theorem k0_off2_inb : ∀ (i : grid0.Coords) (arg6 : BitVec 32) (k0_hw1 : k0_chk1 i arg6), ∀ a, (k0_off2 i arg6) a + S256x128.size a ≤ S8192x128.size a := fun i arg6 k0_hw1 => k0_hw1.2

def k0_mult10 (i : grid0.Coords) (arg6 : BitVec 32) : BitVec 32 :=
  let arg1 : BitVec 32 := BitVec.ofNat 32 (i 1).val
  let c4_i32_46 : BitVec 32 := 4#32
  let v172 : BitVec 32 := Scalar.muli arg1 c4_i32_46
  let c1_i32_47 : BitVec 32 := 1#32
  let v173 : BitVec 32 := Scalar.addi v172 c1_i32_47
  let v661 : BitVec 32 := Scalar.subi v173 arg6
  let c0_i32_207 : BitVec 32 := 0#32
  let v662 : BitVec 32 := Scalar.maxsi v661 c0_i32_207
  let c256_i32_208 : BitVec 32 := 256#32
  let v663 : BitVec 32 := Scalar.muli v662 c256_i32_208
  v663

def k0_off3 (i : grid0.Coords) (arg6 : BitVec 32) : Fin 2 → Nat :=
  let arg1 : BitVec 32 := BitVec.ofNat 32 (i 1).val
  let c4_i32_46 : BitVec 32 := 4#32
  let v172 : BitVec 32 := Scalar.muli arg1 c4_i32_46
  let c1_i32_47 : BitVec 32 := 1#32
  let v173 : BitVec 32 := Scalar.addi v172 c1_i32_47
  let v661 : BitVec 32 := Scalar.subi v173 arg6
  let c0_i32_207 : BitVec 32 := 0#32
  let v662 : BitVec 32 := Scalar.maxsi v661 c0_i32_207
  let c256_i32_208 : BitVec 32 := 256#32
  let v663 : BitVec 32 := Scalar.muli v662 c256_i32_208
  let v664 : BitVec 32 := v663
  let v665 : Index := Scalar.indexCast v664
  let c0_209 : Index := 0#32
  ![v665.toNat, 0]

def k0_chk2 (i : grid0.Coords) (arg6 : BitVec 32) : Prop :=
  (256 ∣ (k0_mult10 i arg6).toNat) ∧
  (∀ a, (k0_off3 i arg6) a + S256x128.size a ≤ S8192x128.size a)
theorem k0_mult10_dvd : ∀ (i : grid0.Coords) (arg6 : BitVec 32) (k0_hw2 : k0_chk2 i arg6), 256 ∣ (k0_mult10 i arg6).toNat := fun i arg6 k0_hw2 => k0_hw2.1
theorem k0_off3_inb : ∀ (i : grid0.Coords) (arg6 : BitVec 32) (k0_hw2 : k0_chk2 i arg6), ∀ a, (k0_off3 i arg6) a + S256x128.size a ≤ S8192x128.size a := fun i arg6 k0_hw2 => k0_hw2.2

def k0_mult11 (i : grid0.Coords) (arg6 : BitVec 32) : BitVec 32 :=
  let arg1 : BitVec 32 := BitVec.ofNat 32 (i 1).val
  let c4_i32_96 : BitVec 32 := 4#32
  let v332 : BitVec 32 := Scalar.muli arg1 c4_i32_96
  let c2_i32 : BitVec 32 := 2#32
  let v333 : BitVec 32 := Scalar.addi v332 c2_i32
  let v661 : BitVec 32 := Scalar.subi v333 arg6
  let c0_i32_207 : BitVec 32 := 0#32
  let v662 : BitVec 32 := Scalar.maxsi v661 c0_i32_207
  let c256_i32_208 : BitVec 32 := 256#32
  let v663 : BitVec 32 := Scalar.muli v662 c256_i32_208
  v663

def k0_off4 (i : grid0.Coords) (arg6 : BitVec 32) : Fin 2 → Nat :=
  let arg1 : BitVec 32 := BitVec.ofNat 32 (i 1).val
  let c4_i32_96 : BitVec 32 := 4#32
  let v332 : BitVec 32 := Scalar.muli arg1 c4_i32_96
  let c2_i32 : BitVec 32 := 2#32
  let v333 : BitVec 32 := Scalar.addi v332 c2_i32
  let v661 : BitVec 32 := Scalar.subi v333 arg6
  let c0_i32_207 : BitVec 32 := 0#32
  let v662 : BitVec 32 := Scalar.maxsi v661 c0_i32_207
  let c256_i32_208 : BitVec 32 := 256#32
  let v663 : BitVec 32 := Scalar.muli v662 c256_i32_208
  let v664 : BitVec 32 := v663
  let v665 : Index := Scalar.indexCast v664
  let c0_209 : Index := 0#32
  ![v665.toNat, 0]

def k0_chk3 (i : grid0.Coords) (arg6 : BitVec 32) : Prop :=
  (256 ∣ (k0_mult11 i arg6).toNat) ∧
  (∀ a, (k0_off4 i arg6) a + S256x128.size a ≤ S8192x128.size a)
theorem k0_mult11_dvd : ∀ (i : grid0.Coords) (arg6 : BitVec 32) (k0_hw3 : k0_chk3 i arg6), 256 ∣ (k0_mult11 i arg6).toNat := fun i arg6 k0_hw3 => k0_hw3.1
theorem k0_off4_inb : ∀ (i : grid0.Coords) (arg6 : BitVec 32) (k0_hw3 : k0_chk3 i arg6), ∀ a, (k0_off4 i arg6) a + S256x128.size a ≤ S8192x128.size a := fun i arg6 k0_hw3 => k0_hw3.2

def k0_mult12 (i : grid0.Coords) (arg6 : BitVec 32) : BitVec 32 :=
  let arg1 : BitVec 32 := BitVec.ofNat 32 (i 1).val
  let c4_i32_145 : BitVec 32 := 4#32
  let v492 : BitVec 32 := Scalar.muli arg1 c4_i32_145
  let c3_i32 : BitVec 32 := 3#32
  let v493 : BitVec 32 := Scalar.addi v492 c3_i32
  let v661 : BitVec 32 := Scalar.subi v493 arg6
  let c0_i32_207 : BitVec 32 := 0#32
  let v662 : BitVec 32 := Scalar.maxsi v661 c0_i32_207
  let c256_i32_208 : BitVec 32 := 256#32
  let v663 : BitVec 32 := Scalar.muli v662 c256_i32_208
  v663

def k0_off5 (i : grid0.Coords) (arg6 : BitVec 32) : Fin 2 → Nat :=
  let arg1 : BitVec 32 := BitVec.ofNat 32 (i 1).val
  let c4_i32_145 : BitVec 32 := 4#32
  let v492 : BitVec 32 := Scalar.muli arg1 c4_i32_145
  let c3_i32 : BitVec 32 := 3#32
  let v493 : BitVec 32 := Scalar.addi v492 c3_i32
  let v661 : BitVec 32 := Scalar.subi v493 arg6
  let c0_i32_207 : BitVec 32 := 0#32
  let v662 : BitVec 32 := Scalar.maxsi v661 c0_i32_207
  let c256_i32_208 : BitVec 32 := 256#32
  let v663 : BitVec 32 := Scalar.muli v662 c256_i32_208
  let v664 : BitVec 32 := v663
  let v665 : Index := Scalar.indexCast v664
  let c0_209 : Index := 0#32
  ![v665.toNat, 0]

def k0_chk4 (i : grid0.Coords) (arg6 : BitVec 32) : Prop :=
  (256 ∣ (k0_mult12 i arg6).toNat) ∧
  (∀ a, (k0_off5 i arg6) a + S256x128.size a ≤ S8192x128.size a)
theorem k0_mult12_dvd : ∀ (i : grid0.Coords) (arg6 : BitVec 32) (k0_hw4 : k0_chk4 i arg6), 256 ∣ (k0_mult12 i arg6).toNat := fun i arg6 k0_hw4 => k0_hw4.1
theorem k0_off5_inb : ∀ (i : grid0.Coords) (arg6 : BitVec 32) (k0_hw4 : k0_chk4 i arg6), ∀ a, (k0_off5 i arg6) a + S256x128.size a ≤ S8192x128.size a := fun i arg6 k0_hw4 => k0_hw4.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel13Ideal.lean ====
variable {F : FTy → Type} [FloatOps F] [Named F]
def κ : String → Option EReal := fun
  | "exit" => some ⊥
  | _ => none
-- ==== Reference13Ideal.lean ====
abbrev S8192x512 : Shape := ⟨2, ![8192, 512]⟩
abbrev S8192x2048 : Shape := ⟨2, ![8192, 2048]⟩
abbrev S1x8192x8x64 : Shape := ⟨4, ![1, 8192, 8, 64]⟩
abbrev S1x8x8192x8192 : Shape := ⟨4, ![1, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8x64x8192 : Shape := ⟨4, ![1, 8, 64, 8192]⟩

abbrev nBuf : Space → Nat
  | .hbm => 69
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2048, .f32⟩
  | .hbm, ⟨3, _⟩ => ⟨S8192x512, .f32⟩
  | .hbm, ⟨4, _⟩ => ⟨S1x8192x8x64, .f32⟩
  | .hbm, ⟨5, _⟩ => ⟨S1x8192x8x64, .f32⟩
  | .hbm, ⟨6, _⟩ => ⟨S1x8192x8x64, .f32⟩
  | .hbm, ⟨7, _⟩ => ⟨S1x8x8192x8192, .f32⟩
  | .hbm, ⟨8, _⟩ => ⟨S_, .f32⟩
  | .hbm, ⟨9, _⟩ => ⟨S1x8x8192x8192, .f32⟩
  | .hbm, ⟨10, _⟩ => ⟨S1x8x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S1x8x8192x8192, .f32⟩
  | .hbm, ⟨18, _⟩ => ⟨S_, .f32⟩
  | .hbm, ⟨19, _⟩ => ⟨S1x8x8192x8192, .f32⟩
  | .hbm, ⟨20, _⟩ => ⟨S1x8x8192x8192, .f32⟩
  | .hbm, ⟨21, _⟩ => ⟨S1x8x8192x8192, .f32⟩
  | .hbm, ⟨22, _⟩ => ⟨S1x8x8192x8192, .f32⟩
  | .hbm, ⟨23, _⟩ => ⟨S1x8x8192x8192, .i1⟩
  | .hbm, ⟨24, _⟩ => ⟨S1x8x8192x8192, .f32⟩
  | .hbm, ⟨25, _⟩ => ⟨S1x8x8192x8192, .f32⟩
  | .hbm, ⟨26, _⟩ => ⟨S1x8x8192x8192, .f32⟩
  | .hbm, ⟨27, _⟩ => ⟨S1x8x8192x8192, .f32⟩
  | .hbm, ⟨28, _⟩ => ⟨S1x8x8192x8192, .f32⟩
  | .hbm, ⟨29, _⟩ => ⟨S1x8x8192x8192, .f32⟩
  | .hbm, ⟨30, _⟩ => ⟨S1x8x8192x8192, .f32⟩
  | .hbm, ⟨31, _⟩ => ⟨S1x8x8192x8192, .f32⟩
  | .hbm, ⟨32, _⟩ => ⟨S1x8x8192x8192, .f32⟩
  | .hbm, ⟨33, _⟩ => ⟨S1x8x8192x8192, .f32⟩
  | .hbm, ⟨34, _⟩ => ⟨S1x8x8192x8192, .f32⟩
  | .hbm, ⟨35, _⟩ => ⟨S_, .f32⟩
  | .hbm, ⟨36, _⟩ => ⟨S1x8x8192x8192, .f32⟩
  | .hbm, ⟨37, _⟩ => ⟨S1x8x8192x8192, .f32⟩
  | .hbm, ⟨38, _⟩ => ⟨S1x8x8192x8192, .f32⟩
  | .hbm, ⟨39, _⟩ => ⟨S1x8x8192x8192, .f32⟩
  | .hbm, ⟨40, _⟩ => ⟨S1x8x8192x8192, .i1⟩
  | .hbm, ⟨41, _⟩ => ⟨S1x8x8192x8192, .f32⟩
  | .hbm, ⟨42, _⟩ => ⟨S1x8x8192x8192, .f32⟩
  | .hbm, ⟨43, _⟩ => ⟨S1x8x8192x8192, .f32⟩
  | .hbm, ⟨44, _⟩ => ⟨S1x8x8192x8192, .f32⟩
  | .hbm, ⟨45, _⟩ => ⟨S1x8x8192x8192, .f32⟩
  | .hbm, ⟨46, _⟩ => ⟨S1x8x8192x8192, .f32⟩
  | .hbm, ⟨47, _⟩ => ⟨S1x8x8192x8192, .f32⟩
  | .hbm, ⟨48, _⟩ => ⟨S1x8x8192x8192, .f32⟩
  | .hbm, ⟨49, _⟩ => ⟨S1x8x8192x8192, .f32⟩
  | .hbm, ⟨50, _⟩ => ⟨S_, .f32⟩
  | .hbm, ⟨51, _⟩ => ⟨S_, .f32⟩
  | .hbm, ⟨52, _⟩ => ⟨S1x8x8192x8192, .i1⟩
  | .hbm, ⟨53, _⟩ => ⟨S1x8x8192x8192, .f32⟩
  | .hbm, ⟨54, _⟩ => ⟨S1x8x8192x8192, .f32⟩
  | .hbm, ⟨55, _⟩ => ⟨S_, .f32⟩
  | .hbm, ⟨56, _⟩ => ⟨S_, .f32⟩
  | .hbm, ⟨57, _⟩ => ⟨S1x8x8192x8192, .f32⟩
  | .hbm, ⟨58, _⟩ => ⟨S1x8x8192x8192, .f32⟩
  | .hbm, ⟨59, _⟩ => ⟨S1x8x8192x8192, .f32⟩
  | .hbm, ⟨60, _⟩ => ⟨S1x8x8192x8192, .f32⟩
  | .hbm, ⟨61, _⟩ => ⟨S_, .f32⟩
  | .hbm, ⟨62, _⟩ => ⟨S_, .f32⟩
  | .hbm, ⟨63, _⟩ => ⟨S1x8x8192x8192, .i1⟩
  | .hbm, ⟨64, _⟩ => ⟨S1x8x8192x8192, .f32⟩
  | .hbm, ⟨65, _⟩ => ⟨S1x8x8192x8192, .f32⟩
  | .hbm, ⟨66, _⟩ => ⟨S1x8x64x8192, .f32⟩
  | .hbm, ⟨67, _⟩ => ⟨S1x8192x8x64, .f32⟩
  | .hbm, ⟨68, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_v14 : Ref sig .tc := ⟨.hbm, 33, rfl⟩
abbrev main_call1_v0 : Ref sig .tc := ⟨.hbm, 34, rfl⟩
abbrev main_call1_call0_cst : Ref sig .tc := ⟨.hbm, 35, rfl⟩
abbrev main_call1_call0_v0 : Ref sig .tc := ⟨.hbm, 36, rfl⟩
abbrev main_call1_call0_v1 : Ref sig .tc := ⟨.hbm, 37, rfl⟩
abbrev main_call1_call0_v2 : Ref sig .tc := ⟨.hbm, 38, rfl⟩
abbrev main_call1_call0_v3 : Ref sig .tc := ⟨.hbm, 39, rfl⟩
abbrev main_call1_call0_v4 : Ref sig .tc := ⟨.hbm, 40, rfl⟩
abbrev main_call1_call0_v5 : Ref sig .tc := ⟨.hbm, 41, rfl⟩
abbrev main_call1_call0_v6 : Ref sig .tc := ⟨.hbm, 42, rfl⟩
abbrev main_call1_call0_v7 : Ref sig .tc := ⟨.hbm, 43, rfl⟩
abbrev main_call1_call0_v8 : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_v11 : Ref sig .tc := ⟨.hbm, 47, rfl⟩
abbrev main_call1_v1 : Ref sig .tc := ⟨.hbm, 48, rfl⟩
abbrev main_v15 : Ref sig .tc := ⟨.hbm, 49, rfl⟩
abbrev main_cst_0 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v16 : Ref sig .tc := ⟨.hbm, 54, rfl⟩
abbrev main_call3_cst : Ref sig .tc := ⟨.hbm, 55, rfl⟩
abbrev main_call3_v0 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩

abbrev nD : Nat := 1
abbrev τ : Topo := Topo.v7x

variable {F : FTy → Type} [FloatOps F]
-- ==== Kernel14.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S1x2048 : Shape := ⟨2, ![1, 2048]⟩
abbrev S2048 : Shape := ⟨1, ![2048]⟩
abbrev S16x32x64 : Shape := ⟨3, ![16, 32, 64]⟩
abbrev S16x2048 : Shape := ⟨2, ![16, 2048]⟩
abbrev S1x512 : Shape := ⟨2, ![1, 512]⟩
abbrev S1x4096 : Shape := ⟨2, ![1, 4096]⟩
abbrev S128x512 : Shape := ⟨2, ![128, 512]⟩
abbrev S_ : Shape := ⟨0, ![]⟩
abbrev S16x512 : Shape := ⟨2, ![16, 512]⟩
abbrev S1x16x1x512 : Shape := ⟨4, ![1, 16, 1, 512]⟩
abbrev S8x16x1x512 : Shape := ⟨4, ![8, 16, 1, 512]⟩
abbrev S128x1024 : Shape := ⟨2, ![128, 1024]⟩
abbrev S1x128x1024 : Shape := ⟨3, ![1, 128, 1024]⟩
abbrev S4x128x1024 : Shape := ⟨3, ![4, 128, 1024]⟩
abbrev S1x128x512 : Shape := ⟨3, ![1, 128, 512]⟩

abbrev nBuf : Space → Nat
  | .hbm => 839
  | .vmem => 15
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x16x64, .f32⟩
  | 6 => ⟨S32x16x64, .f32⟩
  | 7 => ⟨S32x64, .f32⟩
  | 8 => ⟨S32x64, .f32⟩
  | 9 => ⟨S32x64x16, .f32⟩
  | 10 => ⟨S32x64x16, .f32⟩
  | 11 => ⟨S32x16x64, .f32⟩
  | 12 => ⟨S32x16x64, .f32⟩
  | 13 => ⟨S1x2048, .f32⟩
  | 14 => ⟨S1x2048, .f32⟩
  | 15 => ⟨S32x64, .f32⟩
  | 16 => ⟨S2048, .f32⟩
  | 17 => ⟨S1x2048, .f32⟩
  | 18 => ⟨S16x32x64, .f32⟩
  | 19 => ⟨S16x2048, .f32⟩
  | 20 => ⟨S16x32x64, .f32⟩
  | 21 => ⟨S16x2048, .f32⟩
  | 22 => ⟨S16x32x64, .f32⟩
  | 23 => ⟨S16x2048, .f32⟩
  | 24 => ⟨S16x32x64, .f32⟩
  | 25 => ⟨S16x2048, .f32⟩
  | 26 => ⟨S1x512, .f32⟩
  | 27 => ⟨S1x512, .f32⟩
  | 28 => ⟨S1x512, .f32⟩
  | 29 => ⟨S1x512, .f32⟩
  | 30 => ⟨S1x512, .f32⟩
  | 31 => ⟨S1x512, .f32⟩
  | 32 => ⟨S1x512, .f32⟩
  | 33 => ⟨S1x512, .f32⟩
  | 34 => ⟨S1x4096, .f32⟩
  | 35 => ⟨S1x2048, .f32⟩
  | 36 => ⟨S1x2048, .f32⟩
  | 37 => ⟨S32x64, .f32⟩
  | 38 => ⟨S2048, .f32⟩
  | 39 => ⟨S1x2048, .f32⟩
  | 40 => ⟨S16x32x64, .f32⟩
  | 41 => ⟨S16x2048, .f32⟩
  | 42 => ⟨S16x32x64, .f32⟩
  | 43 => ⟨S16x2048, .f32⟩
  | 44 => ⟨S16x32x64, .f32⟩
  | 45 => ⟨S16x2048, .f32⟩
  | 46 => ⟨S16x32x64, .f32⟩
  | 47 => ⟨S16x2048, .f32⟩
  | 48 => ⟨S128x512, .i32⟩
  | 49 => ⟨S_, .i32⟩
  | 50 => ⟨S_, .i32⟩
  | 51 => ⟨S128x512, .i32⟩
  | 52 => ⟨S128x512, .i32⟩
  | 53 => ⟨S128x512, .i32⟩
  | 54 => ⟨S_, .i32⟩
  | 55 => ⟨S128x512, .i32⟩
  | 56 => ⟨S128x512, .i1⟩
  | 57 => ⟨S128x512, .i32⟩
  | 58 => ⟨S128x512, .i32⟩
  | 59 => ⟨S_, .i32⟩
  | 60 => ⟨S128x512, .i32⟩
  | 61 => ⟨S128x512, .i1⟩
  | 62 => ⟨S128x512, .i1⟩
  | 63 => ⟨S_, .i32⟩
  | 64 => ⟨S128x512, .i32⟩
  | 65 => ⟨S128x512, .i32⟩
  | 66 => ⟨S128x512, .i32⟩
  | 67 => ⟨S128x512, .i32⟩
  | 68 => ⟨S_, .i32⟩
  | 69 => ⟨S_, .i32⟩
  | 70 => ⟨S128x512, .i32⟩
  | 71 => ⟨S128x512, .i32⟩
  | 72 => ⟨S128x512, .i32⟩
  | 73 => ⟨S_, .i32⟩
  | 74 => ⟨S128x512, .i32⟩
  | 75 => ⟨S128x512, .i1⟩
  | 76 => ⟨S128x512, .i32⟩
  | 77 => ⟨S128x512, .i32⟩
  | 78 => ⟨S_, .i32⟩
  | 79 => ⟨S128x512, .i32⟩
  | 80 => ⟨S128x512, .i1⟩
  | 81 => ⟨S128x512, .i1⟩
  | 82 => ⟨S_, .i32⟩
  | 83 => ⟨S128x512, .i32⟩
  | 84 => ⟨S128x512, .i32⟩
  | 85 => ⟨S128x512, .i32⟩
  | 86 => ⟨S128x512, .i1⟩
  | 87 => ⟨S16x512, .f32⟩
  | 88 => ⟨S1x16x1x512, .f32⟩
  | 89 => ⟨S8x16x1x512, .f32⟩
  | 90 => ⟨S128x512, .f32⟩
  | 91 => ⟨S_, .f32⟩
  | 92 => ⟨S_, .f32⟩
  | 93 => ⟨S128x512, .f32⟩
  | 94 => ⟨S128x512, .f32⟩
  | 95 => ⟨S128x512, .i32⟩
  | 96 => ⟨S_, .i32⟩
  | 97 => ⟨S_, .i32⟩
  | 98 => ⟨S128x512, .i32⟩
  | 99 => ⟨S128x512, .i32⟩
  | 100 => ⟨S128x512, .i32⟩
  | 101 => ⟨S_, .i32⟩
  | 102 => ⟨S128x512, .i32⟩
  | 103 => ⟨S128x512, .i1⟩
  | 104 => ⟨S128x512, .i32⟩
  | 105 => ⟨S128x512, .i32⟩
  | 106 => ⟨S_, .i32⟩
  | 107 => ⟨S128x512, .i32⟩
  | 108 => ⟨S128x512, .i1⟩
  | 109 => ⟨S128x512, .i1⟩
  | 110 => ⟨S_, .i32⟩
  | 111 => ⟨S128x512, .i32⟩
  | 112 => ⟨S128x512, .i32⟩
  | 113 => ⟨S128x512, .i32⟩
  | 114 => ⟨S128x512, .i32⟩
  | 115 => ⟨S_, .i32⟩
  | 116 => ⟨S_, .i32⟩
  | 117 => ⟨S128x512, .i32⟩
  | 118 => ⟨S128x512, .i32⟩
  | 119 => ⟨S128x512, .i32⟩
  | 120 => ⟨S_, .i32⟩
  | 121 => ⟨S128x512, .i32⟩
  | 122 => ⟨S128x512, .i1⟩
  | 123 => ⟨S128x512, .i32⟩
  | 124 => ⟨S128x512, .i32⟩
  | 125 => ⟨S_, .i32⟩
  | 126 => ⟨S128x512, .i32⟩
  | 127 => ⟨S128x512, .i1⟩
  | _ => ⟨S32x64, .f32⟩

abbrev hbmTy0_1 (i : Nat) : BufTy := match i % 128 with
  | 0 => ⟨S128x512, .i1⟩
  | 1 => ⟨S_, .i32⟩
  | 2 => ⟨S128x512, .i32⟩
  | 3 => ⟨S128x512, .i32⟩
  | 4 => ⟨S128x512, .i32⟩
  | 5 => ⟨S128x512, .i1⟩
  | 6 => ⟨S16x512, .f32⟩
  | 7 => ⟨S1x16x1x512, .f32⟩
  | 8 => ⟨S8x16x1x512, .f32⟩
  | 9 => ⟨S128x512, .f32⟩
  | 10 => ⟨S_, .f32⟩
  | 11 => ⟨S_, .f32⟩
  | 12 => ⟨S128x512, .f32⟩
  | 13 => ⟨S128x512, .f32⟩
  | 14 => ⟨S128x1024, .f32⟩
  | 15 => ⟨S128x512, .i32⟩
  | 16 => ⟨S_, .i32⟩
  | 17 => ⟨S_, .i32⟩
  | 18 => ⟨S128x512, .i32⟩
  | 19 => ⟨S128x512, .i32⟩
  | 20 => ⟨S128x512, .i32⟩
  | 21 => ⟨S_, .i32⟩
  | 22 => ⟨S128x512, .i32⟩
  | 23 => ⟨S128x512, .i1⟩
  | 24 => ⟨S128x512, .i32⟩
  | 25 => ⟨S128x512, .i32⟩
  | 26 => ⟨S_, .i32⟩
  | 27 => ⟨S128x512, .i32⟩
  | 28 => ⟨S128x512, .i1⟩
  | 29 => ⟨S128x512, .i1⟩
  | 30 => ⟨S_, .i32⟩
  | 31 => ⟨S128x512, .i32⟩
  | 32 => ⟨S128x512, .i32⟩
  | 33 => ⟨S128x512, .i32⟩
  | 34 => ⟨S128x512, .i32⟩
  | 35 => ⟨S_, .i32⟩
  | 36 => ⟨S_, .i32⟩
  | 37 => ⟨S128x512, .i32⟩
  | 38 => ⟨S128x512, .i32⟩
  | 39 => ⟨S128x512, .i32⟩
  | 40 => ⟨S_, .i32⟩
  | 41 => ⟨S128x512, .i32⟩
  | 42 => ⟨S128x512, .i1⟩
  | 43 => ⟨S128x512, .i32⟩
  | 44 => ⟨S128x512, .i32⟩
  | 45 => ⟨S_, .i32⟩
  | 46 => ⟨S128x512, .i32⟩
  | 47 => ⟨S128x512, .i1⟩
  | 48 => ⟨S128x512, .i1⟩
  | 49 => ⟨S_, .i32⟩
  | 50 => ⟨S128x512, .i32⟩
  | 51 => ⟨S128x512, .i32⟩
  | 52 => ⟨S128x512, .i32⟩
  | 53 => ⟨S128x512, .i1⟩
  | 54 => ⟨S16x512, .f32⟩
  | 55 => ⟨S1x16x1x512, .f32⟩
  | 56 => ⟨S8x16x1x512, .f32⟩
  | 57 => ⟨S128x512, .f32⟩
  | 58 => ⟨S_, .f32⟩
  | 59 => ⟨S_, .f32⟩
  | 60 => ⟨S128x512, .f32⟩
  | 61 => ⟨S128x512, .f32⟩
  | 62 => ⟨S128x512, .i32⟩
  | 63 => ⟨S_, .i32⟩
  | 64 => ⟨S_, .i32⟩
  | 65 => ⟨S128x512, .i32⟩
  | 66 => ⟨S128x512, .i32⟩
  | 67 => ⟨S128x512, .i32⟩
  | 68 => ⟨S_, .i32⟩
  | 69 => ⟨S128x512, .i32⟩
  | 70 => ⟨S128x512, .i1⟩
  | 71 => ⟨S128x512, .i32⟩
  | 72 => ⟨S128x512, .i32⟩
  | 73 => ⟨S_, .i32⟩
  | 74 => ⟨S128x512, .i32⟩
  | 75 => ⟨S128x512, .i1⟩
  | 76 => ⟨S128x512, .i1⟩
  | 77 => ⟨S_, .i32⟩
  | 78 => ⟨S128x512, .i32⟩
  | 79 => ⟨S128x512, .i32⟩
  | 80 => ⟨S128x512, .i32⟩
  | 81 => ⟨S128x512, .i32⟩
  | 82 => ⟨S_, .i32⟩
  | 83 => ⟨S_, .i32⟩
  | 84 => ⟨S128x512, .i32⟩
  | 85 => ⟨S128x512, .i32⟩
  | 86 => ⟨S128x512, .i32⟩
  | 87 => ⟨S_, .i32⟩
  | 88 => ⟨S128x512, .i32⟩
  | 89 => ⟨S128x512, .i1⟩
  | 90 => ⟨S128x512, .i32⟩
  | 91 => ⟨S128x512, .i32⟩
  | 92 => ⟨S_, .i32⟩
  | 93 => ⟨S128x512, .i32⟩
  | 94 => ⟨S128x512, .i1⟩
  | 95 => ⟨S128x512, .i1⟩
  | 96 => ⟨S_, .i32⟩
  | 97 => ⟨S128x512, .i32⟩
  | 98 => ⟨S128x512, .i32⟩
  | 99 => ⟨S128x512, .i32⟩
  | 100 => ⟨S128x512, .i1⟩
  | 101 => ⟨S16x512, .f32⟩
  | 102 => ⟨S1x16x1x512, .f32⟩
  | 103 => ⟨S8x16x1x512, .f32⟩
  | 104 => ⟨S128x512, .f32⟩
  | 105 => ⟨S_, .f32⟩
  | 106 => ⟨S_, .f32⟩
  | 107 => ⟨S128x512, .f32⟩
  | 108 => ⟨S128x512, .f32⟩
  | 109 => ⟨S128x1024, .f32⟩
  | 110 => ⟨S128x512, .i32⟩
  | 111 => ⟨S_, .i32⟩
  | 112 => ⟨S_, .i32⟩
  | 113 => ⟨S128x512, .i32⟩
  | 114 => ⟨S128x512, .i32⟩
  | 115 => ⟨S128x512, .i32⟩
  | 116 => ⟨S_, .i32⟩
  | 117 => ⟨S128x512, .i32⟩
  | 118 => ⟨S128x512, .i1⟩
  | 119 => ⟨S128x512, .i32⟩
  | 120 => ⟨S128x512, .i32⟩
  | 121 => ⟨S_, .i32⟩
  | 122 => ⟨S128x512, .i32⟩
  | 123 => ⟨S128x512, .i1⟩
  | 124 => ⟨S128x512, .i1⟩
  | 125 => ⟨S_, .i32⟩
  | 126 => ⟨S128x512, .i32⟩
  | 127 => ⟨S128x512, .i32⟩
  | _ => ⟨S32x64, .f32⟩

abbrev hbmTy0_2 (i : Nat) : BufTy := match i % 128 with
  | 0 => ⟨S128x512, .i32⟩
  | 1 => ⟨S128x512, .i32⟩
  | 2 => ⟨S_, .i32⟩
  | 3 => ⟨S_, .i32⟩
  | 4 => ⟨S128x512, .i32⟩
  | 5 => ⟨S128x512, .i32⟩
  | 6 => ⟨S128x512, .i32⟩
  | 7 => ⟨S_, .i32⟩
  | 8 => ⟨S128x512, .i32⟩
  | 9 => ⟨S128x512, .i1⟩
  | 10 => ⟨S128x512, .i32⟩
  | 11 => ⟨S128x512, .i32⟩
  | 12 => ⟨S_, .i32⟩
  | 13 => ⟨S128x512, .i32⟩
  | 14 => ⟨S128x512, .i1⟩
  | 15 => ⟨S128x512, .i1⟩
  | 16 => ⟨S_, .i32⟩
  | 17 => ⟨S128x512, .i32⟩
  | 18 => ⟨S128x512, .i32⟩
  | 19 => ⟨S128x512, .i32⟩
  | 20 => ⟨S128x512, .i1⟩
  | 21 => ⟨S16x512, .f32⟩
  | 22 => ⟨S1x16x1x512, .f32⟩
  | 23 => ⟨S8x16x1x512, .f32⟩
  | 24 => ⟨S128x512, .f32⟩
  | 25 => ⟨S_, .f32⟩
  | 26 => ⟨S_, .f32⟩
  | 27 => ⟨S128x512, .f32⟩
  | 28 => ⟨S128x512, .f32⟩
  | 29 => ⟨S128x512, .i32⟩
  | 30 => ⟨S_, .i32⟩
  | 31 => ⟨S_, .i32⟩
  | 32 => ⟨S128x512, .i32⟩
  | 33 => ⟨S128x512, .i32⟩
  | 34 => ⟨S128x512, .i32⟩
  | 35 => ⟨S_, .i32⟩
  | 36 => ⟨S128x512, .i32⟩
  | 37 => ⟨S128x512, .i1⟩
  | 38 => ⟨S128x512, .i32⟩
  | 39 => ⟨S128x512, .i32⟩
  | 40 => ⟨S_, .i32⟩
  | 41 => ⟨S128x512, .i32⟩
  | 42 => ⟨S128x512, .i1⟩
  | 43 => ⟨S128x512, .i1⟩
  | 44 => ⟨S_, .i32⟩
  | 45 => ⟨S128x512, .i32⟩
  | 46 => ⟨S128x512, .i32⟩
  | 47 => ⟨S128x512, .i32⟩
  | 48 => ⟨S128x512, .i32⟩
  | 49 => ⟨S_, .i32⟩
  | 50 => ⟨S_, .i32⟩
  | 51 => ⟨S128x512, .i32⟩
  | 52 => ⟨S128x512, .i32⟩
  | 53 => ⟨S128x512, .i32⟩
  | 54 => ⟨S_, .i32⟩
  | 55 => ⟨S128x512, .i32⟩
  | 56 => ⟨S128x512, .i1⟩
  | 57 => ⟨S128x512, .i32⟩
  | 58 => ⟨S128x512, .i32⟩
  | 59 => ⟨S_, .i32⟩
  | 60 => ⟨S128x512, .i32⟩
  | 61 => ⟨S128x512, .i1⟩
  | 62 => ⟨S128x512, .i1⟩
  | 63 => ⟨S_, .i32⟩
  | 64 => ⟨S128x512, .i32⟩
  | 65 => ⟨S128x512, .i32⟩
  | 66 => ⟨S128x512, .i32⟩
  | 67 => ⟨S128x512, .i1⟩
  | 68 => ⟨S16x512, .f32⟩
  | 69 => ⟨S1x16x1x512, .f32⟩
  | 70 => ⟨S8x16x1x512, .f32⟩
  | 71 => ⟨S128x512, .f32⟩
  | 72 => ⟨S_, .f32⟩
  | 73 => ⟨S_, .f32⟩
  | 74 => ⟨S128x512, .f32⟩
  | 75 => ⟨S128x512, .f32⟩
  | 76 => ⟨S128x1024, .f32⟩
  | 77 => ⟨S128x512, .i32⟩
  | 78 => ⟨S_, .i32⟩
  | 79 => ⟨S_, .i32⟩
  | 80 => ⟨S128x512, .i32⟩
  | 81 => ⟨S128x512, .i32⟩
  | 82 => ⟨S128x512, .i32⟩
  | 83 => ⟨S_, .i32⟩
  | 84 => ⟨S128x512, .i32⟩
  | 85 => ⟨S128x512, .i1⟩
  | 86 => ⟨S128x512, .i32⟩
  | 87 => ⟨S128x512, .i32⟩
  | 88 => ⟨S_, .i32⟩
  | 89 => ⟨S128x512, .i32⟩
  | 90 => ⟨S128x512, .i1⟩
  | 91 => ⟨S128x512, .i1⟩
  | 92 => ⟨S_, .i32⟩
  | 93 => ⟨S128x512, .i32⟩
  | 94 => ⟨S128x512, .i32⟩
  | 95 => ⟨S128x512, .i32⟩
  | 96 => ⟨S128x512, .i32⟩
  | 97 => ⟨S_, .i32⟩
  | 98 => ⟨S_, .i32⟩
  | 99 => ⟨S128x512, .i32⟩
  | 100 => ⟨S128x512, .i32⟩
  | 101 => ⟨S128x512, .i32⟩
  | 102 => ⟨S_, .i32⟩
  | 103 => ⟨S128x512, .i32⟩
  | 104 => ⟨S128x512, .i1⟩
  | 105 => ⟨S128x512, .i32⟩
  | 106 => ⟨S128x512, .i32⟩
  | 107 => ⟨S_, .i32⟩
  | 108 => ⟨S128x512, .i32⟩
  | 109 => ⟨S128x512, .i1⟩
  | 110 => ⟨S128x512, .i1⟩
  | 111 => ⟨S_, .i32⟩
  | 112 => ⟨S128x512, .i32⟩
  | 113 => ⟨S128x512, .i32⟩
  | 114 => ⟨S128x512, .i32⟩
  | 115 => ⟨S128x512, .i1⟩
  | 116 => ⟨S16x512, .f32⟩
  | 117 => ⟨S1x16x1x512, .f32⟩
  | 118 => ⟨S8x16x1x512, .f32⟩
  | 119 => ⟨S128x512, .f32⟩
  | 120 => ⟨S_, .f32⟩
  | 121 => ⟨S_, .f32⟩
  | 122 => ⟨S128x512, .f32⟩
  | 123 => ⟨S128x512, .f32⟩
  | 124 => ⟨S128x512, .i32⟩
  | 125 => ⟨S_, .i32⟩
  | 126 => ⟨S_, .i32⟩
  | 127 => ⟨S128x512, .i32⟩
  | _ => ⟨S32x64, .f32⟩

abbrev hbmTy0_3 (i : Nat) : BufTy := match i % 128 with
  | 0 => ⟨S128x512, .i32⟩
  | 1 => ⟨S128x512, .i32⟩
  | 2 => ⟨S_, .i32⟩
  | 3 => ⟨S128x512, .i32⟩
  | 4 => ⟨S128x512, .i1⟩
  | 5 => ⟨S128x512, .i32⟩
  | 6 => ⟨S128x512, .i32⟩
  | 7 => ⟨S_, .i32⟩
  | 8 => ⟨S128x512, .i32⟩
  | 9 => ⟨S128x512, .i1⟩
  | 10 => ⟨S128x512, .i1⟩
  | 11 => ⟨S_, .i32⟩
  | 12 => ⟨S128x512, .i32⟩
  | 13 => ⟨S128x512, .i32⟩
  | 14 => ⟨S128x512, .i32⟩
  | 15 => ⟨S128x512, .i32⟩
  | 16 => ⟨S_, .i32⟩
  | 17 => ⟨S_, .i32⟩
  | 18 => ⟨S128x512, .i32⟩
  | 19 => ⟨S128x512, .i32⟩
  | 20 => ⟨S128x512, .i32⟩
  | 21 => ⟨S_, .i32⟩
  | 22 => ⟨S128x512, .i32⟩
  | 23 => ⟨S128x512, .i1⟩
  | 24 => ⟨S128x512, .i32⟩
  | 25 => ⟨S128x512, .i32⟩
  | 26 => ⟨S_, .i32⟩
  | 27 => ⟨S128x512, .i32⟩
  | 28 => ⟨S128x512, .i1⟩
  | 29 => ⟨S128x512, .i1⟩
  | 30 => ⟨S_, .i32⟩
  | 31 => ⟨S128x512, .i32⟩
  | 32 => ⟨S128x512, .i32⟩
  | 33 => ⟨S128x512, .i32⟩
  | 34 => ⟨S128x512, .i1⟩
  | 35 => ⟨S16x512, .f32⟩
  | 36 => ⟨S1x16x1x512, .f32⟩
  | 37 => ⟨S8x16x1x512, .f32⟩
  | 38 => ⟨S128x512, .f32⟩
  | 39 => ⟨S_, .f32⟩
  | 40 => ⟨S_, .f32⟩
  | 41 => ⟨S128x512, .f32⟩
  | 42 => ⟨S128x512, .f32⟩
  | 43 => ⟨S128x1024, .f32⟩
  | 44 => ⟨S1x128x1024, .f32⟩
  | 45 => ⟨S1x128x1024, .f32⟩
  | 46 => ⟨S1x128x1024, .f32⟩
  | 47 => ⟨S1x128x1024, .f32⟩
  | 48 => ⟨S4x128x1024, .f32⟩
  | 49 => ⟨S16x2048, .f32⟩
  | 50 => ⟨S128x512, .i32⟩
  | 51 => ⟨S_, .i32⟩
  | 52 => ⟨S_, .i32⟩
  | 53 => ⟨S128x512, .i32⟩
  | 54 => ⟨S128x512, .i32⟩
  | 55 => ⟨S128x512, .i32⟩
  | 56 => ⟨S_, .i32⟩
  | 57 => ⟨S128x512, .i32⟩
  | 58 => ⟨S128x512, .i1⟩
  | 59 => ⟨S128x512, .i32⟩
  | 60 => ⟨S128x512, .i32⟩
  | 61 => ⟨S_, .i32⟩
  | 62 => ⟨S128x512, .i32⟩
  | 63 => ⟨S128x512, .i1⟩
  | 64 => ⟨S128x512, .i1⟩
  | 65 => ⟨S_, .i32⟩
  | 66 => ⟨S128x512, .i32⟩
  | 67 => ⟨S128x512, .i32⟩
  | 68 => ⟨S128x512, .i32⟩
  | 69 => ⟨S128x512, .i32⟩
  | 70 => ⟨S_, .i32⟩
  | 71 => ⟨S_, .i32⟩
  | 72 => ⟨S128x512, .i32⟩
  | 73 => ⟨S128x512, .i32⟩
  | 74 => ⟨S128x512, .i32⟩
  | 75 => ⟨S_, .i32⟩
  | 76 => ⟨S128x512, .i32⟩
  | 77 => ⟨S128x512, .i1⟩
  | 78 => ⟨S128x512, .i32⟩
  | 79 => ⟨S128x512, .i32⟩
  | 80 => ⟨S_, .i32⟩
  | 81 => ⟨S128x512, .i32⟩
  | 82 => ⟨S128x512, .i1⟩
  | 83 => ⟨S128x512, .i1⟩
  | 84 => ⟨S_, .i32⟩
  | 85 => ⟨S128x512, .i32⟩
  | 86 => ⟨S128x512, .i32⟩
  | 87 => ⟨S128x512, .i32⟩
  | 88 => ⟨S128x512, .i1⟩
  | 89 => ⟨S16x512, .f32⟩
  | 90 => ⟨S1x16x1x512, .f32⟩
  | 91 => ⟨S8x16x1x512, .f32⟩
  | 92 => ⟨S128x512, .f32⟩
  | 93 => ⟨S_, .f32⟩
  | 94 => ⟨S_, .f32⟩
  | 95 => ⟨S128x512, .f32⟩
  | 96 => ⟨S128x512, .f32⟩
  | 97 => ⟨S128x512, .i32⟩
  | 98 => ⟨S_, .i32⟩
  | 99 => ⟨S_, .i32⟩
  | 100 => ⟨S128x512, .i32⟩
  | 101 => ⟨S128x512, .i32⟩
  | 102 => ⟨S128x512, .i32⟩
  | 103 => ⟨S_, .i32⟩
  | 104 => ⟨S128x512, .i32⟩
  | 105 => ⟨S128x512, .i1⟩
  | 106 => ⟨S128x512, .i32⟩
  | 107 => ⟨S128x512, .i32⟩
  | 108 => ⟨S_, .i32⟩
  | 109 => ⟨S128x512, .i32⟩
  | 110 => ⟨S128x512, .i1⟩
  | 111 => ⟨S128x512, .i1⟩
  | 112 => ⟨S_, .i32⟩
  | 113 => ⟨S128x512, .i32⟩
  | 114 => ⟨S128x512, .i32⟩
  | 115 => ⟨S128x512, .i32⟩
  | 116 => ⟨S128x512, .i32⟩
  | 117 => ⟨S_, .i32⟩
  | 118 => ⟨S_, .i32⟩
  | 119 => ⟨S128x512, .i32⟩
  | 120 => ⟨S128x512, .i32⟩
  | 121 => ⟨S128x512, .i32⟩
  | 122 => ⟨S_, .i32⟩
  | 123 => ⟨S128x512, .i32⟩
  | 124 => ⟨S128x512, .i1⟩
  | 125 => ⟨S128x512, .i32⟩
  | 126 => ⟨S128x512, .i32⟩
  | 127 => ⟨S_, .i32⟩
  | _ => ⟨S32x64, .f32⟩

abbrev hbmTy0_4 (i : Nat) : BufTy := match i % 128 with
  | 0 => ⟨S128x512, .i32⟩
  | 1 => ⟨S128x512, .i1⟩
  | 2 => ⟨S128x512, .i1⟩
  | 3 => ⟨S_, .i32⟩
  | 4 => ⟨S128x512, .i32⟩
  | 5 => ⟨S128x512, .i32⟩
  | 6 => ⟨S128x512, .i32⟩
  | 7 => ⟨S128x512, .i1⟩
  | 8 => ⟨S16x512, .f32⟩
  | 9 => ⟨S1x16x1x512, .f32⟩
  | 10 => ⟨S8x16x1x512, .f32⟩
  | 11 => ⟨S128x512, .f32⟩
  | 12 => ⟨S_, .f32⟩
  | 13 => ⟨S_, .f32⟩
  | 14 => ⟨S128x512, .f32⟩
  | 15 => ⟨S128x512, .f32⟩
  | 16 => ⟨S128x1024, .f32⟩
  | 17 => ⟨S128x512, .i32⟩
  | 18 => ⟨S_, .i32⟩
  | 19 => ⟨S_, .i32⟩
  | 20 => ⟨S128x512, .i32⟩
  | 21 => ⟨S128x512, .i32⟩
  | 22 => ⟨S128x512, .i32⟩
  | 23 => ⟨S_, .i32⟩
  | 24 => ⟨S128x512, .i32⟩
  | 25 => ⟨S128x512, .i1⟩
  | 26 => ⟨S128x512, .i32⟩
  | 27 => ⟨S128x512, .i32⟩
  | 28 => ⟨S_, .i32⟩
  | 29 => ⟨S128x512, .i32⟩
  | 30 => ⟨S128x512, .i1⟩
  | 31 => ⟨S128x512, .i1⟩
  | 32 => ⟨S_, .i32⟩
  | 33 => ⟨S128x512, .i32⟩
  | 34 => ⟨S128x512, .i32⟩
  | 35 => ⟨S128x512, .i32⟩
  | 36 => ⟨S128x512, .i32⟩
  | 37 => ⟨S_, .i32⟩
  | 38 => ⟨S_, .i32⟩
  | 39 => ⟨S128x512, .i32⟩
  | 40 => ⟨S128x512, .i32⟩
  | 41 => ⟨S128x512, .i32⟩
  | 42 => ⟨S_, .i32⟩
  | 43 => ⟨S128x512, .i32⟩
  | 44 => ⟨S128x512, .i1⟩
  | 45 => ⟨S128x512, .i32⟩
  | 46 => ⟨S128x512, .i32⟩
  | 47 => ⟨S_, .i32⟩
  | 48 => ⟨S128x512, .i32⟩
  | 49 => ⟨S128x512, .i1⟩
  | 50 => ⟨S128x512, .i1⟩
  | 51 => ⟨S_, .i32⟩
  | 52 => ⟨S128x512, .i32⟩
  | 53 => ⟨S128x512, .i32⟩
  | 54 => ⟨S128x512, .i32⟩
  | 55 => ⟨S128x512, .i1⟩
  | 56 => ⟨S16x512, .f32⟩
  | 57 => ⟨S1x16x1x512, .f32⟩
  | 58 => ⟨S8x16x1x512, .f32⟩
  | 59 => ⟨S128x512, .f32⟩
  | 60 => ⟨S_, .f32⟩
  | 61 => ⟨S_, .f32⟩
  | 62 => ⟨S128x512, .f32⟩
  | 63 => ⟨S128x512, .f32⟩
  | 64 => ⟨S128x512, .i32⟩
  | 65 => ⟨S_, .i32⟩
  | 66 => ⟨S_, .i32⟩
  | 67 => ⟨S128x512, .i32⟩
  | 68 => ⟨S128x512, .i32⟩
  | 69 => ⟨S128x512, .i32⟩
  | 70 => ⟨S_, .i32⟩
  | 71 => ⟨S128x512, .i32⟩
  | 72 => ⟨S128x512, .i1⟩
  | 73 => ⟨S128x512, .i32⟩
  | 74 => ⟨S128x512, .i32⟩
  | 75 => ⟨S_, .i32⟩
  | 76 => ⟨S128x512, .i32⟩
  | 77 => ⟨S128x512, .i1⟩
  | 78 => ⟨S128x512, .i1⟩
  | 79 => ⟨S_, .i32⟩
  | 80 => ⟨S128x512, .i32⟩
  | 81 => ⟨S128x512, .i32⟩
  | 82 => ⟨S128x512, .i32⟩
  | 83 => ⟨S128x512, .i32⟩
  | 84 => ⟨S_, .i32⟩
  | 85 => ⟨S_, .i32⟩
  | 86 => ⟨S128x512, .i32⟩
  | 87 => ⟨S128x512, .i32⟩
  | 88 => ⟨S128x512, .i32⟩
  | 89 => ⟨S_, .i32⟩
  | 90 => ⟨S128x512, .i32⟩
  | 91 => ⟨S128x512, .i1⟩
  | 92 => ⟨S128x512, .i32⟩
  | 93 => ⟨S128x512, .i32⟩
  | 94 => ⟨S_, .i32⟩
  | 95 => ⟨S128x512, .i32⟩
  | 96 => ⟨S128x512, .i1⟩
  | 97 => ⟨S128x512, .i1⟩
  | 98 => ⟨S_, .i32⟩
  | 99 => ⟨S128x512, .i32⟩
  | 100 => ⟨S128x512, .i32⟩
  | 101 => ⟨S128x512, .i32⟩
  | 102 => ⟨S128x512, .i1⟩
  | 103 => ⟨S16x512, .f32⟩
  | 104 => ⟨S1x16x1x512, .f32⟩
  | 105 => ⟨S8x16x1x512, .f32⟩
  | 106 => ⟨S128x512, .f32⟩
  | 107 => ⟨S_, .f32⟩
  | 108 => ⟨S_, .f32⟩
  | 109 => ⟨S128x512, .f32⟩
  | 110 => ⟨S128x512, .f32⟩
  | 111 => ⟨S128x1024, .f32⟩
  | 112 => ⟨S128x512, .i32⟩
  | 113 => ⟨S_, .i32⟩
  | 114 => ⟨S_, .i32⟩
  | 115 => ⟨S128x512, .i32⟩
  | 116 => ⟨S128x512, .i32⟩
  | 117 => ⟨S128x512, .i32⟩
  | 118 => ⟨S_, .i32⟩
  | 119 => ⟨S128x512, .i32⟩
  | 120 => ⟨S128x512, .i1⟩
  | 121 => ⟨S128x512, .i32⟩
  | 122 => ⟨S128x512, .i32⟩
  | 123 => ⟨S_, .i32⟩
  | 124 => ⟨S128x512, .i32⟩
  | 125 => ⟨S128x512, .i1⟩
  | 126 => ⟨S128x512, .i1⟩
  | 127 => ⟨S_, .i32⟩
  | _ => ⟨S32x64, .f32⟩

abbrev hbmTy0_5 (i : Nat) : BufTy := match i % 128 with
  | 0 => ⟨S128x512, .i32⟩
  | 1 => ⟨S128x512, .i32⟩
  | 2 => ⟨S128x512, .i32⟩
  | 3 => ⟨S128x512, .i32⟩
  | 4 => ⟨S_, .i32⟩
  | 5 => ⟨S_, .i32⟩
  | 6 => ⟨S128x512, .i32⟩
  | 7 => ⟨S128x512, .i32⟩
  | 8 => ⟨S128x512, .i32⟩
  | 9 => ⟨S_, .i32⟩
  | 10 => ⟨S128x512, .i32⟩
  | 11 => ⟨S128x512, .i1⟩
  | 12 => ⟨S128x512, .i32⟩
  | 13 => ⟨S128x512, .i32⟩
  | 14 => ⟨S_, .i32⟩
  | 15 => ⟨S128x512, .i32⟩
  | 16 => ⟨S128x512, .i1⟩
  | 17 => ⟨S128x512, .i1⟩
  | 18 => ⟨S_, .i32⟩
  | 19 => ⟨S128x512, .i32⟩
  | 20 => ⟨S128x512, .i32⟩
  | 21 => ⟨S128x512, .i32⟩
  | 22 => ⟨S128x512, .i1⟩
  | 23 => ⟨S16x512, .f32⟩
  | 24 => ⟨S1x16x1x512, .f32⟩
  | 25 => ⟨S8x16x1x512, .f32⟩
  | 26 => ⟨S128x512, .f32⟩
  | 27 => ⟨S_, .f32⟩
  | 28 => ⟨S_, .f32⟩
  | 29 => ⟨S128x512, .f32⟩
  | 30 => ⟨S128x512, .f32⟩
  | 31 => ⟨S128x512, .i32⟩
  | 32 => ⟨S_, .i32⟩
  | 33 => ⟨S_, .i32⟩
  | 34 => ⟨S128x512, .i32⟩
  | 35 => ⟨S128x512, .i32⟩
  | 36 => ⟨S128x512, .i32⟩
  | 37 => ⟨S_, .i32⟩
  | 38 => ⟨S128x512, .i32⟩
  | 39 => ⟨S128x512, .i1⟩
  | 40 => ⟨S128x512, .i32⟩
  | 41 => ⟨S128x512, .i32⟩
  | 42 => ⟨S_, .i32⟩
  | 43 => ⟨S128x512, .i32⟩
  | 44 => ⟨S128x512, .i1⟩
  | 45 => ⟨S128x512, .i1⟩
  | 46 => ⟨S_, .i32⟩
  | 47 => ⟨S128x512, .i32⟩
  | 48 => ⟨S128x512, .i32⟩
  | 49 => ⟨S128x512, .i32⟩
  | 50 => ⟨S128x512, .i32⟩
  | 51 => ⟨S_, .i32⟩
  | 52 => ⟨S_, .i32⟩
  | 53 => ⟨S128x512, .i32⟩
  | 54 => ⟨S128x512, .i32⟩
  | 55 => ⟨S128x512, .i32⟩
  | 56 => ⟨S_, .i32⟩
  | 57 => ⟨S128x512, .i32⟩
  | 58 => ⟨S128x512, .i1⟩
  | 59 => ⟨S128x512, .i32⟩
  | 60 => ⟨S128x512, .i32⟩
  | 61 => ⟨S_, .i32⟩
  | 62 => ⟨S128x512, .i32⟩
  | 63 => ⟨S128x512, .i1⟩
  | 64 => ⟨S128x512, .i1⟩
  | 65 => ⟨S_, .i32⟩
  | 66 => ⟨S128x512, .i32⟩
  | 67 => ⟨S128x512, .i32⟩
  | 68 => ⟨S128x512, .i32⟩
  | 69 => ⟨S128x512, .i1⟩
  | 70 => ⟨S16x512, .f32⟩
  | 71 => ⟨S1x16x1x512, .f32⟩
  | 72 => ⟨S8x16x1x512, .f32⟩
  | 73 => ⟨S128x512, .f32⟩
  | 74 => ⟨S_, .f32⟩
  | 75 => ⟨S_, .f32⟩
  | 76 => ⟨S128x512, .f32⟩
  | 77 => ⟨S128x512, .f32⟩
  | 78 => ⟨S128x1024, .f32⟩
  | 79 => ⟨S128x512, .i32⟩
  | 80 => ⟨S_, .i32⟩
  | 81 => ⟨S_, .i32⟩
  | 82 => ⟨S128x512, .i32⟩
  | 83 => ⟨S128x512, .i32⟩
  | 84 => ⟨S128x512, .i32⟩
  | 85 => ⟨S_, .i32⟩
  | 86 => ⟨S128x512, .i32⟩
  | 87 => ⟨S128x512, .i1⟩
  | 88 => ⟨S128x512, .i32⟩
  | 89 => ⟨S128x512, .i32⟩
  | 90 => ⟨S_, .i32⟩
  | 91 => ⟨S128x512, .i32⟩
  | 92 => ⟨S128x512, .i1⟩
  | 93 => ⟨S128x512, .i1⟩
  | 94 => ⟨S_, .i32⟩
  | 95 => ⟨S128x512, .i32⟩
  | 96 => ⟨S128x512, .i32⟩
  | 97 => ⟨S128x512, .i32⟩
  | 98 => ⟨S128x512, .i32⟩
  | 99 => ⟨S_, .i32⟩
  | 100 => ⟨S_, .i32⟩
  | 101 => ⟨S128x512, .i32⟩
  | 102 => ⟨S128x512, .i32⟩
  | 103 => ⟨S128x512, .i32⟩
  | 104 => ⟨S_, .i32⟩
  | 105 => ⟨S128x512, .i32⟩
  | 106 => ⟨S128x512, .i1⟩
  | 107 => ⟨S128x512, .i32⟩
  | 108 => ⟨S128x512, .i32⟩
  | 109 => ⟨S_, .i32⟩
  | 110 => ⟨S128x512, .i32⟩
  | 111 => ⟨S128x512, .i1⟩
  | 112 => ⟨S128x512, .i1⟩
  | 113 => ⟨S_, .i32⟩
  | 114 => ⟨S128x512, .i32⟩
  | 115 => ⟨S128x512, .i32⟩
  | 116 => ⟨S128x512, .i32⟩
  | 117 => ⟨S128x512, .i1⟩
  | 118 => ⟨S16x512, .f32⟩
  | 119 => ⟨S1x16x1x512, .f32⟩
  | 120 => ⟨S8x16x1x512, .f32⟩
  | 121 => ⟨S128x512, .f32⟩
  | 122 => ⟨S_, .f32⟩
  | 123 => ⟨S_, .f32⟩
  | 124 => ⟨S128x512, .f32⟩
  | 125 => ⟨S128x512, .f32⟩
  | 126 => ⟨S128x512, .i32⟩
  | 127 => ⟨S_, .i32⟩
  | _ => ⟨S32x64, .f32⟩

abbrev hbmTy0_6 (i : Nat) : BufTy := match i % 128 with
  | 0 => ⟨S_, .i32⟩
  | 1 => ⟨S128x512, .i32⟩
  | 2 => ⟨S128x512, .i32⟩
  | 3 => ⟨S128x512, .i32⟩
  | 4 => ⟨S_, .i32⟩
  | 5 => ⟨S128x512, .i32⟩
  | 6 => ⟨S128x512, .i1⟩
  | 7 => ⟨S128x512, .i32⟩
  | 8 => ⟨S128x512, .i32⟩
  | 9 => ⟨S_, .i32⟩
  | 10 => ⟨S128x512, .i32⟩
  | 11 => ⟨S128x512, .i1⟩
  | 12 => ⟨S128x512, .i1⟩
  | 13 => ⟨S_, .i32⟩
  | 14 => ⟨S128x512, .i32⟩
  | 15 => ⟨S128x512, .i32⟩
  | 16 => ⟨S128x512, .i32⟩
  | 17 => ⟨S128x512, .i32⟩
  | 18 => ⟨S_, .i32⟩
  | 19 => ⟨S_, .i32⟩
  | 20 => ⟨S128x512, .i32⟩
  | 21 => ⟨S128x512, .i32⟩
  | 22 => ⟨S128x512, .i32⟩
  | 23 => ⟨S_, .i32⟩
  | 24 => ⟨S128x512, .i32⟩
  | 25 => ⟨S128x512, .i1⟩
  | 26 => ⟨S128x512, .i32⟩
  | 27 => ⟨S128x512, .i32⟩
  | 28 => ⟨S_, .i32⟩
  | 29 => ⟨S128x512, .i32⟩
  | 30 => ⟨S128x512, .i1⟩
  | 31 => ⟨S128x512, .i1⟩
  | 32 => ⟨S_, .i32⟩
  | 33 => ⟨S128x512, .i32⟩
  | 34 => ⟨S128x512, .i32⟩
  | 35 => ⟨S128x512, .i32⟩
  | 36 => ⟨S128x512, .i1⟩
  | 37 => ⟨S16x512, .f32⟩
  | 38 => ⟨S1x16x1x512, .f32⟩
  | 39 => ⟨S8x16x1x512, .f32⟩
  | 40 => ⟨S128x512, .f32⟩
  | 41 => ⟨S_, .f32⟩
  | 42 => ⟨S_, .f32⟩
  | 43 => ⟨S128x512, .f32⟩
  | 44 => ⟨S128x512, .f32⟩
  | 45 => ⟨S128x1024, .f32⟩
  | 46 => ⟨S1x128x1024, .f32⟩
  | 47 => ⟨S1x128x1024, .f32⟩
  | 48 => ⟨S1x128x1024, .f32⟩
  | 49 => ⟨S1x128x1024, .f32⟩
  | 50 => ⟨S4x128x1024, .f32⟩
  | 51 => ⟨S1x2048, .f32⟩
  | 52 => ⟨S1x2048, .f32⟩
  | 53 => ⟨S1x2048, .f32⟩
  | 54 => ⟨S16x2048, .f32⟩
  | 55 => ⟨S16x2048, .f32⟩
  | 56 => ⟨S16x2048, .f32⟩
  | 57 => ⟨S16x2048, .f32⟩
  | 58 => ⟨S32x64, .f32⟩
  | 59 => ⟨S32x64, .f32⟩
  | 60 => ⟨S32x64, .f32⟩
  | 61 => ⟨S_, .f32⟩
  | 62 => ⟨S32, .f32⟩
  | 63 => ⟨S16x32x64, .f32⟩
  | 64 => ⟨S32x64x16, .f32⟩
  | 65 => ⟨S16x32x64, .f32⟩
  | 66 => ⟨S32x64x16, .f32⟩
  | 67 => ⟨S16x32x64, .f32⟩
  | 68 => ⟨S32x16x64, .f32⟩
  | 69 => ⟨S16x32x64, .f32⟩
  | 70 => ⟨S32x16x64, .f32⟩
  | _ => ⟨S32x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S32x64, .f32⟩

abbrev bufTy : (tb : Table) → Fin (tcTables nBuf tb) → BufTy
  | .hbm, ⟨i, _⟩ => hbmTy i
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S16x2048, .f32⟩
  | .local _ .vmem, ⟨4, _⟩ => ⟨S16x2048, .f32⟩
  | .local _ .vmem, ⟨5, _⟩ => ⟨S1x4096, .f32⟩
  | .local _ .vmem, ⟨6, _⟩ => ⟨S4x128x1024, .f32⟩
  | .local _ .vmem, ⟨7, _⟩ => ⟨S4x128x1024, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S16x2048, .f32⟩
  | .local _ .vmem, ⟨12, _⟩ => ⟨S16x2048, .f32⟩
  | .local _ .vmem, ⟨13, _⟩ => ⟨S16x2048, .f32⟩
  | .local _ .vmem, ⟨14, _⟩ => ⟨S16x2048, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_c : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_0 : Ref sig .tc := ⟨.hbm, 63, rfl⟩
abbrev main_call0_v12 : Ref sig .tc := ⟨.hbm, 64, rfl⟩
abbrev main_call0_v13 : Ref sig .tc := ⟨.hbm, 65, rfl⟩
abbrev main_v36 : Ref sig .tc := ⟨.hbm, 66, rfl⟩
abbrev main_v37 : Ref sig .tc := ⟨.hbm, 67, rfl⟩
abbrev main_c_0 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_c : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_0 : Ref sig .tc := ⟨.hbm, 82, rfl⟩
abbrev main_call1_v12 : Ref sig .tc := ⟨.hbm, 83, rfl⟩
abbrev main_call1_v13 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst : Ref sig .tc := ⟨.hbm, 91, rfl⟩
abbrev main_call2_v0 : Ref sig .tc := ⟨.hbm, 92, rfl⟩
abbrev main_call2_v1 : Ref sig .tc := ⟨.hbm, 93, rfl⟩
abbrev main_v44 : Ref sig .tc := ⟨.hbm, 94, rfl⟩
abbrev main_v45 : Ref sig .tc := ⟨.hbm, 95, rfl⟩
abbrev main_c_1 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_c : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_0 : Ref sig .tc := ⟨.hbm, 110, rfl⟩
abbrev main_call3_v12 : Ref sig .tc := ⟨.hbm, 111, rfl⟩
abbrev main_call3_v13 : Ref sig .tc := ⟨.hbm, 112, rfl⟩
abbrev main_v46 : Ref sig .tc := ⟨.hbm, 113, rfl⟩
abbrev main_v47 : Ref sig .tc := ⟨.hbm, 114, rfl⟩
abbrev main_c_2 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_c : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_c_0 : Ref sig .tc := ⟨.hbm, 129, rfl⟩
abbrev main_call4_v12 : Ref sig .tc := ⟨.hbm, 130, rfl⟩
abbrev main_call4_v13 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_cst_3 : Ref sig .tc := ⟨.hbm, 138, rfl⟩
abbrev main_call5_v0 : Ref sig .tc := ⟨.hbm, 139, rfl⟩
abbrev main_call5_v1 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_c_4 : Ref sig .tc := ⟨.hbm, 144, rfl⟩
abbrev main_call6_v0 : Ref sig .tc := ⟨.hbm, 145, rfl⟩
abbrev main_call6_v1 : Ref sig .tc := ⟨.hbm, 146, rfl⟩
abbrev main_call6_v2 : Ref sig .tc := ⟨.hbm, 147, rfl⟩
abbrev main_call6_v3 : Ref sig .tc := ⟨.hbm, 148, rfl⟩
abbrev main_call6_v4 : Ref sig .tc := ⟨.hbm, 149, rfl⟩
abbrev main_call6_v5 : Ref sig .tc := ⟨.hbm, 150, rfl⟩
abbrev main_call6_v6 : Ref sig .tc := ⟨.hbm, 151, rfl⟩
abbrev main_call6_v7 : Ref sig .tc := ⟨.hbm, 152, rfl⟩
abbrev main_call6_v8 : Ref sig .tc := ⟨.hbm, 153, rfl⟩
abbrev main_call6_c : Ref sig .tc := ⟨.hbm, 154, rfl⟩
abbrev main_call6_v9 : Ref sig .tc := ⟨.hbm, 155, rfl⟩
abbrev main_call6_v10 : Ref sig .tc := ⟨.hbm, 156, rfl⟩
abbrev main_call6_v11 : Ref sig .tc := ⟨.hbm, 157, rfl⟩
abbrev main_call6_c_0 : Ref sig .tc := ⟨.hbm, 158, rfl⟩
abbrev main_call6_v12 : Ref sig .tc := ⟨.hbm, 159, rfl⟩
abbrev main_call6_v13 : Ref sig .tc := ⟨.hbm, 160, rfl⟩
abbrev main_v57 : Ref sig .tc := ⟨.hbm, 161, rfl⟩
abbrev main_v58 : Ref sig .tc := ⟨.hbm, 162, rfl⟩
abbrev main_c_5 : Ref sig .tc := ⟨.hbm, 163, rfl⟩
abbrev main_call7_v0 : Ref sig .tc := ⟨.hbm, 164, rfl⟩
abbrev main_call7_v1 : Ref sig .tc := ⟨.hbm, 165, rfl⟩
abbrev main_call7_v2 : Ref sig .tc := ⟨.hbm, 166, rfl⟩
abbrev main_call7_v3 : Ref sig .tc := ⟨.hbm, 167, rfl⟩
abbrev main_call7_v4 : Ref sig .tc := ⟨.hbm, 168, rfl⟩
abbrev main_call7_v5 : Ref sig .tc := ⟨.hbm, 169, rfl⟩
abbrev main_call7_v6 : Ref sig .tc := ⟨.hbm, 170, rfl⟩
abbrev main_call7_v7 : Ref sig .tc := ⟨.hbm, 171, rfl⟩
abbrev main_call7_v8 : Ref sig .tc := ⟨.hbm, 172, rfl⟩
abbrev main_call7_c : Ref sig .tc := ⟨.hbm, 173, rfl⟩
abbrev main_call7_v9 : Ref sig .tc := ⟨.hbm, 174, rfl⟩
abbrev main_call7_v10 : Ref sig .tc := ⟨.hbm, 175, rfl⟩
abbrev main_call7_v11 : Ref sig .tc := ⟨.hbm, 176, rfl⟩
abbrev main_call7_c_0 : Ref sig .tc := ⟨.hbm, 177, rfl⟩
abbrev main_call7_v12 : Ref sig .tc := ⟨.hbm, 178, rfl⟩
abbrev main_call7_v13 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_cst_6 : Ref sig .tc := ⟨.hbm, 186, rfl⟩
abbrev main_call8_v0 : Ref sig .tc := ⟨.hbm, 187, rfl⟩
abbrev main_call8_v1 : Ref sig .tc := ⟨.hbm, 188, rfl⟩
abbrev main_v65 : Ref sig .tc := ⟨.hbm, 189, rfl⟩
abbrev main_v66 : Ref sig .tc := ⟨.hbm, 190, rfl⟩
abbrev main_c_7 : Ref sig .tc := ⟨.hbm, 191, rfl⟩
abbrev main_call9_v0 : Ref sig .tc := ⟨.hbm, 192, rfl⟩
abbrev main_call9_v1 : Ref sig .tc := ⟨.hbm, 193, rfl⟩
abbrev main_call9_v2 : Ref sig .tc := ⟨.hbm, 194, rfl⟩
abbrev main_call9_v3 : Ref sig .tc := ⟨.hbm, 195, rfl⟩
abbrev main_call9_v4 : Ref sig .tc := ⟨.hbm, 196, rfl⟩
abbrev main_call9_v5 : Ref sig .tc := ⟨.hbm, 197, rfl⟩
abbrev main_call9_v6 : Ref sig .tc := ⟨.hbm, 198, rfl⟩
abbrev main_call9_v7 : Ref sig .tc := ⟨.hbm, 199, rfl⟩
abbrev main_call9_v8 : Ref sig .tc := ⟨.hbm, 200, rfl⟩
abbrev main_call9_c : Ref sig .tc := ⟨.hbm, 201, rfl⟩
abbrev main_call9_v9 : Ref sig .tc := ⟨.hbm, 202, rfl⟩
abbrev main_call9_v10 : Ref sig .tc := ⟨.hbm, 203, rfl⟩
abbrev main_call9_v11 : Ref sig .tc := ⟨.hbm, 204, rfl⟩
abbrev main_call9_c_0 : Ref sig .tc := ⟨.hbm, 205, rfl⟩
abbrev main_call9_v12 : Ref sig .tc := ⟨.hbm, 206, rfl⟩
abbrev main_call9_v13 : Ref sig .tc := ⟨.hbm, 207, rfl⟩
abbrev main_v67 : Ref sig .tc := ⟨.hbm, 208, rfl⟩
abbrev main_v68 : Ref sig .tc := ⟨.hbm, 209, rfl⟩
abbrev main_c_8 : Ref sig .tc := ⟨.hbm, 210, rfl⟩
abbrev main_call10_v0 : Ref sig .tc := ⟨.hbm, 211, rfl⟩
abbrev main_call10_v1 : Ref sig .tc := ⟨.hbm, 212, rfl⟩
abbrev main_call10_v2 : Ref sig .tc := ⟨.hbm, 213, rfl⟩
abbrev main_call10_v3 : Ref sig .tc := ⟨.hbm, 214, rfl⟩
abbrev main_call10_v4 : Ref sig .tc := ⟨.hbm, 215, rfl⟩
abbrev main_call10_v5 : Ref sig .tc := ⟨.hbm, 216, rfl⟩
abbrev main_call10_v6 : Ref sig .tc := ⟨.hbm, 217, rfl⟩
abbrev main_call10_v7 : Ref sig .tc := ⟨.hbm, 218, rfl⟩
abbrev main_call10_v8 : Ref sig .tc := ⟨.hbm, 219, rfl⟩
abbrev main_call10_c : Ref sig .tc := ⟨.hbm, 220, rfl⟩
abbrev main_call10_v9 : Ref sig .tc := ⟨.hbm, 221, rfl⟩
abbrev main_call10_v10 : Ref sig .tc := ⟨.hbm, 222, rfl⟩
abbrev main_call10_v11 : Ref sig .tc := ⟨.hbm, 223, rfl⟩
abbrev main_call10_c_0 : Ref sig .tc := ⟨.hbm, 224, rfl⟩
abbrev main_call10_v12 : Ref sig .tc := ⟨.hbm, 225, rfl⟩
abbrev main_call10_v13 : Ref sig .tc := ⟨.hbm, 226, rfl⟩
abbrev main_v69 : Ref sig .tc := ⟨.hbm, 227, rfl⟩
abbrev main_v70 : Ref sig .tc := ⟨.hbm, 228, rfl⟩
abbrev main_v71 : Ref sig .tc := ⟨.hbm, 229, rfl⟩
abbrev main_v72 : Ref sig .tc := ⟨.hbm, 230, rfl⟩
abbrev main_v73 : Ref sig .tc := ⟨.hbm, 231, rfl⟩
abbrev main_v74 : Ref sig .tc := ⟨.hbm, 232, rfl⟩
abbrev main_cst_9 : Ref sig .tc := ⟨.hbm, 233, rfl⟩
abbrev main_call11_v0 : Ref sig .tc := ⟨.hbm, 234, rfl⟩
abbrev main_call11_v1 : Ref sig .tc := ⟨.hbm, 235, rfl⟩
abbrev main_v75 : Ref sig .tc := ⟨.hbm, 236, rfl⟩
abbrev main_v76 : Ref sig .tc := ⟨.hbm, 237, rfl⟩
abbrev main_v77 : Ref sig .tc := ⟨.hbm, 238, rfl⟩
abbrev main_c_10 : Ref sig .tc := ⟨.hbm, 239, rfl⟩
abbrev main_call12_v0 : Ref sig .tc := ⟨.hbm, 240, rfl⟩
abbrev main_call12_v1 : Ref sig .tc := ⟨.hbm, 241, rfl⟩
abbrev main_call12_v2 : Ref sig .tc := ⟨.hbm, 242, rfl⟩
abbrev main_call12_v3 : Ref sig .tc := ⟨.hbm, 243, rfl⟩
abbrev main_call12_v4 : Ref sig .tc := ⟨.hbm, 244, rfl⟩
abbrev main_call12_v5 : Ref sig .tc := ⟨.hbm, 245, rfl⟩
abbrev main_call12_v6 : Ref sig .tc := ⟨.hbm, 246, rfl⟩
abbrev main_call12_v7 : Ref sig .tc := ⟨.hbm, 247, rfl⟩
abbrev main_call12_v8 : Ref sig .tc := ⟨.hbm, 248, rfl⟩
abbrev main_call12_c : Ref sig .tc := ⟨.hbm, 249, rfl⟩
abbrev main_call12_v9 : Ref sig .tc := ⟨.hbm, 250, rfl⟩
abbrev main_call12_v10 : Ref sig .tc := ⟨.hbm, 251, rfl⟩
abbrev main_call12_v11 : Ref sig .tc := ⟨.hbm, 252, rfl⟩
abbrev main_call12_c_0 : Ref sig .tc := ⟨.hbm, 253, rfl⟩
abbrev main_call12_v12 : Ref sig .tc := ⟨.hbm, 254, rfl⟩
abbrev main_call12_v13 : Ref sig .tc := ⟨.hbm, 255, rfl⟩
abbrev main_v78 : Ref sig .tc := ⟨.hbm, 256, rfl⟩
abbrev main_v79 : Ref sig .tc := ⟨.hbm, 257, rfl⟩
abbrev main_c_11 : Ref sig .tc := ⟨.hbm, 258, rfl⟩
abbrev main_call13_v0 : Ref sig .tc := ⟨.hbm, 259, rfl⟩
abbrev main_call13_v1 : Ref sig .tc := ⟨.hbm, 260, rfl⟩
abbrev main_call13_v2 : Ref sig .tc := ⟨.hbm, 261, rfl⟩
abbrev main_call13_v3 : Ref sig .tc := ⟨.hbm, 262, rfl⟩
abbrev main_call13_v4 : Ref sig .tc := ⟨.hbm, 263, rfl⟩
abbrev main_call13_v5 : Ref sig .tc := ⟨.hbm, 264, rfl⟩
abbrev main_call13_v6 : Ref sig .tc := ⟨.hbm, 265, rfl⟩
abbrev main_call13_v7 : Ref sig .tc := ⟨.hbm, 266, rfl⟩
abbrev main_call13_v8 : Ref sig .tc := ⟨.hbm, 267, rfl⟩
abbrev main_call13_c : Ref sig .tc := ⟨.hbm, 268, rfl⟩
abbrev main_call13_v9 : Ref sig .tc := ⟨.hbm, 269, rfl⟩
abbrev main_call13_v10 : Ref sig .tc := ⟨.hbm, 270, rfl⟩
abbrev main_call13_v11 : Ref sig .tc := ⟨.hbm, 271, rfl⟩
abbrev main_call13_c_0 : Ref sig .tc := ⟨.hbm, 272, rfl⟩
abbrev main_call13_v12 : Ref sig .tc := ⟨.hbm, 273, rfl⟩
abbrev main_call13_v13 : Ref sig .tc := ⟨.hbm, 274, rfl⟩
abbrev main_v80 : Ref sig .tc := ⟨.hbm, 275, rfl⟩
abbrev main_v81 : Ref sig .tc := ⟨.hbm, 276, rfl⟩
abbrev main_v82 : Ref sig .tc := ⟨.hbm, 277, rfl⟩
abbrev main_v83 : Ref sig .tc := ⟨.hbm, 278, rfl⟩
abbrev main_v84 : Ref sig .tc := ⟨.hbm, 279, rfl⟩
abbrev main_v85 : Ref sig .tc := ⟨.hbm, 280, rfl⟩
abbrev main_cst_12 : Ref sig .tc := ⟨.hbm, 281, rfl⟩
abbrev main_call14_v0 : Ref sig .tc := ⟨.hbm, 282, rfl⟩
abbrev main_call14_v1 : Ref sig .tc := ⟨.hbm, 283, rfl⟩
abbrev main_v86 : Ref sig .tc := ⟨.hbm, 284, rfl⟩
abbrev main_v87 : Ref sig .tc := ⟨.hbm, 285, rfl⟩
abbrev main_c_13 : Ref sig .tc := ⟨.hbm, 286, rfl⟩
abbrev main_call15_v0 : Ref sig .tc := ⟨.hbm, 287, rfl⟩
abbrev main_call15_v1 : Ref sig .tc := ⟨.hbm, 288, rfl⟩
abbrev main_call15_v2 : Ref sig .tc := ⟨.hbm, 289, rfl⟩
abbrev main_call15_v3 : Ref sig .tc := ⟨.hbm, 290, rfl⟩
abbrev main_call15_v4 : Ref sig .tc := ⟨.hbm, 291, rfl⟩
abbrev main_call15_v5 : Ref sig .tc := ⟨.hbm, 292, rfl⟩
abbrev main_call15_v6 : Ref sig .tc := ⟨.hbm, 293, rfl⟩
abbrev main_call15_v7 : Ref sig .tc := ⟨.hbm, 294, rfl⟩
abbrev main_call15_v8 : Ref sig .tc := ⟨.hbm, 295, rfl⟩
abbrev main_call15_c : Ref sig .tc := ⟨.hbm, 296, rfl⟩
abbrev main_call15_v9 : Ref sig .tc := ⟨.hbm, 297, rfl⟩
abbrev main_call15_v10 : Ref sig .tc := ⟨.hbm, 298, rfl⟩
abbrev main_call15_v11 : Ref sig .tc := ⟨.hbm, 299, rfl⟩
abbrev main_call15_c_0 : Ref sig .tc := ⟨.hbm, 300, rfl⟩
abbrev main_call15_v12 : Ref sig .tc := ⟨.hbm, 301, rfl⟩
abbrev main_call15_v13 : Ref sig .tc := ⟨.hbm, 302, rfl⟩
abbrev main_v88 : Ref sig .tc := ⟨.hbm, 303, rfl⟩
abbrev main_v89 : Ref sig .tc := ⟨.hbm, 304, rfl⟩
abbrev main_c_14 : Ref sig .tc := ⟨.hbm, 305, rfl⟩
abbrev main_call16_v0 : Ref sig .tc := ⟨.hbm, 306, rfl⟩
abbrev main_call16_v1 : Ref sig .tc := ⟨.hbm, 307, rfl⟩
abbrev main_call16_v2 : Ref sig .tc := ⟨.hbm, 308, rfl⟩
abbrev main_call16_v3 : Ref sig .tc := ⟨.hbm, 309, rfl⟩
abbrev main_call16_v4 : Ref sig .tc := ⟨.hbm, 310, rfl⟩
abbrev main_call16_v5 : Ref sig .tc := ⟨.hbm, 311, rfl⟩
abbrev main_call16_v6 : Ref sig .tc := ⟨.hbm, 312, rfl⟩
abbrev main_call16_v7 : Ref sig .tc := ⟨.hbm, 313, rfl⟩
abbrev main_call16_v8 : Ref sig .tc := ⟨.hbm, 314, rfl⟩
abbrev main_call16_c : Ref sig .tc := ⟨.hbm, 315, rfl⟩
abbrev main_call16_v9 : Ref sig .tc := ⟨.hbm, 316, rfl⟩
abbrev main_call16_v10 : Ref sig .tc := ⟨.hbm, 317, rfl⟩
abbrev main_call16_v11 : Ref sig .tc := ⟨.hbm, 318, rfl⟩
abbrev main_call16_c_0 : Ref sig .tc := ⟨.hbm, 319, rfl⟩
abbrev main_call16_v12 : Ref sig .tc := ⟨.hbm, 320, rfl⟩
abbrev main_call16_v13 : Ref sig .tc := ⟨.hbm, 321, rfl⟩
abbrev main_v90 : Ref sig .tc := ⟨.hbm, 322, rfl⟩
abbrev main_v91 : Ref sig .tc := ⟨.hbm, 323, rfl⟩
abbrev main_v92 : Ref sig .tc := ⟨.hbm, 324, rfl⟩
abbrev main_v93 : Ref sig .tc := ⟨.hbm, 325, rfl⟩
abbrev main_v94 : Ref sig .tc := ⟨.hbm, 326, rfl⟩
abbrev main_v95 : Ref sig .tc := ⟨.hbm, 327, rfl⟩
abbrev main_cst_15 : Ref sig .tc := ⟨.hbm, 328, rfl⟩
abbrev main_call17_v0 : Ref sig .tc := ⟨.hbm, 329, rfl⟩
abbrev main_call17_v1 : Ref sig .tc := ⟨.hbm, 330, rfl⟩
abbrev main_v96 : Ref sig .tc := ⟨.hbm, 331, rfl⟩
abbrev main_v97 : Ref sig .tc := ⟨.hbm, 332, rfl⟩
abbrev main_v98 : Ref sig .tc := ⟨.hbm, 333, rfl⟩
abbrev main_c_16 : Ref sig .tc := ⟨.hbm, 334, rfl⟩
abbrev main_call18_v0 : Ref sig .tc := ⟨.hbm, 335, rfl⟩
abbrev main_call18_v1 : Ref sig .tc := ⟨.hbm, 336, rfl⟩
abbrev main_call18_v2 : Ref sig .tc := ⟨.hbm, 337, rfl⟩
abbrev main_call18_v3 : Ref sig .tc := ⟨.hbm, 338, rfl⟩
abbrev main_call18_v4 : Ref sig .tc := ⟨.hbm, 339, rfl⟩
abbrev main_call18_v5 : Ref sig .tc := ⟨.hbm, 340, rfl⟩
abbrev main_call18_v6 : Ref sig .tc := ⟨.hbm, 341, rfl⟩
abbrev main_call18_v7 : Ref sig .tc := ⟨.hbm, 342, rfl⟩
abbrev main_call18_v8 : Ref sig .tc := ⟨.hbm, 343, rfl⟩
abbrev main_call18_c : Ref sig .tc := ⟨.hbm, 344, rfl⟩
abbrev main_call18_v9 : Ref sig .tc := ⟨.hbm, 345, rfl⟩
abbrev main_call18_v10 : Ref sig .tc := ⟨.hbm, 346, rfl⟩
abbrev main_call18_v11 : Ref sig .tc := ⟨.hbm, 347, rfl⟩
abbrev main_call18_c_0 : Ref sig .tc := ⟨.hbm, 348, rfl⟩
abbrev main_call18_v12 : Ref sig .tc := ⟨.hbm, 349, rfl⟩
abbrev main_call18_v13 : Ref sig .tc := ⟨.hbm, 350, rfl⟩
abbrev main_v99 : Ref sig .tc := ⟨.hbm, 351, rfl⟩
abbrev main_v100 : Ref sig .tc := ⟨.hbm, 352, rfl⟩
abbrev main_c_17 : Ref sig .tc := ⟨.hbm, 353, rfl⟩
abbrev main_call19_v0 : Ref sig .tc := ⟨.hbm, 354, rfl⟩
abbrev main_call19_v1 : Ref sig .tc := ⟨.hbm, 355, rfl⟩
abbrev main_call19_v2 : Ref sig .tc := ⟨.hbm, 356, rfl⟩
abbrev main_call19_v3 : Ref sig .tc := ⟨.hbm, 357, rfl⟩
abbrev main_call19_v4 : Ref sig .tc := ⟨.hbm, 358, rfl⟩
abbrev main_call19_v5 : Ref sig .tc := ⟨.hbm, 359, rfl⟩
abbrev main_call19_v6 : Ref sig .tc := ⟨.hbm, 360, rfl⟩
abbrev main_call19_v7 : Ref sig .tc := ⟨.hbm, 361, rfl⟩
abbrev main_call19_v8 : Ref sig .tc := ⟨.hbm, 362, rfl⟩
abbrev main_call19_c : Ref sig .tc := ⟨.hbm, 363, rfl⟩
abbrev main_call19_v9 : Ref sig .tc := ⟨.hbm, 364, rfl⟩
abbrev main_call19_v10 : Ref sig .tc := ⟨.hbm, 365, rfl⟩
abbrev main_call19_v11 : Ref sig .tc := ⟨.hbm, 366, rfl⟩
abbrev main_call19_c_0 : Ref sig .tc := ⟨.hbm, 367, rfl⟩
abbrev main_call19_v12 : Ref sig .tc := ⟨.hbm, 368, rfl⟩
abbrev main_call19_v13 : Ref sig .tc := ⟨.hbm, 369, rfl⟩
abbrev main_v101 : Ref sig .tc := ⟨.hbm, 370, rfl⟩
abbrev main_v102 : Ref sig .tc := ⟨.hbm, 371, rfl⟩
abbrev main_v103 : Ref sig .tc := ⟨.hbm, 372, rfl⟩
abbrev main_v104 : Ref sig .tc := ⟨.hbm, 373, rfl⟩
abbrev main_v105 : Ref sig .tc := ⟨.hbm, 374, rfl⟩
abbrev main_v106 : Ref sig .tc := ⟨.hbm, 375, rfl⟩
abbrev main_cst_18 : Ref sig .tc := ⟨.hbm, 376, rfl⟩
abbrev main_call20_v0 : Ref sig .tc := ⟨.hbm, 377, rfl⟩
abbrev main_call20_v1 : Ref sig .tc := ⟨.hbm, 378, rfl⟩
abbrev main_v107 : Ref sig .tc := ⟨.hbm, 379, rfl⟩
abbrev main_v108 : Ref sig .tc := ⟨.hbm, 380, rfl⟩
abbrev main_c_19 : Ref sig .tc := ⟨.hbm, 381, rfl⟩
abbrev main_call21_v0 : Ref sig .tc := ⟨.hbm, 382, rfl⟩
abbrev main_call21_v1 : Ref sig .tc := ⟨.hbm, 383, rfl⟩
abbrev main_call21_v2 : Ref sig .tc := ⟨.hbm, 384, rfl⟩
abbrev main_call21_v3 : Ref sig .tc := ⟨.hbm, 385, rfl⟩
abbrev main_call21_v4 : Ref sig .tc := ⟨.hbm, 386, rfl⟩
abbrev main_call21_v5 : Ref sig .tc := ⟨.hbm, 387, rfl⟩
abbrev main_call21_v6 : Ref sig .tc := ⟨.hbm, 388, rfl⟩
abbrev main_call21_v7 : Ref sig .tc := ⟨.hbm, 389, rfl⟩
abbrev main_call21_v8 : Ref sig .tc := ⟨.hbm, 390, rfl⟩
abbrev main_call21_c : Ref sig .tc := ⟨.hbm, 391, rfl⟩
abbrev main_call21_v9 : Ref sig .tc := ⟨.hbm, 392, rfl⟩
abbrev main_call21_v10 : Ref sig .tc := ⟨.hbm, 393, rfl⟩
abbrev main_call21_v11 : Ref sig .tc := ⟨.hbm, 394, rfl⟩
abbrev main_call21_c_0 : Ref sig .tc := ⟨.hbm, 395, rfl⟩
abbrev main_call21_v12 : Ref sig .tc := ⟨.hbm, 396, rfl⟩
abbrev main_call21_v13 : Ref sig .tc := ⟨.hbm, 397, rfl⟩
abbrev main_v109 : Ref sig .tc := ⟨.hbm, 398, rfl⟩
abbrev main_v110 : Ref sig .tc := ⟨.hbm, 399, rfl⟩
abbrev main_c_20 : Ref sig .tc := ⟨.hbm, 400, rfl⟩
abbrev main_call22_v0 : Ref sig .tc := ⟨.hbm, 401, rfl⟩
abbrev main_call22_v1 : Ref sig .tc := ⟨.hbm, 402, rfl⟩
abbrev main_call22_v2 : Ref sig .tc := ⟨.hbm, 403, rfl⟩
abbrev main_call22_v3 : Ref sig .tc := ⟨.hbm, 404, rfl⟩
abbrev main_call22_v4 : Ref sig .tc := ⟨.hbm, 405, rfl⟩
abbrev main_call22_v5 : Ref sig .tc := ⟨.hbm, 406, rfl⟩
abbrev main_call22_v6 : Ref sig .tc := ⟨.hbm, 407, rfl⟩
abbrev main_call22_v7 : Ref sig .tc := ⟨.hbm, 408, rfl⟩
abbrev main_call22_v8 : Ref sig .tc := ⟨.hbm, 409, rfl⟩
abbrev main_call22_c : Ref sig .tc := ⟨.hbm, 410, rfl⟩
abbrev main_call22_v9 : Ref sig .tc := ⟨.hbm, 411, rfl⟩
abbrev main_call22_v10 : Ref sig .tc := ⟨.hbm, 412, rfl⟩
abbrev main_call22_v11 : Ref sig .tc := ⟨.hbm, 413, rfl⟩
abbrev main_call22_c_0 : Ref sig .tc := ⟨.hbm, 414, rfl⟩
abbrev main_call22_v12 : Ref sig .tc := ⟨.hbm, 415, rfl⟩
abbrev main_call22_v13 : Ref sig .tc := ⟨.hbm, 416, rfl⟩
abbrev main_v111 : Ref sig .tc := ⟨.hbm, 417, rfl⟩
abbrev main_v112 : Ref sig .tc := ⟨.hbm, 418, rfl⟩
abbrev main_v113 : Ref sig .tc := ⟨.hbm, 419, rfl⟩
abbrev main_v114 : Ref sig .tc := ⟨.hbm, 420, rfl⟩
abbrev main_v115 : Ref sig .tc := ⟨.hbm, 421, rfl⟩
abbrev main_v116 : Ref sig .tc := ⟨.hbm, 422, rfl⟩
abbrev main_cst_21 : Ref sig .tc := ⟨.hbm, 423, rfl⟩
abbrev main_call23_v0 : Ref sig .tc := ⟨.hbm, 424, rfl⟩
abbrev main_call23_v1 : Ref sig .tc := ⟨.hbm, 425, rfl⟩
abbrev main_v117 : Ref sig .tc := ⟨.hbm, 426, rfl⟩
abbrev main_v118 : Ref sig .tc := ⟨.hbm, 427, rfl⟩
abbrev main_v119 : Ref sig .tc := ⟨.hbm, 428, rfl⟩
abbrev main_v120 : Ref sig .tc := ⟨.hbm, 429, rfl⟩
abbrev main_v121 : Ref sig .tc := ⟨.hbm, 430, rfl⟩
abbrev main_v122 : Ref sig .tc := ⟨.hbm, 431, rfl⟩
abbrev main_v123 : Ref sig .tc := ⟨.hbm, 432, rfl⟩
abbrev main_v124 : Ref sig .tc := ⟨.hbm, 433, rfl⟩
abbrev main_v125 : Ref sig .tc := ⟨.hbm, 434, rfl⟩
abbrev main_c_22 : Ref sig .tc := ⟨.hbm, 435, rfl⟩
abbrev main_call24_v0 : Ref sig .tc := ⟨.hbm, 436, rfl⟩
abbrev main_call24_v1 : Ref sig .tc := ⟨.hbm, 437, rfl⟩
abbrev main_call24_v2 : Ref sig .tc := ⟨.hbm, 438, rfl⟩
abbrev main_call24_v3 : Ref sig .tc := ⟨.hbm, 439, rfl⟩
abbrev main_call24_v4 : Ref sig .tc := ⟨.hbm, 440, rfl⟩
abbrev main_call24_v5 : Ref sig .tc := ⟨.hbm, 441, rfl⟩
abbrev main_call24_v6 : Ref sig .tc := ⟨.hbm, 442, rfl⟩
abbrev main_call24_v7 : Ref sig .tc := ⟨.hbm, 443, rfl⟩
abbrev main_call24_v8 : Ref sig .tc := ⟨.hbm, 444, rfl⟩
abbrev main_call24_c : Ref sig .tc := ⟨.hbm, 445, rfl⟩
abbrev main_call24_v9 : Ref sig .tc := ⟨.hbm, 446, rfl⟩
abbrev main_call24_v10 : Ref sig .tc := ⟨.hbm, 447, rfl⟩
abbrev main_call24_v11 : Ref sig .tc := ⟨.hbm, 448, rfl⟩
abbrev main_call24_c_0 : Ref sig .tc := ⟨.hbm, 449, rfl⟩
abbrev main_call24_v12 : Ref sig .tc := ⟨.hbm, 450, rfl⟩
abbrev main_call24_v13 : Ref sig .tc := ⟨.hbm, 451, rfl⟩
abbrev main_v126 : Ref sig .tc := ⟨.hbm, 452, rfl⟩
abbrev main_v127 : Ref sig .tc := ⟨.hbm, 453, rfl⟩
abbrev main_c_23 : Ref sig .tc := ⟨.hbm, 454, rfl⟩
abbrev main_call25_v0 : Ref sig .tc := ⟨.hbm, 455, rfl⟩
abbrev main_call25_v1 : Ref sig .tc := ⟨.hbm, 456, rfl⟩
abbrev main_call25_v2 : Ref sig .tc := ⟨.hbm, 457, rfl⟩
abbrev main_call25_v3 : Ref sig .tc := ⟨.hbm, 458, rfl⟩
abbrev main_call25_v4 : Ref sig .tc := ⟨.hbm, 459, rfl⟩
abbrev main_call25_v5 : Ref sig .tc := ⟨.hbm, 460, rfl⟩
abbrev main_call25_v6 : Ref sig .tc := ⟨.hbm, 461, rfl⟩
abbrev main_call25_v7 : Ref sig .tc := ⟨.hbm, 462, rfl⟩
abbrev main_call25_v8 : Ref sig .tc := ⟨.hbm, 463, rfl⟩
abbrev main_call25_c : Ref sig .tc := ⟨.hbm, 464, rfl⟩
abbrev main_call25_v9 : Ref sig .tc := ⟨.hbm, 465, rfl⟩
abbrev main_call25_v10 : Ref sig .tc := ⟨.hbm, 466, rfl⟩
abbrev main_call25_v11 : Ref sig .tc := ⟨.hbm, 467, rfl⟩
abbrev main_call25_c_0 : Ref sig .tc := ⟨.hbm, 468, rfl⟩
abbrev main_call25_v12 : Ref sig .tc := ⟨.hbm, 469, rfl⟩
abbrev main_call25_v13 : Ref sig .tc := ⟨.hbm, 470, rfl⟩
abbrev main_v128 : Ref sig .tc := ⟨.hbm, 471, rfl⟩
abbrev main_v129 : Ref sig .tc := ⟨.hbm, 472, rfl⟩
abbrev main_v130 : Ref sig .tc := ⟨.hbm, 473, rfl⟩
abbrev main_v131 : Ref sig .tc := ⟨.hbm, 474, rfl⟩
abbrev main_v132 : Ref sig .tc := ⟨.hbm, 475, rfl⟩
abbrev main_v133 : Ref sig .tc := ⟨.hbm, 476, rfl⟩
abbrev main_cst_24 : Ref sig .tc := ⟨.hbm, 477, rfl⟩
abbrev main_call26_v0 : Ref sig .tc := ⟨.hbm, 478, rfl⟩
abbrev main_call26_v1 : Ref sig .tc := ⟨.hbm, 479, rfl⟩
abbrev main_v134 : Ref sig .tc := ⟨.hbm, 480, rfl⟩
abbrev main_v135 : Ref sig .tc := ⟨.hbm, 481, rfl⟩
abbrev main_c_25 : Ref sig .tc := ⟨.hbm, 482, rfl⟩
abbrev main_call27_v0 : Ref sig .tc := ⟨.hbm, 483, rfl⟩
abbrev main_call27_v1 : Ref sig .tc := ⟨.hbm, 484, rfl⟩
abbrev main_call27_v2 : Ref sig .tc := ⟨.hbm, 485, rfl⟩
abbrev main_call27_v3 : Ref sig .tc := ⟨.hbm, 486, rfl⟩
abbrev main_call27_v4 : Ref sig .tc := ⟨.hbm, 487, rfl⟩
abbrev main_call27_v5 : Ref sig .tc := ⟨.hbm, 488, rfl⟩
abbrev main_call27_v6 : Ref sig .tc := ⟨.hbm, 489, rfl⟩
abbrev main_call27_v7 : Ref sig .tc := ⟨.hbm, 490, rfl⟩
abbrev main_call27_v8 : Ref sig .tc := ⟨.hbm, 491, rfl⟩
abbrev main_call27_c : Ref sig .tc := ⟨.hbm, 492, rfl⟩
abbrev main_call27_v9 : Ref sig .tc := ⟨.hbm, 493, rfl⟩
abbrev main_call27_v10 : Ref sig .tc := ⟨.hbm, 494, rfl⟩
abbrev main_call27_v11 : Ref sig .tc := ⟨.hbm, 495, rfl⟩
abbrev main_call27_c_0 : Ref sig .tc := ⟨.hbm, 496, rfl⟩
abbrev main_call27_v12 : Ref sig .tc := ⟨.hbm, 497, rfl⟩
abbrev main_call27_v13 : Ref sig .tc := ⟨.hbm, 498, rfl⟩
abbrev main_v136 : Ref sig .tc := ⟨.hbm, 499, rfl⟩
abbrev main_v137 : Ref sig .tc := ⟨.hbm, 500, rfl⟩
abbrev main_c_26 : Ref sig .tc := ⟨.hbm, 501, rfl⟩
abbrev main_call28_v0 : Ref sig .tc := ⟨.hbm, 502, rfl⟩
abbrev main_call28_v1 : Ref sig .tc := ⟨.hbm, 503, rfl⟩
abbrev main_call28_v2 : Ref sig .tc := ⟨.hbm, 504, rfl⟩
abbrev main_call28_v3 : Ref sig .tc := ⟨.hbm, 505, rfl⟩
abbrev main_call28_v4 : Ref sig .tc := ⟨.hbm, 506, rfl⟩
abbrev main_call28_v5 : Ref sig .tc := ⟨.hbm, 507, rfl⟩
abbrev main_call28_v6 : Ref sig .tc := ⟨.hbm, 508, rfl⟩
abbrev main_call28_v7 : Ref sig .tc := ⟨.hbm, 509, rfl⟩
abbrev main_call28_v8 : Ref sig .tc := ⟨.hbm, 510, rfl⟩
abbrev main_call28_c : Ref sig .tc := ⟨.hbm, 511, rfl⟩
abbrev main_call28_v9 : Ref sig .tc := ⟨.hbm, 512, rfl⟩
abbrev main_call28_v10 : Ref sig .tc := ⟨.hbm, 513, rfl⟩
abbrev main_call28_v11 : Ref sig .tc := ⟨.hbm, 514, rfl⟩
abbrev main_call28_c_0 : Ref sig .tc := ⟨.hbm, 515, rfl⟩
abbrev main_call28_v12 : Ref sig .tc := ⟨.hbm, 516, rfl⟩
abbrev main_call28_v13 : Ref sig .tc := ⟨.hbm, 517, rfl⟩
abbrev main_v138 : Ref sig .tc := ⟨.hbm, 518, rfl⟩
abbrev main_v139 : Ref sig .tc := ⟨.hbm, 519, rfl⟩
abbrev main_v140 : Ref sig .tc := ⟨.hbm, 520, rfl⟩
abbrev main_v141 : Ref sig .tc := ⟨.hbm, 521, rfl⟩
abbrev main_v142 : Ref sig .tc := ⟨.hbm, 522, rfl⟩
abbrev main_v143 : Ref sig .tc := ⟨.hbm, 523, rfl⟩
abbrev main_cst_27 : Ref sig .tc := ⟨.hbm, 524, rfl⟩
abbrev main_call29_v0 : Ref sig .tc := ⟨.hbm, 525, rfl⟩
abbrev main_call29_v1 : Ref sig .tc := ⟨.hbm, 526, rfl⟩
abbrev main_v144 : Ref sig .tc := ⟨.hbm, 527, rfl⟩
abbrev main_v145 : Ref sig .tc := ⟨.hbm, 528, rfl⟩
abbrev main_v146 : Ref sig .tc := ⟨.hbm, 529, rfl⟩
abbrev main_c_28 : Ref sig .tc := ⟨.hbm, 530, rfl⟩
abbrev main_call30_v0 : Ref sig .tc := ⟨.hbm, 531, rfl⟩
abbrev main_call30_v1 : Ref sig .tc := ⟨.hbm, 532, rfl⟩
abbrev main_call30_v2 : Ref sig .tc := ⟨.hbm, 533, rfl⟩
abbrev main_call30_v3 : Ref sig .tc := ⟨.hbm, 534, rfl⟩
abbrev main_call30_v4 : Ref sig .tc := ⟨.hbm, 535, rfl⟩
abbrev main_call30_v5 : Ref sig .tc := ⟨.hbm, 536, rfl⟩
abbrev main_call30_v6 : Ref sig .tc := ⟨.hbm, 537, rfl⟩
abbrev main_call30_v7 : Ref sig .tc := ⟨.hbm, 538, rfl⟩
abbrev main_call30_v8 : Ref sig .tc := ⟨.hbm, 539, rfl⟩
abbrev main_call30_c : Ref sig .tc := ⟨.hbm, 540, rfl⟩
abbrev main_call30_v9 : Ref sig .tc := ⟨.hbm, 541, rfl⟩
abbrev main_call30_v10 : Ref sig .tc := ⟨.hbm, 542, rfl⟩
abbrev main_call30_v11 : Ref sig .tc := ⟨.hbm, 543, rfl⟩
abbrev main_call30_c_0 : Ref sig .tc := ⟨.hbm, 544, rfl⟩
abbrev main_call30_v12 : Ref sig .tc := ⟨.hbm, 545, rfl⟩
abbrev main_call30_v13 : Ref sig .tc := ⟨.hbm, 546, rfl⟩
abbrev main_v147 : Ref sig .tc := ⟨.hbm, 547, rfl⟩
abbrev main_v148 : Ref sig .tc := ⟨.hbm, 548, rfl⟩
abbrev main_c_29 : Ref sig .tc := ⟨.hbm, 549, rfl⟩
abbrev main_call31_v0 : Ref sig .tc := ⟨.hbm, 550, rfl⟩
abbrev main_call31_v1 : Ref sig .tc := ⟨.hbm, 551, rfl⟩
abbrev main_call31_v2 : Ref sig .tc := ⟨.hbm, 552, rfl⟩
abbrev main_call31_v3 : Ref sig .tc := ⟨.hbm, 553, rfl⟩
abbrev main_call31_v4 : Ref sig .tc := ⟨.hbm, 554, rfl⟩
abbrev main_call31_v5 : Ref sig .tc := ⟨.hbm, 555, rfl⟩
abbrev main_call31_v6 : Ref sig .tc := ⟨.hbm, 556, rfl⟩
abbrev main_call31_v7 : Ref sig .tc := ⟨.hbm, 557, rfl⟩
abbrev main_call31_v8 : Ref sig .tc := ⟨.hbm, 558, rfl⟩
abbrev main_call31_c : Ref sig .tc := ⟨.hbm, 559, rfl⟩
abbrev main_call31_v9 : Ref sig .tc := ⟨.hbm, 560, rfl⟩
abbrev main_call31_v10 : Ref sig .tc := ⟨.hbm, 561, rfl⟩
abbrev main_call31_v11 : Ref sig .tc := ⟨.hbm, 562, rfl⟩
abbrev main_call31_c_0 : Ref sig .tc := ⟨.hbm, 563, rfl⟩
abbrev main_call31_v12 : Ref sig .tc := ⟨.hbm, 564, rfl⟩
abbrev main_call31_v13 : Ref sig .tc := ⟨.hbm, 565, rfl⟩
abbrev main_v149 : Ref sig .tc := ⟨.hbm, 566, rfl⟩
abbrev main_v150 : Ref sig .tc := ⟨.hbm, 567, rfl⟩
abbrev main_v151 : Ref sig .tc := ⟨.hbm, 568, rfl⟩
abbrev main_v152 : Ref sig .tc := ⟨.hbm, 569, rfl⟩
abbrev main_v153 : Ref sig .tc := ⟨.hbm, 570, rfl⟩
abbrev main_v154 : Ref sig .tc := ⟨.hbm, 571, rfl⟩
abbrev main_cst_30 : Ref sig .tc := ⟨.hbm, 572, rfl⟩
abbrev main_call32_v0 : Ref sig .tc := ⟨.hbm, 573, rfl⟩
abbrev main_call32_v1 : Ref sig .tc := ⟨.hbm, 574, rfl⟩
abbrev main_v155 : Ref sig .tc := ⟨.hbm, 575, rfl⟩
abbrev main_v156 : Ref sig .tc := ⟨.hbm, 576, rfl⟩
abbrev main_c_31 : Ref sig .tc := ⟨.hbm, 577, rfl⟩
abbrev main_call33_v0 : Ref sig .tc := ⟨.hbm, 578, rfl⟩
abbrev main_call33_v1 : Ref sig .tc := ⟨.hbm, 579, rfl⟩
abbrev main_call33_v2 : Ref sig .tc := ⟨.hbm, 580, rfl⟩
abbrev main_call33_v3 : Ref sig .tc := ⟨.hbm, 581, rfl⟩
abbrev main_call33_v4 : Ref sig .tc := ⟨.hbm, 582, rfl⟩
abbrev main_call33_v5 : Ref sig .tc := ⟨.hbm, 583, rfl⟩
abbrev main_call33_v6 : Ref sig .tc := ⟨.hbm, 584, rfl⟩
abbrev main_call33_v7 : Ref sig .tc := ⟨.hbm, 585, rfl⟩
abbrev main_call33_v8 : Ref sig .tc := ⟨.hbm, 586, rfl⟩
abbrev main_call33_c : Ref sig .tc := ⟨.hbm, 587, rfl⟩
abbrev main_call33_v9 : Ref sig .tc := ⟨.hbm, 588, rfl⟩
abbrev main_call33_v10 : Ref sig .tc := ⟨.hbm, 589, rfl⟩
abbrev main_call33_v11 : Ref sig .tc := ⟨.hbm, 590, rfl⟩
abbrev main_call33_c_0 : Ref sig .tc := ⟨.hbm, 591, rfl⟩
abbrev main_call33_v12 : Ref sig .tc := ⟨.hbm, 592, rfl⟩
abbrev main_call33_v13 : Ref sig .tc := ⟨.hbm, 593, rfl⟩
abbrev main_v157 : Ref sig .tc := ⟨.hbm, 594, rfl⟩
abbrev main_v158 : Ref sig .tc := ⟨.hbm, 595, rfl⟩
abbrev main_c_32 : Ref sig .tc := ⟨.hbm, 596, rfl⟩
abbrev main_call34_v0 : Ref sig .tc := ⟨.hbm, 597, rfl⟩
abbrev main_call34_v1 : Ref sig .tc := ⟨.hbm, 598, rfl⟩
abbrev main_call34_v2 : Ref sig .tc := ⟨.hbm, 599, rfl⟩
abbrev main_call34_v3 : Ref sig .tc := ⟨.hbm, 600, rfl⟩
abbrev main_call34_v4 : Ref sig .tc := ⟨.hbm, 601, rfl⟩
abbrev main_call34_v5 : Ref sig .tc := ⟨.hbm, 602, rfl⟩
abbrev main_call34_v6 : Ref sig .tc := ⟨.hbm, 603, rfl⟩
abbrev main_call34_v7 : Ref sig .tc := ⟨.hbm, 604, rfl⟩
abbrev main_call34_v8 : Ref sig .tc := ⟨.hbm, 605, rfl⟩
abbrev main_call34_c : Ref sig .tc := ⟨.hbm, 606, rfl⟩
abbrev main_call34_v9 : Ref sig .tc := ⟨.hbm, 607, rfl⟩
abbrev main_call34_v10 : Ref sig .tc := ⟨.hbm, 608, rfl⟩
abbrev main_call34_v11 : Ref sig .tc := ⟨.hbm, 609, rfl⟩
abbrev main_call34_c_0 : Ref sig .tc := ⟨.hbm, 610, rfl⟩
abbrev main_call34_v12 : Ref sig .tc := ⟨.hbm, 611, rfl⟩
abbrev main_call34_v13 : Ref sig .tc := ⟨.hbm, 612, rfl⟩
abbrev main_v159 : Ref sig .tc := ⟨.hbm, 613, rfl⟩
abbrev main_v160 : Ref sig .tc := ⟨.hbm, 614, rfl⟩
abbrev main_v161 : Ref sig .tc := ⟨.hbm, 615, rfl⟩
abbrev main_v162 : Ref sig .tc := ⟨.hbm, 616, rfl⟩
abbrev main_v163 : Ref sig .tc := ⟨.hbm, 617, rfl⟩
abbrev main_v164 : Ref sig .tc := ⟨.hbm, 618, rfl⟩
abbrev main_cst_33 : Ref sig .tc := ⟨.hbm, 619, rfl⟩
abbrev main_call35_v0 : Ref sig .tc := ⟨.hbm, 620, rfl⟩
abbrev main_call35_v1 : Ref sig .tc := ⟨.hbm, 621, rfl⟩
abbrev main_v165 : Ref sig .tc := ⟨.hbm, 622, rfl⟩
abbrev main_v166 : Ref sig .tc := ⟨.hbm, 623, rfl⟩
abbrev main_v167 : Ref sig .tc := ⟨.hbm, 624, rfl⟩
abbrev main_c_34 : Ref sig .tc := ⟨.hbm, 625, rfl⟩
abbrev main_call36_v0 : Ref sig .tc := ⟨.hbm, 626, rfl⟩
abbrev main_call36_v1 : Ref sig .tc := ⟨.hbm, 627, rfl⟩
abbrev main_call36_v2 : Ref sig .tc := ⟨.hbm, 628, rfl⟩
abbrev main_call36_v3 : Ref sig .tc := ⟨.hbm, 629, rfl⟩
abbrev main_call36_v4 : Ref sig .tc := ⟨.hbm, 630, rfl⟩
abbrev main_call36_v5 : Ref sig .tc := ⟨.hbm, 631, rfl⟩
abbrev main_call36_v6 : Ref sig .tc := ⟨.hbm, 632, rfl⟩
abbrev main_call36_v7 : Ref sig .tc := ⟨.hbm, 633, rfl⟩
abbrev main_call36_v8 : Ref sig .tc := ⟨.hbm, 634, rfl⟩
abbrev main_call36_c : Ref sig .tc := ⟨.hbm, 635, rfl⟩
abbrev main_call36_v9 : Ref sig .tc := ⟨.hbm, 636, rfl⟩
abbrev main_call36_v10 : Ref sig .tc := ⟨.hbm, 637, rfl⟩
abbrev main_call36_v11 : Ref sig .tc := ⟨.hbm, 638, rfl⟩
abbrev main_call36_c_0 : Ref sig .tc := ⟨.hbm, 639, rfl⟩
abbrev main_call36_v12 : Ref sig .tc := ⟨.hbm, 640, rfl⟩
abbrev main_call36_v13 : Ref sig .tc := ⟨.hbm, 641, rfl⟩
abbrev main_v168 : Ref sig .tc := ⟨.hbm, 642, rfl⟩
abbrev main_v169 : Ref sig .tc := ⟨.hbm, 643, rfl⟩
abbrev main_c_35 : Ref sig .tc := ⟨.hbm, 644, rfl⟩
abbrev main_call37_v0 : Ref sig .tc := ⟨.hbm, 645, rfl⟩
abbrev main_call37_v1 : Ref sig .tc := ⟨.hbm, 646, rfl⟩
abbrev main_call37_v2 : Ref sig .tc := ⟨.hbm, 647, rfl⟩
abbrev main_call37_v3 : Ref sig .tc := ⟨.hbm, 648, rfl⟩
abbrev main_call37_v4 : Ref sig .tc := ⟨.hbm, 649, rfl⟩
abbrev main_call37_v5 : Ref sig .tc := ⟨.hbm, 650, rfl⟩
abbrev main_call37_v6 : Ref sig .tc := ⟨.hbm, 651, rfl⟩
abbrev main_call37_v7 : Ref sig .tc := ⟨.hbm, 652, rfl⟩
abbrev main_call37_v8 : Ref sig .tc := ⟨.hbm, 653, rfl⟩
abbrev main_call37_c : Ref sig .tc := ⟨.hbm, 654, rfl⟩
abbrev main_call37_v9 : Ref sig .tc := ⟨.hbm, 655, rfl⟩
abbrev main_call37_v10 : Ref sig .tc := ⟨.hbm, 656, rfl⟩
abbrev main_call37_v11 : Ref sig .tc := ⟨.hbm, 657, rfl⟩
abbrev main_call37_c_0 : Ref sig .tc := ⟨.hbm, 658, rfl⟩
abbrev main_call37_v12 : Ref sig .tc := ⟨.hbm, 659, rfl⟩
abbrev main_call37_v13 : Ref sig .tc := ⟨.hbm, 660, rfl⟩
abbrev main_v170 : Ref sig .tc := ⟨.hbm, 661, rfl⟩
abbrev main_v171 : Ref sig .tc := ⟨.hbm, 662, rfl⟩
abbrev main_v172 : Ref sig .tc := ⟨.hbm, 663, rfl⟩
abbrev main_v173 : Ref sig .tc := ⟨.hbm, 664, rfl⟩
abbrev main_v174 : Ref sig .tc := ⟨.hbm, 665, rfl⟩
abbrev main_v175 : Ref sig .tc := ⟨.hbm, 666, rfl⟩
abbrev main_cst_36 : Ref sig .tc := ⟨.hbm, 667, rfl⟩
abbrev main_call38_v0 : Ref sig .tc := ⟨.hbm, 668, rfl⟩
abbrev main_call38_v1 : Ref sig .tc := ⟨.hbm, 669, rfl⟩
abbrev main_v176 : Ref sig .tc := ⟨.hbm, 670, rfl⟩
abbrev main_v177 : Ref sig .tc := ⟨.hbm, 671, rfl⟩
abbrev main_c_37 : Ref sig .tc := ⟨.hbm, 672, rfl⟩
abbrev main_call39_v0 : Ref sig .tc := ⟨.hbm, 673, rfl⟩
abbrev main_call39_v1 : Ref sig .tc := ⟨.hbm, 674, rfl⟩
abbrev main_call39_v2 : Ref sig .tc := ⟨.hbm, 675, rfl⟩
abbrev main_call39_v3 : Ref sig .tc := ⟨.hbm, 676, rfl⟩
abbrev main_call39_v4 : Ref sig .tc := ⟨.hbm, 677, rfl⟩
abbrev main_call39_v5 : Ref sig .tc := ⟨.hbm, 678, rfl⟩
abbrev main_call39_v6 : Ref sig .tc := ⟨.hbm, 679, rfl⟩
abbrev main_call39_v7 : Ref sig .tc := ⟨.hbm, 680, rfl⟩
abbrev main_call39_v8 : Ref sig .tc := ⟨.hbm, 681, rfl⟩
abbrev main_call39_c : Ref sig .tc := ⟨.hbm, 682, rfl⟩
abbrev main_call39_v9 : Ref sig .tc := ⟨.hbm, 683, rfl⟩
abbrev main_call39_v10 : Ref sig .tc := ⟨.hbm, 684, rfl⟩
abbrev main_call39_v11 : Ref sig .tc := ⟨.hbm, 685, rfl⟩
abbrev main_call39_c_0 : Ref sig .tc := ⟨.hbm, 686, rfl⟩
abbrev main_call39_v12 : Ref sig .tc := ⟨.hbm, 687, rfl⟩
abbrev main_call39_v13 : Ref sig .tc := ⟨.hbm, 688, rfl⟩
abbrev main_v178 : Ref sig .tc := ⟨.hbm, 689, rfl⟩
abbrev main_v179 : Ref sig .tc := ⟨.hbm, 690, rfl⟩
abbrev main_c_38 : Ref sig .tc := ⟨.hbm, 691, rfl⟩
abbrev main_call40_v0 : Ref sig .tc := ⟨.hbm, 692, rfl⟩
abbrev main_call40_v1 : Ref sig .tc := ⟨.hbm, 693, rfl⟩
abbrev main_call40_v2 : Ref sig .tc := ⟨.hbm, 694, rfl⟩
abbrev main_call40_v3 : Ref sig .tc := ⟨.hbm, 695, rfl⟩
abbrev main_call40_v4 : Ref sig .tc := ⟨.hbm, 696, rfl⟩
abbrev main_call40_v5 : Ref sig .tc := ⟨.hbm, 697, rfl⟩
abbrev main_call40_v6 : Ref sig .tc := ⟨.hbm, 698, rfl⟩
abbrev main_call40_v7 : Ref sig .tc := ⟨.hbm, 699, rfl⟩
abbrev main_call40_v8 : Ref sig .tc := ⟨.hbm, 700, rfl⟩
abbrev main_call40_c : Ref sig .tc := ⟨.hbm, 701, rfl⟩
abbrev main_call40_v9 : Ref sig .tc := ⟨.hbm, 702, rfl⟩
abbrev main_call40_v10 : Ref sig .tc := ⟨.hbm, 703, rfl⟩
abbrev main_call40_v11 : Ref sig .tc := ⟨.hbm, 704, rfl⟩
abbrev main_call40_c_0 : Ref sig .tc := ⟨.hbm, 705, rfl⟩
abbrev main_call40_v12 : Ref sig .tc := ⟨.hbm, 706, rfl⟩
abbrev main_call40_v13 : Ref sig .tc := ⟨.hbm, 707, rfl⟩
abbrev main_v180 : Ref sig .tc := ⟨.hbm, 708, rfl⟩
abbrev main_v181 : Ref sig .tc := ⟨.hbm, 709, rfl⟩
abbrev main_v182 : Ref sig .tc := ⟨.hbm, 710, rfl⟩
abbrev main_v183 : Ref sig .tc := ⟨.hbm, 711, rfl⟩
abbrev main_v184 : Ref sig .tc := ⟨.hbm, 712, rfl⟩
abbrev main_v185 : Ref sig .tc := ⟨.hbm, 713, rfl⟩
abbrev main_cst_39 : Ref sig .tc := ⟨.hbm, 714, rfl⟩
abbrev main_call41_v0 : Ref sig .tc := ⟨.hbm, 715, rfl⟩
abbrev main_call41_v1 : Ref sig .tc := ⟨.hbm, 716, rfl⟩
abbrev main_v186 : Ref sig .tc := ⟨.hbm, 717, rfl⟩
abbrev main_v187 : Ref sig .tc := ⟨.hbm, 718, rfl⟩
abbrev main_v188 : Ref sig .tc := ⟨.hbm, 719, rfl⟩
abbrev main_c_40 : Ref sig .tc := ⟨.hbm, 720, rfl⟩
abbrev main_call42_v0 : Ref sig .tc := ⟨.hbm, 721, rfl⟩
abbrev main_call42_v1 : Ref sig .tc := ⟨.hbm, 722, rfl⟩
abbrev main_call42_v2 : Ref sig .tc := ⟨.hbm, 723, rfl⟩
abbrev main_call42_v3 : Ref sig .tc := ⟨.hbm, 724, rfl⟩
abbrev main_call42_v4 : Ref sig .tc := ⟨.hbm, 725, rfl⟩
abbrev main_call42_v5 : Ref sig .tc := ⟨.hbm, 726, rfl⟩
abbrev main_call42_v6 : Ref sig .tc := ⟨.hbm, 727, rfl⟩
abbrev main_call42_v7 : Ref sig .tc := ⟨.hbm, 728, rfl⟩
abbrev main_call42_v8 : Ref sig .tc := ⟨.hbm, 729, rfl⟩
abbrev main_call42_c : Ref sig .tc := ⟨.hbm, 730, rfl⟩
abbrev main_call42_v9 : Ref sig .tc := ⟨.hbm, 731, rfl⟩
abbrev main_call42_v10 : Ref sig .tc := ⟨.hbm, 732, rfl⟩
abbrev main_call42_v11 : Ref sig .tc := ⟨.hbm, 733, rfl⟩
abbrev main_call42_c_0 : Ref sig .tc := ⟨.hbm, 734, rfl⟩
abbrev main_call42_v12 : Ref sig .tc := ⟨.hbm, 735, rfl⟩
abbrev main_call42_v13 : Ref sig .tc := ⟨.hbm, 736, rfl⟩
abbrev main_v189 : Ref sig .tc := ⟨.hbm, 737, rfl⟩
abbrev main_v190 : Ref sig .tc := ⟨.hbm, 738, rfl⟩
abbrev main_c_41 : Ref sig .tc := ⟨.hbm, 739, rfl⟩
abbrev main_call43_v0 : Ref sig .tc := ⟨.hbm, 740, rfl⟩
abbrev main_call43_v1 : Ref sig .tc := ⟨.hbm, 741, rfl⟩
abbrev main_call43_v2 : Ref sig .tc := ⟨.hbm, 742, rfl⟩
abbrev main_call43_v3 : Ref sig .tc := ⟨.hbm, 743, rfl⟩
abbrev main_call43_v4 : Ref sig .tc := ⟨.hbm, 744, rfl⟩
abbrev main_call43_v5 : Ref sig .tc := ⟨.hbm, 745, rfl⟩
abbrev main_call43_v6 : Ref sig .tc := ⟨.hbm, 746, rfl⟩
abbrev main_call43_v7 : Ref sig .tc := ⟨.hbm, 747, rfl⟩
abbrev main_call43_v8 : Ref sig .tc := ⟨.hbm, 748, rfl⟩
abbrev main_call43_c : Ref sig .tc := ⟨.hbm, 749, rfl⟩
abbrev main_call43_v9 : Ref sig .tc := ⟨.hbm, 750, rfl⟩
abbrev main_call43_v10 : Ref sig .tc := ⟨.hbm, 751, rfl⟩
abbrev main_call43_v11 : Ref sig .tc := ⟨.hbm, 752, rfl⟩
abbrev main_call43_c_0 : Ref sig .tc := ⟨.hbm, 753, rfl⟩
abbrev main_call43_v12 : Ref sig .tc := ⟨.hbm, 754, rfl⟩
abbrev main_call43_v13 : Ref sig .tc := ⟨.hbm, 755, rfl⟩
abbrev main_v191 : Ref sig .tc := ⟨.hbm, 756, rfl⟩
abbrev main_v192 : Ref sig .tc := ⟨.hbm, 757, rfl⟩
abbrev main_v193 : Ref sig .tc := ⟨.hbm, 758, rfl⟩
abbrev main_v194 : Ref sig .tc := ⟨.hbm, 759, rfl⟩
abbrev main_v195 : Ref sig .tc := ⟨.hbm, 760, rfl⟩
abbrev main_v196 : Ref sig .tc := ⟨.hbm, 761, rfl⟩
abbrev main_cst_42 : Ref sig .tc := ⟨.hbm, 762, rfl⟩
abbrev main_call44_v0 : Ref sig .tc := ⟨.hbm, 763, rfl⟩
abbrev main_call44_v1 : Ref sig .tc := ⟨.hbm, 764, rfl⟩
abbrev main_v197 : Ref sig .tc := ⟨.hbm, 765, rfl⟩
abbrev main_v198 : Ref sig .tc := ⟨.hbm, 766, rfl⟩
abbrev main_c_43 : Ref sig .tc := ⟨.hbm, 767, rfl⟩
abbrev main_call45_v0 : Ref sig .tc := ⟨.hbm, 768, rfl⟩
abbrev main_call45_v1 : Ref sig .tc := ⟨.hbm, 769, rfl⟩
abbrev main_call45_v2 : Ref sig .tc := ⟨.hbm, 770, rfl⟩
abbrev main_call45_v3 : Ref sig .tc := ⟨.hbm, 771, rfl⟩
abbrev main_call45_v4 : Ref sig .tc := ⟨.hbm, 772, rfl⟩
abbrev main_call45_v5 : Ref sig .tc := ⟨.hbm, 773, rfl⟩
abbrev main_call45_v6 : Ref sig .tc := ⟨.hbm, 774, rfl⟩
abbrev main_call45_v7 : Ref sig .tc := ⟨.hbm, 775, rfl⟩
abbrev main_call45_v8 : Ref sig .tc := ⟨.hbm, 776, rfl⟩
abbrev main_call45_c : Ref sig .tc := ⟨.hbm, 777, rfl⟩
abbrev main_call45_v9 : Ref sig .tc := ⟨.hbm, 778, rfl⟩
abbrev main_call45_v10 : Ref sig .tc := ⟨.hbm, 779, rfl⟩
abbrev main_call45_v11 : Ref sig .tc := ⟨.hbm, 780, rfl⟩
abbrev main_call45_c_0 : Ref sig .tc := ⟨.hbm, 781, rfl⟩
abbrev main_call45_v12 : Ref sig .tc := ⟨.hbm, 782, rfl⟩
abbrev main_call45_v13 : Ref sig .tc := ⟨.hbm, 783, rfl⟩
abbrev main_v199 : Ref sig .tc := ⟨.hbm, 784, rfl⟩
abbrev main_v200 : Ref sig .tc := ⟨.hbm, 785, rfl⟩
abbrev main_c_44 : Ref sig .tc := ⟨.hbm, 786, rfl⟩
abbrev main_call46_v0 : Ref sig .tc := ⟨.hbm, 787, rfl⟩
abbrev main_call46_v1 : Ref sig .tc := ⟨.hbm, 788, rfl⟩
abbrev main_call46_v2 : Ref sig .tc := ⟨.hbm, 789, rfl⟩
abbrev main_call46_v3 : Ref sig .tc := ⟨.hbm, 790, rfl⟩
abbrev main_call46_v4 : Ref sig .tc := ⟨.hbm, 791, rfl⟩
abbrev main_call46_v5 : Ref sig .tc := ⟨.hbm, 792, rfl⟩
abbrev main_call46_v6 : Ref sig .tc := ⟨.hbm, 793, rfl⟩
abbrev main_call46_v7 : Ref sig .tc := ⟨.hbm, 794, rfl⟩
abbrev main_call46_v8 : Ref sig .tc := ⟨.hbm, 795, rfl⟩
abbrev main_call46_c : Ref sig .tc := ⟨.hbm, 796, rfl⟩
abbrev main_call46_v9 : Ref sig .tc := ⟨.hbm, 797, rfl⟩
abbrev main_call46_v10 : Ref sig .tc := ⟨.hbm, 798, rfl⟩
abbrev main_call46_v11 : Ref sig .tc := ⟨.hbm, 799, rfl⟩
abbrev main_call46_c_0 : Ref sig .tc := ⟨.hbm, 800, rfl⟩
abbrev main_call46_v12 : Ref sig .tc := ⟨.hbm, 801, rfl⟩
abbrev main_call46_v13 : Ref sig .tc := ⟨.hbm, 802, rfl⟩
abbrev main_v201 : Ref sig .tc := ⟨.hbm, 803, rfl⟩
abbrev main_v202 : Ref sig .tc := ⟨.hbm, 804, rfl⟩
abbrev main_v203 : Ref sig .tc := ⟨.hbm, 805, rfl⟩
abbrev main_v204 : Ref sig .tc := ⟨.hbm, 806, rfl⟩
abbrev main_v205 : Ref sig .tc := ⟨.hbm, 807, rfl⟩
abbrev main_v206 : Ref sig .tc := ⟨.hbm, 808, rfl⟩
abbrev main_cst_45 : Ref sig .tc := ⟨.hbm, 809, rfl⟩
abbrev main_call47_v0 : Ref sig .tc := ⟨.hbm, 810, rfl⟩
abbrev main_call47_v1 : Ref sig .tc := ⟨.hbm, 811, rfl⟩
abbrev main_v207 : Ref sig .tc := ⟨.hbm, 812, rfl⟩
abbrev main_v208 : Ref sig .tc := ⟨.hbm, 813, rfl⟩
abbrev main_v209 : Ref sig .tc := ⟨.hbm, 814, rfl⟩
abbrev main_v210 : Ref sig .tc := ⟨.hbm, 815, rfl⟩
abbrev main_v211 : Ref sig .tc := ⟨.hbm, 816, rfl⟩
abbrev main_v212 : Ref sig .tc := ⟨.hbm, 817, rfl⟩
abbrev main_v213 : Ref sig .tc := ⟨.hbm, 818, rfl⟩
abbrev main_v214_0 : Ref sig .tc := ⟨.hbm, 819, rfl⟩
abbrev main_v214_1 : Ref sig .tc := ⟨.hbm, 820, rfl⟩
abbrev main_v214_2 : Ref sig .tc := ⟨.hbm, 821, rfl⟩
abbrev main_v214_3 : Ref sig .tc := ⟨.hbm, 822, rfl⟩
abbrev main_v214_4 : Ref sig .tc := ⟨.hbm, 823, rfl⟩
abbrev main_v214_5 : Ref sig .tc := ⟨.hbm, 824, rfl⟩
abbrev main_v214_6 : Ref sig .tc := ⟨.hbm, 825, rfl⟩
abbrev main_v215 : Ref sig .tc := ⟨.hbm, 826, rfl⟩
abbrev main_v216 : Ref sig .tc := ⟨.hbm, 827, rfl⟩
abbrev main_v217 : Ref sig .tc := ⟨.hbm, 828, rfl⟩
abbrev main_cst_46 : Ref sig .tc := ⟨.hbm, 829, rfl⟩
abbrev main_v218 : Ref sig .tc := ⟨.hbm, 830, rfl⟩
abbrev main_v219 : Ref sig .tc := ⟨.hbm, 831, rfl⟩
abbrev main_v220 : Ref sig .tc := ⟨.hbm, 832, rfl⟩
abbrev main_v221 : Ref sig .tc := ⟨.hbm, 833, rfl⟩
abbrev main_v222 : Ref sig .tc := ⟨.hbm, 834, rfl⟩
abbrev main_v223 : Ref sig .tc := ⟨.hbm, 835, rfl⟩
abbrev main_v224 : Ref sig .tc := ⟨.hbm, 836, rfl⟩
abbrev main_v225 : Ref sig .tc := ⟨.hbm, 837, rfl⟩
abbrev main_v226 : Ref sig .tc := ⟨.hbm, 838, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Reference14Ideal.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x1 : Shape := ⟨2, ![32, 1]⟩
abbrev S_ : Shape := ⟨0, ![]⟩
abbrev S32x64x1 : Shape := ⟨3, ![32, 64, 1]⟩

abbrev nBuf : Space → Nat
  | .hbm => 168
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x16x64, .f32⟩
  | 6 => ⟨S32x16x64, .f32⟩
  | 7 => ⟨S32x64, .f32⟩
  | 8 => ⟨S32x64, .f32⟩
  | 9 => ⟨S32x64x16, .f32⟩
  | 10 => ⟨S32x64x16, .f32⟩
  | 11 => ⟨S32x16x64, .f32⟩
  | 12 => ⟨S32x16x64, .f32⟩
  | 13 => ⟨S32, .f32⟩
  | 14 => ⟨S32x1, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S_, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S_, .f32⟩
  | 40 => ⟨S32x64, .f32⟩
  | 41 => ⟨S32x64, .f32⟩
  | 42 => ⟨S32x64x1, .f32⟩
  | 43 => ⟨S32x64, .f32⟩
  | 44 => ⟨S_, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S32x64, .f32⟩
  | 51 => ⟨S_, .f32⟩
  | 52 => ⟨S32x64, .f32⟩
  | 53 => ⟨S32x64, .f32⟩
  | 54 => ⟨S32x64x1, .f32⟩
  | 55 => ⟨S32x64x16, .f32⟩
  | 56 => ⟨S32x64x16, .f32⟩
  | 57 => ⟨S32x64x16, .f32⟩
  | 58 => ⟨S32x64x16, .f32⟩
  | 59 => ⟨S32x64x16, .f32⟩
  | 60 => ⟨S32x64x16, .f32⟩
  | 61 => ⟨S32x64x16, .f32⟩
  | 62 => ⟨S32x64x16, .f32⟩
  | 63 => ⟨S32x64x16, .f32⟩
  | 64 => ⟨S32x64x16, .f32⟩
  | 65 => ⟨S32x64x16, .f32⟩
  | 66 => ⟨S32x64x16, .f32⟩
  | 67 => ⟨S32x64x16, .f32⟩
  | 68 => ⟨S32x64x16, .f32⟩
  | 69 => ⟨S32x64x16, .f32⟩
  | 70 => ⟨S_, .f32⟩
  | 71 => ⟨S32x64, .f32⟩
  | 72 => ⟨S32x64x1, .f32⟩
  | 73 => ⟨S32x64x16, .f32⟩
  | 74 => ⟨S32x64x16, .f32⟩
  | 75 => ⟨S32x64x16, .f32⟩
  | 76 => ⟨S_, .f32⟩
  | 77 => ⟨S32x64, .f32⟩
  | 78 => ⟨S32x64x1, .f32⟩
  | 79 => ⟨S32x64x16, .f32⟩
  | 80 => ⟨S32x64x16, .f32⟩
  | 81 => ⟨S32x64x16, .f32⟩
  | 82 => ⟨S32x64x16, .f32⟩
  | 83 => ⟨S32x64x16, .f32⟩
  | 84 => ⟨S32x64x16, .f32⟩
  | 85 => ⟨S_, .f32⟩
  | 86 => ⟨S32x64, .f32⟩
  | 87 => ⟨S32x64x1, .f32⟩
  | 88 => ⟨S32x64x1, .f32⟩
  | 89 => ⟨S32x64x16, .f32⟩
  | 90 => ⟨S32x64x16, .f32⟩
  | 91 => ⟨S32x64x16, .f32⟩
  | 92 => ⟨S32x64x16, .f32⟩
  | 93 => ⟨S_, .f32⟩
  | 94 => ⟨S32x64, .f32⟩
  | 95 => ⟨S32x64x1, .f32⟩
  | 96 => ⟨S32x64x1, .f32⟩
  | 97 => ⟨S_, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S_, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S_, .f32⟩
  | 10 => ⟨S32, .f32⟩
  | 11 => ⟨S32x1, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S_, .f32⟩
  | 22 => ⟨S32, .f32⟩
  | 23 => ⟨S32x1, .f32⟩
  | 24 => ⟨S32x1, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S_, .f32⟩
  | 31 => ⟨S32, .f32⟩
  | 32 => ⟨S32x1, .f32⟩
  | 33 => ⟨S32x1, .f32⟩
  | 34 => ⟨S32x64, .f32⟩
  | 35 => ⟨S32x64, .f32⟩
  | 36 => ⟨S32x64, .f32⟩
  | 37 => ⟨S_, .f32⟩
  | 38 => ⟨S32, .f32⟩
  | 39 => ⟨S32, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_1 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_3 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_4 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_5 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_6 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_7 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_8 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_cst_9 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_cst_10 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_cst_11 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_cst_12 : Ref sig .tc := ⟨.hbm, 165, rfl⟩
abbrev main_v139 : Ref sig .tc := ⟨.hbm, 166, rfl⟩
abbrev main_v140 : Ref sig .tc := ⟨.hbm, 167, rfl⟩

abbrev nD : Nat := 1
abbrev τ : Topo := Topo.v7x

variable {F : FTy → Type} [FloatOps F]
-- ==== Kernel15.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel16.lean ====
abbrev S8192x512 : Shape := ⟨2, ![8192, 512]⟩
abbrev S512 : Shape := ⟨1, ![512]⟩
abbrev S1x512 : Shape := ⟨2, ![1, 512]⟩
abbrev S8192x1024 : Shape := ⟨2, ![8192, 1024]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1x512, .f32⟩
  | .hbm, ⟨5, _⟩ => ⟨S1x512, .f32⟩
  | .hbm, ⟨6, _⟩ => ⟨S8192x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x1024 : Shape := ⟨2, ![8192, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x512, .f32⟩
  | .hbm, ⟨16, _⟩ => ⟨S8192x512, .f32⟩
  | .hbm, ⟨17, _⟩ => ⟨S1x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x512, .f32⟩
  | .hbm, ⟨32, _⟩ => ⟨S8192x512, .f32⟩
  | .hbm, ⟨33, _⟩ => ⟨S1x512, .f32⟩
  | .hbm, ⟨34, _⟩ => ⟨S8192x512, .f32⟩
  | .hbm, ⟨35, _⟩ => ⟨S8192x512, .f32⟩
  | .hbm, ⟨36, _⟩ => ⟨S8192x1024, .f32⟩
  | .hbm, ⟨37, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel17.lean ====
abbrev S8192x512 : Shape := ⟨2, ![8192, 512]⟩
abbrev S512x512 : Shape := ⟨2, ![512, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512x512, .bf16⟩
  | .hbm, ⟨3, _⟩ => ⟨S8192x512, .f32⟩
  | .hbm, ⟨4, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference17Ideal.lean ====
abbrev S8192x512 : Shape := ⟨2, ![8192, 512]⟩
abbrev S512x512 : Shape := ⟨2, ![512, 512]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel18.lean ====
abbrev S8192x512 : Shape := ⟨2, ![8192, 512]⟩
abbrev S128 : Shape := ⟨1, ![128]⟩
abbrev S256x512 : Shape := ⟨2, ![256, 512]⟩
abbrev S1x128 : Shape := ⟨2, ![1, 128]⟩
abbrev S512x512 : Shape := ⟨2, ![512, 512]⟩
abbrev S512x128 : Shape := ⟨2, ![512, 128]⟩
abbrev S256x128 : Shape := ⟨2, ![256, 128]⟩
abbrev S512 : Shape := ⟨1, ![512]⟩
abbrev S512x1 : Shape := ⟨2, ![512, 1]⟩
abbrev S512x256 : Shape := ⟨2, ![512, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S128, .f32⟩
  | .hbm, ⟨2, _⟩ => ⟨S256x512, .f32⟩
  | .hbm, ⟨3, _⟩ => ⟨S256x512, .f32⟩
  | .hbm, ⟨4, _⟩ => ⟨S1x128, .f32⟩
  | .hbm, ⟨5, _⟩ => ⟨S256x512, .bf16⟩
  | .hbm, ⟨6, _⟩ => ⟨S256x512, .bf16⟩
  | .hbm, ⟨7, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S1x128, .f32⟩
  | .local _ .vmem, ⟨3, _⟩ => ⟨S256x512, .bf16⟩
  | .local _ .vmem, ⟨4, _⟩ => ⟨S256x512, .bf16⟩
  | .local _ .vmem, ⟨5, _⟩ => ⟨S512x512, .bf16⟩
  | .local _ .vmem, ⟨6, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S8192x512 : Shape := ⟨2, ![8192, 512]⟩
abbrev S128 : Shape := ⟨1, ![128]⟩
abbrev S256x512 : Shape := ⟨2, ![256, 512]⟩
abbrev S1x8192x4x128 : Shape := ⟨4, ![1, 8192, 4, 128]⟩
abbrev S1x256x4x128 : Shape := ⟨4, ![1, 256, 4, 128]⟩
abbrev S_ : Shape := ⟨0, ![]⟩
abbrev S1x8192x4 : Shape := ⟨3, ![1, 8192, 4]⟩
abbrev S1x8192x4x1 : Shape := ⟨4, ![1, 8192, 4, 1]⟩
abbrev S1x1x1x128 : Shape := ⟨4, ![1, 1, 1, 128]⟩
abbrev S1x4x8192x256 : Shape := ⟨4, ![1, 4, 8192, 256]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩

abbrev nBuf : Space → Nat
  | .hbm => 45
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S128, .f32⟩
  | .hbm, ⟨2, _⟩ => ⟨S256x512, .f32⟩
  | .hbm, ⟨3, _⟩ => ⟨S256x512, .f32⟩
  | .hbm, ⟨4, _⟩ => ⟨S1x8192x4x128, .f32⟩
  | .hbm, ⟨5, _⟩ => ⟨S1x256x4x128, .f32⟩
  | .hbm, ⟨6, _⟩ => ⟨S1x256x4x128, .f32⟩
  | .hbm, ⟨7, _⟩ => ⟨S1x8192x4x128, .f32⟩
  | .hbm, ⟨8, _⟩ => ⟨S_, .f32⟩
  | .hbm, ⟨9, _⟩ => ⟨S1x8192x4, .f32⟩
  | .hbm, ⟨10, _⟩ => ⟨S1x8192x4x1, .f32⟩
  | .hbm, ⟨11, _⟩ => ⟨S_, .f32⟩
  | .hbm, ⟨12, _⟩ => ⟨S1x8192x4x1, .f32⟩
  | .hbm, ⟨13, _⟩ => ⟨S1x8192x4x1, .f32⟩
  | .hbm, ⟨14, _⟩ => ⟨S_, .f32⟩
  | .hbm, ⟨15, _⟩ => ⟨S1x8192x4x1, .f32⟩
  | .hbm, ⟨16, _⟩ => ⟨S1x8192x4x1, .f32⟩
  | .hbm, ⟨17, _⟩ => ⟨S1x8192x4x1, .f32⟩
  | .hbm, ⟨18, _⟩ => ⟨S1x8192x4x128, .f32⟩
  | .hbm, ⟨19, _⟩ => ⟨S1x8192x4x128, .f32⟩
  | .hbm, ⟨20, _⟩ => ⟨S1x1x1x128, .f32⟩
  | .hbm, ⟨21, _⟩ => ⟨S1x8192x4x128, .f32⟩
  | .hbm, ⟨22, _⟩ => ⟨S1x8192x4x128, .f32⟩
  | .hbm, ⟨23, _⟩ => ⟨S1x4x8192x256, .f32⟩
  | .hbm, ⟨24, _⟩ => ⟨S_, .f32⟩
  | .hbm, ⟨25, _⟩ => ⟨S1x4x8192x256, .f32⟩
  | .hbm, ⟨26, _⟩ => ⟨S1x4x8192x256, .f32⟩
  | .hbm, ⟨27, _⟩ => ⟨S_, .f32⟩
  | .hbm, ⟨28, _⟩ => ⟨S1x4x8192, .f32⟩
  | .hbm, ⟨29, _⟩ => ⟨S_, .f32⟩
  | .hbm, ⟨30, _⟩ => ⟨S1x4x8192, .f32⟩
  | .hbm, ⟨31, _⟩ => ⟨S1x4x8192, .f32⟩
  | .hbm, ⟨32, _⟩ => ⟨S1x4x8192x1, .f32⟩
  | .hbm, ⟨33, _⟩ => ⟨S1x4x8192x256, .f32⟩
  | .hbm, ⟨34, _⟩ => ⟨S1x4x8192x256, .f32⟩
  | .hbm, ⟨35, _⟩ => ⟨S1x4x8192x256, .f32⟩
  | .hbm, ⟨36, _⟩ => ⟨S_, .f32⟩
  | .hbm, ⟨37, _⟩ => ⟨S1x4x8192, .f32⟩
  | .hbm, ⟨38, _⟩ => ⟨S1x4x8192x1, .f32⟩
  | .hbm, ⟨39, _⟩ => ⟨S1x4x8192x256, .f32⟩
  | .hbm, ⟨40, _⟩ => ⟨S1x4x8192x256, .f32⟩
  | .hbm, ⟨41, _⟩ => ⟨S1x4x128x8192, .f32⟩
  | .hbm, ⟨42, _⟩ => ⟨S1x8192x4x128, .f32⟩
  | .hbm, ⟨43, _⟩ => ⟨S8192x512, .f32⟩
  | .hbm, ⟨44, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel19.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192x1024, .bf16⟩
  | .hbm, ⟨5, _⟩ => ⟨S1024x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference19Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel20.lean ====
abbrev S8192x1024 : Shape := ⟨2, ![8192, 1024]⟩
abbrev S8192x512 : Shape := ⟨2, ![8192, 512]⟩
abbrev S512x1024 : Shape := ⟨2, ![512, 1024]⟩
abbrev S1024 : Shape := ⟨1, ![1024]⟩
abbrev S1x1024 : Shape := ⟨2, ![1, 1024]⟩
abbrev S1024x512 : Shape := ⟨2, ![1024, 512]⟩
abbrev S1024x1024 : Shape := ⟨2, ![1024, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S512x1024, .f32⟩
  | .hbm, ⟨3, _⟩ => ⟨S1024, .f32⟩
  | .hbm, ⟨4, _⟩ => ⟨S8192x512, .bf16⟩
  | .hbm, ⟨5, _⟩ => ⟨S512x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference20Ideal.lean ====
abbrev S8192x1024 : Shape := ⟨2, ![8192, 1024]⟩
abbrev S8192x512 : Shape := ⟨2, ![8192, 512]⟩
abbrev S512x1024 : Shape := ⟨2, ![512, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S512x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel21.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x2048, .bf16⟩
  | .local _ .vmem, ⟨3, _⟩ => ⟨S1024x2048, .bf16⟩
  | .local _ .vmem, ⟨4, _⟩ => ⟨S2048x2048, .bf16⟩
  | .local _ .vmem, ⟨5, _⟩ => ⟨S2048x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel22.lean ====
abbrev S8192x2048 : Shape := ⟨2, ![8192, 2048]⟩
abbrev S64 : Shape := ⟨1, ![64]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S8192x512 : Shape := ⟨2, ![8192, 512]⟩
abbrev S1024x512 : Shape := ⟨2, ![1024, 512]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 13
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S1x1x1x64, .f32⟩
  | .hbm, ⟨5, _⟩ => ⟨S1x1x8x64, .f32⟩
  | .hbm, ⟨6, _⟩ => ⟨S1x512, .f32⟩
  | .hbm, ⟨7, _⟩ => ⟨S1x64, .f32⟩
  | .hbm, ⟨8, _⟩ => ⟨S1x1x1x64, .f32⟩
  | .hbm, ⟨9, _⟩ => ⟨S1x1x8x64, .f32⟩
  | .hbm, ⟨10, _⟩ => ⟨S1x512, .f32⟩
  | .hbm, ⟨11, _⟩ => ⟨S8192x512, .bf16⟩
  | .hbm, ⟨12, _⟩ => ⟨S8192x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference22Ideal.lean ====
abbrev S8192x2048 : Shape := ⟨2, ![8192, 2048]⟩
abbrev S64 : Shape := ⟨1, ![64]⟩
abbrev S8192x512 : Shape := ⟨2, ![8192, 512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x1x64 : Shape := ⟨3, ![1, 1, 64]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S64, .f32⟩
  | .hbm, ⟨2, _⟩ => ⟨S64, .f32⟩
  | .hbm, ⟨3, _⟩ => ⟨S8192x512, .f32⟩
  | .hbm, ⟨4, _⟩ => ⟨S8192x8x64, .f32⟩
  | .hbm, ⟨5, _⟩ => ⟨S8192x8x64, .f32⟩
  | .hbm, ⟨6, _⟩ => ⟨S_, .f32⟩
  | .hbm, ⟨7, _⟩ => ⟨S8192x8, .f32⟩
  | .hbm, ⟨8, _⟩ => ⟨S8192x8x1, .f32⟩
  | .hbm, ⟨9, _⟩ => ⟨S_, .f32⟩
  | .hbm, ⟨10, _⟩ => ⟨S8192x8x1, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S8192x8x1, .f32⟩
  | .hbm, ⟨16, _⟩ => ⟨S8192x8x64, .f32⟩
  | .hbm, ⟨17, _⟩ => ⟨S8192x8x64, .f32⟩
  | .hbm, ⟨18, _⟩ => ⟨S1x1x64, .f32⟩
  | .hbm, ⟨19, _⟩ => ⟨S8192x8x64, .f32⟩
  | .hbm, ⟨20, _⟩ => ⟨S8192x8x64, .f32⟩
  | .hbm, ⟨21, _⟩ => ⟨S_, .f32⟩
  | .hbm, ⟨22, _⟩ => ⟨S8192x8x64, .f32⟩
  | .hbm, ⟨23, _⟩ => ⟨S8192x8x64, .f32⟩
  | .hbm, ⟨24, _⟩ => ⟨S8192x512, .f32⟩
  | .hbm, ⟨25, _⟩ => ⟨S8192x8x64, .f32⟩
  | .hbm, ⟨26, _⟩ => ⟨S8192x8x64, .f32⟩
  | .hbm, ⟨27, _⟩ => ⟨S_, .f32⟩
  | .hbm, ⟨28, _⟩ => ⟨S8192x8, .f32⟩
  | .hbm, ⟨29, _⟩ => ⟨S8192x8x1, .f32⟩
  | .hbm, ⟨30, _⟩ => ⟨S_, .f32⟩
  | .hbm, ⟨31, _⟩ => ⟨S8192x8x1, .f32⟩
  | .hbm, ⟨32, _⟩ => ⟨S8192x8x1, .f32⟩
  | .hbm, ⟨33, _⟩ => ⟨S_, .f32⟩
  | .hbm, ⟨34, _⟩ => ⟨S8192x8x1, .f32⟩
  | .hbm, ⟨35, _⟩ => ⟨S8192x8x1, .f32⟩
  | .hbm, ⟨36, _⟩ => ⟨S8192x8x1, .f32⟩
  | .hbm, ⟨37, _⟩ => ⟨S8192x8x64, .f32⟩
  | .hbm, ⟨38, _⟩ => ⟨S8192x8x64, .f32⟩
  | .hbm, ⟨39, _⟩ => ⟨S1x1x64, .f32⟩
  | .hbm, ⟨40, _⟩ => ⟨S8192x8x64, .f32⟩
  | .hbm, ⟨41, _⟩ => ⟨S8192x8x64, .f32⟩
  | .hbm, ⟨42, _⟩ => ⟨S8192x512, .f32⟩
  | .hbm, ⟨43, _⟩ => ⟨S8192x512, .bf16⟩
  | .hbm, ⟨44, _⟩ => ⟨S8192x512, .f32⟩
  | .hbm, ⟨45, _⟩ => ⟨S8192x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel23.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x1024, .bf16⟩
  | .hbm, ⟨3, _⟩ => ⟨S1024x512, .bf16⟩
  | .hbm, ⟨4, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S256x1024 : Shape := ⟨2, ![256, 1024]⟩
abbrev S1024 : Shape := ⟨1, ![1024]⟩
abbrev S1024x1024 : Shape := ⟨2, ![1024, 1024]⟩
abbrev S128 : Shape := ⟨1, ![128]⟩
abbrev S1x1024 : Shape := ⟨2, ![1, 1024]⟩
abbrev S1x128 : Shape := ⟨2, ![1, 128]⟩
abbrev S256x512 : Shape := ⟨2, ![256, 512]⟩
abbrev S256 : Shape := ⟨1, ![256]⟩
abbrev S256x1 : Shape := ⟨2, ![256, 1]⟩
abbrev S256x128 : Shape := ⟨2, ![256, 128]⟩

abbrev nBuf : Space → Nat
  | .hbm => 11
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S1x1024, .f32⟩
  | .hbm, ⟨5, _⟩ => ⟨S1024x1024, .bf16⟩
  | .hbm, ⟨6, _⟩ => ⟨S1x128, .f32⟩
  | .hbm, ⟨7, _⟩ => ⟨S256x1024, .bf16⟩
  | .hbm, ⟨8, _⟩ => ⟨S256x1024, .f32⟩
  | .hbm, ⟨9, _⟩ => ⟨S256x512, .bf16⟩
  | .hbm, ⟨10, _⟩ => ⟨S256x512, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1x128, .f32⟩
  | .local _ .vmem, ⟨4, _⟩ => ⟨S256x1024, .bf16⟩
  | .local _ .vmem, ⟨5, _⟩ => ⟨S256x1024, .f32⟩
  | .local _ .vmem, ⟨6, _⟩ => ⟨S256x512, .bf16⟩
  | .local _ .vmem, ⟨7, _⟩ => ⟨S256x512, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference24Ideal.lean ====
abbrev S256x1024 : Shape := ⟨2, ![256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x512 : Shape := ⟨2, ![256, 512]⟩
abbrev S256x4x128 : Shape := ⟨3, ![256, 4, 128]⟩
abbrev S256x4 : Shape := ⟨2, ![256, 4]⟩
abbrev S256x4x1 : Shape := ⟨3, ![256, 4, 1]⟩
abbrev S1x1x128 : Shape := ⟨3, ![1, 1, 128]⟩

abbrev nBuf : Space → Nat
  | .hbm => 44
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x512, .f32⟩
  | .hbm, ⟨22, _⟩ => ⟨S256x4x128, .f32⟩
  | .hbm, ⟨23, _⟩ => ⟨S256x4x128, .f32⟩
  | .hbm, ⟨24, _⟩ => ⟨S_, .f32⟩
  | .hbm, ⟨25, _⟩ => ⟨S256x4, .f32⟩
  | .hbm, ⟨26, _⟩ => ⟨S256x4x1, .f32⟩
  | .hbm, ⟨27, _⟩ => ⟨S_, .f32⟩
  | .hbm, ⟨28, _⟩ => ⟨S256x4x1, .f32⟩
  | .hbm, ⟨29, _⟩ => ⟨S256x4x1, .f32⟩
  | .hbm, ⟨30, _⟩ => ⟨S_, .f32⟩
  | .hbm, ⟨31, _⟩ => ⟨S256x4x1, .f32⟩
  | .hbm, ⟨32, _⟩ => ⟨S256x4x1, .f32⟩
  | .hbm, ⟨33, _⟩ => ⟨S256x4x1, .f32⟩
  | .hbm, ⟨34, _⟩ => ⟨S256x4x128, .f32⟩
  | .hbm, ⟨35, _⟩ => ⟨S256x4x128, .f32⟩
  | .hbm, ⟨36, _⟩ => ⟨S1x1x128, .f32⟩
  | .hbm, ⟨37, _⟩ => ⟨S256x4x128, .f32⟩
  | .hbm, ⟨38, _⟩ => ⟨S256x4x128, .f32⟩
  | .hbm, ⟨39, _⟩ => ⟨S256x1024, .bf16⟩
  | .hbm, ⟨40, _⟩ => ⟨S256x512, .f32⟩
  | .hbm, ⟨41, _⟩ => ⟨S256x512, .bf16⟩
  | .hbm, ⟨42, _⟩ => ⟨S256x512, .f32⟩
  | .hbm, ⟨43, _⟩ => ⟨S256x512, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Proof.Glu.lean ====
/- The gradient of the gate: what the call `d_glu` leaves in its two result arrays. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The cotangent times the gate. -/
def gY (dy z : FVec Ideal S8192x512 .f32) : FVec Ideal S8192x512 .f32 := mulf dy (logistic z)

/-- The cotangent of the gate's argument. -/
def gZ (dy y z : FVec Ideal S8192x512 .f32) : FVec Ideal S8192x512 .bf16 :=
  fun i => dy i * y i * Ideal.logistic (z i) * (1 - Ideal.logistic (z i))

variable (m : (ℓ : Loc nD τ sig) → Buf (Elt Ideal) ℓ)

theorem idx : ∀ t : Fin cfg0.N, win0_0.index t 0 = win0_3.index t 0 ∧ win0_1.index t 0 = win0_3.index t 0
    ∧ win0_2.index t 0 = win0_3.index t 0 ∧ win0_4.index t 0 = win0_3.index t 0 ∧ win0_0.index t 1 = 0 ∧ win0_1.index t 1 = 0
    ∧ win0_2.index t 1 = 0 ∧ win0_3.index t 1 = 0 ∧ win0_4.index t 1 = 0 :=
  (by decide +kernel : ∀ t : Fin grid0.N, _)

theorem finalY (c : Dev nD) : (dats m 0 c).arrAt 3 cfg0.N = gY (V m c main_v8) (V m c main_v5) := by
  refine (dats m 0 c).arrAt_eq_of_covers 3 _ (by decide +kernel) fun t _ y => ?_
  blk_simp
  rw [after0_3]
  frame_out
  pointwise [k0_pay1, k0_pay2, k0_pay3, gY]
  blk_point [iblk, V, idx t]

theorem finalZ (c : Dev nD) : (dats m 0 c).arrAt 4 cfg0.N = gZ (V m c main_v8) (V m c main_v2) (V m c main_v5) := by
  refine (dats m 0 c).arrAt_eq_of_covers 4 _ (by decide +kernel) fun t _ y => ?_
  blk_simp
  rw [after0_4]
  frame_out
  pointwise [k0_pay1, k0_pay2, k0_pay4, gZ]
  blk_point [iblk, V, idx t]

/-- Rows out of the order of the segments. -/
abbrev unseg {φ : FTy} (x : FVec Ideal S8192x512 φ) : FVec Ideal S8192x512 φ :=
  shapeCast S8192x512 (transpose S4x8x256x512 [0, 2, 1, 3] (shapeCast S4x256x8x512 x shapeCasts_S8192x512_S4x256x8x512)
    transposes_S4x256x8x512_S4x8x256x512_0_2_1_3) shapeCasts_S4x8x256x512_S8192x512

/-- Rows into the order of the segments. -/
abbrev toseg {φ : FTy} (x : FVec Ideal S8192x512 φ) : FVec Ideal S8192x512 φ :=
  shapeCast S8192x512 (transpose S4x256x8x512 [0, 2, 1, 3] (shapeCast S4x8x256x512 x shapeCasts_S8192x512_S4x8x256x512)
    transposes_S4x8x256x512_S4x256x8x512_0_2_1_3) shapeCasts_S4x256x8x512_S8192x512

/-- Where row `r` lies among the segments. -/
def segRow (r : Fin 8192) : Fin 8192 := ⟨r / 2048 * 2048 + r % 256 * 8 + r / 256 % 8, by omega⟩

theorem unseg_at {φ : FTy} (x : FVec Ideal S8192x512 φ) (r : Fin 8192) (k : Fin 512) :
    unseg x (ix2 r k : S8192x512.Idx) = x (ix2 (segRow r) k) := by
  pointwise []
  rfl

theorem toseg_at {φ : FTy} (x : FVec Ideal S8192x512 φ) (r : Fin 8192) (k : Fin 512) :
    toseg x (ix2 (segRow r) k : S8192x512.Idx) = x (ix2 r k) := by
  obtain ⟨a, b, q, ha, hb, hq, e⟩ : ∃ a b q : ℕ, a < 4 ∧ b < 8 ∧ q < 256 ∧ (r : ℕ) = a * 2048 + b * 256 + q :=
    ⟨r / 2048, r / 256 % 8, r % 256, by omega, by omega, by omega, by omega⟩
  have h : (r : ℕ) / 2048 * 2048 + r % 256 * 8 + r / 256 % 8 = a * 2048 + q * 8 + b := by omega
  pointwise []
  refine congrArg x ((ix2_inj ..).2 ⟨?_, ?_⟩) <;> refine Fin.ext ?_ <;> simp only [segRow, h]
  have h1 : (a * 2048 + q * 8 + b) / 2048 = a := by omega
  have h2 : (a * 2048 + q * 8 + b) / 8 = a * 256 + q := by omega
  have h3 : (a * 2048 + q * 8 + b) % 8 = b := by omega
  have h4 : (a * 256 + q) % 256 = q := by omega
  simp only [h1, h2, h3, h4]
  omega

theorem unseg_toseg {φ : FTy} (x : FVec Ideal S8192x512 φ) : unseg (toseg x) = x := by
  funext i
  obtain ⟨r, k, rfl⟩ : ∃ (r : Fin 8192) (k : Fin 512), i = ix2 r k := ⟨i 0, i 1, eq_ix2 i⟩
  rw [unseg_at, toseg_at]

theorem unseg_dot (y : FVec Ideal S8192x512 .f32) (w : FVec Ideal S512x512 .f32) :
    unseg (Host.dotGeneral (F := Ideal) dot_S8192x512_S512x512_S8192x512_1_0_0_1_n_n none
      (truncf .bf16 (toseg y) bitsLt_bf16_f32) (truncf .bf16 w bitsLt_bf16_f32))
    = Host.dotGeneral (F := Ideal) dot_S8192x512_S512x512_S8192x512_1_0_0_1_n_n none y w := by
  funext i
  obtain ⟨r, k, rfl⟩ : ∃ (r : Fin 8192) (k : Fin 512), i = ix2 r k := ⟨i 0, i 1, eq_ix2 i⟩
  rw [unseg_at]
  generalize hx : toseg y = x
  pointwise []
  exact Finset.sum_congr rfl fun j _ => by rw [← hx, toseg_at]

theorem unseg_gY (dy z : FVec Ideal S8192x512 .f32) : unseg (gY dy z) = gY (unseg dy) (unseg z) := rfl

theorem unseg_gZ (dy y z : FVec Ideal S8192x512 .f32) :
    unseg (φ := .f32) (extf .f32 (gZ dy y z) bitsLt_bf16_f32) = extf .f32 (gZ (unseg dy) (unseg y) (unseg z)) bitsLt_bf16_f32 := rfl

theorem entry_y (c : Dev nD) : V m c main_v2 = toseg (φ := .f32) (m ((c.tc : Thread nD τ).loc main_arg0)) := by entry_read; rfl

theorem entry_ct (c : Dev nD) : V m c main_v8 = toseg (φ := .f32) (m ((c.tc : Thread nD τ).loc main_arg2)) := by entry_read; rfl

theorem entry_z (c : Dev nD) : V m c main_v5
    = Host.dotGeneral (F := Ideal) dot_S8192x512_S512x512_S8192x512_1_0_0_1_n_n none
        (truncf .bf16 (toseg (φ := .f32) (m ((c.tc : Thread nD τ).loc main_arg0))) bitsLt_bf16_f32)
        (truncf .bf16 (m ((c.tc : Thread nD τ).loc main_arg1)) bitsLt_bf16_f32) := by entry_read; rfl

end Cert.KernelIdeal.Hand

end
-- ==== Proof.SbStep.lean ====
module

public import proofs.«01_k».proof.Proof.Gen.Kernel2Ideal.Launch
public import proofs.«01_k».proof.Proof.Gen.Kernel2Ideal.Points
public import proofs.«01_k».proof.Proof.Gen.Kernel2Ideal.Skeleton
public import proofs.«01_k».proof.Proof.Gen.Kernel2.Launch
public import proofs.«01_k».proof.Proof.Gen.Kernel2.Points
public import proofs.«01_k».proof.Proof.Gen.Kernel2.Skeleton
public import Idealize.ShloMosaic.Lib.Tactic

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic Idealize.SL.Sem

variable {F : FTy → Type} [FloatOps F]

/-- The 256 by 256 zero the products start from. -/
abbrev zz : FVec F S256x256 .f32 := constant S256x256 .f32 0x00000000#32

/-- A 256 by 256 tile of one word. -/
abbrev full (w : BitVec 32) : FVec F S256x256 .f32 := broadcast S256x256 (Scalar.ofBits .f32 w : F .f32)

/-- The zero columns of the other head. -/
abbrev zcol : FVec F S256x128 .bf16 := broadcast S256x128 (Scalar.ofBits .bf16 0x0000#16 : F .bf16)

/-- A row's sum as a column. -/
abbrev rowSum (x : FVec F S256x256 .f32) : FVec F S256x1 .f32 :=
  shapeCast S256x1 (multiReduction .add [1] S256 x 0x00000000#32 reduces_S256x256_S256 (.inl rfl) rfl) shapeCasts_S256_S256x1

/-- A row's sum over the 128 columns of a head pair, as a column. -/
abbrev rowSum128 (x : FVec F S256x128 .f32) : FVec F S256x1 .f32 :=
  shapeCast S256x1 (multiReduction .add [1] S256 x 0x00000000#32 reduces_S256x128_S256 (.inl rfl) rfl) shapeCasts_S256_S256x1

/-- Products of rows: `a bᵀ`. -/
abbrev nt (a b : FVec F S256x128 .bf16) : FVec F S256x256 .f32 :=
  matmul dot_S256x128_S256x128_S256x256_1_1_0_0_n_n none a b zz

/-- The log of the logistic function of the scores. -/
def lbOf (z : FVec F S256x256 .f32) : FVec F S256x256 .f32 :=
  subf (minimumf z (full 0x00000000#32))
    (log (addf (full 0x3F800000#32) (exp (subf (full 0x00000000#32) (absf z)))))

/-- The product with a matrix of ones, the left side in two halves of its bits. -/
def splitOf (x : FVec F S256x256 .f32) (u : FVec F S512x256 .bf16) : FVec F S256x256 .f32 :=
  matmul dot_S256x512_S512x256_S256x256_1_0_0_1_n_n none
    (concatenate S256x512 1 [⟨S256x256, truncf .bf16 x bitsLt_bf16_f32⟩,
      ⟨S256x256, truncf .bf16 (subf x (extf .f32 (truncf .bf16 x bitsLt_bf16_f32) bitsLt_bf16_f32)) bitsLt_bf16_f32⟩]
      concatenates_S256x256_S256x256_S256x512_d1) u zz

/-- What one sub-block of queries holds fixed on its walk over the keys. -/
structure Sub (F : FTy → Type) where
  lanes : IVec S256x128 1
  qa : FVec F S256x128 .bf16
  up : FVec F S512x256 .bf16
  da : FVec F S256x128 .bf16
  upto : FVec F S512x256 .bf16
  qb : FVec F S256x128 .bf16
  db : FVec F S256x128 .bf16
  qrows : FVec F S512x128 .bf16
  drows : FVec F S512x128 .bf16

/-- What it carries: both heads' sums of the logs, both heads' remainders, the gradient of the queries. -/
abbrev Car (F : FTy → Type) : Type :=
  FVec F S256x1 .f32 × FVec F S256x1 .f32 × FVec F S256x1 .f32 × FVec F S256x1 .f32 × FVec F S256x128 .f32

variable (mL mW : FVec F S256x256 .f32 → FVec F S256x256 .f32)

/-- The scores of a head. -/
def zOf (q kb : FVec F S256x128 .bf16) : FVec F S256x256 .f32 := nt q kb
/-- The logs of the complement, masked. -/
def lOf (q kb : FVec F S256x128 .bf16) : FVec F S256x256 .f32 := mL (subf (lbOf (zOf q kb)) (zOf q kb))
/-- The weights of a head. -/
def wOf (u : FVec F S512x256 .bf16) (q kb : FVec F S256x128 .bf16) (a : FVec F S256x1 .f32) : FVec F S256x256 .bf16 :=
  truncf .bf16 (mW (exp (addf (lbOf (zOf q kb))
    (addf (broadcastTo S256x256 a broadcasts_S256x1_S256x256) (splitOf (lOf mL q kb) u))))) bitsLt_bf16_f32
/-- The gradients of the weights times the weights. -/
def gOf (u : FVec F S512x256 .bf16) (q kb d vb : FVec F S256x128 .bf16) (a : FVec F S256x1 .f32) : FVec F S256x256 .f32 :=
  mulf (nt d vb) (extf .f32 (wOf mL mW u q kb a) bitsLt_bf16_f32)
/-- The gradients of the scores. -/
def dzOf (u t : FVec F S512x256 .bf16) (q kb d vb : FVec F S256x128 .bf16) (a r : FVec F S256x1 .f32) : FVec F S256x256 .bf16 :=
  truncf .bf16 (mW (subf (gOf mL mW u q kb d vb a)
    (mulf (addf (gOf mL mW u q kb d vb a)
        (subf (broadcastTo S256x256 r broadcasts_S256x1_S256x256) (splitOf (gOf mL mW u q kb d vb a) t)))
      (exp (lbOf (zOf q kb)))))) bitsLt_bf16_f32

/-- The keys of a block as read. -/
abbrev kbOf (kr : Vec F S256x128 .bf16) : FVec F S256x128 .bf16 := shapeCast S256x128 kr shapeCasts_S256x128_S256x128
/-- The values of a block as read. -/
abbrev vbOf (vr : Vec F S256x128 .f32) : FVec F S256x128 .bf16 := truncf .bf16 vr bitsLt_bf16_f32

/-- Both heads' gradients of the scores side by side, and their weights. -/
def dzA (s : Sub F) (kr : Vec F S256x128 .bf16) (vr : Vec F S256x128 .f32) (c : Car F) : FVec F S256x256 .bf16 :=
  dzOf mL mW s.up s.upto s.qa (kbOf kr) s.da (vbOf vr) c.1 c.2.2.1
def dzB (s : Sub F) (kr : Vec F S256x128 .bf16) (vr : Vec F S256x128 .f32) (c : Car F) : FVec F S256x256 .bf16 :=
  dzOf mL mW s.up s.upto s.qb (kbOf kr) s.db (vbOf vr) c.2.1 c.2.2.2.1

/-- The carry after a block of keys. -/
def carOf (s : Sub F) (kr : Vec F S256x128 .bf16) (vr : Vec F S256x128 .f32) (c : Car F) : Car F :=
  (addf c.1 (rowSum (lOf mL s.qa (kbOf kr))), addf c.2.1 (rowSum (lOf mL s.qb (kbOf kr))),
    subf c.2.2.1 (rowSum (gOf mL mW s.up s.qa (kbOf kr) s.da (vbOf vr) c.1)),
    subf c.2.2.2.1 (rowSum (gOf mL mW s.up s.qb (kbOf kr) s.db (vbOf vr) c.2.1)),
    addf c.2.2.2.2 (matmul dot_S256x512_S512x128_S256x128_1_0_0_1_n_n none
      (concatenate S256x512 1 [⟨S256x256, dzA mL mW s kr vr c⟩, ⟨S256x256, dzB mL mW s kr vr c⟩]
        concatenates_S256x256_S256x256_S256x512_d1)
      (concatenate S512x128 0 [⟨S256x128, select s.lanes (kbOf kr) zcol⟩, ⟨S256x128, select s.lanes zcol (kbOf kr)⟩]
        concatenates_S256x128_S256x128_S512x128_d0)
      (constant S256x128 .f32 0x00000000#32)))

/-- The gradient of the keys of a block, added to. -/
def dkOf (s : Sub F) (kr : Vec F S256x128 .bf16) (vr : Vec F S256x128 .f32) (c : Car F) (old : Vec F S256x128 .f32) :
    FVec F S256x128 .f32 :=
  addf (shapeCast S256x128 old shapeCasts_S256x128_S256x128)
    (matmul dot_S512x256_S512x128_S256x128_0_0_1_1_n_n none
      (concatenate S512x256 0 [⟨S256x256, dzA mL mW s kr vr c⟩, ⟨S256x256, dzB mL mW s kr vr c⟩]
        concatenates_S256x256_S256x256_S512x256_d0) s.qrows (constant S256x128 .f32 0x00000000#32))

/-- The gradient of the values of a block, added to. -/
def dvOf (s : Sub F) (kr : Vec F S256x128 .bf16) (vr : Vec F S256x128 .f32) (c : Car F) (old : Vec F S256x128 .f32) :
    FVec F S256x128 .f32 :=
  addf (shapeCast S256x128 old shapeCasts_S256x128_S256x128)
    (matmul dot_S512x256_S512x128_S256x128_0_0_1_1_n_n none
      (concatenate S512x256 0 [⟨S256x256, wOf mL mW s.up s.qa (kbOf kr) c.1⟩, ⟨S256x256, wOf mL mW s.up s.qb (kbOf kr) c.2.1⟩]
        concatenates_S256x256_S256x256_S512x256_d0) s.drows (constant S256x128 .f32 0x00000000#32))

variable [Named F]

/-- One block of keys: read, computed, added to both gradients; then `k` with the new carry. -/
def stepProg {β : Type} (s : Sub F) (arg3 : Memref sig .tc .vmem S8192x128 .bf16) (arg4 arg8 arg9 : Memref sig .tc .vmem S8192x128 .f32)
    (off : Fin 2 → Nat) (hin : ∀ a, off a + S256x128.size a ≤ S8192x128.size a) (c : Car F)
    (k : Car F → Prog (TpuEff nD τ sig (Elt F) (Λ₀ F) .tc) β) : Prog (TpuEff nD τ sig (Elt F) (Λ₀ F) .tc) β :=
  .op (.load arg3 (Rect.unit (s := S8192x128) off S256x128.size hin).toLoadRect (View.loadsAt_vmem h_S256x128)) fun (kr : Vec F S256x128 .bf16) =>
  .op (.load arg4 (Rect.unit (s := S8192x128) off S256x128.size hin).toLoadRect (View.loadsAt_vmem h_S256x128)) fun (vr : Vec F S256x128 .f32) =>
  .op (.load arg8 (Rect.unit (s := S8192x128) off S256x128.size hin).toLoadRect (View.loadsAt_vmem h_S256x128)) fun (o8 : Vec F S256x128 .f32) =>
  .op (.load arg8 (Rect.unit (s := S8192x128) off S256x128.size hin).toLoadRect (View.loadsAt_vmem h_S256x128)) fun (_ : Vec F S256x128 .f32) =>
  .op (.store arg8 (Rect.unit (s := S8192x128) off S256x128.size hin) (dkOf mL mW s kr vr c o8) Finset.univ
    (View.stores_vmem_bits_univ h_S256x128 rfl) (.inl rfl)) fun _ =>
  .op (.load arg9 (Rect.unit (s := S8192x128) off S256x128.size hin).toLoadRect (View.loadsAt_vmem h_S256x128)) fun (o9 : Vec F S256x128 .f32) =>
  .op (.load arg9 (Rect.unit (s := S8192x128) off S256x128.size hin).toLoadRect (View.loadsAt_vmem h_S256x128)) fun (_ : Vec F S256x128 .f32) =>
  .op (.store arg9 (Rect.unit (s := S8192x128) off S256x128.size hin) (dvOf mL mW s kr vr c o9) Finset.univ
    (View.stores_vmem_bits_univ h_S256x128 rfl) (.inl rfl)) fun _ =>
  k (carOf mL mW s kr vr c)

/-- The number the walk compares with the threshold: the larger of both heads' largest sum. -/
def topOf (a b : FVec F S256x1 .f32) : F .f32 :=
  extractAt ![0, 0, 0] (shapeCast S1x1x1 (multiReduction .maximumf [1, 2] S1
    (shapeCast S1x256x1 (maximumf a b) shapeCasts_S256x1_S1x256x1) 0xFF800000#32 reduces_S1x256x1_S1 (.inl rfl) rfl)
    shapeCasts_S1_S1x1x1) inpos_S1x1x1_p0_0_0

/-- The word of the sub-block: four a point. -/
def qWord (i : grid0.Coords) (h : BitVec 32) : BitVec 32 :=
  Scalar.addi (Scalar.muli (BitVec.ofNat 32 (i 1).val) 4#32) h

/-- Whether the walk goes on. -/
def testOf (i : grid0.Coords) (h n : BitVec 32) (a b : FVec F S256x1 .f32) : BitVec 1 :=
  Scalar.andi (Scalar.cmpi .sle n (qWord i h)) (Scalar.cmpf .ogt (topOf a b) (Named.named κ "exit" 0xC2DC0000#32))

/-- The walk: a block of keys and again, while the test holds. -/
def whileProg (s : Sub F) (arg3 : Memref sig .tc .vmem S8192x128 .bf16) (arg4 arg8 arg9 : Memref sig .tc .vmem S8192x128 .f32)
    (i : grid0.Coords) (h n : BitVec 32) (c : Car F) (P : Prop) (dec : Decidable P)
    (off : Fin 2 → Nat) (hin : P → ∀ a, off a + S256x128.size a ≤ S8192x128.size a)
    (again : BitVec 32 → Car F → Prog (TpuEff nD τ sig (Elt F) (Λ₀ F) .tc) (BitVec 32 × Car F)) :
    Prog (TpuEff nD τ sig (Elt F) (Λ₀ F) .tc) (BitVec 32 × Car F) :=
  if testOf i h n c.1 c.2.1 = 1#1 then
    .op (.assume P dec) fun hP => stepProg id id s arg3 arg4 arg8 arg9 off (hin hP.down) c fun c' => again (Scalar.addi n 1#32) c'
  else .ret (n, c)

section Walks

variable (s : Sub F) (i : grid0.Coords) (arg3 : Memref sig .tc .vmem S8192x128 .bf16) (harg3 : arg3.IsWhole)
  (arg4 : Memref sig .tc .vmem S8192x128 .f32) (harg4 : arg4.IsWhole) (arg8 : Memref sig .tc .vmem S8192x128 .f32) (harg8 : arg8.IsWhole)
  (arg9 : Memref sig .tc .vmem S8192x128 .f32) (harg9 : arg9.IsWhole) (n : BitVec 32) (c : Car F)

/-- The record the first walk is called with. -/
abbrev rec1 : Cc0While1 F := ⟨i, arg3, harg3, arg4, harg4, s.lanes, s.qa, s.up, s.da, s.upto, s.qb, s.db, arg8, harg8, s.qrows, arg9, harg9, s.drows, n, c.1, c.2.1, c.2.2.1, c.2.2.2.1, c.2.2.2.2⟩

/-- The first walk is that. -/
theorem while1_eq :
    cc0_while1 i arg3 harg3 arg4 harg4 s.lanes s.qa s.up s.da s.upto s.qb s.db arg8 harg8 s.qrows arg9 harg9 s.drows n c.1 c.2.1 c.2.2.1 c.2.2.2.1 c.2.2.2.2
      = whileProg s arg3 arg4 arg8 arg9 i 0#32 n c (k0_chk1 i n) (k0_chk1.dec i n) (k0_off2 i n) (k0_off2_inb i n)
        (fun n' c' => Prog.lift (.call (1 : (Λ₀ F).Label) (rec1 s i arg3 harg3 arg4 harg4 arg8 harg8 arg9 harg9 n' c'))) := by
  sl_kernel_rfl

/-- The record the second walk is called with. -/
abbrev rec2 : Cc0While2 F := ⟨i, arg3, harg3, arg4, harg4, s.lanes, s.qa, s.up, s.da, s.upto, s.qb, s.db, arg8, harg8, s.qrows, arg9, harg9, s.drows, n, c.1, c.2.1, c.2.2.1, c.2.2.2.1, c.2.2.2.2⟩

/-- The second walk is that. -/
theorem while2_eq :
    cc0_while2 i arg3 harg3 arg4 harg4 s.lanes s.qa s.up s.da s.upto s.qb s.db arg8 harg8 s.qrows arg9 harg9 s.drows n c.1 c.2.1 c.2.2.1 c.2.2.2.1 c.2.2.2.2
      = whileProg s arg3 arg4 arg8 arg9 i 1#32 n c (k0_chk2 i n) (k0_chk2.dec i n) (k0_off3 i n) (k0_off3_inb i n)
        (fun n' c' => Prog.lift (.call (2 : (Λ₀ F).Label) (rec2 s i arg3 harg3 arg4 harg4 arg8 harg8 arg9 harg9 n' c'))) := by
  sl_kernel_rfl

/-- The record the third walk is called with. -/
abbrev rec3 : Cc0While3 F := ⟨i, arg3, harg3, arg4, harg4, s.lanes, s.qa, s.up, s.da, s.upto, s.qb, s.db, arg8, harg8, s.qrows, arg9, harg9, s.drows, n, c.1, c.2.1, c.2.2.1, c.2.2.2.1, c.2.2.2.2⟩

/-- The third walk is that. -/
theorem while3_eq :
    cc0_while3 i arg3 harg3 arg4 harg4 s.lanes s.qa s.up s.da s.upto s.qb s.db arg8 harg8 s.qrows arg9 harg9 s.drows n c.1 c.2.1 c.2.2.1 c.2.2.2.1 c.2.2.2.2
      = whileProg s arg3 arg4 arg8 arg9 i 2#32 n c (k0_chk3 i n) (k0_chk3.dec i n) (k0_off4 i n) (k0_off4_inb i n)
        (fun n' c' => Prog.lift (.call (3 : (Λ₀ F).Label) (rec3 s i arg3 harg3 arg4 harg4 arg8 harg8 arg9 harg9 n' c'))) := by
  sl_kernel_rfl

/-- The record the fourth walk is called with. -/
abbrev rec4 : Cc0While4 F := ⟨i, arg3, harg3, arg4, harg4, s.lanes, s.qa, s.up, s.da, s.upto, s.qb, s.db, arg8, harg8, s.qrows, arg9, harg9, s.drows, n, c.1, c.2.1, c.2.2.1, c.2.2.2.1, c.2.2.2.2⟩

/-- The fourth walk is that. -/
theorem while4_eq :
    cc0_while4 i arg3 harg3 arg4 harg4 s.lanes s.qa s.up s.da s.upto s.qb s.db arg8 harg8 s.qrows arg9 harg9 s.drows n c.1 c.2.1 c.2.2.1 c.2.2.2.1 c.2.2.2.2
      = whileProg s arg3 arg4 arg8 arg9 i 3#32 n c (k0_chk4 i n) (k0_chk4.dec i n) (k0_off5 i n) (k0_off5_inb i n)
        (fun n' c' => Prog.lift (.call (4 : (Λ₀ F).Label) (rec4 s i arg3 harg3 arg4 harg4 arg8 harg8 arg9 harg9 n' c'))) := by
  sl_kernel_rfl

end Walks

/-- The ones below the diagonal, twice. -/
def upM : FVec F S512x256 .bf16 :=
  concatenate S512x256 0 [⟨S256x256, truncf .bf16 (sitofp .f32 (extui 32 (cmpi .sgt (iota .tc S256x256 32 [0] iota_S256x256_d0_w32) (iota .tc S256x256 32 [1] iota_S256x256_d1_w32)) natLt_1_32)) bitsLt_bf16_f32⟩,
    ⟨S256x256, truncf .bf16 (sitofp .f32 (extui 32 (cmpi .sgt (iota .tc S256x256 32 [0] iota_S256x256_d0_w32) (iota .tc S256x256 32 [1] iota_S256x256_d1_w32)) natLt_1_32)) bitsLt_bf16_f32⟩]
    concatenates_S256x256_S256x256_S512x256_d0

/-- The ones on and below the diagonal, twice. -/
def uptoM : FVec F S512x256 .bf16 :=
  concatenate S512x256 0 [⟨S256x256, truncf .bf16 (sitofp .f32 (extui 32 (cmpi .sge (iota .tc S256x256 32 [0] iota_S256x256_d0_w32) (iota .tc S256x256 32 [1] iota_S256x256_d1_w32)) natLt_1_32)) bitsLt_bf16_f32⟩,
    ⟨S256x256, truncf .bf16 (sitofp .f32 (extui 32 (cmpi .sge (iota .tc S256x256 32 [0] iota_S256x256_d0_w32) (iota .tc S256x256 32 [1] iota_S256x256_d1_w32)) natLt_1_32)) bitsLt_bf16_f32⟩]
    concatenates_S256x256_S256x256_S512x256_d0

/-- The columns of the first head of a pair. -/
def laneM : IVec S256x128 1 := cmpi .slt (iota .tc S256x128 32 [1] iota_S256x128_d1_w32) (broadcast S256x128 64#32)

/-- The mask of the diagonal block: keys before the query. -/
def diagM (x : FVec F S256x256 .f32) : FVec F S256x256 .f32 :=
  select (cmpi .slt (iota .tc S256x256 32 [1] iota_S256x256_d1_w32) (iota .tc S256x256 32 [0] iota_S256x256_d0_w32)) x (full 0x00000000#32)

/-- The mask of the block before it: whether there is one. -/
def prevM (i : grid0.Coords) (h : BitVec 32) (x : FVec F S256x256 .f32) : FVec F S256x256 .f32 :=
  select (broadcast S256x256 (Scalar.cmpi .sgt (qWord i h) 0#32)) x (full 0x00000000#32)

/-- What a sub-block holds fixed, from its queries and its cotangent. -/
def subOf (q : Vec F S256x128 .bf16) (d : Vec F S256x128 .f32) : Sub F where
  lanes := laneM
  qa := select laneM (kbOf q) zcol
  up := upM
  da := select laneM (vbOf d) zcol
  upto := uptoM
  qb := select laneM zcol (kbOf q)
  db := select laneM zcol (vbOf d)
  qrows := concatenate S512x128 0 [⟨S256x128, select laneM (kbOf q) zcol⟩, ⟨S256x128, select laneM zcol (kbOf q)⟩]
    concatenates_S256x128_S256x128_S512x128_d0
  drows := concatenate S512x128 0 [⟨S256x128, select laneM (vbOf d) zcol⟩, ⟨S256x128, select laneM zcol (vbOf d)⟩]
    concatenates_S256x128_S256x128_S512x128_d0

/-- The carry a sub-block starts with. -/
def car0 (d o : Vec F S256x128 .f32) : Car F :=
  (broadcast S256x1 (Scalar.ofBits .f32 0x00000000#32 : F .f32), broadcast S256x1 (Scalar.ofBits .f32 0x00000000#32 : F .f32),
    rowSum128 (select laneM (mulf (extf .f32 (vbOf d) bitsLt_bf16_f32) (shapeCast S256x128 o shapeCasts_S256x128_S256x128))
      (broadcast S256x128 (Scalar.ofBits .f32 0x00000000#32 : F .f32))),
    rowSum128 (select laneM (broadcast S256x128 (Scalar.ofBits .f32 0x00000000#32 : F .f32))
      (mulf (extf .f32 (vbOf d) bitsLt_bf16_f32) (shapeCast S256x128 o shapeCasts_S256x128_S256x128))),
    broadcast S256x128 (Scalar.ofBits .f32 0x00000000#32 : F .f32))

section Body

variable (i : grid0.Coords) (arg2 : Memref sig .tc .vmem S1024x128 .bf16) (arg3 : Memref sig .tc .vmem S8192x128 .bf16)
  (arg4 : Memref sig .tc .vmem S8192x128 .f32) (arg5 arg6 arg7 : Memref sig .tc .vmem S1024x128 .f32)
  (arg8 arg9 : Memref sig .tc .vmem S8192x128 .f32)
  (harg3 : arg3.IsWhole) (harg4 : arg4.IsWhole) (harg8 : arg8.IsWhole) (harg9 : arg9.IsWhole)

/-- Whether the point is the first of its head pair. -/
def firstOf : BitVec 1 := Scalar.cmpi .ne (Scalar.extui (Scalar.cmpi .eq (BitVec.ofNat 32 (i 1).val) 0#32)) 0#32

/-- The first point of a head pair clears both gradients. -/
def clearProg : Prog (TpuEff nD τ sig (Elt F) (Λ₀ F) .tc) PUnit :=
  if _h : firstOf i = 1#1 then
    .op (.load arg8 (Rect.unit (s := S8192x128) ![0, 0] S8192x128.size inb_S8192x128_S8192x128_0_0).toLoadRect (View.loadsAt_vmem h_S8192x128)) fun (_ : Vec F S8192x128 .f32) =>
    .op (.store arg8 (Rect.unit (s := S8192x128) ![0, 0] S8192x128.size inb_S8192x128_S8192x128_0_0) (broadcast S8192x128 (Scalar.ofBits .f32 0x00000000#32 : F .f32)) Finset.univ
      (View.stores_vmem_bits_univ h_S8192x128 rfl) (.inl rfl)) fun _ =>
    .op (.load arg9 (Rect.unit (s := S8192x128) ![0, 0] S8192x128.size inb_S8192x128_S8192x128_0_0).toLoadRect (View.loadsAt_vmem h_S8192x128)) fun (_ : Vec F S8192x128 .f32) =>
    .op (.store arg9 (Rect.unit (s := S8192x128) ![0, 0] S8192x128.size inb_S8192x128_S8192x128_0_0) (broadcast S8192x128 (Scalar.ofBits .f32 0x00000000#32 : F .f32)) Finset.univ
      (View.stores_vmem_bits_univ h_S8192x128 rfl) (.inl rfl)) fun _ => .ret ⟨⟩
  else .ret ⟨⟩

/-- A sub-block before its walk: its rows read, the diagonal block and the one before it. -/
def headProg {β : Type} (row : Fin 2 → Nat) (hrow : ∀ a, row a + S256x128.size a ≤ S1024x128.size a) (h : BitVec 32)
    (hin : ∀ (n : Fin 2) a, k0_off1 i h (BitVec.ofNat 32 n.val) a + S256x128.size a ≤ S8192x128.size a)
    (k : Sub F → Car F → Prog (TpuEff nD τ sig (Elt F) (Λ₀ F) .tc) β) : Prog (TpuEff nD τ sig (Elt F) (Λ₀ F) .tc) β :=
  .op (.load arg2 (Rect.unit (s := S1024x128) row S256x128.size hrow).toLoadRect (View.loadsAt_vmem h_S256x128)) fun (q : Vec F S256x128 .bf16) =>
  .op (.load arg6 (Rect.unit (s := S1024x128) row S256x128.size hrow).toLoadRect (View.loadsAt_vmem h_S256x128)) fun (d : Vec F S256x128 .f32) =>
  .op (.load arg5 (Rect.unit (s := S1024x128) row S256x128.size hrow).toLoadRect (View.loadsAt_vmem h_S256x128)) fun (o : Vec F S256x128 .f32) =>
  stepProg diagM diagM (subOf q d) arg3 arg4 arg8 arg9 (k0_off1 i h 0#32) (hin 0) (car0 d o) fun c =>
  stepProg id (prevM i h) (subOf q d) arg3 arg4 arg8 arg9 (k0_off1 i h 1#32) (hin 1) c fun c =>
  k (subOf q d) c

/-- A sub-block's walk called, and its gradient of the queries stored. -/
def tailProg {β : Type} (row : Fin 2 → Nat) (hrow : ∀ a, row a + S256x128.size a ≤ S1024x128.size a)
    (p : Prog (TpuEff nD τ sig (Elt F) (Λ₀ F) .tc) (BitVec 32 × Car F))
    (k : Prog (TpuEff nD τ sig (Elt F) (Λ₀ F) .tc) β) : Prog (TpuEff nD τ sig (Elt F) (Λ₀ F) .tc) β :=
  p.bind fun r =>
  .op (.load arg7 (Rect.unit (s := S1024x128) row S256x128.size hrow).toLoadRect (View.loadsAt_vmem h_S256x128)) fun (_ : Vec F S256x128 .f32) =>
  .op (.store arg7 (Rect.unit (s := S1024x128) row S256x128.size hrow) r.2.2.2.2.2 Finset.univ
    (View.stores_vmem_bits_univ h_S256x128 rfl) (.inl rfl)) fun _ => k

/-- The kernel body. -/
def bodyProg : Prog (TpuEff nD τ sig (Elt F) (Λ₀ F) .tc) PUnit :=
  (clearProg i arg8 arg9).bind fun _ =>
  headProg i arg2 arg3 arg4 arg5 arg6 arg8 arg9 ![0, 0] inb_S1024x128_S256x128_0_0 0#32 (k0_off1_inb i 0) fun s1 c1 =>
  headProg i arg2 arg3 arg4 arg5 arg6 arg8 arg9 ![256, 0] inb_S1024x128_S256x128_256_0 1#32 (k0_off1_inb i 1) fun s2 c2 =>
  headProg i arg2 arg3 arg4 arg5 arg6 arg8 arg9 ![512, 0] inb_S1024x128_S256x128_512_0 2#32 (k0_off1_inb i 2) fun s3 c3 =>
  headProg i arg2 arg3 arg4 arg5 arg6 arg8 arg9 ![768, 0] inb_S1024x128_S256x128_768_0 3#32 (k0_off1_inb i 3) fun s4 c4 =>
  tailProg arg7 ![0, 0] inb_S1024x128_S256x128_0_0
    (Prog.lift (.call (1 : (Λ₀ F).Label) (rec1 s1 i arg3 harg3 arg4 harg4 arg8 harg8 arg9 harg9 2#32 c1))) <|
  tailProg arg7 ![256, 0] inb_S1024x128_S256x128_256_0
    (Prog.lift (.call (2 : (Λ₀ F).Label) (rec2 s2 i arg3 harg3 arg4 harg4 arg8 harg8 arg9 harg9 2#32 c2))) <|
  tailProg arg7 ![512, 0] inb_S1024x128_S256x128_512_0
    (Prog.lift (.call (3 : (Λ₀ F).Label) (rec3 s3 i arg3 harg3 arg4 harg4 arg8 harg8 arg9 harg9 2#32 c3))) <|
  tailProg arg7 ![768, 0] inb_S1024x128_S256x128_768_0
    (Prog.lift (.call (4 : (Λ₀ F).Label) (rec4 s4 i arg3 harg3 arg4 harg4 arg8 harg8 arg9 harg9 2#32 c4))) <|
  .ret ⟨⟩

/-- The printed body is that. -/
theorem body_eq (harg2 : arg2.IsWhole) (harg5 : arg5.IsWhole) (harg6 : arg6.IsWhole) (harg7 : arg7.IsWhole) :
    cc0_sb_bwd (F := F) i arg2 harg2 arg3 harg3 arg4 harg4 arg5 harg5 arg6 harg6 arg7 harg7 arg8 harg8 arg9 harg9
      = bodyProg i arg2 arg3 arg4 arg5 arg6 arg7 arg8 arg9 harg3 harg4 harg8 harg9 := by
  unfold cc0_sb_bwd k0_part27 bodyProg clearProg
  rw [k0_part1_eq_skeleton]; unfold k0_part1_skel
  by_cases h : firstOf i = 1#1
  · have h' : Scalar.cmpi .ne (Scalar.extui (Scalar.cmpi .eq (BitVec.ofNat 32 (i 1).val) 0#32) : BitVec 32) 0#32 = 1#1 := h
    simp only [h, h', ↓reduceDIte]
    sl_kernel_rfl
  · have h' : ¬ Scalar.cmpi .ne (Scalar.extui (Scalar.cmpi .eq (BitVec.ofNat 32 (i 1).val) 0#32) : BitVec 32) 0#32 = 1#1 := h
    simp only [h, h', ↓reduceDIte]
    sl_kernel_rfl

end Body

end Cert.Kernel2Ideal.Hand
-- ==== Proof.SbRun.lean ====
module

public import proofs.«01_k».proof.Proof.SbStep
public import Idealize.ShloMosaic.Lib.Pipeline.FrameBody

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Access

/-- A load through a memref owned at `X` reads `X` on the rectangle. -/
theorem load_owns (𝒱 : Variants) (c : Dev nD) (bd : Option 𝒱.V) (E : Set ℕ) {α : Type} (Q : α → sProp 𝕄)
    (D : Defs nD τ sig (Elt F) (Λ₀ F)) {s : Shape} {e : EltTy} (m : Memref sig .tc .vmem s e) (q : PosShare TreeShare) (X : s.Idx → Elt F e) (r : Rect s)
    {hl : m.view.LoadsAt r.toLoadRect} (k : (r.shape.Idx → Elt F e) → Prog (TpuEff nD τ sig (Elt F) (Λ₀ F) .tc) α) :
    iprop(owns (c : Thread nD τ) m q X ∗ (owns (c : Thread nD τ) m q X -∗ wp frame (wpE D 𝒱 c bd) E (k (View.ld X r)) Q))
      ⊢ wp frame (wpE D 𝒱 c bd) E (.op (.load m r.toLoadRect hl) k) Q := by
  unfold owns
  iintro ⟨⟨%f, %hf, H⟩, Hk⟩
  iapply (wp_load 𝒱 (c : Thread nD τ) bd E (m := m) (r := r.toLoadRect) (by
    intro i hi; obtain ⟨j, _, rfl⟩ := Finset.mem_map.1 hi; exact Finset.mem_map_of_mem _ (Finset.mem_univ _))) $$ H
  iintro H
  rw [View.readAt_eq_ld, hf]
  iapply Hk
  iexists f; isplitr
  · ipureintro; exact hf
  iexact H

/-- A store of the whole rectangle leaves the memref owned at `X` overlaid there. -/
theorem store_owns (𝒱 : Variants) (c : Dev nD) (bd : Option 𝒱.V) (E : Set ℕ) {α : Type} (Q : α → sProp 𝕄)
    (D : Defs nD τ sig (Elt F) (Λ₀ F)) {s : Shape} {e : EltTy} (m : Memref sig .tc .vmem s e) (X : s.Idx → Elt F e) (r : Rect s) (w : r.shape.Idx → Elt F e)
    {hx : (m.access r).Stores Finset.univ} {hm : (Finset.univ : Finset r.shape.Idx) = Finset.univ ∨ ∀ a, r.stride a = 1}
    (k : PUnit → Prog (TpuEff nD τ sig (Elt F) (Λ₀ F) .tc) α) :
    iprop(owns (c : Thread nD τ) m fullShare X
        ∗ (owns (c : Thread nD τ) m fullShare (r.overlay X w) -∗ wp frame (wpE D 𝒱 c bd) E (k ⟨⟩) Q))
      ⊢ wp frame (wpE D 𝒱 c bd) E (.op (.store m r w Finset.univ hx hm) k) Q := by
  unfold owns
  iintro ⟨⟨%f, %hf, H⟩, Hk⟩
  iapply (wp_store 𝒱 (c : Thread nD τ) bd E (m := m) (r := r) (Mk := Finset.univ) (by
    intro i hi; obtain ⟨j, _, rfl⟩ := Finset.mem_map.1 hi; exact Finset.mem_map_of_mem _ (Finset.mem_univ _))) $$ H
  iintro H
  iapply Hk
  iexists _; isplitr
  · ipureintro
    show m.view.read (Elt F) ((m.view.slice r).write (Elt F) f w Finset.univ) = _
    funext j
    by_cases hj : j ∈ r.set
    · obtain ⟨i, rfl⟩ := r.exists_idx_of_mem hj
      rw [show r.idx i = r.emb i from rfl, Rect.overlay_emb]
      exact View.read_slice_write_emb r f w (Finset.mem_univ i)
    · rw [Rect.overlay_of_not_mem _ _ _ hj, ← hf]
      exact View.read_slice_write_of_not_mem r f w _ (by rwa [Rect.map_emb_univ])
  iexact H

end Access

/-! ## The state of the walk, and a block of keys on it -/

/-- What a point changes: the carry and both gradients. -/
structure St (F : FTy → Type) where
  car : Car F
  dk : Vec F S8192x128 .f32
  dv : Vec F S8192x128 .f32

/-- A block of 256 rows of the keys. -/
abbrev rowR (off : Fin 2 → Nat) (hin : ∀ a, off a + S256x128.size a ≤ S8192x128.size a) : Rect S8192x128 :=
  Rect.unit (s := S8192x128) off S256x128.size hin

/-- A block of keys, at any rows: the carry and both gradients after it. -/
def stepAt (mL mW : FVec F S256x256 .f32 → FVec F S256x256 .f32) (s : Sub F) (K : Vec F S8192x128 .bf16) (V : Vec F S8192x128 .f32)
    (off : Fin 2 → Nat) (hin : ∀ a, off a + S256x128.size a ≤ S8192x128.size a) (x : St F) : St F where
  car := carOf mL mW s (View.ld K (rowR off hin)) (View.ld V (rowR off hin)) x.car
  dk := (rowR off hin).overlay x.dk (dkOf mL mW s (View.ld K (rowR off hin)) (View.ld V (rowR off hin)) x.car (View.ld x.dk (rowR off hin)))
  dv := (rowR off hin).overlay x.dv (dvOf mL mW s (View.ld K (rowR off hin)) (View.ld V (rowR off hin)) x.car (View.ld x.dv (rowR off hin)))

/-- The first row of block `j` is inside the array. -/
theorem blk_in (j : Fin 32) : ∀ a, (![256 * j.val, 0] : Fin 2 → Nat) a + S256x128.size a ≤ S8192x128.size a := by
  revert j; decide

/-- A block of keys, by its number. -/
def stepSt (mL mW : FVec F S256x256 .f32 → FVec F S256x256 .f32) (s : Sub F) (K : Vec F S8192x128 .bf16) (V : Vec F S8192x128 .f32)
    (j : Fin 32) (x : St F) : St F := stepAt mL mW s K V ![256 * j.val, 0] (blk_in j) x

theorem stepAt_eq (mL mW : FVec F S256x256 .f32 → FVec F S256x256 .f32) (s : Sub F) (K : Vec F S8192x128 .bf16) (V : Vec F S8192x128 .f32)
    (off : Fin 2 → Nat) (hin : ∀ a, off a + S256x128.size a ≤ S8192x128.size a) (j : Fin 32) (h : off = ![256 * j.val, 0]) (x : St F) :
    stepAt mL mW s K V off hin x = stepSt mL mW s K V j x := by
  subst h; rfl

section Step

variable (c : Dev nD) (arg3 : Memref sig .tc .vmem S8192x128 .bf16) (arg4 arg8 arg9 : Memref sig .tc .vmem S8192x128 .f32)
  (K : Vec F S8192x128 .bf16) (V : Vec F S8192x128 .f32)

/-- The four buffers of a walk, held whole. -/
def held (x : St F) : sProp 𝕄 :=
  iprop(owns (c : Thread nD τ) arg3 fullShare K ∗ owns (c : Thread nD τ) arg4 fullShare V
    ∗ owns (c : Thread nD τ) arg8 fullShare x.dk ∗ owns (c : Thread nD τ) arg9 fullShare x.dv)

/-- A block of keys runs from its state to the next. -/
theorem wp_step (𝒱 : Variants) (bd : Option 𝒱.V) (E : Set ℕ) {β : Type} (Q : β → sProp 𝕄) (D : Defs nD τ sig (Elt F) (Λ₀ F))
    (mL mW : FVec F S256x256 .f32 → FVec F S256x256 .f32) (s : Sub F)
    (off : Fin 2 → Nat) (hin : ∀ a, off a + S256x128.size a ≤ S8192x128.size a) (x : St F)
    (k : Car F → Prog (TpuEff nD τ sig (Elt F) (Λ₀ F) .tc) β) :
    iprop(held c arg3 arg4 arg8 arg9 K V x ∗ (held c arg3 arg4 arg8 arg9 K V (stepAt mL mW s K V off hin x)
        -∗ wp frame (wpE D 𝒱 c bd) E (k (stepAt mL mW s K V off hin x).car) Q))
      ⊢ wp frame (wpE D 𝒱 c bd) E (stepProg mL mW s arg3 arg4 arg8 arg9 off hin x.car k) Q := by
  unfold held stepProg
  iintro ⟨⟨H3, H4, H8, H9⟩, Hk⟩
  iapply (load_owns 𝒱 c bd E Q D arg3 fullShare K (rowR off hin))
  isplitl [H3]; · iexact H3
  iintro H3
  iapply (load_owns 𝒱 c bd E Q D arg4 fullShare V (rowR off hin))
  isplitl [H4]; · iexact H4
  iintro H4
  iapply (load_owns 𝒱 c bd E Q D arg8 fullShare x.dk (rowR off hin))
  isplitl [H8]; · iexact H8
  iintro H8
  iapply (load_owns 𝒱 c bd E Q D arg8 fullShare x.dk (rowR off hin))
  isplitl [H8]; · iexact H8
  iintro H8
  iapply (store_owns 𝒱 c bd E Q D arg8 x.dk (rowR off hin))
  isplitl [H8]; · iexact H8
  iintro H8
  iapply (load_owns 𝒱 c bd E Q D arg9 fullShare x.dv (rowR off hin))
  isplitl [H9]; · iexact H9
  iintro H9
  iapply (load_owns 𝒱 c bd E Q D arg9 fullShare x.dv (rowR off hin))
  isplitl [H9]; · iexact H9
  iintro H9
  iapply (store_owns 𝒱 c bd E Q D arg9 x.dv (rowR off hin))
  isplitl [H9]; · iexact H9
  iintro H9
  iapply Hk
  isplitl [H3]; · iexact H3
  isplitl [H4]; · iexact H4
  isplitl [H8]; · iexact H8
  iexact H9

end Step

/-! ## The walk -/

/-- The number of a sub-block of queries. -/
def qNum (i : grid0.Coords) (h : Fin 4) : ℕ := 4 * (i 1).val + h.val

theorem qNum_lt (i : grid0.Coords) (h : Fin 4) : qNum i h < 32 := by
  have h1 : (i 1).val < 8 := (i 1).isLt
  have h2 := h.isLt
  unfold qNum; omega

/-- The block of keys `n` before the sub-block's own. -/
def kNum (i : grid0.Coords) (h : Fin 4) (n : ℕ) : Fin 32 := ⟨qNum i h - n, lt_of_le_of_lt (Nat.sub_le _ _) (qNum_lt i h)⟩

variable [Named F]

/-- The walk from block `n` back, `k` blocks at most. -/
def walkF (s : Sub F) (K : Vec F S8192x128 .bf16) (V : Vec F S8192x128 .f32) (i : grid0.Coords) (h : Fin 4) :
    ℕ → ℕ → St F → BitVec 32 × St F
  | 0, n, x => (BitVec.ofNat 32 n, x)
  | k + 1, n, x =>
    if testOf i (BitVec.ofNat 32 h.val) (BitVec.ofNat 32 n) x.car.1 x.car.2.1 = 1#1 then
      walkF s K V i h k (n + 1) (stepSt id id s K V (kNum i h n) x)
    else (BitVec.ofNat 32 n, x)

/-- Below the sub-block's number the comparison of the words is that of the numbers. -/
theorem word_le (i : grid0.Coords) (h : Fin 4) (n : ℕ) (hn : n < 40) :
    Scalar.cmpi .sle (BitVec.ofNat 32 n) (qWord i (BitVec.ofNat 32 h.val)) = 1#1 ↔ n ≤ qNum i h := by
  have h1 : (i 1).val < 8 := (i 1).isLt
  unfold qWord qNum
  generalize (i 1).val = a at h1
  have : ∀ a : Fin 8, ∀ h : Fin 4, ∀ n : Fin 40, (Scalar.cmpi .sle (BitVec.ofNat 32 n.val) (Scalar.addi (Scalar.muli (BitVec.ofNat 32 a.val) 4#32) (BitVec.ofNat 32 h.val)) = 1#1 ↔ n.val ≤ 4 * a.val + h.val) := by
    decide +kernel
  exact this ⟨a, h1⟩ h ⟨n, hn⟩

theorem test_false (i : grid0.Coords) (h : Fin 4) (n : ℕ) (hn : n < 40) (hq : ¬ n ≤ qNum i h) (a b : FVec F S256x1 .f32) :
    ¬ testOf i (BitVec.ofNat 32 h.val) (BitVec.ofNat 32 n) a b = 1#1 := by
  intro ht
  have h0 : Scalar.cmpi .sle (BitVec.ofNat 32 n) (qWord i (BitVec.ofNat 32 h.val)) = 1#1 := by
    unfold testOf at ht
    generalize Scalar.cmpi .sle (BitVec.ofNat 32 n) (qWord i (BitVec.ofNat 32 h.val)) = u at ht ⊢
    generalize Scalar.cmpf .ogt (topOf a b) (Named.named κ "exit" 0xC2DC0000#32) = v at ht
    revert u v; decide
  exact hq ((word_le i h n hn).1 h0)

/-- The next word. -/
theorem word_succ (n : ℕ) (hn : n < 40) : Scalar.addi (BitVec.ofNat 32 n) 1#32 = BitVec.ofNat 32 (n + 1) := by
  have : ∀ n : Fin 40, Scalar.addi (BitVec.ofNat 32 n.val) 1#32 = BitVec.ofNat 32 (n.val + 1) := by decide +kernel
  exact this ⟨n, hn⟩

section Walk

variable (c : Dev nD) (arg3 : Memref sig .tc .vmem S8192x128 .bf16) (arg4 arg8 arg9 : Memref sig .tc .vmem S8192x128 .f32)
  (K : Vec F S8192x128 .bf16) (V : Vec F S8192x128 .f32) (s : Sub F) (i : grid0.Coords) (h : Fin 4)

/-- What a walk from block `n` does: the four buffers held are left as `walkF` leaves them. -/
def walkSpec (k n : ℕ) (x : St F) : sWPT 𝕄 (BitVec 32 × Car F) := do
  sWPT.consume (held c arg3 arg4 arg8 arg9 K V x)
  sWPT.produce (held c arg3 arg4 arg8 arg9 K V (walkF s K V i h k n x).2)
  pure ((walkF s K V i h k n x).1, (walkF s K V i h k n x).2.car)

theorem walkSpec_apply (k n : ℕ) (x : St F) (Q : BitVec 32 × Car F → sProp 𝕄) :
    walkSpec c arg3 arg4 arg8 arg9 K V s i h k n x Q
      = iprop(held c arg3 arg4 arg8 arg9 K V x ∗ (held c arg3 arg4 arg8 arg9 K V (walkF s K V i h k n x).2
          -∗ Q ((walkF s K V i h k n x).1, (walkF s K V i h k n x).2.car))) := rfl

/-- The walk's body meets it, given that its call does. -/
theorem walk_run (E : Set ℕ) (D : Defs nD τ sig (Elt F) (Λ₀ F))
    (again : BitVec 32 → Car F → Prog (TpuEff nD τ sig (Elt F) (Λ₀ F) .tc) (BitVec 32 × Car F))
    (chk : BitVec 32 → Prop) (dec : ∀ n, Decidable (chk n)) (off : BitVec 32 → Fin 2 → Nat)
    (hin : ∀ n, chk n → ∀ a, off n a + S256x128.size a ≤ S8192x128.size a)
    (hchk : ∀ n : ℕ, n ≤ qNum i h → chk (BitVec.ofNat 32 n))
    (hoff : ∀ n : ℕ, n ≤ qNum i h → off (BitVec.ofNat 32 n) = ![256 * (kNum i h n).val, 0])
    (hcall : ∀ (n : BitVec 32) (a : Car F) (v : ℕ) (S : sWPT 𝕄 (BitVec 32 × Car F)),
      (∀ Q, S Q ⊢ wp frame (wpE D Variants.nat (c : Thread nD τ) (some v)) E
        (whileProg s arg3 arg4 arg8 arg9 i (BitVec.ofNat 32 h.val) n a (chk n) (dec n) (off n) (hin n) again) Q) →
      ∀ Q, S (fun r => wp frame (wpE D Variants.nat (c : Thread nD τ) (some (v + 1))) E (.ret r) Q)
        ⊢ wp frame (wpE D Variants.nat (c : Thread nD τ) (some (v + 1))) E (again n a) Q) :
    ∀ k n, n + k = 34 → ∀ (x : St F) (Q), walkSpec c arg3 arg4 arg8 arg9 K V s i h k n x Q
      ⊢ wp frame (wpE D Variants.nat (c : Thread nD τ) (some k)) E
        (whileProg s arg3 arg4 arg8 arg9 i (BitVec.ofNat 32 h.val) (BitVec.ofNat 32 n) x.car (chk (BitVec.ofNat 32 n)) (dec _) (off _) (hin _) again) Q := by
  have hq := qNum_lt i h
  intro k
  induction k with
  | zero =>
    intro n hn x Q
    rw [walkSpec_apply]
    unfold whileProg
    rw [if_neg (test_false i h n (by omega) (by omega) _ _), show walkF s K V i h 0 n x = (BitVec.ofNat 32 n, x) from rfl]
    iintro ⟨H, Hk⟩
    rw [wp_ret]; imodintro
    iapply Hk
    iexact H
  | succ k ih =>
    intro n hn x Q
    rw [walkSpec_apply]
    unfold whileProg
    by_cases ht : testOf i (BitVec.ofNat 32 h.val) (BitVec.ofNat 32 n) x.car.1 x.car.2.1 = 1#1
    · have hle : n ≤ qNum i h := by
        by_contra hc
        exact test_false i h n (by omega) hc _ _ ht
      rw [if_pos ht]
      have hw : walkF s K V i h (k + 1) n x = walkF s K V i h k (n + 1) (stepSt id id s K V (kNum i h n) x) := by
        rw [walkF, if_pos ht]
      rw [hw]
      iintro ⟨H, Hk⟩
      iapply (wp_assume Variants.nat (c : Thread nD τ) (some (k + 1)) E (hchk n hle))
      iapply (wp_step c arg3 arg4 arg8 arg9 K V Variants.nat (some (k + 1)) E Q D id id s (off _) _ x)
      isplitl [H]; · iexact H
      rw [stepAt_eq id id s K V _ _ (kNum i h n) (hoff n hle) x, word_succ n (by omega)]
      iintro H
      iapply (hcall (BitVec.ofNat 32 (n + 1)) (stepSt id id s K V (kNum i h n) x).car k _ (ih (n + 1) (by omega) (stepSt id id s K V (kNum i h n) x)) Q)
      rw [walkSpec_apply]
      isplitl [H]; · iexact H
      iintro H
      rw [wp_ret]; imodintro
      iapply Hk
      iexact H
    · rw [if_neg ht]
      have hw : walkF s K V i h (k + 1) n x = (BitVec.ofNat 32 n, x) := by
        rw [walkF, if_neg ht]
      rw [hw]
      iintro ⟨H, Hk⟩
      rw [wp_ret]; imodintro
      iapply Hk
      iexact H

end Walk

end Cert.Kernel2Ideal.Hand
-- ==== Proof.SbBody.lean ====
/-
  The whole body of the attention gradient at a grid point, run: its four sub-blocks of queries one after another,
  each on its own block of keys and the one before it, then their walks.
-/
module

public import proofs.«01_k».proof.Proof.SbRun

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Offsets and checks in numbers -/

/-- The bytes' row of block `n` before sub-block `h`'s own, as the body computes it. -/
def rowWord (a h n : BitVec 32) : BitVec 32 := Scalar.muli (Scalar.maxsi (Scalar.subi (Scalar.addi (Scalar.muli a 4#32) h) n) 0#32) 256#32

theorem rowWord_num : ∀ (a : Fin 8) (h : Fin 4) (n : Fin 40),
    (rowWord (BitVec.ofNat 32 a.val) (BitVec.ofNat 32 h.val) (BitVec.ofNat 32 n.val)).toNat = 256 * (4 * a.val + h.val - n.val) := by
  decide +kernel

theorem rowWord_val (i : grid0.Coords) (h : Fin 4) (n : ℕ) (hn : n < 40) :
    (rowWord (BitVec.ofNat 32 (i 1).val) (BitVec.ofNat 32 h.val) (BitVec.ofNat 32 n)).toNat = 256 * (kNum i h n).val := by
  have h1 : (i 1).val < 8 := (i 1).isLt
  exact rowWord_num ⟨_, h1⟩ h ⟨n, hn⟩

theorem off1_val (i : grid0.Coords) (h : Fin 4) (n : ℕ) (hn : n < 40) :
    k0_off1 i (BitVec.ofNat 32 h.val) (BitVec.ofNat 32 n) = ![256 * (kNum i h n).val, 0] := by
  rw [← rowWord_val i h n hn]; rfl

theorem in_rows (j : Fin 32) : ∀ a, (![256 * j.val, 0] : Fin 2 → ℕ) a + S256x128.size a ≤ S8192x128.size a := blk_in j

theorem chk_of (i : grid0.Coords) (h : Fin 4) (n : ℕ) (hn : n < 40) (off : Fin 2 → ℕ)
    (ho : off = ![256 * (kNum i h n).val, 0]) :
    (256 ∣ (rowWord (BitVec.ofNat 32 (i 1).val) (BitVec.ofNat 32 h.val) (BitVec.ofNat 32 n)).toNat)
        ∧ ∀ a, off a + S256x128.size a ≤ S8192x128.size a := by
  refine ⟨?_, ?_⟩
  · rw [rowWord_val i h n hn]; exact Dvd.intro _ rfl
  · rw [ho]; exact in_rows _

theorem off2_val (i : grid0.Coords) (n : ℕ) (hn : n < 40) : k0_off2 i (BitVec.ofNat 32 n) = ![256 * (kNum i 0 n).val, 0] := off1_val i 0 n hn
theorem off3_val (i : grid0.Coords) (n : ℕ) (hn : n < 40) : k0_off3 i (BitVec.ofNat 32 n) = ![256 * (kNum i 1 n).val, 0] := off1_val i 1 n hn
theorem off4_val (i : grid0.Coords) (n : ℕ) (hn : n < 40) : k0_off4 i (BitVec.ofNat 32 n) = ![256 * (kNum i 2 n).val, 0] := off1_val i 2 n hn
theorem off5_val (i : grid0.Coords) (n : ℕ) (hn : n < 40) : k0_off5 i (BitVec.ofNat 32 n) = ![256 * (kNum i 3 n).val, 0] := off1_val i 3 n hn

theorem chk1_of (i : grid0.Coords) (n : ℕ) (hn : n < 40) : k0_chk1 i (BitVec.ofNat 32 n) := chk_of i 0 n hn _ (off2_val i n hn)
theorem chk2_of (i : grid0.Coords) (n : ℕ) (hn : n < 40) : k0_chk2 i (BitVec.ofNat 32 n) := chk_of i 1 n hn _ (off3_val i n hn)
theorem chk3_of (i : grid0.Coords) (n : ℕ) (hn : n < 40) : k0_chk3 i (BitVec.ofNat 32 n) := chk_of i 2 n hn _ (off4_val i n hn)
theorem chk4_of (i : grid0.Coords) (n : ℕ) (hn : n < 40) : k0_chk4 i (BitVec.ofNat 32 n) := chk_of i 3 n hn _ (off5_val i n hn)

variable [Named F]

/-! ## What a grid point does -/

/-- A sub-block's rows of a block of queries. -/
def rowsOf {e : EltTy} (h : Fin 4) (X : S1024x128.Idx → Elt F e) : S256x128.Idx → Elt F e :=
  match h with
  | 0 => View.ld X (Rect.unit (s := S1024x128) ![0, 0] S256x128.size inb_S1024x128_S256x128_0_0)
  | 1 => View.ld X (Rect.unit (s := S1024x128) ![256, 0] S256x128.size inb_S1024x128_S256x128_256_0)
  | 2 => View.ld X (Rect.unit (s := S1024x128) ![512, 0] S256x128.size inb_S1024x128_S256x128_512_0)
  | 3 => View.ld X (Rect.unit (s := S1024x128) ![768, 0] S256x128.size inb_S1024x128_S256x128_768_0)

/-- What a point reads. -/
structure Ins (F : FTy → Type) where
  q : Vec F S1024x128 .bf16
  k : Vec F S8192x128 .bf16
  v : Vec F S8192x128 .f32
  o : Vec F S1024x128 .f32
  d : Vec F S1024x128 .f32

/-- What a sub-block holds fixed. -/
def Ins.sub (a : Ins F) (h : Fin 4) : Sub F := subOf (rowsOf h a.q) (rowsOf h a.d)

/-- A sub-block before its walk. -/
def headSt (a : Ins F) (i : grid0.Coords) (h : Fin 4) (x : Vec F S8192x128 .f32 × Vec F S8192x128 .f32) : St F :=
  stepSt id (prevM i (BitVec.ofNat 32 h.val)) (a.sub h) a.k a.v (kNum i h 1)
    (stepSt diagM diagM (a.sub h) a.k a.v (kNum i h 0) ⟨car0 (rowsOf h a.d) (rowsOf h a.o), x.1, x.2⟩)

/-- A sub-block's walk. -/
def walkSt (a : Ins F) (i : grid0.Coords) (h : Fin 4) (c : Car F) (x : Vec F S8192x128 .f32 × Vec F S8192x128 .f32) : St F :=
  (walkF (a.sub h) a.k a.v i h 32 2 ⟨c, x.1, x.2⟩).2

/-- The two gradients a state holds. -/
def St.two (x : St F) : Vec F S8192x128 .f32 × Vec F S8192x128 .f32 := (x.dk, x.dv)

/-- Zeros. -/
def zeros : Vec F S8192x128 .f32 := broadcast S8192x128 (Scalar.ofBits .f32 0x00000000#32 : F .f32)

/-- The gradients a point starts from. -/
def start (i : grid0.Coords) (x : Vec F S8192x128 .f32 × Vec F S8192x128 .f32) : Vec F S8192x128 .f32 × Vec F S8192x128 .f32 :=
  if firstOf i = 1#1 then (zeros, zeros) else x

def h1 (a : Ins F) (i : grid0.Coords) (x : Vec F S8192x128 .f32 × Vec F S8192x128 .f32) : St F := headSt a i 0 (start i x)
def h2 (a : Ins F) (i : grid0.Coords) (x : Vec F S8192x128 .f32 × Vec F S8192x128 .f32) : St F := headSt a i 1 (h1 a i x).two
def h3 (a : Ins F) (i : grid0.Coords) (x : Vec F S8192x128 .f32 × Vec F S8192x128 .f32) : St F := headSt a i 2 (h2 a i x).two
def h4 (a : Ins F) (i : grid0.Coords) (x : Vec F S8192x128 .f32 × Vec F S8192x128 .f32) : St F := headSt a i 3 (h3 a i x).two
def w1 (a : Ins F) (i : grid0.Coords) (x : Vec F S8192x128 .f32 × Vec F S8192x128 .f32) : St F := walkSt a i 0 (h1 a i x).car (h4 a i x).two
def w2 (a : Ins F) (i : grid0.Coords) (x : Vec F S8192x128 .f32 × Vec F S8192x128 .f32) : St F := walkSt a i 1 (h2 a i x).car (w1 a i x).two
def w3 (a : Ins F) (i : grid0.Coords) (x : Vec F S8192x128 .f32 × Vec F S8192x128 .f32) : St F := walkSt a i 2 (h3 a i x).car (w2 a i x).two
def w4 (a : Ins F) (i : grid0.Coords) (x : Vec F S8192x128 .f32 × Vec F S8192x128 .f32) : St F := walkSt a i 3 (h4 a i x).car (w3 a i x).two

/-- A sub-block's rows of the gradient of the queries written over `Z`. -/
def putRows (h : Fin 4) (Z : Vec F S1024x128 .f32) (w : Vec F S256x128 .f32) : Vec F S1024x128 .f32 :=
  match h with
  | 0 => (Rect.unit (s := S1024x128) ![0, 0] S256x128.size inb_S1024x128_S256x128_0_0).overlay Z w
  | 1 => (Rect.unit (s := S1024x128) ![256, 0] S256x128.size inb_S1024x128_S256x128_256_0).overlay Z w
  | 2 => (Rect.unit (s := S1024x128) ![512, 0] S256x128.size inb_S1024x128_S256x128_512_0).overlay Z w
  | 3 => (Rect.unit (s := S1024x128) ![768, 0] S256x128.size inb_S1024x128_S256x128_768_0).overlay Z w

/-- The block of the queries' gradient a point leaves, over what was there. -/
def dqPt (a : Ins F) (i : grid0.Coords) (x : Vec F S8192x128 .f32 × Vec F S8192x128 .f32) (Z : Vec F S1024x128 .f32) : Vec F S1024x128 .f32 :=
  putRows 3 (putRows 2 (putRows 1 (putRows 0 Z (w1 a i x).car.2.2.2.2) (w2 a i x).car.2.2.2.2) (w3 a i x).car.2.2.2.2) (w4 a i x).car.2.2.2.2

/-- A whole buffer written over. -/
theorem overlay_all (X w : Vec F S8192x128 .f32) :
    (Rect.unit (s := S8192x128) ![0, 0] S8192x128.size inb_S8192x128_S8192x128_0_0).overlay X w = w := by
  funext j
  have : (Rect.unit (s := S8192x128) ![0, 0] S8192x128.size inb_S8192x128_S8192x128_0_0).emb j = j := by
    funext d; fin_cases d <;> exact Fin.ext (by simp [Rect.emb, Rect.unit, LoadRect.idx])
  conv_lhs => rw [← this]
  rw [Rect.overlay_emb]

/-! ## The run -/

section Run

variable (c : Dev nD) (arg2 : Memref sig .tc .vmem S1024x128 .bf16) (arg3 : Memref sig .tc .vmem S8192x128 .bf16)
  (arg4 : Memref sig .tc .vmem S8192x128 .f32) (arg5 arg6 arg7 : Memref sig .tc .vmem S1024x128 .f32)
  (arg8 arg9 : Memref sig .tc .vmem S8192x128 .f32)
  (harg3 : arg3.IsWhole) (harg4 : arg4.IsWhole) (harg8 : arg8.IsWhole) (harg9 : arg9.IsWhole)
  (a : Ins F) (i : grid0.Coords)

/-- The buffers of a point, held whole. -/
def held8 (Z : Vec F S1024x128 .f32) (x : Vec F S8192x128 .f32 × Vec F S8192x128 .f32) : sProp 𝕄 :=
  iprop(owns (c : Thread nD τ) arg2 fullShare a.q ∗ owns (c : Thread nD τ) arg3 fullShare a.k
    ∗ owns (c : Thread nD τ) arg4 fullShare a.v ∗ owns (c : Thread nD τ) arg5 fullShare a.o
    ∗ owns (c : Thread nD τ) arg6 fullShare a.d ∗ owns (c : Thread nD τ) arg7 fullShare Z
    ∗ owns (c : Thread nD τ) arg8 fullShare x.1 ∗ owns (c : Thread nD τ) arg9 fullShare x.2)

/-- The head of a sub-block, run. -/
theorem wp_head (𝒱 : Variants) (bd : Option 𝒱.V) (E : Set ℕ) {β : Type} (Q : β → sProp 𝕄) (D : Defs nD τ sig (Elt F) (Λ₀ F))
    (row : Fin 2 → Nat) (hrow : ∀ a, row a + S256x128.size a ≤ S1024x128.size a) (h : Fin 4)
    (hr : ∀ {e : EltTy} (X : S1024x128.Idx → Elt F e), View.ld X (Rect.unit (s := S1024x128) row S256x128.size hrow) = rowsOf h X)
    (hin : ∀ (n : Fin 2) a, k0_off1 i (BitVec.ofNat 32 h.val) (BitVec.ofNat 32 n.val) a + S256x128.size a ≤ S8192x128.size a)
    (Z : Vec F S1024x128 .f32) (x : Vec F S8192x128 .f32 × Vec F S8192x128 .f32)
    (k : Sub F → Car F → Prog (TpuEff nD τ sig (Elt F) (Λ₀ F) .tc) β) :
    iprop(held8 c arg2 arg3 arg4 arg5 arg6 arg7 arg8 arg9 a Z x
      ∗ (held8 c arg2 arg3 arg4 arg5 arg6 arg7 arg8 arg9 a Z (headSt a i h x).two
        -∗ wp frame (wpE D 𝒱 c bd) E (k (a.sub h) (headSt a i h x).car) Q))
      ⊢ wp frame (wpE D 𝒱 c bd) E (headProg i arg2 arg3 arg4 arg5 arg6 arg8 arg9 row hrow (BitVec.ofNat 32 h.val) hin k) Q := by
  unfold held8 headProg
  iintro ⟨⟨H2, H3, H4, H5, H6, H7, H8, H9⟩, Hk⟩
  iapply (load_owns 𝒱 c bd E Q D arg2 fullShare a.q (Rect.unit (s := S1024x128) row S256x128.size hrow))
  isplitl [H2]; · iexact H2
  iintro H2
  iapply (load_owns 𝒱 c bd E Q D arg6 fullShare a.d (Rect.unit (s := S1024x128) row S256x128.size hrow))
  isplitl [H6]; · iexact H6
  iintro H6
  iapply (load_owns 𝒱 c bd E Q D arg5 fullShare a.o (Rect.unit (s := S1024x128) row S256x128.size hrow))
  isplitl [H5]; · iexact H5
  iintro H5
  rw [hr, hr, hr]
  iapply (wp_step c arg3 arg4 arg8 arg9 a.k a.v 𝒱 bd E Q D diagM diagM (a.sub h) _ _ ⟨car0 (rowsOf h a.d) (rowsOf h a.o), x.1, x.2⟩)
  isplitl [H3 H4 H8 H9]
  · unfold held
    isplitl [H3]; · iexact H3
    isplitl [H4]; · iexact H4
    isplitl [H8]; · iexact H8
    iexact H9
  rw [stepAt_eq diagM diagM (a.sub h) a.k a.v _ _ (kNum i h 0) (off1_val i h 0 (by omega))]
  iintro H
  iapply (wp_step c arg3 arg4 arg8 arg9 a.k a.v 𝒱 bd E Q D id (prevM i (BitVec.ofNat 32 h.val)) (a.sub h) _ _ _)
  isplitl [H]; · iexact H
  rw [stepAt_eq id (prevM i (BitVec.ofNat 32 h.val)) (a.sub h) a.k a.v _ _ (kNum i h 1) (off1_val i h 1 (by omega))]
  unfold held
  iintro ⟨H3, H4, H8, H9⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The tail of a sub-block, run, given its walk's call. -/
theorem wp_tail (𝒱 : Variants) (bd : Option 𝒱.V) (E : Set ℕ) {β : Type} (Q : β → sProp 𝕄) (D : Defs nD τ sig (Elt F) (Λ₀ F))
    (row : Fin 2 → Nat) (hrow : ∀ a, row a + S256x128.size a ≤ S1024x128.size a) (h : Fin 4)
    (hr : ∀ (X : Vec F S1024x128 .f32) (w : Vec F S256x128 .f32), (Rect.unit (s := S1024x128) row S256x128.size hrow).overlay X w = putRows h X w)
    (p : Prog (TpuEff nD τ sig (Elt F) (Λ₀ F) .tc) (BitVec 32 × Car F)) (cr : Car F)
    (Z : Vec F S1024x128 .f32) (x : Vec F S8192x128 .f32 × Vec F S8192x128 .f32)
    (hp : ∀ (Q' : β → sProp 𝕄) (k : BitVec 32 × Car F → Prog (TpuEff nD τ sig (Elt F) (Λ₀ F) .tc) β),
      walkSpec c arg3 arg4 arg8 arg9 a.k a.v (a.sub h) i h 32 2 ⟨cr, x.1, x.2⟩ (fun r => wp frame (wpE D 𝒱 (c : Thread nD τ) bd) E (k r) Q')
        ⊢ wp frame (wpE D 𝒱 (c : Thread nD τ) bd) E (p.bind k) Q')
    (k : Prog (TpuEff nD τ sig (Elt F) (Λ₀ F) .tc) β) :
    iprop(held8 c arg2 arg3 arg4 arg5 arg6 arg7 arg8 arg9 a Z x
      ∗ (held8 c arg2 arg3 arg4 arg5 arg6 arg7 arg8 arg9 a (putRows h Z (walkSt a i h cr x).car.2.2.2.2) (walkSt a i h cr x).two
        -∗ wp frame (wpE D 𝒱 c bd) E k Q))
      ⊢ wp frame (wpE D 𝒱 c bd) E (tailProg arg7 row hrow p k) Q := by
  unfold held8 tailProg
  iintro ⟨⟨H2, H3, H4, H5, H6, H7, H8, H9⟩, Hk⟩
  iapply (hp Q _)
  rw [walkSpec_apply]
  unfold held
  isplitl [H3 H4 H8 H9]
  · isplitl [H3]; · iexact H3
    isplitl [H4]; · iexact H4
    isplitl [H8]; · iexact H8
    iexact H9
  iintro ⟨H3, H4, H8, H9⟩
  iapply (load_owns 𝒱 c bd E Q D arg7 fullShare Z (Rect.unit (s := S1024x128) row S256x128.size hrow))
  isplitl [H7]; · iexact H7
  iintro H7
  iapply (store_owns 𝒱 c bd E Q D arg7 Z (Rect.unit (s := S1024x128) row S256x128.size hrow))
  isplitl [H7]; · iexact H7
  rw [hr]
  iintro H7
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The call of the first walk does what `walkSpec` says. -/
theorem call1 (E : Set ℕ) (s : Sub F) (cr : Car F) (x : Vec F S8192x128 .f32 × Vec F S8192x128 .f32) {β : Type} (Q : β → sProp 𝕄)
    (k : BitVec 32 × Car F → Prog (TpuEff nD τ sig (Elt F) (Λ₀ F) .tc) β) :
    walkSpec c arg3 arg4 arg8 arg9 a.k a.v s i 0 32 2 ⟨cr, x.1, x.2⟩ (fun r => wp frame (wpE (defs₀ (F := F)) Variants.nat (c : Thread nD τ) none) E (k r) Q)
      ⊢ wp frame (wpE (defs₀ (F := F)) Variants.nat (c : Thread nD τ) none) E ((Prog.lift (.call (1 : (Λ₀ F).Label) (rec1 s i arg3 harg3 arg4 harg4 arg8 harg8 arg9 harg9 2#32 cr))).bind k) Q := by
  have hw := fun n c => while1_eq s i arg3 harg3 arg4 harg4 arg8 harg8 arg9 harg9 n c
  have hr := walk_run c arg3 arg4 arg8 arg9 a.k a.v s i 0 E (defs₀ (F := F))
    (fun n' c' => Prog.lift (.call (1 : (Λ₀ F).Label) (rec1 s i arg3 harg3 arg4 harg4 arg8 harg8 arg9 harg9 n' c')))
    (k0_chk1 i) (k0_chk1.dec i) (k0_off2 i) (k0_off2_inb i)
    (fun n hn => chk1_of i n (by have := qNum_lt i 0; omega)) (fun n hn => off2_val i n (by have := qNum_lt i 0; omega))
    (fun n c' v S hS Q => by
      refine wp_call_spec (defs := defs₀ (F := F)) (ℓ := (1 : (Λ₀ F).Label)) (a := rec1 s i arg3 harg3 arg4 harg4 arg8 harg8 arg9 harg9 n c') (k := .ret) (Q := Q)
        Variants.nat (c : Thread nD τ) (some (v + 1)) E S v (fun u hu => by cases hu; exact Nat.lt_succ_self v) (fun Q => ?_)
      have h := hS Q
      rw [show BitVec.ofNat 32 ((0 : Fin 4).val) = 0#32 from rfl, ← hw] at h
      exact h)
  refine wp_call_spec (defs := defs₀ (F := F)) (ℓ := (1 : (Λ₀ F).Label)) (a := rec1 s i arg3 harg3 arg4 harg4 arg8 harg8 arg9 harg9 2#32 cr) (k := k) (Q := Q)
    Variants.nat (c : Thread nD τ) none E (walkSpec c arg3 arg4 arg8 arg9 a.k a.v s i 0 32 2 ⟨cr, x.1, x.2⟩) 32 (fun u hu => nomatch hu) (fun Q => ?_)
  have h := hr 32 2 rfl ⟨cr, x.1, x.2⟩ Q
  rw [show BitVec.ofNat 32 ((0 : Fin 4).val) = 0#32 from rfl, ← hw] at h
  exact h

/-- So does that of the second, -/
theorem call2 (E : Set ℕ) (s : Sub F) (cr : Car F) (x : Vec F S8192x128 .f32 × Vec F S8192x128 .f32) {β : Type} (Q : β → sProp 𝕄)
    (k : BitVec 32 × Car F → Prog (TpuEff nD τ sig (Elt F) (Λ₀ F) .tc) β) :
    walkSpec c arg3 arg4 arg8 arg9 a.k a.v s i 1 32 2 ⟨cr, x.1, x.2⟩ (fun r => wp frame (wpE (defs₀ (F := F)) Variants.nat (c : Thread nD τ) none) E (k r) Q)
      ⊢ wp frame (wpE (defs₀ (F := F)) Variants.nat (c : Thread nD τ) none) E ((Prog.lift (.call (2 : (Λ₀ F).Label) (rec2 s i arg3 harg3 arg4 harg4 arg8 harg8 arg9 harg9 2#32 cr))).bind k) Q := by
  have hw := fun n c => while2_eq s i arg3 harg3 arg4 harg4 arg8 harg8 arg9 harg9 n c
  have hr := walk_run c arg3 arg4 arg8 arg9 a.k a.v s i 1 E (defs₀ (F := F))
    (fun n' c' => Prog.lift (.call (2 : (Λ₀ F).Label) (rec2 s i arg3 harg3 arg4 harg4 arg8 harg8 arg9 harg9 n' c')))
    (k0_chk2 i) (k0_chk2.dec i) (k0_off3 i) (k0_off3_inb i)
    (fun n hn => chk2_of i n (by have := qNum_lt i 1; omega)) (fun n hn => off3_val i n (by have := qNum_lt i 1; omega))
    (fun n c' v S hS Q => by
      refine wp_call_spec (defs := defs₀ (F := F)) (ℓ := (2 : (Λ₀ F).Label)) (a := rec2 s i arg3 harg3 arg4 harg4 arg8 harg8 arg9 harg9 n c') (k := .ret) (Q := Q)
        Variants.nat (c : Thread nD τ) (some (v + 1)) E S v (fun u hu => by cases hu; exact Nat.lt_succ_self v) (fun Q => ?_)
      have h := hS Q
      rw [show BitVec.ofNat 32 ((1 : Fin 4).val) = 1#32 from rfl, ← hw] at h
      exact h)
  refine wp_call_spec (defs := defs₀ (F := F)) (ℓ := (2 : (Λ₀ F).Label)) (a := rec2 s i arg3 harg3 arg4 harg4 arg8 harg8 arg9 harg9 2#32 cr) (k := k) (Q := Q)
    Variants.nat (c : Thread nD τ) none E (walkSpec c arg3 arg4 arg8 arg9 a.k a.v s i 1 32 2 ⟨cr, x.1, x.2⟩) 32 (fun u hu => nomatch hu) (fun Q => ?_)
  have h := hr 32 2 rfl ⟨cr, x.1, x.2⟩ Q
  rw [show BitVec.ofNat 32 ((1 : Fin 4).val) = 1#32 from rfl, ← hw] at h
  exact h

/-- of the third, -/
theorem call3 (E : Set ℕ) (s : Sub F) (cr : Car F) (x : Vec F S8192x128 .f32 × Vec F S8192x128 .f32) {β : Type} (Q : β → sProp 𝕄)
    (k : BitVec 32 × Car F → Prog (TpuEff nD τ sig (Elt F) (Λ₀ F) .tc) β) :
    walkSpec c arg3 arg4 arg8 arg9 a.k a.v s i 2 32 2 ⟨cr, x.1, x.2⟩ (fun r => wp frame (wpE (defs₀ (F := F)) Variants.nat (c : Thread nD τ) none) E (k r) Q)
      ⊢ wp frame (wpE (defs₀ (F := F)) Variants.nat (c : Thread nD τ) none) E ((Prog.lift (.call (3 : (Λ₀ F).Label) (rec3 s i arg3 harg3 arg4 harg4 arg8 harg8 arg9 harg9 2#32 cr))).bind k) Q := by
  have hw := fun n c => while3_eq s i arg3 harg3 arg4 harg4 arg8 harg8 arg9 harg9 n c
  have hr := walk_run c arg3 arg4 arg8 arg9 a.k a.v s i 2 E (defs₀ (F := F))
    (fun n' c' => Prog.lift (.call (3 : (Λ₀ F).Label) (rec3 s i arg3 harg3 arg4 harg4 arg8 harg8 arg9 harg9 n' c')))
    (k0_chk3 i) (k0_chk3.dec i) (k0_off4 i) (k0_off4_inb i)
    (fun n hn => chk3_of i n (by have := qNum_lt i 2; omega)) (fun n hn => off4_val i n (by have := qNum_lt i 2; omega))
    (fun n c' v S hS Q => by
      refine wp_call_spec (defs := defs₀ (F := F)) (ℓ := (3 : (Λ₀ F).Label)) (a := rec3 s i arg3 harg3 arg4 harg4 arg8 harg8 arg9 harg9 n c') (k := .ret) (Q := Q)
        Variants.nat (c : Thread nD τ) (some (v + 1)) E S v (fun u hu => by cases hu; exact Nat.lt_succ_self v) (fun Q => ?_)
      have h := hS Q
      rw [show BitVec.ofNat 32 ((2 : Fin 4).val) = 2#32 from rfl, ← hw] at h
      exact h)
  refine wp_call_spec (defs := defs₀ (F := F)) (ℓ := (3 : (Λ₀ F).Label)) (a := rec3 s i arg3 harg3 arg4 harg4 arg8 harg8 arg9 harg9 2#32 cr) (k := k) (Q := Q)
    Variants.nat (c : Thread nD τ) none E (walkSpec c arg3 arg4 arg8 arg9 a.k a.v s i 2 32 2 ⟨cr, x.1, x.2⟩) 32 (fun u hu => nomatch hu) (fun Q => ?_)
  have h := hr 32 2 rfl ⟨cr, x.1, x.2⟩ Q
  rw [show BitVec.ofNat 32 ((2 : Fin 4).val) = 2#32 from rfl, ← hw] at h
  exact h

/-- and of the fourth. -/
theorem call4 (E : Set ℕ) (s : Sub F) (cr : Car F) (x : Vec F S8192x128 .f32 × Vec F S8192x128 .f32) {β : Type} (Q : β → sProp 𝕄)
    (k : BitVec 32 × Car F → Prog (TpuEff nD τ sig (Elt F) (Λ₀ F) .tc) β) :
    walkSpec c arg3 arg4 arg8 arg9 a.k a.v s i 3 32 2 ⟨cr, x.1, x.2⟩ (fun r => wp frame (wpE (defs₀ (F := F)) Variants.nat (c : Thread nD τ) none) E (k r) Q)
      ⊢ wp frame (wpE (defs₀ (F := F)) Variants.nat (c : Thread nD τ) none) E ((Prog.lift (.call (4 : (Λ₀ F).Label) (rec4 s i arg3 harg3 arg4 harg4 arg8 harg8 arg9 harg9 2#32 cr))).bind k) Q := by
  have hw := fun n c => while4_eq s i arg3 harg3 arg4 harg4 arg8 harg8 arg9 harg9 n c
  have hr := walk_run c arg3 arg4 arg8 arg9 a.k a.v s i 3 E (defs₀ (F := F))
    (fun n' c' => Prog.lift (.call (4 : (Λ₀ F).Label) (rec4 s i arg3 harg3 arg4 harg4 arg8 harg8 arg9 harg9 n' c')))
    (k0_chk4 i) (k0_chk4.dec i) (k0_off5 i) (k0_off5_inb i)
    (fun n hn => chk4_of i n (by have := qNum_lt i 3; omega)) (fun n hn => off5_val i n (by have := qNum_lt i 3; omega))
    (fun n c' v S hS Q => by
      refine wp_call_spec (defs := defs₀ (F := F)) (ℓ := (4 : (Λ₀ F).Label)) (a := rec4 s i arg3 harg3 arg4 harg4 arg8 harg8 arg9 harg9 n c') (k := .ret) (Q := Q)
        Variants.nat (c : Thread nD τ) (some (v + 1)) E S v (fun u hu => by cases hu; exact Nat.lt_succ_self v) (fun Q => ?_)
      have h := hS Q
      rw [show BitVec.ofNat 32 ((3 : Fin 4).val) = 3#32 from rfl, ← hw] at h
      exact h)
  refine wp_call_spec (defs := defs₀ (F := F)) (ℓ := (4 : (Λ₀ F).Label)) (a := rec4 s i arg3 harg3 arg4 harg4 arg8 harg8 arg9 harg9 2#32 cr) (k := k) (Q := Q)
    Variants.nat (c : Thread nD τ) none E (walkSpec c arg3 arg4 arg8 arg9 a.k a.v s i 3 32 2 ⟨cr, x.1, x.2⟩) 32 (fun u hu => nomatch hu) (fun Q => ?_)
  have h := hr 32 2 rfl ⟨cr, x.1, x.2⟩ Q
  rw [show BitVec.ofNat 32 ((3 : Fin 4).val) = 3#32 from rfl, ← hw] at h
  exact h

/-- The clearing, run. -/
theorem wp_clear (𝒱 : Variants) (bd : Option 𝒱.V) (E : Set ℕ) {β : Type} (Q : β → sProp 𝕄) (D : Defs nD τ sig (Elt F) (Λ₀ F))
    (Z : Vec F S1024x128 .f32) (x : Vec F S8192x128 .f32 × Vec F S8192x128 .f32)
    (k : PUnit → Prog (TpuEff nD τ sig (Elt F) (Λ₀ F) .tc) β) :
    iprop(held8 c arg2 arg3 arg4 arg5 arg6 arg7 arg8 arg9 a Z x
      ∗ (held8 c arg2 arg3 arg4 arg5 arg6 arg7 arg8 arg9 a Z (start i x) -∗ wp frame (wpE D 𝒱 c bd) E (k ⟨⟩) Q))
      ⊢ wp frame (wpE D 𝒱 c bd) E ((clearProg i arg8 arg9).bind k) Q := by
  unfold clearProg start
  by_cases h : firstOf i = 1#1
  · simp only [h, ↓reduceDIte, ↓reduceIte, Prog.bind_op, Prog.bind_ret]
    unfold held8
    iintro ⟨⟨H2, H3, H4, H5, H6, H7, H8, H9⟩, Hk⟩
    iapply (load_owns 𝒱 c bd E Q D arg8 fullShare x.1 (Rect.unit (s := S8192x128) ![0, 0] S8192x128.size inb_S8192x128_S8192x128_0_0))
    isplitl [H8]; · iexact H8
    iintro H8
    iapply (store_owns 𝒱 c bd E Q D arg8 x.1 (Rect.unit (s := S8192x128) ![0, 0] S8192x128.size inb_S8192x128_S8192x128_0_0))
    isplitl [H8]; · iexact H8
    iintro H8
    iapply (load_owns 𝒱 c bd E Q D arg9 fullShare x.2 (Rect.unit (s := S8192x128) ![0, 0] S8192x128.size inb_S8192x128_S8192x128_0_0))
    isplitl [H9]; · iexact H9
    iintro H9
    iapply (store_owns 𝒱 c bd E Q D arg9 x.2 (Rect.unit (s := S8192x128) ![0, 0] S8192x128.size inb_S8192x128_S8192x128_0_0))
    isplitl [H9]; · iexact H9
    iintro H9
    rw [overlay_all, overlay_all]
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [h, ↓reduceDIte, ↓reduceIte, Prog.bind_ret]
    iintro ⟨H, Hk⟩
    iapply Hk
    iexact H

/-- The body, run. -/
theorem wp_body (E : Set ℕ) (Q : PUnit → sProp 𝕄) (Z : Vec F S1024x128 .f32) (x : Vec F S8192x128 .f32 × Vec F S8192x128 .f32) :
    iprop(held8 c arg2 arg3 arg4 arg5 arg6 arg7 arg8 arg9 a Z x
      ∗ (held8 c arg2 arg3 arg4 arg5 arg6 arg7 arg8 arg9 a (dqPt a i x Z) (w4 a i x).two -∗ Q ⟨⟩))
      ⊢ wp frame (wpE (defs₀ (F := F)) Variants.nat (c : Thread nD τ) none) E
        (bodyProg i arg2 arg3 arg4 arg5 arg6 arg7 arg8 arg9 harg3 harg4 harg8 harg9) Q := by
  unfold bodyProg
  iintro ⟨H, Hk⟩
  iapply (wp_clear c arg2 arg3 arg4 arg5 arg6 arg7 arg8 arg9 a i Variants.nat none E Q _ Z x)
  isplitl [H]; · iexact H
  iintro H
  iapply (wp_head c arg2 arg3 arg4 arg5 arg6 arg7 arg8 arg9 a i Variants.nat none E Q _ ![0, 0] _ 0 (fun _ => rfl) _ Z (start i x))
  isplitl [H]; · iexact H
  iintro H
  iapply (wp_head c arg2 arg3 arg4 arg5 arg6 arg7 arg8 arg9 a i Variants.nat none E Q _ ![256, 0] _ 1 (fun _ => rfl) _ Z (h1 a i x).two)
  isplitl [H]; · iexact H
  iintro H
  iapply (wp_head c arg2 arg3 arg4 arg5 arg6 arg7 arg8 arg9 a i Variants.nat none E Q _ ![512, 0] _ 2 (fun _ => rfl) _ Z (h2 a i x).two)
  isplitl [H]; · iexact H
  iintro H
  iapply (wp_head c arg2 arg3 arg4 arg5 arg6 arg7 arg8 arg9 a i Variants.nat none E Q _ ![768, 0] _ 3 (fun _ => rfl) _ Z (h3 a i x).two)
  isplitl [H]; · iexact H
  iintro H
  iapply (wp_tail c arg2 arg3 arg4 arg5 arg6 arg7 arg8 arg9 a i Variants.nat none E Q _ ![0, 0] _ 0 (fun _ _ => rfl) _ (h1 a i x).car Z (h4 a i x).two
    (call1 c arg3 arg4 arg8 arg9 harg3 harg4 harg8 harg9 a i E (a.sub 0) (h1 a i x).car (h4 a i x).two))
  isplitl [H]; · iexact H
  iintro H
  iapply (wp_tail c arg2 arg3 arg4 arg5 arg6 arg7 arg8 arg9 a i Variants.nat none E Q _ ![256, 0] _ 1 (fun _ _ => rfl) _ (h2 a i x).car _ (w1 a i x).two
    (call2 c arg3 arg4 arg8 arg9 harg3 harg4 harg8 harg9 a i E (a.sub 1) (h2 a i x).car (w1 a i x).two))
  isplitl [H]; · iexact H
  iintro H
  iapply (wp_tail c arg2 arg3 arg4 arg5 arg6 arg7 arg8 arg9 a i Variants.nat none E Q _ ![512, 0] _ 2 (fun _ _ => rfl) _ (h3 a i x).car _ (w2 a i x).two
    (call3 c arg3 arg4 arg8 arg9 harg3 harg4 harg8 harg9 a i E (a.sub 2) (h3 a i x).car (w2 a i x).two))
  isplitl [H]; · iexact H
  iintro H
  iapply (wp_tail c arg2 arg3 arg4 arg5 arg6 arg7 arg8 arg9 a i Variants.nat none E Q _ ![768, 0] _ 3 (fun _ _ => rfl) _ (h4 a i x).car _ (w3 a i x).two
    (call4 c arg3 arg4 arg8 arg9 harg3 harg4 harg8 harg9 a i E (a.sub 3) (h4 a i x).car (w3 a i x).two))
  isplitl [H]; · iexact H
  iintro H
  rw [wp_ret]; imodintro
  iapply Hk
  iexact H

end Run

end Cert.Kernel2Ideal.Hand
-- ==== Proof.SbReal.lean ====
/-
  The attention gradient in real numbers: what it is for a pair of heads, what a block of keys does to a sub-block of
  queries, and that the walk over the blocks adds up to it.
-/
module

public import Mathlib.Analysis.SpecialFunctions.Log.Basic
public import Mathlib.Algebra.BigOperators.Fin
public import Mathlib.Algebra.BigOperators.Group.Finset.Sigma
public import Mathlib.Tactic.Linarith
public import Mathlib.Tactic.Ring
public import Mathlib.Tactic.FieldSimp
public import Mathlib.Tactic.FinCases

@[expose] public section

noncomputable section

namespace Cert.Sb

/-! ## The log of the logistic function -/

/-- The log of the logistic function, as the kernel computes it. -/
def lbR (z : ℝ) : ℝ := min z 0 - Real.log (1 + Real.exp (-|z|))

theorem exp_lbR (z : ℝ) : Real.exp (lbR z) = 1 / (1 + Real.exp (-z)) := by
  have h1 : (0 : ℝ) < 1 + Real.exp (-|z|) := by positivity
  unfold lbR
  rw [Real.exp_sub, Real.exp_log h1]
  rcases le_total 0 z with h | h
  · rw [min_eq_right h, abs_of_nonneg h, Real.exp_zero]
  · rw [min_eq_left h, abs_of_nonpos h, neg_neg]
    have e : Real.exp (-z) * Real.exp z = 1 := by rw [← Real.exp_add]; simp
    have h2 : (0 : ℝ) < 1 + Real.exp z := by positivity
    have h3 : (0 : ℝ) < 1 + Real.exp (-z) := by positivity
    rw [div_eq_div_iff h2.ne' h3.ne', mul_add, mul_comm (Real.exp z) (Real.exp (-z)), e]; ring

/-- The logistic of the opposite is the complement. -/
theorem exp_lbR_neg (z : ℝ) : Real.exp (lbR (-z)) = 1 - Real.exp (lbR z) := by
  rw [exp_lbR, exp_lbR, neg_neg]
  have e : Real.exp (-z) * Real.exp z = 1 := by rw [← Real.exp_add]; simp
  have h2 : (0 : ℝ) < 1 + Real.exp z := by positivity
  have h3 : (0 : ℝ) < 1 + Real.exp (-z) := by positivity
  rw [eq_sub_iff_add_eq, div_add_div _ _ h2.ne' h3.ne', div_eq_one_iff_eq (by positivity)]
  linear_combination (-1 : ℝ) * e

theorem lbR_neg (z : ℝ) : lbR (-z) = lbR z - z := by
  unfold lbR
  rw [abs_neg]
  rcases le_total 0 z with h | h
  · rw [min_eq_right h, min_eq_left (neg_nonpos.2 h)]; ring
  · rw [min_eq_left h, min_eq_right (neg_nonneg.2 h)]; ring

/-! ## Rows by block -/

/-- Row `c` of block `J`. -/
def row (J : Fin 32) (c : Fin 256) : Fin 8192 := ⟨256 * J.val + c.val, by have := J.isLt; have := c.isLt; omega⟩

/-- The block of a row, and its place there. -/
def blk (j : Fin 8192) : Fin 32 := ⟨j.val / 256, by have := j.isLt; omega⟩
def pos (j : Fin 8192) : Fin 256 := ⟨j.val % 256, by omega⟩

theorem row_blk (j : Fin 8192) : row (blk j) (pos j) = j := Fin.ext (Nat.div_add_mod j.val 256)
theorem blk_row (J : Fin 32) (c : Fin 256) : blk (row J c) = J := Fin.ext (by have := c.isLt; show (256 * J.val + c.val) / 256 = J.val; omega)
theorem pos_row (J : Fin 32) (c : Fin 256) : pos (row J c) = c := Fin.ext (by have := c.isLt; show (256 * J.val + c.val) % 256 = c.val; omega)

/-- Rows, as blocks and places. -/
def rows : Fin 32 × Fin 256 ≃ Fin 8192 where
  toFun x := row x.1 x.2
  invFun j := (blk j, pos j)
  left_inv x := Prod.ext (blk_row _ _) (pos_row _ _)
  right_inv j := row_blk j

theorem sum_rows {M : Type*} [AddCommMonoid M] (f : Fin 8192 → M) : ∑ j, f j = ∑ J, ∑ c, f (row J c) := by
  rw [← Fintype.sum_prod_type' (f := fun J c => f (row J c)), ← Equiv.sum_comp rows]; rfl

/-- A sum over rows from block `J` on, some rows of the block itself left out. -/
theorem sum_from (J : Fin 32) (p : Fin 8192 → Prop) [DecidablePred p] (p' : Fin 256 → Prop) [DecidablePred p']
    (h : ∀ j, p j ↔ (256 * (J.val + 1) ≤ j.val ∨ (blk j = J ∧ p' (pos j)))) (f : Fin 8192 → ℝ) :
    (∑ j, if p j then f j else 0) = (∑ j : Fin 8192, if 256 * (J.val + 1) ≤ j.val then f j else 0) + ∑ c, if p' c then f (row J c) else 0 := by
  have h2 : (∑ c, if p' c then f (row J c) else 0) = ∑ j, if blk j = J ∧ p' (pos j) then f j else 0 := by
    rw [sum_rows, Finset.sum_eq_single_of_mem J (Finset.mem_univ _)]
    · simp only [blk_row, pos_row, true_and]
    · intro J' _ hne
      refine Finset.sum_eq_zero fun c _ => if_neg fun h => hne ?_
      rw [blk_row] at h; exact h.1
  rw [h2, ← Finset.sum_add_distrib]
  refine Finset.sum_congr rfl fun j _ => ?_
  have hd : 256 * (J.val + 1) ≤ j.val → ¬ (blk j = J ∧ p' (pos j)) := by
    rintro h ⟨rfl, _⟩
    have : (blk j).val = j.val / 256 := rfl
    omega
  by_cases a : 256 * (J.val + 1) ≤ j.val
  · rw [if_pos ((h j).2 (.inl a)), if_pos a, if_neg (hd a), add_zero]
  · rw [if_neg a, zero_add]
    by_cases b : blk j = J ∧ p' (pos j)
    · rw [if_pos ((h j).2 (.inr b)), if_pos b]
    · rw [if_neg (fun q => ((h j).1 q).elim a b), if_neg b]

/-! ## A pair of heads -/

/-- Whether a column is of head `s` of the pair. -/
def lane (s : Fin 2) (e : Fin 128) : Prop := e.val / 64 = s.val

instance (s : Fin 2) (e : Fin 128) : Decidable (lane s e) := inferInstanceAs (Decidable (_ = _))

/-- The columns of one head, zeros elsewhere. -/
def only {ι : Type} (s : Fin 2) (x : ι → Fin 128 → ℝ) (i : ι) (e : Fin 128) : ℝ := if lane s e then x i e else 0

/-- The queries, scaled, the keys, the values and the cotangent of a pair of heads. -/
structure Pair where
  q : Fin 8192 → Fin 128 → ℝ
  k : Fin 8192 → Fin 128 → ℝ
  v : Fin 8192 → Fin 128 → ℝ
  d : Fin 8192 → Fin 128 → ℝ

namespace Pair

variable (P : Pair) (s : Fin 2) (i j : Fin 8192) (e : Fin 128)

/-- The scores. -/
def z : ℝ := ∑ e, only s P.q i e * P.k j e
/-- The logs of the complements, of the keys before the query. -/
def l : ℝ := if j < i then lbR (P.z s i j) - P.z s i j else 0
/-- The weights. -/
def w : ℝ := if j < i then Real.exp (lbR (P.z s i j) + ∑ j', if j < j' then P.l s i j' else 0) else 0
/-- The weights times their gradients. -/
def g : ℝ := (∑ e, only s P.d i e * P.v j e) * P.w s i j
/-- The gradients of the scores. -/
def dz : ℝ := if j < i then P.g s i j - (∑ j', if j' ≤ j then P.g s i j' else 0) * Real.exp (lbR (P.z s i j)) else 0
/-- The gradients of the queries, -/
def dq : ℝ := ∑ s, ∑ j, P.dz s i j * only s P.k j e
/-- of the keys -/
def dk : ℝ := ∑ s, ∑ i, P.dz s i j * only s P.q i e
/-- and of the values. -/
def dv : ℝ := ∑ s, ∑ i, P.w s i j * only s P.d i e
/-- The attention's result. -/
def out : ℝ := ∑ s, ∑ j, P.w s i j * only s P.v j e

end Pair

/-! ## A block of keys on a sub-block of queries -/

/-- What a sub-block carries. -/
structure Carry where
  a : Fin 2 → Fin 256 → ℝ
  r : Fin 2 → Fin 256 → ℝ
  dq : Fin 256 → Fin 128 → ℝ

/-- What a block computes from: queries, cotangent, keys, values, and two masks. -/
structure Block where
  q : Fin 256 → Fin 128 → ℝ
  d : Fin 256 → Fin 128 → ℝ
  k : Fin 256 → Fin 128 → ℝ
  v : Fin 256 → Fin 128 → ℝ
  pL : Fin 256 → Fin 256 → Bool
  pW : Fin 256 → Fin 256 → Bool

namespace Block

variable (B : Block) (x : Carry) (s : Fin 2) (r c : Fin 256) (e : Fin 128)

def z : ℝ := ∑ e, only s B.q r e * B.k c e
def l : ℝ := if B.pL r c then lbR (B.z s r c) - B.z s r c else 0
def w : ℝ := if B.pW r c then Real.exp (lbR (B.z s r c) + (x.a s r + ∑ c', if c < c' then B.l s r c' else 0)) else 0
def g : ℝ := (∑ e, only s B.d r e * B.v c e) * B.w x s r c
def dz : ℝ := if B.pW r c then B.g x s r c - (B.g x s r c + (x.r s r - ∑ c', if c ≤ c' then B.g x s r c' else 0)) * Real.exp (lbR (B.z s r c)) else 0

/-- The carry after the block. -/
def next : Carry where
  a s r := x.a s r + ∑ c, B.l s r c
  r s r := x.r s r - ∑ c, B.g x s r c
  dq r e := x.dq r e + ∑ s, ∑ c, B.dz x s r c * only s B.k c e

/-- What it adds to the keys' gradient, -/
def dk : ℝ := ∑ s, ∑ r, B.dz x s r c * only s B.q r e
/-- and to the values'. -/
def dv : ℝ := ∑ s, ∑ r, B.w x s r c * only s B.d r e

end Block

/-- The block `J` of keys of a pair against the sub-block `Q` of queries. -/
def Pair.block (P : Pair) (Q J : Fin 32) (pL pW : Fin 256 → Fin 256 → Bool) : Block where
  q r e := P.q (row Q r) e
  d r e := P.d (row Q r) e
  k c e := P.k (row J c) e
  v c e := P.v (row J c) e
  pL := pL
  pW := pW

/-- What the carry is when the blocks from `J` on have been walked. -/
structure Pair.Inv (P : Pair) (Q : Fin 32) (J : ℕ) (x : Carry) : Prop where
  a : ∀ s r, x.a s r = ∑ j : Fin 8192, if 256 * J ≤ j.val then P.l s (row Q r) j else 0
  r : ∀ s r, x.r s r = ∑ j : Fin 8192, P.g s (row Q r) j - ∑ j : Fin 8192, if 256 * J ≤ j.val then P.g s (row Q r) j else 0
  dq : ∀ r e, x.dq r e = ∑ s, ∑ j : Fin 8192, if 256 * J ≤ j.val then P.dz s (row Q r) j * only s P.k j e else 0

/-- The masks let through the keys before the query. -/
def Good (Q J : Fin 32) (p : Fin 256 → Fin 256 → Bool) : Prop := ∀ r c, p r c = true ↔ row J c < row Q r

section Step

variable (P : Pair) (Q J : Fin 32) (pL pW : Fin 256 → Fin 256 → Bool) (hL : Good Q J pL) (hW : Good Q J pW) (x : Carry)
  (hx : P.Inv Q (J.val + 1) x)

include hL in
theorem block_l (s : Fin 2) (r c : Fin 256) : (P.block Q J pL pW).l s r c = P.l s (row Q r) (row J c) := by
  unfold Block.l Pair.l
  have := hL r c
  by_cases h : row J c < row Q r
  · rw [if_pos h, if_pos (show (P.block Q J pL pW).pL r c = true from this.2 h)]; rfl
  · rw [if_neg h, if_neg (show ¬ (P.block Q J pL pW).pL r c = true from fun q => h (this.1 q))]

theorem after_row (c : Fin 256) (j : Fin 8192) : row J c < j ↔ (256 * (J.val + 1) ≤ j.val ∨ (blk j = J ∧ c < pos j)) := by
  have h1 : (blk j).val = j.val / 256 := rfl
  have h2 : (pos j).val = j.val % 256 := rfl
  have h3 : (row J c).val = 256 * J.val + c.val := rfl
  have h4 := c.isLt
  rw [Fin.lt_def, Fin.ext_iff, Fin.lt_def, h1, h2, h3]
  omega

include hL hW hx in
theorem block_w (s : Fin 2) (r c : Fin 256) : (P.block Q J pL pW).w x s r c = P.w s (row Q r) (row J c) := by
  unfold Block.w Pair.w
  have := hW r c
  by_cases h : row J c < row Q r
  · rw [if_pos h, if_pos (show (P.block Q J pL pW).pW r c = true from this.2 h), hx.a,
      sum_from J (fun j => row J c < j) (fun c' => c < c') (after_row J c)]
    simp only [block_l P Q J pL pW hL]
    rfl
  · rw [if_neg h, if_neg (show ¬ (P.block Q J pL pW).pW r c = true from fun q => h (this.1 q))]

include hL hW hx in
theorem block_g (s : Fin 2) (r c : Fin 256) : (P.block Q J pL pW).g x s r c = P.g s (row Q r) (row J c) := by
  unfold Block.g Pair.g
  rw [block_w P Q J pL pW hL hW x hx]; rfl

theorem from_split (c : Fin 256) (f : Fin 8192 → ℝ) :
    (∑ j, f j) - (∑ j : Fin 8192, if 256 * (J.val + 1) ≤ j.val then f j else 0) - (∑ c', if c ≤ c' then f (row J c') else 0) + f (row J c)
      = ∑ j, if j ≤ row J c then f j else 0 := by
  have h1 := sum_from J (fun j => row J c < j) (fun c' => c < c') (after_row J c) f
  have h2 : (∑ j, f j) = (∑ j, if j ≤ row J c then f j else 0) + ∑ j, if row J c < j then f j else 0 := by
    rw [← Finset.sum_add_distrib]
    refine Finset.sum_congr rfl fun j _ => ?_
    by_cases h : j ≤ row J c
    · rw [if_pos h, if_neg (not_lt.2 h), add_zero]
    · rw [if_neg h, if_pos (not_le.1 h), zero_add]
  have h3 : (∑ c', if c ≤ c' then f (row J c') else 0) = f (row J c) + ∑ c', if c < c' then f (row J c') else 0 := by
    have : f (row J c) = ∑ c', if c = c' then f (row J c') else 0 := by rw [Finset.sum_ite_eq]; simp
    conv_rhs => rw [this]
    rw [← Finset.sum_add_distrib]
    refine Finset.sum_congr rfl fun c' _ => ?_
    rcases lt_trichotomy c c' with h | h | h
    · rw [if_pos h.le, if_neg h.ne, if_pos h, zero_add]
    · subst h; simp
    · rw [if_neg (not_le.2 h), if_neg h.ne', if_neg h.le.not_gt, zero_add]
  rw [h3]; linarith

include hL hW hx in
theorem block_dz (s : Fin 2) (r c : Fin 256) : (P.block Q J pL pW).dz x s r c = P.dz s (row Q r) (row J c) := by
  unfold Block.dz Pair.dz
  have := hW r c
  by_cases h : row J c < row Q r
  · rw [if_pos h, if_pos (show (P.block Q J pL pW).pW r c = true from this.2 h), hx.r]
    simp only [block_g P Q J pL pW hL hW x hx]
    rw [← from_split J c]
    rw [show (P.block Q J pL pW).z s r c = P.z s (row Q r) (row J c) from rfl]
    ring
  · rw [if_neg h, if_neg (show ¬ (P.block Q J pL pW).pW r c = true from fun q => h (this.1 q))]

theorem from_next (f : Fin 8192 → ℝ) : (∑ j : Fin 8192, if 256 * J.val ≤ j.val then f j else 0)
    = (∑ j : Fin 8192, if 256 * (J.val + 1) ≤ j.val then f j else 0) + ∑ c, f (row J c) := by
  have h := sum_from J (fun j => 256 * J.val ≤ j.val) (fun _ => True) (fun j => by
    have h1 : (blk j).val = j.val / 256 := rfl
    have h2 : blk j = J ↔ j.val / 256 = J.val := Fin.ext_iff
    simp only [and_true, h2]; omega) f
  simpa using h

include hL hW hx in
/-- A block keeps the invariant. -/
theorem block_next : P.Inv Q J.val ((P.block Q J pL pW).next x) where
  a s r := by
    rw [from_next J, ← hx.a]
    exact congrArg (x.a s r + ·) (Finset.sum_congr rfl fun c _ => block_l P Q J pL pW hL s r c)
  r s r := by
    rw [from_next J, ← sub_sub, ← hx.r]
    exact congrArg (x.r s r - ·) (Finset.sum_congr rfl fun c _ => block_g P Q J pL pW hL hW x hx s r c)
  dq r e := by
    rw [Finset.sum_congr rfl fun s _ => from_next J _, Finset.sum_add_distrib, ← hx.dq]
    refine congrArg (x.dq r e + ·) (Finset.sum_congr rfl fun s _ => Finset.sum_congr rfl fun c _ => ?_)
    rw [block_dz P Q J pL pW hL hW x hx]; rfl

/-- What block `J` of the keys adds to their gradient for sub-block `Q`, -/
def Pair.dkIn (j : Fin 8192) (e : Fin 128) : ℝ := if blk j = J then ∑ s, ∑ r, P.dz s (row Q r) j * only s P.q (row Q r) e else 0
/-- and to the values'. -/
def Pair.dvIn (j : Fin 8192) (e : Fin 128) : ℝ := if blk j = J then ∑ s, ∑ r, P.w s (row Q r) j * only s P.d (row Q r) e else 0

include hL hW hx in
theorem block_dk (j : Fin 8192) (e : Fin 128) :
    (if blk j = J then (P.block Q J pL pW).dk x (pos j) e else 0) = P.dkIn Q J j e := by
  unfold Pair.dkIn
  split_ifs with h
  · unfold Block.dk
    refine Finset.sum_congr rfl fun s _ => Finset.sum_congr rfl fun r _ => ?_
    rw [block_dz P Q J pL pW hL hW x hx, ← h, row_blk]; rfl
  · rfl

include hL hW hx in
theorem block_dv (j : Fin 8192) (e : Fin 128) :
    (if blk j = J then (P.block Q J pL pW).dv x (pos j) e else 0) = P.dvIn Q J j e := by
  unfold Pair.dvIn
  split_ifs with h
  · unfold Block.dv
    refine Finset.sum_congr rfl fun s _ => Finset.sum_congr rfl fun r _ => ?_
    rw [block_w P Q J pL pW hL hW x hx, ← h, row_blk]; rfl
  · rfl

end Step

end Cert.Sb

end
-- ==== Proof.SbWalk.lean ====
/-
  The attention gradient in real numbers, added up: a sub-block's two first blocks of keys, its walk over the rest, the
  four sub-blocks of a grid point and the eight points of a pair of heads.
-/
module

public import proofs.«01_k».proof.Proof.SbReal

@[expose] public section

noncomputable section

namespace Cert.Sb

/-- The gradients of the keys (`true`) and of the values (`false`). -/
abbrev KV : Type := Bool → Fin 8192 → Fin 128 → ℝ

/-- The carry and both gradients. -/
structure State where
  car : Carry
  kv : KV

/-- What a block adds to either gradient. -/
def Block.kv (B : Block) (x : Carry) : Bool → Fin 256 → Fin 128 → ℝ
  | true => B.dk x
  | false => B.dv x

def Pair.kvIn (P : Pair) (Q J : Fin 32) : KV
  | true => P.dkIn Q J
  | false => P.dvIn Q J

/-- What a sub-block adds to either gradient. -/
def Pair.kvOf (P : Pair) (Q : Fin 32) : KV
  | true => fun j e => ∑ s, ∑ r, P.dz s (row Q r) j * only s P.q (row Q r) e
  | false => fun j e => ∑ s, ∑ r, P.w s (row Q r) j * only s P.d (row Q r) e

/-- A block of keys on the state. -/
def Pair.step (P : Pair) (Q J : Fin 32) (pL pW : Fin 256 → Fin 256 → Bool) (x : State) : State where
  car := (P.block Q J pL pW).next x.car
  kv u j e := x.kv u j e + if blk j = J then (P.block Q J pL pW).kv x.car u (pos j) e else 0

/-- The block `n` before. -/
def back (Q : Fin 32) (n : ℕ) : Fin 32 := ⟨Q.val - n, lt_of_le_of_lt (Nat.sub_le _ _) Q.isLt⟩

/-- The mask of the sub-block's own block, -/
def diag (r c : Fin 256) : Bool := decide (c < r)
/-- no mask, -/
def every (_ _ : Fin 256) : Bool := true
/-- and the mask of the block before. -/
def prev (Q : Fin 32) (_ _ : Fin 256) : Bool := decide (0 < Q.val)

variable (P : Pair)

/-- The carry a sub-block starts with. -/
def Pair.car0 (Q : Fin 32) : Carry where
  a _ _ := 0
  r s r := ∑ e, if lane s e then P.d (row Q r) e * P.out (row Q r) e else 0
  dq _ _ := 0

/-- A sub-block's two first blocks. -/
def Pair.head (Q : Fin 32) (kv : KV) : State :=
  P.step Q (back Q 1) every (prev Q) (P.step Q (back Q 0) diag diag ⟨P.car0 Q, kv⟩)

/-- Its walk. -/
def Pair.walk (Q : Fin 32) : ℕ → ℕ → State → State
  | 0, _, x => x
  | k + 1, n, x => if n ≤ Q.val then Pair.walk Q k (n + 1) (P.step Q (back Q n) every every x) else x

theorem good_diag (Q : Fin 32) : Good Q (back Q 0) diag := fun r c => by
  have h1 : (row (back Q 0) c).val = 256 * (Q.val - 0) + c.val := rfl
  have h2 : (row Q r).val = 256 * Q.val + r.val := rfl
  unfold diag
  rw [decide_eq_true_iff, Fin.lt_def, Fin.lt_def, h1, h2]; omega

theorem good_every (Q : Fin 32) (n : ℕ) (h0 : 1 ≤ n) (h : n ≤ Q.val) : Good Q (back Q n) every := fun r c => by
  have h1 : (row (back Q n) c).val = 256 * (Q.val - n) + c.val := rfl
  have h2 : (row Q r).val = 256 * Q.val + r.val := rfl
  have h3 := c.isLt
  rw [Fin.lt_def, h1, h2]
  exact ⟨fun _ => by omega, fun _ => rfl⟩

theorem good_prev (Q : Fin 32) (h : 1 ≤ Q.val) : Good Q (back Q 1) (prev Q) := fun r c => by
  have := good_every Q 1 le_rfl h r c
  rw [← this]
  unfold prev every
  rw [decide_eq_true_iff]
  exact ⟨fun _ => rfl, fun _ => by omega⟩

section Late

variable {P}

theorem g_late (s : Fin 2) (i j : Fin 8192) (h : ¬ j < i) : P.g s i j = 0 := by
  unfold Pair.g Pair.w; rw [if_neg h, mul_zero]

theorem dz_late (s : Fin 2) (i j : Fin 8192) (h : ¬ j < i) : P.dz s i j = 0 := if_neg h
theorem w_late (s : Fin 2) (i j : Fin 8192) (h : ¬ j < i) : P.w s i j = 0 := if_neg h
theorem l_late (s : Fin 2) (i j : Fin 8192) (h : ¬ j < i) : P.l s i j = 0 := if_neg h

theorem row_late (Q : Fin 32) (r : Fin 256) (j : Fin 8192) (h : 256 * (Q.val + 1) ≤ j.val) : ¬ j < row Q r := by
  have h2 : (row Q r).val = 256 * Q.val + r.val := rfl
  have := r.isLt
  rw [Fin.lt_def, h2]; omega

theorem kvIn_late (u : Bool) (Q J : Fin 32) (j : Fin 8192) (e : Fin 128) (h : Q.val < J.val) : P.kvIn Q J u j e = 0 := by
  have hl : blk j = J → ∀ r, ¬ j < row Q r := fun hb r => row_late Q r j (by
    have h1 : (blk j).val = j.val / 256 := rfl
    rw [hb] at h1; omega)
  cases u
  · show P.dvIn Q J j e = 0
    unfold Pair.dvIn
    split_ifs with hb
    · exact Finset.sum_eq_zero fun s _ => Finset.sum_eq_zero fun r _ => by rw [w_late _ _ _ (hl hb r), zero_mul]
    · rfl
  · show P.dkIn Q J j e = 0
    unfold Pair.dkIn
    split_ifs with hb
    · exact Finset.sum_eq_zero fun s _ => Finset.sum_eq_zero fun r _ => by rw [dz_late _ _ _ (hl hb r), zero_mul]
    · rfl

theorem kvIn_sum (u : Bool) (Q : Fin 32) (j : Fin 8192) (e : Fin 128) : ∑ J, P.kvIn Q J u j e = P.kvOf Q u j e := by
  cases u
  · show ∑ J, P.dvIn Q J j e = _
    unfold Pair.dvIn
    rw [Finset.sum_ite_eq]; simp [Pair.kvOf]
  · show ∑ J, P.dkIn Q J j e = _
    unfold Pair.dkIn
    rw [Finset.sum_ite_eq]; simp [Pair.kvOf]

end Late

theorem lane_sum (e : Fin 128) (f : Fin 2 → ℝ) (s : Fin 2) (h : lane s e) : (∑ s', if lane s' e then f s' else 0) = f s := by
  rw [Finset.sum_eq_single_of_mem s (Finset.mem_univ _), if_pos h]
  intro s' _ hne
  exact if_neg fun h' => hne (Fin.ext ((show e.val / 64 = s'.val from h').symm.trans h))

/-- A row of the result times the cotangent, over a head's columns, is the sum of the weights times their gradients. -/
theorem out_sum (s : Fin 2) (i : Fin 8192) : (∑ e, if lane s e then P.d i e * P.out i e else 0) = ∑ j, P.g s i j := by
  have h1 : ∀ e, (if lane s e then P.d i e * P.out i e else 0) = ∑ j, only s P.d i e * P.v j e * P.w s i j := by
    intro e
    unfold only
    split_ifs with h
    · unfold Pair.out
      rw [Finset.sum_comm, Finset.mul_sum]
      refine Finset.sum_congr rfl fun j _ => ?_
      have : ∀ s', P.w s' i j * only s' P.v j e = if lane s' e then P.w s' i j * P.v j e else 0 := by
        intro s'; unfold only; split_ifs <;> simp
      rw [Finset.sum_congr rfl fun s' _ => this s', lane_sum e (fun s' => P.w s' i j * P.v j e) s h]; ring
    · simp
  rw [Finset.sum_congr rfl fun e _ => h1 e, Finset.sum_comm]
  refine Finset.sum_congr rfl fun j _ => ?_
  unfold Pair.g
  rw [Finset.sum_mul]

theorem inv_start (Q : Fin 32) : P.Inv Q (Q.val + 1) (P.car0 Q) where
  a s r := (Finset.sum_eq_zero fun j _ => by
    split_ifs with h
    · exact l_late s _ j (row_late Q r j h)
    · rfl).symm
  r s r := by
    rw [show (∑ j : Fin 8192, if 256 * (Q.val + 1) ≤ j.val then P.g s (row Q r) j else 0) = 0 from Finset.sum_eq_zero fun j _ => by
      split_ifs with h
      · exact g_late s _ j (row_late Q r j h)
      · rfl, sub_zero]
    exact out_sum P s (row Q r)
  dq r e := (Finset.sum_eq_zero fun s _ => Finset.sum_eq_zero fun j _ => by
    split_ifs with h
    · rw [dz_late s _ j (row_late Q r j h), zero_mul]
    · rfl).symm

theorem inv_end (Q : Fin 32) (x : Carry) (hx : P.Inv Q 0 x) (r : Fin 256) (e : Fin 128) : x.dq r e = P.dq (row Q r) e := by
  rw [hx.dq]; unfold Pair.dq
  exact Finset.sum_congr rfl fun s _ => Finset.sum_congr rfl fun j _ => if_pos (by omega)

theorem step_kv (Q J : Fin 32) (pL pW : Fin 256 → Fin 256 → Bool) (hL : Good Q J pL) (hW : Good Q J pW) (x : State)
    (hx : P.Inv Q (J.val + 1) x.car) (u : Bool) (j : Fin 8192) (e : Fin 128) :
    (P.step Q J pL pW x).kv u j e = x.kv u j e + P.kvIn Q J u j e := by
  refine congrArg (x.kv u j e + ·) ?_
  cases u
  · exact block_dv P Q J pL pW hL hW x.car hx j e
  · exact block_dk P Q J pL pW hL hW x.car hx j e

/-- What the first two blocks leave. -/
theorem head_inv (Q : Fin 32) (kv : KV) (h : 1 ≤ Q.val) : P.Inv Q (Q.val - 1) (P.head Q kv).car := by
  have h0 := block_next P Q (back Q 0) diag diag (good_diag Q) (good_diag Q) _ (inv_start P Q)
  exact block_next P Q (back Q 1) every (prev Q) (good_every Q 1 le_rfl h) (good_prev Q h) _
    (by have e : (back Q 1).val + 1 = (back Q 0).val := by show Q.val - 1 + 1 = Q.val - 0; omega
        rw [e]; exact h0)

theorem none_w (B : Block) (h : ∀ r c, B.pW r c = false) (x : Carry) (s : Fin 2) (r c : Fin 256) : B.w x s r c = 0 := by
  unfold Block.w; rw [h]; rfl

theorem none_dz (B : Block) (h : ∀ r c, B.pW r c = false) (x : Carry) (s : Fin 2) (r c : Fin 256) : B.dz x s r c = 0 := by
  unfold Block.dz; rw [h]; rfl

theorem prev_none (Q : Fin 32) (h : Q.val = 0) (r c : Fin 256) : (P.block Q (back Q 1) every (prev Q)).pW r c = false := by
  show decide (0 < Q.val) = false; rw [h]; rfl

/-- The first sub-block has no block before it: its second block changes neither gradient. -/
theorem head_dq_zero (Q : Fin 32) (kv : KV) (h : Q.val = 0) (r : Fin 256) (e : Fin 128) : (P.head Q kv).car.dq r e = P.dq (row Q r) e := by
  have h0 := block_next P Q (back Q 0) diag diag (good_diag Q) (good_diag Q) _ (inv_start P Q)
  have e0 : (back Q 0).val = 0 := h
  rw [e0] at h0
  rw [← inv_end P Q _ h0]
  show _ + _ = _
  rw [Finset.sum_eq_zero fun s _ => Finset.sum_eq_zero fun c _ => by rw [none_dz _ (prev_none P Q h), zero_mul], add_zero]
  rfl

theorem head_kv (Q : Fin 32) (kv : KV) (u : Bool) (j : Fin 8192) (e : Fin 128) :
    (P.head Q kv).kv u j e = kv u j e + ∑ J : Fin 32, if Q.val ≤ J.val + 1 then P.kvIn Q J u j e else 0 := by
  have i0 : P.Inv Q ((back Q 0).val + 1) (P.car0 Q) := inv_start P Q
  have s0 := step_kv P Q (back Q 0) diag diag (good_diag Q) (good_diag Q) ⟨P.car0 Q, kv⟩ i0 u j e
  by_cases h : 1 ≤ Q.val
  · have h0 := block_next P Q (back Q 0) diag diag (good_diag Q) (good_diag Q) _ i0
    have s1 := step_kv P Q (back Q 1) every (prev Q) (good_every Q 1 le_rfl h) (good_prev Q h)
      (P.step Q (back Q 0) diag diag ⟨P.car0 Q, kv⟩)
      (by have e : (back Q 1).val + 1 = (back Q 0).val := by show Q.val - 1 + 1 = Q.val - 0; omega
          rw [e]; exact h0) u j e
    unfold Pair.head
    rw [s1, s0, add_assoc]
    have hne : back Q 0 ≠ back Q 1 := fun q => by
      have : Q.val - 0 = Q.val - 1 := congrArg Fin.val q
      omega
    refine congrArg (kv u j e + ·) ?_
    rw [← Finset.sum_pair (f := fun J => P.kvIn Q J u j e) hne]
    refine (Finset.sum_congr rfl fun J hJ => ?_).trans (Finset.sum_subset (Finset.subset_univ _) fun J _ hJ => ?_)
    · refine (if_pos ?_).symm
      rcases Finset.mem_insert.1 hJ with rfl | hJ
      · show Q.val ≤ Q.val - 0 + 1; omega
      · rw [Finset.mem_singleton.1 hJ]; show Q.val ≤ Q.val - 1 + 1; omega
    · split_ifs with hq
      · refine kvIn_late u Q J j e (not_le.1 fun hle => hJ ?_)
        rcases Nat.lt_or_ge J.val Q.val with hlt | hge
        · exact Finset.mem_insert_of_mem (Finset.mem_singleton.2 (Fin.ext (by show J.val = Q.val - 1; omega)))
        · exact Finset.mem_insert.2 (.inl (Fin.ext (by show J.val = Q.val - 0; omega)))
      · rfl
  · have hq : Q.val = 0 := by omega
    have z1 : (P.head Q kv).kv u j e = (P.step Q (back Q 0) diag diag ⟨P.car0 Q, kv⟩).kv u j e := by
      unfold Pair.head
      refine (show _ = _ + _ from rfl).trans ?_
      have : ∀ x c, (P.block Q (back Q 1) every (prev Q)).kv x u c e = 0 := by
        intro x c
        cases u
        · show (P.block Q (back Q 1) every (prev Q)).dv x c e = 0
          exact Finset.sum_eq_zero fun s _ => Finset.sum_eq_zero fun r _ => by rw [none_w _ (prev_none P Q hq), zero_mul]
        · show (P.block Q (back Q 1) every (prev Q)).dk x c e = 0
          exact Finset.sum_eq_zero fun s _ => Finset.sum_eq_zero fun r _ => by rw [none_dz _ (prev_none P Q hq), zero_mul]
      rw [this, ite_self, add_zero]
    rw [z1, s0]
    refine congrArg (kv u j e + ·) ?_
    rw [Finset.sum_eq_single_of_mem (back Q 0) (Finset.mem_univ _)]
    · exact (if_pos (by rw [hq]; omega)).symm
    · intro J _ hJ
      split_ifs
      · exact kvIn_late u Q J j e (Nat.lt_of_le_of_ne (by omega) fun q => hJ (Fin.ext (by show J.val = Q.val - 0; omega)))
      · rfl

/-- What the walk leaves, from block `n` on. -/
theorem walk_ok (Q : Fin 32) (k : ℕ) : ∀ (n : ℕ) (x : State), 1 ≤ n → n ≤ Q.val + 1 → Q.val + 1 ≤ k + n →
    P.Inv Q (Q.val + 1 - n) x.car →
    (∀ r e, (P.walk Q k n x).car.dq r e = P.dq (row Q r) e) ∧
    ∀ u j e, (P.walk Q k n x).kv u j e = x.kv u j e + ∑ J : Fin 32, if J.val + n ≤ Q.val then P.kvIn Q J u j e else 0 := by
  have done : ∀ (n : ℕ) (x : State), n = Q.val + 1 → P.Inv Q (Q.val + 1 - n) x.car →
      (∀ r e, x.car.dq r e = P.dq (row Q r) e) ∧
      ∀ u j e, x.kv u j e = x.kv u j e + ∑ J : Fin 32, if J.val + n ≤ Q.val then P.kvIn Q J u j e else 0 := by
    rintro n x rfl hx
    rw [Nat.sub_self] at hx
    refine ⟨fun r e => inv_end P Q _ hx r e, fun u j e => ?_⟩
    rw [Finset.sum_eq_zero fun J _ => if_neg (by omega), add_zero]
  induction k with
  | zero => intro n x _ h1 h2 hx; exact done n x (by omega) hx
  | succ k ih =>
    intro n x h0 h1 h2 hx
    unfold Pair.walk
    split_ifs with hn
    · have hb : (back Q n).val = Q.val - n := rfl
      have hx' : P.Inv Q ((back Q n).val + 1) x.car := by rw [hb, show Q.val - n + 1 = Q.val + 1 - n by omega]; exact hx
      have g := good_every Q n h0 hn
      have h3 := block_next P Q (back Q n) every every g g _ hx'
      obtain ⟨a, b⟩ := ih (n + 1) (P.step Q (back Q n) every every x) (by omega) (by omega) (by omega)
        (by rw [show Q.val + 1 - (n + 1) = (back Q n).val by rw [hb]; omega]; exact h3)
      refine ⟨a, fun u j e => ?_⟩
      rw [b, step_kv P Q (back Q n) every every g g x hx', add_assoc]
      refine congrArg (x.kv u j e + ·) ?_
      have h5 : P.kvIn Q (back Q n) u j e = ∑ J : Fin 32, if J = back Q n then P.kvIn Q J u j e else 0 := by
        rw [Finset.sum_ite_eq']; simp
      rw [h5, ← Finset.sum_add_distrib]
      refine Finset.sum_congr rfl fun J _ => ?_
      have hJ : J = back Q n ↔ J.val = Q.val - n := Fin.ext_iff
      by_cases c1 : J.val = Q.val - n
      · rw [if_pos (hJ.2 c1), if_neg (by omega), if_pos (by omega), add_zero]
      · rw [if_neg (fun q => c1 (hJ.1 q)), zero_add]
        by_cases c2 : J.val + (n + 1) ≤ Q.val
        · rw [if_pos c2, if_pos (by omega)]
        · rw [if_neg c2, if_neg (by omega)]
    · exact done n x (by omega) hx

/-- A sub-block, whole: the gradient of its queries, and what it adds to the others. -/
theorem whole_dq (Q : Fin 32) (kv kv' : KV) (r : Fin 256) (e : Fin 128) :
    (P.walk Q 32 2 ⟨(P.head Q kv).car, kv'⟩).car.dq r e = P.dq (row Q r) e := by
  by_cases h : 1 ≤ Q.val
  · exact (walk_ok P Q 32 2 ⟨(P.head Q kv).car, kv'⟩ (by omega) (by omega) (by have := Q.isLt; omega)
      (by rw [show Q.val + 1 - 2 = Q.val - 1 by omega]; exact head_inv P Q kv h)).1 r e
  · unfold Pair.walk
    rw [if_neg (by omega)]
    exact head_dq_zero P Q kv (by omega) r e

theorem walk_kv (Q : Fin 32) (kv kv' : KV) (u : Bool) (j : Fin 8192) (e : Fin 128) :
    (P.walk Q 32 2 ⟨(P.head Q kv).car, kv'⟩).kv u j e = kv' u j e + ∑ J : Fin 32, if J.val + 2 ≤ Q.val then P.kvIn Q J u j e else 0 := by
  by_cases h : 1 ≤ Q.val
  · exact (walk_ok P Q 32 2 ⟨(P.head Q kv).car, kv'⟩ (by omega) (by omega) (by have := Q.isLt; omega)
      (by rw [show Q.val + 1 - 2 = Q.val - 1 by omega]; exact head_inv P Q kv h)).2 u j e
  · unfold Pair.walk
    rw [if_neg (by omega), Finset.sum_eq_zero fun J _ => if_neg (by omega), add_zero]

theorem both_kv (Q : Fin 32) (u : Bool) (j : Fin 8192) (e : Fin 128) :
    (∑ J : Fin 32, if Q.val ≤ J.val + 1 then P.kvIn Q J u j e else 0) + (∑ J : Fin 32, if J.val + 2 ≤ Q.val then P.kvIn Q J u j e else 0)
      = P.kvOf Q u j e := by
  rw [← kvIn_sum, ← Finset.sum_add_distrib]
  refine Finset.sum_congr rfl fun J _ => ?_
  by_cases c : Q.val ≤ J.val + 1
  · rw [if_pos c, if_neg (by omega), add_zero]
  · rw [if_neg c, if_pos (by omega), zero_add]

/-! ## A grid point -/

/-- Sub-block `h` of point `b`. -/
def sub (b : Fin 8) (h : Fin 4) : Fin 32 := ⟨4 * b.val + h.val, by have := b.isLt; have := h.isLt; omega⟩

section Point

variable (b : Fin 8) (kv : KV)

def Pair.h1 : State := P.head (sub b 0) kv
def Pair.h2 : State := P.head (sub b 1) (P.h1 b kv).kv
def Pair.h3 : State := P.head (sub b 2) (P.h2 b kv).kv
def Pair.h4 : State := P.head (sub b 3) (P.h3 b kv).kv
def Pair.w1 : State := P.walk (sub b 0) 32 2 ⟨(P.h1 b kv).car, (P.h4 b kv).kv⟩
def Pair.w2 : State := P.walk (sub b 1) 32 2 ⟨(P.h2 b kv).car, (P.w1 b kv).kv⟩
def Pair.w3 : State := P.walk (sub b 2) 32 2 ⟨(P.h3 b kv).car, (P.w2 b kv).kv⟩
def Pair.w4 : State := P.walk (sub b 3) 32 2 ⟨(P.h4 b kv).car, (P.w3 b kv).kv⟩

theorem point_kv (u : Bool) (j : Fin 8192) (e : Fin 128) : (P.w4 b kv).kv u j e = kv u j e + ∑ h, P.kvOf (sub b h) u j e := by
  unfold Pair.w4 Pair.h4; rw [walk_kv]
  unfold Pair.w3 Pair.h3; rw [walk_kv]
  unfold Pair.w2 Pair.h2; rw [walk_kv]
  unfold Pair.w1 Pair.h1; rw [walk_kv]
  unfold Pair.h4; rw [head_kv]
  unfold Pair.h3; rw [head_kv]
  unfold Pair.h2; rw [head_kv]
  unfold Pair.h1; rw [head_kv]
  rw [Fin.sum_univ_four, ← both_kv, ← both_kv, ← both_kv, ← both_kv]
  ring

end Point

/-- Both gradients before point `b` of a pair of heads. -/
def Pair.kvN (P : Pair) : ℕ → KV
  | 0 => fun _ _ _ => 0
  | b + 1 => if h : b < 8 then (P.w4 ⟨b, h⟩ (Pair.kvN P b)).kv else Pair.kvN P b

theorem kvN_eq (n : ℕ) (hn : n ≤ 8) (u : Bool) (j : Fin 8192) (e : Fin 128) :
    P.kvN n u j e = ∑ b : Fin 8, if b.val < n then ∑ h, P.kvOf (sub b h) u j e else 0 := by
  induction n with
  | zero => exact (Finset.sum_eq_zero fun b _ => if_neg (by omega)).symm
  | succ n ih =>
    unfold Pair.kvN
    rw [dif_pos (show n < 8 by omega), point_kv, ih (by omega)]
    have h5 : (∑ h, P.kvOf (sub ⟨n, by omega⟩ h) u j e) = ∑ b : Fin 8, if b = ⟨n, by omega⟩ then ∑ h, P.kvOf (sub b h) u j e else 0 := by
      rw [Finset.sum_ite_eq']; simp
    rw [h5, ← Finset.sum_add_distrib]
    refine Finset.sum_congr rfl fun b _ => ?_
    have hb : b = (⟨n, by omega⟩ : Fin 8) ↔ b.val = n := Fin.ext_iff
    by_cases c : b.val = n
    · rw [if_neg (by omega), if_pos (hb.2 c), if_pos (by omega), zero_add]
    · rw [if_neg (fun q => c (hb.1 q)), add_zero]
      by_cases c2 : b.val < n
      · rw [if_pos c2, if_pos (by omega)]
      · rw [if_neg c2, if_neg (by omega)]

/-- The sub-blocks, by point and place. -/
def subs : Fin 8 × Fin 4 ≃ Fin 32 where
  toFun x := sub x.1 x.2
  invFun Q := (⟨Q.val / 4, by have := Q.isLt; omega⟩, ⟨Q.val % 4, by omega⟩)
  left_inv x := Prod.ext (Fin.ext (by have := x.2.isLt; show (4 * x.1.val + x.2.val) / 4 = _; omega))
    (Fin.ext (by have := x.2.isLt; show (4 * x.1.val + x.2.val) % 4 = _; omega))
  right_inv Q := Fin.ext (Nat.div_add_mod Q.val 4)

theorem sum_subs (f : Fin 32 → ℝ) : ∑ b, ∑ h, f (sub b h) = ∑ Q, f Q := by
  rw [← Fintype.sum_prod_type' (f := fun b h => f (sub b h)), ← Equiv.sum_comp subs]; rfl

theorem kvN_all (u : Bool) (j : Fin 8192) (e : Fin 128) : P.kvN 8 u j e = ∑ Q, P.kvOf Q u j e := by
  rw [kvN_eq P 8 le_rfl, ← sum_subs]
  exact Finset.sum_congr rfl fun b _ => if_pos b.isLt

theorem kvN_dk (j : Fin 8192) (e : Fin 128) : P.kvN 8 true j e = P.dk j e := by
  rw [kvN_all]; unfold Pair.dk Pair.kvOf
  rw [Finset.sum_comm]
  exact Finset.sum_congr rfl fun s _ => (sum_rows fun i => P.dz s i j * only s P.q i e).symm

theorem kvN_dv (j : Fin 8192) (e : Fin 128) : P.kvN 8 false j e = P.dv j e := by
  rw [kvN_all]; unfold Pair.dv Pair.kvOf
  rw [Finset.sum_comm]
  exact Finset.sum_congr rfl fun s _ => (sum_rows fun i => P.w s i j * only s P.d i e).symm

end Cert.Sb

end
-- ==== Proof.SbUp.lean ====
/-
  A block of keys over the extended reals: on tiles of real numbers the step of the kernel is the step in real numbers.
-/
module

public import proofs.«01_k».proof.Proof.SbBody
public import proofs.«01_k».proof.Proof.SbWalk
public import Idealize.ShloMosaic.Lib.Pointwise

@[expose] public section

set_option maxRecDepth 16384

noncomputable section

namespace Cert.Kernel2Ideal.Hand

open Cert.Kernel2Ideal Cert.Kernel2Ideal.Gen Cert.Sb
open Idealize.ShloMosaic Idealize.ShloMosaic.TcCoe

/-- A matrix of real numbers. -/
abbrev Is {n k : ℕ} {φ : FTy} (X : FVec Ideal (⟨2, ![n, k]⟩ : Shape) φ) (x : Fin n → Fin k → ℝ) : Prop :=
  ∀ r c, X (ix2 r c) = ((x r c : ℝ) : EReal)

/-! ## Numbers -/

theorem coe_sum {ι : Type*} (s : Finset ι) (f : ι → ℝ) : (∑ i ∈ s, ((f i : ℝ) : EReal)) = ((∑ i ∈ s, f i : ℝ) : EReal) :=
  (map_sum (⟨⟨fun x : ℝ => (x : EReal), EReal.coe_zero⟩, EReal.coe_add⟩ : ℝ →+ EReal) f s).symm

theorem coe_if (p : Prop) [Decidable p] (x : ℝ) : (if p then (x : EReal) else 0) = ((if p then x else 0 : ℝ) : EReal) := by
  split_ifs <;> simp

theorem absf_coe (φ : FTy) (x : ℝ) : FloatOps.absf (F := Ideal) (φ := φ) (x : EReal) = ((|x| : ℝ) : EReal) := by
  show max (x : EReal) (-(x : EReal)) = _
  rw [← EReal.coe_neg]
  exact (EReal.coe_strictMono.monotone.map_max).symm

theorem lb_coe (z : ℝ) : min (z : EReal) 0 - Ideal.log (1 + Ideal.exp (0 - ((|z| : ℝ) : EReal))) = ((lbR z : ℝ) : EReal) := by
  have h : ¬ 1 + Real.exp (-|z|) ≤ 0 := by have := Real.exp_pos (-|z|); linarith
  have e : (1 : EReal) + ((Real.exp (-|z|) : ℝ) : EReal) = ((1 + Real.exp (-|z|) : ℝ) : EReal) := by rw [EReal.coe_add]; rfl
  rw [zero_sub, ← EReal.coe_neg, Ideal.exp_coe, e, Ideal.log_coe, if_neg h]
  unfold lbR
  rw [EReal.coe_sub]
  congr 1

/-! ## Tiles -/

theorem is_lb {Z : FVec Ideal S256x256 .f32} {z : Fin 256 → Fin 256 → ℝ} (h : Is Z z) : Is (lbOf Z) (fun r c => lbR (z r c)) := by
  intro r c
  pointwise [lbOf]
  rw [h r c, absf_coe, lb_coe]

theorem is_z {q k : FVec Ideal S256x128 .bf16} {x y : Fin 256 → Fin 128 → ℝ} (hq : Is q x) (hk : Is k y) :
    Is (zOf q k) (fun r c => ∑ e, x r e * y c e) := by
  intro r c
  pointwise [zOf]
  rw [← coe_sum]
  exact Finset.sum_congr rfl fun e _ => by rw [hq, hk, EReal.coe_mul]

/-- A mask, as a test of place. -/
def Masks (m : FVec Ideal S256x256 .f32 → FVec Ideal S256x256 .f32) (p : Fin 256 → Fin 256 → Bool) : Prop :=
  ∀ X x, Is X x → Is (m X) (fun r c => if p r c then x r c else 0)

theorem toInt_word (a : ℕ) (ha : a < 8192) : (BitVec.ofNat 32 a).toInt = a := by
  rw [BitVec.toInt_eq_toNat_of_lt (by rw [BitVec.toNat_ofNat]; omega), BitVec.toNat_ofNat, Nat.mod_eq_of_lt (by omega)]

theorem word_lt (a b : ℕ) (ha : a < 8192) (hb : b < 8192) :
    IntOp.cmpi CmpIPredicate.slt (BitVec.ofNat 32 a) (BitVec.ofNat 32 b) = BitVec.ofBool (decide (a < b)) := by
  show BitVec.ofBool (BitVec.slt (BitVec.ofNat 32 a) (BitVec.ofNat 32 b)) = _
  unfold BitVec.slt
  rw [toInt_word a ha, toInt_word b hb]
  congr 2
  simp

theorem sel {α : Type} (p : Bool) (x y : α) : Scalar.select (BitVec.ofBool p) x y = if p then x else y := by
  cases p <;> rfl

theorem masks_diag : Masks diagM diag := by
  intro X x h r c
  pointwise [diagM]
  rw [word_lt _ _ (lt_trans c.isLt (by decide)) (lt_trans r.isLt (by decide)), sel, h, coe_if]
  rfl

theorem masks_every : Masks id every := fun X x h r c => (h r c).trans (by simp [every])

theorem masks_prev (i : grid0.Coords) (h : Fin 4) (Q : Fin 32) (hQ : Q.val = qNum i h) : Masks (prevM i (BitVec.ofNat 32 h.val)) (prev Q) := by
  intro X x hX r c
  have e : Scalar.cmpi .sgt (qWord i (BitVec.ofNat 32 h.val)) 0#32 = BitVec.ofBool (decide (0 < Q.val)) := by
    have h1 : (i 1).val < 8 := (i 1).isLt
    rw [hQ]; unfold qWord qNum
    generalize (i 1).val = a at h1
    have : ∀ a : Fin 8, ∀ h : Fin 4, Scalar.cmpi .sgt (Scalar.addi (Scalar.muli (BitVec.ofNat 32 a.val) 4#32) (BitVec.ofNat 32 h.val)) 0#32
        = BitVec.ofBool (decide (0 < 4 * a.val + h.val)) := by decide +kernel
    exact this ⟨a, h1⟩ h
  unfold prevM
  rw [e]
  generalize hp : decide (0 < Q.val) = p
  pointwise []
  rw [hX, coe_if]
  unfold prev
  rw [hp]

theorem one_word (p : Bool) : FloatOps.sitofp (F := Ideal) FTy.f32 (BitVec.setWidth 32 (BitVec.ofBool p)) = if p then 1 else 0 := by
  cases p
  · show (((BitVec.setWidth 32 (BitVec.ofBool false)).toInt : ℝ) : EReal) = 0
    rw [show (BitVec.setWidth 32 (BitVec.ofBool false)).toInt = 0 by decide]; simp
  · show (((BitVec.setWidth 32 (BitVec.ofBool true)).toInt : ℝ) : EReal) = 1
    rw [show (BitVec.setWidth 32 (BitVec.ofBool true)).toInt = 1 by decide]; simp

theorem word_gt (a b : ℕ) (ha : a < 8192) (hb : b < 8192) :
    IntOp.cmpi CmpIPredicate.sgt (BitVec.ofNat 32 a) (BitVec.ofNat 32 b) = BitVec.ofBool (decide (b < a)) := by
  show BitVec.ofBool (BitVec.slt (BitVec.ofNat 32 b) (BitVec.ofNat 32 a)) = _
  unfold BitVec.slt
  rw [toInt_word a ha, toInt_word b hb]
  congr 2
  simp

theorem word_ge (a b : ℕ) (ha : a < 8192) (hb : b < 8192) :
    IntOp.cmpi CmpIPredicate.sge (BitVec.ofNat 32 a) (BitVec.ofNat 32 b) = BitVec.ofBool (decide (b ≤ a)) := by
  show BitVec.ofBool (BitVec.sle (BitVec.ofNat 32 b) (BitVec.ofNat 32 a)) = _
  unfold BitVec.sle
  rw [toInt_word a ha, toInt_word b hb]
  congr 2
  simp

/-- The product in two halves of the bits: over real numbers the second half is zero. -/
theorem split_sum (x : ℕ → ℝ) (p : Fin 256 → Prop) [DecidablePred p] (y : Fin 256 → ℝ) :
    (∑ c, ((y c : ℝ) : EReal) * (if p c then 1 else 0)) + (∑ c, (((y c : ℝ) : EReal) - ((y c : ℝ) : EReal)) * (if p c then 1 else 0))
      = ((∑ c, if p c then y c else 0 : ℝ) : EReal) := by
  rw [← coe_sum]
  have : ∀ c, (((y c : ℝ) : EReal) - ((y c : ℝ) : EReal)) * (if p c then 1 else 0) = 0 := fun c => by
    rw [← EReal.coe_sub, sub_self, EReal.coe_zero, zero_mul]
  rw [Finset.sum_eq_zero fun c _ => this c, add_zero]
  refine Finset.sum_congr rfl fun c _ => ?_
  split_ifs <;> simp

theorem is_after {X : FVec Ideal S256x256 .f32} {x : Fin 256 → Fin 256 → ℝ} (h : Is X x) :
    Is (splitOf X upM) (fun r c => ∑ c', if c < c' then x r c' else 0) := by
  intro r c
  pointwise [splitOf, upM]
  simp only [word_gt _ _ (lt_trans (Fin.isLt _) (by decide : 256 < 8192)) (lt_trans c.isLt (by decide : 256 < 8192)), one_word, h, decide_eq_true_eq]
  exact split_sum (fun _ => 0) (fun c' => c.val < c'.val) (fun c' => x r c')

theorem is_from {X : FVec Ideal S256x256 .f32} {x : Fin 256 → Fin 256 → ℝ} (h : Is X x) :
    Is (splitOf X uptoM) (fun r c => ∑ c', if c ≤ c' then x r c' else 0) := by
  intro r c
  pointwise [splitOf, uptoM]
  simp only [word_ge _ _ (lt_trans (Fin.isLt _) (by decide : 256 < 8192)) (lt_trans c.isLt (by decide : 256 < 8192)), one_word, h, decide_eq_true_eq]
  exact split_sum (fun _ => 0) (fun c' => c.val ≤ c'.val) (fun c' => x r c')

/-! ## A head's block -/

/-- A column of real numbers. -/
abbrev IsCol (a : FVec Ideal S256x1 .f32) (x : Fin 256 → ℝ) : Prop := ∀ r, a (ix2 r 0) = ((x r : ℝ) : EReal)

theorem is_rowSum {X : FVec Ideal S256x256 .f32} {x : Fin 256 → Fin 256 → ℝ} (h : Is X x) : IsCol (rowSum X) (fun r => ∑ c, x r c) := by
  intro r
  pointwise []
  rw [← coe_sum]
  exact Finset.sum_congr rfl fun c _ => h r c

theorem is_rowSum128 {X : FVec Ideal S256x128 .f32} {x : Fin 256 → Fin 128 → ℝ} (h : Is X x) : IsCol (rowSum128 X) (fun r => ∑ c, x r c) := by
  intro r
  pointwise []
  rw [← coe_sum]
  exact Finset.sum_congr rfl fun c _ => h r c

section Head

variable (B : Block) (s : Fin 2) {mL mW : FVec Ideal S256x256 .f32 → FVec Ideal S256x256 .f32}
  (hL : Masks mL B.pL) (hW : Masks mW B.pW) {q k d v : FVec Ideal S256x128 .bf16}
  (hq : Is q (only s B.q)) (hk : Is k B.k) (hd : Is d (only s B.d)) (hv : Is v B.v)
  (x : Carry) {a r : FVec Ideal S256x1 .f32} (ha : IsCol a (x.a s)) (hr : IsCol r (x.r s))

include hq hk in
theorem is_score : Is (zOf q k) (B.z s) := is_z hq hk

include hL hq hk in
theorem is_l : Is (lOf mL q k) (B.l s) := by
  refine hL _ (fun r c => lbR (B.z s r c) - B.z s r c) fun r c => ?_
  have h1 := is_lb (is_score B s hq hk) r c
  have h2 := is_score B s hq hk r c
  generalize zOf q k = Z at h1 h2 ⊢
  generalize lbOf Z = Y at h1 ⊢
  pointwise []
  rw [h1, h2, ← EReal.coe_sub]

include hL hW hq hk ha in
theorem is_w : Is (wOf mL mW upM q k a) (B.w x s) := by
  have key := hW (exp (addf (lbOf (zOf q k)) (addf (broadcastTo S256x256 a broadcasts_S256x1_S256x256) (splitOf (lOf mL q k) upM))))
    (fun r c => Real.exp (lbR (B.z s r c) + (x.a s r + ∑ c', if c < c' then B.l s r c' else 0))) (by
      intro r c
      have h1 := is_lb (is_score B s hq hk) r c
      have h2 := is_after (is_l B s hL hq hk) r c
      generalize splitOf (lOf mL q k) upM = X at h2 ⊢
      generalize lbOf (zOf q k) = Y at h1 ⊢
      pointwise []
      rw [h1, h2, ha, ← EReal.coe_add, ← EReal.coe_add, Ideal.exp_coe])
  intro r c
  exact key r c

include hL hW hq hk hd hv ha in
theorem is_g : Is (gOf mL mW upM q k d v a) (B.g x s) := by
  intro r c
  have h1 := is_w B s hL hW hq hk x ha r c
  have h2 := is_z hd hv r c
  unfold gOf
  change nt d v (ix2 r c) = _ at h2
  generalize nt d v = Y at h2 ⊢
  generalize wOf mL mW upM q k a = X at h1 ⊢
  pointwise []
  rw [h1, h2, ← EReal.coe_mul]; rfl

include hL hW hq hk hd hv ha hr in
theorem is_dz : Is (dzOf mL mW upM uptoM q k d v a r) (B.dz x s) := by
  have key := hW (subf (gOf mL mW upM q k d v a)
      (mulf (addf (gOf mL mW upM q k d v a)
        (subf (broadcastTo S256x256 r broadcasts_S256x1_S256x256) (splitOf (gOf mL mW upM q k d v a) uptoM)))
      (exp (lbOf (zOf q k)))))
    (fun r c => B.g x s r c - (B.g x s r c + (x.r s r - ∑ c', if c ≤ c' then B.g x s r c' else 0)) * Real.exp (lbR (B.z s r c))) (by
      intro i c
      have h1 := is_lb (is_score B s hq hk) i c
      have hg := is_g B s hL hW hq hk hd hv x ha
      have h2 := is_from hg i c
      have h3 := hg i c
      generalize splitOf (gOf mL mW upM q k d v a) uptoM = X at h2 ⊢
      generalize gOf mL mW upM q k d v a = G at h3 ⊢
      generalize lbOf (zOf q k) = Y at h1 ⊢
      pointwise []
      rw [h1, h2, h3, hr, Ideal.exp_coe]
      norm_cast)
  intro r c
  exact key r c

end Head

/-! ## Both heads -/

theorem lane_word (e : Fin 128) : IntOp.cmpi CmpIPredicate.slt (BitVec.ofNat 32 e.val) 64#32 = BitVec.ofBool (decide (e.val < 64)) :=
  word_lt e.val 64 (lt_trans e.isLt (by decide)) (by decide)

theorem is_first {φ : FTy} {X : FVec Ideal S256x128 φ} {x : Fin 256 → Fin 128 → ℝ} (h : Is X x) (Z : FVec Ideal S256x128 φ) (hZ : Is Z fun _ _ => 0) :
    Is (select laneM X Z : FVec Ideal S256x128 φ) (only 0 x) := by
  intro r c
  pointwise [laneM]
  rw [lane_word, sel, h, hZ]
  unfold only
  have : lane 0 c ↔ c.val < 64 := by show c.val / 64 = 0 ↔ _; omega
  by_cases hc : c.val < 64
  · rw [if_pos (this.2 hc), if_pos (decide_eq_true hc)]
  · rw [if_neg (fun q => hc (this.1 q)), if_neg (by simpa using hc)]

theorem is_second {φ : FTy} {X : FVec Ideal S256x128 φ} {x : Fin 256 → Fin 128 → ℝ} (h : Is X x) (Z : FVec Ideal S256x128 φ) (hZ : Is Z fun _ _ => 0) :
    Is (select laneM Z X : FVec Ideal S256x128 φ) (only 1 x) := by
  intro r c
  pointwise [laneM]
  rw [lane_word, sel, h, hZ]
  unfold only
  have : lane 1 c ↔ ¬ c.val < 64 := by have := c.isLt; show c.val / 64 = 1 ↔ _; omega
  by_cases hc : c.val < 64
  · rw [if_neg (fun q => this.1 q hc), if_pos (decide_eq_true hc)]
  · rw [if_pos (this.2 hc), if_neg (by simpa using hc)]

theorem is_zcol : Is (zcol (F := Ideal)) (fun _ _ => 0) := by
  intro r c
  pointwise []
  simp

theorem is_kb {X : Vec Ideal S256x128 .bf16} {x : Fin 256 → Fin 128 → ℝ} (h : Is (φ := .bf16) X x) : Is (kbOf X) x := by
  intro r c
  pointwise []
  exact h r c

theorem is_vb {X : Vec Ideal S256x128 .f32} {x : Fin 256 → Fin 128 → ℝ} (h : Is (φ := .f32) X x) : Is (vbOf X) x := fun r c => h r c

/-- A carry of real numbers. -/
structure CarIs (c : Car Ideal) (x : Carry) : Prop where
  a0 : IsCol c.1 (x.a 0)
  a1 : IsCol c.2.1 (x.a 1)
  r0 : IsCol c.2.2.1 (x.r 0)
  r1 : IsCol c.2.2.2.1 (x.r 1)
  dq : Is c.2.2.2.2 x.dq

/-- The product of both heads' matrices side by side with two matrices below one another. -/
theorem is_sides {a b : FVec Ideal S256x256 .bf16} {k l : FVec Ideal S256x128 .bf16} {x y : Fin 256 → Fin 256 → ℝ} {u v : Fin 256 → Fin 128 → ℝ}
    (ha : Is a x) (hb : Is b y) (hk : Is k u) (hl : Is l v) :
    Is (matmul dot_S256x512_S512x128_S256x128_1_0_0_1_n_n none
      (concatenate S256x512 1 [⟨S256x256, a⟩, ⟨S256x256, b⟩] concatenates_S256x256_S256x256_S256x512_d1)
      (concatenate S512x128 0 [⟨S256x128, k⟩, ⟨S256x128, l⟩] concatenates_S256x128_S256x128_S512x128_d0)
      (constant S256x128 .f32 0x00000000#32)) (fun r e => ∑ c, x r c * u c e + ∑ c, y r c * v c e) := by
  intro r e
  pointwise []
  rw [EReal.coe_add, ← coe_sum, ← coe_sum]
  refine congrArg₂ (· + ·) (Finset.sum_congr rfl fun c _ => ?_) (Finset.sum_congr rfl fun c _ => ?_)
  · rw [ha, hk, EReal.coe_mul]
  · rw [hb, hl, EReal.coe_mul]

/-- The product of both heads' matrices below one another, turned, with two matrices below one another. -/
theorem is_below {a b : FVec Ideal S256x256 .bf16} {k l : FVec Ideal S256x128 .bf16} {x y : Fin 256 → Fin 256 → ℝ} {u v : Fin 256 → Fin 128 → ℝ}
    (ha : Is a x) (hb : Is b y) (hk : Is k u) (hl : Is l v) :
    Is (matmul dot_S512x256_S512x128_S256x128_0_0_1_1_n_n none
      (concatenate S512x256 0 [⟨S256x256, a⟩, ⟨S256x256, b⟩] concatenates_S256x256_S256x256_S512x256_d0)
      (concatenate S512x128 0 [⟨S256x128, k⟩, ⟨S256x128, l⟩] concatenates_S256x128_S256x128_S512x128_d0)
      (constant S256x128 .f32 0x00000000#32)) (fun c e => ∑ r, x r c * u r e + ∑ r, y r c * v r e) := by
  intro r e
  pointwise []
  rw [EReal.coe_add, ← coe_sum, ← coe_sum]
  refine congrArg₂ (· + ·) (Finset.sum_congr rfl fun c _ => ?_) (Finset.sum_congr rfl fun c _ => ?_)
  · rw [ha, hk, EReal.coe_mul]
  · rw [hb, hl, EReal.coe_mul]

section Both

variable (B : Block) {mL mW : FVec Ideal S256x256 .f32 → FVec Ideal S256x256 .f32}
  (hL : Masks mL B.pL) (hW : Masks mW B.pW) {q : Vec Ideal S256x128 .bf16} {d : Vec Ideal S256x128 .f32}
  {k : Vec Ideal S256x128 .bf16} {v : Vec Ideal S256x128 .f32}
  (hq : Is (φ := .bf16) q B.q) (hk : Is (φ := .bf16) k B.k) (hd : Is (φ := .f32) d B.d) (hv : Is (φ := .f32) v B.v)
  (x : Carry) {c : Car Ideal} (hc : CarIs c x)

include hL hW hq hk hd hv hc in
theorem is_dzA : Is (dzA mL mW (subOf q d) k v c) (B.dz x 0) :=
  is_dz B 0 hL hW (is_first (is_kb hq) _ is_zcol) (is_kb hk) (is_first (is_vb hd) _ is_zcol) (is_vb hv) x hc.a0 hc.r0

include hL hW hq hk hd hv hc in
theorem is_dzB : Is (dzB mL mW (subOf q d) k v c) (B.dz x 1) :=
  is_dz B 1 hL hW (is_second (is_kb hq) _ is_zcol) (is_kb hk) (is_second (is_vb hd) _ is_zcol) (is_vb hv) x hc.a1 hc.r1

theorem col_add {a b : FVec Ideal S256x1 .f32} {x y : Fin 256 → ℝ} (ha : IsCol a x) (hb : IsCol b y) : IsCol (addf a b) (fun r => x r + y r) := by
  intro r
  pointwise []
  rw [ha, hb, EReal.coe_add]

theorem col_sub {a b : FVec Ideal S256x1 .f32} {x y : Fin 256 → ℝ} (ha : IsCol a x) (hb : IsCol b y) : IsCol (subf a b) (fun r => x r - y r) := by
  intro r
  pointwise []
  rw [ha, hb, EReal.coe_sub]

theorem is_add {n k : ℕ} {a b : FVec Ideal (⟨2, ![n, k]⟩ : Shape) .f32} {x y : Fin n → Fin k → ℝ} (ha : Is a x) (hb : Is b y) :
    Is (addf a b) (fun r c => x r c + y r c) := by
  intro r c
  pointwise []
  rw [ha, hb, EReal.coe_add]

include hL hW hq hk hd hv hc in
/-- The carry after a block. -/
theorem is_next : CarIs (carOf mL mW (subOf q d) k v c) (B.next x) where
  a0 := col_add hc.a0 (is_rowSum (is_l B 0 hL (is_first (is_kb hq) _ is_zcol) (is_kb hk)))
  a1 := col_add hc.a1 (is_rowSum (is_l B 1 hL (is_second (is_kb hq) _ is_zcol) (is_kb hk)))
  r0 := col_sub hc.r0 (is_rowSum (is_g B 0 hL hW (is_first (is_kb hq) _ is_zcol) (is_kb hk) (is_first (is_vb hd) _ is_zcol) (is_vb hv) x hc.a0))
  r1 := col_sub hc.r1 (is_rowSum (is_g B 1 hL hW (is_second (is_kb hq) _ is_zcol) (is_kb hk) (is_second (is_vb hd) _ is_zcol) (is_vb hv) x hc.a1))
  dq r e := by
    refine (is_add hc.dq (is_sides (is_dzA B hL hW hq hk hd hv x hc) (is_dzB B hL hW hq hk hd hv x hc)
      (is_first (is_kb hk) _ is_zcol) (is_second (is_kb hk) _ is_zcol)) r e).trans ?_
    refine congrArg _ ?_
    show _ = x.dq r e + ∑ s, ∑ c, B.dz x s r c * only s B.k c e
    rw [Fin.sum_univ_two]

include hL hW hq hk hd hv hc in
theorem is_dk {o : Vec Ideal S256x128 .f32} {y : Fin 256 → Fin 128 → ℝ} (ho : Is (φ := .f32) o y) :
    Is (dkOf mL mW (subOf q d) k v c o) (fun r e => y r e + B.dk x r e) := by
  intro r e
  refine (is_add (a := shapeCast S256x128 o shapeCasts_S256x128_S256x128) (x := y) (fun r e => by pointwise []; exact ho r e)
    (is_below (is_dzA B hL hW hq hk hd hv x hc) (is_dzB B hL hW hq hk hd hv x hc)
      (is_first (is_kb hq) _ is_zcol) (is_second (is_kb hq) _ is_zcol)) r e).trans ?_
  refine congrArg _ ?_
  show _ = y r e + ∑ s, ∑ c, B.dz x s c r * only s B.q c e
  rw [Fin.sum_univ_two]

include hL hW hq hk hd hv hc in
theorem is_dv {o : Vec Ideal S256x128 .f32} {y : Fin 256 → Fin 128 → ℝ} (ho : Is (φ := .f32) o y) :
    Is (dvOf mL mW (subOf q d) k v c o) (fun r e => y r e + B.dv x r e) := by
  intro r e
  refine (is_add (a := shapeCast S256x128 o shapeCasts_S256x128_S256x128) (x := y) (fun r e => by pointwise []; exact ho r e)
    (is_below (is_w B 0 hL hW (is_first (is_kb hq) _ is_zcol) (is_kb hk) x hc.a0)
      (is_w B 1 hL hW (is_second (is_kb hq) _ is_zcol) (is_kb hk) x hc.a1)
      (is_first (is_vb hd) _ is_zcol) (is_second (is_vb hd) _ is_zcol)) r e).trans ?_
  refine congrArg _ ?_
  show _ = y r e + ∑ s, ∑ c, B.w x s c r * only s B.d c e
  rw [Fin.sum_univ_two]

end Both

/-! ## The state -/

/-- A state of real numbers. -/
structure StIs (y : St Ideal) (x : State) : Prop where
  car : CarIs y.car x.car
  dk : Is (φ := .f32) y.dk (x.kv true)
  dv : Is (φ := .f32) y.dv (x.kv false)

theorem ld_row {e : EltTy} (X : S8192x128.Idx → Elt Ideal e) (J : Fin 32) (r : Fin 256) (c : Fin 128) :
    View.ld X (rowR ![256 * J.val, 0] (blk_in J)) (ix2 r c) = X (ix2 (row J r) c) := by
  refine congrArg X ?_
  funext d; fin_cases d <;> exact Fin.ext (by simp [Rect.unit, LoadRect.idx, row, ix2])

theorem emb_row (J : Fin 32) (r : Fin 256) (c : Fin 128) : (rowR ![256 * J.val, 0] (blk_in J)).emb (ix2 r c) = ix2 (row J r) c := by
  funext d; fin_cases d <;> exact Fin.ext (by simp [Rect.emb, Rect.unit, LoadRect.idx, row, ix2])

theorem overlay_row (J : Fin 32) (X : Vec Ideal S8192x128 .f32) (w : Vec Ideal S256x128 .f32) (j : Fin 8192) (c : Fin 128) :
    (rowR ![256 * J.val, 0] (blk_in J)).overlay X w (ix2 j c) = if blk j = J then w (ix2 (pos j) c) else X (ix2 j c) := by
  split_ifs with h
  · conv_lhs => rw [← row_blk j, h, ← emb_row]
    exact Rect.overlay_emb _ _ _ _
  · refine Rect.overlay_of_not_mem _ _ _ fun hj => h ?_
    rw [← Rect.map_emb_univ, Finset.mem_map] at hj
    obtain ⟨y, -, hy⟩ := hj
    obtain ⟨r, c', rfl⟩ : ∃ (r : Fin 256) (c' : Fin 128), y = ix2 r c' := ⟨y 0, y 1, eq_ix2 y⟩
    rw [emb_row] at hy
    rw [← ((ix2_inj ..).1 hy).1, blk_row]

/-- A block of keys on a state of real numbers. -/
theorem is_step (P : Pair) (Q J : Fin 32) (pL pW : Fin 256 → Fin 256 → Bool) {mL mW : FVec Ideal S256x256 .f32 → FVec Ideal S256x256 .f32}
    (hL : Masks mL pL) (hW : Masks mW pW) {q : Vec Ideal S256x128 .bf16} {d : Vec Ideal S256x128 .f32}
    {K : Vec Ideal S8192x128 .bf16} {V : Vec Ideal S8192x128 .f32}
    (hq : Is (φ := .bf16) q fun r => P.q (row Q r)) (hd : Is (φ := .f32) d fun r => P.d (row Q r))
    (hK : Is (φ := .bf16) K P.k) (hV : Is (φ := .f32) V P.v) {y : St Ideal} {x : State} (h : StIs y x) :
    StIs (stepSt mL mW (subOf q d) K V J y) (P.step Q J pL pW x) where
  car := is_next (P.block Q J pL pW) hL hW hq (fun r c => (ld_row K J r c).trans (hK _ _)) hd (fun r c => (ld_row V J r c).trans (hV _ _)) x.car h.car
  dk j e := by
    have key := is_dk (P.block Q J pL pW) hL hW hq (fun r c => (ld_row K J r c).trans (hK _ _)) hd (fun r c => (ld_row V J r c).trans (hV _ _)) x.car h.car
      (o := View.ld y.dk (rowR ![256 * J.val, 0] (blk_in J))) (y := fun r e => x.kv true (row J r) e) (fun r e => (ld_row y.dk J r e).trans (h.dk _ _)) (pos j) e
    refine (overlay_row J _ _ j e).trans ?_
    show _ = ((x.kv true j e + if blk j = J then (P.block Q J pL pW).dk x.car (pos j) e else 0 : ℝ) : EReal)
    split_ifs with hb
    · refine key.trans ?_
      subst hb; beta_reduce; rw [row_blk]
    · rw [add_zero]; exact h.dk j e
  dv j e := by
    have key := is_dv (P.block Q J pL pW) hL hW hq (fun r c => (ld_row K J r c).trans (hK _ _)) hd (fun r c => (ld_row V J r c).trans (hV _ _)) x.car h.car
      (o := View.ld y.dv (rowR ![256 * J.val, 0] (blk_in J))) (y := fun r e => x.kv false (row J r) e) (fun r e => (ld_row y.dv J r e).trans (h.dv _ _)) (pos j) e
    refine (overlay_row J _ _ j e).trans ?_
    show _ = ((x.kv false j e + if blk j = J then (P.block Q J pL pW).dv x.car (pos j) e else 0 : ℝ) : EReal)
    split_ifs with hb
    · refine key.trans ?_
      subst hb; beta_reduce; rw [row_blk]
    · rw [add_zero]; exact h.dv j e

end Cert.Kernel2Ideal.Hand

end
-- ==== Proof.SbFrame.lean ====
/-
  The attention gradient's launch: what the arrays hold around its one region, what each grid point leaves in the
  staging buffers (the keys' and the values' gradients carried over the eight points of a head pair), and the run.
-/
module

public import proofs.«01_k».proof.Proof.SbBody
public import Idealize.ShloMosaic.Lib.Pipeline.FrameSuffix
public import Idealize.ShloMosaic.Lib.Pipeline.ValueKit
public import Idealize.ShloMosaic.Lib.StableHlo.Run
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Around the region -/

/-- The host lines before the region. -/
abbrev pre : List (List (HloOp τ sig (Elt F))) :=
  [hostOps0, hostOps0_1, hostOps0_2, hostOps0_3, hostOps0_4, hostOps0_5, hostOps0_6, hostOps0_7, hostOps0_8, hostOps0_9]

/-- The buffers as the region finds them, -/
abbrev V0 (c : Dev nD) : Valuation τ sig (Elt F) := StableHlo.after (List.flatten
  [hostOps0, hostOps0_1, hostOps0_2, hostOps0_3, hostOps0_4, hostOps0_5, hostOps0_6, hostOps0_7, hostOps0_8, hostOps0_9]) (fun b => m (c, b))
/-- at a reference. -/
abbrev V (c : Dev nD) (b : Ref sig .tc) : Buf (Elt F) ((c : Thread nD τ).loc b) := V0 m c (Proc.devRef .tc b)

theorem pre_fresh : (pre (F := F)).Forall fun ops => ops.Forall fun op => op.fresh = ∅ := by
  simp only [List.Forall]; repeat' constructor

theorem suf_fresh : (hostOps1 : List (HloOp τ sig (Elt F))).Forall fun op => op.fresh = ∅ := by
  simp only [List.Forall]; repeat' constructor

set_option maxHeartbeats 800000 in
/-- The host program is those lines, the region, and the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main pre [hostOps1]
    (by simp only [List.Forall]
        exact ⟨hostOps0_sub, hostOps0_1_sub, hostOps0_2_sub, hostOps0_3_sub, hostOps0_4_sub, hostOps0_5_sub, hostOps0_6_sub, hostOps0_7_sub, hostOps0_8_sub, hostOps0_9_sub⟩)
    pre_fresh main_chain

theorem suf_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  obtain rfl := List.mem_singleton.1 hops
  exact Pipeline.sub_ucRefs op ((List.forall_iff_forall_mem.mp hostOps1_sub) op hop)

theorem suf_fresh' : ∀ ops ∈ ([hostOps1] : List (List (HloOp τ sig (Elt F)))), ∀ op ∈ ops, op.fresh = ∅ := by
  intro ops hops op hop
  obtain rfl := List.mem_singleton.1 hops
  exact (List.forall_iff_forall_mem.mp suf_fresh) op hop

theorem suf_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.1 hops
  simp only [hostOps1, List.mem_cons, List.mem_nil_iff, or_false] at hop
  rcases hop with rfl | rfl | rfl
  all_goals intro w; fin_cases w <;> simp only [StableHlo.nullary_writes, StableHlo.unary_writes, StableHlo.binary_writes, Finset.mem_singleton] <;> exact StableHlo.devRef_ne_of_ne (by decide)

/-- An argument is written by no line before the region. -/
theorem V_same (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, hostOps0_6, hostOps0_7, hostOps0_8, hostOps0_9,
      List.flatten_cons, List.flatten_nil, List.append_nil, List.cons_append,
      List.nil_append, List.Forall, StableHlo.nullary_writes, StableHlo.unary_writes, StableHlo.binary_writes, StableHlo.ternary_writes, StableHlo.reshape_writes, Finset.mem_singleton]
    rcases hb with rfl | rfl | rfl | rfl
    all_goals
      repeat' apply And.intro
      all_goals exact StableHlo.devRef_ne_of_ne (by decide)))

/-- A buffer neither staged nor written after the region ends as the region finds it. -/
theorem suf_same (dats : (p : Fin _) → (c : Dev nD) → Dat τ (Elt F) Unit ℕ (UR sig nD τ) ℕ (cfgs (F := F) p) c) (c : Dev nD) (b : Ref sig .tc)
    (hb : main_cst_3 ≠ b ∧ main_v30 ≠ b ∧ main_v31 ≠ b) (hw : ∀ w, Pipeline.arrRef spec0 w ≠ b) :
    Pipeline.afterTail₀ (cfgs (F := F)) dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      exact ⟨StableHlo.devRef_ne_of_ne hb.1.symm, StableHlo.devRef_ne_of_ne hb.2.1.symm, StableHlo.devRef_ne_of_ne hb.2.2.symm⟩)),
    Pipeline.withArrays_of_ne _ c (V0 m c) _ b hw]

/-! ## What a point leaves -/

/-- A window's block at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  ((cfg0.win w).blk t).view.read (Elt F) (V m c (Pipeline.arrRef spec0 w))

/-- What point `t` reads. -/
def ins (c : Dev nD) (t : Fin (cfg0 (F := F)).N) : Ins F := ⟨iblk m c 0 t, iblk m c 1 t, iblk m c 2 t, iblk m c 3 t, iblk m c 4 t⟩

/-- The keys' and the values' gradients before point `t`. -/
def kvN (c : Dev nD) : ℕ → Vec F S8192x128 .f32 × Vec F S8192x128 .f32
  | 0 => (zeros, zeros)
  | t + 1 => if h : t < (cfg0 (F := F)).N then (w4 (ins m c ⟨t, h⟩) (grid0.coords ⟨t, h⟩) (kvN c t)).two else kvN c t

theorem kvN_succ (c : Dev nD) (t : Fin (cfg0 (F := F)).N) :
    kvN m c (t.val + 1) = (w4 (ins m c t) (grid0.coords t) (kvN m c t.val)).two := by
  rw [kvN, dif_pos t.isLt]

/-- The first point of a head pair starts from zeros, whatever was there. -/
theorem w4_first (a : Ins F) (i : grid0.Coords) (h : firstOf i = 1#1) (x y : Vec F S8192x128 .f32 × Vec F S8192x128 .f32) : w4 a i x = w4 a i y := by
  unfold w4 w3 w2 w1 h4 h3 h2 h1 start
  rw [if_pos h, if_pos h]

theorem dqPt_first (a : Ins F) (i : grid0.Coords) (h : firstOf i = 1#1) (x y : Vec F S8192x128 .f32 × Vec F S8192x128 .f32) (Z) : dqPt a i x Z = dqPt a i y Z := by
  unfold dqPt w4 w3 w2 w1 h4 h3 h2 h1 start
  rw [if_pos h, if_pos h]

/-- A row of sub-block `h`. -/
def rowAt (h : Fin 4) (r : S256x128.Idx) : S1024x128.Idx :=
  fun
  | ⟨0, _⟩ => ⟨256 * h.val + (r 0).val, by have h1 : (r 0).val < 256 := (r 0).isLt; have h2 := h.isLt; show _ < 1024; omega⟩
  | ⟨1, _⟩ => r 1

/-- Its row there, of a row. -/
def rowIn (j : S1024x128.Idx) : S256x128.Idx := fun
  | ⟨0, _⟩ => ⟨(j 0).val % 256, Nat.mod_lt _ (show 0 < 256 by decide)⟩
  | ⟨1, _⟩ => j 1

/-- Its sub-block. -/
def subIn (j : S1024x128.Idx) : Fin 4 := ⟨(j 0).val / 256, by have h1 : (j 0).val < 1024 := (j 0).isLt; omega⟩

theorem rowAt_in (j : S1024x128.Idx) : rowAt (subIn j) (rowIn j) = j := by
  funext d; fin_cases d
  · exact Fin.ext (Nat.div_add_mod (j 0).val 256)
  · rfl

theorem emb_rows (h : Fin 4) (inb : ∀ a, (![256 * h.val, 0] : Fin 2 → ℕ) a + S256x128.size a ≤ S1024x128.size a) (r : S256x128.Idx) : (Rect.unit (s := S1024x128) ![256 * h.val, 0] S256x128.size inb).emb r = rowAt h r := by
  funext d; fin_cases d <;> exact Fin.ext (by simp [Rect.emb, Rect.unit, LoadRect.idx, rowAt])

theorem putRows_eq (h : Fin 4) (Z : Vec F S1024x128 .f32) (w : Vec F S256x128 .f32)
    (inb : ∀ a, (![256 * h.val, 0] : Fin 2 → ℕ) a + S256x128.size a ≤ S1024x128.size a) :
    putRows h Z w = (Rect.unit (s := S1024x128) ![256 * h.val, 0] S256x128.size inb).overlay Z w := by
  fin_cases h <;> rfl

theorem inb_rows (h : Fin 4) : ∀ a, (![256 * h.val, 0] : Fin 2 → ℕ) a + S256x128.size a ≤ S1024x128.size a := by
  intro a; have := h.isLt
  fin_cases a
  · show 256 * h.val + 256 ≤ 1024; omega
  · show 0 + 128 ≤ 128; omega

theorem putRows_at (h : Fin 4) (Z : Vec F S1024x128 .f32) (w : Vec F S256x128 .f32) (j : S1024x128.Idx) :
    putRows h Z w j = if subIn j = h then w (rowIn j) else Z j := by
  rw [putRows_eq h Z w (inb_rows h)]
  by_cases e : subIn j = h
  · rw [if_pos e]
    conv_lhs => rw [← rowAt_in j, e, ← emb_rows h (inb_rows h)]
    exact Rect.overlay_emb (Rect.unit (s := S1024x128) ![256 * h.val, 0] S256x128.size (inb_rows h)) Z w _
  · rw [if_neg e]
    refine Rect.overlay_of_not_mem (Rect.unit (s := S1024x128) ![256 * h.val, 0] S256x128.size (inb_rows h)) Z w (fun hj => ?_)
    rw [← Rect.map_emb_univ, Finset.mem_map] at hj
    obtain ⟨r, -, hr⟩ := hj
    apply e
    rw [emb_rows] at hr
    subst hr
    have h1 : (r 0).val < 256 := (r 0).isLt
    exact Fin.ext (by show (256 * h.val + (r 0).val) / 256 = h.val; omega)

/-- Every row of the queries' gradient is written by its sub-block's walk. -/
theorem dqPt_at (a : Ins F) (i : grid0.Coords) (x : Vec F S8192x128 .f32 × Vec F S8192x128 .f32) (Z : Vec F S1024x128 .f32) (j : S1024x128.Idx) :
    dqPt a i x Z j = (match subIn j with | 0 => w1 a i x | 1 => w2 a i x | 2 => w3 a i x | 3 => w4 a i x).car.2.2.2.2 (rowIn j) := by
  unfold dqPt
  simp only [putRows_at]
  generalize subIn j = h
  fin_cases h <;> rfl

theorem dqPt_any (a : Ins F) (i : grid0.Coords) (x : Vec F S8192x128 .f32 × Vec F S8192x128 .f32) (Z Z' : Vec F S1024x128 .f32) : dqPt a i x Z = dqPt a i x Z' := by
  funext j; rw [dqPt_at, dqPt_at]

/-- The queries' gradient at a point. -/
def dqAt (c : Dev nD) (t : Fin (cfg0 (F := F)).N) : Vec F S1024x128 .f32 :=
  dqPt (ins m c t) (grid0.coords t) (kvN m c t.val) (broadcast S1024x128 (Scalar.ofBits .f32 0x00000000#32 : F .f32))

/-- The proof data: the inputs left in place, the outputs as above. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqAt m c t
    | ⟨6, _⟩ => (kvN m c (t.val + 1)).1
    | ⟨7, _⟩ => (kvN m c (t.val + 1)).2
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]; rfl
theorem after0_1 (c : Dev nD) (t : Fin cfg0.N) : (dats m 0 c).after 1 t = iblk m c 1 t := by dsimp only [dats]; rfl
theorem after0_2 (c : Dev nD) (t : Fin cfg0.N) : (dats m 0 c).after 2 t = iblk m c 2 t := by dsimp only [dats]; rfl
theorem after0_3 (c : Dev nD) (t : Fin cfg0.N) : (dats m 0 c).after 3 t = iblk m c 3 t := by dsimp only [dats]; rfl
theorem after0_4 (c : Dev nD) (t : Fin cfg0.N) : (dats m 0 c).after 4 t = iblk m c 4 t := by dsimp only [dats]; rfl
theorem after0_5 (c : Dev nD) (t : Fin cfg0.N) : (dats m 0 c).after 5 t = dqAt m c t := by dsimp only [dats]; rfl
theorem after0_6 (c : Dev nD) (t : Fin cfg0.N) : (dats m 0 c).after 6 t = (kvN m c (t.val + 1)).1 := by dsimp only [dats]; rfl
theorem after0_7 (c : Dev nD) (t : Fin cfg0.N) : (dats m 0 c).after 7 t = (kvN m c (t.val + 1)).2 := by dsimp only [dats]; rfl

/-- An input's buffer holds its block at every point: the queries', -/
theorem before0_0 (c : Dev nD) (t : Fin cfg0.N) (d) : (dats m 0 c).before 0 t d = iblk m c 0 t :=
  (dats m 0 c).before_in_eq_fetched 0 rfl (fun _ => rfl) (fun _ _ _ => rfl) (fun t => by rw [after0_0]; unfold Dat.blockOf iblk; rw [A_eq]; try rfl) t d |>.trans
    (by unfold Dat.fetched Dat.blockOf iblk; rw [A_eq]; try rfl)
/-- the keys', -/
theorem before0_1 (c : Dev nD) (t : Fin cfg0.N) (d) : (dats m 0 c).before 1 t d = iblk m c 1 t :=
  (dats m 0 c).before_in_eq_fetched 1 rfl (fun _ => rfl) (fun _ _ _ => rfl) (fun t => by rw [after0_1]; unfold Dat.blockOf iblk; rw [A_eq]; try rfl) t d |>.trans
    (by unfold Dat.fetched Dat.blockOf iblk; rw [A_eq]; try rfl)
/-- the values', -/
theorem before0_2 (c : Dev nD) (t : Fin cfg0.N) (d) : (dats m 0 c).before 2 t d = iblk m c 2 t :=
  (dats m 0 c).before_in_eq_fetched 2 rfl (fun _ => rfl) (fun _ _ _ => rfl) (fun t => by rw [after0_2]; unfold Dat.blockOf iblk; rw [A_eq]; try rfl) t d |>.trans
    (by unfold Dat.fetched Dat.blockOf iblk; rw [A_eq]; try rfl)
/-- the outputs' -/
theorem before0_3 (c : Dev nD) (t : Fin cfg0.N) (d) : (dats m 0 c).before 3 t d = iblk m c 3 t :=
  (dats m 0 c).before_in_eq_fetched 3 rfl (fun _ => rfl) (fun _ _ _ => rfl) (fun t => by rw [after0_3]; unfold Dat.blockOf iblk; rw [A_eq]; try rfl) t d |>.trans
    (by unfold Dat.fetched Dat.blockOf iblk; rw [A_eq]; try rfl)
/-- and the cotangent's. -/
theorem before0_4 (c : Dev nD) (t : Fin cfg0.N) (d) : (dats m 0 c).before 4 t d = iblk m c 4 t :=
  (dats m 0 c).before_in_eq_fetched 4 rfl (fun _ => rfl) (fun _ _ _ => rfl) (fun t => by rw [after0_4]; unfold Dat.blockOf iblk; rw [A_eq]; try rfl) t d |>.trans
    (by unfold Dat.fetched Dat.blockOf iblk; rw [A_eq]; try rfl)

/-! ## The body at a point -/

theorem first_iff (t : Fin (cfg0 (F := F)).N) : firstOf (grid0.coords t) = 1#1 ↔ t.val % 8 = 0 := by
  have h := Pipeline.Grid.coords_val (G := grid0) t 1 (S := 1) (B := 8) (by decide) rfl
  have e : ∀ a : Fin 8, Scalar.cmpi .ne (Scalar.extui (Scalar.cmpi .eq (BitVec.ofNat 32 a.val) 0#32) : BitVec 32) 0#32 = 1#1 ↔ a.val = 0 := by decide
  have h2 := e (grid0.coords t 1)
  exact (show firstOf (grid0.coords t) = 1#1 ↔ (grid0.coords t 1).val = 0 from h2).trans (by rw [h, Nat.div_one])

/-- An accumulator that is not cleared holds what the point before left. -/
theorem before_kv (c : Dev nD) (t : Fin (cfg0 (F := F)).N) (h : ¬ t.val % 8 = 0) (d6 d7) :
    ((dats m 0 c).before 6 t d6, (dats m 0 c).before 7 t d7) = kvN m c t.val := by
  have h0 : t.val ≠ 0 := fun h0 => h (by rw [h0])
  have hf : ∀ b : Bool, (b = true ↔ (t.val - 1) % 8 = 7) → b = false := fun b hb => by
    cases b
    · rfl
    · exact absurd (hb.1 rfl) (by omega)
  rw [(dats m 0 c).before_out_kept 6 rfl t h0 (hf _ (flush0_6 _)) (fun _ => rfl) (fun _ _ => rfl) d6,
    (dats m 0 c).before_out_kept 7 rfl t h0 (hf _ (flush0_7 _)) (fun _ => rfl) (fun _ _ => rfl) d7, after0_6, after0_7]
  show ((kvN m c (t.val - 1 + 1)).1, (kvN m c (t.val - 1 + 1)).2) = _
  rw [Nat.sub_add_cancel (Nat.one_le_iff_ne_zero.2 h0)]

/-- What the body is called with, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem bodyAt_eq (t : Fin (cfg0 (F := F)).N) : bodyAt0 (F := F) t = bodyProg (grid0.coords t) (st0_0 t) (st0_1 t) (st0_2 t) (st0_3 t) (st0_4 t) (st0_5 t) (st0_6 t) (st0_7 t)
    (hstage0_1 (((cfg0 (F := F)).slots t 1).cast nbuf0_1)) (hstage0_2 (((cfg0 (F := F)).slots t 2).cast nbuf0_2)) (hstage0_6 (((cfg0 (F := F)).slots t 6).cast nbuf0_6)) (hstage0_7 (((cfg0 (F := F)).slots t 7).cast nbuf0_7)) :=
  body_eq (grid0.coords t) (st0_0 t) (st0_1 t) (st0_2 t) (st0_3 t) (st0_4 t) (st0_5 t) (st0_6 t) (st0_7 t)
    (hstage0_1 (((cfg0 (F := F)).slots t 1).cast nbuf0_1)) (hstage0_2 (((cfg0 (F := F)).slots t 2).cast nbuf0_2)) (hstage0_6 (((cfg0 (F := F)).slots t 6).cast nbuf0_6)) (hstage0_7 (((cfg0 (F := F)).slots t 7).cast nbuf0_7))
    (hstage0_0 (((cfg0 (F := F)).slots t 0).cast nbuf0_0)) (hstage0_3 (((cfg0 (F := F)).slots t 3).cast nbuf0_3)) (hstage0_4 (((cfg0 (F := F)).slots t 4).cast nbuf0_4)) (hstage0_5 (((cfg0 (F := F)).slots t 5).cast nbuf0_5))

set_option maxHeartbeats 1000000 in
/-- The body at a point. -/
theorem sound_body (c : Dev nD) (t : Fin (cfg0 (F := F)).N) :
    bodyPre m c t ⊢ wp frame (wpE (defs₀ (F := F)) Variants.nat (c : Thread nD τ) none) Set.univ (bodyAt0 t) (fun _ => bodyPost m c t) := by
  rw [bodyAt_eq]
  unfold bodyPre bodyPost
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  have e : ∀ Z x, (x = kvN m c t.val ∨ firstOf (grid0.coords t) = 1#1) →
      dqPt (ins m c t) (grid0.coords t) x Z = dqAt m c t ∧ (w4 (ins m c t) (grid0.coords t) x).two = kvN m c (t.val + 1) := by
    intro Z x h
    rw [kvN_succ]; unfold dqAt
    rcases h with rfl | h
    · exact ⟨dqPt_any _ _ _ _ _, rfl⟩
    · exact ⟨(dqPt_first _ _ h _ _ _).trans (dqPt_any _ _ _ _ _), by rw [w4_first _ _ h x (kvN m c t.val)]⟩
  have hx : ((dats m 0 c).before 6 t d6, (dats m 0 c).before 7 t d7) = kvN m c t.val ∨ firstOf (grid0.coords t) = 1#1 := by
    by_cases h : t.val % 8 = 0
    · exact .inr ((first_iff t).2 h)
    · exact .inl (before_kv m c t h d6 d7)
  obtain ⟨Z, hZ⟩ : ∃ Z : Vec F S1024x128 .f32, (dats m 0 c).before 5 t d5 = Z := ⟨_, rfl⟩
  obtain ⟨x, h6, h7⟩ : ∃ x : Vec F S8192x128 .f32 × Vec F S8192x128 .f32, (dats m 0 c).before 6 t d6 = x.1 ∧ (dats m 0 c).before 7 t d7 = x.2 :=
    ⟨((dats m 0 c).before 6 t d6, (dats m 0 c).before 7 t d7), rfl, rfl⟩
  rw [h6, h7] at hx
  obtain ⟨e1, e2⟩ := e Z x hx
  rw [hZ, h6, h7]
  iapply (wp_body c _ _ _ _ _ _ _ _ _ _ _ _ (ins m c t) (grid0.coords t) Set.univ (fun _ => _) Z x)
  rw [e1, e2]
  unfold held8
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every fair execution ends, with the region's arrays and every other buffer as computed, and no semaphore raised. -/
theorem run : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.nat m ρ main
    (hbody := fun c => (body_obligation m c).loose) (hshare := fun c => (dats m 0 c).share_full fun _ => rfl)
    (howed := fun _ _ => rfl) (V₀ := V0 m) (opss := [hostOps1]) (hsub := suf_sub) (hfresh := suf_fresh') (hkeep := suf_keeps)
    (hmain := hmain m Variants.nat) (hA := A_eq m) (hΦ := fun _ _ => rfl)

set_option maxHeartbeats 800000 in
/-- The arguments end unchanged. -/
theorem args_same (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (show ∀ w, Pipeline.arrRef spec0 w ≠ main_arg0 by decide))).trans
      ((suf_same m (dats m) c main_arg0 (by decide) (by decide)).trans (V_same m c _ (.inl rfl))),
    ((h c).2 main_arg1 (Pipeline.mem_restRefs_of main_arg1 (by decide) (show ∀ w, Pipeline.arrRef spec0 w ≠ main_arg1 by decide))).trans
      ((suf_same m (dats m) c main_arg1 (by decide) (by decide)).trans (V_same m c _ (.inr (.inl rfl)))),
    ((h c).1 2).trans (((dats m 0 c).arrAt_in 2 rfl _).trans ((A_eq m c 2).trans (V_same m c main_arg2 (.inr (.inr (.inl rfl)))))),
    ((h c).1 4).trans (((dats m 0 c).arrAt_in 4 rfl _).trans ((A_eq m c 4).trans (V_same m c main_arg3 (.inr (.inr (.inr rfl))))))⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_same m r h.1 c, h.2⟩) (run m ρ)

end Cert.Kernel2Ideal.Hand
-- ==== Proof.SbLift.lean ====
/-
  The walk, the sub-blocks and the points of the attention gradient on real numbers: what the program holds is what the
  real recursion holds. Over the reals the walk's early exit never fires, its threshold being read as minus infinity.
-/
module

public import proofs.«01_k».proof.Proof.SbUp
public import proofs.«01_k».proof.Proof.SbFrame

@[expose] public section

noncomputable section

namespace Cert.Kernel2Ideal.Hand

open Cert.Kernel2Ideal Cert.Kernel2Ideal.Gen Cert.Sb
open Idealize.ShloMosaic Idealize.ShloMosaic.TcCoe

/-- The largest of finite numbers is above minus infinity. -/
theorem top_gt {a b : FVec Ideal S256x1 .f32} {x y : Fin 256 → ℝ} (ha : IsCol a x) (hb : IsCol b y) : (⊥ : EReal) < topOf a b := by
  unfold topOf
  pointwise []
  refine (Finset.lt_fold_max _).2 (.inr ⟨⟨0, 0⟩, Finset.mem_univ _, ?_⟩)
  exact lt_max_of_lt_left ((ha 0).symm ▸ EReal.bot_lt_coe _)

/-- The walk goes on as long as there are blocks. -/
theorem test_iff (i : grid0.Coords) (h : Fin 4) (n : ℕ) (hn : n < 40) {a b : FVec Ideal S256x1 .f32} {x y : Fin 256 → ℝ} (ha : IsCol a x) (hb : IsCol b y) :
    testOf i (BitVec.ofNat 32 h.val) (BitVec.ofNat 32 n) a b = 1#1 ↔ n ≤ qNum i h := by
  constructor
  · intro ht
    by_contra hq
    exact test_false i h n hn hq a b ht
  · intro hq
    have h0 := (word_le i h n hn).2 hq
    have h1 : Scalar.cmpf (F := Ideal) (φ := .f32) .ogt (topOf a b) (Named.named κ "exit" 0xC2DC0000#32) = 1#1 := by
      show BitVec.ofBool (decide ((⊥ : EReal) < topOf a b)) = 1#1
      rw [decide_eq_true (top_gt ha hb)]; rfl
    unfold testOf
    rw [h0, h1]; rfl

theorem kNum_eq {i : grid0.Coords} {h : Fin 4} {Q : Fin 32} (hQ : Q.val = qNum i h) (n : ℕ) : kNum i h n = back Q n :=
  Fin.ext (by show qNum i h - n = Q.val - n; rw [hQ])

section Walk

variable (P : Pair) (Q : Fin 32) {i : grid0.Coords} {h : Fin 4} (hQ : Q.val = qNum i h)
  {q : Vec Ideal S256x128 .bf16} {d : Vec Ideal S256x128 .f32} {K : Vec Ideal S8192x128 .bf16} {V : Vec Ideal S8192x128 .f32}
  (hq : Is (φ := .bf16) q fun r => P.q (row Q r)) (hd : Is (φ := .f32) d fun r => P.d (row Q r))
  (hK : Is (φ := .bf16) K P.k) (hV : Is (φ := .f32) V P.v)

include hQ hq hd hK hV in
theorem is_walk (k : ℕ) : ∀ (n : ℕ) (y : St Ideal) (x : State), n + k ≤ 40 → StIs y x →
    StIs (walkF (subOf q d) K V i h k n y).2 (P.walk Q k n x) := by
  induction k with
  | zero => intro n y x _ hy; exact hy
  | succ k ih =>
    intro n y x hn hy
    have ht := test_iff i h n (by omega) hy.car.a0 hy.car.a1
    unfold walkF Pair.walk
    by_cases hle : n ≤ qNum i h
    · rw [if_pos (ht.2 hle), if_pos (hQ ▸ hle)]
      rw [kNum_eq hQ n]
      exact ih (n + 1) _ _ (by omega) (is_step P Q (back Q n) every every masks_every masks_every hq hd hK hV hy)
    · rw [if_neg (fun e => hle (ht.1 e)), if_neg (hQ ▸ hle)]
      exact hy

end Walk

/-- The carry a sub-block starts with. -/
theorem is_car0 (P : Pair) (Q : Fin 32) {o d : Vec Ideal S256x128 .f32}
    (ho : Is (φ := .f32) o fun r => P.out (row Q r)) (hd : Is (φ := .f32) d fun r => P.d (row Q r)) : CarIs (car0 d o) (P.car0 Q) := by
  have hp : Is (φ := .f32) (mulf (extf .f32 (vbOf d) bitsLt_bf16_f32) (shapeCast S256x128 o shapeCasts_S256x128_S256x128))
      (fun r e => P.d (row Q r) e * P.out (row Q r) e) := by
    intro r e
    pointwise []
    rw [hd, ho, EReal.coe_mul]
  have hz : Is (φ := .f32) (broadcast S256x128 (Scalar.ofBits .f32 0x00000000#32 : Ideal .f32)) (fun _ _ => 0) := by
    intro r e
    pointwise []
    simp
  refine ⟨fun r => ?_, fun r => ?_, is_rowSum128 (is_first hp _ hz), is_rowSum128 (is_second hp _ hz), hz⟩
  all_goals
    unfold car0
    pointwise []
    simp [Pair.car0]

/-! ## A point -/

/-- A row of a point's queries. -/
def big (b : Fin 8) (r : Fin 1024) : Fin 8192 := ⟨1024 * b.val + r.val, by have := b.isLt; have := r.isLt; omega⟩

/-- What a point reads, in real numbers. -/
structure InsIs (a : Ins Ideal) (P : Pair) (b : Fin 8) : Prop where
  q : Is (φ := .bf16) a.q fun r => P.q (big b r)
  k : Is (φ := .bf16) a.k P.k
  v : Is (φ := .f32) a.v P.v
  o : Is (φ := .f32) a.o fun r => P.out (big b r)
  d : Is (φ := .f32) a.d fun r => P.d (big b r)

/-- A row of a sub-block, in its point. -/
def inPt (h : Fin 4) (r : Fin 256) : Fin 1024 := ⟨256 * h.val + r.val, by have := h.isLt; have := r.isLt; omega⟩

theorem big_in (b : Fin 8) (h : Fin 4) (r : Fin 256) : big b (inPt h r) = row (sub b h) r :=
  Fin.ext (by show 1024 * b.val + (256 * h.val + r.val) = 256 * (4 * b.val + h.val) + r.val; omega)

theorem rowAt_ix (h : Fin 4) (r : Fin 256) (e : Fin 128) : rowAt h (ix2 r e) = ix2 (inPt h r) e := by
  funext d; fin_cases d <;> rfl

theorem rowsOf_at {e : EltTy} (h : Fin 4) (X : S1024x128.Idx → Elt Ideal e) (r : Fin 256) (c : Fin 128) :
    rowsOf h X (ix2 r c) = X (ix2 (inPt h r) c) := by
  refine Eq.trans ?_ (congrArg X (rowAt_ix h r c))
  fin_cases h
  · exact congrArg X (emb_rows 0 (inb_rows 0) _)
  · exact congrArg X (emb_rows 1 (inb_rows 1) _)
  · exact congrArg X (emb_rows 2 (inb_rows 2) _)
  · exact congrArg X (emb_rows 3 (inb_rows 3) _)

section Rows

variable {a : Ins Ideal} {P : Pair} {b : Fin 8} (ha : InsIs a P b) (h : Fin 4)

include ha

theorem InsIs.qs : Is (φ := .bf16) (rowsOf h a.q) fun r => P.q (row (sub b h) r) := fun r e => by rw [rowsOf_at, ha.q]; beta_reduce; rw [big_in]
theorem InsIs.os : Is (φ := .f32) (rowsOf h a.o) fun r => P.out (row (sub b h) r) := fun r e => by rw [rowsOf_at, ha.o]; beta_reduce; rw [big_in]
theorem InsIs.ds : Is (φ := .f32) (rowsOf h a.d) fun r => P.d (row (sub b h) r) := fun r e => by rw [rowsOf_at, ha.d]; beta_reduce; rw [big_in]

variable {i : grid0.Coords} (hi : (i 1).val = b.val)

include hi

omit ha in
theorem num_eq : (sub b h).val = qNum i h := by show 4 * b.val + h.val = 4 * (i 1).val + h.val; rw [hi]

/-- A pair of gradients of real numbers. -/
def Two (x : Vec Ideal S8192x128 .f32 × Vec Ideal S8192x128 .f32) (kv : KV) : Prop := Is (φ := .f32) x.1 (kv true) ∧ Is (φ := .f32) x.2 (kv false)

omit ha hi in
theorem StIs.two {y : St Ideal} {x : State} (hy : StIs y x) : Two y.two x.kv := ⟨hy.dk, hy.dv⟩

theorem is_head {x : Vec Ideal S8192x128 .f32 × Vec Ideal S8192x128 .f32} {kv : KV} (hx : Two x kv) : StIs (headSt a i h x) (P.head (sub b h) kv) := by
  unfold headSt Pair.head Ins.sub
  rw [kNum_eq (num_eq h hi) 0, kNum_eq (num_eq h hi) 1]
  exact is_step P _ _ _ _ masks_every (masks_prev i h _ (num_eq h hi)) (ha.qs h) (ha.ds h) ha.k ha.v
    (is_step P _ _ _ _ masks_diag masks_diag (ha.qs h) (ha.ds h) ha.k ha.v ⟨is_car0 P _ (ha.os h) (ha.ds h), hx.1, hx.2⟩)

theorem is_walkSt {c : Car Ideal} {y : Carry} (hc : CarIs c y) {x : Vec Ideal S8192x128 .f32 × Vec Ideal S8192x128 .f32} {kv : KV} (hx : Two x kv) :
    StIs (walkSt a i h c x) (P.walk (sub b h) 32 2 ⟨y, kv⟩) :=
  is_walk P _ (num_eq h hi) (ha.qs h) (ha.ds h) ha.k ha.v 32 2 _ _ (by decide) ⟨hc, hx.1, hx.2⟩

end Rows

section Point

variable {a : Ins Ideal} {P : Pair} {b : Fin 8} (ha : InsIs a P b) {i : grid0.Coords} (hi : (i 1).val = b.val)
  {x : Vec Ideal S8192x128 .f32 × Vec Ideal S8192x128 .f32} {kv : KV} (hx : Two (start i x) kv)

include ha hi hx

theorem is_h1 : StIs (h1 a i x) (P.h1 b kv) := is_head ha 0 hi hx
theorem is_h2 : StIs (h2 a i x) (P.h2 b kv) := is_head ha 1 hi (is_h1 ha hi hx).two
theorem is_h3 : StIs (h3 a i x) (P.h3 b kv) := is_head ha 2 hi (is_h2 ha hi hx).two
theorem is_h4 : StIs (h4 a i x) (P.h4 b kv) := is_head ha 3 hi (is_h3 ha hi hx).two
theorem is_w1 : StIs (w1 a i x) (P.w1 b kv) := is_walkSt ha 0 hi (is_h1 ha hi hx).car (is_h4 ha hi hx).two
theorem is_w2 : StIs (w2 a i x) (P.w2 b kv) := is_walkSt ha 1 hi (is_h2 ha hi hx).car (is_w1 ha hi hx).two
theorem is_w3 : StIs (w3 a i x) (P.w3 b kv) := is_walkSt ha 2 hi (is_h3 ha hi hx).car (is_w2 ha hi hx).two
theorem is_w4 : StIs (w4 a i x) (P.w4 b kv) := is_walkSt ha 3 hi (is_h4 ha hi hx).car (is_w3 ha hi hx).two

/-- The queries' gradient of a point. -/
theorem dqPt_real (Z : Vec Ideal S1024x128 .f32) (j : Fin 1024) (e : Fin 128) : dqPt a i x Z (ix2 j e) = ((P.dq (big b j) e : ℝ) : EReal) := by
  rw [dqPt_at]
  obtain ⟨h, r, rfl⟩ : ∃ (h : Fin 4) (r : Fin 256), j = inPt h r :=
    ⟨⟨j.val / 256, by omega⟩, ⟨j.val % 256, by omega⟩, Fin.ext (Nat.div_add_mod j.val 256).symm⟩
  have hs : subIn (ix2 (inPt h r) e) = h := Fin.ext (by show (256 * h.val + r.val) / 256 = h.val; have := r.isLt; omega)
  have hr : rowIn (ix2 (inPt h r) e) = ix2 r e := by
    funext d; fin_cases d
    · exact Fin.ext (by show (256 * h.val + r.val) % 256 = r.val; have := r.isLt; omega)
    · rfl
  rw [hs, hr, big_in]
  fin_cases h
  · exact ((is_w1 ha hi hx).car.dq r e).trans (congrArg _ (whole_dq P (sub b 0) _ _ r e))
  · exact ((is_w2 ha hi hx).car.dq r e).trans (congrArg _ (whole_dq P (sub b 1) _ _ r e))
  · exact ((is_w3 ha hi hx).car.dq r e).trans (congrArg _ (whole_dq P (sub b 2) _ _ r e))
  · exact ((is_w4 ha hi hx).car.dq r e).trans (congrArg _ (whole_dq P (sub b 3) _ _ r e))

end Point

/-! ## The points of a pair of heads -/

theorem is_zeros : Is (φ := .f32) (zeros (F := Ideal)) (fun _ _ => 0) := by
  intro r e
  unfold zeros
  pointwise []
  simp

/-- Point `b` of head pair `p`. -/
def pt (p : Fin 4) (b : Fin 8) : Fin (cfg0 (F := Ideal)).N := ⟨8 * p.val + b.val, by
  have h1 := p.isLt; have h2 := b.isLt; show _ < 32; omega⟩

section Run

variable (m : (ℓ : Loc nD τ sig) → Buf (Elt Ideal) ℓ) (c : Dev nD) (P : Fin 4 → Pair)
  (ha : ∀ p b, InsIs (ins m c (pt p b)) (P p) b)

theorem coord_pt (p : Fin 4) (b : Fin 8) : (grid0.coords (pt p b) 1).val = b.val := by
  have h := Pipeline.Grid.coords_val (G := grid0) (pt p b) 1 (S := 1) (B := 8) (by decide) rfl
  rw [h]; show (8 * p.val + b.val) / 1 % 8 = b.val
  have := b.isLt; omega

include ha

/-- Before a point both gradients are those of the real recursion; the pair's first point clears them. -/
theorem is_kvN (p : Fin 4) : ∀ b : ℕ, (hb : b < 8) → Two (start (grid0.coords (pt p ⟨b, hb⟩)) (kvN m c (pt p ⟨b, hb⟩).val)) ((P p).kvN b) := by
  intro b
  induction b with
  | zero =>
    intro hb
    unfold start
    rw [if_pos ((first_iff _).2 (by show (8 * p.val + 0) % 8 = 0; omega))]
    exact ⟨is_zeros, is_zeros⟩
  | succ b ih =>
    intro hb
    unfold start
    rw [if_neg (fun h => by have := (first_iff _).1 h; have h2 : (8 * p.val + (b + 1)) % 8 = 0 := this; omega)]
    have e : (pt p ⟨b + 1, hb⟩).val = (pt p ⟨b, by omega⟩).val + 1 := rfl
    rw [e, kvN_succ]
    unfold Pair.kvN
    rw [dif_pos (show b < 8 by omega)]
    exact (is_w4 (ha p ⟨b, by omega⟩) (coord_pt p _) (ih (by omega))).two

theorem dqAt_real (p : Fin 4) (b : Fin 8) (j : Fin 1024) (e : Fin 128) : dqAt m c (pt p b) (ix2 j e) = (((P p).dq (big b j) e : ℝ) : EReal) :=
  dqPt_real (ha p b) (coord_pt p b) (is_kvN m c P ha p b.val b.isLt) _ j e

/-- After a pair's last point both gradients are whole. -/
theorem kv_real (p : Fin 4) : Is (φ := .f32) (kvN m c ((pt p 7).val + 1)).1 (P p).dk ∧ Is (φ := .f32) (kvN m c ((pt p 7).val + 1)).2 (P p).dv := by
  rw [kvN_succ]
  have h := (is_w4 (ha p 7) (coord_pt p 7) (is_kvN m c P ha p 7 (by decide))).two
  exact ⟨fun j e => (h.1 j e).trans (congrArg _ (kvN_dk (P p) j e)), fun j e => (h.2 j e).trans (congrArg _ (kvN_dv (P p) j e))⟩

end Run

end Cert.Kernel2Ideal.Hand

end
-- ==== Proof.Window.lean ====
/-
  A running sum over the last of four axes, forwards and backwards, as the host prints it: a window as long as the axis.
-/
module

public import Idealize.ShloMosaic.Lib.Pointwise
public import Idealize.ShloMosaic.Lib.Pipeline.Value
public import Idealize.ShloMosaic.PureOps.Ideal.Laws

@[expose] public section

noncomputable section

namespace Cert.Proof.Window

open Idealize.ShloMosaic

theorem foldl_sum {n : ℕ} (f : Fin n → EReal) : (List.finRange n).foldl (fun r k => r + f k) 0 = ∑ k, f k := by
  have h : ∀ (l : List (Fin n)) (a : EReal), l.foldl (fun r k => r + f k) a = a + (l.map f).sum := by
    intro l
    induction l with
    | nil => intro a; simp
    | cons k l ih => intro a; rw [List.foldl_cons, ih, List.map_cons, List.sum_cons, add_assoc]
  rw [h, zero_add, Fin.sum_univ_def]

/-- The places of a window along the last axis. -/
def places (N : ℕ) : (⟨4, ![1, 1, 1, N]⟩ : Shape).Idx ≃ Fin N where
  toFun p := p 3
  invFun k := ix4 0 0 0 k
  left_inv p := by
    funext d
    match d with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

theorem shift_back {N : ℕ} (j : Fin N) (x : Fin N → EReal) :
    (∑ k : Fin N, if h : j.val + k.val < N then x ⟨j.val + k.val, h⟩ else 0) = ∑ j', if j ≤ j' then x j' else 0 := by
  have hN : 0 < N := lt_of_le_of_lt (Nat.zero_le _) j.isLt
  rw [← Finset.sum_filter, ← Finset.sum_filter_add_sum_filter_not Finset.univ (fun k : Fin N => j.val + k.val < N)]
  rw [Finset.sum_eq_zero (s := Finset.univ.filter fun k : Fin N => ¬ j.val + k.val < N) fun k hk => dif_neg (Finset.mem_filter.1 hk).2, add_zero]
  refine Finset.sum_bij' (fun k _ => ⟨(j.val + k.val) % N, Nat.mod_lt _ hN⟩) (fun j' _ => ⟨j'.val - j.val, lt_of_le_of_lt (Nat.sub_le _ _) j'.isLt⟩) ?_ ?_ ?_ ?_ ?_
  · intro k hk
    have := (Finset.mem_filter.1 hk).2
    refine Finset.mem_filter.2 ⟨Finset.mem_univ _, ?_⟩
    rw [Fin.le_def]; show j.val ≤ (j.val + k.val) % N
    rw [Nat.mod_eq_of_lt this]; omega
  · intro j' hj
    have := Fin.le_def.1 (Finset.mem_filter.1 hj).2
    have := j'.isLt
    refine Finset.mem_filter.2 ⟨Finset.mem_univ _, ?_⟩
    show j.val + (j'.val - j.val) < N; omega
  · intro k hk
    have := (Finset.mem_filter.1 hk).2
    refine Fin.ext ?_
    show (j.val + k.val) % N - j.val = k.val
    rw [Nat.mod_eq_of_lt this]; omega
  · intro j' hj
    have := Fin.le_def.1 (Finset.mem_filter.1 hj).2
    have := j'.isLt
    refine Fin.ext ?_
    show (j.val + (j'.val - j.val)) % N = j'.val
    rw [Nat.mod_eq_of_lt (by omega)]; omega
  · intro k hk
    have := (Finset.mem_filter.1 hk).2
    rw [dif_pos this]
    exact congrArg x (Fin.ext (Nat.mod_eq_of_lt this).symm)

theorem shift_on {N M : ℕ} (hM : M + 1 = N) (j : Fin N) (x : Fin N → EReal) :
    (∑ k : Fin N, if h : M ≤ j.val + k.val ∧ j.val + k.val - M < N then x ⟨j.val + k.val - M, h.2⟩ else 0) = ∑ j', if j' ≤ j then x j' else 0 := by
  have hN : 0 < N := by omega
  rw [← Finset.sum_filter, ← Finset.sum_filter_add_sum_filter_not Finset.univ (fun k : Fin N => M ≤ j.val + k.val ∧ j.val + k.val - M < N)]
  rw [Finset.sum_eq_zero (s := Finset.univ.filter fun k : Fin N => ¬ (M ≤ j.val + k.val ∧ j.val + k.val - M < N)) fun k hk => dif_neg (Finset.mem_filter.1 hk).2, add_zero]
  refine Finset.sum_bij' (fun k _ => ⟨(j.val + k.val - M) % N, Nat.mod_lt _ hN⟩) (fun j' _ => ⟨(j'.val + M - j.val) % N, Nat.mod_lt _ hN⟩) ?_ ?_ ?_ ?_ ?_
  · intro k hk
    have h := (Finset.mem_filter.1 hk).2
    have := k.isLt
    refine Finset.mem_filter.2 ⟨Finset.mem_univ _, ?_⟩
    rw [Fin.le_def]; show (j.val + k.val - M) % N ≤ j.val
    rw [Nat.mod_eq_of_lt h.2]; omega
  · intro j' hj
    have h := Fin.le_def.1 (Finset.mem_filter.1 hj).2
    have := j.isLt
    refine Finset.mem_filter.2 ⟨Finset.mem_univ _, ?_⟩
    show M ≤ j.val + (j'.val + M - j.val) % N ∧ j.val + (j'.val + M - j.val) % N - M < N
    rw [Nat.mod_eq_of_lt (by omega)]; omega
  · intro k hk
    have h := (Finset.mem_filter.1 hk).2
    have := k.isLt
    refine Fin.ext ?_
    show ((j.val + k.val - M) % N + M - j.val) % N = k.val
    rw [Nat.mod_eq_of_lt h.2, Nat.mod_eq_of_lt (by omega)]; omega
  · intro j' hj
    have h := Fin.le_def.1 (Finset.mem_filter.1 hj).2
    have := j.isLt
    have := j'.isLt
    refine Fin.ext ?_
    show (j.val + (j'.val + M - j.val) % N - M) % N = j'.val
    rw [Nat.mod_eq_of_lt (show j'.val + M - j.val < N by omega), Nat.mod_eq_of_lt (by omega)]; omega
  · intro k hk
    have h := (Finset.mem_filter.1 hk).2
    rw [dif_pos h]
    exact congrArg x (Fin.ext (Nat.mod_eq_of_lt h.2).symm)

section Sums

variable {A B C N M : ℕ} {u : Shape}

/-- The sum from the element on. -/
theorem sum_back (x : FVec Ideal (⟨4, ![A, B, C, N]⟩ : Shape) .f32) (init : u.Idx → Ideal .f32)
    (h : (⟨4, ![A, B, C, N]⟩ : Shape).ReduceWindows ![1, 1, 1, N] ![1, 1, 1, 1] ![0, 0, 0, 0] ![0, 0, 0, M] ⟨4, ![A, B, C, N]⟩) (hu : 0 < u.numel)
    (hi : init (Shape.Idx.first hu) = (0 : EReal)) (a : Fin A) (b : Fin B) (c : Fin C) (j : Fin N) :
    Host.reduceWindowAdd (F := Ideal) ![1, 1, 1, N] ![1, 1, 1, 1] ![0, 0, 0, 0] ![0, 0, 0, M] x init h hu (ix4 a b c j)
      = ∑ j', if j ≤ j' then (x (ix4 a b c j') : EReal) else 0 := by
  unfold Host.reduceWindowAdd
  rw [Ideal.hostReduceWindowAdd_def, hi]
  unfold Ideal.hostReduceWindowAdd Host.reduceWindow
  refine (foldl_sum _).trans ?_
  rw [← shift_back j fun j' => x (ix4 a b c j'), ← Equiv.sum_comp ((⟨4, ![1, 1, 1, N]⟩ : Shape).rowMajor.symm.trans (places N))]
  refine Finset.sum_congr rfl fun n _ => ?_
  rw [Equiv.trans_apply]
  let p := (⟨4, ![1, 1, 1, N]⟩ : Shape).rowMajor.symm n
  let k : Fin N := places N p
  have h0 : (p 0).val = 0 := Nat.lt_one_iff.1 (p 0).isLt
  have h1 : (p 1).val = 0 := Nat.lt_one_iff.1 (p 1).isLt
  have h2 : (p 2).val = 0 := Nat.lt_one_iff.1 (p 2).isLt
  have hiff : (∀ d, (![0, 0, 0, 0] : Fin 4 → ℕ) d ≤ (ix4 a b c j d).val * (![1, 1, 1, 1] : Fin 4 → ℕ) d + (p d).val
      ∧ (ix4 a b c j d).val * (![1, 1, 1, 1] : Fin 4 → ℕ) d + (p d).val - (![0, 0, 0, 0] : Fin 4 → ℕ) d < (⟨4, ![A, B, C, N]⟩ : Shape).size d)
      ↔ j.val + k.val < N := by
    constructor
    · intro q
      have q3 := (q 3).2
      have q4 : j.val * 1 + k.val - 0 < N := q3
      omega
    · intro q d
      refine ⟨?_, ?_⟩
      · fin_cases d <;> exact Nat.zero_le _
      · fin_cases d
        · show a.val * 1 + (p 0).val - 0 < A; have := a.isLt; omega
        · show b.val * 1 + (p 1).val - 0 < B; have := b.isLt; omega
        · show c.val * 1 + (p 2).val - 0 < C; have := c.isLt; omega
        · show j.val * 1 + k.val - 0 < N; omega
  by_cases q : j.val + k.val < N
  · rw [dif_pos q]
    refine (dif_pos (hiff.2 q)).trans (congrArg x ?_)
    funext d
    fin_cases d <;> refine Fin.ext ?_
    · show a.val * 1 + (p 0).val - 0 = a.val; omega
    · show b.val * 1 + (p 1).val - 0 = b.val; omega
    · show c.val * 1 + (p 2).val - 0 = c.val; omega
    · show j.val * 1 + k.val - 0 = j.val + k.val; omega
  · rw [dif_neg q]
    exact dif_neg fun w => q (hiff.1 w)

/-- The sum up to the element. -/
theorem sum_on (hM : M + 1 = N) (x : FVec Ideal (⟨4, ![A, B, C, N]⟩ : Shape) .f32) (init : u.Idx → Ideal .f32)
    (h : (⟨4, ![A, B, C, N]⟩ : Shape).ReduceWindows ![1, 1, 1, N] ![1, 1, 1, 1] ![0, 0, 0, M] ![0, 0, 0, 0] ⟨4, ![A, B, C, N]⟩) (hu : 0 < u.numel)
    (hi : init (Shape.Idx.first hu) = (0 : EReal)) (a : Fin A) (b : Fin B) (c : Fin C) (j : Fin N) :
    Host.reduceWindowAdd (F := Ideal) ![1, 1, 1, N] ![1, 1, 1, 1] ![0, 0, 0, M] ![0, 0, 0, 0] x init h hu (ix4 a b c j)
      = ∑ j', if j' ≤ j then (x (ix4 a b c j') : EReal) else 0 := by
  unfold Host.reduceWindowAdd
  rw [Ideal.hostReduceWindowAdd_def, hi]
  unfold Ideal.hostReduceWindowAdd Host.reduceWindow
  refine (foldl_sum _).trans ?_
  rw [← shift_on hM j fun j' => x (ix4 a b c j'), ← Equiv.sum_comp ((⟨4, ![1, 1, 1, N]⟩ : Shape).rowMajor.symm.trans (places N))]
  refine Finset.sum_congr rfl fun n _ => ?_
  rw [Equiv.trans_apply]
  let p := (⟨4, ![1, 1, 1, N]⟩ : Shape).rowMajor.symm n
  let k : Fin N := places N p
  have h0 : (p 0).val = 0 := Nat.lt_one_iff.1 (p 0).isLt
  have h1 : (p 1).val = 0 := Nat.lt_one_iff.1 (p 1).isLt
  have h2 : (p 2).val = 0 := Nat.lt_one_iff.1 (p 2).isLt
  have hiff : (∀ d, (![0, 0, 0, M] : Fin 4 → ℕ) d ≤ (ix4 a b c j d).val * (![1, 1, 1, 1] : Fin 4 → ℕ) d + (p d).val
      ∧ (ix4 a b c j d).val * (![1, 1, 1, 1] : Fin 4 → ℕ) d + (p d).val - (![0, 0, 0, M] : Fin 4 → ℕ) d < (⟨4, ![A, B, C, N]⟩ : Shape).size d)
      ↔ M ≤ j.val + k.val ∧ j.val + k.val - M < N := by
    constructor
    · intro q
      have q4 : M ≤ j.val * 1 + k.val ∧ j.val * 1 + k.val - M < N := q 3
      omega
    · intro q d
      fin_cases d
      · show 0 ≤ a.val * 1 + (p 0).val ∧ a.val * 1 + (p 0).val - 0 < A; have := a.isLt; omega
      · show 0 ≤ b.val * 1 + (p 1).val ∧ b.val * 1 + (p 1).val - 0 < B; have := b.isLt; omega
      · show 0 ≤ c.val * 1 + (p 2).val ∧ c.val * 1 + (p 2).val - 0 < C; have := c.isLt; omega
      · show M ≤ j.val * 1 + k.val ∧ j.val * 1 + k.val - M < N; omega
  by_cases q : M ≤ j.val + k.val ∧ j.val + k.val - M < N
  · rw [dif_pos q]
    refine (dif_pos (hiff.2 q)).trans (congrArg x ?_)
    funext d
    fin_cases d <;> refine Fin.ext ?_
    · show a.val * 1 + (p 0).val - 0 = a.val; omega
    · show b.val * 1 + (p 1).val - 0 = b.val; omega
    · show c.val * 1 + (p 2).val - 0 = c.val; omega
    · show j.val * 1 + k.val - M = j.val + k.val - M; omega
  · rw [dif_neg q]
    exact dif_neg fun w => q (hiff.1 w)

end Sums

end Cert.Proof.Window

end
-- ==== Proof.SbRef.lean ====
/-
  The reference's attention gradient in real numbers: at finite arguments each of its lines is, by pair of heads, what
  the real attention gradient says.
-/
module

public import proofs.«01_k».proof.Proof.Gen.Reference2Ideal.Read
public import proofs.«01_k».proof.Proof.SbUp
public import proofs.«01_k».proof.Proof.Window

@[expose] public section

set_option maxRecDepth 16384

noncomputable section

namespace Cert.Reference2Ideal.Hand

open Cert.Reference2Ideal Cert.Reference2Ideal.Gen Cert.Reference2Ideal.Read Cert.Sb
open Idealize.ShloMosaic Idealize.ShloMosaic.TcCoe
open Cert.Kernel2Ideal.Hand (coe_sum coe_if absf_coe sel word_lt)

/-- Column `e` of pair `p`. -/
def cc (p : Fin 4) (e : Fin 128) : Fin 512 := ⟨128 * p.val + e.val, by have := p.isLt; have := e.isLt; omega⟩

/-- Head `s` of pair `p`. -/
def hd (p : Fin 4) (s : Fin 2) : Fin 8 := ⟨2 * p.val + s.val, by have := p.isLt; have := s.isLt; omega⟩

/-- Column `e` of head `h`. -/
def hc (h : Fin 8) (e : Fin 64) : Fin 512 := ⟨h.val * 64 + e.val, by have := h.isLt; have := e.isLt; omega⟩

/-- The head of a column of a pair. -/
def half (e : Fin 128) : Fin 2 := ⟨e.val / 64, by have := e.isLt; omega⟩

theorem lane_half (e : Fin 128) (s : Fin 2) : lane s e ↔ s = half e := by
  show e.val / 64 = s.val ↔ _
  rw [Fin.ext_iff]; exact eq_comm

/-- The sum over a head's columns, in the pair. -/
theorem sum_lane (p : Fin 4) (s : Fin 2) (f : Fin 512 → ℝ) : (∑ e, if lane s e then f (cc p e) else 0) = ∑ e, f (hc (hd p s) e) := by
  rw [← Finset.sum_filter]
  refine Finset.sum_bij' (fun e _ => ⟨e.val % 64, Nat.mod_lt _ (by decide)⟩) (fun e _ => ⟨64 * s.val + e.val, by have := s.isLt; have := e.isLt; omega⟩)
    (fun _ _ => Finset.mem_univ _) ?_ ?_ ?_ ?_
  · intro e _
    refine Finset.mem_filter.2 ⟨Finset.mem_univ _, ?_⟩
    show (64 * s.val + e.val) / 64 = s.val
    have := e.isLt; omega
  · intro e he
    have h : e.val / 64 = s.val := (Finset.mem_filter.1 he).2
    refine Fin.ext ?_
    show 64 * s.val + e.val % 64 = e.val; omega
  · intro e _
    refine Fin.ext ?_
    show (64 * s.val + e.val) % 64 = e.val
    have := e.isLt; omega
  · intro e he
    have h : e.val / 64 = s.val := (Finset.mem_filter.1 he).2
    refine congrArg f (Fin.ext ?_)
    show 128 * p.val + e.val = (2 * p.val + s.val) * 64 + e.val % 64; omega

theorem eighth : Ideal.ofBits .f32 1040187392#32 = (((1 : ℝ) / 8 : ℝ) : EReal) := by
  simp [Ideal.ofBits, Ideal.ieee, -EReal.coe_mul]; norm_num

theorem infinite : Ideal.ofBits .f32 0x7F800000#32 = ⊤ := by simp [Ideal.ofBits, Ideal.ieee]

/-- Real arguments. -/
structure Args (x0 x1 : FVec Ideal S8192x512 .f32) (x2 : FVec Ideal S8192x2048 .f32) (x3 : FVec Ideal S8192x512 .f32) where
  q : Fin 8192 → Fin 512 → ℝ
  k : Fin 8192 → Fin 512 → ℝ
  u : Fin 8192 → Fin 2048 → ℝ
  d : Fin 8192 → Fin 512 → ℝ
  hq : ∀ i e, x0 (ix2 i e) = ((q i e : ℝ) : EReal)
  hk : ∀ i e, x1 (ix2 i e) = ((k i e : ℝ) : EReal)
  hu : ∀ i e, x2 (ix2 i e) = ((u i e : ℝ) : EReal)
  hd : ∀ i e, x3 (ix2 i e) = ((d i e : ℝ) : EReal)

/-- The columns of the values. -/
def vcol (e : Fin 512) : Fin 2048 := ⟨1536 + e.val, by have := e.isLt; omega⟩

section Lines

variable {x0 x1 : FVec Ideal S8192x512 .f32} {x2 : FVec Ideal S8192x2048 .f32} {x3 : FVec Ideal S8192x512 .f32} (A : Args x0 x1 x2 x3)

/-- A pair of heads of them, the queries scaled. -/
def Args.pair (p : Fin 4) : Pair where
  q i e := A.q i (cc p e) * (1 / 8)
  k i e := A.k i (cc p e)
  v i e := A.u i (vcol (cc p e))
  d i e := A.d i (cc p e)

variable (p : Fin 4) (s : Fin 2) (i j : Fin 8192)

/-- The scores, by the head's own columns. -/
theorem z_eq : (A.pair p).z s i j = (∑ e, A.q i (hc (hd p s) e) * A.k j (hc (hd p s) e)) * (1 / 8) := by
  rw [← sum_lane p s fun c => A.q i c * A.k j c, Finset.sum_mul]
  refine Finset.sum_congr rfl fun e _ => ?_
  show (if lane s e then A.q i (cc p e) * (1 / 8) else 0) * A.k j (cc p e) = _
  split_ifs <;> ring

theorem v6 : val_main_v6 (F := Ideal) x0 x1 (ix4 0 (hd p s) i j) = (((A.pair p).z s i j : ℝ) : EReal) := by
  pointwise [val_main_v6, val_main_v4, val_main_v5, val_main_cst, val_main_v1, val_main_v2]
  rw [z_eq, EReal.coe_mul, ← coe_sum, eighth]
  refine congrArg₂ (· * ·) (Finset.sum_congr rfl fun e _ => ?_) rfl
  rw [EReal.coe_mul, ← A.hq, ← A.hk]; rfl

/-- The log of the logistic function, as the reference computes it from the opposite. -/
theorem softplus_coe (z : ℝ) : max (((-z : ℝ)) : EReal) 0 + Ideal.log1p (Ideal.exp (-((|(-z)| : ℝ) : EReal))) = ((-lbR z : ℝ) : EReal) := by
  have h : ¬ 1 + Real.exp (-|z|) ≤ 0 := by have := Real.exp_pos (-|z|); linarith
  have e : (1 : EReal) + ((Real.exp (-|z|) : ℝ) : EReal) = ((1 + Real.exp (-|z|) : ℝ) : EReal) := by rw [EReal.coe_add]; rfl
  unfold Ideal.log1p
  rw [abs_neg, ← EReal.coe_neg, Ideal.exp_coe, e, Ideal.log_coe, if_neg h, ← EReal.coe_zero, ← EReal.coe_strictMono.monotone.map_max, ← EReal.coe_add]
  refine congrArg _ ?_
  unfold lbR
  rcases le_total 0 z with h | h
  · rw [min_eq_right h, max_eq_right (by linarith)]; ring
  · rw [min_eq_left h, max_eq_left (by linarith)]; ring

theorem call0 : val_main_call0_v1_0 (F := Ideal) x0 x1 (ix4 0 (hd p s) i j) = ((-lbR ((A.pair p).z s i j) : ℝ) : EReal) := by
  pointwise [val_main_call0_v1_0, val_main_call0_call0_v4, val_main_call0_call0_v3, val_main_call0_call0_v6, val_main_call0_call0_v11, val_main_call0_call0_v1,
    val_main_call0_call0_v10, val_main_call0_call0_v9, val_main_call0_call0_v8, val_main_call0_call0_v7, val_main_call0_v0,
    val_main_call0_call0_v2, val_main_call0_call0_v0, val_main_call0_call0_v5, val_main_call0_call0_cst]
  rw [v6 A]
  rw [if_neg (fun h => h rfl), ← EReal.coe_neg, absf_coe]
  exact softplus_coe _

theorem call1 : val_main_call1_v1_0 (F := Ideal) x0 x1 (ix4 0 (hd p s) i j) = ((-lbR (-(A.pair p).z s i j) : ℝ) : EReal) := by
  pointwise [val_main_call1_v1_0, val_main_call1_call0_v4, val_main_call1_call0_v3, val_main_call1_call0_v6, val_main_call1_call0_v11, val_main_call1_call0_v1,
    val_main_call1_call0_v10, val_main_call1_call0_v9, val_main_call1_call0_v8, val_main_call1_call0_v7, val_main_call1_v0, val_main_v14,
    val_main_call1_call0_v2, val_main_call1_call0_v0, val_main_call1_call0_v5, val_main_call1_call0_cst]
  rw [v6 A]
  rw [if_neg (fun h => h rfl), ← EReal.coe_neg, ← EReal.coe_neg, absf_coe]
  exact softplus_coe _

theorem v13_1 : val_main_v13_1 (F := Ideal) x0 x1 (ix4 0 (hd p s) i j) = ((1 - Real.exp (lbR ((A.pair p).z s i j)) : ℝ) : EReal) := by
  pointwise [val_main_v13_1, val_main_call0_call0_v21, val_main_call0_call0_v16, val_main_call0_call0_v14, val_main_call0_call0_v13, val_main_call0_call0_cst_0,
    val_main_call0_call0_v15, val_main_call0_call0_cst_1, val_main_call0_call0_v20, val_main_call0_call0_v18, val_main_call0_call0_v17, val_main_call0_call0_cst_2,
    val_main_call0_call0_v19, val_main_call0_call0_cst_3, val_main_call0_v0]
  rw [v6 A, call0 A]
  rw [infinite, ← EReal.coe_neg, if_neg (EReal.coe_ne_top _), if_neg (EReal.coe_ne_top _), ← EReal.coe_sub, Ideal.exp_coe, ← exp_lbR_neg, lbR_neg]
  refine congrArg _ (congrArg _ ?_); ring

theorem v15_1 : val_main_v15_1 (F := Ideal) x0 x1 (ix4 0 (hd p s) i j) = ((Real.exp (lbR ((A.pair p).z s i j)) : ℝ) : EReal) := by
  pointwise [val_main_v15_1, val_main_call1_call0_v21, val_main_call1_call0_v16, val_main_call1_call0_v14, val_main_call1_call0_v13, val_main_call1_call0_cst_0,
    val_main_call1_call0_v15, val_main_call1_call0_cst_1, val_main_call1_call0_v20, val_main_call1_call0_v18, val_main_call1_call0_v17, val_main_call1_call0_cst_2,
    val_main_call1_call0_v19, val_main_call1_call0_cst_3, val_main_call1_v0, val_main_v14]
  rw [v6 A, call1 A]
  rw [infinite, ← EReal.coe_neg, ← EReal.coe_neg, if_neg (EReal.coe_ne_top _), if_neg (EReal.coe_ne_top _), ← EReal.coe_sub, Ideal.exp_coe, lbR_neg]
  refine congrArg _ (congrArg _ ?_); ring

theorem mask : val_main_v12 (F := Ideal) (ix2 i j) = BitVec.ofBool (decide (j < i)) := by
  pointwise [val_main_v12, val_main_v10, val_main_v11, val_main_v8, val_main_v9, val_main_v7]
  rw [word_lt _ _ j.isLt i.isLt]
  rfl

/-- The logs of the complements. -/
theorem v16 : val_main_v16_0 (F := Ideal) x0 x1 (ix4 0 (hd p s) i j) = (((A.pair p).l s i j : ℝ) : EReal) := by
  pointwise [val_main_v16_0, val_main_v16_1, val_main_v15_0, val_main_call2_v2, val_main_call2_v0, val_main_cst_0]
  rw [mask, call1 A, sel, ← EReal.coe_neg, neg_neg, lbR_neg]
  unfold Pair.l
  rw [← coe_if]
  by_cases h : j < i
  · rw [if_pos h, if_pos (decide_eq_true h)]
  · rw [if_neg h, if_neg (by simpa using h)]; exact Ideal.ofBits_zero_f32

theorem v17 : val_main_v17 (F := Ideal) x0 x1 (ix4 0 (hd p s) i j) = ((∑ j', if j ≤ j' then (A.pair p).l s i j' else 0 : ℝ) : EReal) := by
  unfold val_main_v17
  refine (Cert.Proof.Window.sum_back _ _ _ _ ?_ _ _ _ _).trans ?_
  · pointwise [val_main_call3_v0, val_main_call3_cst]
  · rw [← coe_sum]
    exact Finset.sum_congr rfl fun j' _ => by rw [v16 A, coe_if]

theorem after : (∑ j', if j ≤ j' then (A.pair p).l s i j' else 0) - (A.pair p).l s i j = ∑ j', if j < j' then (A.pair p).l s i j' else 0 := by
  have h : (A.pair p).l s i j = ∑ j', if j' = j then (A.pair p).l s i j' else 0 := by rw [Finset.sum_ite_eq']; simp
  rw [h, ← Finset.sum_sub_distrib]
  refine Finset.sum_congr rfl fun j' _ => ?_
  by_cases e : j' = j
  · subst e; simp
  · by_cases l : j < j'
    · rw [if_pos l.le, if_neg e, if_pos l, sub_zero]
    · rw [if_neg (fun q => l (lt_of_le_of_ne q (Ne.symm e))), if_neg e, if_neg l, sub_zero]

/-- The weights, before the mask. -/
theorem v20 : val_main_v20 (F := Ideal) x0 x1 (ix4 0 (hd p s) i j)
    = ((Real.exp (lbR ((A.pair p).z s i j) + ∑ j', if j < j' then (A.pair p).l s i j' else 0) : ℝ) : EReal) := by
  pointwise [val_main_v20, val_main_v19, val_main_v18, val_main_v13_0]
  rw [call0 A, v17 A, v16 A, ← EReal.coe_neg, neg_neg, ← EReal.coe_sub, after A, ← EReal.coe_add, Ideal.exp_coe]

theorem v21 : val_main_v21_0 (F := Ideal) x0 x1 (ix4 0 (hd p s) i j) = (((A.pair p).w s i j : ℝ) : EReal) := by
  pointwise [val_main_v21_0, val_main_v21_1, val_main_call4_v2, val_main_call4_v0, val_main_cst_1]
  rw [mask, v20 A, sel]
  unfold Pair.w
  rw [← coe_if]
  by_cases h : j < i
  · rw [if_pos h, if_pos (decide_eq_true h)]
  · rw [if_neg h, if_neg (by simpa using h)]; exact Ideal.ofBits_zero_f32

/-- The gradients of the weights, times the weights. -/
theorem v31 : val_main_v31 (F := Ideal) x0 x1 x2 x3 (ix4 0 (hd p s) i j) = (((A.pair p).g s i j : ℝ) : EReal) := by
  pointwise [val_main_v31, val_main_v30, val_main_v27, val_main_v26, val_main_v25, val_main_v3, val_main_v0, val_main_v21_1, val_main_call5_v0, val_main_call5_cst]
  rw [mask, v20 A, sel]
  unfold Pair.g Pair.w
  by_cases h : j < i
  · rw [if_pos h, if_pos (decide_eq_true h), EReal.coe_mul]
    refine congrArg₂ (· * ·) ?_ rfl
    have e : (∑ e, only s (A.pair p).d i e * (A.pair p).v j e) = ∑ e, A.d i (hc (hd p s) e) * A.u j (vcol (hc (hd p s) e)) := by
      rw [← sum_lane p s fun c => A.d i c * A.u j (vcol c)]
      refine Finset.sum_congr rfl fun e _ => ?_
      show (if lane s e then A.d i (cc p e) else 0) * A.u j (vcol (cc p e)) = _
      split_ifs <;> ring
    rw [e, ← coe_sum]
    refine Finset.sum_congr rfl fun e _ => ?_
    rw [EReal.coe_mul, ← A.hd, ← A.hu]; rfl
  · rw [if_neg h, if_neg (by simpa using h), mul_zero]; rfl

theorem v33 : val_main_v33 (F := Ideal) x0 x1 x2 x3 (ix4 0 (hd p s) i j) = ((∑ j', if j' ≤ j then (A.pair p).g s i j' else 0 : ℝ) : EReal) := by
  unfold val_main_v33
  refine (Cert.Proof.Window.sum_on rfl _ _ _ _ ?_ _ _ _ _).trans ?_
  · pointwise [val_main_call6_v0, val_main_call6_cst]
  · rw [← coe_sum]
    exact Finset.sum_congr rfl fun j' _ => by rw [v31 A, coe_if]

/-- The gradients of the scores, scaled. -/
theorem v41 : val_main_v41 (F := Ideal) x0 x1 x2 x3 (ix4 0 (hd p s) i j) = (((A.pair p).dz s i j * (1 / 8) : ℝ) : EReal) := by
  pointwise [val_main_v41, val_main_v40, val_main_cst_2, val_main_v39, val_main_v38, val_main_v37, val_main_v36, val_main_call9_v1, val_main_call9_v0,
    val_main_call8_v1, val_main_call8_v0, val_main_v35, val_main_v34, val_main_v32, val_main_v16_1, val_main_call7_v0, val_main_call7_cst]
  rw [mask, v31 A, v33 A, v15_1 A, v13_1 A, sel, eighth]
  unfold Pair.dz
  by_cases h : j < i
  · rw [if_pos h, if_pos (decide_eq_true h)]
    simp only [← EReal.coe_neg, ← EReal.coe_add, ← EReal.coe_mul]
    refine congrArg _ ?_; ring
  · have hg : (A.pair p).g s i j = 0 := by unfold Pair.g Pair.w; rw [if_neg h, mul_zero]
    rw [if_neg h, if_neg (by simpa using h), hg]
    simp

end Lines

/-! ## The results -/

section Results

variable {x0 x1 : FVec Ideal S8192x512 .f32} {x2 : FVec Ideal S8192x2048 .f32} {x3 : FVec Ideal S8192x512 .f32} (A : Args x0 x1 x2 x3)
variable (p : Fin 4) (i : Fin 8192) (e : Fin 128)

theorem head_col : (⟨(cc p e).val / 64, by have := (cc p e).isLt; omega⟩ : Fin 8) = hd p (half e) := by
  refine Fin.ext ?_
  show (128 * p.val + e.val) / 64 = 2 * p.val + e.val / 64
  omega

/-- A sum over both heads of what only one of them has. -/
theorem one_head (f : Fin 2 → Fin 8192 → ℝ) (x : Fin 8192 → Fin 128 → ℝ) :
    (∑ s, ∑ j, f s j * only s x j e) = ∑ j, f (half e) j * x j e := by
  rw [Finset.sum_eq_single_of_mem (half e) (Finset.mem_univ _)]
  · refine Finset.sum_congr rfl fun j _ => ?_
    unfold only; rw [if_pos ((lane_half e _).2 rfl)]
  · intro s _ hs
    refine Finset.sum_eq_zero fun j _ => ?_
    unfold only; rw [if_neg (fun h => hs ((lane_half e s).1 h)), mul_zero]

/-- The attention. -/
theorem v24 : val_main_v24 (F := Ideal) x0 x1 x2 (ix2 i (cc p e)) = (((A.pair p).out i e : ℝ) : EReal) := by
  pointwise [val_main_v24, val_main_v23, val_main_v22, val_main_v3, val_main_v0]
  unfold Pair.out
  rw [one_head e (fun s j => (A.pair p).w s i j), ← coe_sum]
  refine Finset.sum_congr rfl fun j _ => ?_
  rw [head_col, v21 A, EReal.coe_mul, mul_comm]
  refine congrArg₂ (· * ·) rfl ?_
  exact A.hu j (vcol (cc p e))

/-- The gradient of the values. -/
theorem v46 : val_main_v46 (F := Ideal) x0 x1 x3 (ix2 i (cc p e)) = (((A.pair p).dv i e : ℝ) : EReal) := by
  pointwise [val_main_v46, val_main_v29, val_main_v28, val_main_v26, val_main_v25]
  unfold Pair.dv
  rw [one_head e (fun s j => (A.pair p).w s j i), ← coe_sum]
  refine Finset.sum_congr rfl fun j _ => ?_
  rw [head_col, v21 A, EReal.coe_mul, mul_comm]
  refine congrArg₂ (· * ·) rfl ?_
  exact A.hd j (cc p e)

/-- The gradient of the keys. -/
theorem v47 : val_main_v47 (F := Ideal) x0 x1 x2 x3 (ix2 i (cc p e)) = (((A.pair p).dk i e : ℝ) : EReal) := by
  pointwise [val_main_v47, val_main_v43, val_main_v42, val_main_v1]
  unfold Pair.dk
  rw [one_head e (fun s j => (A.pair p).dz s j i), ← coe_sum]
  refine Finset.sum_congr rfl fun j _ => ?_
  rw [head_col, v41 A, A.hq, ← EReal.coe_mul]
  refine congrArg _ ?_
  show _ = (A.pair p).dz (half e) j i * (A.q j (cc p e) * (1 / 8)); ring

/-- The gradient of the queries. -/
theorem v48 : val_main_v48 (F := Ideal) x0 x1 x2 x3 (ix2 i (cc p e)) = (((A.pair p).dq i e * (1 / 8) : ℝ) : EReal) := by
  pointwise [val_main_v48, val_main_v45, val_main_v44, val_main_v2]
  unfold Pair.dq
  rw [one_head e (fun s j => (A.pair p).dz s i j), Finset.sum_mul, ← coe_sum]
  refine Finset.sum_congr rfl fun j _ => ?_
  rw [head_col, v41 A, A.hk, ← EReal.coe_mul]
  refine congrArg _ ?_
  show _ = (A.pair p).dz (half e) i j * A.k j (cc p e) * (1 / 8); ring

end Results

end Cert.Reference2Ideal.Hand

end
-- ==== Proof.SbOut.lean ====
/-
  The attention the host computes for the gradient's call is the one the reference computes: the same lines.
-/
module

public import proofs.«01_k».proof.Proof.SbFrame
public import proofs.«01_k».proof.Proof.Gen.Reference2Ideal.Read
public import Idealize.ShloMosaic.Lib.Pipeline.ValueKit
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem
open Idealize.ShloMosaic.Pipeline (Dat)

set_option maxHeartbeats 2000000 in
/-- The attention's result, as the region finds it. -/
theorem out_v (m : (ℓ : Loc nD τ sig) → Buf (Elt Ideal) ℓ) (c : Dev nD) : V m c main_v24 = Cert.Reference2Ideal.Read.val_main_v24 (F := Ideal) (m ((c : Thread nD τ).loc main_arg0)) (m ((c : Thread nD τ).loc main_arg1)) (m ((c : Thread nD τ).loc main_arg2)) := by
  entry_read
  rfl

end Cert.Kernel2Ideal.Hand

end
-- ==== Proof.SbValue.lean ====
/-
  What the attention gradient's call leaves in its result arrays, at finite arguments.
-/
module

public import proofs.«01_k».proof.Proof.SbLift
public import proofs.«01_k».proof.Proof.SbRef
public import proofs.«01_k».proof.Proof.SbOut
public import Idealize.ShloMosaic.Lib.Pipeline.ValueKit
public import Idealize.ShloMosaic.Lib.Claim

@[expose] public section

set_option maxRecDepth 16384

noncomputable section

namespace Cert.Kernel2Ideal.Hand

open Cert.Kernel2Ideal Cert.Kernel2Ideal.Gen Cert.Sb
open Idealize.ShloMosaic Idealize.ShloMosaic.TcCoe Idealize.SL.Sem
open Idealize.ShloMosaic.Pipeline (Dat)
open Cert.Reference2Ideal.Hand (Args cc vcol)

variable (m : (ℓ : Loc nD τ sig) → Buf (Elt Ideal) ℓ) (c : Dev nD)

theorem idx : ∀ t : Fin (cfg0 (F := Ideal)).N, win0_0.index t 0 = t.val % 8 ∧ win0_0.index t 1 = t.val / 8 ∧ win0_1.index t 0 = 0 ∧ win0_1.index t 1 = t.val / 8
    ∧ win0_2.index t 0 = 0 ∧ win0_2.index t 1 = 12 + t.val / 8 ∧ win0_3.index t 0 = t.val % 8 ∧ win0_3.index t 1 = t.val / 8
    ∧ win0_4.index t 0 = t.val % 8 ∧ win0_4.index t 1 = t.val / 8 ∧ win0_5.index t 0 = t.val % 8 ∧ win0_5.index t 1 = t.val / 8
    ∧ win0_6.index t 0 = 0 ∧ win0_6.index t 1 = t.val / 8 ∧ win0_7.index t 0 = 0 ∧ win0_7.index t 1 = t.val / 8 :=
  (by decide +kernel : ∀ t : Fin grid0.N, _)

theorem pt_mod (p : Fin 4) (b : Fin 8) : (pt p b).val % 8 = b.val := by show (8 * p.val + b.val) % 8 = b.val; have := b.isLt; omega
theorem pt_div (p : Fin 4) (b : Fin 8) : (pt p b).val / 8 = p.val := by show (8 * p.val + b.val) / 8 = p.val; have := b.isLt; omega

theorem blk_q (p : Fin 4) (b : Fin 8) (r : Fin 1024) (e : Fin 128) : iblk m c 0 (pt p b) (ix2 r e) = V m c main_v27 (ix2 (big b r) (cc p e)) := by
  have h := idx (pt p b)
  rw [pt_mod, pt_div] at h
  blk_simp [iblk]
  refine congrArg (V m c main_v27) ?_
  blk_ext [h, big, cc]

theorem blk_k (p : Fin 4) (b : Fin 8) (r : Fin 8192) (e : Fin 128) : iblk m c 1 (pt p b) (ix2 r e) = V m c main_v28 (ix2 r (cc p e)) := by
  have h := idx (pt p b)
  rw [pt_mod, pt_div] at h
  blk_simp [iblk]
  refine congrArg (V m c main_v28) ?_
  blk_ext [h, big, cc]

theorem blk_v (p : Fin 4) (b : Fin 8) (r : Fin 8192) (e : Fin 128) : iblk m c 2 (pt p b) (ix2 r e) = V m c main_arg2 (ix2 r (vcol (cc p e))) := by
  have h := idx (pt p b)
  rw [pt_mod, pt_div] at h
  blk_simp [iblk]
  refine congrArg (V m c main_arg2) ?_
  blk_ext [h, big, cc, vcol]

theorem blk_o (p : Fin 4) (b : Fin 8) (r : Fin 1024) (e : Fin 128) : iblk m c 3 (pt p b) (ix2 r e) = V m c main_v24 (ix2 (big b r) (cc p e)) := by
  have h := idx (pt p b)
  rw [pt_mod, pt_div] at h
  blk_simp [iblk]
  refine congrArg (V m c main_v24) ?_
  blk_ext [h, big, cc]

theorem blk_d (p : Fin 4) (b : Fin 8) (r : Fin 1024) (e : Fin 128) : iblk m c 4 (pt p b) (ix2 r e) = V m c main_arg3 (ix2 (big b r) (cc p e)) := by
  have h := idx (pt p b)
  rw [pt_mod, pt_div] at h
  blk_simp [iblk]
  refine congrArg (V m c main_arg3) ?_
  blk_ext [h, big, cc]

theorem q_v : V m c main_v27 = (truncf .bf16 (mulf (φ := .f32) (m ((c : Thread nD τ).loc main_arg0)) (broadcastInDim S8192x512 ![] bcast_S_S8192x512 (constant S_ .f32 0x3E000000#32))) bitsLt_bf16_f32 : FVec Ideal S8192x512 .bf16) := by
  entry_read
  rfl

theorem k_v : V m c main_v28 = (truncf .bf16 (φ := .f32) (m ((c : Thread nD τ).loc main_arg1)) bitsLt_bf16_f32 : FVec Ideal S8192x512 .bf16) := by
  entry_read
  rfl

open Cert.Reference2Ideal.Hand (eighth)

section Finite

variable (A : Args (m ((c : Thread nD τ).loc main_arg0)) (m ((c : Thread nD τ).loc main_arg1)) (m ((c : Thread nD τ).loc main_arg2)) (m ((c : Thread nD τ).loc main_arg3)))

theorem q_at (i : Fin 8192) (e : Fin 512) : V m c main_v27 (ix2 i e) = ((A.q i e * (1 / 8) : ℝ) : EReal) := by
  rw [q_v]
  pointwise []
  rw [A.hq, eighth, ← EReal.coe_mul]

theorem k_at (i : Fin 8192) (e : Fin 512) : V m c main_v28 (ix2 i e) = ((A.k i e : ℝ) : EReal) := by
  rw [k_v]
  exact A.hk i e

theorem v_at (i : Fin 8192) (e : Fin 2048) : V m c main_arg2 (ix2 i e) = ((A.u i e : ℝ) : EReal) := by
  have h := V_same m c main_arg2 (.inr (.inr (.inl rfl)))
  rw [h]
  exact A.hu i e

theorem o_at (i : Fin 8192) (p : Fin 4) (e : Fin 128) : V m c main_v24 (ix2 i (cc p e)) = (((A.pair p).out i e : ℝ) : EReal) := by
  have h := out_v m c
  rw [h]
  exact Cert.Reference2Ideal.Hand.v24 A p i e

theorem d_at (i : Fin 8192) (e : Fin 512) : V m c main_arg3 (ix2 i e) = ((A.d i e : ℝ) : EReal) := by
  have h := V_same m c main_arg3 (.inr (.inr (.inr rfl)))
  rw [h]
  exact A.hd i e

theorem ins_q (p : Fin 4) (b : Fin 8) : Is (φ := .bf16) (iblk m c 0 (pt p b)) fun r => (A.pair p).q (big b r) := fun r e => by
  rw [blk_q, q_at m c A]; rfl

theorem ins_k (p : Fin 4) (b : Fin 8) : Is (φ := .bf16) (iblk m c 1 (pt p b)) (A.pair p).k := fun r e => by
  rw [blk_k, k_at m c A]; rfl

theorem ins_v (p : Fin 4) (b : Fin 8) : Is (φ := .f32) (iblk m c 2 (pt p b)) (A.pair p).v := fun r e => by
  rw [blk_v, v_at m c A]; rfl

theorem ins_o (p : Fin 4) (b : Fin 8) : Is (φ := .f32) (iblk m c 3 (pt p b)) fun r => (A.pair p).out (big b r) := fun r e => by
  rw [blk_o, o_at m c A]

theorem ins_d (p : Fin 4) (b : Fin 8) : Is (φ := .f32) (iblk m c 4 (pt p b)) fun r => (A.pair p).d (big b r) := fun r e => by
  rw [blk_d, d_at m c A]; rfl

theorem InsIs.of {P : Pair} {b : Fin 8} {q k v o d} (hq : Is (φ := .bf16) q fun r => P.q (big b r)) (hk : Is (φ := .bf16) k P.k) (hv : Is (φ := .f32) v P.v)
    (ho : Is (φ := .f32) o fun r => P.out (big b r)) (hd : Is (φ := .f32) d fun r => P.d (big b r)) : InsIs ⟨q, k, v, o, d⟩ P b := ⟨hq, hk, hv, ho, hd⟩

/-- What each point reads is the arguments' block. -/
theorem ins_is (p : Fin 4) (b : Fin 8) : InsIs (ins m c (pt p b)) (A.pair p) b := by
  have hq := ins_q m c A p b
  have hk := ins_k m c A p b
  have hv := ins_v m c A p b
  have ho := ins_o m c A p b
  have hd := ins_d m c A p b
  unfold ins
  generalize iblk m c 0 (pt p b) = q at hq ⊢
  generalize iblk m c 1 (pt p b) = k at hk ⊢
  generalize iblk m c 2 (pt p b) = v at hv ⊢
  generalize iblk m c 3 (pt p b) = o at ho ⊢
  generalize iblk m c 4 (pt p b) = d at hd ⊢
  exact InsIs.of hq hk hv ho hd

/-- Pairs of heads side by side. -/
def lay (f : Fin 4 → Fin 8192 → Fin 128 → ℝ) : FVec Ideal S8192x512 .f32 := fun y =>
  ((f ⟨(y 1).val / 128, by have h : (y 1).val < 512 := (y 1).isLt; omega⟩ (y 0) ⟨(y 1).val % 128, Nat.mod_lt _ (by decide)⟩ : ℝ) : EReal)

theorem lay_at (f : Fin 4 → Fin 8192 → Fin 128 → ℝ) (p : Fin 4) (i : Fin 8192) (e : Fin 128) : lay f (ix2 i (cc p e)) = ((f p i e : ℝ) : EReal) := by
  have h1 : (128 * p.val + e.val) / 128 = p.val := by have := e.isLt; omega
  have h2 : (128 * p.val + e.val) % 128 = e.val := by have := e.isLt; omega
  show ((f ⟨(128 * p.val + e.val) / 128, _⟩ i ⟨(128 * p.val + e.val) % 128, _⟩ : ℝ) : EReal) = _
  simp only [h1, h2]

/-- Every column is some pair's. -/
theorem cols (j : Fin 512) : ∃ (p : Fin 4) (e : Fin 128), j = cc p e :=
  ⟨⟨j.val / 128, by have := j.isLt; omega⟩, ⟨j.val % 128, Nat.mod_lt _ (by decide)⟩, Fin.ext (Nat.div_add_mod j.val 128).symm⟩

/-- Every point is some pair's. -/
theorem points (t : Fin (cfg0 (F := Ideal)).N) : ∃ (p : Fin 4) (b : Fin 8), t = pt p b := by
  have h : t.val < 32 := t.isLt
  exact ⟨⟨t.val / 8, by omega⟩, ⟨t.val % 8, by omega⟩, Fin.ext (Nat.div_add_mod t.val 8).symm⟩

include A in
theorem final_q : (dats m 0 c).arrAt 5 (cfg0 (F := Ideal)).N = lay fun p => (A.pair p).dq := by
  refine (dats m 0 c).arrAt_eq_of_covers 5 _ (by decide +kernel) fun t _ y => ?_
  blk_simp
  rw [after0_5]
  obtain ⟨p, b, rfl⟩ := points t
  obtain ⟨r, e, rfl⟩ : ∃ (r : Fin 1024) (e : Fin 128), y = ix2 r e := ⟨y 0, y 1, eq_ix2 y⟩
  have h := idx (pt p b)
  rw [pt_mod, pt_div] at h
  have he : (win0_5.blk (pt p b)).view.emb (ix2 r e) = ix2 (big b r) (cc p e) := by blk_ext [h, big, cc]
  refine (dqAt_real m c (fun p => A.pair p) (ins_is m c A) p b r e).trans ?_
  rw [he, lay_at]

include A in
theorem final_k : (dats m 0 c).arrAt 6 (cfg0 (F := Ideal)).N = lay fun p => (A.pair p).dk := by
  refine (dats m 0 c).arrAt_eq_of_covers 6 _ (by decide +kernel) fun t hf y => ?_
  blk_simp
  rw [after0_6]
  obtain ⟨p, b, rfl⟩ := points t
  obtain ⟨r, e, rfl⟩ : ∃ (r : Fin 8192) (e : Fin 128), y = ix2 r e := ⟨y 0, y 1, eq_ix2 y⟩
  have hb := (flush0_6 _).1 hf
  rw [pt_mod] at hb
  obtain rfl : b = 7 := Fin.ext hb
  have h := idx (pt p 7)
  rw [pt_mod, pt_div] at h
  have he : (win0_6.blk (pt p 7)).view.emb (ix2 r e) = ix2 r (cc p e) := by blk_ext [h, big, cc]
  refine ((kv_real m c (fun p => A.pair p) (ins_is m c A) p).1 r e).trans ?_
  rw [he, lay_at]

include A in
theorem final_v : (dats m 0 c).arrAt 7 (cfg0 (F := Ideal)).N = lay fun p => (A.pair p).dv := by
  refine (dats m 0 c).arrAt_eq_of_covers 7 _ (by decide +kernel) fun t hf y => ?_
  blk_simp
  rw [after0_7]
  obtain ⟨p, b, rfl⟩ := points t
  obtain ⟨r, e, rfl⟩ : ∃ (r : Fin 8192) (e : Fin 128), y = ix2 r e := ⟨y 0, y 1, eq_ix2 y⟩
  have hb := (flush0_7 _).1 hf
  rw [pt_mod] at hb
  obtain rfl : b = 7 := Fin.ext hb
  have h := idx (pt p 7)
  rw [pt_mod, pt_div] at h
  have he : (win0_7.blk (pt p 7)).view.emb (ix2 r e) = ix2 r (cc p e) := by blk_ext [h, big, cc]
  refine ((kv_real m c (fun p => A.pair p) (ins_is m c A) p).2 r e).trans ?_
  rw [he, lay_at]

open Cert.Reference2Ideal.Read in
include A in
/-- The three arrays, against the reference's. -/
theorem meets_k : (dats m 0 c).arrAt 6 (cfg0 (F := Ideal)).N = val_main_v47 (F := Ideal) (m ((c : Thread nD τ).loc main_arg0)) (m ((c : Thread nD τ).loc main_arg1)) (m ((c : Thread nD τ).loc main_arg2)) (m ((c : Thread nD τ).loc main_arg3)) := by
  rw [final_k m c A]
  funext y
  obtain ⟨i, j, rfl⟩ : ∃ (i : Fin 8192) (j : Fin 512), y = ix2 i j := ⟨y 0, y 1, eq_ix2 y⟩
  obtain ⟨p, e, rfl⟩ := cols j
  exact (lay_at _ p i e).trans (Cert.Reference2Ideal.Hand.v47 A p i e).symm

open Cert.Reference2Ideal.Read in
include A in
theorem meets_v : (dats m 0 c).arrAt 7 (cfg0 (F := Ideal)).N = val_main_v46 (F := Ideal) (m ((c : Thread nD τ).loc main_arg0)) (m ((c : Thread nD τ).loc main_arg1)) (m ((c : Thread nD τ).loc main_arg3)) := by
  rw [final_v m c A]
  funext y
  obtain ⟨i, j, rfl⟩ : ∃ (i : Fin 8192) (j : Fin 512), y = ix2 i j := ⟨y 0, y 1, eq_ix2 y⟩
  obtain ⟨p, e, rfl⟩ := cols j
  exact (lay_at _ p i e).trans (Cert.Reference2Ideal.Hand.v46 A p i e).symm

open Cert.Reference2Ideal.Read in
include A in
theorem meets_q : mulf (F := Ideal) (φ := .f32) ((dats m 0 c).arrAt 5 (cfg0 (F := Ideal)).N : FVec Ideal S8192x512 .f32) (broadcastInDim S8192x512 ![] bcast_S_S8192x512 (constant S_ .f32 0x3E000000#32))
    = val_main_v48 (F := Ideal) (m ((c : Thread nD τ).loc main_arg0)) (m ((c : Thread nD τ).loc main_arg1)) (m ((c : Thread nD τ).loc main_arg2)) (m ((c : Thread nD τ).loc main_arg3)) := by
  rw [final_q m c A]
  funext y
  obtain ⟨i, j, rfl⟩ : ∃ (i : Fin 8192) (j : Fin 512), y = ix2 i j := ⟨y 0, y 1, eq_ix2 y⟩
  obtain ⟨p, e, rfl⟩ := cols j
  refine Eq.trans ?_ (Cert.Reference2Ideal.Hand.v48 A p i e).symm
  pointwise []
  rw [lay_at, eighth, ← EReal.coe_mul]

end Finite

end Cert.Kernel2Ideal.Hand

end
-- ==== Proof.SbPre.lean ====
/-
  What the precondition of the attention's gradient says: every entry of every argument is a real number.
-/
module

public import proofs.«01_k».proof.Pre_finite
public import proofs.«01_k».proof.Proof.SbRef
public import Idealize.ShloMosaic.Lib.ReduceAll
public import Idealize.ShloMosaic.Lib.Pointwise

@[expose] public section

set_option maxRecDepth 16384

noncomputable section

namespace Cert.Proof.Finite

open Idealize.ShloMosaic Cert.Pre_finite

/-- The shapes' side conditions of the precondition. -/
theorem facts : Cert.Pre_finite.Facts where
  bcast_S_S8192x512 := by decide
  reducesTo_S8192x512_S_d0_1 := by decide
  h_S_ := by decide
  bcast_S_S8192x2048 := by decide
  reducesTo_S8192x2048_S_d0_1 := by decide

/-- A number whose magnitude is under infinity is real. -/
theorem real_of_lt {x : EReal} (h : max x (-x) < ⊤) : ∃ a : ℝ, x = ((a : ℝ) : EReal) := by
  induction x with
  | bot => simp at h
  | top => simp at h
  | coe a => exact ⟨a, rfl⟩

theorem top_word : Ideal.ofBits .f32 0x7F800000#32 = (⊤ : EReal) := by
  simp [Ideal.ofBits, Ideal.ieee, -EReal.coe_mul]

/-- An entry the precondition compares with infinity is real. -/
theorem real_of_one {x : EReal} (h : (FloatOps.cmpf (F := Ideal) (φ := .f32) .olt (FloatOps.absf (F := Ideal) (φ := .f32) x) (Ideal.ofBits .f32 0x7F800000#32)) = 1#1) :
    ∃ a : ℝ, x = ((a : ℝ) : EReal) := by
  refine real_of_lt ?_
  rw [top_word] at h
  by_contra hn
  have : (BitVec.ofBool (decide (max x (-x) < (⊤ : EReal)))) = 1#1 := h
  rw [decide_eq_false hn] at this
  exact absurd this (by decide)

instance : Subsingleton S_.Idx := ⟨fun a b => funext fun d => d.elim0⟩

/-- One array's part of the precondition. -/
theorem real_all {s : Shape} (x : FVec Ideal s .f32) (hb : S_.BroadcastsInDim s (![] : Fin 0 → Fin s.rank)) {axes : List (Fin s.rank)} (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) (i : s.Idx) :
    ∃ a : ℝ, x i = ((a : ℝ) : EReal) :=
  real_of_one (Host.reduce_andi_all _ _ hr hu j h i)

variable {x0 x1 : FVec Ideal S8192x512 .f32} {x2 : FVec Ideal S8192x2048 .f32} {x3 : FVec Ideal S8192x512 .f32}

/-- The arguments as real numbers. -/
theorem args (h : letI := facts; fn (F := Ideal) x0 x1 x2 x3 = fun _ => 1#1) : Nonempty (Cert.Reference2Ideal.Hand.Args x0 x1 x2 x3) := by
  have h1 := congrFun h ix0
  unfold fn fn_part1 at h1
  obtain ⟨h012, h3⟩ := IntOp.andi_eq_one.1 h1
  obtain ⟨h01, h2⟩ := IntOp.andi_eq_one.1 h012
  obtain ⟨h0, h1⟩ := IntOp.andi_eq_one.1 h01
  have e0 := fun (i : Fin 8192) (e : Fin 512) => real_all x0 _ _ _ _ h0 (ix2 i e)
  have e1 := fun (i : Fin 8192) (e : Fin 512) => real_all x1 _ _ _ _ h1 (ix2 i e)
  have e2 := fun (i : Fin 8192) (e : Fin 2048) => real_all x2 _ _ _ _ h2 (ix2 i e)
  have e3 := fun (i : Fin 8192) (e : Fin 512) => real_all x3 _ _ _ _ h3 (ix2 i e)
  choose q hq using e0
  choose k hk using e1
  choose u hu using e2
  choose d hd using e3
  exact ⟨⟨q, k, u, d, hq, hk, hu, hd⟩⟩

end Cert.Proof.Finite

end
-- ==== Proof.Sb.lean ====
/-
  The attention gradient: its frames, at the machine's words and over the reals, and its reference's.
-/
module

public import proofs.«01_k».proof.Defs
public import proofs.«01_k».proof.Proof.SbValue
public import proofs.«01_k».proof.Proof.SbPre
public import Idealize.ShloMosaic.Lib.StableHlo.Run
public import Idealize.ShloMosaic.Lib.Pipeline.FrameSuffix
public import proofs.«01_k».proof.Proof.SbWordsFrame
public import proofs.«01_k».proof.Proof.Gen.Reference2Ideal.Run
public import proofs.«01_k».proof.Proof.Gen.Reference2Ideal.Read

@[expose] public section

set_option maxRecDepth 16384

noncomputable section

namespace Cert.Proof

open Idealize.ShloMosaic Idealize.SL.Sem

theorem sb_frame_words : Cert.quiescent_Kernel2 := fun m ρ _ => Cert.Kernel2.Hand.frame m ρ

theorem sb_frame : Cert.quiescent_Kernel2Ideal := fun m ρ _ => Cert.Kernel2Ideal.Hand.frame m ρ

theorem sb_frame_reference : Cert.quiescent_Reference2Ideal := fun m ρ _ =>
  (θ_run Cert.Reference2Ideal.defs _ _).mono
    (fun r h => ⟨fun c => (h c).2.2.2, sem_eq_zero_of_no_sems (by decide) r.2⟩) (Cert.Reference2Ideal.Value.run m ρ)

/-- The operations after the region, from any contents, read at the scaled result. -/
theorem sb_tail (V0 : Valuation Cert.Kernel2Ideal.τ Cert.Kernel2Ideal.sig (Elt Ideal)) :
    StableHlo.after (List.flatten [Cert.Kernel2Ideal.Gen.hostOps1]) V0 (Proc.devRef .tc Cert.Kernel2Ideal.main_v31)
      = mulf (F := Ideal) (φ := .f32) (V0 (Proc.devRef .tc Cert.Kernel2Ideal.main_v29_0))
          (broadcastInDim Cert.Kernel2Ideal.S8192x512 ![] Cert.Kernel2Ideal.Gen.bcast_S_S8192x512 (constant Cert.Kernel2Ideal.S_ .f32 0x3E000000#32)) := by
  simp only [Cert.Kernel2Ideal.Gen.hostOps1, List.flatten_cons, List.flatten_nil, List.append_nil, List.cons_append, List.nil_append]
  after_results <;> rfl

section Region

open Cert.Kernel2Ideal Cert.Kernel2Ideal.Gen Cert.Kernel2Ideal.Hand

variable (m : (ℓ : Loc nD τ sig) → Buf (Elt Ideal) ℓ)

theorem sb_scaled (c : Dev nD) : Pipeline.afterTail₀ (cfgs (F := Ideal)) (dats m) 0 (V0 m) [hostOps1] c main_v31
      = mulf (F := Ideal) (φ := .f32) ((dats m 0 c).arrAt 5 (cfg0 (F := Ideal)).N) (broadcastInDim S8192x512 ![] bcast_S_S8192x512 (constant S_ .f32 0x3E000000#32)) :=
  (sb_tail (Pipeline.withArrays spec0 c (V0 m c) fun w => (dats m 0 c).arrAt w (cfg0 (F := Ideal)).N)).trans (by
    rw [show Pipeline.withArrays spec0 c (V0 m c) (fun w => (dats m 0 c).arrAt w (cfg0 (F := Ideal)).N) (Proc.devRef .tc main_v29_0) = (dats m 0 c).arrAt 5 (cfg0 (F := Ideal)).N
      from Pipeline.withArrays_arr spec0 (launch0 (F := Ideal)).win.arr_inj c (V0 m c) _ 5])

/-- The region's three arrays and the scaled result, at the end of every execution. -/
theorem sb_run (ρ : Dev nD → PrngReg) : θ_run defs (onTc (τ := τ) (main (F := Ideal))) ⟨m, fun _ => 0, ρ⟩ fun r => ∀ c : Dev nD,
    r.2.mem ((c.tc : Thread nD τ).loc main_v31) = mulf (F := Ideal) (φ := .f32) ((dats m 0 c).arrAt 5 (cfg0 (F := Ideal)).N) (broadcastInDim S8192x512 ![] bcast_S_S8192x512 (constant S_ .f32 0x3E000000#32))
    ∧ r.2.mem ((c.tc : Thread nD τ).loc main_v29_1) = (dats m 0 c).arrAt 6 (cfg0 (F := Ideal)).N
    ∧ r.2.mem ((c.tc : Thread nD τ).loc main_v29_2) = (dats m 0 c).arrAt 7 (cfg0 (F := Ideal)).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c =>
    ⟨((h.1 c).2 main_v31 (Pipeline.mem_restRefs_of main_v31 (by decide) (show ∀ w, Pipeline.arrRef spec0 w ≠ main_v31 by decide))).trans (sb_scaled m c),
      (h.1 c).1 6, (h.1 c).1 7, args_same m r h.1 c⟩) (run m ρ)

end Region

/-- The threshold of the exit, named, is the least number: the exit is off. -/
theorem sb_preserves : Cert.preserves_Kernel2_Kernel2Ideal :=
  IdealRules.named_const.statement Cert.Kernel2Ideal.κ "exit" .f32 0xC2DC0000#32 ⊥ rfl

theorem sb_frame_finite : letI := Finite.facts; Cert.quiescent_Kernel2Ideal_pre_finite := fun m ρ _ => Cert.Kernel2Ideal.Hand.frame m ρ

theorem sb_frame_reference_finite : letI := Finite.facts; Cert.quiescent_Reference2Ideal_pre_finite := fun m ρ _ => sb_frame_reference m ρ trivial

/-- The gradients of the attention, at finite arguments. -/
theorem sb_algebraic : letI := Finite.facts; Cert.algebraic_Kernel2Ideal_Reference2Ideal_pre_finite := by
  intro m g m' g' hpre hagree
  refine ⟨_, _, _, sb_run m g, (θ_run _ _ _).mono (fun r h c => ?_) (Cert.Reference2Ideal.Value.run m' g')⟩
  obtain ⟨h0, h1, h2, h3⟩ := h c
  obtain ⟨a0, a1, a2, a3⟩ := hagree c
  obtain ⟨A⟩ := Finite.args (hpre c)
  refine ⟨h0.trans ?_, h1.trans ?_, h2.trans ?_, h3⟩
  · rw [Cert.Reference2Ideal.Read.val_main_v48_eq, a0, a1, a2, a3]
    exact (Cert.Kernel2Ideal.Hand.meets_q m c A).symm
  · rw [Cert.Reference2Ideal.Read.val_main_v47_eq, a0, a1, a2, a3]
    exact (Cert.Kernel2Ideal.Hand.meets_k m c A).symm
  · rw [Cert.Reference2Ideal.Read.val_main_v46_eq, a0, a1, a3]
    exact (Cert.Kernel2Ideal.Hand.meets_v m c A).symm

end Cert.Proof

end
-- ==== Proof.XaModel.lean ====
/-
  The gradient of the cross-attention, row by row and head by head, in the extended reals: what the kernel computes of a
  row, what the reference computes of it, and that the two are one at real arguments.
-/
module

public import Idealize.ShloMosaic.PureOps.Ideal.Laws
public import proofs.«01_k».proof.Proof.SbUp
public import Mathlib.Tactic.FieldSimp
public import Mathlib.Tactic.LinearCombination

@[expose] public section

noncomputable section

namespace Cert.Xa

open Idealize.ShloMosaic
open Cert.Kernel2Ideal.Hand (coe_sum)

/-- The scale of the scores. -/
abbrev scale : EReal := Ideal.ofBits .f32 0x3DB504F3#32
/-- The width of a head. -/
abbrev width : EReal := Ideal.ofBits .f32 0x43000000#32
/-- What the norm adds to the mean square. -/
abbrev tiny : EReal := Ideal.ofBits .f32 0x358637BD#32
/-- Minus a half. -/
abbrev neghalf : EReal := Ideal.ofBits .f32 0xBF000000#32

/-! ## The norm of a row of a head -/

section Norm

variable (x g u : Fin 128 → EReal)

def meansq : EReal := Ideal.div (∑ e, x e * x e) width + tiny
def inv : EReal := Ideal.rsqrt (meansq x)
def normed (e : Fin 128) : EReal := x e * inv x * g e
/-- The gain's share of a row. -/
def gainOf (e : Fin 128) : EReal := x e * inv x * u e
def pull : EReal := Ideal.div ((∑ e, x e * (u e * g e)) * (neghalf * Ideal.div (inv x) (meansq x))) width
/-- The row's own gradient. -/
def rowOf (e : Fin 128) : EReal := u e * g e * inv x + x e * pull x g u + pull x g u * x e

end Norm

/-! ## The attention of a row -/

section Soft

variable (q : Fin 128 → EReal) (k v : Fin 256 → Fin 128 → EReal) (d : Fin 128 → EReal)

def score (j : Fin 256) : EReal := (∑ e, q e * k j e) * scale
def dprob (j : Fin 256) : EReal := ∑ e, d e * v j e
def back (s : Fin 256 → EReal) (e : Fin 128) : EReal := ∑ j, s j * k j e

variable (s p : Fin 256 → EReal)

def top : EReal := Finset.univ.fold max ⊥ s
def num (j : Fin 256) : EReal := Ideal.exp (s j - top s)
def prob (j : Fin 256) : EReal := Ideal.div (num s j) (∑ j', num s j')
/-- The scores' gradient, through the probabilities. -/
def dscore (j : Fin 256) : EReal := prob s j * (p j - ∑ j', p j' * prob s j') * scale
/-- The scores' gradient, through the numerators and their sum. -/
def dscore' (j : Fin 256) : EReal :=
  (Ideal.div (p j) (∑ j', num s j') + -(∑ j', p j' * Ideal.div 1 ((∑ j'', num s j'') * ∑ j'', num s j'') * num s j')) * num s j * scale

end Soft

/-! ## A head of a row -/

/-- Column `e` of head `h`. -/
def col (h : Fin 4) (e : Fin 128) : Fin 512 := ⟨128 * h.val + e.val, by have := h.isLt; have := e.isLt; omega⟩

theorem col_surj (y : Fin 512) : ∃ h e, y = col h e :=
  ⟨⟨y.val / 128, by omega⟩, ⟨y.val % 128, by omega⟩, Fin.ext (Nat.div_add_mod y.val 128).symm⟩

/-- What is given by head and column of the head, by column. -/
def byCol {α : Type*} (f : Fin 4 → Fin 128 → α) (y : Fin 512) : α := f ⟨y.val / 128, by omega⟩ ⟨y.val % 128, by omega⟩

theorem byCol_col {α : Type*} (f : Fin 4 → Fin 128 → α) (h : Fin 4) (e : Fin 128) : byCol f (col h e) = f h e := by
  have := h.isLt
  have := e.isLt
  exact congrArg₂ f (Fin.ext (show (128 * h.val + e.val) / 128 = h.val by omega)) (Fin.ext (show (128 * h.val + e.val) % 128 = e.val by omega))

section Head

variable (x d : Fin 512 → EReal) (g : Fin 128 → EReal) (k v : Fin 256 → Fin 512 → EReal) (h : Fin 4)

def rNorm : Fin 128 → EReal := normed (fun e => x (col h e)) g
def rScore : Fin 256 → EReal := score (rNorm x g h) (fun j e => k j (col h e))
def rDprob : Fin 256 → EReal := dprob (fun j e => v j (col h e)) (fun e => d (col h e))
def rDscore : Fin 256 → EReal := dscore (rScore x g k h) (rDprob d v h)
def rBack : Fin 128 → EReal := back (fun j e => k j (col h e)) (rDscore x d g k v h)
/-- The row's gradient, and its shares of the gradients of the keys, of the values and of the gain. -/
def rQ (e : Fin 128) : EReal := rowOf (fun e => x (col h e)) g (rBack x d g k v h) e
def rK (j : Fin 256) (e : Fin 128) : EReal := rDscore x d g k v h j * rNorm x g h e
def rV (j : Fin 256) (e : Fin 128) : EReal := prob (rScore x g k h) j * d (col h e)
def rG (e : Fin 128) : EReal := gainOf (fun e => x (col h e)) (rBack x d g k v h) e

end Head

/-! ## At real arguments -/

theorem scale_real : ∃ a : ℝ, scale = (a : EReal) := ⟨_, by simp only [scale, Ideal.ofBits, Ideal.ieee]; simp [-EReal.coe_mul]; rfl⟩

theorem width_real : width = ((128 : ℝ) : EReal) := by
  simp [width, Ideal.ofBits, Ideal.ieee, -EReal.coe_mul]; norm_num

theorem tiny_real : ∃ a : ℝ, 0 < a ∧ tiny = (a : EReal) :=
  ⟨8796093 * (2 ^ 43)⁻¹, by positivity, by simp only [tiny, Ideal.ofBits, Ideal.ieee]; simp [-EReal.coe_mul]⟩

theorem inv_real (x : Fin 128 → ℝ) : ∃ a : ℝ, inv (fun e => (x e : EReal)) = (a : EReal) := by
  obtain ⟨t, ht, hte⟩ := tiny_real
  have h : meansq (fun e => (x e : EReal)) = ((((∑ e, x e * x e) * (1 / 128) + t : ℝ)) : EReal) := by
    unfold meansq
    rw [width_real, Ideal.div_coe (by norm_num), hte]
    simp only [← EReal.coe_mul, coe_sum, ← EReal.coe_add]
  have hp : 0 < (∑ e, x e * x e) * (1 / 128) + t := by
    have := Finset.sum_nonneg fun (e : Fin 128) (_ : e ∈ Finset.univ) => mul_self_nonneg (x e)
    positivity
  unfold inv
  rw [h, Ideal.rsqrt_coe, if_neg hp.not_gt, if_neg hp.ne']
  exact ⟨_, rfl⟩

theorem normed_real (x g : Fin 128 → ℝ) : ∃ q : Fin 128 → ℝ, normed (fun e => (x e : EReal)) (fun e => (g e : EReal)) = fun e => (q e : EReal) := by
  obtain ⟨a, ha⟩ := inv_real x
  exact ⟨fun e => x e * a * g e, funext fun e => by unfold normed; rw [ha]; push_cast; rfl⟩

theorem score_real (q : Fin 128 → ℝ) (k : Fin 256 → Fin 128 → ℝ) :
    ∃ s : Fin 256 → ℝ, score (fun e => (q e : EReal)) (fun j e => (k j e : EReal)) = fun j => (s j : EReal) := by
  obtain ⟨a, ha⟩ := scale_real
  exact ⟨fun j => (∑ e, q e * k j e) * a, funext fun j => by unfold score; rw [ha]; simp only [← EReal.coe_mul, coe_sum]⟩

theorem dprob_real (d : Fin 128 → ℝ) (v : Fin 256 → Fin 128 → ℝ) :
    dprob (fun j e => (v j e : EReal)) (fun e => (d e : EReal)) = fun j => ((∑ e, d e * v j e : ℝ) : EReal) :=
  funext fun j => by unfold dprob; simp only [← EReal.coe_mul, coe_sum]

theorem top_real (s : Fin 256 → ℝ) : ∃ m : ℝ, top (fun j => (s j : EReal)) = (m : EReal) := by
  have h : ∀ t : Finset (Fin 256), t.Nonempty → ∃ m : ℝ, t.fold max ⊥ (fun j => (s j : EReal)) = (m : EReal) := by
    intro t ht
    induction ht using Finset.Nonempty.cons_induction with
    | singleton a => exact ⟨s a, by simp⟩
    | cons a t ha _ ih =>
      obtain ⟨m, hm⟩ := ih
      exact ⟨max (s a) m, by rw [Finset.fold_cons, hm, EReal.coe_strictMono.monotone.map_max]⟩
  exact h _ ⟨0, Finset.mem_univ _⟩

/-- The two ways to the scores' gradient are one. -/
theorem dscore_eq (s p : Fin 256 → ℝ) (j : Fin 256) :
    dscore' (fun j => (s j : EReal)) (fun j => (p j : EReal)) j = dscore (fun j => (s j : EReal)) (fun j => (p j : EReal)) j := by
  obtain ⟨m, hm⟩ := top_real s
  obtain ⟨a, ha⟩ := scale_real
  have hn : num (fun j => (s j : EReal)) = fun j => ((Real.exp (s j - m) : ℝ) : EReal) := funext fun j => by
    unfold num; rw [hm, ← EReal.coe_sub, Ideal.exp_coe]
  generalize hw : (fun j => Real.exp (s j - m)) = w at hn
  have hw' : ∀ j, 0 < w j := fun j => by rw [← hw]; exact Real.exp_pos _
  have hn' : num (fun j => (s j : EReal)) = fun j => (w j : EReal) := by rw [hn, ← hw]
  have hZ : 0 < ∑ j, w j := Finset.sum_pos (fun j _ => hw' j) ⟨0, Finset.mem_univ _⟩
  have one : (1 : EReal) = ((1 : ℝ) : EReal) := rfl
  unfold dscore dscore' prob
  rw [hn', ha]
  generalize hz : ∑ j, w j = Z at hZ
  simp only [coe_sum, hz]
  rw [← EReal.coe_mul Z Z]
  simp only [one, Ideal.div_coe hZ.ne', Ideal.div_coe (mul_pos hZ hZ).ne']
  simp only [← EReal.coe_mul, coe_sum, ← EReal.coe_neg, ← EReal.coe_add, ← EReal.coe_sub]
  refine congrArg _ ?_
  have e : ∑ x, p x * (1 * (1 / (Z * Z))) * w x = (∑ x, p x * (w x * (1 / Z))) * (1 / Z) := by
    rw [Finset.sum_mul]
    exact Finset.sum_congr rfl fun x _ => by field_simp
  rw [e]
  ring

end Cert.Xa

end
-- ==== Proof.XaHead.lean ====
/-
  The payloads of the cross-attention's gradient: one head's, written once for the four heads, and its entries.
-/
module

public import proofs.«01_k».proof.Proof.Gen.Kernel3Ideal
public import proofs.«01_k».proof.Proof.Gen.Kernel3Ideal.Skeleton
public import proofs.«01_k».proof.Proof.XaModel
public import Idealize.ShloMosaic.Lib.Pipeline.ValueKit
public import Idealize.ShloMosaic.Lib.Pointwise

@[expose] public section

set_option maxRecDepth 16384

noncomputable section

namespace Cert.Kernel3Ideal.Hand

open Cert.Kernel3Ideal Cert.Kernel3Ideal.Gen
open Cert.Xa (col)
open Idealize.ShloMosaic Idealize.ShloMosaic.TcCoe

/-! ## One head -/

variable {F : FTy → Type} [FloatOps F]

def hMean (x : FVec F S512x128 .f32) : FVec F S512x1 .f32 :=
  addf (divf (shapeCast S512x1 (multiReduction .add [1] S512 (mulf x x) 0x00000000#32 reduces_S512x128_S512 (.inl rfl) rfl) shapeCasts_S512_S512x1)
    (broadcast S512x1 (Scalar.ofBits .f32 0x43000000#32))) (broadcast S512x1 (Scalar.ofBits .f32 0x358637BD#32))

def hInv (x : FVec F S512x128 .f32) : FVec F S512x1 .f32 := rsqrt (hMean x)

def hUnit (x : FVec F S512x128 .f32) : FVec F S512x128 .f32 := mulf x (broadcastTo S512x128 (hInv x) broadcasts_S512x1_S512x128)

def hNorm (x : FVec F S512x128 .f32) (g : FVec F S1x128 .f32) : FVec F S512x128 .f32 :=
  mulf (hUnit x) (broadcastTo S512x128 g broadcasts_S1x128_S512x128)

def hScore (q : FVec F S512x128 .f32) (k : FVec F S256x128 .bf16) : FVec F S512x256 .f32 :=
  mulf (matmul dot_S512x128_S256x128_S512x256_1_1_0_0_n_n none (truncf .bf16 q bitsLt_bf16_f32) k (constant S512x256 .f32 0x00000000#32))
    (broadcast S512x256 (Scalar.ofBits .f32 0x3DB504F3#32))

def hNum (s : FVec F S512x256 .f32) : FVec F S512x256 .f32 :=
  exp (subf s (broadcastTo S512x256 (shapeCast S512x1 (multiReduction .maximumf [1] S512 s 0xFF800000#32 reduces_S512x256_S512 (.inl rfl) rfl) shapeCasts_S512_S512x1)
    broadcasts_S512x1_S512x256))

def hProb (s : FVec F S512x256 .f32) : FVec F S512x256 .f32 :=
  divf (hNum s) (broadcastTo S512x256 (shapeCast S512x1 (multiReduction .add [1] S512 (hNum s) 0x00000000#32 reduces_S512x256_S512 (.inl rfl) rfl) shapeCasts_S512_S512x1)
    broadcasts_S512x1_S512x256)

def hDprob (d : FVec F S512x128 .f32) (v : FVec F S256x128 .bf16) : FVec F S512x256 .f32 :=
  matmul dot_S512x128_S256x128_S512x256_1_1_0_0_n_n none (truncf .bf16 d bitsLt_bf16_f32) v (constant S512x256 .f32 0x00000000#32)

def hBack (s : FVec F S512x256 .f32) (k : FVec F S256x128 .bf16) : FVec F S512x128 .f32 :=
  matmul dot_S512x256_S256x128_S512x128_1_0_0_1_n_n none (truncf .bf16 s bitsLt_bf16_f32) k (constant S512x128 .f32 0x00000000#32)

def hGain (x u : FVec F S512x128 .f32) : FVec F S1x128 .f32 :=
  shapeCast S1x128 (multiReduction .add [0] S128 (mulf (hUnit x) u) 0x00000000#32 reduces_S512x128_S128 (.inl rfl) rfl) shapeCasts_S128_S1x128

def hPull (x y : FVec F S512x128 .f32) : FVec F S512x1 .f32 :=
  divf (mulf (shapeCast S512x1 (multiReduction .add [1] S512 (mulf x y) 0x00000000#32 reduces_S512x128_S512 (.inl rfl) rfl) shapeCasts_S512_S512x1)
    (mulf (broadcast S512x1 (Scalar.ofBits .f32 0xBF000000#32)) (divf (hInv x) (hMean x)))) (broadcast S512x1 (Scalar.ofBits .f32 0x43000000#32))

def hWide (p : FVec F S512x1 .f32) : FVec F S512x128 .f32 :=
  broadcastTo S512x128 (shapeCast S512x1 (multiReduction .add [1] S512 p 0x00000000#32 reduces_S512x1_S512 (.inl rfl) rfl) shapeCasts_S512_S512x1) broadcasts_S512x1_S512x128

def hGrad (x y : FVec F S512x128 .f32) : FVec F S512x128 .f32 :=
  addf (addf (mulf y (broadcastTo S512x128 (hInv x) broadcasts_S512x1_S512x128)) (mulf x (hWide (hPull x y)))) (mulf (hWide (hPull x y)) x)

def hRow (x u : FVec F S512x128 .f32) (g : FVec F S1x128 .f32) : FVec F S512x128 .f32 :=
  hGrad x (mulf u (broadcastTo S512x128 g broadcasts_S1x128_S512x128))

/-! ## Its entries -/

theorem hMean_at (x : FVec Ideal S512x128 .f32) (i : Fin 512) : hMean x (ix2 i 0 : S512x1.Idx) = Xa.meansq fun e => x (ix2 i e) := by
  pointwise [hMean, Xa.meansq]

theorem hInv_at (x : FVec Ideal S512x128 .f32) (i : Fin 512) : hInv x (ix2 i 0 : S512x1.Idx) = Xa.inv fun e => x (ix2 i e) := by
  pointwise [hInv]
  rw [hMean_at]; rfl

theorem hUnit_at (x : FVec Ideal S512x128 .f32) (i : Fin 512) (e : Fin 128) :
    hUnit x (ix2 i e : S512x128.Idx) = x (ix2 i e) * Xa.inv fun e => x (ix2 i e) := by
  pointwise [hUnit]
  rw [hInv_at]

theorem low_word : Ideal.ofBits .f32 0xFF800000#32 = (⊥ : EReal) := by
  simp [Ideal.ofBits, Ideal.ieee, -EReal.coe_mul]

theorem hNorm_at (x : FVec Ideal S512x128 .f32) (g : FVec Ideal S1x128 .f32) (i : Fin 512) (e : Fin 128) :
    hNorm x g (ix2 i e : S512x128.Idx) = Xa.normed (fun e => x (ix2 i e)) (fun e => g (ix2 0 e)) e := by
  pointwise [hNorm]
  rw [hUnit_at]; rfl

theorem hScore_at (q : FVec Ideal S512x128 .f32) (k : FVec Ideal S256x128 .bf16) (i : Fin 512) (j : Fin 256) :
    hScore q k (ix2 i j : S512x256.Idx) = Xa.score (fun e => q (ix2 i e)) (fun j e => k (ix2 j e)) j := by
  pointwise [hScore, Xa.score]

theorem hNum_at (s : FVec Ideal S512x256 .f32) (i : Fin 512) (j : Fin 256) :
    hNum s (ix2 i j : S512x256.Idx) = Xa.num (fun j => s (ix2 i j)) j := by
  pointwise [hNum, Xa.num, Xa.top]
  rw [low_word]

theorem hProb_at (s : FVec Ideal S512x256 .f32) (i : Fin 512) (j : Fin 256) :
    hProb s (ix2 i j : S512x256.Idx) = Xa.prob (fun j => s (ix2 i j)) j := by
  pointwise [hProb, Xa.prob]
  simp only [hNum_at]

theorem hDprob_at (d : FVec Ideal S512x128 .f32) (v : FVec Ideal S256x128 .bf16) (i : Fin 512) (j : Fin 256) :
    hDprob d v (ix2 i j : S512x256.Idx) = Xa.dprob (fun j e => v (ix2 j e)) (fun e => d (ix2 i e)) j := by
  pointwise [hDprob, Xa.dprob]

theorem hBack_at (s : FVec Ideal S512x256 .f32) (k : FVec Ideal S256x128 .bf16) (i : Fin 512) (e : Fin 128) :
    hBack s k (ix2 i e : S512x128.Idx) = Xa.back (fun j e => k (ix2 j e)) (fun j => s (ix2 i j)) e := by
  pointwise [hBack, Xa.back]

theorem hDscore_at (s p : FVec Ideal S512x256 .f32) (i : Fin 512) (j : Fin 256) :
    k0_pay11 (hProb s) p (ix2 i j : S512x256.Idx) = Xa.dscore (fun j => s (ix2 i j)) (fun j => p (ix2 i j)) j := by
  pointwise [k0_pay11, Xa.dscore]
  simp only [hProb_at]

theorem hGain_at (x u : FVec Ideal S512x128 .f32) (e : Fin 128) :
    hGain x u (ix2 0 e : S1x128.Idx) = ∑ i : Fin 512, Xa.gainOf (fun e => x (ix2 i e)) (fun e => u (ix2 i e)) e := by
  pointwise [hGain, Xa.gainOf]
  simp only [hUnit_at]

theorem hRow_at (x u : FVec Ideal S512x128 .f32) (g : FVec Ideal S1x128 .f32) (i : Fin 512) (e : Fin 128) :
    hRow x u g (ix2 i e : S512x128.Idx) = Xa.rowOf (fun e => x (ix2 i e)) (fun e => g (ix2 0 e)) (fun e => u (ix2 i e)) e := by
  pointwise [hRow, hGrad, hWide, hPull, Xa.rowOf, Xa.pull]
  simp only [Fin.sum_univ_one, hInv_at, hMean_at]

theorem dv_at (p : FVec Ideal S512x256 .f32) (d : FVec Ideal S512x128 .f32) (j : Fin 256) (e : Fin 128) :
    k0_pay10 p d (ix2 j e : S256x128.Idx) = ∑ i : Fin 512, p (ix2 i j) * d (ix2 i e) := by
  pointwise [k0_pay10]

theorem dk_at (q : FVec Ideal S512x128 .f32) (p r : FVec Ideal S512x256 .f32) (j : Fin 256) (e : Fin 128) :
    k0_pay13 q p r (ix2 j e : S256x128.Idx) = ∑ i : Fin 512, k0_pay11 p r (ix2 i j : S512x256.Idx) * q (ix2 i e) := by
  generalize hw : k0_pay11 p r = w
  pointwise [k0_pay13]
  rw [hw]

/-! ## The four heads side by side -/

variable {φ : FTy}

/-- A head's columns of a block of rows. -/
def rowsOf (x : FVec F S512x512 φ) : Fin 4 → FVec F S512x128 φ
  | 0 => extractStridedSlice S512x128 ![0, 0] x slices_S512x512_o0_0_S512x128
  | 1 => extractStridedSlice S512x128 ![0, 128] x slices_S512x512_o0_128_S512x128
  | 2 => extractStridedSlice S512x128 ![0, 256] x slices_S512x512_o0_256_S512x128
  | 3 => extractStridedSlice S512x128 ![0, 384] x slices_S512x512_o0_384_S512x128

/-- A head's columns of the keys or of the values. -/
def keysOf (x : FVec F S256x512 φ) : Fin 4 → FVec F S256x128 φ
  | 0 => extractStridedSlice S256x128 ![0, 0] x slices_S256x512_o0_0_S256x128
  | 1 => extractStridedSlice S256x128 ![0, 128] x slices_S256x512_o0_128_S256x128
  | 2 => extractStridedSlice S256x128 ![0, 256] x slices_S256x512_o0_256_S256x128
  | 3 => extractStridedSlice S256x128 ![0, 384] x slices_S256x512_o0_384_S256x128

theorem rowsOf_at (x : FVec Ideal S512x512 φ) (h : Fin 4) (i : Fin 512) (e : Fin 128) :
    rowsOf x h (ix2 i e : S512x128.Idx) = x (ix2 i (col h e)) := by
  fin_cases h <;> (pointwise [rowsOf]; blk_ext [col])

theorem keysOf_at (x : FVec Ideal S256x512 φ) (h : Fin 4) (i : Fin 256) (e : Fin 128) :
    keysOf x h (ix2 i e : S256x128.Idx) = x (ix2 i (col h e)) := by
  fin_cases h <;> (pointwise [keysOf]; blk_ext [col])

def rowsCat (p : Fin 4 → FVec F S512x128 .f32) : FVec F S512x512 .f32 :=
  concatenate S512x512 1 [⟨S512x128, p 0⟩, ⟨S512x128, p 1⟩, ⟨S512x128, p 2⟩, ⟨S512x128, p 3⟩] concatenates_S512x128_S512x128_S512x128_S512x128_S512x512_d1

def keysCat (p : Fin 4 → FVec F S256x128 .f32) : FVec F S256x512 .f32 :=
  concatenate S256x512 1 [⟨S256x128, p 0⟩, ⟨S256x128, p 1⟩, ⟨S256x128, p 2⟩, ⟨S256x128, p 3⟩] concatenates_S256x128_S256x128_S256x128_S256x128_S256x512_d1

/-- The column of a head among four blocks of columns. -/
theorem pick {α : Type*} (P : Fin 4 → Fin 128 → α) (h : Fin 4) (e : Fin 128) (y : Fin 512) (hy : y.val = 128 * h.val + e.val) :
    (if h0 : y.val < 128 then P 0 ⟨y.val, h0⟩ else if h1 : y.val - 128 < 128 then P 1 ⟨y.val - 128, h1⟩
      else if h2 : y.val - 128 - 128 < 128 then P 2 ⟨y.val - 128 - 128, h2⟩ else P 3 ⟨y.val - 128 - 128 - 128, by omega⟩) = P h e := by
  have := e.isLt
  have := h.isLt
  split_ifs
  · exact congrArg₂ P (Fin.ext (show 0 = h.val by omega)) (Fin.ext (show y.val = e.val by omega))
  · exact congrArg₂ P (Fin.ext (show 1 = h.val by omega)) (Fin.ext (show y.val - 128 = e.val by omega))
  · exact congrArg₂ P (Fin.ext (show 2 = h.val by omega)) (Fin.ext (show y.val - 128 - 128 = e.val by omega))
  · exact congrArg₂ P (Fin.ext (show 3 = h.val by omega)) (Fin.ext (show y.val - 128 - 128 - 128 = e.val by omega))

theorem rowsCat_at (p : Fin 4 → FVec Ideal S512x128 .f32) (h : Fin 4) (i : Fin 512) (e : Fin 128) :
    rowsCat p (ix2 i (col h e) : S512x512.Idx) = p h (ix2 i e) := by
  obtain ⟨y, hy⟩ : ∃ y : Fin 512, y.val = 128 * h.val + e.val := ⟨col h e, rfl⟩
  rw [show col h e = y from Fin.ext hy.symm]
  refine Eq.trans ?_ (pick (fun h e => p h (ix2 i e)) h e y hy)
  pointwise [rowsCat]

theorem keysCat_at (p : Fin 4 → FVec Ideal S256x128 .f32) (h : Fin 4) (i : Fin 256) (e : Fin 128) :
    keysCat p (ix2 i (col h e) : S256x512.Idx) = p h (ix2 i e) := by
  obtain ⟨y, hy⟩ : ∃ y : Fin 512, y.val = 128 * h.val + e.val := ⟨col h e, rfl⟩
  rw [show col h e = y from Fin.ext hy.symm]
  refine Eq.trans ?_ (pick (fun h e => p h (ix2 i e)) h e y hy)
  pointwise [keysCat]

end Cert.Kernel3Ideal.Hand

end
-- ==== Proof.XaOut.lean ====
/-
  What the cross-attention's gradient leaves in its four arrays.
-/
module

public import proofs.«01_k».proof.Proof.Gen.Kernel3Ideal.Frame
public import proofs.«01_k».proof.Proof.XaHead

@[expose] public section

set_option maxRecDepth 16384

noncomputable section

namespace Cert.Kernel3Ideal.Hand

open Cert.Kernel3Ideal Cert.Kernel3Ideal.Gen
open Cert.Xa (col col_surj)
open Idealize.ShloMosaic Idealize.ShloMosaic.TcCoe Idealize.SL.Sem
open Idealize.ShloMosaic.Pipeline (Dat)

/-! ## The payloads by head -/

section Blocks

variable {F : FTy → Type} [FloatOps F] (x d : FVec F S512x512 .f32) (g : FVec F S1x128 .f32) (k v : FVec F S256x512 .bf16)

def bNorm (h : Fin 4) : FVec F S512x128 .f32 := hNorm (rowsOf x h) (k0_pay2 g)
def bProb (h : Fin 4) : FVec F S512x256 .f32 := hProb (hScore (bNorm x g h) (keysOf (k0_pay3 k) h))
def bDprob (h : Fin 4) : FVec F S512x256 .f32 := hDprob (rowsOf d h) (keysOf (k0_pay4 v) h)
def bBack (h : Fin 4) : FVec F S512x128 .f32 := hBack (k0_pay11 (bProb x g k h) (bDprob d v h)) (keysOf (k0_pay3 k) h)

def bQ : FVec F S512x512 .f32 := rowsCat fun h => hRow (rowsOf x h) (bBack x d g k v h) (k0_pay2 g)
def bK : FVec F S256x512 .f32 := keysCat fun h => k0_pay13 (bNorm x g h) (bProb x g k h) (bDprob d v h)
def bV : FVec F S256x512 .f32 := keysCat fun h => k0_pay10 (bProb x g k h) (rowsOf d h)
def bGain (h : Fin 4) : FVec F S1x128 .f32 := hGain (rowsOf x h) (bBack x d g k v h)
def bG : FVec F S1x128 .f32 := addf (addf (addf (addf k0_pay5 (bGain x d g k v 0)) (bGain x d g k v 1)) (bGain x d g k v 2)) (bGain x d g k v 3)

end Blocks

section Entries

variable (x d : FVec Ideal S512x512 .f32) (g : FVec Ideal S1x128 .f32) (k v : FVec Ideal S256x512 .bf16) (h : Fin 4)

/-- A row of a block, and the keys or values, by entries. -/
abbrev rowAt (x : FVec Ideal S512x512 .f32) (i : Fin 512) : Fin 512 → EReal := fun y => x (ix2 i y)
abbrev gainAt (g : FVec Ideal S1x128 .f32) : Fin 128 → EReal := fun e => g (ix2 0 e)
abbrev keyAt (k : FVec Ideal S256x512 .bf16) : Fin 256 → Fin 512 → EReal := fun j y => k (ix2 j y)

theorem pay2_at (e : Fin 128) : k0_pay2 g (ix2 0 e : S1x128.Idx) = g (ix2 0 e) := by pointwise [k0_pay2]
theorem pay3_eq : k0_pay3 k = k := by funext i; obtain ⟨j, y, rfl⟩ : ∃ (j : Fin 256) (y : Fin 512), i = ix2 j y := ⟨i 0, i 1, eq_ix2 i⟩; pointwise [k0_pay3]
theorem pay4_eq : k0_pay4 k = k := pay3_eq k

theorem bNorm_at (i : Fin 512) (e : Fin 128) : bNorm x g h (ix2 i e : S512x128.Idx) = Xa.rNorm (rowAt x i) (gainAt g) h e := by
  unfold bNorm
  rw [hNorm_at]
  simp only [pay2_at, rowsOf_at]
  rfl

theorem bScore_at (i : Fin 512) (j : Fin 256) : hScore (bNorm x g h) (keysOf (k0_pay3 k) h) (ix2 i j : S512x256.Idx) = Xa.rScore (rowAt x i) (gainAt g) (keyAt k) h j := by
  rw [hScore_at]
  simp only [bNorm_at, pay3_eq, keysOf_at]
  rfl

theorem bProb_at (i : Fin 512) (j : Fin 256) : bProb x g k h (ix2 i j : S512x256.Idx) = Xa.prob (Xa.rScore (rowAt x i) (gainAt g) (keyAt k) h) j := by
  unfold bProb
  rw [hProb_at]
  simp only [bScore_at]

theorem bDprob_at (i : Fin 512) (j : Fin 256) : bDprob d v h (ix2 i j : S512x256.Idx) = Xa.rDprob (rowAt d i) (keyAt v) h j := by
  unfold bDprob
  rw [hDprob_at]
  simp only [rowsOf_at, pay4_eq, keysOf_at]
  rfl

theorem bDscore_at (i : Fin 512) (j : Fin 256) : k0_pay11 (bProb x g k h) (bDprob d v h) (ix2 i j : S512x256.Idx)
    = Xa.rDscore (rowAt x i) (rowAt d i) (gainAt g) (keyAt k) (keyAt v) h j := by
  unfold bProb
  rw [hDscore_at]
  simp only [bScore_at, bDprob_at]
  rfl

theorem bBack_at (i : Fin 512) (e : Fin 128) : bBack x d g k v h (ix2 i e : S512x128.Idx)
    = Xa.rBack (rowAt x i) (rowAt d i) (gainAt g) (keyAt k) (keyAt v) h e := by
  unfold bBack
  rw [hBack_at]
  simp only [bDscore_at, pay3_eq, keysOf_at]
  rfl

theorem bQ_at (i : Fin 512) (e : Fin 128) : bQ x d g k v (ix2 i (col h e) : S512x512.Idx)
    = Xa.rQ (rowAt x i) (rowAt d i) (gainAt g) (keyAt k) (keyAt v) h e := by
  unfold bQ
  rw [rowsCat_at, hRow_at]
  simp only [bBack_at, pay2_at, rowsOf_at]
  rfl

theorem bK_at (j : Fin 256) (e : Fin 128) : bK x d g k v (ix2 j (col h e) : S256x512.Idx)
    = ∑ i : Fin 512, Xa.rK (rowAt x i) (rowAt d i) (gainAt g) (keyAt k) (keyAt v) h j e := by
  unfold bK
  rw [keysCat_at, dk_at]
  simp only [bDscore_at, bNorm_at]
  rfl

theorem bV_at (j : Fin 256) (e : Fin 128) : bV x d g k (ix2 j (col h e) : S256x512.Idx)
    = ∑ i : Fin 512, Xa.rV (rowAt x i) (rowAt d i) (gainAt g) (keyAt k) h j e := by
  unfold bV
  rw [keysCat_at, dv_at]
  simp only [bProb_at, rowsOf_at]
  rfl

theorem bGain_at (e : Fin 128) : bGain x d g k v h (ix2 0 e : S1x128.Idx)
    = ∑ i : Fin 512, Xa.rG (rowAt x i) (rowAt d i) (gainAt g) (keyAt k) (keyAt v) h e := by
  unfold bGain
  rw [hGain_at]
  simp only [bBack_at, rowsOf_at]
  rfl

theorem bG_at (e : Fin 128) : bG x d g k v (ix2 0 e : S1x128.Idx)
    = ∑ h : Fin 4, ∑ i : Fin 512, Xa.rG (rowAt x i) (rowAt d i) (gainAt g) (keyAt k) (keyAt v) h e := by
  simp only [Fin.sum_univ_four, ← bGain_at]
  pointwise [bG, k0_pay5]

end Entries

variable (m : (ℓ : Loc nD τ sig) → Buf (Elt Ideal) ℓ) (c : Dev nD) (t : Fin cfg0.N)

/-- A point's share of the four results. -/
abbrev tQ : FVec Ideal S512x512 .f32 := bQ (iblk m c 0 t) (iblk m c 1 t) (iblk m c 2 t) (iblk m c 3 t) (iblk m c 4 t)
abbrev tK : FVec Ideal S256x512 .f32 := bK (iblk m c 0 t) (iblk m c 1 t) (iblk m c 2 t) (iblk m c 3 t) (iblk m c 4 t)
abbrev tV : FVec Ideal S256x512 .f32 := bV (iblk m c 0 t) (iblk m c 1 t) (iblk m c 2 t) (iblk m c 3 t)
abbrev tG : FVec Ideal S1x128 .f32 := bG (iblk m c 0 t) (iblk m c 1 t) (iblk m c 2 t) (iblk m c 3 t) (iblk m c 4 t)

theorem out5 : (outsAt0 m c t.val t.isLt).1 = truncf .bf16 (tQ m c t) bitsLt_bf16_f32 := by
  by_cases h0 : t.val % 16 = 0
  · rw [outsAt0_A m c t h0]
    frame_out
    rfl
  · rw [outsAt0_B m c t h0]
    frame_out
    rfl

theorem out6_A (h0 : t.val % 16 = 0) : (outsAt0 m c t.val t.isLt).2.1 = addf (shapeCast S256x512 k0_pay73 shapeCasts_S256x512_S256x512) (tK m c t) := by
  rw [outsAt0_A m c t h0]
  frame_out
  rfl

theorem out6_B (h0 : ¬ t.val % 16 = 0) : (outsAt0 m c t.val t.isLt).2.1
    = addf (shapeCast S256x512 (outsAt0 m c (t.val - 1) (Nat.lt_of_le_of_lt (Nat.sub_le _ _) t.isLt)).2.1 shapeCasts_S256x512_S256x512) (tK m c t) := by
  rw [outsAt0_B m c t h0]
  frame_out
  rfl

theorem out7_A (h0 : t.val % 16 = 0) : (outsAt0 m c t.val t.isLt).2.2.1 = addf (shapeCast S256x512 k0_pay74 shapeCasts_S256x512_S256x512) (tV m c t) := by
  rw [outsAt0_A m c t h0]
  frame_out
  rfl

theorem out7_B (h0 : ¬ t.val % 16 = 0) : (outsAt0 m c t.val t.isLt).2.2.1
    = addf (shapeCast S256x512 (outsAt0 m c (t.val - 1) (Nat.lt_of_le_of_lt (Nat.sub_le _ _) t.isLt)).2.2.1 shapeCasts_S256x512_S256x512) (tV m c t) := by
  rw [outsAt0_B m c t h0]
  frame_out
  rfl

theorem out8_A (h0 : t.val % 16 = 0) : (outsAt0 m c t.val t.isLt).2.2.2 = addf (shapeCast S1x128 k0_pay75 shapeCasts_S1x128_S1x128) (tG m c t) := by
  rw [outsAt0_A m c t h0]
  frame_out
  rfl

theorem out8_B (h0 : ¬ t.val % 16 = 0) : (outsAt0 m c t.val t.isLt).2.2.2
    = addf (shapeCast S1x128 (outsAt0 m c (t.val - 1) (Nat.lt_of_le_of_lt (Nat.sub_le _ _) t.isLt)).2.2.2 shapeCasts_S1x128_S1x128) (tG m c t) := by
  rw [outsAt0_B m c t h0]
  frame_out
  rfl

end Cert.Kernel3Ideal.Hand

end
-- ==== Proof.XaFinal.lean ====
/-
  The four arrays the cross-attention's gradient leaves: a row's gradient by rows, the others as sums over all rows.
-/
module

public import proofs.«01_k».proof.Proof.XaOut

@[expose] public section

set_option maxRecDepth 16384

noncomputable section

namespace Cert.Kernel3Ideal.Hand

open Cert.Kernel3Ideal Cert.Kernel3Ideal.Gen
open Cert.Xa (col col_surj)
open Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by entries -/

abbrev argX (r : Fin 8192) (y : Fin 512) : EReal := (show FVec Ideal S8192x512 .f32 from m ((c.tc : Thread nD τ).loc main_arg0)) (ix2 r y)
abbrev argD (r : Fin 8192) (y : Fin 512) : EReal := (show FVec Ideal S8192x512 .f32 from m ((c.tc : Thread nD τ).loc main_arg4)) (ix2 r y)
abbrev argG (e : Fin 128) : EReal := (show FVec Ideal S128 .f32 from m ((c.tc : Thread nD τ).loc main_arg1)) (ix1 e)
abbrev argK (j : Fin 256) (y : Fin 512) : EReal := (show FVec Ideal S256x512 .f32 from m ((c.tc : Thread nD τ).loc main_arg2)) (ix2 j y)
abbrev argV (j : Fin 256) (y : Fin 512) : EReal := (show FVec Ideal S256x512 .f32 from m ((c.tc : Thread nD τ).loc main_arg3)) (ix2 j y)

theorem entry_g : V m c main_v0 = shapeCast (s := S128) S1x128 (m ((c.tc : Thread nD τ).loc main_arg1)) shapeCasts_S128_S1x128 := by entry_read; rfl
theorem entry_k : V m c main_v1 = truncf (F := Ideal) (s := S256x512) (φ := .f32) .bf16 (m ((c.tc : Thread nD τ).loc main_arg2)) bitsLt_bf16_f32 := by entry_read; rfl
theorem entry_v : V m c main_v2 = truncf (F := Ideal) (s := S256x512) (φ := .f32) .bf16 (m ((c.tc : Thread nD τ).loc main_arg3)) bitsLt_bf16_f32 := by entry_read; rfl

theorem idx : ∀ t : Fin cfg0.N, win0_0.index t 0 = t.val ∧ win0_1.index t 0 = t.val ∧ win0_5.index t 0 = t.val ∧ win0_0.index t 1 = 0
    ∧ win0_1.index t 1 = 0 ∧ win0_2.index t 0 = 0 ∧ win0_2.index t 1 = 0 ∧ win0_3.index t 0 = 0 ∧ win0_3.index t 1 = 0 ∧ win0_4.index t 0 = 0
    ∧ win0_4.index t 1 = 0 ∧ win0_5.index t 1 = 0 ∧ win0_6.index t 0 = 0 ∧ win0_6.index t 1 = 0 ∧ win0_7.index t 0 = 0 ∧ win0_7.index t 1 = 0
    ∧ win0_8.index t 0 = 0 ∧ win0_8.index t 1 = 0 :=
  (by decide +kernel : ∀ t : Fin grid0.N, _)

variable (t : Fin cfg0.N)

/-- Row `i` of the block at a point. -/
def brow (i : Fin 512) : Fin 8192 := ⟨t.val * 512 + i.val, by have := lt_of_lt_of_eq t.isLt N_0; omega⟩

theorem blk_x (i : Fin 512) : rowAt (iblk m c 0 t) i = argX m c (brow t i) := by
  funext y
  have h := idx t
  show V m c main_arg0 _ = _
  rw [V_main_arg0]
  refine congrArg (m ((c.tc : Thread nD τ).loc main_arg0)) ?_
  blk_ext [h, brow]

theorem blk_d (i : Fin 512) : rowAt (iblk m c 1 t) i = argD m c (brow t i) := by
  funext y
  have h := idx t
  show V m c main_arg4 _ = _
  rw [V_main_arg4]
  refine congrArg (m ((c.tc : Thread nD τ).loc main_arg4)) ?_
  blk_ext [h, brow]

theorem blk_g : gainAt (iblk m c 2 t) = argG m c := by
  funext e
  have h := idx t
  have e1 : (iblk m c 2 t : FVec Ideal S1x128 .f32) (ix2 0 e) = (V m c main_v0 : FVec Ideal S1x128 .f32) (ix2 0 e) := by
    refine congrArg (V m c main_v0) ?_
    blk_ext [h]
  refine e1.trans ?_
  rw [entry_g]
  pointwise []

theorem blk_k : keyAt (iblk m c 3 t) = argK m c := by
  funext j y
  have h := idx t
  have e1 : (iblk m c 3 t : FVec Ideal S256x512 .bf16) (ix2 j y) = (V m c main_v1 : FVec Ideal S256x512 .bf16) (ix2 j y) := by
    refine congrArg (V m c main_v1) ?_
    blk_ext [h]
  refine e1.trans ?_
  rw [entry_k]
  rfl

theorem blk_v : keyAt (iblk m c 4 t) = argV m c := by
  funext j y
  have h := idx t
  have e1 : (iblk m c 4 t : FVec Ideal S256x512 .bf16) (ix2 j y) = (V m c main_v2 : FVec Ideal S256x512 .bf16) (ix2 j y) := by
    refine congrArg (V m c main_v2) ?_
    blk_ext [h]
  refine e1.trans ?_
  rw [entry_v]
  rfl

/-! ## The four arrays -/

theorem rows_sum (f : Fin 8192 → EReal) : (∑ t : Fin 16, ∑ i : Fin 512, f ⟨t.val * 512 + i.val, by omega⟩) = ∑ r, f r :=
  Fin.sum_mul_add_congr fun _ _ _ => rfl

/-- The gradient of the queries. -/
def gradQ : FVec Ideal S8192x512 .bf16 := fun i => Xa.byCol (Xa.rQ (argX m c (i 0)) (argD m c (i 0)) (argG m c) (argK m c) (argV m c)) (i 1)

theorem finalQ : (dats m 0 c).arrAt 5 cfg0.N = gradQ m c := by
  refine (dats m 0 c).arrAt_eq_of_covers 5 _ (by decide +kernel) fun t _ y => ?_
  have hi := idx t
  blk_simp
  rw [after0_5, out5]
  obtain ⟨i, z, rfl⟩ : ∃ (i : Fin 512) (z : Fin 512), y = ix2 i z := ⟨y 0, y 1, eq_ix2 y⟩
  have he : (win0_5.blk t).view.emb (ix2 i z : S512x512.Idx) = (ix2 (brow t i) z : S8192x512.Idx) := by blk_ext [hi, brow]
  obtain ⟨h, e, rfl⟩ := col_surj z
  refine Eq.trans (bQ_at _ _ _ _ _ h i e) ?_
  rw [blk_x, blk_d, blk_g, blk_k, blk_v]
  refine Eq.trans ?_ (congrArg (gradQ m c) he).symm
  exact (Xa.byCol_col _ h e).symm

theorem zero73 (i : S256x512.Idx) : shapeCast S256x512 (k0_pay73 (F := Ideal)) shapeCasts_S256x512_S256x512 i = 0 := by
  obtain ⟨j, z, rfl⟩ : ∃ (j : Fin 256) (z : Fin 512), i = ix2 j z := ⟨i 0, i 1, eq_ix2 i⟩
  pointwise [k0_pay73]

theorem zero75 (i : S1x128.Idx) : shapeCast S1x128 (k0_pay75 (F := Ideal)) shapeCasts_S1x128_S1x128 i = 0 := by
  obtain ⟨j, z, rfl⟩ : ∃ (j : Fin 1) (z : Fin 128), i = ix2 j z := ⟨i 0, i 1, eq_ix2 i⟩
  pointwise [k0_pay75]

theorem same256 (v : FVec Ideal S256x512 .f32) : shapeCast S256x512 v shapeCasts_S256x512_S256x512 = v := by
  funext i
  obtain ⟨j, z, rfl⟩ : ∃ (j : Fin 256) (z : Fin 512), i = ix2 j z := ⟨i 0, i 1, eq_ix2 i⟩
  pointwise []

theorem same1 (v : FVec Ideal S1x128 .f32) : shapeCast S1x128 v shapeCasts_S1x128_S1x128 = v := by
  funext i
  obtain ⟨j, z, rfl⟩ : ∃ (j : Fin 1) (z : Fin 128), i = ix2 j z := ⟨i 0, i 1, eq_ix2 i⟩
  pointwise []

/-- A sum of the points' shares is the sum over the rows. -/
theorem points_sum (t : Fin cfg0.N) (ht : t.val % 16 = 15) (f : Fin cfg0.N → EReal) (F : Fin 8192 → EReal) (hf : ∀ t, f t = ∑ i, F (brow t i)) :
    (∑ s : Fin 16, f ⟨16 * (t.val / 16) + s.val, Pipeline.run_point_lt_of_flush t ht s⟩) = ∑ r, F r := by
  have hN := lt_of_lt_of_eq t.isLt N_0
  rw [← rows_sum]
  refine Fintype.sum_congr _ _ fun s => (hf _).trans (Fintype.sum_congr _ _ fun i => congrArg F (Fin.ext ?_))
  show (16 * (t.val / 16) + s.val) * 512 + i.val = s.val * 512 + i.val
  omega

/-- The gradient of the keys. -/
def gradK : FVec Ideal S256x512 .f32 :=
  fun i => Xa.byCol (fun h e => ∑ r, Xa.rK (argX m c r) (argD m c r) (argG m c) (argK m c) (argV m c) h (i 0) e) (i 1)

theorem finalK : (dats m 0 c).arrAt 6 cfg0.N = gradK m c := by
  refine (dats m 0 c).arrAt_eq_of_covers 6 _ (by decide +kernel) fun t hf y => ?_
  have hi := idx t
  have ht := (flush0_6 t).1 hf
  blk_simp
  rw [after0_6, Pipeline.eq_sum_fin_of_reset_step_apply_of_flush (fun n h => (outsAt0 m c n h).2.1) 16 (fun _ => 0) (fun p => tK m c p)
    (fun t h j => by rw [out6_A m c t h]; exact congrArg (· + tK m c t j) (zero73 j)) (fun t h j => by rw [out6_B m c t h, same256]; rfl)
    t ht _, zero_add]
  obtain ⟨j, z, rfl⟩ : ∃ (j : Fin 256) (z : Fin 512), y = ix2 j z := ⟨y 0, y 1, eq_ix2 y⟩
  have he : (win0_6.blk t).view.emb (ix2 j z : S256x512.Idx) = (ix2 j z : S256x512.Idx) := by blk_ext [hi]
  obtain ⟨h, e, rfl⟩ := col_surj z
  refine Eq.trans (points_sum t ht (fun p => tK m c p (ix2 j (col h e)))
    (fun r => Xa.rK (argX m c r) (argD m c r) (argG m c) (argK m c) (argV m c) h j e) fun p => ?_) ?_
  · refine Eq.trans (bK_at _ _ _ _ _ h j e) ?_
    rw [blk_g, blk_k, blk_v]
    simp only [blk_x, blk_d]
  · refine Eq.trans ?_ (congrArg (gradK m c) he).symm
    exact (Xa.byCol_col (fun h e => ∑ r, Xa.rK (argX m c r) (argD m c r) (argG m c) (argK m c) (argV m c) h j e) h e).symm

/-- The gradient of the values. -/
def gradV : FVec Ideal S256x512 .f32 :=
  fun i => Xa.byCol (fun h e => ∑ r, Xa.rV (argX m c r) (argD m c r) (argG m c) (argK m c) h (i 0) e) (i 1)

theorem finalV : (dats m 0 c).arrAt 7 cfg0.N = gradV m c := by
  refine (dats m 0 c).arrAt_eq_of_covers 7 _ (by decide +kernel) fun t hf y => ?_
  have hi := idx t
  have ht := (flush0_7 t).1 hf
  blk_simp
  rw [after0_7, Pipeline.eq_sum_fin_of_reset_step_apply_of_flush (fun n h => (outsAt0 m c n h).2.2.1) 16 (fun _ => 0) (fun p => tV m c p)
    (fun t h j => by rw [out7_A m c t h]; exact congrArg (· + tV m c t j) (zero73 j)) (fun t h j => by rw [out7_B m c t h, same256]; rfl)
    t ht _, zero_add]
  obtain ⟨j, z, rfl⟩ : ∃ (j : Fin 256) (z : Fin 512), y = ix2 j z := ⟨y 0, y 1, eq_ix2 y⟩
  have he : (win0_7.blk t).view.emb (ix2 j z : S256x512.Idx) = (ix2 j z : S256x512.Idx) := by blk_ext [hi]
  obtain ⟨h, e, rfl⟩ := col_surj z
  refine Eq.trans (points_sum t ht (fun p => tV m c p (ix2 j (col h e)))
    (fun r => Xa.rV (argX m c r) (argD m c r) (argG m c) (argK m c) h j e) fun p => ?_) ?_
  · refine Eq.trans (bV_at _ _ _ _ h j e) ?_
    rw [blk_g, blk_k]
    simp only [blk_x, blk_d]
  · refine Eq.trans ?_ (congrArg (gradV m c) he).symm
    exact (Xa.byCol_col (fun h e => ∑ r, Xa.rV (argX m c r) (argD m c r) (argG m c) (argK m c) h j e) h e).symm

/-- The gradient of the gain. -/
def gradG : FVec Ideal S1x128 .f32 := fun i => ∑ r, ∑ h, Xa.rG (argX m c r) (argD m c r) (argG m c) (argK m c) (argV m c) h (i 1)

theorem finalG : (dats m 0 c).arrAt 8 cfg0.N = gradG m c := by
  refine (dats m 0 c).arrAt_eq_of_covers 8 _ (by decide +kernel) fun t hf y => ?_
  have hi := idx t
  have ht := (flush0_8 t).1 hf
  blk_simp
  rw [after0_8, Pipeline.eq_sum_fin_of_reset_step_apply_of_flush (fun n h => (outsAt0 m c n h).2.2.2) 16 (fun _ => 0) (fun p => tG m c p)
    (fun t h j => by rw [out8_A m c t h]; exact congrArg (· + tG m c t j) (zero75 j)) (fun t h j => by rw [out8_B m c t h, same1]; rfl)
    t ht _, zero_add]
  obtain ⟨e, rfl⟩ : ∃ e : Fin 128, y = ix2 0 e := ⟨y 1, (eq_ix2 y).trans (congrArg (fun a => ix2 a (y 1)) (Subsingleton.elim (α := Fin 1) _ _))⟩
  have he : (win0_8.blk t).view.emb (ix2 0 e : S1x128.Idx) = (ix2 0 e : S1x128.Idx) := by blk_ext [hi]
  refine Eq.trans (points_sum t ht (fun p => tG m c p (ix2 0 e))
    (fun r => ∑ h, Xa.rG (argX m c r) (argD m c r) (argG m c) (argK m c) (argV m c) h e) fun p => ?_) (congrArg (gradG m c) he).symm
  refine Eq.trans (bG_at _ _ _ _ _ e) ?_
  rw [blk_g, blk_k, blk_v, Finset.sum_comm]
  simp only [blk_x, blk_d]

end Cert.Kernel3Ideal.Hand

end
-- ==== Proof.XaRef.lean ====
/-
  The reference's cross-attention gradient: each of its lines, row by row and head by head.
-/
module

public import proofs.«01_k».proof.Proof.Gen.Reference3Ideal.Read
public import proofs.«01_k».proof.Proof.XaModel
public import proofs.«01_k».proof.Proof.Window

@[expose] public section

set_option maxRecDepth 16384

noncomputable section

namespace Cert.Reference3Ideal.Hand

open Cert.Reference3Ideal Cert.Reference3Ideal.Gen Cert.Reference3Ideal.Read Cert.Xa
open Idealize.ShloMosaic Idealize.ShloMosaic.TcCoe

/-- A sum over several axes, by an enumeration of what it sums. -/
theorem reduce_over {s t : Shape} {axes : List (Fin s.rank)} (h : s.ReducesTo axes t) (x : s.Idx → EReal) (a : EReal) (j : t.Idx) {K : Type*} [Fintype K]
    (f : K → s.Idx) (g : s.Idx → K) (hg : ∀ k, g (f k) = k) (hd : ∀ k, h.drop (f k) = j) (hi : ∀ i, h.drop i = j → f (g i) = i) :
    Ideal.hostReduceAdd h x a j = a + ∑ k, x (f k) :=
  congrArg (a + ·) (Finset.sum_bij' (fun i _ => g i) (fun k _ => f k) (fun _ _ => Finset.mem_univ _)
    (fun k _ => Finset.mem_filter.2 ⟨Finset.mem_univ _, hd k⟩) (fun i hm => hi i (Finset.mem_filter.1 hm).2) (fun k _ => hg k)
    (fun i hm => congrArg x (hi i (Finset.mem_filter.1 hm).2).symm))

section Lines

variable (x0 : FVec Ideal S8192x512 .f32) (x1 : FVec Ideal S128 .f32) (x2 x3 : FVec Ideal S256x512 .f32) (x4 : FVec Ideal S8192x512 .f32)

abbrev row (r : Fin 8192) : Fin 512 → EReal := fun y => x0 (ix2 r y)
abbrev keys : Fin 256 → Fin 512 → EReal := fun j y => x2 (ix2 j y)
abbrev gain : Fin 128 → EReal := fun e => x1 (ix1 e)

variable (r : Fin 8192) (h : Fin 4) (e : Fin 128) (j : Fin 256)

theorem col_comm (h : Fin 4) (e : Fin 128) (p : h.val * 128 + e.val < 512) : (⟨h.val * 128 + e.val, p⟩ : Fin 512) = col h e :=
  Fin.ext (by show h.val * 128 + e.val = 128 * h.val + e.val; omega)

theorem v0 : val_main_v0 (F := Ideal) x0 (ix4 0 r h e) = row x0 r (col h e) := by
  pointwise [val_main_v0]
  rw [col_comm]

theorem v1 : val_main_v1 (F := Ideal) x2 (ix4 0 j h e) = keys x2 j (col h e) := by
  pointwise [val_main_v1]
  rw [col_comm]

theorem v2 : val_main_v2 (F := Ideal) x3 (ix4 0 j h e) = keys x3 j (col h e) := by
  pointwise [val_main_v2]
  rw [col_comm]

theorem v9 : val_main_v9 (F := Ideal) x0 (ix4 0 r h 0) = meansq fun e => row x0 r (col h e) := by
  pointwise [val_main_v9, val_main_v8, val_main_v7, val_main_v6, val_main_v5, val_main_v4, val_main_v3, val_main_cst, val_main_cst_0, val_main_cst_1]
  simp only [v0]
  rfl

theorem v10 : val_main_v10 (F := Ideal) x0 (ix4 0 r h 0) = inv fun e => row x0 r (col h e) := by
  pointwise [val_main_v10]
  rw [v9]
  rfl

theorem v15 : val_main_v15 (F := Ideal) x0 (ix4 0 r h e) = row x0 r (col h e) * inv fun e => row x0 r (col h e) := by
  pointwise [val_main_v15, val_main_v14]
  rw [v0, v10]

theorem v18 : val_main_v18 (F := Ideal) x0 x1 (ix4 0 r h e) = rNorm (row x0 r) (gain x1) h e := by
  pointwise [val_main_v18, val_main_v17, val_main_v16]
  rw [v15]
  rfl

theorem v21 : val_main_v21 (F := Ideal) x0 x1 x2 (ix4 0 h r j) = rScore (row x0 r) (gain x1) (keys x2) h j := by
  pointwise [val_main_v21, val_main_v20, val_main_v19, val_main_cst_3]
  simp only [v18, v1]
  unfold rScore score
  rfl

theorem low_word : Ideal.ofBits .f32 4286578688#32 = (⊥ : EReal) := by simp [Ideal.ofBits, Ideal.ieee]

theorem v22 : val_main_v22 (F := Ideal) x0 x1 x2 (ix3 0 h r) = top (rScore (row x0 r) (gain x1) (keys x2) h) := by
  pointwise [val_main_v22, val_main_cst_4]
  simp only [v21, low_word]
  rfl

theorem v29 : val_main_v29 (F := Ideal) x0 x1 x2 (ix3 0 h r) = top (rScore (row x0 r) (gain x1) (keys x2) h) := by
  rw [val_main_v29_apply, val_main_v28_apply, val_main_cst_6_apply, v22]
  exact (congrArg (max · _) low_word).trans (max_bot_left _)

theorem v42 : val_main_v42 (F := Ideal) x0 x1 x2 (ix4 0 h r j) = num (rScore (row x0 r) (gain x1) (keys x2) h) j := by
  pointwise [val_main_v42, val_main_v41, val_main_v40, val_main_v39]
  rw [v21, v29]
  rfl

theorem v44 : val_main_v44 (F := Ideal) x0 x1 x2 (ix4 0 h r 0) = ∑ j, num (rScore (row x0 r) (gain x1) (keys x2) h) j := by
  pointwise [val_main_v44, val_main_v43, val_main_cst_12]
  simp only [v42]

theorem v46 : val_main_v46 (F := Ideal) x0 x1 x2 (ix4 0 h r j) = prob (rScore (row x0 r) (gain x1) (keys x2) h) j := by
  pointwise [val_main_v46, val_main_v45]
  rw [v42, v44]
  rfl

theorem v54 : val_main_v54 (F := Ideal) x4 (ix4 0 h e r) = row x4 r (col h e) := by
  pointwise [val_main_v54, val_main_v53]
  rw [col_comm]

theorem v55 : val_main_v55 (F := Ideal) x3 x4 (ix4 0 h r j) = rDprob (row x4 r) (keys x3) h j := by
  pointwise [val_main_v55]
  simp only [v54, v2]
  rfl

theorem v60 : val_main_v60 (F := Ideal) x0 x1 x2 x3 x4 (ix4 0 h r j)
    = rDprob (row x4 r) (keys x3) h j
      * Ideal.div 1 ((∑ j', num (rScore (row x0 r) (gain x1) (keys x2) h) j') * ∑ j', num (rScore (row x0 r) (gain x1) (keys x2) h) j')
      * num (rScore (row x0 r) (gain x1) (keys x2) h) j := by
  pointwise [val_main_v60, val_main_v59, val_main_v58, val_main_v49, val_main_v48, val_main_v47, val_main_cst_13]
  rw [v55, v44, v42]

theorem v67 : val_main_v67 (F := Ideal) x0 x1 x2 x3 x4 (ix3 0 h r) = -∑ j, val_main_v60 (F := Ideal) x0 x1 x2 x3 x4 (ix4 0 h r j) := by
  pointwise [val_main_v67, val_main_v66]
  rw [reduce_over (K := Unit) _ _ _ _ (fun _ => ix4 0 h r 0) (fun _ => ()) (fun _ => rfl) (fun _ => by funext b; fin_cases b <;> rfl)
    (fun i hi => by
      have h1 : i 1 = h := congrFun hi 0
      have h2 : i 2 = r := congrFun hi 1
      rw [eq_ix4 i, h1, h2, Subsingleton.elim (α := Fin 1) (i 0) 0, Subsingleton.elim (α := Fin 1) (i 3) 0])]
  pointwise [val_main_v63, val_main_v62, val_main_v61, val_main_cst_14, val_main_cst_15]
  exact Fintype.sum_unique _

theorem v72 : val_main_v72 (F := Ideal) x0 x1 x2 x3 x4 (ix4 0 h r j)
    = dscore' (rScore (row x0 r) (gain x1) (keys x2) h) (rDprob (row x4 r) (keys x3) h) j := by
  pointwise [val_main_v72, val_main_v71, val_main_v70, val_main_v69, val_main_v68, val_main_v65, val_main_v64, val_main_cst_16]
  rw [v67, v55, v44, v42]
  simp only [v60]
  unfold dscore'
  rfl

/-- The arguments are real. -/
structure Real : Prop where
  x : ∀ r y, ∃ a : ℝ, x0 (ix2 r y) = a
  g : ∀ e, ∃ a : ℝ, x1 (ix1 e) = a
  k : ∀ j y, ∃ a : ℝ, x2 (ix2 j y) = a
  v : ∀ j y, ∃ a : ℝ, x3 (ix2 j y) = a
  d : ∀ r y, ∃ a : ℝ, x4 (ix2 r y) = a

variable {x0 x1 x2 x3 x4} (A : Real x0 x1 x2 x3 x4)

include A in
theorem scores_real : ∃ s p : Fin 256 → ℝ, rScore (row x0 r) (gain x1) (keys x2) h = (fun j => (s j : EReal)) ∧ rDprob (row x4 r) (keys x3) h = fun j => (p j : EReal) := by
  obtain ⟨hx, hg, hk, hv, hd⟩ := A
  choose x hx using hx
  choose g hg using hg
  choose k hk using hk
  choose v hv using hv
  choose d hd using hd
  obtain ⟨q, hq⟩ := normed_real (fun e => x r (col h e)) g
  obtain ⟨s, hs⟩ := score_real q fun j e => k j (col h e)
  refine ⟨s, _, ?_, (?_ : _ = _).trans (dprob_real (fun e => d r (col h e)) fun j e => v j (col h e))⟩
  · unfold rScore rNorm
    simp only [hx, hg, hk]
    rw [show gain x1 = fun e => (g e : EReal) from funext hg, hq, hs]
  · unfold rDprob
    simp only [hd, hv]

include A in
theorem dscores : val_main_v72 (F := Ideal) x0 x1 x2 x3 x4 (ix4 0 h r j) = rDscore (row x0 r) (row x4 r) (gain x1) (keys x2) (keys x3) h j := by
  obtain ⟨s, p, hs, hp⟩ := scores_real r h A
  rw [v72]
  unfold rDscore
  rw [hs, hp]
  exact dscore_eq s p j

theorem at_col (y : Fin 512) (f : Fin 512 → EReal) (g : Fin 4 → Fin 128 → EReal) (hf : ∀ h e, f (col h e) = g h e) : f y = byCol g y := by
  obtain ⟨h, e, rfl⟩ := col_surj y
  rw [hf, byCol_col]

theorem fst_col (p : (col h e).val / 128 < 4) : (⟨(col h e).val / 128, p⟩ : Fin 4) = h :=
  Fin.ext (by have := e.isLt; show (128 * h.val + e.val) / 128 = h.val; omega)

theorem snd_col (p : (col h e).val % 128 < 128) : (⟨(col h e).val % 128, p⟩ : Fin 128) = e :=
  Fin.ext (by have := e.isLt; show (128 * h.val + e.val) % 128 = e.val; omega)

/-- The gradient of the values. -/
theorem v98 : val_main_v98 (F := Ideal) x0 x1 x2 x4 (ix2 j (col h e)) = ∑ r, rV (row x0 r) (row x4 r) (gain x1) (keys x2) h j e := by
  pointwise [val_main_v98, val_main_v57, val_main_v56]
  simp only [fst_col, snd_col, v54, v46]
  exact Fintype.sum_congr _ _ fun r => mul_comm _ _

include A in
/-- The gradient of the keys. -/
theorem v99 : val_main_v99 (F := Ideal) x0 x1 x2 x3 x4 (ix2 j (col h e)) = ∑ r, rK (row x0 r) (row x4 r) (gain x1) (keys x2) (keys x3) h j e := by
  pointwise [val_main_v99, val_main_v74, val_main_v73]
  simp only [fst_col, snd_col, dscores _ _ _ A, v18]
  rfl

include A in
theorem v76 : val_main_v76 (F := Ideal) x0 x1 x2 x3 x4 (ix4 0 r h e) = rBack (row x0 r) (row x4 r) (gain x1) (keys x2) (keys x3) h e := by
  pointwise [val_main_v76, val_main_v75]
  simp only [dscores _ _ _ A, v1]
  rfl

include A in
/-- The gradient of the gain. -/
theorem v82 : val_main_v82 (F := Ideal) x0 x1 x2 x3 x4 (ix1 e) = ∑ r, ∑ h, rG (row x0 r) (row x4 r) (gain x1) (keys x2) (keys x3) h e := by
  have one : val_main_v78 (F := Ideal) x0 x1 x2 x3 x4 (ix2 0 e) = ∑ r, ∑ h, rG (row x0 r) (row x4 r) (gain x1) (keys x2) (keys x3) h e := by
    pointwise [val_main_v78]
    rw [reduce_over (K := Fin 8192 × Fin 4) reducesTo_S1x8192x4x128_S1x128_d1_2 _ _ (ix2 0 e) (fun k => ix4 0 k.1 k.2 e) (fun i => (i 1, i 2)) (fun _ => rfl)
      (fun k => by funext b; exact match b with | ⟨0, _⟩ => rfl | ⟨1, _⟩ => rfl)
      (fun i hi => by
        have h3 : i 3 = e := congrFun hi 1
        rw [eq_ix4 i, h3, Subsingleton.elim (α := Fin 1) (i 0) 0]; rfl)]
    rw [Fintype.sum_prod_type]
    pointwise [val_main_cst_17, val_main_v77]
    simp only [v15, v76 _ _ _ A]
    rfl
  pointwise [val_main_v82]
  rw [reduce_over (K := Unit) _ _ _ _ (fun _ => ix4 0 0 0 e) (fun _ => ()) (fun _ => rfl) (fun _ => by funext b; fin_cases b; rfl)
    (fun i hi => by
      have h3 : i 3 = e := congrFun hi 0
      rw [eq_ix4 i, h3, Subsingleton.elim (α := Fin 1) (i 0) 0, Subsingleton.elim (α := Fin 1) (i 1) 0, Subsingleton.elim (α := Fin 1) (i 2) 0])]
  pointwise [val_main_cst_18, val_main_v79]
  exact (Fintype.sum_unique _).trans one

include A in
theorem v90 : val_main_v90 (F := Ideal) x0 x1 x2 x3 x4 (ix4 0 r h 0)
    = pull (fun e => row x0 r (col h e)) (gain x1) (rBack (row x0 r) (row x4 r) (gain x1) (keys x2) (keys x3) h) := by
  pointwise [val_main_v90, val_main_v89, val_main_cst_20, val_main_v88, val_main_v85, val_main_v84, val_main_cst_19, val_main_v83, val_main_v81, val_main_v80, val_main_v16,
    val_main_v13, val_main_v12, val_main_cst_2, val_main_v11]
  simp only [v0, v76 _ _ _ A, v10, v9]
  rfl

include A in
theorem v94 : val_main_v91 (F := Ideal) x0 x1 x2 x3 x4 (ix2 r h)
    = pull (fun e => row x0 r (col h e)) (gain x1) (rBack (row x0 r) (row x4 r) (gain x1) (keys x2) (keys x3) h) := by
  pointwise [val_main_v91]
  rw [reduce_over (K := Unit) _ _ _ _ (fun _ => ix4 0 r h 0) (fun _ => ()) (fun _ => rfl) (fun _ => by funext b; fin_cases b <;> rfl)
    (fun i hi => by
      have h1 : i 1 = r := congrFun hi 0
      have h2 : i 2 = h := congrFun hi 1
      rw [eq_ix4 i, h1, h2, Subsingleton.elim (α := Fin 1) (i 0) 0, Subsingleton.elim (α := Fin 1) (i 3) 0])]
  pointwise [val_main_cst_21]
  exact (Fintype.sum_unique _).trans (v90 r h A)

include A in
/-- The gradient of the queries. -/
theorem v100 : val_main_v100 (F := Ideal) x0 x1 x2 x3 x4 (ix2 r (col h e)) = rQ (row x0 r) (row x4 r) (gain x1) (keys x2) (keys x3) h e := by
  pointwise [val_main_v100]
  simp only [fst_col, snd_col]
  pointwise [val_main_v97, val_main_v96, val_main_v95, val_main_v94, val_main_v93, val_main_v92, val_main_v87, val_main_v86, val_main_v81, val_main_v80, val_main_v16]
  rw [v76 _ _ _ A, v10, v0, v94 _ _ A]
  rfl

end Lines

end Cert.Reference3Ideal.Hand

end
-- ==== Proof.XaPre.lean ====
/-
  What the precondition of the cross-attention's gradient says: every entry of every argument is a real number.
-/
module

public import proofs.«01_k».proof.Pre_finite3
public import proofs.«01_k».proof.Proof.XaRef
public import proofs.«01_k».proof.Proof.SbPre

@[expose] public section

set_option maxRecDepth 16384

noncomputable section

namespace Cert.Proof.Finite3

open Idealize.ShloMosaic Cert.Pre_finite3
open Cert.Proof.Finite (real_of_one)

/-- The shapes' side conditions of the precondition. -/
theorem facts : Cert.Pre_finite3.Facts := by
  constructor <;> decide

instance : Subsingleton S_.Idx := ⟨fun a b => funext fun d => d.elim0⟩

/-- One array's part of the precondition. -/
theorem real_all {s : Shape} (x : FVec Ideal s .f32) (hb : S_.BroadcastsInDim s (![] : Fin 0 → Fin s.rank)) {axes : List (Fin s.rank)} (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) (i : s.Idx) :
    ∃ a : ℝ, x i = ((a : ℝ) : EReal) :=
  real_of_one (Host.reduce_andi_all _ _ hr hu j h i)

variable {x0 x4 : FVec Ideal S8192x512 .f32} {x1 : FVec Ideal S128 .f32} {x2 x3 : FVec Ideal S256x512 .f32}

/-- The arguments are real. -/
theorem args (h : letI := facts; fn (F := Ideal) x0 x1 x2 x3 x4 = fun _ => 1#1) : Cert.Reference3Ideal.Hand.Real x0 x1 x2 x3 x4 := by
  have h1 := congrFun h ix0
  unfold fn fn_part1 at h1
  obtain ⟨h0123, h4⟩ := IntOp.andi_eq_one.1 h1
  obtain ⟨h012, h3⟩ := IntOp.andi_eq_one.1 h0123
  obtain ⟨h01, h2⟩ := IntOp.andi_eq_one.1 h012
  obtain ⟨h0, h1⟩ := IntOp.andi_eq_one.1 h01
  exact ⟨fun r y => real_all x0 _ _ _ _ h0 (ix2 r y), fun e => real_all x1 _ _ _ _ h1 (ix1 e), fun j y => real_all x2 _ _ _ _ h2 (ix2 j y),
    fun j y => real_all x3 _ _ _ _ h3 (ix2 j y), fun r y => real_all x4 _ _ _ _ h4 (ix2 r y)⟩

end Cert.Proof.Finite3

end
-- ==== Proof.Xa.lean ====
/-
  The cross-attention's gradient: its frames and its value.
-/
module

public import proofs.«01_k».proof.Defs
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal.Run
public import proofs.«01_k».proof.Proof.Gen.Reference3Ideal.Run
public import proofs.«01_k».proof.Proof.XaFinal
public import proofs.«01_k».proof.Proof.XaPre

@[expose] public section

set_option maxRecDepth 16384

noncomputable section

namespace Cert.Kernel3Ideal.Hand

open Cert.Kernel3Ideal Cert.Kernel3Ideal.Gen Cert.Kernel3Ideal.Value
open Idealize.ShloMosaic Idealize.ShloMosaic.TcCoe
open Cert.Reference3Ideal.Read (val_main_v100 val_main_v82 val_main_v98 val_main_v99)

variable (m : (ℓ : Loc nD τ sig) → Buf (Elt Ideal) ℓ) (c : Dev nD)

variable (A : Cert.Reference3Ideal.Hand.Real (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)))

include A in
theorem meets_q : extf (F := Ideal) (s := S8192x512) (φ := .bf16) .f32 (reg_main_v3_0 m c) bitsLt_bf16_f32 = val_main_v100 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold reg_main_v3_0
  rw [finalQ]
  funext i
  obtain ⟨r, y, rfl⟩ : ∃ (r : Fin 8192) (y : Fin 512), i = ix2 r y := ⟨i 0, i 1, eq_ix2 i⟩
  obtain ⟨h, e, rfl⟩ := Xa.col_surj y
  exact (Xa.byCol_col _ h e).trans (Cert.Reference3Ideal.Hand.v100 r h e A).symm

include A in
theorem meets_g : shapeCast S128 (reg_main_v3_3 m c) shapeCasts_S1x128_S128 = val_main_v82 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold reg_main_v3_3
  rw [finalG]
  funext i
  obtain ⟨e, rfl⟩ : ∃ e : Fin 128, i = ix1 e := ⟨i 0, eq_ix1 i⟩
  refine Eq.trans ?_ (Cert.Reference3Ideal.Hand.v82 e A).symm
  pointwise [gradG]

include A in
theorem meets_k : reg_main_v3_1 m c = val_main_v99 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold reg_main_v3_1
  rw [finalK]
  funext i
  obtain ⟨r, y, rfl⟩ : ∃ (r : Fin 256) (y : Fin 512), i = ix2 r y := ⟨i 0, i 1, eq_ix2 i⟩
  obtain ⟨h, e, rfl⟩ := Xa.col_surj y
  exact (Xa.byCol_col _ h e).trans (Cert.Reference3Ideal.Hand.v99 h e r A).symm

theorem meets_v : reg_main_v3_2 m c = val_main_v98 (F := Ideal) (m ((c.tc : Thread nD τ).loc main_arg0)) (m ((c.tc : Thread nD τ).loc main_arg1))
    (m ((c.tc : Thread nD τ).loc main_arg2)) (m ((c.tc : Thread nD τ).loc main_arg4)) := by
  unfold reg_main_v3_2
  rw [finalV]
  funext i
  obtain ⟨r, y, rfl⟩ : ∃ (r : Fin 256) (y : Fin 512), i = ix2 r y := ⟨i 0, i 1, eq_ix2 i⟩
  obtain ⟨h, e, rfl⟩ := Xa.col_surj y
  exact (Xa.byCol_col _ h e).trans (Cert.Reference3Ideal.Hand.v98 h e r).symm

end Cert.Kernel3Ideal.Hand

namespace Cert.Proof

open Idealize.ShloMosaic Idealize.SL.Sem

theorem xa_frame_reference : Cert.quiescent_Reference3Ideal := fun m ρ _ =>
  (θ_run Cert.Reference3Ideal.defs _ _).mono
    (fun r h => ⟨fun c => (h c).2.2.2.2, sem_eq_zero_of_no_sems (by decide) r.2⟩) (Cert.Reference3Ideal.Value.run m ρ)

theorem xa_frame_finite : letI := Finite3.facts; Cert.quiescent_Kernel3Ideal_pre_finite3 := fun m ρ _ => Cert.Kernel3Ideal.Gen.frame m ρ

theorem xa_frame_reference_finite : letI := Finite3.facts; Cert.quiescent_Reference3Ideal_pre_finite3 := fun m ρ _ => xa_frame_reference m ρ trivial

/-- The gradients of the cross-attention, at finite arguments. -/
theorem xa_algebraic : letI := Finite3.facts; Cert.algebraic_Kernel3Ideal_Reference3Ideal_pre_finite3 := by
  intro m g m' g' hpre hagree
  refine ⟨_, _, _, _, Cert.Kernel3Ideal.Value.run m g, (θ_run _ _ _).mono (fun r h c => ?_) (Cert.Reference3Ideal.Value.run m' g')⟩
  obtain ⟨h0, h1, h2, h3, h4⟩ := h c
  obtain ⟨a0, a1, a2, a3, a4⟩ := hagree c
  have A := Finite3.args (hpre c)
  refine ⟨h0.trans ?_, h1.trans ?_, h2.trans ?_, h3.trans ?_, h4⟩
  · rw [Cert.Reference3Ideal.Read.val_main_v100_eq, a0, a1, a2, a3, a4]
    exact (Cert.Kernel3Ideal.Hand.meets_q m c A).symm
  · rw [Cert.Reference3Ideal.Read.val_main_v82_eq, a0, a1, a2, a3, a4]
    exact (Cert.Kernel3Ideal.Hand.meets_g m c A).symm
  · rw [Cert.Reference3Ideal.Read.val_main_v99_eq, a0, a1, a2, a3, a4]
    exact (Cert.Kernel3Ideal.Hand.meets_k m c A).symm
  · rw [Cert.Reference3Ideal.Read.val_main_v98_eq, a0, a1, a2, a4]
    exact (Cert.Kernel3Ideal.Hand.meets_v m c).symm

end Cert.Proof

end
-- ==== Proof.Norm.lean ====
/-
  The gradient of a root-mean-square norm with a gain, row by row, in the extended reals, at any width.
-/
module

public import Idealize.ShloMosaic.PureOps.Ideal.Laws

@[expose] public section

noncomputable section

namespace Cert.Norm

open Idealize.ShloMosaic

/-- What the norm adds to the mean square. -/
abbrev tiny : EReal := Ideal.ofBits .f32 0x358637BD#32
/-- Minus a half. -/
abbrev neghalf : EReal := Ideal.ofBits .f32 0xBF000000#32

variable {n : ℕ} (w : EReal) (x g u : Fin n → EReal)

def meansq : EReal := Ideal.div (∑ e, x e * x e) w + tiny
def inv : EReal := Ideal.rsqrt (meansq w x)
/-- The gain's share of a row. -/
def gainOf (e : Fin n) : EReal := x e * inv w x * u e
def pull : EReal := Ideal.div ((∑ e, x e * (u e * g e)) * (neghalf * Ideal.div (inv w x) (meansq w x))) w
/-- The row's own gradient. -/
def rowOf (e : Fin n) : EReal := u e * g e * inv w x + x e * pull w x g u + pull w x g u * x e

/-- What also reaches the row past the norm may be added first or last. -/
theorem rowOf_add (d : EReal) (e : Fin n) : d + u e * g e * inv w x + x e * pull w x g u + pull w x g u * x e = rowOf w x g u e + d := by
  unfold rowOf
  rw [add_comm _ d, ← add_assoc, ← add_assoc]

end Cert.Norm

end
-- ==== Proof.MixRef.lean ====
/-
  The reference's gradient of the first norm, line by line.
-/
module

public import proofs.«01_k».proof.Proof.Gen.Reference4Ideal.Read
public import proofs.«01_k».proof.Proof.Norm
public import Idealize.ShloMosaic.Lib.Pointwise

@[expose] public section

set_option maxRecDepth 16384

noncomputable section

namespace Cert.Reference4Ideal.Hand

open Cert.Reference4Ideal Cert.Reference4Ideal.Gen Cert.Reference4Ideal.Read Cert.Norm
open Idealize.ShloMosaic Idealize.ShloMosaic.TcCoe

/-- The width of the model. -/
abbrev width : EReal := Ideal.ofBits .f32 0x44800000#32

variable (x0 : FVec Ideal S8192x1024 .f32) (x1 : FVec Ideal S1024 .f32) (x2 x3 : FVec Ideal S8192x1024 .f32) (r : Fin 8192) (e : Fin 1024)

abbrev row (x : FVec Ideal S8192x1024 .f32) (r : Fin 8192) : Fin 1024 → EReal := fun e => x (ix2 r e)
abbrev gain (g : FVec Ideal S1024 .f32) : Fin 1024 → EReal := fun e => g (ix1 e)

theorem v6 : val_main_v6 (F := Ideal) x0 (ix2 r 0) = meansq width (row x0 r) := by
  pointwise [val_main_v6, val_main_v5, val_main_v4, val_main_v3, val_main_v2, val_main_v1, val_main_v0, val_main_cst, val_main_cst_0, val_main_cst_1]
  rfl

theorem v7 : val_main_v7 (F := Ideal) x0 (ix2 r 0) = inv width (row x0 r) := by
  pointwise [val_main_v7]
  rw [v6]
  rfl

theorem v12 : val_main_v12 (F := Ideal) x0 (ix2 r e) = row x0 r e * inv width (row x0 r) := by
  pointwise [val_main_v12, val_main_v11]
  rw [v7]

theorem v21 : val_main_v21 (F := Ideal) x0 x2 (ix1 e) = ∑ r, gainOf width (row x0 r) (row x2 r) e := by
  pointwise [val_main_v21, val_main_v18, val_main_v17, val_main_v16, val_main_cst_3, val_main_cst_4]
  simp only [Fin.sum_univ_one, v12]
  rfl

theorem v20 : val_main_v20 (F := Ideal) x1 x2 (ix2 r e) = row x2 r e * gain x1 e := by
  pointwise [val_main_v20, val_main_v19, val_main_v13]

theorem v31 : val_main_v31 (F := Ideal) x0 x1 x2 (ix1 r) = pull width (row x0 r) (gain x1) (row x2 r) := by
  pointwise [val_main_v31, val_main_v30, val_main_v29, val_main_v28, val_main_v24, val_main_v23, val_main_v22, val_main_v10, val_main_v9, val_main_v8,
    val_main_cst_2, val_main_cst_5, val_main_cst_6, val_main_cst_7]
  simp only [Fin.sum_univ_one, v20, v6, v7]
  rfl

theorem v36 : val_main_v36 (F := Ideal) x0 x1 x2 x3 (ix2 r e) = rowOf width (row x0 r) (gain x1) (row x2 r) e + row x3 r e := by
  pointwise [val_main_v36, val_main_v35, val_main_v34, val_main_v33, val_main_v32, val_main_v27, val_main_v26, val_main_v25]
  rw [v20, v7, v31]
  exact rowOf_add _ _ _ _ _ e

end Cert.Reference4Ideal.Hand

end
-- ==== Proof.Mix.lean ====
/-
  The gradient of the first norm: what the kernel leaves, and that it is the reference's.
-/
module

public import proofs.«01_k».proof.Defs
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal.Run
public import proofs.«01_k».proof.Proof.Gen.Reference4Ideal.Run
public import proofs.«01_k».proof.Proof.MixRef
public import Idealize.ShloMosaic.Lib.Pipeline.ValueKit

@[expose] public section

set_option maxRecDepth 16384

noncomputable section

namespace Cert.Kernel4Ideal.Hand

open Cert.Kernel4Ideal Cert.Kernel4Ideal.Gen
open Cert.Reference4Ideal.Hand (width row gain)
open Cert.Norm (meansq inv gainOf pull rowOf)
open Idealize.ShloMosaic Idealize.ShloMosaic.TcCoe Idealize.SL.Sem
open Idealize.ShloMosaic.Pipeline (Dat)

section Block

variable (x u d : FVec Ideal S1024x1024 .f32) (g : FVec Ideal S1x1024 .f32) (i e : Fin 1024)

/-- A row of a block. -/
abbrev rowAt (x : FVec Ideal S1024x1024 .f32) (i : Fin 1024) : Fin 1024 → EReal := fun e => x (ix2 i e)
abbrev gainAt (g : FVec Ideal S1x1024 .f32) : Fin 1024 → EReal := fun e => g (ix2 0 e)

theorem pay3_at : k0_pay3 (F := Ideal) x (ix2 i 0 : S1024x1.Idx) = meansq width (rowAt x i) := by
  pointwise [k0_pay3]
  rfl

theorem pay4_at : k0_pay4 (F := Ideal) x (ix2 i 0 : S1024x1.Idx) = inv width (rowAt x i) := by
  pointwise [k0_pay4]
  rw [pay3_at]
  rfl

theorem pay5_at : k0_pay5 (F := Ideal) x u (ix2 0 e : S1x1024.Idx) = ∑ i, gainOf width (rowAt x i) (rowAt u i) e := by
  pointwise [k0_pay5]
  simp only [pay4_at]
  rfl

theorem pay6_at : k0_pay6 (F := Ideal) x u d g (ix2 i e : S1024x1024.Idx) = rowOf width (rowAt x i) (gainAt g) (rowAt u i) e + rowAt d i e := by
  pointwise [k0_pay6]
  simp only [Fin.sum_univ_one, pay4_at, pay3_at]
  rfl

end Block

variable (m : (ℓ : Loc nD τ sig) → Buf (Elt Ideal) ℓ) (c : Dev nD)

abbrev argX : FVec Ideal S8192x1024 .f32 := m ((c.tc : Thread nD τ).loc main_arg0)
abbrev argG : FVec Ideal S1024 .f32 := m ((c.tc : Thread nD τ).loc main_arg1)
abbrev argU : FVec Ideal S8192x1024 .f32 := m ((c.tc : Thread nD τ).loc main_arg2)
abbrev argD : FVec Ideal S8192x1024 .f32 := m ((c.tc : Thread nD τ).loc main_arg3)

theorem entry_g : V m c main_v0 = shapeCast (s := S1024) S1x1024 (argG m c) shapeCasts_S1024_S1x1024 := by entry_read; rfl

theorem idx : ∀ t : Fin cfg0.N, win0_0.index t 0 = t.val ∧ win0_1.index t 0 = t.val ∧ win0_2.index t 0 = t.val ∧ win0_4.index t 0 = t.val
    ∧ win0_0.index t 1 = 0 ∧ win0_1.index t 1 = 0 ∧ win0_2.index t 1 = 0 ∧ win0_4.index t 1 = 0 ∧ win0_3.index t 0 = 0 ∧ win0_3.index t 1 = 0
    ∧ win0_5.index t 0 = 0 ∧ win0_5.index t 1 = 0 :=
  (by decide +kernel : ∀ t : Fin grid0.N, _)

section Point

variable (t : Fin cfg0.N)

/-- Row `i` of the block at a point. -/
def brow (i : Fin 1024) : Fin 8192 := ⟨t.val * 1024 + i.val, by have := lt_of_lt_of_eq t.isLt N_0; omega⟩

theorem blk_x (i : Fin 1024) : rowAt (iblk m c 0 t) i = row (argX m c) (brow t i) := by
  funext y
  have h := idx t
  show V m c main_arg0 _ = _
  rw [V_main_arg0]
  refine congrArg (argX m c) ?_
  blk_ext [h, brow]

theorem blk_u (i : Fin 1024) : rowAt (iblk m c 1 t) i = row (argU m c) (brow t i) := by
  funext y
  have h := idx t
  show V m c main_arg2 _ = _
  rw [V_main_arg2]
  refine congrArg (argU m c) ?_
  blk_ext [h, brow]

theorem blk_d (i : Fin 1024) : rowAt (iblk m c 2 t) i = row (argD m c) (brow t i) := by
  funext y
  have h := idx t
  show V m c main_arg3 _ = _
  rw [V_main_arg3]
  refine congrArg (argD m c) ?_
  blk_ext [h, brow]

theorem blk_g : gainAt (iblk m c 3 t) = gain (argG m c) := by
  funext e
  have h := idx t
  have e1 : (iblk m c 3 t : FVec Ideal S1x1024 .f32) (ix2 0 e) = (V m c main_v0 : FVec Ideal S1x1024 .f32) (ix2 0 e) := by
    refine congrArg (V m c main_v0) ?_
    blk_ext [h]
  refine e1.trans ?_
  rw [entry_g]
  pointwise []

/-- A point's share of the gain's gradient. -/
abbrev tG : FVec Ideal S1x1024 .f32 := k0_pay5 (iblk m c 0 t) (iblk m c 1 t)

theorem out4 : (outsAt0 m c t.val t.isLt).1 = k0_pay6 (iblk m c 0 t) (iblk m c 1 t) (iblk m c 2 t) (iblk m c 3 t) := by
  by_cases h0 : t.val % 8 = 0
  · rw [outsAt0_A m c t h0]
    frame_out
  · rw [outsAt0_B m c t h0]
    frame_out

theorem out5_A (h0 : t.val % 8 = 0) : (outsAt0 m c t.val t.isLt).2 = addf (shapeCast S1x1024 k0_pay1 shapeCasts_S1x1024_S1x1024) (tG m c t) := by
  rw [outsAt0_A m c t h0]
  frame_out
  rfl

theorem out5_B (h0 : ¬ t.val % 8 = 0) : (outsAt0 m c t.val t.isLt).2
    = addf (shapeCast S1x1024 (outsAt0 m c (t.val - 1) (Nat.lt_of_le_of_lt (Nat.sub_le _ _) t.isLt)).2 shapeCasts_S1x1024_S1x1024) (tG m c t) := by
  rw [outsAt0_B m c t h0]
  frame_out
  rfl

/-- A sum of the points' shares is the sum over the rows. -/
theorem points_sum (ht : t.val % 8 = 7) (f : Fin cfg0.N → EReal) (F : Fin 8192 → EReal) (hf : ∀ t, f t = ∑ i, F (brow t i)) :
    (∑ s : Fin 8, f ⟨8 * (t.val / 8) + s.val, Pipeline.run_point_lt_of_flush t ht s⟩) = ∑ r, F r := by
  have hN := lt_of_lt_of_eq t.isLt N_0
  refine (Fintype.sum_congr _ _ fun s => hf _).trans (Fin.sum_mul_add_congr fun s i hl => congrArg F (Fin.ext ?_))
  show (8 * (t.val / 8) + s.val) * 1024 + i.val = s.val * 1024 + i.val
  omega

end Point

theorem final4 : (dats m 0 c).arrAt 4 cfg0.N = fun i : S8192x1024.Idx => rowOf width (row (argX m c) (i 0)) (gain (argG m c)) (row (argU m c) (i 0)) (i 1)
    + row (argD m c) (i 0) (i 1) := by
  refine (dats m 0 c).arrAt_eq_of_covers 4 _ (by decide +kernel) fun t _ y => ?_
  have hi := idx t
  blk_simp
  rw [after0_4, out4]
  obtain ⟨i, e, rfl⟩ : ∃ (i : Fin 1024) (e : Fin 1024), y = ix2 i e := ⟨y 0, y 1, eq_ix2 y⟩
  have he : (win0_4.blk t).view.emb (ix2 i e : S1024x1024.Idx) = (ix2 (brow t i) e : S8192x1024.Idx) := by blk_ext [hi, brow]
  refine Eq.trans (pay6_at _ _ _ _ i e) ?_
  rw [blk_x, blk_u, blk_d, blk_g]
  exact (congrArg (fun i : S8192x1024.Idx => rowOf width (row (argX m c) (i 0)) (gain (argG m c)) (row (argU m c) (i 0)) (i 1) + row (argD m c) (i 0) (i 1)) he).symm

theorem zero1 (i : S1x1024.Idx) : shapeCast S1x1024 (k0_pay1 (F := Ideal)) shapeCasts_S1x1024_S1x1024 i = 0 := by
  obtain ⟨j, z, rfl⟩ : ∃ (j : Fin 1) (z : Fin 1024), i = ix2 j z := ⟨i 0, i 1, eq_ix2 i⟩
  pointwise [k0_pay1]

theorem same1 (v : FVec Ideal S1x1024 .f32) : shapeCast S1x1024 v shapeCasts_S1x1024_S1x1024 = v := by
  funext i
  obtain ⟨j, z, rfl⟩ : ∃ (j : Fin 1) (z : Fin 1024), i = ix2 j z := ⟨i 0, i 1, eq_ix2 i⟩
  pointwise []

theorem final5 : (dats m 0 c).arrAt 5 cfg0.N = fun i : S1x1024.Idx => ∑ r, gainOf width (row (argX m c) r) (row (argU m c) r) (i 1) := by
  refine (dats m 0 c).arrAt_eq_of_covers 5 _ (by decide +kernel) fun t hf y => ?_
  have hi := idx t
  have ht := (flush0_5 t).1 hf
  blk_simp
  rw [after0_5, Pipeline.eq_sum_fin_of_reset_step_apply_of_flush (fun n h => (outsAt0 m c n h).2) 8 (fun _ => 0) (fun p => tG m c p)
    (fun t h j => by rw [out5_A m c t h]; exact congrArg (· + tG m c t j) (zero1 j)) (fun t h j => by rw [out5_B m c t h, same1]; rfl)
    t ht _, zero_add]
  obtain ⟨e, rfl⟩ : ∃ e : Fin 1024, y = ix2 0 e := ⟨y 1, (eq_ix2 y).trans (congrArg (fun a => ix2 a (y 1)) (Subsingleton.elim (α := Fin 1) _ _))⟩
  have he : (win0_5.blk t).view.emb (ix2 0 e : S1x1024.Idx) = (ix2 0 e : S1x1024.Idx) := by blk_ext [hi]
  refine Eq.trans (points_sum t ht (fun p => tG m c p (ix2 0 e)) (fun r => gainOf width (row (argX m c) r) (row (argU m c) r) e) fun p => ?_)
    (congrArg (fun i : S1x1024.Idx => ∑ r, gainOf width (row (argX m c) r) (row (argU m c) r) (i 1)) he).symm
  refine Eq.trans (pay5_at _ _ e) ?_
  simp only [blk_x, blk_u]

end Cert.Kernel4Ideal.Hand

namespace Cert.Proof

open Idealize.ShloMosaic Idealize.ShloMosaic.TcCoe Idealize.SL.Sem

theorem mix_frame_reference : Cert.quiescent_Reference4Ideal := fun m ρ _ =>
  (θ_run Cert.Reference4Ideal.defs _ _).mono
    (fun r h => ⟨fun c => (h c).2.2, sem_eq_zero_of_no_sems (by decide) r.2⟩) (Cert.Reference4Ideal.Value.run m ρ)

/-- The gradients of the first norm. -/
theorem mix_algebraic : Cert.algebraic_Kernel4Ideal_Reference4Ideal := by
  intro m g m' g' _ hagree
  refine ⟨_, _, Cert.Kernel4Ideal.Value.run m g, (θ_run _ _ _).mono (fun r h c => ?_) (Cert.Reference4Ideal.Value.run m' g')⟩
  obtain ⟨h0, h1, h2⟩ := h c
  obtain ⟨a0, a1, a2, a3⟩ := hagree c
  refine ⟨h0.trans ?_, h1.trans ?_, h2⟩
  · rw [Cert.Reference4Ideal.Read.val_main_v36_eq, a0, a1, a2, a3]
    unfold Cert.Kernel4Ideal.Value.reg_main_v1_0
    rw [Cert.Kernel4Ideal.Hand.final4]
    funext i
    obtain ⟨r, e, rfl⟩ : ∃ (r : Fin 8192) (e : Fin 1024), i = ix2 r e := ⟨i 0, i 1, eq_ix2 i⟩
    exact Cert.Reference4Ideal.Hand.v36 _ _ _ _ r e
  · rw [Cert.Reference4Ideal.Read.val_main_v21_eq, a0, a2]
    unfold Cert.Kernel4Ideal.Value.reg_main_v1_1
    rw [Cert.Kernel4Ideal.Hand.final5]
    funext i
    obtain ⟨e, rfl⟩ : ∃ e : Fin 1024, i = ix1 e := ⟨i 0, eq_ix1 i⟩
    refine (Cert.Reference4Ideal.Hand.v21 _ _ e).trans (Eq.symm ?_)
    pointwise []

end Cert.Proof

end
-- ==== Proof.OutRef.lean ====
/-
  The reference's gradient of the two norms of the mixers' outputs, line by line.
-/
module

public import proofs.«01_k».proof.Proof.Gen.Reference5Ideal.Read
public import proofs.«01_k».proof.Proof.Norm
public import Idealize.ShloMosaic.Lib.Pointwise

@[expose] public section

set_option maxRecDepth 16384

noncomputable section

namespace Cert.Reference5Ideal.Hand

open Cert.Reference5Ideal Cert.Reference5Ideal.Gen Cert.Reference5Ideal.Read Cert.Norm
open Idealize.ShloMosaic Idealize.ShloMosaic.TcCoe

/-- The width of a mixer. -/
abbrev width : EReal := Ideal.ofBits .f32 0x44000000#32

variable (x0 x1 : FVec Ideal S8192x512 .f32) (x2 x3 : FVec Ideal S512 .f32) (x4 : FVec Ideal S8192x1024 .f32) (r : Fin 8192) (e : Fin 512)

abbrev row (x : FVec Ideal S8192x512 .f32) (r : Fin 8192) : Fin 512 → EReal := fun e => x (ix2 r e)
abbrev gain (g : FVec Ideal S512 .f32) : Fin 512 → EReal := fun e => g (ix1 e)
abbrev left (x : FVec Ideal S8192x1024 .f32) (r : Fin 8192) : Fin 512 → EReal := fun e => x (ix2 r ⟨e.val, by omega⟩)
abbrev right (x : FVec Ideal S8192x1024 .f32) (r : Fin 8192) : Fin 512 → EReal := fun e => x (ix2 r ⟨512 + e.val, by omega⟩)

theorem v6 : val_main_v6 (F := Ideal) x0 (ix2 r 0) = meansq width (row x0 r) := by
  pointwise [val_main_v6, val_main_v5, val_main_v4, val_main_v3, val_main_v2, val_main_v1, val_main_v0, val_main_cst, val_main_cst_0, val_main_cst_1]
  rfl

theorem v7 : val_main_v7 (F := Ideal) x0 (ix2 r 0) = inv width (row x0 r) := by
  pointwise [val_main_v7]
  rw [v6]
  rfl

theorem v12 : val_main_v12 (F := Ideal) x0 (ix2 r e) = row x0 r e * inv width (row x0 r) := by
  pointwise [val_main_v12, val_main_v11]
  rw [v7]

theorem v33 : val_main_v33 (F := Ideal) x4 (ix2 r e) = left x4 r e := by
  pointwise [val_main_v33]

theorem v34 : val_main_v34 (F := Ideal) x4 (ix2 r e) = right x4 r e := by
  pointwise [val_main_v34]

/-- The second norm's lines are the first's. -/
theorem v22_eq : val_main_v22 (F := Ideal) x1 = val_main_v6 x1 := rfl
theorem v23_eq : val_main_v23 (F := Ideal) x1 = val_main_v7 x1 := rfl
theorem v28_eq : val_main_v28 (F := Ideal) x1 = val_main_v12 x1 := rfl

theorem v60 : val_main_v60 (F := Ideal) x0 x4 (ix1 e) = ∑ r, gainOf width (row x0 r) (left x4 r) e := by
  pointwise [val_main_v60, val_main_v57, val_main_v56, val_main_v55, val_main_cst_12, val_main_cst_13]
  simp only [Fin.sum_univ_one, v12, v33]
  rfl

theorem v40 : val_main_v40 (F := Ideal) x1 x4 (ix1 e) = ∑ r, gainOf width (row x1 r) (right x4 r) e := by
  pointwise [val_main_v40, val_main_v37, val_main_v36, val_main_v35, val_main_cst_7, val_main_cst_8]
  simp only [Fin.sum_univ_one, v28_eq, v12, v34]
  rfl

theorem v59 : val_main_v59 (F := Ideal) x2 x4 (ix2 r e) = left x4 r e * gain x2 e := by
  pointwise [val_main_v59, val_main_v58, val_main_v13]
  rw [v33]

theorem v39 : val_main_v39 (F := Ideal) x3 x4 (ix2 r e) = right x4 r e * gain x3 e := by
  pointwise [val_main_v39, val_main_v38, val_main_v29]
  rw [v34]

theorem v69 : val_main_v69 (F := Ideal) x0 x2 x4 (ix1 r) = pull width (row x0 r) (gain x2) (left x4 r) := by
  pointwise [val_main_v69, val_main_v68, val_main_v67, val_main_v66, val_main_v63, val_main_v62, val_main_v61, val_main_v10, val_main_v9, val_main_v8,
    val_main_cst_2, val_main_cst_14, val_main_cst_15, val_main_cst_16]
  simp only [Fin.sum_univ_one, v59, v6, v7]
  rfl

theorem v49 : val_main_v49 (F := Ideal) x1 x3 x4 (ix1 r) = pull width (row x1 r) (gain x3) (right x4 r) := by
  pointwise [val_main_v49, val_main_v48, val_main_v47, val_main_v46, val_main_v43, val_main_v42, val_main_v41, val_main_v26, val_main_v25, val_main_v24,
    val_main_cst_6, val_main_cst_9, val_main_cst_10, val_main_cst_11]
  simp only [Fin.sum_univ_one, v39, v22_eq, v23_eq, v6, v7]
  rfl

theorem v74 : val_main_v74 (F := Ideal) x0 x2 x4 (ix2 r e) = rowOf width (row x0 r) (gain x2) (left x4 r) e := by
  pointwise [val_main_v74, val_main_v73, val_main_v72, val_main_v71, val_main_v70, val_main_v65, val_main_v64]
  rw [v59, v7, v69]
  rfl

theorem v54 : val_main_v54 (F := Ideal) x1 x3 x4 (ix2 r e) = rowOf width (row x1 r) (gain x3) (right x4 r) e := by
  pointwise [val_main_v54, val_main_v53, val_main_v52, val_main_v51, val_main_v50, val_main_v45, val_main_v44]
  rw [v39, v23_eq, v7, v49]
  rfl

end Cert.Reference5Ideal.Hand

end
-- ==== Proof.Out.lean ====
/-
  The gradient of the two norms of the mixers' outputs: what the kernel leaves, and that it is the reference's.
-/
module

public import proofs.«01_k».proof.Defs
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal.Run
public import proofs.«01_k».proof.Proof.Gen.Reference5Ideal.Run
public import proofs.«01_k».proof.Proof.OutRef
public import Idealize.ShloMosaic.Lib.Pipeline.ValueKit

@[expose] public section

set_option maxRecDepth 16384

noncomputable section

namespace Cert.Kernel5Ideal.Hand

open Cert.Kernel5Ideal Cert.Kernel5Ideal.Gen
open Cert.Reference5Ideal.Hand (width row gain left right)
open Cert.Norm (meansq inv gainOf pull rowOf)
open Idealize.ShloMosaic Idealize.ShloMosaic.TcCoe Idealize.SL.Sem
open Idealize.ShloMosaic.Pipeline (Dat)

section Block

variable (x : FVec Ideal S512x512 .f32) (u : FVec Ideal S512x1024 .f32) (g : FVec Ideal S1x512 .f32) (i e : Fin 512)

/-- A row of a block. -/
abbrev rowAt (x : FVec Ideal S512x512 .f32) (i : Fin 512) : Fin 512 → EReal := fun e => x (ix2 i e)
abbrev leftAt (u : FVec Ideal S512x1024 .f32) (i : Fin 512) : Fin 512 → EReal := fun e => u (ix2 i ⟨e.val, by omega⟩)
abbrev rightAt (u : FVec Ideal S512x1024 .f32) (i : Fin 512) : Fin 512 → EReal := fun e => u (ix2 i ⟨512 + e.val, by omega⟩)
abbrev gainAt (g : FVec Ideal S1x512 .f32) : Fin 512 → EReal := fun e => g (ix2 0 e)

theorem pay4_at : k0_pay4 (F := Ideal) x (ix2 i 0 : S512x1.Idx) = meansq width (rowAt x i) := by
  pointwise [k0_pay4]
  rfl

theorem pay5_at : k0_pay5 (F := Ideal) x (ix2 i 0 : S512x1.Idx) = inv width (rowAt x i) := by
  pointwise [k0_pay5]
  rw [pay4_at]
  rfl

theorem pay8_eq : k0_pay8 (F := Ideal) x = k0_pay4 x := rfl
theorem pay9_eq : k0_pay9 (F := Ideal) x = k0_pay5 x := rfl

theorem pay7_at : k0_pay7 (F := Ideal) x (ix2 i e : S512x512.Idx) = rowAt x i e * inv width (rowAt x i) := by
  pointwise [k0_pay7]
  rw [pay5_at]

theorem pay11_at : k0_pay11 (F := Ideal) u (ix2 i e : S512x512.Idx) = leftAt u i e := by pointwise [k0_pay11]
theorem pay12_at : k0_pay12 (F := Ideal) u (ix2 i e : S512x512.Idx) = rightAt u i e := by pointwise [k0_pay12]

/-- The shares of the two gains' gradients. -/
theorem pay16_at : k0_pay16 (F := Ideal) (k0_pay7 x) (k0_pay11 u) (ix2 0 e : S1x512.Idx) = ∑ i, gainOf width (rowAt x i) (leftAt u i) e := by
  pointwise [k0_pay16]
  simp only [pay7_at, pay11_at]
  rfl

theorem pay13_at : k0_pay13 (F := Ideal) x u (ix2 0 e : S1x512.Idx) = ∑ i, gainOf width (rowAt x i) (rightAt u i) e := by
  pointwise [k0_pay13]
  simp only [pay9_eq, pay5_at, pay12_at]
  rfl

/-- The rows' own gradients. -/
theorem pay17_at : k0_pay17 (F := Ideal) x (k0_pay3 g) (k0_pay5 x) (k0_pay6 x) (k0_pay11 u) (ix2 i e : S512x512.Idx)
    = rowOf width (rowAt x i) (gainAt g) (leftAt u i) e := by
  pointwise [k0_pay17, k0_pay6, k0_pay3]
  simp only [Fin.sum_univ_one, pay5_at, pay4_at, pay11_at]
  rfl

theorem pay15_at : k0_pay15 (F := Ideal) x (k0_pay9 x) (k0_pay10 x) (k0_pay14 u g) (ix2 i e : S512x512.Idx)
    = rowOf width (rowAt x i) (gainAt g) (rightAt u i) e := by
  pointwise [k0_pay15, k0_pay10, k0_pay14]
  simp only [Fin.sum_univ_one, pay9_eq, pay8_eq, pay5_at, pay4_at, pay12_at]
  rfl

end Block

variable (m : (ℓ : Loc nD τ sig) → Buf (Elt Ideal) ℓ) (c : Dev nD)

abbrev argA : FVec Ideal S8192x512 .f32 := m ((c.tc : Thread nD τ).loc main_arg0)
abbrev argB : FVec Ideal S8192x512 .f32 := m ((c.tc : Thread nD τ).loc main_arg1)
abbrev argGa : FVec Ideal S512 .f32 := m ((c.tc : Thread nD τ).loc main_arg2)
abbrev argGb : FVec Ideal S512 .f32 := m ((c.tc : Thread nD τ).loc main_arg3)
abbrev argU : FVec Ideal S8192x1024 .f32 := m ((c.tc : Thread nD τ).loc main_arg4)

theorem entry_ga : V m c main_v0 = shapeCast (s := S512) S1x512 (argGa m c) shapeCasts_S512_S1x512 := by entry_read; rfl
theorem entry_gb : V m c main_v1 = shapeCast (s := S512) S1x512 (argGb m c) shapeCasts_S512_S1x512 := by entry_read; rfl

theorem idx : ∀ t : Fin cfg0.N, win0_0.index t 0 = t.val ∧ win0_1.index t 0 = t.val ∧ win0_2.index t 0 = t.val ∧ win0_5.index t 0 = t.val
    ∧ win0_6.index t 0 = t.val ∧ win0_0.index t 1 = 0 ∧ win0_1.index t 1 = 0 ∧ win0_2.index t 1 = 0 ∧ win0_5.index t 1 = 0 ∧ win0_6.index t 1 = 0
    ∧ win0_3.index t 0 = 0 ∧ win0_3.index t 1 = 0 ∧ win0_4.index t 0 = 0 ∧ win0_4.index t 1 = 0
    ∧ win0_7.index t 0 = 0 ∧ win0_7.index t 1 = 0 ∧ win0_8.index t 0 = 0 ∧ win0_8.index t 1 = 0 :=
  (by decide +kernel : ∀ t : Fin grid0.N, _)

section Point

variable (t : Fin cfg0.N)

/-- Row `i` of the block at a point. -/
def brow (i : Fin 512) : Fin 8192 := ⟨t.val * 512 + i.val, by have := lt_of_lt_of_eq t.isLt N_0; omega⟩

theorem blk_a (i : Fin 512) : rowAt (iblk m c 0 t) i = row (argA m c) (brow t i) := by
  funext y
  have h := idx t
  show V m c main_arg0 _ = _
  rw [V_main_arg0]
  refine congrArg (argA m c) ?_
  blk_ext [h, brow]

theorem blk_b (i : Fin 512) : rowAt (iblk m c 1 t) i = row (argB m c) (brow t i) := by
  funext y
  have h := idx t
  show V m c main_arg1 _ = _
  rw [V_main_arg1]
  refine congrArg (argB m c) ?_
  blk_ext [h, brow]

theorem blk_u (i : Fin 512) (y : Fin 1024) : (iblk m c 2 t : FVec Ideal S512x1024 .f32) (ix2 i y) = argU m c (ix2 (brow t i) y) := by
  have h := idx t
  show V m c main_arg4 _ = _
  rw [V_main_arg4]
  refine congrArg (argU m c) ?_
  blk_ext [h, brow]

theorem blk_left (i : Fin 512) : leftAt (iblk m c 2 t) i = left (argU m c) (brow t i) := funext fun _ => blk_u m c t i _
theorem blk_right (i : Fin 512) : rightAt (iblk m c 2 t) i = right (argU m c) (brow t i) := funext fun _ => blk_u m c t i _

theorem blk_ga : gainAt (iblk m c 3 t) = gain (argGa m c) := by
  funext e
  have h := idx t
  have e1 : (iblk m c 3 t : FVec Ideal S1x512 .f32) (ix2 0 e) = (V m c main_v0 : FVec Ideal S1x512 .f32) (ix2 0 e) := by
    refine congrArg (V m c main_v0) ?_
    blk_ext [h]
  refine e1.trans ?_
  rw [entry_ga]
  pointwise []

theorem blk_gb : gainAt (iblk m c 4 t) = gain (argGb m c) := by
  funext e
  have h := idx t
  have e1 : (iblk m c 4 t : FVec Ideal S1x512 .f32) (ix2 0 e) = (V m c main_v1 : FVec Ideal S1x512 .f32) (ix2 0 e) := by
    refine congrArg (V m c main_v1) ?_
    blk_ext [h]
  refine e1.trans ?_
  rw [entry_gb]
  pointwise []

/-- A point's shares of the gains' gradients. -/
abbrev tA : FVec Ideal S1x512 .f32 := k0_pay16 (k0_pay7 (iblk m c 0 t)) (k0_pay11 (iblk m c 2 t))
abbrev tB : FVec Ideal S1x512 .f32 := k0_pay13 (iblk m c 1 t) (iblk m c 2 t)

/-- A point's gradients of its rows. -/
abbrev rA : FVec Ideal S512x512 .f32 :=
  k0_pay17 (iblk m c 0 t) (k0_pay3 (iblk m c 3 t)) (k0_pay5 (iblk m c 0 t)) (k0_pay6 (iblk m c 0 t)) (k0_pay11 (iblk m c 2 t))
abbrev rB : FVec Ideal S512x512 .f32 :=
  k0_pay15 (iblk m c 1 t) (k0_pay9 (iblk m c 1 t)) (k0_pay10 (iblk m c 1 t)) (k0_pay14 (iblk m c 2 t) (iblk m c 4 t))

theorem out5 : (outsAt0 m c t.val t.isLt).1 = rA m c t := by
  by_cases h0 : t.val % 16 = 0
  · rw [outsAt0_A m c t h0]
    frame_out
  · rw [outsAt0_B m c t h0]
    frame_out

theorem out6 : (outsAt0 m c t.val t.isLt).2.1 = rB m c t := by
  by_cases h0 : t.val % 16 = 0
  · rw [outsAt0_A m c t h0]
    frame_out
  · rw [outsAt0_B m c t h0]
    frame_out

theorem out7_A (h0 : t.val % 16 = 0) : (outsAt0 m c t.val t.isLt).2.2.1 = addf (shapeCast S1x512 k0_pay18 shapeCasts_S1x512_S1x512) (tA m c t) := by
  rw [outsAt0_A m c t h0]
  frame_out
  rfl

theorem out7_B (h0 : ¬ t.val % 16 = 0) : (outsAt0 m c t.val t.isLt).2.2.1
    = addf (shapeCast S1x512 (outsAt0 m c (t.val - 1) (Nat.lt_of_le_of_lt (Nat.sub_le _ _) t.isLt)).2.2.1 shapeCasts_S1x512_S1x512) (tA m c t) := by
  rw [outsAt0_B m c t h0]
  frame_out
  rfl

theorem out8_A (h0 : t.val % 16 = 0) : (outsAt0 m c t.val t.isLt).2.2.2 = addf (shapeCast S1x512 k0_pay19 shapeCasts_S1x512_S1x512) (tB m c t) := by
  rw [outsAt0_A m c t h0]
  frame_out
  rfl

theorem out8_B (h0 : ¬ t.val % 16 = 0) : (outsAt0 m c t.val t.isLt).2.2.2
    = addf (shapeCast S1x512 (outsAt0 m c (t.val - 1) (Nat.lt_of_le_of_lt (Nat.sub_le _ _) t.isLt)).2.2.2 shapeCasts_S1x512_S1x512) (tB m c t) := by
  rw [outsAt0_B m c t h0]
  frame_out
  rfl

/-- A sum of the points' shares is the sum over the rows. -/
theorem points_sum (ht : t.val % 16 = 15) (f : Fin cfg0.N → EReal) (F : Fin 8192 → EReal) (hf : ∀ t, f t = ∑ i, F (brow t i)) :
    (∑ s : Fin 16, f ⟨16 * (t.val / 16) + s.val, Pipeline.run_point_lt_of_flush t ht s⟩) = ∑ r, F r := by
  have hN := lt_of_lt_of_eq t.isLt N_0
  refine (Fintype.sum_congr _ _ fun s => hf _).trans (Fin.sum_mul_add_congr fun s i hl => congrArg F (Fin.ext ?_))
  show (16 * (t.val / 16) + s.val) * 512 + i.val = s.val * 512 + i.val
  omega

end Point

/-- An array by rows, and a row's by columns. -/
abbrev byRow (f : Fin 8192 → Fin 512 → EReal) : FVec Ideal S8192x512 .f32 := fun i => f (i 0) (i 1)
abbrev asRow (f : Fin 512 → EReal) : FVec Ideal S1x512 .f32 := fun i => f (i 1)

theorem final5 : (dats m 0 c).arrAt 5 cfg0.N = byRow fun r => rowOf width (row (argA m c) r) (gain (argGa m c)) (left (argU m c) r) := by
  refine (dats m 0 c).arrAt_eq_of_covers 5 _ (by decide +kernel) fun t _ y => ?_
  have hi := idx t
  blk_simp
  rw [after0_5, out5]
  obtain ⟨i, e, rfl⟩ : ∃ (i e : Fin 512), y = ix2 i e := ⟨y 0, y 1, eq_ix2 y⟩
  have he : (win0_5.blk t).view.emb (ix2 i e : S512x512.Idx) = (ix2 (brow t i) e : S8192x512.Idx) := by blk_ext [hi, brow]
  refine Eq.trans (pay17_at _ _ _ i e) ?_
  rw [blk_a, blk_left, blk_ga]
  exact (congrArg (byRow fun r => rowOf width (row (argA m c) r) (gain (argGa m c)) (left (argU m c) r)) he).symm

theorem final6 : (dats m 0 c).arrAt 6 cfg0.N = byRow fun r => rowOf width (row (argB m c) r) (gain (argGb m c)) (right (argU m c) r) := by
  refine (dats m 0 c).arrAt_eq_of_covers 6 _ (by decide +kernel) fun t _ y => ?_
  have hi := idx t
  blk_simp
  rw [after0_6, out6]
  obtain ⟨i, e, rfl⟩ : ∃ (i e : Fin 512), y = ix2 i e := ⟨y 0, y 1, eq_ix2 y⟩
  have he : (win0_6.blk t).view.emb (ix2 i e : S512x512.Idx) = (ix2 (brow t i) e : S8192x512.Idx) := by blk_ext [hi, brow]
  refine Eq.trans (pay15_at _ _ _ i e) ?_
  rw [blk_b, blk_right, blk_gb]
  exact (congrArg (byRow fun r => rowOf width (row (argB m c) r) (gain (argGb m c)) (right (argU m c) r)) he).symm

theorem zero18 (i : S1x512.Idx) : shapeCast S1x512 (k0_pay18 (F := Ideal)) shapeCasts_S1x512_S1x512 i = 0 := by
  obtain ⟨j, z, rfl⟩ : ∃ (j : Fin 1) (z : Fin 512), i = ix2 j z := ⟨i 0, i 1, eq_ix2 i⟩
  pointwise [k0_pay18]

theorem same1 (v : FVec Ideal S1x512 .f32) : shapeCast S1x512 v shapeCasts_S1x512_S1x512 = v := by
  funext i
  obtain ⟨j, z, rfl⟩ : ∃ (j : Fin 1) (z : Fin 512), i = ix2 j z := ⟨i 0, i 1, eq_ix2 i⟩
  pointwise []

theorem final7 : (dats m 0 c).arrAt 7 cfg0.N = asRow fun e => ∑ r, gainOf width (row (argA m c) r) (left (argU m c) r) e := by
  refine (dats m 0 c).arrAt_eq_of_covers 7 _ (by decide +kernel) fun t hf y => ?_
  have hi := idx t
  have ht := (flush0_7 t).1 hf
  blk_simp
  rw [after0_7, Pipeline.eq_sum_fin_of_reset_step_apply_of_flush (fun n h => (outsAt0 m c n h).2.2.1) 16 (fun _ => 0) (fun p => tA m c p)
    (fun t h j => by rw [out7_A m c t h]; exact congrArg (· + tA m c t j) (zero18 j)) (fun t h j => by rw [out7_B m c t h, same1]; rfl)
    t ht _, zero_add]
  obtain ⟨e, rfl⟩ : ∃ e : Fin 512, y = ix2 0 e := ⟨y 1, (eq_ix2 y).trans (congrArg (fun a => ix2 a (y 1)) (Subsingleton.elim (α := Fin 1) _ _))⟩
  have he : (win0_7.blk t).view.emb (ix2 0 e : S1x512.Idx) = (ix2 0 e : S1x512.Idx) := by blk_ext [hi]
  refine Eq.trans (points_sum t ht (fun p => tA m c p (ix2 0 e)) (fun r => gainOf width (row (argA m c) r) (left (argU m c) r) e) fun p => ?_)
    (congrArg (asRow fun e => ∑ r, gainOf width (row (argA m c) r) (left (argU m c) r) e) he).symm
  refine Eq.trans (pay16_at _ _ e) ?_
  simp only [blk_a, blk_left]

theorem final8 : (dats m 0 c).arrAt 8 cfg0.N = asRow fun e => ∑ r, gainOf width (row (argB m c) r) (right (argU m c) r) e := by
  refine (dats m 0 c).arrAt_eq_of_covers 8 _ (by decide +kernel) fun t hf y => ?_
  have hi := idx t
  have ht := (flush0_8 t).1 hf
  blk_simp
  rw [after0_8, Pipeline.eq_sum_fin_of_reset_step_apply_of_flush (fun n h => (outsAt0 m c n h).2.2.2) 16 (fun _ => 0) (fun p => tB m c p)
    (fun t h j => by rw [out8_A m c t h]; exact congrArg (· + tB m c t j) (zero18 j)) (fun t h j => by rw [out8_B m c t h, same1]; rfl)
    t ht _, zero_add]
  obtain ⟨e, rfl⟩ : ∃ e : Fin 512, y = ix2 0 e := ⟨y 1, (eq_ix2 y).trans (congrArg (fun a => ix2 a (y 1)) (Subsingleton.elim (α := Fin 1) _ _))⟩
  have he : (win0_8.blk t).view.emb (ix2 0 e : S1x512.Idx) = (ix2 0 e : S1x512.Idx) := by blk_ext [hi]
  refine Eq.trans (points_sum t ht (fun p => tB m c p (ix2 0 e)) (fun r => gainOf width (row (argB m c) r) (right (argU m c) r) e) fun p => ?_)
    (congrArg (asRow fun e => ∑ r, gainOf width (row (argB m c) r) (right (argU m c) r) e) he).symm
  refine Eq.trans (pay13_at _ _ e) ?_
  simp only [blk_b, blk_right]

end Cert.Kernel5Ideal.Hand

namespace Cert.Proof

open Idealize.ShloMosaic Idealize.ShloMosaic.TcCoe Idealize.SL.Sem

theorem out_frame_reference : Cert.quiescent_Reference5Ideal := fun m ρ _ =>
  (θ_run Cert.Reference5Ideal.defs _ _).mono
    (fun r h => ⟨fun c => (h c).2.2.2.2, sem_eq_zero_of_no_sems (by decide) r.2⟩) (Cert.Reference5Ideal.Value.run m ρ)

/-- The gradients of the norms of the mixers' outputs. -/
theorem out_algebraic : Cert.algebraic_Kernel5Ideal_Reference5Ideal := by
  intro m g m' g' _ hagree
  refine ⟨_, _, _, _, Cert.Kernel5Ideal.Value.run m g, (θ_run _ _ _).mono (fun r h c => ?_) (Cert.Reference5Ideal.Value.run m' g')⟩
  obtain ⟨h0, h1, h2, h3, h4⟩ := h c
  obtain ⟨a0, a1, a2, a3, a4⟩ := hagree c
  refine ⟨h0.trans ?_, h1.trans ?_, h2.trans ?_, h3.trans ?_, h4⟩
  · rw [Cert.Reference5Ideal.Read.val_main_v74_eq, a0, a2, a4]
    unfold Cert.Kernel5Ideal.Value.reg_main_v2_0
    rw [Cert.Kernel5Ideal.Hand.final5]
    funext i
    obtain ⟨r, e, rfl⟩ : ∃ (r : Fin 8192) (e : Fin 512), i = ix2 r e := ⟨i 0, i 1, eq_ix2 i⟩
    exact Cert.Reference5Ideal.Hand.v74 _ _ _ r e
  · rw [Cert.Reference5Ideal.Read.val_main_v54_eq, a1, a3, a4]
    unfold Cert.Kernel5Ideal.Value.reg_main_v2_1
    rw [Cert.Kernel5Ideal.Hand.final6]
    funext i
    obtain ⟨r, e, rfl⟩ : ∃ (r : Fin 8192) (e : Fin 512), i = ix2 r e := ⟨i 0, i 1, eq_ix2 i⟩
    exact Cert.Reference5Ideal.Hand.v54 _ _ _ r e
  · rw [Cert.Reference5Ideal.Read.val_main_v60_eq, a0, a4]
    unfold Cert.Kernel5Ideal.Value.reg_main_v2_2
    rw [Cert.Kernel5Ideal.Hand.final7]
    funext i
    obtain ⟨e, rfl⟩ : ∃ e : Fin 512, i = ix1 e := ⟨i 0, eq_ix1 i⟩
    refine (Cert.Reference5Ideal.Hand.v60 _ _ e).trans (Eq.symm ?_)
    pointwise [Cert.Kernel5Ideal.Hand.asRow]
  · rw [Cert.Reference5Ideal.Read.val_main_v40_eq, a1, a4]
    unfold Cert.Kernel5Ideal.Value.reg_main_v2_3
    rw [Cert.Kernel5Ideal.Hand.final8]
    funext i
    obtain ⟨e, rfl⟩ : ∃ e : Fin 512, i = ix1 e := ⟨i 0, eq_ix1 i⟩
    refine (Cert.Reference5Ideal.Hand.v40 _ _ e).trans (Eq.symm ?_)
    pointwise [Cert.Kernel5Ideal.Hand.asRow]

end Cert.Proof

end
-- ==== Proof.H2Ref.lean ====
/-
  The reference's gradient of the norm before the cross-attention's queries, line by line.
-/
module

public import proofs.«01_k».proof.Proof.Gen.Reference6Ideal.Read
public import proofs.«01_k».proof.Proof.Norm
public import Idealize.ShloMosaic.Lib.Pointwise

@[expose] public section

set_option maxRecDepth 16384

noncomputable section

namespace Cert.Reference6Ideal.Hand

open Cert.Reference6Ideal Cert.Reference6Ideal.Gen Cert.Reference6Ideal.Read Cert.Norm
open Idealize.ShloMosaic Idealize.ShloMosaic.TcCoe

/-- The width of the model. -/
abbrev width : EReal := Ideal.ofBits .f32 0x44800000#32

variable (x0 : FVec Ideal S8192x1024 .f32) (x1 : FVec Ideal S1024 .f32) (x2 : FVec Ideal S1024x512 .f32) (x3 : FVec Ideal S8192x512 .f32)
  (x4 : FVec Ideal S8192x1024 .f32) (r : Fin 8192) (e : Fin 1024)

abbrev row (x : FVec Ideal S8192x1024 .f32) (r : Fin 8192) : Fin 1024 → EReal := fun e => x (ix2 r e)
abbrev gain (g : FVec Ideal S1024 .f32) : Fin 1024 → EReal := fun e => g (ix1 e)
/-- What reaches the norm's output of a row. -/
abbrev reach (w : FVec Ideal S1024x512 .f32) (d : FVec Ideal S8192x512 .f32) (r : Fin 8192) : Fin 1024 → EReal := fun e => ∑ y, d (ix2 r y) * w (ix2 e y)

theorem v6 : val_main_v6 (F := Ideal) x0 (ix2 r 0) = meansq width (row x0 r) := by
  pointwise [val_main_v6, val_main_v5, val_main_v4, val_main_v3, val_main_v2, val_main_v1, val_main_v0, val_main_cst, val_main_cst_0, val_main_cst_1]
  rfl

theorem v7 : val_main_v7 (F := Ideal) x0 (ix2 r 0) = inv width (row x0 r) := by
  pointwise [val_main_v7]
  rw [v6]
  rfl

theorem v12 : val_main_v12 (F := Ideal) x0 (ix2 r e) = row x0 r e * inv width (row x0 r) := by
  pointwise [val_main_v12, val_main_v11]
  rw [v7]

theorem v17 : val_main_v17 (F := Ideal) x2 x3 (ix2 r e) = reach x2 x3 r e := by
  pointwise [val_main_v17]

theorem v23 : val_main_v23 (F := Ideal) x0 x2 x3 (ix1 e) = ∑ r, gainOf width (row x0 r) (reach x2 x3 r) e := by
  pointwise [val_main_v23, val_main_v20, val_main_v19, val_main_v18, val_main_cst_3, val_main_cst_4]
  simp only [Fin.sum_univ_one, v12, v17]
  rfl

theorem v22 : val_main_v22 (F := Ideal) x1 x2 x3 (ix2 r e) = reach x2 x3 r e * gain x1 e := by
  pointwise [val_main_v22, val_main_v21, val_main_v13]
  rw [v17]

theorem v33 : val_main_v33 (F := Ideal) x0 x1 x2 x3 (ix1 r) = pull width (row x0 r) (gain x1) (reach x2 x3 r) := by
  pointwise [val_main_v33, val_main_v32, val_main_v31, val_main_v30, val_main_v26, val_main_v25, val_main_v24, val_main_v10, val_main_v9, val_main_v8,
    val_main_cst_2, val_main_cst_5, val_main_cst_6, val_main_cst_7]
  simp only [Fin.sum_univ_one, v22, v6, v7]
  rfl

theorem v38 : val_main_v38 (F := Ideal) x0 x1 x2 x3 x4 (ix2 r e) = rowOf width (row x0 r) (gain x1) (reach x2 x3 r) e + row x4 r e := by
  pointwise [val_main_v38, val_main_v37, val_main_v36, val_main_v35, val_main_v34, val_main_v29, val_main_v28, val_main_v27]
  rw [v22, v7, v33]
  exact rowOf_add _ _ _ _ _ e

end Cert.Reference6Ideal.Hand

end
-- ==== Proof.H2.lean ====
/-
  The gradient of the norm before the cross-attention's queries: what the kernel leaves, and that it is the reference's.
  The kernel takes the norm's gradient in four slabs of a block's rows.
-/
module

public import proofs.«01_k».proof.Defs
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal.Run
public import proofs.«01_k».proof.Proof.Gen.Reference6Ideal.Run
public import proofs.«01_k».proof.Proof.H2Ref
public import Idealize.ShloMosaic.Lib.Pipeline.ValueKit

@[expose] public section

set_option maxRecDepth 16384

noncomputable section

namespace Cert.Kernel6Ideal.Hand

open Cert.Kernel6Ideal Cert.Kernel6Ideal.Gen
open Cert.Reference6Ideal.Hand (width row gain reach)
open Cert.Norm (meansq inv gainOf pull rowOf)
open Idealize.ShloMosaic Idealize.ShloMosaic.TcCoe Idealize.SL.Sem
open Idealize.ShloMosaic.Pipeline (Dat)

/-- A row of a block. -/
abbrev rowAt (x : FVec Ideal S1024x1024 .f32) (i : Fin 1024) : Fin 1024 → EReal := fun e => x (ix2 i e)
/-- A row of a slab. -/
abbrev slabRow (x : FVec Ideal S256x1024 .f32) (i : Fin 256) : Fin 1024 → EReal := fun e => x (ix2 i e)
abbrev gainAt (g : FVec Ideal S1x1024 .f32) : Fin 1024 → EReal := fun e => g (ix2 0 e)
/-- What a block's row of the product holds. -/
abbrev product (a b : FVec Ideal S1024x512 .bf16) (i : Fin 1024) : Fin 1024 → EReal := fun e => ∑ y, a (ix2 i y) * b (ix2 e y)

theorem pay2_at (a b : FVec Ideal S1024x512 .bf16) (i : Fin 1024) : rowAt (k0_pay2 (F := Ideal) a b) i = product a b i := by
  funext e
  show k0_pay2 (F := Ideal) a b (ix2 i e) = _
  pointwise [k0_pay2]

section Slab

variable (x d u : FVec Ideal S256x1024 .f32) (g p : FVec Ideal S1x1024 .f32) (i : Fin 256) (e : Fin 1024)

/-- A slab's rows. -/
abbrev slab : FVec Ideal S256x1024 .f32 := k0_pay20 x d (k0_pay14 g) u (k0_pay17 x) (k0_pay18 x)
/-- The gain's gradient, a slab later. -/
abbrev gains : FVec Ideal S1x1024 .f32 := k0_pay21 x u (k0_pay19 x) p

theorem pay16_at : k0_pay16 (F := Ideal) x (ix2 i 0 : S256x1.Idx) = meansq width (slabRow x i) := by
  pointwise [k0_pay16]
  rfl

theorem pay17_at : k0_pay17 (F := Ideal) x (ix2 i 0 : S256x1.Idx) = inv width (slabRow x i) := by
  pointwise [k0_pay17]
  rw [pay16_at]
  rfl

theorem slab_at : slab x d u g (ix2 i e : S256x1024.Idx) = rowOf width (slabRow x i) (gainAt g) (slabRow u i) e + slabRow d i e := by
  pointwise [slab, k0_pay20, k0_pay18, k0_pay14]
  simp only [Fin.sum_univ_one, pay17_at, pay16_at]
  rfl

theorem gains_at : gains x u p (ix2 0 e : S1x1024.Idx) = p (ix2 0 e) + ∑ i, gainOf width (slabRow x i) (slabRow u i) e := by
  pointwise [gains, k0_pay21, k0_pay19]
  simp only [pay17_at]
  rfl

end Slab

section Block

variable (X D U : FVec Ideal S1024x1024 .f32) (g p : FVec Ideal S1x1024 .f32)

/-- Row `i` of the slab at row `o`. -/
def down (o : ℕ) (ho : o + 256 ≤ 1024) (i : Fin 256) : Fin 1024 := ⟨o + i.val, by omega⟩

/-- A block's rows. -/
def rows : FVec Ideal S1024x1024 .f32 := fun y => rowOf width (rowAt X (y 0)) (gainAt g) (rowAt U (y 0)) (y 1) + rowAt D (y 0) (y 1)

/-- The slab at row `o`. -/
abbrev part (o : ℕ) (inb : ∀ a, (![o, 0] : Fin 2 → ℕ) a + (![256, 1024] : Fin 2 → ℕ) a ≤ S1024x1024.size a) : FVec Ideal S256x1024 .f32 :=
  View.ld (Val := Elt Ideal) (e' := .f32) X (Rect.unit (s := S1024x1024) ![o, 0] ![256, 1024] inb)

theorem part_row (X : FVec Ideal S1024x1024 .f32) (o : ℕ) (inb) (ho : o + 256 ≤ 1024) (i : Fin 256) : slabRow (part X o inb) i = rowAt X (down o ho i) := by
  funext e
  refine congrArg X (funext fun a => Fin.ext ?_)
  fin_cases a
  · show o + 1 * i.val = o + i.val
    omega
  · show 0 + 1 * e.val = e.val
    omega

theorem piece (o : ℕ) (inb) (ho : o + 256 ≤ 1024) (u : FVec Ideal S256x1024 .f32) (hu : ∀ i, slabRow u i = rowAt U (down o ho i))
    (y : (Rect.unit (s := S1024x1024) ![o, 0] ![256, 1024] inb).shape.Idx) :
    slab (part X o inb) (part D o inb) u g y = rows X D U g ((Rect.unit (s := S1024x1024) ![o, 0] ![256, 1024] inb).emb y) := by
  obtain ⟨i, e, rfl⟩ : ∃ (i : Fin 256) (e : Fin 1024), y = ix2 i e := ⟨y 0, y 1, eq_ix2 y⟩
  refine (slab_at _ _ _ _ i e).trans ?_
  have he : (Rect.unit (s := S1024x1024) ![o, 0] ![256, 1024] inb).emb (ix2 i e) = (ix2 (down o ho i) e : S1024x1024.Idx) := by
    refine funext fun a => Fin.ext ?_
    rw [Rect.emb_apply]
    fin_cases a
    · show o + 1 * i.val = o + i.val
      omega
    · show 0 + 1 * e.val = e.val
      omega
  rw [part_row X o inb ho, part_row D o inb ho, hu]
  exact (congrArg (rows X D U g) he).symm

theorem pay24_row (i : Fin 256) : slabRow (k0_pay24 (F := Ideal) U) i = rowAt U (down 512 (by decide) i) := by
  funext e
  show k0_pay24 (F := Ideal) U (ix2 i e) = _
  pointwise [k0_pay24]
  rfl

theorem pay15_row (i : Fin 256) : slabRow (k0_pay15 (F := Ideal) U) i = rowAt U (down 256 (by decide) i) := by
  funext e
  show k0_pay15 (F := Ideal) U (ix2 i e) = _
  pointwise [k0_pay15]
  rfl

theorem pay31_row (i : Fin 256) : slabRow (k0_pay31 (F := Ideal) U) i = rowAt U (down 768 (by decide) i) := by
  funext e
  show k0_pay31 (F := Ideal) U (ix2 i e) = _
  pointwise [k0_pay31]
  rfl

theorem pay4_row (a b : FVec Ideal S1024x512 .bf16) (i : Fin 256) : slabRow (k0_pay4 (F := Ideal) a b) i = rowAt (k0_pay2 a b) (down 0 (by decide) i) := by
  funext e
  show k0_pay4 (F := Ideal) a b (ix2 i e) = _
  pointwise [k0_pay4]
  refine congrArg (fun i => k0_pay2 (F := Ideal) a b (ix2 i e)) (Fin.ext ?_)
  show i.val = 0 + i.val
  omega

theorem slabs_sum (F : Fin 1024 → EReal) :
    (∑ i, F (down 0 (by decide) i)) + (∑ i, F (down 256 (by decide) i)) + (∑ i, F (down 512 (by decide) i)) + (∑ i, F (down 768 (by decide) i)) = ∑ i, F i := by
  refine Eq.trans ?_ (Fin.sum_mul_add_congr (S := 4) (n := 256) (F := fun s i => F ⟨s.val * 256 + i.val, by omega⟩) fun s i hl => rfl)
  rw [Fin.sum_univ_four]
  rfl

end Block

variable (m : (ℓ : Loc nD τ sig) → Buf (Elt Ideal) ℓ) (c : Dev nD)

abbrev argX : FVec Ideal S8192x1024 .f32 := m ((c.tc : Thread nD τ).loc main_arg0)
abbrev argG : FVec Ideal S1024 .f32 := m ((c.tc : Thread nD τ).loc main_arg1)
abbrev argW : FVec Ideal S1024x512 .f32 := m ((c.tc : Thread nD τ).loc main_arg2)
abbrev argQ : FVec Ideal S8192x512 .f32 := m ((c.tc : Thread nD τ).loc main_arg3)
abbrev argD : FVec Ideal S8192x1024 .f32 := m ((c.tc : Thread nD τ).loc main_arg4)

theorem entry_g : V m c main_v0 = shapeCast (s := S1024) S1x1024 (argG m c) shapeCasts_S1024_S1x1024 := by entry_read; rfl

theorem entry_q : V m c main_v1 = truncf (F := Ideal) (s := S8192x512) (φ := .f32) .bf16 (argQ m c) bitsLt_bf16_f32 := by entry_read; rfl

theorem entry_w : V m c main_v2 = truncf (F := Ideal) (s := S1024x512) (φ := .f32) .bf16 (argW m c) bitsLt_bf16_f32 := by entry_read; rfl

theorem idx : ∀ t : Fin cfg0.N, win0_0.index t 0 = t.val ∧ win0_2.index t 0 = t.val ∧ win0_3.index t 0 = t.val ∧ win0_5.index t 0 = t.val ∧ win0_6.index t 0 = t.val
    ∧ win0_0.index t 1 = 0 ∧ win0_2.index t 1 = 0 ∧ win0_3.index t 1 = 0 ∧ win0_5.index t 1 = 0 ∧ win0_6.index t 1 = 0
    ∧ win0_1.index t 0 = 0 ∧ win0_1.index t 1 = 0 ∧ win0_4.index t 0 = 0 ∧ win0_4.index t 1 = 0 ∧ win0_7.index t 0 = 0 ∧ win0_7.index t 1 = 0 :=
  (by decide +kernel : ∀ t : Fin grid0.N, _)

section Point

variable (t : Fin cfg0.N)

/-- Row `i` of the block at a point. -/
def brow (i : Fin 1024) : Fin 8192 := ⟨t.val * 1024 + i.val, by have := lt_of_lt_of_eq t.isLt N_0; omega⟩

theorem blk_x (i : Fin 1024) : rowAt (iblk m c 2 t) i = row (argX m c) (brow t i) := by
  funext y
  have h := idx t
  show V m c main_arg0 _ = _
  rw [V_main_arg0]
  refine congrArg (argX m c) ?_
  blk_ext [h, brow]

theorem blk_d (i : Fin 1024) : rowAt (iblk m c 3 t) i = row (argD m c) (brow t i) := by
  funext y
  have h := idx t
  show V m c main_arg4 _ = _
  rw [V_main_arg4]
  refine congrArg (argD m c) ?_
  blk_ext [h, brow]

theorem blk_g : gainAt (iblk m c 4 t) = gain (argG m c) := by
  funext e
  have h := idx t
  have e1 : (iblk m c 4 t : FVec Ideal S1x1024 .f32) (ix2 0 e) = (V m c main_v0 : FVec Ideal S1x1024 .f32) (ix2 0 e) := by
    refine congrArg (V m c main_v0) ?_
    blk_ext [h]
  refine e1.trans ?_
  rw [entry_g]
  pointwise []

theorem blk_q (i : Fin 1024) (y : Fin 512) : (iblk m c 0 t : FVec Ideal S1024x512 .bf16) (ix2 i y) = argQ m c (ix2 (brow t i) y) := by
  have h := idx t
  have e1 : (iblk m c 0 t : FVec Ideal S1024x512 .bf16) (ix2 i y) = (V m c main_v1 : FVec Ideal S8192x512 .bf16) (ix2 (brow t i) y) := by
    refine congrArg (V m c main_v1) ?_
    blk_ext [h, brow]
  refine e1.trans ?_
  rw [entry_q]
  rfl

theorem blk_w (e : Fin 1024) (y : Fin 512) : (iblk m c 1 t : FVec Ideal S1024x512 .bf16) (ix2 e y) = argW m c (ix2 e y) := by
  have h := idx t
  have e1 : (iblk m c 1 t : FVec Ideal S1024x512 .bf16) (ix2 e y) = (V m c main_v2 : FVec Ideal S1024x512 .bf16) (ix2 e y) := by
    refine congrArg (V m c main_v2) ?_
    blk_ext [h]
  refine e1.trans ?_
  rw [entry_w]
  rfl

/-- The block of the product at a point. -/
abbrev tU : FVec Ideal S1024x1024 .f32 := k0_pay2 (iblk m c 0 t) (iblk m c 1 t)

theorem blk_u (i : Fin 1024) : rowAt (tU m c t) i = reach (argW m c) (argQ m c) (brow t i) := by
  rw [pay2_at]
  funext e
  simp only [product, blk_q, blk_w]

/-- The block of rows at a point. -/
abbrev tRows : FVec Ideal S1024x1024 .f32 := rows (iblk m c 2 t) (iblk m c 3 t) (tU m c t) (iblk m c 4 t)

theorem out5 : (outsAt0 m c t.val t.isLt).1 = tRows m c t := by
  have hp : ∀ y, View.canon (Val := Elt Ideal) (s := S1024x1024) (e := .f32)
      [⟨Rect.unit ![768, 0] ![256, 1024] inb_S1024x1024_S256x1024_768_0, slab (part (iblk m c 2 t) 768 inb_S1024x1024_S256x1024_768_0) (part (iblk m c 3 t) 768 inb_S1024x1024_S256x1024_768_0) (k0_pay31 (tU m c t)) (iblk m c 4 t)⟩,
       ⟨Rect.unit ![512, 0] ![256, 1024] inb_S1024x1024_S256x1024_512_0, slab (part (iblk m c 2 t) 512 inb_S1024x1024_S256x1024_512_0) (part (iblk m c 3 t) 512 inb_S1024x1024_S256x1024_512_0) (k0_pay24 (tU m c t)) (iblk m c 4 t)⟩,
       ⟨Rect.unit ![256, 0] ![256, 1024] inb_S1024x1024_S256x1024_256_0, slab (part (iblk m c 2 t) 256 inb_S1024x1024_S256x1024_256_0) (part (iblk m c 3 t) 256 inb_S1024x1024_S256x1024_256_0) (k0_pay15 (tU m c t)) (iblk m c 4 t)⟩,
       ⟨Rect.unit ![0, 0] ![256, 1024] inb_S1024x1024_S256x1024_0_0, slab (part (iblk m c 2 t) 0 inb_S1024x1024_S256x1024_0_0) (part (iblk m c 3 t) 0 inb_S1024x1024_S256x1024_0_0) (k0_pay4 (iblk m c 0 t) (iblk m c 1 t)) (iblk m c 4 t)⟩] y = tRows m c t y := by
    intro y
    refine View.canon_apply_of_pieces (Val := Elt Ideal) (e := .f32) (tRows m c t) _ ?_ y ?_
    swap
    · exact View.cover_of_tiled _ ![256, 1024] rfl y
    simp only [List.forall_mem_cons, List.forall_mem_nil, and_true]
    exact ⟨piece _ _ _ _ 768 _ (by decide) _ (pay31_row _), piece _ _ _ _ 512 _ (by decide) _ (pay24_row _),
      piece _ _ _ _ 256 _ (by decide) _ (pay15_row _), piece _ _ _ _ 0 _ (by decide) _ (pay4_row _ _), fun _ h => absurd h List.not_mem_nil⟩
  refine Eq.trans ?_ (funext hp)
  by_cases h0 : t.val % 8 = 0
  · rw [outsAt0_A m c t h0]
    frame_out
    rfl
  · rw [outsAt0_B m c t h0]
    frame_out
    rfl

theorem out6 : (outsAt0 m c t.val t.isLt).2.1 = (outsAt0 m c t.val t.isLt).1 := by
  by_cases h0 : t.val % 8 = 0
  · rw [outsAt0_A m c t h0]
    frame_out
    rfl
  · rw [outsAt0_B m c t h0]
    frame_out
    rfl

/-- The gain's gradient past a point. -/
abbrev after (p : FVec Ideal S1x1024 .f32) : FVec Ideal S1x1024 .f32 :=
  gains (part (iblk m c 2 t) 768 inb_S1024x1024_S256x1024_768_0) (k0_pay31 (tU m c t))
    (gains (part (iblk m c 2 t) 512 inb_S1024x1024_S256x1024_512_0) (k0_pay24 (tU m c t))
      (gains (part (iblk m c 2 t) 256 inb_S1024x1024_S256x1024_256_0) (k0_pay15 (tU m c t))
        (gains (part (iblk m c 2 t) 0 inb_S1024x1024_S256x1024_0_0) (k0_pay4 (iblk m c 0 t) (iblk m c 1 t)) p)))

/-- A point's share of the gain's gradient. -/
def tG : FVec Ideal S1x1024 .f32 := fun j => ∑ i, gainOf width (rowAt (iblk m c 2 t) i) (rowAt (tU m c t) i) (j 1)

theorem after_at (p : FVec Ideal S1x1024 .f32) (e : Fin 1024) : after m c t p (ix2 0 e) = p (ix2 0 e) + tG m c t (ix2 0 e) := by
  simp only [after, gains_at, part_row _ 0 _ (by decide), part_row _ 256 _ (by decide), part_row _ 512 _ (by decide), part_row _ 768 _ (by decide), pay31_row, pay24_row, pay15_row, pay4_row]
  rw [add_assoc, add_assoc, add_assoc]
  refine congrArg _ (Eq.trans ?_ (slabs_sum fun i => gainOf width (rowAt (iblk m c 2 t) i) (rowAt (tU m c t) i) e))
  rw [add_assoc, add_assoc]

theorem out7_A (h0 : t.val % 8 = 0) : (outsAt0 m c t.val t.isLt).2.2 = after m c t k0_pay3 := by
  rw [outsAt0_A m c t h0]
  frame_out
  rfl

theorem out7_B (h0 : ¬ t.val % 8 = 0) : (outsAt0 m c t.val t.isLt).2.2
    = after m c t (outsAt0 m c (t.val - 1) (Nat.lt_of_le_of_lt (Nat.sub_le _ _) t.isLt)).2.2 := by
  rw [outsAt0_B m c t h0]
  frame_out
  rfl

/-- A sum of the points' shares is the sum over the rows. -/
theorem points_sum (ht : t.val % 8 = 7) (f : Fin cfg0.N → EReal) (F : Fin 8192 → EReal) (hf : ∀ t, f t = ∑ i, F (brow t i)) :
    (∑ s : Fin 8, f ⟨8 * (t.val / 8) + s.val, Pipeline.run_point_lt_of_flush t ht s⟩) = ∑ r, F r := by
  have hN := lt_of_lt_of_eq t.isLt N_0
  refine (Fintype.sum_congr _ _ fun s => hf _).trans (Fin.sum_mul_add_congr fun s i hl => congrArg F (Fin.ext ?_))
  show (8 * (t.val / 8) + s.val) * 1024 + i.val = s.val * 1024 + i.val
  omega

end Point

/-- The kernel's rows. -/
abbrev result : FVec Ideal S8192x1024 .f32 := fun i =>
  rowOf width (row (argX m c) (i 0)) (gain (argG m c)) (reach (argW m c) (argQ m c) (i 0)) (i 1) + row (argD m c) (i 0) (i 1)

theorem tRows_at (t : Fin cfg0.N) (i e : Fin 1024) : tRows m c t (ix2 i e) = result m c (ix2 (brow t i) e) := by
  show rowOf width (rowAt (iblk m c 2 t) i) (gainAt (iblk m c 4 t)) (rowAt (tU m c t) i) e + rowAt (iblk m c 3 t) i e = _
  rw [blk_x, blk_u, blk_d, blk_g]
  rfl

theorem final5 : (dats m 0 c).arrAt 5 cfg0.N = result m c := by
  refine (dats m 0 c).arrAt_eq_of_covers 5 _ (by decide +kernel) fun t _ y => ?_
  have hi := idx t
  blk_simp
  rw [after0_5, out5]
  obtain ⟨i, e, rfl⟩ : ∃ (i : Fin 1024) (e : Fin 1024), y = ix2 i e := ⟨y 0, y 1, eq_ix2 y⟩
  have he : (win0_5.blk t).view.emb (ix2 i e : S1024x1024.Idx) = (ix2 (brow t i) e : S8192x1024.Idx) := by blk_ext [hi, brow]
  exact (tRows_at m c t i e).trans (congrArg (result m c) he).symm

theorem final6 : (dats m 0 c).arrAt 6 cfg0.N = result m c := by
  refine (dats m 0 c).arrAt_eq_of_covers 6 _ (by decide +kernel) fun t _ y => ?_
  have hi := idx t
  blk_simp
  rw [after0_6, out6, out5]
  obtain ⟨i, e, rfl⟩ : ∃ (i : Fin 1024) (e : Fin 1024), y = ix2 i e := ⟨y 0, y 1, eq_ix2 y⟩
  have he : (win0_6.blk t).view.emb (ix2 i e : S1024x1024.Idx) = (ix2 (brow t i) e : S8192x1024.Idx) := by blk_ext [hi, brow]
  exact (tRows_at m c t i e).trans (congrArg (result m c) he).symm

theorem row0 (j : S1x1024.Idx) : ∃ e : Fin 1024, j = ix2 0 e :=
  ⟨j 1, (eq_ix2 j).trans (congrArg (fun a => ix2 a (j 1)) (Subsingleton.elim (α := Fin 1) _ _))⟩

theorem step_A (t : Fin cfg0.N) (h : t.val % 8 = 0) (j : S1x1024.Idx) : (outsAt0 m c t.val t.isLt).2.2 j = (0 : EReal) + tG m c t j := by
  obtain ⟨e, rfl⟩ := row0 j
  rw [out7_A m c t h]
  refine (after_at m c t _ e).trans (congrArg (· + _) ?_)
  pointwise [k0_pay3]

theorem step_B (t : Fin cfg0.N) (h : ¬ t.val % 8 = 0) (j : S1x1024.Idx) : (outsAt0 m c t.val t.isLt).2.2 j
    = ((outsAt0 m c (t.val - 1) (Nat.lt_of_le_of_lt (Nat.sub_le _ _) t.isLt)).2.2 j : EReal) + tG m c t j := by
  obtain ⟨e, rfl⟩ := row0 j
  rw [out7_B m c t h]
  exact after_at m c t _ e

theorem final7 : (dats m 0 c).arrAt 7 cfg0.N = fun i : S1x1024.Idx => ∑ r, gainOf width (row (argX m c) r) (reach (argW m c) (argQ m c) r) (i 1) := by
  refine (dats m 0 c).arrAt_eq_of_covers 7 _ (by decide +kernel) fun t hf y => ?_
  have hi := idx t
  have ht := (flush0_7 t).1 hf
  blk_simp
  rw [after0_7, Pipeline.eq_sum_fin_of_reset_step_apply_of_flush (fun n h => (outsAt0 m c n h).2.2) 8 (fun _ => 0) (fun p => tG m c p)
    (fun t h j => step_A m c t h j) (fun t h j => step_B m c t h j) t ht _, zero_add]
  obtain ⟨e, rfl⟩ := row0 y
  have he : (win0_7.blk t).view.emb (ix2 0 e : S1x1024.Idx) = (ix2 0 e : S1x1024.Idx) := by blk_ext [hi]
  refine Eq.trans (points_sum t ht (fun p => tG m c p (ix2 0 e)) (fun r => gainOf width (row (argX m c) r) (reach (argW m c) (argQ m c) r) e) fun p => ?_)
    (congrArg (fun i : S1x1024.Idx => ∑ r, gainOf width (row (argX m c) r) (reach (argW m c) (argQ m c) r) (i 1)) he).symm
  show ∑ i, gainOf width (rowAt (iblk m c 2 p) i) (rowAt (tU m c p) i) e = _
  simp only [blk_x, blk_u]

end Cert.Kernel6Ideal.Hand

namespace Cert.Proof

open Idealize.ShloMosaic Idealize.ShloMosaic.TcCoe Idealize.SL.Sem

theorem h2_frame_reference : Cert.quiescent_Reference6Ideal := fun m ρ _ =>
  (θ_run Cert.Reference6Ideal.defs _ _).mono
    (fun r h => ⟨fun c => (h c).2.2.2, sem_eq_zero_of_no_sems (by decide) r.2⟩) (Cert.Reference6Ideal.Value.run m ρ)

/-- The gradients of the norm before the cross-attention's queries. -/
theorem h2_algebraic : Cert.algebraic_Kernel6Ideal_Reference6Ideal := by
  intro m g m' g' _ hagree
  refine ⟨_, _, _, Cert.Kernel6Ideal.Value.run m g, (θ_run _ _ _).mono (fun r h c => ?_) (Cert.Reference6Ideal.Value.run m' g')⟩
  obtain ⟨h0, h1, h2, h3⟩ := h c
  obtain ⟨a0, a1, a2, a3, a4⟩ := hagree c
  have hrows : ∀ i, Cert.Reference6Ideal.Read.val_main_v38 (F := Ideal) _ _ _ _ _ i = Cert.Kernel6Ideal.Hand.result m c i := fun i => by
    obtain ⟨r, e, rfl⟩ : ∃ (r : Fin 8192) (e : Fin 1024), i = ix2 r e := ⟨i 0, i 1, eq_ix2 i⟩
    exact Cert.Reference6Ideal.Hand.v38 _ _ _ _ _ r e
  refine ⟨h0.trans ?_, h1.trans ?_, h2.trans ?_, h3⟩
  · rw [Cert.Reference6Ideal.Read.val_main_v38_eq, a0, a1, a2, a3, a4]
    unfold Cert.Kernel6Ideal.Value.reg_main_v3_0
    rw [Cert.Kernel6Ideal.Hand.final5]
    exact funext hrows
  · rw [Cert.Reference6Ideal.Read.val_main_v39_eq, a0, a1, a2, a3, a4]
    unfold Cert.Kernel6Ideal.Value.reg_main_v3_1
    rw [Cert.Kernel6Ideal.Hand.final6]
    exact funext hrows
  · rw [Cert.Reference6Ideal.Read.val_main_v23_eq, a0, a2, a3]
    unfold Cert.Kernel6Ideal.Value.reg_main_v3_2
    rw [Cert.Kernel6Ideal.Hand.final7]
    funext i
    obtain ⟨e, rfl⟩ : ∃ e : Fin 1024, i = ix1 e := ⟨i 0, eq_ix1 i⟩
    refine (Cert.Reference6Ideal.Hand.v23 _ _ _ e).trans (Eq.symm ?_)
    pointwise []

end Cert.Proof

end
-- ==== Proof.Y1.lean ====
/-
  The gradient of the gated unit's first product through its nonlinearity: what the kernel leaves, and that it is the
  reference's.
-/
module

public import proofs.«01_k».proof.Defs
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Pipeline.ValueKit

@[expose] public section

set_option maxRecDepth 16384

noncomputable section

namespace Cert.Kernel7Ideal.Hand

open Cert.Kernel7Ideal Cert.Kernel7Ideal.Gen
open Idealize.ShloMosaic Idealize.ShloMosaic.TcCoe Idealize.SL.Sem
open Idealize.ShloMosaic.Pipeline (Dat)

abbrev one : EReal := 1
abbrev half : EReal := Ideal.ofBits .f32 0x3F000000#32
abbrev three : EReal := Ideal.ofBits .f32 0x40400000#32
abbrev cubic : EReal := Ideal.ofBits .f32 0x3D372713#32
abbrev outer : EReal := Ideal.ofBits .f32 0x3F4C422A#32

/-- The hyperbolic tangent in the nonlinearity. -/
def bend (y : EReal) : EReal := Ideal.tanh (outer * (y + cubic * (y * (y * y))))
/-- What reaches the tangent's argument. -/
def through (y u : EReal) : EReal := outer * (half * (y * u) * ((one + bend y) * (one - bend y)))
/-- The gradient past the nonlinearity. -/
def past (y u : EReal) : EReal := u * (half * (one + bend y)) + through y u + cubic * through y u * (three * (y * y))

section Block

variable (a : FVec Ideal S1024x512 .bf16) (b : FVec Ideal S512x512 .bf16) (d y : FVec Ideal S1024x512 .f32) (i : Fin 1024) (e : Fin 512)

theorem pay3_at : k0_pay3 (F := Ideal) y (ix2 i e) = bend (y (ix2 i e)) := by
  pointwise [k0_pay3]
  rfl

/-- What reaches the nonlinearity's output. -/
abbrev total : EReal := (∑ z, a (ix2 i z) * b (ix2 e z)) + d (ix2 i e)

theorem pay4_at : k0_pay4 (F := Ideal) a b d (ix2 i e) = total a b d i e := by
  pointwise [k0_pay4]

theorem pay5_at : k0_pay5 (F := Ideal) a b d y (ix2 i e) = through (y (ix2 i e)) (total a b d i e) := by
  pointwise [k0_pay5]
  simp only [pay3_at, pay4_at]
  rfl

theorem block_at : k0_pay1 (F := Ideal) (k0_pay2 y) (k0_pay6 a b d y) (k0_pay7 a b d y) (ix2 i e) = past (y (ix2 i e)) (total a b d i e) := by
  pointwise [k0_pay1, k0_pay2, k0_pay6, k0_pay7]
  simp only [pay3_at, pay4_at, pay5_at]
  rfl

end Block

variable (m : (ℓ : Loc nD τ sig) → Buf (Elt Ideal) ℓ) (c : Dev nD)

abbrev argY : FVec Ideal S8192x512 .f32 := m ((c.tc : Thread nD τ).loc main_arg0)
abbrev argW : FVec Ideal S512x512 .f32 := m ((c.tc : Thread nD τ).loc main_arg1)
abbrev argD : FVec Ideal S8192x512 .f32 := m ((c.tc : Thread nD τ).loc main_arg2)
abbrev argZ : FVec Ideal S8192x512 .f32 := m ((c.tc : Thread nD τ).loc main_arg3)

theorem entry_z : V m c main_v0 = truncf (F := Ideal) (s := S8192x512) (φ := .f32) .bf16 (argZ m c) bitsLt_bf16_f32 := by entry_read; rfl

theorem entry_w : V m c main_v1 = truncf (F := Ideal) (s := S512x512) (φ := .f32) .bf16 (argW m c) bitsLt_bf16_f32 := by entry_read; rfl

theorem idx : ∀ t : Fin cfg0.N, win0_0.index t 0 = t.val ∧ win0_2.index t 0 = t.val ∧ win0_3.index t 0 = t.val ∧ win0_4.index t 0 = t.val
    ∧ win0_0.index t 1 = 0 ∧ win0_2.index t 1 = 0 ∧ win0_3.index t 1 = 0 ∧ win0_4.index t 1 = 0 ∧ win0_1.index t 0 = 0 ∧ win0_1.index t 1 = 0 :=
  (by decide +kernel : ∀ t : Fin grid0.N, _)

section Point

variable (t : Fin cfg0.N) (i : Fin 1024) (e z : Fin 512)

/-- Row `i` of the block at a point. -/
def brow : Fin 8192 := ⟨t.val * 1024 + i.val, by have := lt_of_lt_of_eq t.isLt N_0; omega⟩

theorem blk_d : (iblk m c 2 t : FVec Ideal S1024x512 .f32) (ix2 i e) = argD m c (ix2 (brow t i) e) := by
  have h := idx t
  show V m c main_arg2 _ = _
  rw [V_main_arg2]
  refine congrArg (argD m c) ?_
  blk_ext [h, brow]

theorem blk_y : (iblk m c 3 t : FVec Ideal S1024x512 .f32) (ix2 i e) = argY m c (ix2 (brow t i) e) := by
  have h := idx t
  show V m c main_arg0 _ = _
  rw [V_main_arg0]
  refine congrArg (argY m c) ?_
  blk_ext [h, brow]

theorem blk_z : (iblk m c 0 t : FVec Ideal S1024x512 .bf16) (ix2 i z) = argZ m c (ix2 (brow t i) z) := by
  have h := idx t
  have e1 : (iblk m c 0 t : FVec Ideal S1024x512 .bf16) (ix2 i z) = (V m c main_v0 : FVec Ideal S8192x512 .bf16) (ix2 (brow t i) z) := by
    refine congrArg (V m c main_v0) ?_
    blk_ext [h, brow]
  refine e1.trans ?_
  rw [entry_z]
  rfl

theorem blk_w : (iblk m c 1 t : FVec Ideal S512x512 .bf16) (ix2 e z) = argW m c (ix2 e z) := by
  have h := idx t
  have e1 : (iblk m c 1 t : FVec Ideal S512x512 .bf16) (ix2 e z) = (V m c main_v1 : FVec Ideal S512x512 .bf16) (ix2 e z) := by
    refine congrArg (V m c main_v1) ?_
    blk_ext [h]
  refine e1.trans ?_
  rw [entry_w]
  rfl

end Point

/-- The kernel's result. -/
def result : FVec Ideal S8192x512 .f32 := fun i =>
  past (argY m c (ix2 (i 0) (i 1))) ((∑ z, argZ m c (ix2 (i 0) z) * argW m c (ix2 (i 1) z)) + argD m c (ix2 (i 0) (i 1)))

theorem final4 : (dats m 0 c).arrAt 4 cfg0.N = result m c := by
  refine (dats m 0 c).arrAt_eq_of_covers 4 _ (by decide +kernel) fun t _ y => ?_
  have hi := idx t
  blk_simp
  rw [after0_4]
  obtain ⟨i, e, rfl⟩ : ∃ (i : Fin 1024) (e : Fin 512), y = ix2 i e := ⟨y 0, y 1, eq_ix2 y⟩
  have he : (win0_4.blk t).view.emb (ix2 i e : S1024x512.Idx) = (ix2 (brow t i) e : S8192x512.Idx) := by blk_ext [hi, brow]
  refine Eq.trans ?_ (congrArg (result m c) he).symm
  have ho : out0_4 (iblk m c 0 t) (iblk m c 1 t) (iblk m c 2 t) (iblk m c 3 t)
      = k0_pay1 (F := Ideal) (k0_pay2 (iblk m c 3 t)) (k0_pay6 (iblk m c 0 t) (iblk m c 1 t) (iblk m c 2 t) (iblk m c 3 t))
        (k0_pay7 (iblk m c 0 t) (iblk m c 1 t) (iblk m c 2 t) (iblk m c 3 t)) := by
    frame_out
  rw [ho]
  refine (block_at _ _ _ _ i e).trans ?_
  simp only [total, blk_d, blk_y, blk_z, blk_w]
  rfl

end Cert.Kernel7Ideal.Hand

namespace Cert.Reference7Ideal.Hand

open Cert.Reference7Ideal Cert.Reference7Ideal.Gen Cert.Reference7Ideal.Read
open Cert.Kernel7Ideal.Hand (bend through past)
open Idealize.ShloMosaic Idealize.ShloMosaic.TcCoe

variable (x0 : FVec Ideal S8192x512 .f32) (x1 : FVec Ideal S512x512 .f32) (x2 x3 : FVec Ideal S8192x512 .f32) (r : Fin 8192) (e : Fin 512)

/-- What reaches the nonlinearity's output. -/
abbrev total : EReal := (∑ z, x3 (ix2 r z) * x1 (ix2 e z)) + x2 (ix2 r e)

theorem v10 : val_main_v10 (F := Ideal) x0 (ix2 r e) = bend (x0 (ix2 r e)) := by
  pointwise [val_main_v10, val_main_v9, val_main_v8, val_main_v7, val_main_v6, val_main_v5, val_main_v2, val_main_v1, val_main_v0, val_main_cst_0, val_main_cst_1]
  rw [mul_comm (x0 (ix2 r e) * x0 (ix2 r e))]
  rfl

theorem v23 : val_main_v23 (F := Ideal) x1 x2 x3 (ix2 r e) = total x1 x2 x3 r e := by
  pointwise [val_main_v23, val_main_v22]
  rw [add_comm]

theorem v30 : val_main_v30 (F := Ideal) x0 x1 x2 x3 (ix2 r e) = through (x0 (ix2 r e)) (total x1 x2 x3 r e) := by
  pointwise [val_main_v30, val_main_v29, val_main_v28, val_main_v27, val_main_v26, val_main_v24, val_main_v15, val_main_v14, val_main_v13, val_main_v12, val_main_v11, val_main_cst_2, val_main_cst_3, val_main_cst_6, val_main_cst_7]
  simp only [v23, v10]
  rfl

theorem v35 : val_main_v35 (F := Ideal) x0 x1 x2 x3 (ix2 r e) = past (x0 (ix2 r e)) (total x1 x2 x3 r e) := by
  pointwise [val_main_v35, val_main_v34, val_main_v33, val_main_v32, val_main_v31, val_main_v25, val_main_v19, val_main_v18, val_main_v17, val_main_v16, val_main_v4, val_main_v3, val_main_v2, val_main_cst, val_main_cst_4, val_main_cst_5, val_main_cst_8]
  simp only [v30, v23, v10]
  rfl

end Cert.Reference7Ideal.Hand

namespace Cert.Proof

open Idealize.ShloMosaic Idealize.ShloMosaic.TcCoe Idealize.SL.Sem

theorem y1_frame_reference : Cert.quiescent_Reference7Ideal := fun m ρ _ =>
  (θ_run Cert.Reference7Ideal.defs _ _).mono
    (fun r h => ⟨fun c => (h c).2, sem_eq_zero_of_no_sems (by decide) r.2⟩) (Cert.Reference7Ideal.Value.run m ρ)

/-- The gradient of the gated unit's first product through its nonlinearity. -/
theorem y1_algebraic : Cert.algebraic_Kernel7Ideal_Reference7Ideal := by
  intro m g m' g' _ hagree
  refine ⟨fun c => Cert.Kernel7Ideal.Hand.result m c, (θ_run _ _ _).mono (fun r h c => ⟨((h.2 c).1 4).trans (Cert.Kernel7Ideal.Hand.final4 m c), h.1 c⟩)
    (θ_run_and (Cert.Kernel7Ideal.Gen.unchanged m g) (Cert.Kernel7Ideal.Gen.run_main m g)),
    (θ_run _ _ _).mono (fun r h c => ?_) (Cert.Reference7Ideal.Value.run m' g')⟩
  obtain ⟨h0, h1⟩ := h c
  obtain ⟨a0, a1, a2, a3⟩ := hagree c
  refine ⟨h0.trans ?_, h1⟩
  rw [Cert.Reference7Ideal.Read.val_main_v35_eq, a0, a1, a2, a3]
  funext i
  obtain ⟨r, e, rfl⟩ : ∃ (r : Fin 8192) (e : Fin 512), i = ix2 r e := ⟨i 0, i 1, eq_ix2 i⟩
  exact Cert.Reference7Ideal.Hand.v35 _ _ _ _ r e

end Cert.Proof

end
-- ==== Proof.Up.lean ====
/-
  The gradient of the feed-forward's squared positive part, after the forward call that leaves the square: what the two
  calls leave, and that it is the reference's. The kernel takes the square root of the square, the reference branches.
-/
module

public import proofs.«01_k».proof.Defs
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pipeline.ValueKit

@[expose] public section

set_option maxRecDepth 16384

noncomputable section

namespace Cert.Kernel8Ideal.Hand

open Cert.Kernel8Ideal Cert.Kernel8Ideal.Gen
open Idealize.ShloMosaic Idealize.ShloMosaic.TcCoe Idealize.SL Idealize.SL.BI Idealize.SL.Sem
open Idealize.ShloMosaic.Pipeline (Dat)

/-- The square of the positive part. -/
def square (r : EReal) : EReal := max r 0 * max r 0
abbrev two : EReal := Ideal.ofBits .f32 0x40000000#32

/-- The root of the square is the positive part. -/
theorem root (r : EReal) : Ideal.sqrt (square r) = max r 0 := by
  unfold square
  have h : 0 ≤ max r 0 := le_max_right _ _
  generalize max r 0 = x at h ⊢
  induction x with
  | bot => simp at h
  | top => rw [EReal.top_mul_top]; rfl
  | coe x =>
    have hx : 0 ≤ x := by exact_mod_cast h
    rw [← EReal.coe_mul, Ideal.sqrt_coe, if_neg (not_lt.mpr (mul_nonneg hx hx)), Real.sqrt_mul_self hx]

section Block

theorem pay0_at (a : FVec Ideal S2048x1024 .bf16) (b : FVec Ideal S1024x2048 .bf16) (i j : Fin 2048) :
    k0_pay1 (F := Ideal) a b (ix2 i j) = square (∑ z, a (ix2 i z) * b (ix2 z j)) := by
  pointwise [k0_pay1]
  rfl

theorem pay1_at (a : FVec Ideal S1024x1024 .bf16) (b : FVec Ideal S2048x1024 .bf16) (s : FVec Ideal S1024x2048 .bf16) (i : Fin 1024) (j : Fin 2048) :
    k1_pay1 (F := Ideal) a b s (ix2 i j) = (∑ z, a (ix2 i z) * b (ix2 j z)) * two * Ideal.sqrt (s (ix2 i j)) := by
  pointwise [k1_pay1]

end Block

variable (m : (ℓ : Loc nD τ sig) → Buf (Elt Ideal) ℓ) (ρ : Dev nD → PrngReg) (c : Dev nD)

abbrev argH : FVec Ideal S8192x1024 .f32 := m ((c.tc : Thread nD τ).loc main_arg0)
abbrev argU : FVec Ideal S1024x4096 .f32 := m ((c.tc : Thread nD τ).loc main_arg1)
abbrev argW : FVec Ideal S4096x1024 .f32 := m ((c.tc : Thread nD τ).loc main_arg2)
abbrev argC : FVec Ideal S8192x1024 .f32 := m ((c.tc : Thread nD τ).loc main_arg3)

theorem entry_h : V1 m ρ c main_v0 = truncf (F := Ideal) (s := S8192x1024) (φ := .f32) .bf16 (argH m c) bitsLt_bf16_f32 := by
  show StableHlo.after hostOps0 (W0 m ρ c) (Proc.devRef .tc main_v0) = _
  entry_read
  rfl

theorem entry_u : V1 m ρ c main_v1 = truncf (F := Ideal) (s := S1024x4096) (φ := .f32) .bf16 (argU m c) bitsLt_bf16_f32 := by
  show StableHlo.after hostOps0 (W0 m ρ c) (Proc.devRef .tc main_v1) = _
  entry_read
  rfl

theorem entry_c : V3 m ρ c main_v3 = truncf (F := Ideal) (s := S8192x1024) (φ := .f32) .bf16 (argC m c) bitsLt_bf16_f32 := by
  refine Eq.trans (b := truncf (F := Ideal) (s := S8192x1024) (φ := .f32) .bf16 (W2 m ρ c main_arg3) bitsLt_bf16_f32) ?_ ?_
  · show StableHlo.after hostOps1 (W2 m ρ c) (Proc.devRef .tc main_v3) = _
    entry_read
    rfl
  exact congrArg (fun v : FVec Ideal S8192x1024 .f32 => truncf (F := Ideal) .bf16 v bitsLt_bf16_f32) (W2_args m ρ c main_arg3 (by decide))

theorem entry_w : V3 m ρ c main_v4 = truncf (F := Ideal) (s := S4096x1024) (φ := .f32) .bf16 (argW m c) bitsLt_bf16_f32 := by
  refine Eq.trans (b := truncf (F := Ideal) (s := S4096x1024) (φ := .f32) .bf16 (W2 m ρ c main_arg2) bitsLt_bf16_f32) ?_ ?_
  · show StableHlo.after hostOps1 (W2 m ρ c) (Proc.devRef .tc main_v4) = _
    entry_read
    rfl
  exact congrArg (fun v : FVec Ideal S4096x1024 .f32 => truncf (F := Ideal) .bf16 v bitsLt_bf16_f32) (W2_args m ρ c main_arg2 (by decide))

theorem idx0 : ∀ t : Fin cfg0.N, win0_0.index t 0 = t.val / 2 ∧ win0_0.index t 1 = 0 ∧ win0_1.index t 0 = 0 ∧ win0_1.index t 1 = t.val % 2
    ∧ win0_2.index t 0 = t.val / 2 ∧ win0_2.index t 1 = t.val % 2 :=
  (by decide +kernel : ∀ t : Fin grid0.N, _)

theorem idx1 : ∀ t : Fin cfg1.N, win1_0.index t 0 = t.val / 2 ∧ win1_0.index t 1 = 0 ∧ win1_1.index t 0 = t.val % 2 ∧ win1_1.index t 1 = 0
    ∧ win1_2.index t 0 = t.val / 2 ∧ win1_2.index t 1 = t.val % 2 ∧ win1_3.index t 0 = t.val / 2 ∧ win1_3.index t 1 = t.val % 2 :=
  (by decide +kernel : ∀ t : Fin grid1.N, _)

/-- A column of a block. -/
def bcol (t : ℕ) (j : Fin 2048) : Fin 4096 := ⟨t % 2 * 2048 + j.val, by omega⟩
def brow0 (t : Fin cfg0.N) (i : Fin 2048) : Fin 8192 := ⟨t.val / 2 * 2048 + i.val, by have := lt_of_lt_of_eq t.isLt N_0; omega⟩
def brow1 (t : Fin cfg1.N) (i : Fin 1024) : Fin 8192 := ⟨t.val / 2 * 1024 + i.val, by have := lt_of_lt_of_eq t.isLt N_1; omega⟩

/-- What the forward call leaves. -/
def saved : FVec Ideal S8192x4096 .bf16 := fun i => square (∑ z, argH m c (ix2 (i 0) z) * argU m c (ix2 z (i 1)))

theorem final_up : (dat0 (V1 m ρ) c).arrAt 2 cfg0.N = saved m c := by
  refine (dat0 (V1 m ρ) c).arrAt_eq_of_covers 2 _ (by decide +kernel) fun t _ y => ?_
  have hi := idx0 t
  blk_simp
  rw [after0_2]
  obtain ⟨i, j, rfl⟩ : ∃ (i j : Fin 2048), y = ix2 i j := ⟨y 0, y 1, eq_ix2 y⟩
  have he : (win0_2.blk t).view.emb (ix2 i j : S2048x2048.Idx) = (ix2 (brow0 t i) (bcol t.val j) : S8192x4096.Idx) := by blk_ext [hi, brow0, bcol]
  refine Eq.trans ?_ (congrArg (saved m c) he).symm
  have ho : out0_2 (iblk0 (V1 m ρ) c 0 t) (iblk0 (V1 m ρ) c 1 t) = k0_pay1 (F := Ideal) (iblk0 (V1 m ρ) c 0 t) (iblk0 (V1 m ρ) c 1 t) := by
    frame_out
  have hh : ∀ z, (iblk0 (V1 m ρ) c 0 t : FVec Ideal S2048x1024 .bf16) (ix2 i z) = argH m c (ix2 (brow0 t i) z) := fun z => by
    have e1 : (iblk0 (V1 m ρ) c 0 t : FVec Ideal S2048x1024 .bf16) (ix2 i z) = (V1 m ρ c main_v0 : FVec Ideal S8192x1024 .bf16) (ix2 (brow0 t i) z) := by
      refine congrArg (V1 m ρ c main_v0) ?_
      blk_ext [hi, brow0]
    refine e1.trans ?_
    rw [entry_h]
    rfl
  have hu : ∀ z, (iblk0 (V1 m ρ) c 1 t : FVec Ideal S1024x2048 .bf16) (ix2 z j) = argU m c (ix2 z (bcol t.val j)) := fun z => by
    have e1 : (iblk0 (V1 m ρ) c 1 t : FVec Ideal S1024x2048 .bf16) (ix2 z j) = (V1 m ρ c main_v1 : FVec Ideal S1024x4096 .bf16) (ix2 z (bcol t.val j)) := by
      refine congrArg (V1 m ρ c main_v1) ?_
      blk_ext [hi, bcol]
    refine e1.trans ?_
    rw [entry_u]
    rfl
  rw [ho]
  refine (pay0_at _ _ i j).trans ?_
  simp only [hh, hu]
  rfl

theorem entry_saved : V3 m ρ c main_v2 = saved m c :=
  (W3_of m ρ c main_v2 (by decide)).trans ((W2_arr m ρ c 2).trans (final_up m ρ c))

/-- The kernel's result. -/
def result : FVec Ideal S8192x4096 .bf16 := fun i =>
  (∑ z, argC m c (ix2 (i 0) z) * argW m c (ix2 (i 1) z)) * two * max (∑ z, argH m c (ix2 (i 0) z) * argU m c (ix2 z (i 1))) 0

theorem final_r : (dat1 (V3 m ρ) c).arrAt 3 cfg1.N = result m c := by
  refine (dat1 (V3 m ρ) c).arrAt_eq_of_covers 3 _ (by decide +kernel) fun t _ y => ?_
  have hi := idx1 t
  blk_simp
  rw [after1_3]
  obtain ⟨i, j, rfl⟩ : ∃ (i : Fin 1024) (j : Fin 2048), y = ix2 i j := ⟨y 0, y 1, eq_ix2 y⟩
  have he : (win1_3.blk t).view.emb (ix2 i j : S1024x2048.Idx) = (ix2 (brow1 t i) (bcol t.val j) : S8192x4096.Idx) := by blk_ext [hi, brow1, bcol]
  refine Eq.trans ?_ (congrArg (result m c) he).symm
  have ho : out1_3 (iblk1 (V3 m ρ) c 0 t) (iblk1 (V3 m ρ) c 1 t) (iblk1 (V3 m ρ) c 2 t)
      = k1_pay1 (F := Ideal) (iblk1 (V3 m ρ) c 0 t) (iblk1 (V3 m ρ) c 1 t) (iblk1 (V3 m ρ) c 2 t) := by
    frame_out
  have hc : ∀ z, (iblk1 (V3 m ρ) c 0 t : FVec Ideal S1024x1024 .bf16) (ix2 i z) = argC m c (ix2 (brow1 t i) z) := fun z => by
    have e1 : (iblk1 (V3 m ρ) c 0 t : FVec Ideal S1024x1024 .bf16) (ix2 i z) = (V3 m ρ c main_v3 : FVec Ideal S8192x1024 .bf16) (ix2 (brow1 t i) z) := by
      refine congrArg (V3 m ρ c main_v3) ?_
      blk_ext [hi, brow1]
    refine e1.trans ?_
    rw [entry_c]
    rfl
  have hw : ∀ z, (iblk1 (V3 m ρ) c 1 t : FVec Ideal S2048x1024 .bf16) (ix2 j z) = argW m c (ix2 (bcol t.val j) z) := fun z => by
    have e1 : (iblk1 (V3 m ρ) c 1 t : FVec Ideal S2048x1024 .bf16) (ix2 j z) = (V3 m ρ c main_v4 : FVec Ideal S4096x1024 .bf16) (ix2 (bcol t.val j) z) := by
      refine congrArg (V3 m ρ c main_v4) ?_
      blk_ext [hi, bcol]
    refine e1.trans ?_
    rw [entry_w]
    rfl
  have hs : (iblk1 (V3 m ρ) c 2 t : FVec Ideal S1024x2048 .bf16) (ix2 i j) = saved m c (ix2 (brow1 t i) (bcol t.val j)) := by
    have e1 : (iblk1 (V3 m ρ) c 2 t : FVec Ideal S1024x2048 .bf16) (ix2 i j) = (V3 m ρ c main_v2 : FVec Ideal S8192x4096 .bf16) (ix2 (brow1 t i) (bcol t.val j)) := by
      refine congrArg (V3 m ρ c main_v2) ?_
      blk_ext [hi, brow1, bcol]
    refine e1.trans ?_
    rw [entry_saved]
  rw [ho]
  refine (pay1_at _ _ _ i j).trans ?_
  simp only [hc, hw, hs]
  rw [show saved m c (ix2 (brow1 t i) (bcol t.val j)) = square (∑ z, argH m c (ix2 (brow1 t i) z) * argU m c (ix2 z (bcol t.val j))) from rfl, root]
  rfl

section Launch

open Idealize.SL.RA Idealize.ShloMosaic.Tactic Idealize.ShloMosaic.Rounds
open scoped Idealize.SL.BI
open Idealize.SL.BI.BIBase Idealize.SL.BI.Laws Idealize.SL.ProofMode

set_option backward.isDefEq.respectTransparency.types false in
/-- The two calls run, and every buffer ends at what they leave. -/
theorem run : θ_run defs (onTc (τ := τ) (main (F := Ideal))) ⟨m, fun _ => 0, ρ⟩ fun r =>
    ∀ (c : Dev nD), ∀ b ∈ Pipeline.ucRefs τ sig, r.2.mem (((c : Thread nD τ)).1, b) = W4 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end Launch

end Cert.Kernel8Ideal.Hand

namespace Cert.Reference8Ideal.Hand

open Cert.Reference8Ideal Cert.Reference8Ideal.Gen Cert.Reference8Ideal.Read
open Cert.Kernel8Ideal.Hand (two)
open Idealize.ShloMosaic Idealize.ShloMosaic.TcCoe

variable (x0 : FVec Ideal S8192x1024 .f32) (x1 : FVec Ideal S1024x4096 .f32) (x2 : FVec Ideal S4096x1024 .f32) (x3 : FVec Ideal S8192x1024 .f32)
  (r : Fin 8192) (e : Fin 4096)

theorem v0 : val_main_v0 (F := Ideal) x0 x1 (ix2 r e) = ∑ z, x0 (ix2 r z) * x1 (ix2 z e) := by
  pointwise [val_main_v0]

theorem v1 : val_main_v1 (F := Ideal) x0 x1 (ix2 r e) = max (∑ z, x0 (ix2 r z) * x1 (ix2 z e)) 0 := by
  pointwise [val_main_v1, val_main_call0_v0, val_main_call0_cst]
  rw [v0]

theorem v13 : val_main_v13 (F := Ideal) x0 x1 x2 x3 (ix2 r e)
    = (∑ z, x3 (ix2 r z) * x2 (ix2 e z)) * two * max (∑ z, x0 (ix2 r z) * x1 (ix2 z e)) 0 := by
  pointwise [val_main_v13, val_main_v12, val_main_v11, val_main_v10, val_main_v9, val_main_v7, val_main_v6, val_main_v3, val_main_v2,
    val_main_cst, val_main_cst_1, val_main_cst_2]
  rw [v0, v1]
  split_ifs with h
  · rw [mul_assoc]
  · rw [max_eq_right (not_lt.mp h), mul_zero]

end Cert.Reference8Ideal.Hand

namespace Cert.Proof

open Idealize.ShloMosaic Idealize.ShloMosaic.TcCoe Idealize.SL.Sem
open Cert.Kernel8Ideal.Gen (mem_uc W4_arr W4_main_arg0 W4_main_arg1 W4_main_arg2 W4_main_arg3)

theorem up_frame_reference : Cert.quiescent_Reference8Ideal := fun m ρ _ =>
  (θ_run Cert.Reference8Ideal.defs _ _).mono
    (fun r h => ⟨fun c => (h c).2, sem_eq_zero_of_no_sems (by decide) r.2⟩) (Cert.Reference8Ideal.Value.run m ρ)

/-- The gradient of the feed-forward's squared positive part, after its forward call. -/
theorem up_algebraic : Cert.algebraic_Kernel8Ideal_Reference8Ideal := by
  intro m g m' g' _ hagree
  refine ⟨fun c => Cert.Kernel8Ideal.Hand.result m c, (θ_run _ _ _).mono (fun r h c => ⟨?_, ?_, ?_, ?_, ?_⟩) (Cert.Kernel8Ideal.Hand.run m g),
    (θ_run _ _ _).mono (fun r h c => ?_) (Cert.Reference8Ideal.Value.run m' g')⟩
  · exact (h c _ (mem_uc Cert.Kernel8Ideal.main_v5 (by decide))).trans ((W4_arr m g c 3).trans (Cert.Kernel8Ideal.Hand.final_r m g c))
  · exact (h c _ (mem_uc Cert.Kernel8Ideal.main_arg0 (by decide))).trans (W4_main_arg0 m g c)
  · exact (h c _ (mem_uc Cert.Kernel8Ideal.main_arg1 (by decide))).trans (W4_main_arg1 m g c)
  · exact (h c _ (mem_uc Cert.Kernel8Ideal.main_arg2 (by decide))).trans (W4_main_arg2 m g c)
  · exact (h c _ (mem_uc Cert.Kernel8Ideal.main_arg3 (by decide))).trans (W4_main_arg3 m g c)
  obtain ⟨h0, h1⟩ := h c
  obtain ⟨a0, a1, a2, a3⟩ := hagree c
  refine ⟨h0.trans ?_, h1⟩
  rw [Cert.Reference8Ideal.Read.val_main_v13_eq, a0, a1, a2, a3]
  funext i
  obtain ⟨r, e, rfl⟩ : ∃ (r : Fin 8192) (e : Fin 4096), i = ix2 r e := ⟨i 0, i 1, eq_ix2 i⟩
  exact Cert.Reference8Ideal.Hand.v13 _ _ _ _ r e

end Cert.Proof

end
-- ==== Proof.H3Ref.lean ====
/-
  The reference's gradient of the norm before the MLP, line by line.
-/
module

public import proofs.«01_k».proof.Proof.Gen.Reference9Ideal.Read
public import proofs.«01_k».proof.Proof.H2Ref
public import Idealize.ShloMosaic.Lib.Pointwise

@[expose] public section

set_option maxRecDepth 16384

noncomputable section

namespace Cert.Reference9Ideal.Hand

open Cert.Reference9Ideal Cert.Reference9Ideal.Gen Cert.Reference9Ideal.Read Cert.Norm
open Idealize.ShloMosaic Idealize.ShloMosaic.TcCoe

/-- The width of the model. -/
abbrev width : EReal := Ideal.ofBits .f32 0x44800000#32

variable (x0 : FVec Ideal S8192x1024 .f32) (x1 : FVec Ideal S1024 .f32) (x2 : FVec Ideal S1024x4096 .f32) (x3 : FVec Ideal S8192x4096 .f32)
  (x4 : FVec Ideal S8192x1024 .f32) (r : Fin 8192) (e : Fin 1024)

abbrev row (x : FVec Ideal S8192x1024 .f32) (r : Fin 8192) : Fin 1024 → EReal := fun e => x (ix2 r e)
abbrev gain (g : FVec Ideal S1024 .f32) : Fin 1024 → EReal := fun e => g (ix1 e)
/-- What reaches the norm's output of a row. -/
abbrev reach (w : FVec Ideal S1024x4096 .f32) (d : FVec Ideal S8192x4096 .f32) (r : Fin 8192) : Fin 1024 → EReal := fun e => ∑ y, d (ix2 r y) * w (ix2 e y)

theorem v6 : val_main_v6 (F := Ideal) x0 (ix2 r 0) = meansq width (row x0 r) := by
  pointwise [val_main_v6, val_main_v5, val_main_v4, val_main_v3, val_main_v2, val_main_v1, val_main_v0, val_main_cst, val_main_cst_0, val_main_cst_1]
  rfl

theorem v7 : val_main_v7 (F := Ideal) x0 (ix2 r 0) = inv width (row x0 r) := by
  pointwise [val_main_v7]
  rw [v6]
  rfl

theorem v12 : val_main_v12 (F := Ideal) x0 (ix2 r e) = row x0 r e * inv width (row x0 r) := by
  pointwise [val_main_v12, val_main_v11]
  rw [v7]

theorem v17 : val_main_v17 (F := Ideal) x2 x3 (ix2 r e) = reach x2 x3 r e := by
  pointwise [val_main_v17]

theorem v23 : val_main_v23 (F := Ideal) x0 x2 x3 (ix1 e) = ∑ r, gainOf width (row x0 r) (reach x2 x3 r) e := by
  pointwise [val_main_v23, val_main_v20, val_main_v19, val_main_v18, val_main_cst_3, val_main_cst_4]
  simp only [Fin.sum_univ_one, v12, v17]
  rfl

theorem v22 : val_main_v22 (F := Ideal) x1 x2 x3 (ix2 r e) = reach x2 x3 r e * gain x1 e := by
  pointwise [val_main_v22, val_main_v21, val_main_v13]
  rw [v17]

theorem v33 : val_main_v33 (F := Ideal) x0 x1 x2 x3 (ix1 r) = pull width (row x0 r) (gain x1) (reach x2 x3 r) := by
  pointwise [val_main_v33, val_main_v32, val_main_v31, val_main_v30, val_main_v26, val_main_v25, val_main_v24, val_main_v10, val_main_v9, val_main_v8,
    val_main_cst_2, val_main_cst_5, val_main_cst_6, val_main_cst_7]
  simp only [Fin.sum_univ_one, v22, v6, v7]
  rfl

theorem v38 : val_main_v38 (F := Ideal) x0 x1 x2 x3 x4 (ix2 r e) = rowOf width (row x0 r) (gain x1) (reach x2 x3 r) e + row x4 r e := by
  pointwise [val_main_v38, val_main_v37, val_main_v36, val_main_v35, val_main_v34, val_main_v29, val_main_v28, val_main_v27]
  rw [v22, v7, v33]
  exact rowOf_add _ _ _ _ _ e

end Cert.Reference9Ideal.Hand

end
-- ==== Proof.H3.lean ====
/-
  The gradient of the norm before the MLP: what the kernel leaves, and that it is the reference's. The kernel sums the
  product over four blocks of the inner axis and takes the norm's gradient in four slabs of a block's rows; a slab is the
  slab of the norm before the cross-attention's queries.
-/
module

public import proofs.«01_k».proof.Defs
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal.Run
public import proofs.«01_k».proof.Proof.Gen.Reference9Ideal.Run
public import proofs.«01_k».proof.Proof.H2
public import proofs.«01_k».proof.Proof.H3Ref
public import Idealize.ShloMosaic.Lib.Pipeline.ValueKit
public import Idealize.ShloMosaic.Lib.Pipeline.ReadBack

@[expose] public section

set_option maxRecDepth 16384

noncomputable section

namespace Cert.Kernel9Ideal.Hand

open Cert.Kernel9Ideal Cert.Kernel9Ideal.Gen
open Cert.Reference6Ideal.Hand (width row gain)
open Cert.Reference9Ideal.Hand (reach)
open Cert.Kernel6Ideal.Hand (rowAt slabRow gainAt slab gains part part_row piece rows down slabs_sum gains_at row0)
open Cert.Norm (meansq inv gainOf pull rowOf)
open Idealize.ShloMosaic Idealize.ShloMosaic.TcCoe Idealize.SL.Sem
open Idealize.ShloMosaic.Pipeline (Dat)

/-- A point's share of the product. -/
abbrev product (a b : FVec Ideal S1024x1024 .bf16) (i : S1024x1024.Idx) : EReal := ∑ y : Fin 1024, a (ix2 (i 0) y) * b (ix2 (i 1) y)

theorem pay2_at (p : FVec Ideal S1024x1024 .f32) (a b : FVec Ideal S1024x1024 .bf16) (i e : Fin 1024) :
    k0_pay2 (F := Ideal) p a b (ix2 i e) = p (ix2 i e) + product a b (ix2 i e) := by
  pointwise [k0_pay2]
  rfl

section Slab

variable (x d u : FVec Ideal S256x1024 .f32) (g p : FVec Ideal S1x1024 .f32)

theorem slab_0 : k0_pay7 (F := Ideal) x d g u = slab x d u g := rfl
theorem slab_1 : k0_pay16 (F := Ideal) x d (k0_pay14 x g u) (k0_pay15 x g u) = slab x d u g := rfl
theorem slab_2 : k0_pay24 (F := Ideal) x d (k0_pay19 g) u (k0_pay21 x) (k0_pay22 x) = slab x d u g := rfl
theorem slab_3 : k0_pay31 (F := Ideal) x d (k0_pay27 g) u (k0_pay28 x) = slab x d u g := rfl
theorem gains_0 : k0_pay8 (F := Ideal) (k0_pay6 x u) p = gains x u p := rfl
theorem gains_1 : k0_pay17 (F := Ideal) (k0_pay12 x u) p = gains x u p := rfl
theorem gains_2 : k0_pay25 (F := Ideal) u (k0_pay23 x) p = gains x u p := rfl
theorem gains_3 : k0_pay32 (F := Ideal) x u (k0_pay28 x) p = gains x u p := rfl

end Slab

theorem zeros : ∀ a : Fin S1024x1024.rank, (![0, 0] : Fin 2 → ℕ) a = 0 := by intro a; fin_cases a <;> rfl

/-- Part of the running product, read back. -/
theorem read_part (Z : FVec Ideal S1024x1024 .f32) (r : Rect S1024x1024) (L) :
    (View.whole cc0_scratch0).readCov (Val := Elt Ideal) (⟨Rect.unit ![0, 0] ![1024, 1024] inb_S1024x1024_S1024x1024_0_0, Z⟩ :: L) r.toLoadRect
      = View.ld (Val := Elt Ideal) (e' := .f32) Z r :=
  View.readCov_fill (Val := Elt Ideal) (s := S1024x1024) (e := .f32) _ inb_S1024x1024_S1024x1024_0_0 Z L r zeros

variable (m : (ℓ : Loc nD τ sig) → Buf (Elt Ideal) ℓ) (c : Dev nD)

abbrev argX : FVec Ideal S8192x1024 .f32 := m ((c.tc : Thread nD τ).loc main_arg0)
abbrev argG : FVec Ideal S1024 .f32 := m ((c.tc : Thread nD τ).loc main_arg1)
abbrev argW : FVec Ideal S1024x4096 .f32 := m ((c.tc : Thread nD τ).loc main_arg2)
abbrev argQ : FVec Ideal S8192x4096 .f32 := m ((c.tc : Thread nD τ).loc main_arg3)
abbrev argD : FVec Ideal S8192x1024 .f32 := m ((c.tc : Thread nD τ).loc main_arg4)

theorem entry_g : V m c main_v0 = shapeCast (s := S1024) S1x1024 (argG m c) shapeCasts_S1024_S1x1024 := by entry_read; rfl

theorem entry_q : V m c main_v1 = truncf (F := Ideal) (s := S8192x4096) (φ := .f32) .bf16 (argQ m c) bitsLt_bf16_f32 := by entry_read; rfl

theorem entry_w : V m c main_v2 = truncf (F := Ideal) (s := S1024x4096) (φ := .f32) .bf16 (argW m c) bitsLt_bf16_f32 := by entry_read; rfl

theorem idx : ∀ t : Fin cfg0.N, win0_0.index t 0 = t.val / 4 ∧ win0_2.index t 0 = t.val / 4 ∧ win0_3.index t 0 = t.val / 4 ∧ win0_5.index t 0 = t.val / 4 ∧ win0_6.index t 0 = t.val / 4
    ∧ win0_0.index t 1 = t.val % 4 ∧ win0_2.index t 1 = 0 ∧ win0_3.index t 1 = 0 ∧ win0_5.index t 1 = 0 ∧ win0_6.index t 1 = 0
    ∧ win0_1.index t 0 = 0 ∧ win0_1.index t 1 = t.val % 4 ∧ win0_4.index t 0 = 0 ∧ win0_4.index t 1 = 0 ∧ win0_7.index t 0 = 0 ∧ win0_7.index t 1 = 0 :=
  (by decide +kernel : ∀ t : Fin grid0.N, _)

section Point

variable (t : Fin cfg0.N)

/-- Row `i` of the block at a point. -/
def brow (i : Fin 1024) : Fin 8192 := ⟨t.val / 4 * 1024 + i.val, by have := lt_of_lt_of_eq t.isLt N_0; omega⟩
/-- Place `y` of the inner axis of a block at a point. -/
def bcol (y : Fin 1024) : Fin 4096 := ⟨t.val % 4 * 1024 + y.val, by omega⟩

theorem blk_x (i : Fin 1024) : rowAt (iblk m c 2 t) i = row (argX m c) (brow t i) := by
  funext y
  have h := idx t
  show V m c main_arg0 _ = _
  rw [V_main_arg0]
  refine congrArg (argX m c) ?_
  blk_ext [h, brow]

theorem blk_d (i : Fin 1024) : rowAt (iblk m c 3 t) i = row (argD m c) (brow t i) := by
  funext y
  have h := idx t
  show V m c main_arg4 _ = _
  rw [V_main_arg4]
  refine congrArg (argD m c) ?_
  blk_ext [h, brow]

theorem blk_g : gainAt (iblk m c 4 t) = gain (argG m c) := by
  funext e
  have h := idx t
  have e1 : (iblk m c 4 t : FVec Ideal S1x1024 .f32) (ix2 0 e) = (V m c main_v0 : FVec Ideal S1x1024 .f32) (ix2 0 e) := by
    refine congrArg (V m c main_v0) ?_
    blk_ext [h]
  refine e1.trans ?_
  rw [entry_g]
  pointwise []

theorem blk_q (i y : Fin 1024) : (iblk m c 0 t : FVec Ideal S1024x1024 .bf16) (ix2 i y) = argQ m c (ix2 (brow t i) (bcol t y)) := by
  have h := idx t
  have e1 : (iblk m c 0 t : FVec Ideal S1024x1024 .bf16) (ix2 i y) = (V m c main_v1 : FVec Ideal S8192x4096 .bf16) (ix2 (brow t i) (bcol t y)) := by
    refine congrArg (V m c main_v1) ?_
    blk_ext [h, brow, bcol]
  refine e1.trans ?_
  rw [entry_q]
  rfl

theorem blk_w (e y : Fin 1024) : (iblk m c 1 t : FVec Ideal S1024x1024 .bf16) (ix2 e y) = argW m c (ix2 e (bcol t y)) := by
  have h := idx t
  have e1 : (iblk m c 1 t : FVec Ideal S1024x1024 .bf16) (ix2 e y) = (V m c main_v2 : FVec Ideal S1024x4096 .bf16) (ix2 e (bcol t y)) := by
    refine congrArg (V m c main_v2) ?_
    blk_ext [h, bcol]
  refine e1.trans ?_
  rw [entry_w]
  rfl

/-- The running product past a point. -/
abbrev sum (n : ℕ) (h : n < cfg0.N) : FVec Ideal S1024x1024 .f32 := (outsAt0 m c n h).2.2.2
/-- The running product a point adds to. -/
abbrev before : FVec Ideal S1024x1024 .f32 := sum m c (t.val - 1) (Nat.lt_of_le_of_lt (Nat.sub_le _ _) t.isLt)

theorem sum_A (h : t.val % 4 = 0) : sum m c t.val t.isLt = k0_pay2 (F := Ideal) (k0_pay1 (F := Ideal)) (iblk m c 0 t) (iblk m c 1 t) := by
  unfold sum
  rw [outsAt0_A m c t h (by omega)]
  frame_out

theorem sum_B (h : ¬ t.val % 4 = 0) : sum m c t.val t.isLt = k0_pay2 (F := Ideal) (before m c t) (iblk m c 0 t) (iblk m c 1 t) := by
  unfold before sum
  by_cases h1 : t.val % 4 = 3
  · by_cases h2 : t.val < 4
    · rw [outsAt0_C m c t h h1 h2]
      frame_out
      simp only [read_unread_whole]
    · rw [outsAt0_D m c t h h1 h2]
      frame_out
      simp only [read_unread_whole]
  · rw [outsAt0_B m c t h h1]
    frame_out
    simp only [read_unread_whole]

theorem sum_last (ht : t.val % 4 = 3) (i : Fin 1024) : rowAt (sum m c t.val t.isLt) i = reach (argW m c) (argQ m c) (brow t i) := by
  funext e
  have hN := lt_of_lt_of_eq t.isLt N_0
  refine (Pipeline.eq_sum_fin_of_reset_step_apply_of_flush (M := EReal) (sum m c) 4 (fun _ => 0) (fun t j => product (iblk m c 0 t) (iblk m c 1 t) j)
    (fun t h j => ?_) (fun t h j => ?_) t ht (ix2 i e)).trans ?_
  · obtain ⟨i, e, rfl⟩ : ∃ (i e : Fin 1024), j = ix2 i e := ⟨j 0, j 1, eq_ix2 j⟩
    rw [sum_A m c t h, pay2_at]
    refine congrArg (· + _) ?_
    pointwise [k0_pay1]
  · obtain ⟨i, e, rfl⟩ : ∃ (i e : Fin 1024), j = ix2 i e := ⟨j 0, j 1, eq_ix2 j⟩
    rw [sum_B m c t h, pay2_at]
  · rw [zero_add]
    refine Fin.sum_mul_add_congr fun s y hl => ?_
    refine (congrArg₂ (fun a b : EReal => a * b) (blk_q m c _ i y) (blk_w m c _ e y)).trans ?_
    have hr : brow ⟨4 * (t.val / 4) + s.val, Pipeline.run_point_lt_of_flush t ht s⟩ i = brow t i := Fin.ext (by
      show (4 * (t.val / 4) + s.val) / 4 * 1024 + i.val = t.val / 4 * 1024 + i.val
      omega)
    have hc : bcol ⟨4 * (t.val / 4) + s.val, Pipeline.run_point_lt_of_flush t ht s⟩ y = ⟨s.val * 1024 + y.val, hl⟩ := Fin.ext (by
      show (4 * (t.val / 4) + s.val) % 4 * 1024 + y.val = s.val * 1024 + y.val
      omega)
    rw [hr, hc]

/-- The block of rows at a point. -/
abbrev tRows : FVec Ideal S1024x1024 .f32 := rows (iblk m c 2 t) (iblk m c 3 t) (sum m c t.val t.isLt) (iblk m c 4 t)

/-- The slab at row `o` of a point. -/
abbrev tSlab (o : ℕ) (inb : ∀ a, (![o, 0] : Fin 2 → ℕ) a + (![256, 1024] : Fin 2 → ℕ) a ≤ S1024x1024.size a) : FVec Ideal S256x1024 .f32 :=
  slab (part (iblk m c 2 t) o inb) (part (iblk m c 3 t) o inb) (part (sum m c t.val t.isLt) o inb) (iblk m c 4 t)

theorem tSlab_at (o : ℕ) (inb) (ho : o + 256 ≤ 1024) (y : (Rect.unit (s := S1024x1024) ![o, 0] ![256, 1024] inb).shape.Idx) :
    tSlab m c t o inb y = tRows m c t ((Rect.unit (s := S1024x1024) ![o, 0] ![256, 1024] inb).emb y) :=
  piece _ _ _ _ o inb ho _ (part_row _ o inb ho) y

theorem out5 (ht : t.val % 4 = 3) : (outsAt0 m c t.val t.isLt).1 = tRows m c t := by
  have hp : ∀ y, View.canon (Val := Elt Ideal) (s := S1024x1024) (e := .f32)
      [⟨Rect.unit ![768, 0] ![256, 1024] inb_S1024x1024_S256x1024_768_0, tSlab m c t 768 inb_S1024x1024_S256x1024_768_0⟩,
       ⟨Rect.unit ![512, 0] ![256, 1024] inb_S1024x1024_S256x1024_512_0, tSlab m c t 512 inb_S1024x1024_S256x1024_512_0⟩,
       ⟨Rect.unit ![256, 0] ![256, 1024] inb_S1024x1024_S256x1024_256_0, tSlab m c t 256 inb_S1024x1024_S256x1024_256_0⟩,
       ⟨Rect.unit ![0, 0] ![256, 1024] inb_S1024x1024_S256x1024_0_0, tSlab m c t 0 inb_S1024x1024_S256x1024_0_0⟩] y = tRows m c t y := by
    intro y
    refine View.canon_apply_of_pieces (Val := Elt Ideal) (e := .f32) (tRows m c t) _ ?_ y ?_
    swap
    · exact View.cover_of_tiled _ ![256, 1024] rfl y
    simp only [List.forall_mem_cons, List.forall_mem_nil, and_true]
    exact ⟨tSlab_at m c t 768 _ (by decide), tSlab_at m c t 512 _ (by decide), tSlab_at m c t 256 _ (by decide), tSlab_at m c t 0 _ (by decide),
      fun _ h => absurd h List.not_mem_nil⟩
  refine Eq.trans ?_ (funext hp)
  unfold tSlab
  rw [sum_B m c t (by omega)]
  by_cases h2 : t.val < 4
  · rw [outsAt0_C m c t (by omega) ht h2]
    frame_out
    simp only [read_unread_whole, slab_0, slab_1, slab_2, slab_3]
    rw [read_part, read_part, read_part, read_part]
  · rw [outsAt0_D m c t (by omega) ht h2]
    frame_out
    simp only [read_unread_whole, slab_0, slab_1, slab_2, slab_3]
    rw [read_part, read_part, read_part, read_part]

theorem out6 (ht : t.val % 4 = 3) : (outsAt0 m c t.val t.isLt).2.1 = (outsAt0 m c t.val t.isLt).1 := by
  by_cases h2 : t.val < 4
  · rw [outsAt0_C m c t (by omega) ht h2]
    frame_out
    rfl
  · rw [outsAt0_D m c t (by omega) ht h2]
    frame_out
    rfl

/-- The gain's gradient, a slab later. -/
abbrev next (p : FVec Ideal S1x1024 .f32) (o : ℕ) (inb : ∀ a, (![o, 0] : Fin 2 → ℕ) a + (![256, 1024] : Fin 2 → ℕ) a ≤ S1024x1024.size a) : FVec Ideal S1x1024 .f32 :=
  gains (part (iblk m c 2 t) o inb) (part (sum m c t.val t.isLt) o inb) p

/-- The gain's gradient past a point. -/
abbrev after (p : FVec Ideal S1x1024 .f32) : FVec Ideal S1x1024 .f32 :=
  next m c t (next m c t (next m c t (next m c t p 0 inb_S1024x1024_S256x1024_0_0) 256 inb_S1024x1024_S256x1024_256_0) 512 inb_S1024x1024_S256x1024_512_0) 768
    inb_S1024x1024_S256x1024_768_0

/-- A point's share of the gain's gradient. -/
def tG : FVec Ideal S1x1024 .f32 := fun j => ∑ i, gainOf width (rowAt (iblk m c 2 t) i) (rowAt (sum m c t.val t.isLt) i) (j 1)

theorem after_at (p : FVec Ideal S1x1024 .f32) (e : Fin 1024) : after m c t p (ix2 0 e) = p (ix2 0 e) + tG m c t (ix2 0 e) := by
  simp only [after, next, gains_at, part_row _ 0 _ (by decide), part_row _ 256 _ (by decide), part_row _ 512 _ (by decide), part_row _ 768 _ (by decide)]
  rw [add_assoc, add_assoc, add_assoc]
  refine congrArg _ (Eq.trans ?_ (slabs_sum fun i => gainOf width (rowAt (iblk m c 2 t) i) (rowAt (sum m c t.val t.isLt) i) e))
  rw [add_assoc, add_assoc]

/-- The gain's gradient past a point. -/
abbrev gsum (n : ℕ) (h : n < cfg0.N) : FVec Ideal S1x1024 .f32 := (outsAt0 m c n h).2.2.1

theorem gsum_first (ht : t.val = 3) : gsum m c t.val t.isLt = after m c t k0_pay3 := by
  unfold after next
  rw [sum_B m c t (by omega)]
  unfold gsum
  rw [outsAt0_C m c t (by omega) (by omega) (by omega)]
  frame_out
  simp only [read_unread_whole, gains_0, gains_1, gains_2, gains_3]
  rw [read_part, read_part, read_part, read_part]

theorem gsum_step (ht : t.val % 4 = 3) (h2 : ¬ t.val < 4) : gsum m c t.val t.isLt = after m c t (gsum m c (t.val - 1) (Nat.lt_of_le_of_lt (Nat.sub_le _ _) t.isLt)) := by
  unfold after next
  rw [sum_B m c t (by omega)]
  unfold gsum
  rw [outsAt0_D m c t (by omega) ht h2]
  frame_out
  simp only [read_unread_whole, gains_0, gains_1, gains_2, gains_3]
  rw [read_part, read_part, read_part, read_part]

/-- A point that is no row block's last leaves the gain's gradient. -/
theorem gsum_keep (ht : ¬ t.val % 4 = 3) (h0 : t.val ≠ 0) : gsum m c t.val t.isLt = gsum m c (t.val - 1) (Nat.lt_of_le_of_lt (Nat.sub_le _ _) t.isLt) := by
  unfold gsum
  by_cases h : t.val % 4 = 0
  · rw [outsAt0_A m c t h ht]
    rfl
  · rw [outsAt0_B m c t h ht]
    rfl

end Point

/-- The last point of a row block. -/
def last (p : Fin 8) : Fin cfg0.N := ⟨4 * p.val + 3, by rw [show cfg0.N = 32 from N_0]; omega⟩

/-- The gain's gradient past a row block. -/
def past (n : ℕ) (h : n < 8) : S1x1024.Idx → EReal := gsum m c (last ⟨n, h⟩).val (last ⟨n, h⟩).isLt

/-- A row block's share of the gain's gradient. -/
def share (p : Fin 8) : S1x1024.Idx → EReal := tG m c (last p)

theorem past_first (j : S1x1024.Idx) : past m c 0 (by decide) j = 0 + share m c 0 j := by
  obtain ⟨e, rfl⟩ := row0 j
  unfold past share
  refine (congrFun (gsum_first m c (last 0) rfl) _).trans ?_
  refine (after_at m c (last 0) _ e).trans (congrArg (· + _) ?_)
  pointwise [k0_pay3]

theorem gsum_back (n a : ℕ) (h : n < cfg0.N) (ha : a < cfg0.N) (e : a = n - 1) (h3 : ¬ n % 4 = 3) (h0 : n ≠ 0) : gsum m c n h = gsum m c a ha := by
  subst e
  exact gsum_keep m c ⟨n, h⟩ h3 h0

theorem past_step (p : Fin 8) (hp : 0 < p.val) (j : S1x1024.Idx) :
    past m c p.val p.isLt j = past m c (p.val - 1) (Nat.lt_of_le_of_lt (Nat.sub_le _ _) p.isLt) j + share m c p j := by
  obtain ⟨e, rfl⟩ := row0 j
  have h4 : (last p).val = 4 * p.val + 3 := rfl
  have hb : ∀ a, a < 32 → a < cfg0.N := fun a h => lt_of_lt_of_eq h N_0.symm
  have hl := p.isLt
  unfold past share
  rw [gsum_step m c (last p) (by omega) (by omega)]
  refine (after_at m c (last p) _ e).trans (congrArg (· + _) (congrFun ?_ _))
  refine (gsum_back m c _ (4 * p.val + 1) _ (hb _ (by omega)) (by omega) (by omega) (by omega)).trans ?_
  refine (gsum_back m c _ (4 * p.val) _ (hb _ (by omega)) (by omega) (by omega) (by omega)).trans ?_
  exact gsum_back m c _ (4 * (p.val - 1) + 3) _ (hb _ (by omega)) (by omega) (by omega) (by omega)

theorem gsum_all (j : S1x1024.Idx) : gsum m c (last 7).val (last 7).isLt j = ∑ p : Fin 8, share m c p j :=
  (Pipeline.eq_sum_fin_of_reset_step_apply_last (M := EReal) (N := 8) (past m c) 8 (fun _ => 0) (share m c)
    (fun p h j => by
      have hp : p = 0 := Fin.ext (by rw [Fin.val_zero]; omega)
      subst hp
      exact past_first m c j)
    (fun p h j => past_step m c p (by omega) j) (Nat.le_refl 8) (7 : Fin 8) rfl j).trans (zero_add _)

/-- The kernel's rows. -/
abbrev result : FVec Ideal S8192x1024 .f32 := fun i =>
  rowOf width (row (argX m c) (i 0)) (gain (argG m c)) (reach (argW m c) (argQ m c) (i 0)) (i 1) + row (argD m c) (i 0) (i 1)

theorem tRows_at (t : Fin cfg0.N) (ht : t.val % 4 = 3) (i e : Fin 1024) : tRows m c t (ix2 i e) = result m c (ix2 (brow t i) e) := by
  show rowOf width (rowAt (iblk m c 2 t) i) (gainAt (iblk m c 4 t)) (rowAt (sum m c t.val t.isLt) i) e + rowAt (iblk m c 3 t) i e = _
  rw [blk_x, sum_last m c t ht, blk_d, blk_g]
  rfl

theorem final5 : (dats m 0 c).arrAt 5 cfg0.N = result m c := by
  refine (dats m 0 c).arrAt_eq_of_covers 5 _ (by decide +kernel) fun t hf y => ?_
  have hi := idx t
  have ht := (flush0_5 t).1 hf
  blk_simp
  rw [after0_5, out5 m c t ht]
  obtain ⟨i, e, rfl⟩ : ∃ (i : Fin 1024) (e : Fin 1024), y = ix2 i e := ⟨y 0, y 1, eq_ix2 y⟩
  have he : (win0_5.blk t).view.emb (ix2 i e : S1024x1024.Idx) = (ix2 (brow t i) e : S8192x1024.Idx) := by blk_ext [hi, brow]
  exact (tRows_at m c t ht i e).trans (congrArg (result m c) he).symm

theorem final6 : (dats m 0 c).arrAt 6 cfg0.N = result m c := by
  refine (dats m 0 c).arrAt_eq_of_covers 6 _ (by decide +kernel) fun t hf y => ?_
  have hi := idx t
  have ht := (flush0_6 t).1 hf
  blk_simp
  rw [after0_6, out6 m c t ht, out5 m c t ht]
  obtain ⟨i, e, rfl⟩ : ∃ (i : Fin 1024) (e : Fin 1024), y = ix2 i e := ⟨y 0, y 1, eq_ix2 y⟩
  have he : (win0_6.blk t).view.emb (ix2 i e : S1024x1024.Idx) = (ix2 (brow t i) e : S8192x1024.Idx) := by blk_ext [hi, brow]
  exact (tRows_at m c t ht i e).trans (congrArg (result m c) he).symm

theorem share_at (p : Fin 8) (e : Fin 1024) : share m c p (ix2 0 e)
    = ∑ i, gainOf width (row (argX m c) (brow (last p) i)) (reach (argW m c) (argQ m c) (brow (last p) i)) e := by
  have h4 : (last p).val = 4 * p.val + 3 := rfl
  show ∑ i, gainOf width (rowAt (iblk m c 2 (last p)) i) (rowAt (sum m c (last p).val (last p).isLt) i) e = _
  simp only [blk_x, sum_last m c (last p) (by omega)]

theorem shares (e : Fin 1024) : ∑ p : Fin 8, share m c p (ix2 0 e) = ∑ r, gainOf width (row (argX m c) r) (reach (argW m c) (argQ m c) r) e := by
  simp only [share_at]
  refine Fin.sum_mul_add_congr (S := 8) (n := 1024) (F := fun p i => gainOf width (row (argX m c) (brow (last p) i)) (reach (argW m c) (argQ m c) (brow (last p) i)) e)
    fun p i hl => ?_
  have hb : brow (last p) i = ⟨p.val * 1024 + i.val, hl⟩ := Fin.ext (by
    show (4 * p.val + 3) / 4 * 1024 + i.val = p.val * 1024 + i.val
    omega)
  rw [hb]

theorem final7 : (dats m 0 c).arrAt 7 cfg0.N = fun i : S1x1024.Idx => ∑ r, gainOf width (row (argX m c) r) (reach (argW m c) (argQ m c) r) (i 1) := by
  refine (dats m 0 c).arrAt_eq_of_covers 7 _ (by decide +kernel) fun t hf y => ?_
  have hi := idx t
  have ht := (flush0_7 t).1 hf
  have hN := lt_of_lt_of_eq t.isLt N_0
  have hl : t = last 7 := Fin.ext (by show t.val = 31; omega)
  blk_simp
  rw [after0_7]
  obtain ⟨e, rfl⟩ := row0 y
  have he : (win0_7.blk t).view.emb (ix2 0 e : S1x1024.Idx) = (ix2 0 e : S1x1024.Idx) := by blk_ext [hi]
  refine Eq.trans ?_ (congrArg (fun i : S1x1024.Idx => ∑ r, gainOf width (row (argX m c) r) (reach (argW m c) (argQ m c) r) (i 1)) he).symm
  subst hl
  exact (gsum_all m c _).trans (shares m c e)

end Cert.Kernel9Ideal.Hand

namespace Cert.Proof

open Idealize.ShloMosaic Idealize.ShloMosaic.TcCoe Idealize.SL.Sem

theorem h3_frame_reference : Cert.quiescent_Reference9Ideal := fun m ρ _ =>
  (θ_run Cert.Reference9Ideal.defs _ _).mono
    (fun r h => ⟨fun c => (h c).2.2.2, sem_eq_zero_of_no_sems (by decide) r.2⟩) (Cert.Reference9Ideal.Value.run m ρ)

/-- The gradients of the norm before the MLP. -/
theorem h3_algebraic : Cert.algebraic_Kernel9Ideal_Reference9Ideal := by
  intro m g m' g' _ hagree
  refine ⟨_, _, _, Cert.Kernel9Ideal.Value.run m g, (θ_run _ _ _).mono (fun r h c => ?_) (Cert.Reference9Ideal.Value.run m' g')⟩
  obtain ⟨h0, h1, h2, h3⟩ := h c
  obtain ⟨a0, a1, a2, a3, a4⟩ := hagree c
  have hrows : ∀ i, Cert.Reference9Ideal.Read.val_main_v38 (F := Ideal) _ _ _ _ _ i = Cert.Kernel9Ideal.Hand.result m c i := fun i => by
    obtain ⟨r, e, rfl⟩ : ∃ (r : Fin 8192) (e : Fin 1024), i = ix2 r e := ⟨i 0, i 1, eq_ix2 i⟩
    exact Cert.Reference9Ideal.Hand.v38 _ _ _ _ _ r e
  refine ⟨h0.trans ?_, h1.trans ?_, h2.trans ?_, h3⟩
  · rw [Cert.Reference9Ideal.Read.val_main_v38_eq, a0, a1, a2, a3, a4]
    unfold Cert.Kernel9Ideal.Value.reg_main_v3_0
    rw [Cert.Kernel9Ideal.Hand.final5]
    exact funext hrows
  · rw [Cert.Reference9Ideal.Read.val_main_v39_eq, a0, a1, a2, a3, a4]
    unfold Cert.Kernel9Ideal.Value.reg_main_v3_1
    rw [Cert.Kernel9Ideal.Hand.final6]
    exact funext hrows
  · rw [Cert.Reference9Ideal.Read.val_main_v23_eq, a0, a2, a3]
    unfold Cert.Kernel9Ideal.Value.reg_main_v3_2
    rw [Cert.Kernel9Ideal.Hand.final7]
    funext i
    obtain ⟨e, rfl⟩ : ∃ e : Fin 1024, i = ix1 e := ⟨i 0, eq_ix1 i⟩
    refine (Cert.Reference9Ideal.Hand.v23 _ _ _ e).trans (Eq.symm ?_)
    pointwise []

end Cert.Proof

end
-- ==== Proof.FwStep.lean ====
/-
  The attention's forward body at a grid point, over the reals: a block of keys, the walk over the blocks, the four sub-blocks
  of queries, and what each leaves in the output's rows.
-/
module

public import proofs.«01_k».proof.Proof.Gen.Kernel13Ideal.Launch
public import proofs.«01_k».proof.Proof.Gen.Kernel13Ideal.Points
public import proofs.«01_k».proof.Proof.Gen.Kernel13Ideal.Skeleton
public import Idealize.ShloMosaic.Lib.Tactic
public import Idealize.ShloMosaic.Lib.Pipeline.FrameBody

@[expose] public section

set_option maxRecDepth 16384

noncomputable section

namespace Cert.Kernel13Ideal.Hand

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- A program of the core, and a buffer of it. -/
abbrev Pg (F : FTy → Type) [FloatOps F] (β : Type) : Type _ := Prog (TpuEff nD τ sig (Elt F) (Λ₀ F) .tc) β
abbrev Bf (s : Shape) (e : EltTy) : Type _ := Memref sig .tc .vmem s e

/-! ## A block of keys -/

/-- A 256 by 256 tile of one word. -/
abbrev full (w : BitVec 32) : FVec F S256x256 .f32 := broadcast S256x256 (Scalar.ofBits .f32 w : F .f32)

/-- The zero columns of the other head. -/
abbrev zcol : FVec F S256x128 .bf16 := broadcast S256x128 (Scalar.ofBits .bf16 0x0000#16 : F .bf16)

/-- A row's sum as a column. -/
abbrev rowSum (x : FVec F S256x256 .f32) : FVec F S256x1 .f32 :=
  shapeCast S256x1 (multiReduction .add [1] S256 x 0x00000000#32 reduces_S256x256_S256 (.inl rfl) rfl) shapeCasts_S256_S256x1

/-- The scores of a head. -/
def zOf (q k : FVec F S256x128 .bf16) : FVec F S256x256 .f32 :=
  matmul dot_S256x128_S256x128_S256x256_1_1_0_0_n_n none q k (constant S256x256 .f32 0x00000000#32)

/-- The log of the logistic function. -/
def lbOf (z : FVec F S256x256 .f32) : FVec F S256x256 .f32 :=
  subf (minimumf z (full 0x00000000#32)) (log (addf (full 0x3F800000#32) (exp (subf (full 0x00000000#32) (absf z)))))

/-- The product with a matrix of ones, the left side in two halves of its bits. -/
def splitOf (x : FVec F S256x256 .f32) (u : FVec F S512x256 .bf16) : FVec F S256x256 .f32 :=
  matmul dot_S256x512_S512x256_S256x256_1_0_0_1_n_n none
    (concatenate S256x512 1 [⟨S256x256, truncf .bf16 x bitsLt_bf16_f32⟩,
      ⟨S256x256, truncf .bf16 (subf x (extf .f32 (truncf .bf16 x bitsLt_bf16_f32) bitsLt_bf16_f32)) bitsLt_bf16_f32⟩]
      concatenates_S256x256_S256x256_S256x512_d1) u (constant S256x256 .f32 0x00000000#32)

/-- What a sub-block of queries holds on its walk: the two heads' queries, the lanes of the first and the ones. -/
structure Sub (F : FTy → Type) where
  lanes : IVec S256x128 1
  qa : FVec F S256x128 .bf16
  up : FVec F S512x256 .bf16
  qb : FVec F S256x128 .bf16

/-- What it carries: both heads' sums of the logs and the result so far. -/
abbrev Car (F : FTy → Type) : Type := FVec F S256x1 .f32 × FVec F S256x1 .f32 × FVec F S256x128 .f32

variable (mL mW : FVec F S256x256 .f32 → FVec F S256x256 .f32)

/-- The logs of the complements, masked. -/
def lOf (q k : FVec F S256x128 .bf16) : FVec F S256x256 .f32 := mL (subf (lbOf (zOf q k)) (zOf q k))

/-- The weights, masked. -/
def wOf (u : FVec F S512x256 .bf16) (q k : FVec F S256x128 .bf16) (a : FVec F S256x1 .f32) : FVec F S256x256 .bf16 :=
  truncf .bf16 (mW (exp (addf (lbOf (zOf q k))
    (addf (broadcastTo S256x256 a broadcasts_S256x1_S256x256) (splitOf (lOf mL q k) u))))) bitsLt_bf16_f32

/-- A block of keys as read, and of values. -/
abbrev kbOf (x : Vec F S256x128 .bf16) : FVec F S256x128 .bf16 := shapeCast S256x128 x shapeCasts_S256x128_S256x128
abbrev vbOf (x : Vec F S256x128 .f32) : FVec F S256x128 .bf16 := truncf .bf16 x bitsLt_bf16_f32

/-- The carry after a block. -/
def carOf (s : Sub F) (kr : Vec F S256x128 .bf16) (vr : Vec F S256x128 .f32) (c : Car F) : Car F :=
  (addf c.1 (rowSum (lOf mL s.qa (kbOf kr))), addf c.2.1 (rowSum (lOf mL s.qb (kbOf kr))),
    addf c.2.2 (matmul dot_S256x512_S512x128_S256x128_1_0_0_1_n_n none
      (concatenate S256x512 1 [⟨S256x256, wOf mL mW s.up s.qa (kbOf kr) c.1⟩, ⟨S256x256, wOf mL mW s.up s.qb (kbOf kr) c.2.1⟩]
        concatenates_S256x256_S256x256_S256x512_d1)
      (concatenate S512x128 0 [⟨S256x128, select s.lanes (vbOf vr) zcol⟩, ⟨S256x128, select s.lanes zcol (vbOf vr)⟩]
        concatenates_S256x128_S256x128_S512x128_d0)
      (constant S256x128 .f32 0x00000000#32)))

/-- The block from row `off`: both arrays read there, the carry moved on. -/
def stepProg {β : Type} (s : Sub F) (arg3 : Bf S8192x128 .bf16) (arg4 : Bf S8192x128 .f32)
    (off : Fin 2 → Nat) (hin : ∀ a, off a + S256x128.size a ≤ S8192x128.size a) (c : Car F) (k : Car F → Pg F β) : Pg F β :=
  .op (.load arg3 (Rect.unit (s := S8192x128) off S256x128.size hin).toLoadRect (View.loadsAt_vmem h_S256x128)) fun (kr : Vec F S256x128 .bf16) =>
  .op (.load arg4 (Rect.unit (s := S8192x128) off S256x128.size hin).toLoadRect (View.loadsAt_vmem h_S256x128)) fun (vr : Vec F S256x128 .f32) =>
  k (carOf mL mW s kr vr c)

/-! ## The walk -/

/-- The larger of both heads' largest sum, which the walk compares with its threshold. -/
def topOf (a b : FVec F S256x1 .f32) : F .f32 :=
  extractAt ![0, 0, 0] (shapeCast S1x1x1 (multiReduction .maximumf [1, 2] S1
    (shapeCast S1x256x1 (maximumf a b) shapeCasts_S256x1_S1x256x1) 0xFF800000#32 reduces_S1x256x1_S1 (.inl rfl) rfl)
    shapeCasts_S1_S1x1x1) inpos_S1x1x1_p0_0_0

/-- The sub-block's number as a word. -/
def qWord (i : grid0.Coords) (h : BitVec 32) : BitVec 32 := Scalar.addi (Scalar.muli (BitVec.ofNat 32 (i 1).val) 4#32) h

variable [Named F]

/-- Whether the walk takes block `n`. -/
def testOf (i : grid0.Coords) (h n : BitVec 32) (a b : FVec F S256x1 .f32) : BitVec 1 :=
  Scalar.andi (Scalar.cmpi .sle n (qWord i h)) (Scalar.cmpf .ogt (topOf a b) (Named.named κ "exit" 0xC2DC0000#32))

/-- The walk: block after block while the test holds. -/
def whileProg (s : Sub F) (arg3 : Bf S8192x128 .bf16) (arg4 : Bf S8192x128 .f32)
    (i : grid0.Coords) (h n : BitVec 32) (c : Car F) (P : Prop) (dec : Decidable P)
    (off : Fin 2 → Nat) (hin : P → ∀ a, off a + S256x128.size a ≤ S8192x128.size a)
    (again : BitVec 32 → Car F → Pg F (BitVec 32 × Car F)) : Pg F (BitVec 32 × Car F) :=
  if testOf i h n c.1 c.2.1 = 1#1 then
    .op (.assume P dec) fun hP => stepProg id id s arg3 arg4 off (hin hP.down) c fun c' => again (Scalar.addi n 1#32) c'
  else .ret (n, c)

section Walks

variable (s : Sub F) (i : grid0.Coords) (arg3 : Bf S8192x128 .bf16) (harg3 : arg3.IsWhole) (arg4 : Bf S8192x128 .f32) (harg4 : arg4.IsWhole)
  (n : BitVec 32) (c : Car F)

/-- The first walk's call, and what it unfolds to. -/
abbrev rec1 : Cc0While1 F := ⟨i, arg3, harg3, arg4, harg4, s.lanes, s.qa, s.up, s.qb, n, c.1, c.2.1, c.2.2⟩
theorem while1_eq : cc0_while1 i arg3 harg3 arg4 harg4 s.lanes s.qa s.up s.qb n c.1 c.2.1 c.2.2
    = whileProg s arg3 arg4 i 0#32 n c (k0_chk1 i n) (k0_chk1.dec i n) (k0_off2 i n) (k0_off2_inb i n)
        (fun n' c' => Prog.lift (.call (1 : (Λ₀ F).Label) (rec1 s i arg3 harg3 arg4 harg4 n' c'))) := by
  sl_kernel_rfl

/-- The second walk's call, and what it unfolds to. -/
abbrev rec2 : Cc0While2 F := ⟨i, arg3, harg3, arg4, harg4, s.lanes, s.qa, s.up, s.qb, n, c.1, c.2.1, c.2.2⟩
theorem while2_eq : cc0_while2 i arg3 harg3 arg4 harg4 s.lanes s.qa s.up s.qb n c.1 c.2.1 c.2.2
    = whileProg s arg3 arg4 i 1#32 n c (k0_chk2 i n) (k0_chk2.dec i n) (k0_off3 i n) (k0_off3_inb i n)
        (fun n' c' => Prog.lift (.call (2 : (Λ₀ F).Label) (rec2 s i arg3 harg3 arg4 harg4 n' c'))) := by
  sl_kernel_rfl

/-- The third walk's call, and what it unfolds to. -/
abbrev rec3 : Cc0While3 F := ⟨i, arg3, harg3, arg4, harg4, s.lanes, s.qa, s.up, s.qb, n, c.1, c.2.1, c.2.2⟩
theorem while3_eq : cc0_while3 i arg3 harg3 arg4 harg4 s.lanes s.qa s.up s.qb n c.1 c.2.1 c.2.2
    = whileProg s arg3 arg4 i 2#32 n c (k0_chk3 i n) (k0_chk3.dec i n) (k0_off4 i n) (k0_off4_inb i n)
        (fun n' c' => Prog.lift (.call (3 : (Λ₀ F).Label) (rec3 s i arg3 harg3 arg4 harg4 n' c'))) := by
  sl_kernel_rfl

/-- The fourth walk's call, and what it unfolds to. -/
abbrev rec4 : Cc0While4 F := ⟨i, arg3, harg3, arg4, harg4, s.lanes, s.qa, s.up, s.qb, n, c.1, c.2.1, c.2.2⟩
theorem while4_eq : cc0_while4 i arg3 harg3 arg4 harg4 s.lanes s.qa s.up s.qb n c.1 c.2.1 c.2.2
    = whileProg s arg3 arg4 i 3#32 n c (k0_chk4 i n) (k0_chk4.dec i n) (k0_off5 i n) (k0_off5_inb i n)
        (fun n' c' => Prog.lift (.call (4 : (Λ₀ F).Label) (rec4 s i arg3 harg3 arg4 harg4 n' c'))) := by
  sl_kernel_rfl

end Walks

/-! ## The body -/

/-- The ones below the diagonal, twice. -/
def upM : FVec F S512x256 .bf16 :=
  concatenate S512x256 0 [⟨S256x256, truncf .bf16 (sitofp .f32 (extui 32 (cmpi .sgt (iota .tc S256x256 32 [0] iota_S256x256_d0_w32) (iota .tc S256x256 32 [1] iota_S256x256_d1_w32)) natLt_1_32)) bitsLt_bf16_f32⟩,
    ⟨S256x256, truncf .bf16 (sitofp .f32 (extui 32 (cmpi .sgt (iota .tc S256x256 32 [0] iota_S256x256_d0_w32) (iota .tc S256x256 32 [1] iota_S256x256_d1_w32)) natLt_1_32)) bitsLt_bf16_f32⟩]
    concatenates_S256x256_S256x256_S512x256_d0

/-- The columns of the first head of a pair. -/
def laneM : IVec S256x128 1 := cmpi .slt (iota .tc S256x128 32 [1] iota_S256x128_d1_w32) (broadcast S256x128 64#32)

/-- The mask of the diagonal block: keys before the query. -/
def diagM (x : FVec F S256x256 .f32) : FVec F S256x256 .f32 :=
  select (cmpi .slt (iota .tc S256x256 32 [1] iota_S256x256_d1_w32) (iota .tc S256x256 32 [0] iota_S256x256_d0_w32)) x (full 0x00000000#32)

/-- The mask of the block before it: whether there is one. -/
def prevM (i : grid0.Coords) (h : BitVec 32) (x : FVec F S256x256 .f32) : FVec F S256x256 .f32 :=
  select (broadcast S256x256 (Scalar.cmpi .sgt (qWord i h) 0#32)) x (full 0x00000000#32)

/-- A sub-block's fixed part, from its queries. -/
def subOf (q : Vec F S256x128 .bf16) : Sub F := ⟨laneM, select laneM (kbOf q) zcol, upM, select laneM zcol (kbOf q)⟩

/-- Nothing carried yet. -/
def car0 : Car F :=
  (broadcast S256x1 (Scalar.ofBits .f32 0x00000000#32 : F .f32), broadcast S256x1 (Scalar.ofBits .f32 0x00000000#32 : F .f32),
    broadcast S256x128 (Scalar.ofBits .f32 0x00000000#32 : F .f32))

section Body

variable (i : grid0.Coords) (arg2 : Bf S1024x128 .bf16) (arg3 : Bf S8192x128 .bf16) (arg4 : Bf S8192x128 .f32) (arg5 : Bf S1024x128 .f32)
  (harg3 : arg3.IsWhole) (harg4 : arg4.IsWhole)

/-- A sub-block before its walk: its own block of keys and the one before. -/
def headProg {β : Type} (row : Fin 2 → Nat) (hrow : ∀ a, row a + S256x128.size a ≤ S1024x128.size a) (h : BitVec 32)
    (hin : ∀ (n : Fin 2) a, k0_off1 i h (BitVec.ofNat 32 n.val) a + S256x128.size a ≤ S8192x128.size a)
    (k : Sub F → Car F → Pg F β) : Pg F β :=
  .op (.load arg2 (Rect.unit (s := S1024x128) row S256x128.size hrow).toLoadRect (View.loadsAt_vmem h_S256x128)) fun (q : Vec F S256x128 .bf16) =>
  stepProg diagM diagM (subOf q) arg3 arg4 (k0_off1 i h 0#32) (hin 0) car0 fun c =>
  stepProg id (prevM i h) (subOf q) arg3 arg4 (k0_off1 i h 1#32) (hin 1) c fun c =>
  k (subOf q) c

/-- Its walk, and its rows of the result stored. -/
def tailProg {β : Type} (row : Fin 2 → Nat) (hrow : ∀ a, row a + S256x128.size a ≤ S1024x128.size a)
    (p : Pg F (BitVec 32 × Car F)) (k : Pg F β) : Pg F β :=
  p.bind fun r =>
  .op (.load arg5 (Rect.unit (s := S1024x128) row S256x128.size hrow).toLoadRect (View.loadsAt_vmem h_S256x128)) fun (_ : Vec F S256x128 .f32) =>
  .op (.store arg5 (Rect.unit (s := S1024x128) row S256x128.size hrow) r.2.2.2 Finset.univ
    (View.stores_vmem_bits_univ h_S256x128 rfl) (.inl rfl)) fun _ => k

/-- The body. -/
def bodyProg : Pg F PUnit :=
  headProg i arg2 arg3 arg4 ![0, 0] inb_S1024x128_S256x128_0_0 0#32 (k0_off1_inb i 0) fun s0 c0 =>
  headProg i arg2 arg3 arg4 ![256, 0] inb_S1024x128_S256x128_256_0 1#32 (k0_off1_inb i 1) fun s1 c1 =>
  headProg i arg2 arg3 arg4 ![512, 0] inb_S1024x128_S256x128_512_0 2#32 (k0_off1_inb i 2) fun s2 c2 =>
  headProg i arg2 arg3 arg4 ![768, 0] inb_S1024x128_S256x128_768_0 3#32 (k0_off1_inb i 3) fun s3 c3 =>
  tailProg arg5 ![0, 0] inb_S1024x128_S256x128_0_0 (Prog.lift (.call (1 : (Λ₀ F).Label) (rec1 s0 i arg3 harg3 arg4 harg4 2#32 c0))) <|
  tailProg arg5 ![256, 0] inb_S1024x128_S256x128_256_0 (Prog.lift (.call (2 : (Λ₀ F).Label) (rec2 s1 i arg3 harg3 arg4 harg4 2#32 c1))) <|
  tailProg arg5 ![512, 0] inb_S1024x128_S256x128_512_0 (Prog.lift (.call (3 : (Λ₀ F).Label) (rec3 s2 i arg3 harg3 arg4 harg4 2#32 c2))) <|
  tailProg arg5 ![768, 0] inb_S1024x128_S256x128_768_0 (Prog.lift (.call (4 : (Λ₀ F).Label) (rec4 s3 i arg3 harg3 arg4 harg4 2#32 c3))) <|
  .ret ⟨⟩

set_option maxHeartbeats 1000000 in
/-- It is the printed one. -/
theorem body_eq (harg2 : arg2.IsWhole) (harg5 : arg5.IsWhole) :
    cc0_sb_fwd (F := F) i arg2 harg2 arg3 harg3 arg4 harg4 arg5 harg5 = bodyProg i arg2 arg3 arg4 arg5 harg3 harg4 := by
  sl_kernel_rfl

end Body

end Cert.Kernel13Ideal.Hand
-- ==== Proof.FwRun.lean ====
/-
  The attention's forward body run, over the reals: from the buffers it reads to the rows of the result it leaves.
-/
module

public import proofs.«01_k».proof.Proof.FwStep
public import Idealize.ShloMosaic.Lib.Pipeline.FrameBody

@[expose] public section

set_option maxRecDepth 16384

noncomputable section

namespace Cert.Kernel13Ideal.Hand

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
section Access

/-- A load through a memref owned at `X` reads `X` on the rectangle. -/
theorem load_owns (𝒱 : Variants) (c : Dev nD) (bd : Option 𝒱.V) (E : Set ℕ) {α : Type} (Q : α → sProp 𝕄)
    (D : Defs nD τ sig (Elt F) (Λ₀ F)) {s : Shape} {e : EltTy} (m : Memref sig .tc .vmem s e) (q : PosShare TreeShare) (X : s.Idx → Elt F e) (r : Rect s)
    {hl : m.view.LoadsAt r.toLoadRect} (k : (r.shape.Idx → Elt F e) → Pg F α) :
    iprop(owns (c : Thread nD τ) m q X ∗ (owns (c : Thread nD τ) m q X -∗ wp frame (wpE D 𝒱 c bd) E (k (View.ld X r)) Q))
      ⊢ wp frame (wpE D 𝒱 c bd) E (.op (.load m r.toLoadRect hl) k) Q := by
  unfold owns
  iintro ⟨⟨%f, %hf, H⟩, Hk⟩
  iapply (wp_load 𝒱 (c : Thread nD τ) bd E (m := m) (r := r.toLoadRect) (by
    intro i hi; obtain ⟨j, _, rfl⟩ := Finset.mem_map.1 hi; exact Finset.mem_map_of_mem _ (Finset.mem_univ _))) $$ H
  iintro H
  rw [View.readAt_eq_ld, hf]
  iapply Hk
  iexists f; isplitr
  · ipureintro; exact hf
  iexact H

/-- A store of the whole rectangle leaves the memref owned at `X` overlaid there. -/
theorem store_owns (𝒱 : Variants) (c : Dev nD) (bd : Option 𝒱.V) (E : Set ℕ) {α : Type} (Q : α → sProp 𝕄)
    (D : Defs nD τ sig (Elt F) (Λ₀ F)) {s : Shape} {e : EltTy} (m : Memref sig .tc .vmem s e) (X : s.Idx → Elt F e) (r : Rect s) (w : r.shape.Idx → Elt F e)
    {hx : (m.access r).Stores Finset.univ} {hm : (Finset.univ : Finset r.shape.Idx) = Finset.univ ∨ ∀ a, r.stride a = 1}
    (k : PUnit → Pg F α) :
    iprop(owns (c : Thread nD τ) m fullShare X
        ∗ (owns (c : Thread nD τ) m fullShare (r.overlay X w) -∗ wp frame (wpE D 𝒱 c bd) E (k ⟨⟩) Q))
      ⊢ wp frame (wpE D 𝒱 c bd) E (.op (.store m r w Finset.univ hx hm) k) Q := by
  unfold owns
  iintro ⟨⟨%f, %hf, H⟩, Hk⟩
  iapply (wp_store 𝒱 (c : Thread nD τ) bd E (m := m) (r := r) (Mk := Finset.univ) (by
    intro i hi; obtain ⟨j, _, rfl⟩ := Finset.mem_map.1 hi; exact Finset.mem_map_of_mem _ (Finset.mem_univ _))) $$ H
  iintro H
  iapply Hk
  iexists _; isplitr
  · ipureintro
    show m.view.read (Elt F) ((m.view.slice r).write (Elt F) f w Finset.univ) = _
    funext j
    by_cases hj : j ∈ r.set
    · obtain ⟨i, rfl⟩ := r.exists_idx_of_mem hj
      rw [show r.idx i = r.emb i from rfl, Rect.overlay_emb]
      exact View.read_slice_write_emb r f w (Finset.mem_univ i)
    · rw [Rect.overlay_of_not_mem _ _ _ hj, ← hf]
      exact View.read_slice_write_of_not_mem r f w _ (by rwa [Rect.map_emb_univ])
  iexact H

end Access

/-! ## The walk -/

/-- The 256 rows of the keys and the values from `off` on. -/
abbrev rowR (off : Fin 2 → Nat) (hin : ∀ a, off a + S256x128.size a ≤ S8192x128.size a) : Rect S8192x128 :=
  Rect.unit (s := S8192x128) off S256x128.size hin

/-- The carry after the block from row `off`, -/
def stepAt (mL mW : FVec F S256x256 .f32 → FVec F S256x256 .f32) (s : Sub F) (K : Vec F S8192x128 .bf16) (V : Vec F S8192x128 .f32)
    (off : Fin 2 → Nat) (hin : ∀ a, off a + S256x128.size a ≤ S8192x128.size a) (x : Car F) : Car F :=
  carOf mL mW s (View.ld K (rowR off hin)) (View.ld V (rowR off hin)) x

theorem blk_in (j : Fin 32) : ∀ a, (![256 * j.val, 0] : Fin 2 → Nat) a + S256x128.size a ≤ S8192x128.size a := by
  revert j; decide

/-- after block `j`. -/
def stepSt (mL mW : FVec F S256x256 .f32 → FVec F S256x256 .f32) (s : Sub F) (K : Vec F S8192x128 .bf16) (V : Vec F S8192x128 .f32)
    (j : Fin 32) (x : Car F) : Car F := stepAt mL mW s K V ![256 * j.val, 0] (blk_in j) x

theorem stepAt_eq (mL mW : FVec F S256x256 .f32 → FVec F S256x256 .f32) (s : Sub F) (K : Vec F S8192x128 .bf16) (V : Vec F S8192x128 .f32)
    (off : Fin 2 → Nat) (hin : ∀ a, off a + S256x128.size a ≤ S8192x128.size a) (j : Fin 32) (h : off = ![256 * j.val, 0]) (x : Car F) :
    stepAt mL mW s K V off hin x = stepSt mL mW s K V j x := by
  subst h; rfl

section Step

variable (c : Dev nD) (arg3 : Bf S8192x128 .bf16) (arg4 : Bf S8192x128 .f32) (K : Vec F S8192x128 .bf16) (V : Vec F S8192x128 .f32)

/-- The keys and the values, held. -/
def held : sProp 𝕄 := iprop(owns (c : Thread nD τ) arg3 fullShare K ∗ owns (c : Thread nD τ) arg4 fullShare V)

theorem wp_step (𝒱 : Variants) (bd : Option 𝒱.V) (E : Set ℕ) {β : Type} (Q : β → sProp 𝕄) (D : Defs nD τ sig (Elt F) (Λ₀ F))
    (mL mW : FVec F S256x256 .f32 → FVec F S256x256 .f32) (s : Sub F)
    (off : Fin 2 → Nat) (hin : ∀ a, off a + S256x128.size a ≤ S8192x128.size a) (x : Car F) (k : Car F → Pg F β) :
    iprop(held c arg3 arg4 K V ∗ (held c arg3 arg4 K V -∗ wp frame (wpE D 𝒱 c bd) E (k (stepAt mL mW s K V off hin x)) Q))
      ⊢ wp frame (wpE D 𝒱 c bd) E (stepProg mL mW s arg3 arg4 off hin x k) Q := by
  unfold held stepProg
  iintro ⟨⟨H3, H4⟩, Hk⟩
  iapply (load_owns 𝒱 c bd E Q D arg3 fullShare K (rowR off hin))
  isplitl [H3]; · iexact H3
  iintro H3
  iapply (load_owns 𝒱 c bd E Q D arg4 fullShare V (rowR off hin))
  isplitl [H4]; · iexact H4
  iintro H4
  iapply Hk
  isplitl [H3]; · iexact H3
  iexact H4

end Step

/-- The number of a sub-block of queries. -/
def qNum (i : grid0.Coords) (h : Fin 4) : ℕ := 4 * (i 1).val + h.val

theorem qNum_lt (i : grid0.Coords) (h : Fin 4) : qNum i h < 32 := by
  have h1 : (i 1).val < 8 := (i 1).isLt
  have h2 := h.isLt
  unfold qNum; omega

/-- The block of keys `n` before the sub-block's own. -/
def kNum (i : grid0.Coords) (h : Fin 4) (n : ℕ) : Fin 32 := ⟨qNum i h - n, lt_of_le_of_lt (Nat.sub_le _ _) (qNum_lt i h)⟩

variable [Named F]

/-- The carry the walk ends with, from block `n` on, `k` blocks at most. -/
def walkF (s : Sub F) (K : Vec F S8192x128 .bf16) (V : Vec F S8192x128 .f32) (i : grid0.Coords) (h : Fin 4) : ℕ → ℕ → Car F → BitVec 32 × Car F
  | 0, n, x => (BitVec.ofNat 32 n, x)
  | k + 1, n, x =>
    if testOf i (BitVec.ofNat 32 h.val) (BitVec.ofNat 32 n) x.1 x.2.1 = 1#1 then
      walkF s K V i h k (n + 1) (stepSt id id s K V (kNum i h n) x)
    else (BitVec.ofNat 32 n, x)

/-- Below the sub-block's number the comparison of the words is that of the numbers. -/
theorem word_le (i : grid0.Coords) (h : Fin 4) (n : ℕ) (hn : n < 40) :
    Scalar.cmpi .sle (BitVec.ofNat 32 n) (qWord i (BitVec.ofNat 32 h.val)) = 1#1 ↔ n ≤ qNum i h := by
  have h1 : (i 1).val < 8 := (i 1).isLt
  unfold qWord qNum
  generalize (i 1).val = a at h1
  have : ∀ a : Fin 8, ∀ h : Fin 4, ∀ n : Fin 40, (Scalar.cmpi .sle (BitVec.ofNat 32 n.val) (Scalar.addi (Scalar.muli (BitVec.ofNat 32 a.val) 4#32) (BitVec.ofNat 32 h.val)) = 1#1 ↔ n.val ≤ 4 * a.val + h.val) := by
    decide +kernel
  exact this ⟨a, h1⟩ h ⟨n, hn⟩

theorem test_false (i : grid0.Coords) (h : Fin 4) (n : ℕ) (hn : n < 40) (hq : ¬ n ≤ qNum i h) (a b : FVec F S256x1 .f32) :
    ¬ testOf i (BitVec.ofNat 32 h.val) (BitVec.ofNat 32 n) a b = 1#1 := by
  intro ht
  have h0 : Scalar.cmpi .sle (BitVec.ofNat 32 n) (qWord i (BitVec.ofNat 32 h.val)) = 1#1 := by
    unfold testOf at ht
    generalize Scalar.cmpi .sle (BitVec.ofNat 32 n) (qWord i (BitVec.ofNat 32 h.val)) = u at ht ⊢
    generalize Scalar.cmpf .ogt (topOf a b) (Named.named κ "exit" 0xC2DC0000#32) = v at ht
    revert u v; decide
  exact hq ((word_le i h n hn).1 h0)

/-- The next word. -/
theorem word_succ (n : ℕ) (hn : n < 40) : Scalar.addi (BitVec.ofNat 32 n) 1#32 = BitVec.ofNat 32 (n + 1) := by
  have : ∀ n : Fin 40, Scalar.addi (BitVec.ofNat 32 n.val) 1#32 = BitVec.ofNat 32 (n.val + 1) := by decide +kernel
  exact this ⟨n, hn⟩

section Walk

variable (c : Dev nD) (arg3 : Bf S8192x128 .bf16) (arg4 : Bf S8192x128 .f32)
  (K : Vec F S8192x128 .bf16) (V : Vec F S8192x128 .f32) (s : Sub F) (i : grid0.Coords) (h : Fin 4)

/-- What a walk from block `n` does: both arrays stay, the carry ends as `walkF` has it. -/
def walkSpec (k n : ℕ) (x : Car F) : sWPT 𝕄 (BitVec 32 × Car F) := do
  sWPT.consume (held c arg3 arg4 K V)
  sWPT.produce (held c arg3 arg4 K V)
  pure ((walkF s K V i h k n x).1, (walkF s K V i h k n x).2)

theorem walkSpec_apply (k n : ℕ) (x : Car F) (Q : BitVec 32 × Car F → sProp 𝕄) :
    walkSpec c arg3 arg4 K V s i h k n x Q
      = iprop(held c arg3 arg4 K V ∗ (held c arg3 arg4 K V
          -∗ Q ((walkF s K V i h k n x).1, (walkF s K V i h k n x).2))) := rfl

/-- The walk's body meets it, given that its call does. -/
theorem walk_run (E : Set ℕ) (D : Defs nD τ sig (Elt F) (Λ₀ F))
    (again : BitVec 32 → Car F → Pg F (BitVec 32 × Car F))
    (chk : BitVec 32 → Prop) (dec : ∀ n, Decidable (chk n)) (off : BitVec 32 → Fin 2 → Nat)
    (hin : ∀ n, chk n → ∀ a, off n a + S256x128.size a ≤ S8192x128.size a)
    (hchk : ∀ n : ℕ, n ≤ qNum i h → chk (BitVec.ofNat 32 n))
    (hoff : ∀ n : ℕ, n ≤ qNum i h → off (BitVec.ofNat 32 n) = ![256 * (kNum i h n).val, 0])
    (hcall : ∀ (n : BitVec 32) (a : Car F) (v : ℕ) (S : sWPT 𝕄 (BitVec 32 × Car F)),
      (∀ Q, S Q ⊢ wp frame (wpE D Variants.nat (c : Thread nD τ) (some v)) E
        (whileProg s arg3 arg4 i (BitVec.ofNat 32 h.val) n a (chk n) (dec n) (off n) (hin n) again) Q) →
      ∀ Q, S (fun r => wp frame (wpE D Variants.nat (c : Thread nD τ) (some (v + 1))) E (.ret r) Q)
        ⊢ wp frame (wpE D Variants.nat (c : Thread nD τ) (some (v + 1))) E (again n a) Q) :
    ∀ k n, n + k = 34 → ∀ (x : Car F) (Q), walkSpec c arg3 arg4 K V s i h k n x Q
      ⊢ wp frame (wpE D Variants.nat (c : Thread nD τ) (some k)) E
        (whileProg s arg3 arg4 i (BitVec.ofNat 32 h.val) (BitVec.ofNat 32 n) x (chk (BitVec.ofNat 32 n)) (dec _) (off _) (hin _) again) Q := by
  have hq := qNum_lt i h
  intro k
  induction k with
  | zero =>
    intro n hn x Q
    rw [walkSpec_apply]
    unfold whileProg
    rw [if_neg (test_false i h n (by omega) (by omega) _ _), show walkF s K V i h 0 n x = (BitVec.ofNat 32 n, x) from rfl]
    iintro ⟨H, Hk⟩
    rw [wp_ret]; imodintro
    iapply Hk
    iexact H
  | succ k ih =>
    intro n hn x Q
    rw [walkSpec_apply]
    unfold whileProg
    by_cases ht : testOf i (BitVec.ofNat 32 h.val) (BitVec.ofNat 32 n) x.1 x.2.1 = 1#1
    · have hle : n ≤ qNum i h := by
        by_contra hc
        exact test_false i h n (by omega) hc _ _ ht
      rw [if_pos ht]
      have hw : walkF s K V i h (k + 1) n x = walkF s K V i h k (n + 1) (stepSt id id s K V (kNum i h n) x) := by
        rw [walkF, if_pos ht]
      rw [hw]
      iintro ⟨H, Hk⟩
      iapply (wp_assume Variants.nat (c : Thread nD τ) (some (k + 1)) E (hchk n hle))
      iapply (wp_step c arg3 arg4 K V Variants.nat (some (k + 1)) E Q D id id s (off _) _ x)
      isplitl [H]; · iexact H
      rw [stepAt_eq id id s K V _ _ (kNum i h n) (hoff n hle) x, word_succ n (by omega)]
      iintro H
      iapply (hcall (BitVec.ofNat 32 (n + 1)) (stepSt id id s K V (kNum i h n) x) k _ (ih (n + 1) (by omega) (stepSt id id s K V (kNum i h n) x)) Q)
      rw [walkSpec_apply]
      isplitl [H]; · iexact H
      iintro H
      rw [wp_ret]; imodintro
      iapply Hk
      iexact H
    · rw [if_neg ht]
      have hw : walkF s K V i h (k + 1) n x = (BitVec.ofNat 32 n, x) := by
        rw [walkF, if_neg ht]
      rw [hw]
      iintro ⟨H, Hk⟩
      rw [wp_ret]; imodintro
      iapply Hk
      iexact H

end Walk

/-! ## Offsets and checks in numbers -/

/-- The bytes' row of block `n` before sub-block `h`'s own, as the body computes it. -/
def rowWord (a h n : BitVec 32) : BitVec 32 := Scalar.muli (Scalar.maxsi (Scalar.subi (Scalar.addi (Scalar.muli a 4#32) h) n) 0#32) 256#32

theorem rowWord_num : ∀ (a : Fin 8) (h : Fin 4) (n : Fin 40),
    (rowWord (BitVec.ofNat 32 a.val) (BitVec.ofNat 32 h.val) (BitVec.ofNat 32 n.val)).toNat = 256 * (4 * a.val + h.val - n.val) := by
  decide +kernel

theorem rowWord_val (i : grid0.Coords) (h : Fin 4) (n : ℕ) (hn : n < 40) :
    (rowWord (BitVec.ofNat 32 (i 1).val) (BitVec.ofNat 32 h.val) (BitVec.ofNat 32 n)).toNat = 256 * (kNum i h n).val := by
  have h1 : (i 1).val < 8 := (i 1).isLt
  exact rowWord_num ⟨_, h1⟩ h ⟨n, hn⟩

theorem off1_val (i : grid0.Coords) (h : Fin 4) (n : ℕ) (hn : n < 40) :
    k0_off1 i (BitVec.ofNat 32 h.val) (BitVec.ofNat 32 n) = ![256 * (kNum i h n).val, 0] := by
  rw [← rowWord_val i h n hn]; rfl

theorem in_rows (j : Fin 32) : ∀ a, (![256 * j.val, 0] : Fin 2 → ℕ) a + S256x128.size a ≤ S8192x128.size a := blk_in j

theorem chk_of (i : grid0.Coords) (h : Fin 4) (n : ℕ) (hn : n < 40) (off : Fin 2 → ℕ)
    (ho : off = ![256 * (kNum i h n).val, 0]) :
    (256 ∣ (rowWord (BitVec.ofNat 32 (i 1).val) (BitVec.ofNat 32 h.val) (BitVec.ofNat 32 n)).toNat)
        ∧ ∀ a, off a + S256x128.size a ≤ S8192x128.size a := by
  refine ⟨?_, ?_⟩
  · rw [rowWord_val i h n hn]; exact Dvd.intro _ rfl
  · rw [ho]; exact in_rows _

theorem off2_val (i : grid0.Coords) (n : ℕ) (hn : n < 40) : k0_off2 i (BitVec.ofNat 32 n) = ![256 * (kNum i 0 n).val, 0] := off1_val i 0 n hn
theorem off3_val (i : grid0.Coords) (n : ℕ) (hn : n < 40) : k0_off3 i (BitVec.ofNat 32 n) = ![256 * (kNum i 1 n).val, 0] := off1_val i 1 n hn
theorem off4_val (i : grid0.Coords) (n : ℕ) (hn : n < 40) : k0_off4 i (BitVec.ofNat 32 n) = ![256 * (kNum i 2 n).val, 0] := off1_val i 2 n hn
theorem off5_val (i : grid0.Coords) (n : ℕ) (hn : n < 40) : k0_off5 i (BitVec.ofNat 32 n) = ![256 * (kNum i 3 n).val, 0] := off1_val i 3 n hn

theorem chk1_of (i : grid0.Coords) (n : ℕ) (hn : n < 40) : k0_chk1 i (BitVec.ofNat 32 n) := chk_of i 0 n hn _ (off2_val i n hn)
theorem chk2_of (i : grid0.Coords) (n : ℕ) (hn : n < 40) : k0_chk2 i (BitVec.ofNat 32 n) := chk_of i 1 n hn _ (off3_val i n hn)
theorem chk3_of (i : grid0.Coords) (n : ℕ) (hn : n < 40) : k0_chk3 i (BitVec.ofNat 32 n) := chk_of i 2 n hn _ (off4_val i n hn)
theorem chk4_of (i : grid0.Coords) (n : ℕ) (hn : n < 40) : k0_chk4 i (BitVec.ofNat 32 n) := chk_of i 3 n hn _ (off5_val i n hn)

/-! ## The body -/

variable [Named F]

/-- A sub-block's rows of a block of queries. -/
def rowsOf {e : EltTy} (h : Fin 4) (X : S1024x128.Idx → Elt F e) : S256x128.Idx → Elt F e :=
  match h with
  | 0 => View.ld X (Rect.unit (s := S1024x128) ![0, 0] S256x128.size inb_S1024x128_S256x128_0_0)
  | 1 => View.ld X (Rect.unit (s := S1024x128) ![256, 0] S256x128.size inb_S1024x128_S256x128_256_0)
  | 2 => View.ld X (Rect.unit (s := S1024x128) ![512, 0] S256x128.size inb_S1024x128_S256x128_512_0)
  | 3 => View.ld X (Rect.unit (s := S1024x128) ![768, 0] S256x128.size inb_S1024x128_S256x128_768_0)

/-- What a point reads. -/
structure Ins (F : FTy → Type) where
  q : Vec F S1024x128 .bf16
  k : Vec F S8192x128 .bf16
  v : Vec F S8192x128 .f32

/-- A sub-block's fixed part, its carry before the walk and its rows of the result. -/
def Ins.sub (a : Ins F) (h : Fin 4) : Sub F := subOf (rowsOf h a.q)
def headSt (a : Ins F) (i : grid0.Coords) (h : Fin 4) : Car F :=
  stepSt id (prevM i (BitVec.ofNat 32 h.val)) (a.sub h) a.k a.v (kNum i h 1) (stepSt diagM diagM (a.sub h) a.k a.v (kNum i h 0) car0)
def rowsAt (a : Ins F) (i : grid0.Coords) (h : Fin 4) : Vec F S256x128 .f32 := (walkF (a.sub h) a.k a.v i h 32 2 (headSt a i h)).2.2.2

/-- A sub-block's rows of the result written over `Z`. -/
def putRows (h : Fin 4) (Z : Vec F S1024x128 .f32) (w : Vec F S256x128 .f32) : Vec F S1024x128 .f32 :=
  match h with
  | 0 => (Rect.unit (s := S1024x128) ![0, 0] S256x128.size inb_S1024x128_S256x128_0_0).overlay Z w
  | 1 => (Rect.unit (s := S1024x128) ![256, 0] S256x128.size inb_S1024x128_S256x128_256_0).overlay Z w
  | 2 => (Rect.unit (s := S1024x128) ![512, 0] S256x128.size inb_S1024x128_S256x128_512_0).overlay Z w
  | 3 => (Rect.unit (s := S1024x128) ![768, 0] S256x128.size inb_S1024x128_S256x128_768_0).overlay Z w

/-- The block of the result a point leaves, over what was there. -/
def outPt (a : Ins F) (i : grid0.Coords) (Z : Vec F S1024x128 .f32) : Vec F S1024x128 .f32 :=
  putRows 3 (putRows 2 (putRows 1 (putRows 0 Z (rowsAt a i 0)) (rowsAt a i 1)) (rowsAt a i 2)) (rowsAt a i 3)

section Run

variable (c : Dev nD) (arg2 : Bf S1024x128 .bf16) (arg3 : Bf S8192x128 .bf16) (arg4 : Bf S8192x128 .f32) (arg5 : Bf S1024x128 .f32)
  (harg3 : arg3.IsWhole) (harg4 : arg4.IsWhole) (a : Ins F) (i : grid0.Coords)

/-- The four buffers of a point, held. -/
def held4 (Z : Vec F S1024x128 .f32) : sProp 𝕄 :=
  iprop(owns (c : Thread nD τ) arg2 fullShare a.q ∗ held c arg3 arg4 a.k a.v ∗ owns (c : Thread nD τ) arg5 fullShare Z)

theorem wp_head (𝒱 : Variants) (bd : Option 𝒱.V) (E : Set ℕ) {β : Type} (Q : β → sProp 𝕄) (D : Defs nD τ sig (Elt F) (Λ₀ F))
    (row : Fin 2 → Nat) (hrow : ∀ a, row a + S256x128.size a ≤ S1024x128.size a) (h : Fin 4)
    (hr : ∀ {e : EltTy} (X : S1024x128.Idx → Elt F e), View.ld X (Rect.unit (s := S1024x128) row S256x128.size hrow) = rowsOf h X)
    (hin : ∀ (n : Fin 2) a, k0_off1 i (BitVec.ofNat 32 h.val) (BitVec.ofNat 32 n.val) a + S256x128.size a ≤ S8192x128.size a)
    (Z : Vec F S1024x128 .f32) (k : Sub F → Car F → Pg F β) :
    iprop(held4 c arg2 arg3 arg4 arg5 a Z ∗ (held4 c arg2 arg3 arg4 arg5 a Z -∗ wp frame (wpE D 𝒱 c bd) E (k (a.sub h) (headSt a i h)) Q))
      ⊢ wp frame (wpE D 𝒱 c bd) E (headProg i arg2 arg3 arg4 row hrow (BitVec.ofNat 32 h.val) hin k) Q := by
  unfold held4 headProg
  iintro ⟨⟨H2, H, H5⟩, Hk⟩
  iapply (load_owns 𝒱 c bd E Q D arg2 fullShare a.q (Rect.unit (s := S1024x128) row S256x128.size hrow))
  isplitl [H2]; · iexact H2
  iintro H2
  rw [hr]
  iapply (wp_step c arg3 arg4 a.k a.v 𝒱 bd E Q D diagM diagM (a.sub h) _ _ car0)
  isplitl [H]; · iexact H
  rw [stepAt_eq diagM diagM (a.sub h) a.k a.v _ _ (kNum i h 0) (off1_val i h 0 (by omega))]
  iintro H
  iapply (wp_step c arg3 arg4 a.k a.v 𝒱 bd E Q D id (prevM i (BitVec.ofNat 32 h.val)) (a.sub h) _ _ _)
  isplitl [H]; · iexact H
  rw [stepAt_eq id (prevM i (BitVec.ofNat 32 h.val)) (a.sub h) a.k a.v _ _ (kNum i h 1) (off1_val i h 1 (by omega))]
  iintro H
  iapply Hk
  isplitl [H2]; · iexact H2
  isplitl [H]; · iexact H
  iexact H5

theorem wp_tail (𝒱 : Variants) (bd : Option 𝒱.V) (E : Set ℕ) {β : Type} (Q : β → sProp 𝕄) (D : Defs nD τ sig (Elt F) (Λ₀ F))
    (row : Fin 2 → Nat) (hrow : ∀ a, row a + S256x128.size a ≤ S1024x128.size a) (h : Fin 4)
    (hr : ∀ (X : Vec F S1024x128 .f32) (w : Vec F S256x128 .f32), (Rect.unit (s := S1024x128) row S256x128.size hrow).overlay X w = putRows h X w)
    (p : Pg F (BitVec 32 × Car F)) (Z : Vec F S1024x128 .f32)
    (hp : ∀ (Q' : β → sProp 𝕄) (k : BitVec 32 × Car F → Pg F β),
      walkSpec c arg3 arg4 a.k a.v (a.sub h) i h 32 2 (headSt a i h) (fun r => wp frame (wpE D 𝒱 (c : Thread nD τ) bd) E (k r) Q')
        ⊢ wp frame (wpE D 𝒱 (c : Thread nD τ) bd) E (p.bind k) Q')
    (k : Pg F β) :
    iprop(held4 c arg2 arg3 arg4 arg5 a Z ∗ (held4 c arg2 arg3 arg4 arg5 a (putRows h Z (rowsAt a i h)) -∗ wp frame (wpE D 𝒱 c bd) E k Q))
      ⊢ wp frame (wpE D 𝒱 c bd) E (tailProg arg5 row hrow p k) Q := by
  unfold held4 tailProg
  iintro ⟨⟨H2, H, H5⟩, Hk⟩
  iapply (hp Q _)
  rw [walkSpec_apply]
  isplitl [H]; · iexact H
  iintro H
  iapply (load_owns 𝒱 c bd E Q D arg5 fullShare Z (Rect.unit (s := S1024x128) row S256x128.size hrow))
  isplitl [H5]; · iexact H5
  iintro H5
  iapply (store_owns 𝒱 c bd E Q D arg5 Z (Rect.unit (s := S1024x128) row S256x128.size hrow))
  isplitl [H5]; · iexact H5
  rw [hr]
  iintro H5
  iapply Hk
  isplitl [H2]; · iexact H2
  isplitl [H]; · iexact H
  iexact H5

theorem call1 (E : Set ℕ) (s : Sub F) (x : Car F) {β : Type} (Q : β → sProp 𝕄) (k : BitVec 32 × Car F → Pg F β) :
    walkSpec c arg3 arg4 a.k a.v s i 0 32 2 x (fun r => wp frame (wpE (defs₀ (F := F)) Variants.nat (c : Thread nD τ) none) E (k r) Q)
      ⊢ wp frame (wpE (defs₀ (F := F)) Variants.nat (c : Thread nD τ) none) E ((Prog.lift (.call (1 : (Λ₀ F).Label) (rec1 s i arg3 harg3 arg4 harg4 2#32 x))).bind k) Q := by
  have hw := fun n c => while1_eq s i arg3 harg3 arg4 harg4 n c
  have hr := walk_run c arg3 arg4 a.k a.v s i 0 E (defs₀ (F := F))
    (fun n' c' => Prog.lift (.call (1 : (Λ₀ F).Label) (rec1 s i arg3 harg3 arg4 harg4 n' c')))
    (k0_chk1 i) (k0_chk1.dec i) (k0_off2 i) (k0_off2_inb i)
    (fun n hn => chk1_of i n (by have := qNum_lt i 0; omega)) (fun n hn => off2_val i n (by have := qNum_lt i 0; omega))
    (fun n c' v S hS Q => by
      refine wp_call_spec (defs := defs₀ (F := F)) (ℓ := (1 : (Λ₀ F).Label)) (a := rec1 s i arg3 harg3 arg4 harg4 n c') (k := .ret) (Q := Q)
        Variants.nat (c : Thread nD τ) (some (v + 1)) E S v (fun u hu => by cases hu; exact Nat.lt_succ_self v) (fun Q => ?_)
      have h := hS Q
      rw [show BitVec.ofNat 32 ((0 : Fin 4).val) = 0#32 from rfl, ← hw] at h
      exact h)
  refine wp_call_spec (defs := defs₀ (F := F)) (ℓ := (1 : (Λ₀ F).Label)) (a := rec1 s i arg3 harg3 arg4 harg4 2#32 x) (k := k) (Q := Q)
    Variants.nat (c : Thread nD τ) none E (walkSpec c arg3 arg4 a.k a.v s i 0 32 2 x) 32 (fun u hu => nomatch hu) (fun Q => ?_)
  have h := hr 32 2 rfl x Q
  rw [show BitVec.ofNat 32 ((0 : Fin 4).val) = 0#32 from rfl, ← hw] at h
  exact h

theorem call2 (E : Set ℕ) (s : Sub F) (x : Car F) {β : Type} (Q : β → sProp 𝕄) (k : BitVec 32 × Car F → Pg F β) :
    walkSpec c arg3 arg4 a.k a.v s i 1 32 2 x (fun r => wp frame (wpE (defs₀ (F := F)) Variants.nat (c : Thread nD τ) none) E (k r) Q)
      ⊢ wp frame (wpE (defs₀ (F := F)) Variants.nat (c : Thread nD τ) none) E ((Prog.lift (.call (2 : (Λ₀ F).Label) (rec2 s i arg3 harg3 arg4 harg4 2#32 x))).bind k) Q := by
  have hw := fun n c => while2_eq s i arg3 harg3 arg4 harg4 n c
  have hr := walk_run c arg3 arg4 a.k a.v s i 1 E (defs₀ (F := F))
    (fun n' c' => Prog.lift (.call (2 : (Λ₀ F).Label) (rec2 s i arg3 harg3 arg4 harg4 n' c')))
    (k0_chk2 i) (k0_chk2.dec i) (k0_off3 i) (k0_off3_inb i)
    (fun n hn => chk2_of i n (by have := qNum_lt i 1; omega)) (fun n hn => off3_val i n (by have := qNum_lt i 1; omega))
    (fun n c' v S hS Q => by
      refine wp_call_spec (defs := defs₀ (F := F)) (ℓ := (2 : (Λ₀ F).Label)) (a := rec2 s i arg3 harg3 arg4 harg4 n c') (k := .ret) (Q := Q)
        Variants.nat (c : Thread nD τ) (some (v + 1)) E S v (fun u hu => by cases hu; exact Nat.lt_succ_self v) (fun Q => ?_)
      have h := hS Q
      rw [show BitVec.ofNat 32 ((1 : Fin 4).val) = 1#32 from rfl, ← hw] at h
      exact h)
  refine wp_call_spec (defs := defs₀ (F := F)) (ℓ := (2 : (Λ₀ F).Label)) (a := rec2 s i arg3 harg3 arg4 harg4 2#32 x) (k := k) (Q := Q)
    Variants.nat (c : Thread nD τ) none E (walkSpec c arg3 arg4 a.k a.v s i 1 32 2 x) 32 (fun u hu => nomatch hu) (fun Q => ?_)
  have h := hr 32 2 rfl x Q
  rw [show BitVec.ofNat 32 ((1 : Fin 4).val) = 1#32 from rfl, ← hw] at h
  exact h

theorem call3 (E : Set ℕ) (s : Sub F) (x : Car F) {β : Type} (Q : β → sProp 𝕄) (k : BitVec 32 × Car F → Pg F β) :
    walkSpec c arg3 arg4 a.k a.v s i 2 32 2 x (fun r => wp frame (wpE (defs₀ (F := F)) Variants.nat (c : Thread nD τ) none) E (k r) Q)
      ⊢ wp frame (wpE (defs₀ (F := F)) Variants.nat (c : Thread nD τ) none) E ((Prog.lift (.call (3 : (Λ₀ F).Label) (rec3 s i arg3 harg3 arg4 harg4 2#32 x))).bind k) Q := by
  have hw := fun n c => while3_eq s i arg3 harg3 arg4 harg4 n c
  have hr := walk_run c arg3 arg4 a.k a.v s i 2 E (defs₀ (F := F))
    (fun n' c' => Prog.lift (.call (3 : (Λ₀ F).Label) (rec3 s i arg3 harg3 arg4 harg4 n' c')))
    (k0_chk3 i) (k0_chk3.dec i) (k0_off4 i) (k0_off4_inb i)
    (fun n hn => chk3_of i n (by have := qNum_lt i 2; omega)) (fun n hn => off4_val i n (by have := qNum_lt i 2; omega))
    (fun n c' v S hS Q => by
      refine wp_call_spec (defs := defs₀ (F := F)) (ℓ := (3 : (Λ₀ F).Label)) (a := rec3 s i arg3 harg3 arg4 harg4 n c') (k := .ret) (Q := Q)
        Variants.nat (c : Thread nD τ) (some (v + 1)) E S v (fun u hu => by cases hu; exact Nat.lt_succ_self v) (fun Q => ?_)
      have h := hS Q
      rw [show BitVec.ofNat 32 ((2 : Fin 4).val) = 2#32 from rfl, ← hw] at h
      exact h)
  refine wp_call_spec (defs := defs₀ (F := F)) (ℓ := (3 : (Λ₀ F).Label)) (a := rec3 s i arg3 harg3 arg4 harg4 2#32 x) (k := k) (Q := Q)
    Variants.nat (c : Thread nD τ) none E (walkSpec c arg3 arg4 a.k a.v s i 2 32 2 x) 32 (fun u hu => nomatch hu) (fun Q => ?_)
  have h := hr 32 2 rfl x Q
  rw [show BitVec.ofNat 32 ((2 : Fin 4).val) = 2#32 from rfl, ← hw] at h
  exact h

theorem call4 (E : Set ℕ) (s : Sub F) (x : Car F) {β : Type} (Q : β → sProp 𝕄) (k : BitVec 32 × Car F → Pg F β) :
    walkSpec c arg3 arg4 a.k a.v s i 3 32 2 x (fun r => wp frame (wpE (defs₀ (F := F)) Variants.nat (c : Thread nD τ) none) E (k r) Q)
      ⊢ wp frame (wpE (defs₀ (F := F)) Variants.nat (c : Thread nD τ) none) E ((Prog.lift (.call (4 : (Λ₀ F).Label) (rec4 s i arg3 harg3 arg4 harg4 2#32 x))).bind k) Q := by
  have hw := fun n c => while4_eq s i arg3 harg3 arg4 harg4 n c
  have hr := walk_run c arg3 arg4 a.k a.v s i 3 E (defs₀ (F := F))
    (fun n' c' => Prog.lift (.call (4 : (Λ₀ F).Label) (rec4 s i arg3 harg3 arg4 harg4 n' c')))
    (k0_chk4 i) (k0_chk4.dec i) (k0_off5 i) (k0_off5_inb i)
    (fun n hn => chk4_of i n (by have := qNum_lt i 3; omega)) (fun n hn => off5_val i n (by have := qNum_lt i 3; omega))
    (fun n c' v S hS Q => by
      refine wp_call_spec (defs := defs₀ (F := F)) (ℓ := (4 : (Λ₀ F).Label)) (a := rec4 s i arg3 harg3 arg4 harg4 n c') (k := .ret) (Q := Q)
        Variants.nat (c : Thread nD τ) (some (v + 1)) E S v (fun u hu => by cases hu; exact Nat.lt_succ_self v) (fun Q => ?_)
      have h := hS Q
      rw [show BitVec.ofNat 32 ((3 : Fin 4).val) = 3#32 from rfl, ← hw] at h
      exact h)
  refine wp_call_spec (defs := defs₀ (F := F)) (ℓ := (4 : (Λ₀ F).Label)) (a := rec4 s i arg3 harg3 arg4 harg4 2#32 x) (k := k) (Q := Q)
    Variants.nat (c : Thread nD τ) none E (walkSpec c arg3 arg4 a.k a.v s i 3 32 2 x) 32 (fun u hu => nomatch hu) (fun Q => ?_)
  have h := hr 32 2 rfl x Q
  rw [show BitVec.ofNat 32 ((3 : Fin 4).val) = 3#32 from rfl, ← hw] at h
  exact h

/-- The body, run. -/
theorem wp_body (E : Set ℕ) (Q : PUnit → sProp 𝕄) (Z : Vec F S1024x128 .f32) :
    iprop(held4 c arg2 arg3 arg4 arg5 a Z ∗ (held4 c arg2 arg3 arg4 arg5 a (outPt a i Z) -∗ Q ⟨⟩))
      ⊢ wp frame (wpE (defs₀ (F := F)) Variants.nat (c : Thread nD τ) none) E (bodyProg i arg2 arg3 arg4 arg5 harg3 harg4) Q := by
  unfold bodyProg
  iintro ⟨H, Hk⟩
  iapply (wp_head c arg2 arg3 arg4 arg5 a i Variants.nat none E Q _ ![0, 0] _ 0 (fun _ => rfl) _ Z)
  isplitl [H]; · iexact H
  iintro H
  iapply (wp_head c arg2 arg3 arg4 arg5 a i Variants.nat none E Q _ ![256, 0] _ 1 (fun _ => rfl) _ Z)
  isplitl [H]; · iexact H
  iintro H
  iapply (wp_head c arg2 arg3 arg4 arg5 a i Variants.nat none E Q _ ![512, 0] _ 2 (fun _ => rfl) _ Z)
  isplitl [H]; · iexact H
  iintro H
  iapply (wp_head c arg2 arg3 arg4 arg5 a i Variants.nat none E Q _ ![768, 0] _ 3 (fun _ => rfl) _ Z)
  isplitl [H]; · iexact H
  iintro H
  iapply (wp_tail c arg2 arg3 arg4 arg5 a i Variants.nat none E Q _ ![0, 0] _ 0 (fun _ _ => rfl) _ _
    (call1 c arg3 arg4 harg3 harg4 a i E (a.sub 0) (headSt a i 0)))
  isplitl [H]; · iexact H
  iintro H
  iapply (wp_tail c arg2 arg3 arg4 arg5 a i Variants.nat none E Q _ ![256, 0] _ 1 (fun _ _ => rfl) _ _
    (call2 c arg3 arg4 harg3 harg4 a i E (a.sub 1) (headSt a i 1)))
  isplitl [H]; · iexact H
  iintro H
  iapply (wp_tail c arg2 arg3 arg4 arg5 a i Variants.nat none E Q _ ![512, 0] _ 2 (fun _ _ => rfl) _ _
    (call3 c arg3 arg4 harg3 harg4 a i E (a.sub 2) (headSt a i 2)))
  isplitl [H]; · iexact H
  iintro H
  iapply (wp_tail c arg2 arg3 arg4 arg5 a i Variants.nat none E Q _ ![768, 0] _ 3 (fun _ _ => rfl) _ _
    (call4 c arg3 arg4 harg3 harg4 a i E (a.sub 3) (headSt a i 3)))
  isplitl [H]; · iexact H
  iintro H
  rw [wp_ret]; imodintro
  iapply Hk
  iexact H

end Run

end Cert.Kernel13Ideal.Hand
-- ==== Proof.FwFrame.lean ====
/-
  The attention's forward launch, over the reals: what each grid point leaves in the result, the run, and the frame.
-/
module

public import proofs.«01_k».proof.Proof.FwRun
public import Idealize.ShloMosaic.Lib.Pipeline.FrameSuffix
public import Idealize.ShloMosaic.Lib.Pipeline.ValueKit
public import Idealize.ShloMosaic.Lib.StableHlo.Run
public import Idealize.ShloMosaic.Lib.Claim

@[expose] public section

set_option maxRecDepth 16384

noncomputable section

namespace Cert.Kernel13Ideal.Hand

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (m : (ℓ : Loc nD τ sig) → Buf (Elt F) ℓ) (ρ : Dev nD → PrngReg)

/-- The buffers as the region finds them, -/
abbrev V0 (c : Dev nD) : Valuation τ sig (Elt F) := StableHlo.after (List.flatten [hostOps0]) (fun b => m (c, b))
/-- at a reference. -/
abbrev V (c : Dev nD) (b : Ref sig .tc) : Buf (Elt F) ((c : Thread nD τ).loc b) := V0 m c (Proc.devRef .tc b)

theorem hmain (𝒱₀ : Variants) : Pipeline.HMainK (Ix := Unit) (Name := ℕ) (U := UR sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [hostOps0] []
    (by simp only [List.Forall]; exact hostOps0_sub)
    (by simp only [List.Forall]; repeat' constructor) main_chain

/-- An argument is written by no line before the region. -/
theorem V_same (c : Dev nD) (b : Ref sig .tc) (hb : b = main_arg0 ∨ b = main_arg1 ∨ b = main_arg2) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.nullary_writes,
      StableHlo.unary_writes, StableHlo.binary_writes, Finset.mem_singleton]
    rcases hb with rfl | rfl | rfl
    all_goals
      repeat' apply And.intro
      all_goals exact StableHlo.devRef_ne_of_ne (by decide)))

theorem rest_same (dats : (p : Fin _) → (c : Dev nD) → Dat τ (Elt F) Unit ℕ (UR sig nD τ) ℕ (cfgs (F := F) p) c) (c : Dev nD) (b : Ref sig .tc)
    (hw : ∀ w, Pipeline.arrRef spec0 w ≠ b) : Pipeline.afterTail₀ (cfgs (F := F)) dats 0 (V0 m) [] c b = V m c b := by
  unfold Pipeline.afterTail₀
  exact Pipeline.withArrays_of_ne _ c (V0 m c) _ b hw

/-! ## What a point leaves -/

/-- A window's block at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  ((cfg0.win w).blk t).view.read (Elt F) (V m c (Pipeline.arrRef spec0 w))

/-- What point `t` reads. -/
def ins (c : Dev nD) (t : Fin (cfg0 (F := F)).N) : Ins F := ⟨iblk m c 0 t, iblk m c 1 t, iblk m c 2 t⟩

/-- A row of sub-block `h`. -/
def rowAt (h : Fin 4) (r : S256x128.Idx) : S1024x128.Idx :=
  fun
  | ⟨0, _⟩ => ⟨256 * h.val + (r 0).val, by have h1 : (r 0).val < 256 := (r 0).isLt; have h2 := h.isLt; show _ < 1024; omega⟩
  | ⟨1, _⟩ => r 1

/-- Its row there, of a row. -/
def rowIn (j : S1024x128.Idx) : S256x128.Idx := fun
  | ⟨0, _⟩ => ⟨(j 0).val % 256, Nat.mod_lt _ (show 0 < 256 by decide)⟩
  | ⟨1, _⟩ => j 1

/-- Its sub-block. -/
def subIn (j : S1024x128.Idx) : Fin 4 := ⟨(j 0).val / 256, by have h1 : (j 0).val < 1024 := (j 0).isLt; omega⟩

theorem rowAt_in (j : S1024x128.Idx) : rowAt (subIn j) (rowIn j) = j := by
  funext d; fin_cases d
  · exact Fin.ext (Nat.div_add_mod (j 0).val 256)
  · rfl

theorem emb_rows (h : Fin 4) (inb : ∀ a, (![256 * h.val, 0] : Fin 2 → ℕ) a + S256x128.size a ≤ S1024x128.size a) (r : S256x128.Idx) : (Rect.unit (s := S1024x128) ![256 * h.val, 0] S256x128.size inb).emb r = rowAt h r := by
  funext d; fin_cases d <;> exact Fin.ext (by simp [Rect.emb, Rect.unit, LoadRect.idx, rowAt])

theorem putRows_eq (h : Fin 4) (Z : Vec F S1024x128 .f32) (w : Vec F S256x128 .f32)
    (inb : ∀ a, (![256 * h.val, 0] : Fin 2 → ℕ) a + S256x128.size a ≤ S1024x128.size a) :
    putRows h Z w = (Rect.unit (s := S1024x128) ![256 * h.val, 0] S256x128.size inb).overlay Z w := by
  fin_cases h <;> rfl

theorem inb_rows (h : Fin 4) : ∀ a, (![256 * h.val, 0] : Fin 2 → ℕ) a + S256x128.size a ≤ S1024x128.size a := by
  intro a; have := h.isLt
  fin_cases a
  · show 256 * h.val + 256 ≤ 1024; omega
  · show 0 + 128 ≤ 128; omega

theorem putRows_at (h : Fin 4) (Z : Vec F S1024x128 .f32) (w : Vec F S256x128 .f32) (j : S1024x128.Idx) :
    putRows h Z w j = if subIn j = h then w (rowIn j) else Z j := by
  rw [putRows_eq h Z w (inb_rows h)]
  by_cases e : subIn j = h
  · rw [if_pos e]
    conv_lhs => rw [← rowAt_in j, e, ← emb_rows h (inb_rows h)]
    exact Rect.overlay_emb (Rect.unit (s := S1024x128) ![256 * h.val, 0] S256x128.size (inb_rows h)) Z w _
  · rw [if_neg e]
    refine Rect.overlay_of_not_mem (Rect.unit (s := S1024x128) ![256 * h.val, 0] S256x128.size (inb_rows h)) Z w (fun hj => ?_)
    rw [← Rect.map_emb_univ, Finset.mem_map] at hj
    obtain ⟨r, -, hr⟩ := hj
    apply e
    rw [emb_rows] at hr
    subst hr
    have h1 : (r 0).val < 256 := (r 0).isLt
    exact Fin.ext (by show (256 * h.val + (r 0).val) / 256 = h.val; omega)

/-- Every row of the result is written by its sub-block. -/
theorem outPt_at (a : Ins F) (i : grid0.Coords) (Z : Vec F S1024x128 .f32) (j : S1024x128.Idx) : outPt a i Z j = rowsAt a i (subIn j) (rowIn j) := by
  unfold outPt
  simp only [putRows_at]
  generalize subIn j = h
  fin_cases h <;> rfl

/-- The result's block at a point. -/
def outAt (c : Dev nD) (t : Fin (cfg0 (F := F)).N) : Vec F S1024x128 .f32 := fun j => rowsAt (ins m c t) (grid0.coords t) (subIn j) (rowIn j)

/-- The proof data: the inputs stay, the result as above. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]; rfl
theorem after0_1 (c : Dev nD) (t : Fin cfg0.N) : (dats m 0 c).after 1 t = iblk m c 1 t := by dsimp only [dats]; rfl
theorem after0_2 (c : Dev nD) (t : Fin cfg0.N) : (dats m 0 c).after 2 t = iblk m c 2 t := by dsimp only [dats]; rfl
theorem after0_3 (c : Dev nD) (t : Fin cfg0.N) : (dats m 0 c).after 3 t = outAt m c t := by dsimp only [dats]; rfl

theorem before0_0 (c : Dev nD) (t : Fin cfg0.N) (d) : (dats m 0 c).before 0 t d = iblk m c 0 t :=
  (dats m 0 c).before_in_eq_fetched 0 rfl (fun _ => rfl) (fun _ _ _ => rfl) (fun t => by rw [after0_0]; unfold Dat.blockOf iblk; rw [A_eq]; try rfl) t d |>.trans
    (by unfold Dat.fetched Dat.blockOf iblk; rw [A_eq]; try rfl)
theorem before0_1 (c : Dev nD) (t : Fin cfg0.N) (d) : (dats m 0 c).before 1 t d = iblk m c 1 t :=
  (dats m 0 c).before_in_eq_fetched 1 rfl (fun _ => rfl) (fun _ _ _ => rfl) (fun t => by rw [after0_1]; unfold Dat.blockOf iblk; rw [A_eq]; try rfl) t d |>.trans
    (by unfold Dat.fetched Dat.blockOf iblk; rw [A_eq]; try rfl)
theorem before0_2 (c : Dev nD) (t : Fin cfg0.N) (d) : (dats m 0 c).before 2 t d = iblk m c 2 t :=
  (dats m 0 c).before_in_eq_fetched 2 rfl (fun _ => rfl) (fun _ _ _ => rfl) (fun t => by rw [after0_2]; unfold Dat.blockOf iblk; rw [A_eq]; try rfl) t d |>.trans
    (by unfold Dat.fetched Dat.blockOf iblk; rw [A_eq]; try rfl)

/-! ## The body at a point -/

/-- What the body is called with, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem bodyAt_eq (t : Fin (cfg0 (F := F)).N) : bodyAt0 (F := F) t = bodyProg (grid0.coords t) (st0_0 t) (st0_1 t) (st0_2 t) (st0_3 t)
    (hstage0_1 (((cfg0 (F := F)).slots t 1).cast nbuf0_1)) (hstage0_2 (((cfg0 (F := F)).slots t 2).cast nbuf0_2)) :=
  body_eq (grid0.coords t) (st0_0 t) (st0_1 t) (st0_2 t) (st0_3 t)
    (hstage0_1 (((cfg0 (F := F)).slots t 1).cast nbuf0_1)) (hstage0_2 (((cfg0 (F := F)).slots t 2).cast nbuf0_2))
    (hstage0_0 (((cfg0 (F := F)).slots t 0).cast nbuf0_0)) (hstage0_3 (((cfg0 (F := F)).slots t 3).cast nbuf0_3))

set_option maxHeartbeats 1000000 in
theorem sound_body (c : Dev nD) (t : Fin (cfg0 (F := F)).N) :
    bodyPre m c t ⊢ wp frame (wpE (defs₀ (F := F)) Variants.nat (c : Thread nD τ) none) Set.univ (bodyAt0 t) (fun _ => bodyPost m c t) := by
  rw [bodyAt_eq]
  unfold bodyPre bodyPost
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3]
  iintro ⟨HΦ, Ho, ⟨%d0, H0⟩, ⟨%d1, H1⟩, ⟨%d2, H2⟩, ⟨%d3, H3⟩⟩
  obtain ⟨Z, hZ⟩ : ∃ Z : Vec F S1024x128 .f32, (dats m 0 c).before 3 t d3 = Z := ⟨_, rfl⟩
  rw [hZ]
  iapply (wp_body c _ _ _ _ _ _ (ins m c t) (grid0.coords t) Set.univ (fun _ => _) Z)
  rw [show outPt (ins m c t) (grid0.coords t) Z = outAt m c t from funext fun j => outPt_at _ _ Z j]
  unfold held4 held
  isplitl [H0 H1 H2 H3]
  · isplitl [H0]; · iexact H0
    isplitl [H1 H2]
    · isplitl [H1]; · iexact H1
      iexact H2
    iexact H3
  iintro ⟨H0, ⟨H1, H2⟩, H3⟩
  isplitl [HΦ]; · iexact HΦ
  isplitl [Ho]; · iexact Ho
  isplitl [H0]; · iexact H0
  isplitl [H1]; · iexact H1
  isplitl [H2]; · iexact H2
  iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every fair execution ends, the region's arrays and every other buffer as computed, no semaphore raised. -/
theorem run : θ_run defs (onTc (τ := τ) (main (F := F))) (s₀ m ρ) (fun r => (Pipeline.FramePost cfgs (dats m) 0 (Pipeline.afterTail₀ cfgs (dats m) 0 (V0 m) [])) r ∧ r.2.sem = fun _ => 0) :=
  Pipeline.θ_run_frame_around (Q' := _) cfgs (dats m) (0 : Fin 1) launch0 defs₀ Variants.nat m ρ main
    (hbody := fun c => (body_obligation m c).loose) (hshare := fun c => (dats m 0 c).share_full fun _ => rfl)
    (howed := fun _ _ => rfl) (V₀ := V0 m) (opss := []) (hsub := fun _ h => nomatch h) (hfresh := fun _ h => nomatch h) (hkeep := fun _ h => nomatch h)
    (hmain := hmain m Variants.nat) (hA := A_eq m) (hΦ := fun _ _ => rfl)

theorem args_same (r : PUnit × MemSt nD τ sig (Elt F)) (h : Pipeline.FramePost cfgs (dats m) 0 (Pipeline.afterTail₀ cfgs (dats m) 0 (V0 m) []) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (show ∀ w, Pipeline.arrRef spec0 w ≠ main_arg0 by decide))).trans
      ((rest_same m (dats m) c main_arg0 (by decide)).trans (V_same m c _ (.inl rfl))),
    ((h c).2 main_arg1 (Pipeline.mem_restRefs_of main_arg1 (by decide) (show ∀ w, Pipeline.arrRef spec0 w ≠ main_arg1 by decide))).trans
      ((rest_same m (dats m) c main_arg1 (by decide)).trans (V_same m c _ (.inr (.inl rfl)))),
    ((h c).1 2).trans (((dats m 0 c).arrAt_in 2 rfl _).trans ((A_eq m c 2).trans (V_same m c main_arg2 (.inr (.inr rfl)))))⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => args_same m r h.1 c, h.2⟩) (run m ρ)

end Cert.Kernel13Ideal.Hand
-- ==== Proof.FwReal.lean ====
/-
  The attention in real numbers: what a block of keys adds to a sub-block's result, and that the walk over the blocks adds
  up to the attention.
-/
module

public import proofs.«01_k».proof.Proof.SbWalk

@[expose] public section

noncomputable section

namespace Cert.Sb

/-- What a sub-block of the attention carries: both heads' sums of the logs, and the result so far. -/
structure Seen where
  a : Fin 2 → Fin 256 → ℝ
  o : Fin 256 → Fin 128 → ℝ

/-- The sums, as the gradient's walk carries them. -/
def Seen.carry (x : Seen) : Carry := ⟨x.a, fun _ _ => 0, fun _ _ => 0⟩

/-- What a block makes of it. -/
def Block.see (B : Block) (x : Seen) : Seen where
  a s r := x.a s r + ∑ c, B.l s r c
  o r e := x.o r e + ∑ s, ∑ c, B.w x.carry s r c * only s B.v c e

/-- What it is when the blocks from `J` on have been walked. -/
structure Pair.Out (P : Pair) (Q : Fin 32) (J : ℕ) (x : Seen) : Prop where
  a : ∀ s r, x.a s r = ∑ j : Fin 8192, if 256 * J ≤ j.val then P.l s (row Q r) j else 0
  o : ∀ r e, x.o r e = ∑ s, ∑ j : Fin 8192, if 256 * J ≤ j.val then P.w s (row Q r) j * only s P.v j e else 0

variable (P : Pair)

/-- The weights of a block read the sums alone. -/
theorem see_w (Q J : Fin 32) (pL pW : Fin 256 → Fin 256 → Bool) (hL : Good Q J pL) (hW : Good Q J pW) (x : Seen) (hx : P.Out Q (J.val + 1) x)
    (s : Fin 2) (r c : Fin 256) : (P.block Q J pL pW).w x.carry s r c = P.w s (row Q r) (row J c) :=
  block_w P Q J pL pW hL hW
    ⟨x.a, fun s r => (∑ j : Fin 8192, P.g s (row Q r) j) - ∑ j : Fin 8192, if 256 * (J.val + 1) ≤ j.val then P.g s (row Q r) j else 0,
      fun r e => ∑ s, ∑ j : Fin 8192, if 256 * (J.val + 1) ≤ j.val then P.dz s (row Q r) j * only s P.k j e else 0⟩
    ⟨hx.a, fun _ _ => rfl, fun _ _ => rfl⟩ s r c

theorem see_next (Q J : Fin 32) (pL pW : Fin 256 → Fin 256 → Bool) (hL : Good Q J pL) (hW : Good Q J pW) (x : Seen) (hx : P.Out Q (J.val + 1) x) :
    P.Out Q J.val ((P.block Q J pL pW).see x) where
  a s r := by
    rw [from_next J, ← hx.a]
    exact congrArg (x.a s r + ·) (Finset.sum_congr rfl fun c _ => block_l P Q J pL pW hL s r c)
  o r e := by
    rw [Finset.sum_congr rfl fun s _ => from_next J _, Finset.sum_add_distrib, ← hx.o]
    refine congrArg (x.o r e + ·) (Finset.sum_congr rfl fun s _ => Finset.sum_congr rfl fun c _ => ?_)
    rw [see_w P Q J pL pW hL hW x hx]; rfl

/-- Nothing seen yet, -/
def seen0 : Seen := ⟨fun _ _ => 0, fun _ _ => 0⟩

/-- the two first blocks, -/
def Pair.seeHead (Q : Fin 32) : Seen := (P.block Q (back Q 1) every (prev Q)).see ((P.block Q (back Q 0) diag diag).see seen0)

/-- and the walk over the others. -/
def Pair.seeWalk (Q : Fin 32) : ℕ → ℕ → Seen → Seen
  | 0, _, x => x
  | k + 1, n, x => if n ≤ Q.val then Pair.seeWalk Q k (n + 1) ((P.block Q (back Q n) every every).see x) else x

theorem out_start (Q : Fin 32) : P.Out Q (Q.val + 1) seen0 where
  a s r := (Finset.sum_eq_zero fun j _ => by
    split_ifs with h
    · exact l_late s _ j (row_late Q r j h)
    · rfl).symm
  o r e := (Finset.sum_eq_zero fun s _ => Finset.sum_eq_zero fun j _ => by
    split_ifs with h
    · rw [w_late s _ j (row_late Q r j h), zero_mul]
    · rfl).symm

theorem out_end (Q : Fin 32) (x : Seen) (hx : P.Out Q 0 x) (r : Fin 256) (e : Fin 128) : x.o r e = P.out (row Q r) e := by
  rw [hx.o]; unfold Pair.out
  exact Finset.sum_congr rfl fun s _ => Finset.sum_congr rfl fun j _ => if_pos (by omega)

theorem seeWalk_out (Q : Fin 32) (k : ℕ) : ∀ (n : ℕ) (x : Seen), 1 ≤ n → n ≤ Q.val + 1 → Q.val + 1 ≤ k + n → P.Out Q (Q.val + 1 - n) x →
    P.Out Q 0 (P.seeWalk Q k n x) := by
  have done : ∀ (n : ℕ) (x : Seen), n = Q.val + 1 → P.Out Q (Q.val + 1 - n) x → P.Out Q 0 x := by
    rintro n x rfl hx; rwa [Nat.sub_self] at hx
  induction k with
  | zero => intro n x _ h1 h2 hx; exact done n x (by omega) hx
  | succ k ih =>
    intro n x h0 h1 h2 hx
    unfold Pair.seeWalk
    split_ifs with hn
    · have hb : (back Q n).val = Q.val - n := rfl
      have g := good_every Q n h0 hn
      refine ih (n + 1) _ (by omega) (by omega) (by omega) ?_
      rw [show Q.val + 1 - (n + 1) = (back Q n).val by rw [hb]; omega]
      refine see_next P Q (back Q n) every every g g x ?_
      rw [hb, show Q.val - n + 1 = Q.val + 1 - n by omega]; exact hx
    · exact done n x (by omega) hx

/-- A sub-block's walk ends with the attention's rows. -/
theorem whole_out (Q : Fin 32) (r : Fin 256) (e : Fin 128) : (P.seeWalk Q 32 2 (P.seeHead Q)).o r e = P.out (row Q r) e := by
  have h0 := see_next P Q (back Q 0) diag diag (good_diag Q) (good_diag Q) _ (out_start P Q)
  by_cases h : 1 ≤ Q.val
  · refine out_end P Q _ (seeWalk_out P Q 32 2 _ (by decide) (by omega) (by have := Q.isLt; omega) ?_) r e
    rw [show Q.val + 1 - 2 = (back Q 1).val by show _ = Q.val - 1; omega]
    refine see_next P Q (back Q 1) every (prev Q) (good_every Q 1 le_rfl h) (good_prev Q h) _ ?_
    rw [show (back Q 1).val + 1 = (back Q 0).val by show Q.val - 1 + 1 = Q.val - 0; omega]
    exact h0
  · have hq : Q.val = 0 := by omega
    rw [show (back Q 0).val = 0 from hq] at h0
    unfold Pair.seeWalk
    rw [if_neg (by omega), ← out_end P Q _ h0]
    show _ + _ = _
    rw [Finset.sum_eq_zero fun s _ => Finset.sum_eq_zero fun c _ => by rw [none_w _ (prev_none P Q hq), zero_mul], add_zero]

end Cert.Sb

end
-- ==== Proof.FwValue.lean ====
/-
  The attention's forward call at finite arguments: on tiles of real numbers the walk is the real one, and the result's
  array is the reference's. The exit of the walk never fires over the reals, its threshold being read as minus infinity.
-/
module

public import proofs.«01_k».proof.Pre_finite13
public import proofs.«01_k».proof.Proof.FwFrame
public import proofs.«01_k».proof.Proof.FwReal
public import proofs.«01_k».proof.Proof.SbValue
public import proofs.«01_k».proof.Proof.SbPre
public import proofs.«01_k».proof.Proof.Gen.Reference13Ideal.Read

@[expose] public section

set_option maxRecDepth 16384

noncomputable section

namespace Cert.Kernel13Ideal.Hand

open Cert.Kernel13Ideal Cert.Kernel13Ideal.Gen Cert.Sb
open Idealize.ShloMosaic Idealize.ShloMosaic.TcCoe Idealize.SL.Sem
open Idealize.ShloMosaic.Pipeline (Dat)
open Cert.Reference2Ideal.Hand (Args cc vcol eighth)
open Cert.Kernel2Ideal.Hand (Is IsCol Masks coe_sum big inPt big_in lay lay_at cols)

/-! ## A block of keys -/

/-- A carry of real numbers. -/
structure CarIs (c : Car Ideal) (x : Seen) : Prop where
  a0 : IsCol c.1 (x.a 0)
  a1 : IsCol c.2.1 (x.a 1)
  o : Is c.2.2 x.o

section Block

variable (B : Block) {mL mW : FVec Ideal S256x256 .f32 → FVec Ideal S256x256 .f32}
  (hL : Masks mL B.pL) (hW : Masks mW B.pW) {q : Vec Ideal S256x128 .bf16} {k : Vec Ideal S256x128 .bf16} {v : Vec Ideal S256x128 .f32}
  (hq : Is (φ := .bf16) q B.q) (hk : Is (φ := .bf16) k B.k) (hv : Is (φ := .f32) v B.v)
  (x : Seen) {c : Car Ideal} (hc : CarIs c x)

include hq in
theorem is_qa : Is (subOf q).qa (only 0 B.q) :=
  Cert.Kernel2Ideal.Hand.is_first (Cert.Kernel2Ideal.Hand.is_kb hq) _ Cert.Kernel2Ideal.Hand.is_zcol

include hq in
theorem is_qb : Is (subOf q).qb (only 1 B.q) :=
  Cert.Kernel2Ideal.Hand.is_second (Cert.Kernel2Ideal.Hand.is_kb hq) _ Cert.Kernel2Ideal.Hand.is_zcol

include hL hW hq hk hv hc in
/-- The carry after a block. -/
theorem is_next : CarIs (carOf mL mW (subOf q) k v c) (B.see x) where
  a0 := Cert.Kernel2Ideal.Hand.col_add hc.a0 (Cert.Kernel2Ideal.Hand.is_rowSum (Cert.Kernel2Ideal.Hand.is_l B 0 hL (is_qa B hq) (Cert.Kernel2Ideal.Hand.is_kb hk)))
  a1 := Cert.Kernel2Ideal.Hand.col_add hc.a1 (Cert.Kernel2Ideal.Hand.is_rowSum (Cert.Kernel2Ideal.Hand.is_l B 1 hL (is_qb B hq) (Cert.Kernel2Ideal.Hand.is_kb hk)))
  o r e := by
    refine (Cert.Kernel2Ideal.Hand.is_add hc.o (Cert.Kernel2Ideal.Hand.is_sides
      (Cert.Kernel2Ideal.Hand.is_w B 0 hL hW (is_qa B hq) (Cert.Kernel2Ideal.Hand.is_kb hk) x.carry hc.a0)
      (Cert.Kernel2Ideal.Hand.is_w B 1 hL hW (is_qb B hq) (Cert.Kernel2Ideal.Hand.is_kb hk) x.carry hc.a1)
      (Cert.Kernel2Ideal.Hand.is_first (Cert.Kernel2Ideal.Hand.is_vb hv) _ Cert.Kernel2Ideal.Hand.is_zcol)
      (Cert.Kernel2Ideal.Hand.is_second (Cert.Kernel2Ideal.Hand.is_vb hv) _ Cert.Kernel2Ideal.Hand.is_zcol)) r e).trans ?_
    refine congrArg _ ?_
    show _ = x.o r e + ∑ s, ∑ c, B.w x.carry s r c * only s B.v c e
    rw [Fin.sum_univ_two]

end Block

theorem is_step (P : Pair) (Q J : Fin 32) (pL pW : Fin 256 → Fin 256 → Bool) {mL mW : FVec Ideal S256x256 .f32 → FVec Ideal S256x256 .f32}
    (hL : Masks mL pL) (hW : Masks mW pW) {q : Vec Ideal S256x128 .bf16} {K : Vec Ideal S8192x128 .bf16} {V : Vec Ideal S8192x128 .f32}
    (hq : Is (φ := .bf16) q fun r => P.q (row Q r)) (hK : Is (φ := .bf16) K P.k) (hV : Is (φ := .f32) V P.v) {y : Car Ideal} {x : Seen} (h : CarIs y x) :
    CarIs (stepSt mL mW (subOf q) K V J y) ((P.block Q J pL pW).see x) :=
  is_next (P.block Q J pL pW) hL hW hq (fun r c => (Cert.Kernel2Ideal.Hand.ld_row K J r c).trans (hK _ _))
    (fun r c => (Cert.Kernel2Ideal.Hand.ld_row V J r c).trans (hV _ _)) x h

/-! ## The walk -/

/-- The walk goes on as long as there are blocks. -/
theorem test_iff (i : grid0.Coords) (h : Fin 4) (n : ℕ) (hn : n < 40) {a b : FVec Ideal S256x1 .f32} {x y : Fin 256 → ℝ} (ha : IsCol a x) (hb : IsCol b y) :
    testOf i (BitVec.ofNat 32 h.val) (BitVec.ofNat 32 n) a b = 1#1 ↔ n ≤ qNum i h :=
  Cert.Kernel2Ideal.Hand.test_iff i h n hn ha hb

theorem kNum_eq {i : grid0.Coords} {h : Fin 4} {Q : Fin 32} (hQ : Q.val = qNum i h) (n : ℕ) : kNum i h n = back Q n :=
  Fin.ext (by show qNum i h - n = Q.val - n; rw [hQ])

/-- No carry yet. -/
theorem is_car0 : CarIs (car0 (F := Ideal)) seen0 := by
  refine ⟨fun r => ?_, fun r => ?_, fun r e => ?_⟩
  all_goals
    unfold car0
    pointwise []
    simp [seen0]

section Walk

variable (P : Pair) (Q : Fin 32) {i : grid0.Coords} {h : Fin 4} (hQ : Q.val = qNum i h)
  {q : Vec Ideal S256x128 .bf16} {K : Vec Ideal S8192x128 .bf16} {V : Vec Ideal S8192x128 .f32}
  (hq : Is (φ := .bf16) q fun r => P.q (row Q r)) (hK : Is (φ := .bf16) K P.k) (hV : Is (φ := .f32) V P.v)

include hQ hq hK hV

theorem is_walk (k : ℕ) : ∀ (n : ℕ) (y : Car Ideal) (x : Seen), n + k ≤ 40 → CarIs y x →
    CarIs (walkF (subOf q) K V i h k n y).2 (P.seeWalk Q k n x) := by
  induction k with
  | zero => intro n y x _ hy; exact hy
  | succ k ih =>
    intro n y x hn hy
    have ht := test_iff i h n (by omega) hy.a0 hy.a1
    unfold walkF Pair.seeWalk
    by_cases hle : n ≤ qNum i h
    · rw [if_pos (ht.2 hle), if_pos (hQ ▸ hle), kNum_eq hQ n]
      exact ih (n + 1) _ _ (by omega) (is_step P Q (back Q n) every every Cert.Kernel2Ideal.Hand.masks_every Cert.Kernel2Ideal.Hand.masks_every hq hK hV hy)
    · rw [if_neg (fun e => hle (ht.1 e)), if_neg (hQ ▸ hle)]
      exact hy

theorem is_head : CarIs (stepSt id (prevM i (BitVec.ofNat 32 h.val)) (subOf q) K V (kNum i h 1) (stepSt diagM diagM (subOf q) K V (kNum i h 0) car0)) (P.seeHead Q) := by
  unfold Pair.seeHead
  rw [kNum_eq hQ 0, kNum_eq hQ 1]
  exact is_step P Q _ _ _ Cert.Kernel2Ideal.Hand.masks_every (Cert.Kernel2Ideal.Hand.masks_prev i h _ hQ) hq hK hV
    (is_step P Q _ _ _ Cert.Kernel2Ideal.Hand.masks_diag Cert.Kernel2Ideal.Hand.masks_diag hq hK hV is_car0)

/-- A sub-block's rows of the result. -/
theorem rows_real (r : Fin 256) (e : Fin 128) : (walkF (subOf q) K V i h 32 2 (stepSt id (prevM i (BitVec.ofNat 32 h.val)) (subOf q) K V (kNum i h 1)
      (stepSt diagM diagM (subOf q) K V (kNum i h 0) car0))).2.2.2 (ix2 r e) = ((P.out (row Q r) e : ℝ) : EReal) :=
  ((is_walk P Q hQ hq hK hV 32 2 _ _ (by decide) (is_head P Q hQ hq hK hV)).o r e).trans (congrArg _ (whole_out P Q r e))

end Walk

/-! ## A point -/

theorem rowsOf_at {e : EltTy} (h : Fin 4) (X : S1024x128.Idx → Elt Ideal e) (r : Fin 256) (c : Fin 128) :
    rowsOf h X (ix2 r c) = X (ix2 (inPt h r) c) := by
  refine Eq.trans ?_ (Cert.Kernel2Ideal.Hand.rowsOf_at h X r c)
  fin_cases h <;> rfl

/-- A point's rows of the result. -/
theorem outPt_real {a : Ins Ideal} {P : Pair} {b : Fin 8} (hq : Is (φ := .bf16) a.q fun r => P.q (big b r)) (hk : Is (φ := .bf16) a.k P.k) (hv : Is (φ := .f32) a.v P.v)
    {i : grid0.Coords} (hi : (i 1).val = b.val) (j : Fin 1024) (e : Fin 128) :
    rowsAt a i (subIn (ix2 j e)) (rowIn (ix2 j e)) = ((P.out (big b j) e : ℝ) : EReal) := by
  obtain ⟨h, r, rfl⟩ : ∃ (h : Fin 4) (r : Fin 256), j = inPt h r :=
    ⟨⟨j.val / 256, by omega⟩, ⟨j.val % 256, by omega⟩, Fin.ext (Nat.div_add_mod j.val 256).symm⟩
  have hs : subIn (ix2 (inPt h r) e) = h := Fin.ext (by show (256 * h.val + r.val) / 256 = h.val; have := r.isLt; omega)
  have hr : rowIn (ix2 (inPt h r) e) = ix2 r e := by
    funext d; fin_cases d
    · exact Fin.ext (by show (256 * h.val + r.val) % 256 = r.val; have := r.isLt; omega)
    · rfl
  rw [hs, hr, big_in]
  unfold rowsAt headSt Ins.sub
  exact rows_real P (sub b h) (by show 4 * b.val + h.val = 4 * (i 1).val + h.val; rw [hi])
    (fun r e => by rw [rowsOf_at, hq]; beta_reduce; rw [big_in]) hk hv r e

/-- Point `b` of head pair `p`. -/
def pt (p : Fin 4) (b : Fin 8) : Fin (cfg0 (F := Ideal)).N := ⟨8 * p.val + b.val, by
  have h1 := p.isLt; have h2 := b.isLt; show _ < 32; omega⟩

theorem coord_pt (p : Fin 4) (b : Fin 8) : (grid0.coords (pt p b) 1).val = b.val := by
  have h := Pipeline.Grid.coords_val (G := grid0) (pt p b) 1 (S := 1) (B := 8) (by decide) rfl
  rw [h]; show (8 * p.val + b.val) / 1 % 8 = b.val
  have := b.isLt; omega

/-! ## The launch -/

variable (m : (ℓ : Loc nD τ sig) → Buf (Elt Ideal) ℓ) (c : Dev nD)

theorem idx : ∀ t : Fin (cfg0 (F := Ideal)).N, win0_0.index t 0 = t.val % 8 ∧ win0_0.index t 1 = t.val / 8 ∧ win0_1.index t 0 = 0 ∧ win0_1.index t 1 = t.val / 8
    ∧ win0_2.index t 0 = 0 ∧ win0_2.index t 1 = 12 + t.val / 8 ∧ win0_3.index t 0 = t.val % 8 ∧ win0_3.index t 1 = t.val / 8 :=
  (by decide +kernel : ∀ t : Fin grid0.N, _)

theorem pt_mod (p : Fin 4) (b : Fin 8) : (pt p b).val % 8 = b.val := by show (8 * p.val + b.val) % 8 = b.val; have := b.isLt; omega
theorem pt_div (p : Fin 4) (b : Fin 8) : (pt p b).val / 8 = p.val := by show (8 * p.val + b.val) / 8 = p.val; have := b.isLt; omega

theorem blk_q (p : Fin 4) (b : Fin 8) (r : Fin 1024) (e : Fin 128) : iblk m c 0 (pt p b) (ix2 r e) = V m c main_v2 (ix2 (big b r) (cc p e)) := by
  have h := idx (pt p b)
  rw [pt_mod, pt_div] at h
  blk_simp [iblk]
  refine congrArg (V m c main_v2) ?_
  blk_ext [h, big, cc]

theorem blk_k (p : Fin 4) (b : Fin 8) (r : Fin 8192) (e : Fin 128) : iblk m c 1 (pt p b) (ix2 r e) = V m c main_v3 (ix2 r (cc p e)) := by
  have h := idx (pt p b)
  rw [pt_mod, pt_div] at h
  blk_simp [iblk]
  refine congrArg (V m c main_v3) ?_
  blk_ext [h, big, cc]

theorem blk_v (p : Fin 4) (b : Fin 8) (r : Fin 8192) (e : Fin 128) : iblk m c 2 (pt p b) (ix2 r e) = V m c main_arg2 (ix2 r (vcol (cc p e))) := by
  have h := idx (pt p b)
  rw [pt_mod, pt_div] at h
  blk_simp [iblk]
  refine congrArg (V m c main_arg2) ?_
  blk_ext [h, big, cc, vcol]

theorem q_v : V m c main_v2 = (truncf .bf16 (mulf (φ := .f32) (m ((c : Thread nD τ).loc main_arg0)) (broadcastInDim S8192x512 ![] bcast_S_S8192x512 (constant S_ .f32 0x3E000000#32))) bitsLt_bf16_f32 : FVec Ideal S8192x512 .bf16) := by
  entry_read
  rfl

theorem k_v : V m c main_v3 = (truncf .bf16 (φ := .f32) (m ((c : Thread nD τ).loc main_arg1)) bitsLt_bf16_f32 : FVec Ideal S8192x512 .bf16) := by
  entry_read
  rfl

section Finite

variable {d : FVec Ideal S8192x512 .f32} (A : Args (m ((c : Thread nD τ).loc main_arg0)) (m ((c : Thread nD τ).loc main_arg1)) (m ((c : Thread nD τ).loc main_arg2)) d)

theorem ins_q (p : Fin 4) (b : Fin 8) : Is (φ := .bf16) (iblk m c 0 (pt p b)) fun r => (A.pair p).q (big b r) := fun r e => by
  rw [blk_q, q_v]
  pointwise []
  rw [A.hq, eighth, ← EReal.coe_mul]
  rfl

theorem ins_k (p : Fin 4) (b : Fin 8) : Is (φ := .bf16) (iblk m c 1 (pt p b)) (A.pair p).k := fun r e => by
  rw [blk_k, k_v]
  exact A.hk _ _

theorem ins_v (p : Fin 4) (b : Fin 8) : Is (φ := .f32) (iblk m c 2 (pt p b)) (A.pair p).v := fun r e => by
  rw [blk_v, V_same m c main_arg2 (.inr (.inr rfl))]
  exact A.hu _ _

/-- Every point is some pair's. -/
theorem points (t : Fin (cfg0 (F := Ideal)).N) : ∃ (p : Fin 4) (b : Fin 8), t = pt p b := by
  have h : t.val < 32 := t.isLt
  exact ⟨⟨t.val / 8, by omega⟩, ⟨t.val % 8, by omega⟩, Fin.ext (Nat.div_add_mod t.val 8).symm⟩

include A in
theorem outAt_real (p : Fin 4) (b : Fin 8) (r : Fin 1024) (e : Fin 128) : outAt m c (pt p b) (ix2 r e) = (((A.pair p).out (big b r) e : ℝ) : EReal) := by
  unfold outAt
  exact outPt_real (a := ins m c (pt p b)) (ins_q m c A p b) (ins_k m c A p b) (ins_v m c A p b) (coord_pt p b) r e

include A in
theorem final : (dats m 0 c).arrAt 3 (cfg0 (F := Ideal)).N = lay fun p => (A.pair p).out := by
  refine (dats m 0 c).arrAt_eq_of_covers 3 _ (by decide +kernel) fun t _ y => ?_
  blk_simp
  rw [after0_3]
  obtain ⟨p, b, rfl⟩ := points t
  obtain ⟨r, e, rfl⟩ : ∃ (r : Fin 1024) (e : Fin 128), y = ix2 r e := ⟨y 0, y 1, eq_ix2 y⟩
  have h := idx (pt p b)
  rw [pt_mod, pt_div] at h
  have he : (win0_3.blk (pt p b)).view.emb (ix2 r e) = ix2 (big b r) (cc p e) := by blk_ext [h, big, cc]
  refine (outAt_real m c A p b r e).trans ?_
  rw [he, lay_at]

/-- The reference's attention is the one its gradient is taken of: the same lines. -/
theorem same (x0 x1 : FVec Ideal S8192x512 .f32) (x2 : FVec Ideal S8192x2048 .f32) :
    Cert.Reference13Ideal.Read.val_main_v24 (F := Ideal) x0 x1 x2 = Cert.Reference2Ideal.Read.val_main_v24 (F := Ideal) x0 x1 x2 := rfl

include A in
/-- The result, against the reference's. -/
theorem meets : (dats m 0 c).arrAt 3 (cfg0 (F := Ideal)).N
    = Cert.Reference13Ideal.Read.val_main_v24 (F := Ideal) (m ((c : Thread nD τ).loc main_arg0)) (m ((c : Thread nD τ).loc main_arg1)) (m ((c : Thread nD τ).loc main_arg2)) := by
  rw [final m c A, same]
  funext y
  obtain ⟨i, j, rfl⟩ : ∃ (i : Fin 8192) (j : Fin 512), y = ix2 i j := ⟨y 0, y 1, eq_ix2 y⟩
  obtain ⟨p, e, rfl⟩ := cols j
  exact (lay_at _ p i e).trans (Cert.Reference2Ideal.Hand.v24 A p i e).symm

end Finite

end Cert.Kernel13Ideal.Hand

namespace Cert.Proof.Finite13

open Idealize.ShloMosaic Cert.Pre_finite13

/-- The shapes' side conditions of the precondition. -/
theorem facts : Cert.Pre_finite13.Facts where
  bcast_S_S8192x512 := by decide
  reducesTo_S8192x512_S_d0_1 := by decide
  h_S_ := by decide
  bcast_S_S8192x2048 := by decide
  reducesTo_S8192x2048_S_d0_1 := by decide

variable {x0 x1 : FVec Ideal S8192x512 .f32} {x2 : FVec Ideal S8192x2048 .f32}

/-- The arguments as real numbers; the attention alone reads no cotangent. -/
theorem args (h : letI := facts; fn (F := Ideal) x0 x1 x2 = fun _ => 1#1) : Nonempty (Cert.Reference2Ideal.Hand.Args x0 x1 x2 (fun _ => ((0 : ℝ) : EReal))) := by
  have h1 := congrFun h ix0
  unfold fn at h1
  obtain ⟨h01, h2⟩ := IntOp.andi_eq_one.1 h1
  obtain ⟨h0, h1⟩ := IntOp.andi_eq_one.1 h01
  have e0 := fun (i : Fin 8192) (e : Fin 512) => Finite.real_all x0 _ _ _ _ h0 (ix2 i e)
  have e1 := fun (i : Fin 8192) (e : Fin 512) => Finite.real_all x1 _ _ _ _ h1 (ix2 i e)
  have e2 := fun (i : Fin 8192) (e : Fin 2048) => Finite.real_all x2 _ _ _ _ h2 (ix2 i e)
  choose q hq using e0
  choose k hk using e1
  choose u hu using e2
  exact ⟨⟨q, k, u, fun _ _ => 0, hq, hk, hu, fun _ _ => rfl⟩⟩

end Cert.Proof.Finite13

end
-- ==== Proof.Sbf.lean ====
/-
  The attention's forward call: its frames, at the machine's words and over the reals, its reference's, and its value.
-/
module

public import proofs.«01_k».proof.Defs
public import proofs.«01_k».proof.Proof.FwValue
public import proofs.«01_k».proof.Proof.FwWordsFrame
public import proofs.«01_k».proof.Proof.Gen.Reference13Ideal.Run
public import proofs.«01_k».proof.Proof.Gen.Reference13Ideal.Read

@[expose] public section

set_option maxRecDepth 16384

noncomputable section

namespace Cert.Proof

open Idealize.ShloMosaic Idealize.SL.Sem

theorem sbf_frame_words : Cert.quiescent_Kernel13 := fun m ρ _ => Cert.Kernel13.Hand.frame m ρ

theorem sbf_frame : Cert.quiescent_Kernel13Ideal := fun m ρ _ => Cert.Kernel13Ideal.Hand.frame m ρ

theorem sbf_frame_reference : Cert.quiescent_Reference13Ideal := fun m ρ _ =>
  (θ_run Cert.Reference13Ideal.defs _ _).mono
    (fun r h => ⟨fun c => (h c).2, sem_eq_zero_of_no_sems (by decide) r.2⟩) (Cert.Reference13Ideal.Value.run m ρ)

theorem sbf_frame_finite : letI := Finite13.facts; Cert.quiescent_Kernel13Ideal_pre_finite13 := fun m ρ _ => Cert.Kernel13Ideal.Hand.frame m ρ

theorem sbf_frame_reference_finite : letI := Finite13.facts; Cert.quiescent_Reference13Ideal_pre_finite13 := fun m ρ _ => sbf_frame_reference m ρ trivial

/-- The threshold of the exit, named, is the least number: the exit is off. -/
theorem sbf_preserves : Cert.preserves_Kernel13_Kernel13Ideal :=
  IdealRules.named_const.statement Cert.Kernel13Ideal.κ "exit" .f32 0xC2DC0000#32 ⊥ rfl

/-- The attention, at finite arguments. -/
theorem sbf_algebraic : letI := Finite13.facts; Cert.algebraic_Kernel13Ideal_Reference13Ideal_pre_finite13 := by
  intro m g m' g' hpre hagree
  refine ⟨_, (θ_run _ _ _).mono (fun r h c => ⟨(h.1 c).1 3, Cert.Kernel13Ideal.Hand.args_same m r h.1 c⟩) (Cert.Kernel13Ideal.Hand.run m g),
    (θ_run _ _ _).mono (fun r h c => ?_) (Cert.Reference13Ideal.Value.run m' g')⟩
  obtain ⟨h0, h1⟩ := h c
  obtain ⟨a0, a1, a2⟩ := hagree c
  obtain ⟨A⟩ := Finite13.args (hpre c)
  refine ⟨h0.trans ?_, h1⟩
  rw [Cert.Reference13Ideal.Read.val_main_v24_eq, a0, a1, a2]
  exact (Cert.Kernel13Ideal.Hand.meets m c A).symm

end Cert.Proof

end
-- ==== Proof.Others.lean ====
/-
  Calls whose frames are proved and whose values are open: the frames of their references.
-/
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read

@[expose] public section

set_option maxRecDepth 16384

noncomputable section

namespace Cert.Proof

open Idealize.ShloMosaic Idealize.SL.Sem

theorem proj_frame_reference : Cert.quiescent_Reference10Ideal := fun m ρ _ =>
  (θ_run Cert.Reference10Ideal.defs _ _).mono
    (fun r h => ⟨fun c => (h c).2.2.2, sem_eq_zero_of_no_sems (by decide) r.2⟩) (Cert.Reference10Ideal.Value.run m ρ)

theorem mats_frame_reference : Cert.quiescent_Reference14Ideal := fun m ρ _ =>
  (θ_run Cert.Reference14Ideal.defs _ _).mono
    (fun r h => ⟨fun c => (h c).2.2.2.2.2.2.2, sem_eq_zero_of_no_sems (by decide) r.2⟩) (Cert.Reference14Ideal.Value.run m ρ)

end Cert.Proof

end
-- ==== Proof.MemRef.lean ====
/-
  The memory's gradients, and the reference's lines of them.
-/
module

public import proofs.«01_k».proof.Proof.Gen.Reference11Ideal.Read
public import proofs.«01_k».proof.Proof.XaRef
public import proofs.«01_k».proof.Proof.Norm
public import Idealize.ShloMosaic.Lib.Pointwise

@[expose] public section

set_option maxRecDepth 16384

noncomputable section

namespace Cert.Memory

open Cert.Norm
open Cert.Xa (col byCol byCol_col col_surj)
open Idealize.ShloMosaic

abbrev width : EReal := Ideal.ofBits .f32 0x44800000#32
abbrev headWidth : EReal := Ideal.ofBits .f32 0x43000000#32

/-- A head's columns among the keys and values. -/
def front (h : Fin 4) (e : Fin 128) : Fin 1024 := ⟨(col h e).val, by have := (col h e).isLt; omega⟩

/-- The keys' gradient head by head, then the values'. -/
def both (f : Fin 4 → Fin 128 → EReal) (d : Fin 512 → EReal) (j : Fin 1024) : EReal :=
  if h : j.val < 512 then byCol f ⟨j.val, h⟩ else d ⟨j.val - 512, by omega⟩

variable (M : Fin 256 → Fin 1024 → EReal) (g : Fin 1024 → EReal) (w : Fin 1024 → Fin 1024 → EReal) (k : Fin 128 → EReal) (D V : Fin 256 → Fin 512 → EReal)

/-- The normed memory. -/
def normed (r : Fin 256) (e : Fin 1024) : EReal := M r e * inv width (M r) * g e
/-- The keys and values. -/
def keyVal (r : Fin 256) (j : Fin 1024) : EReal := ∑ e, normed M g r e * w e j
def head (h : Fin 4) (r : Fin 256) (e : Fin 128) : EReal := keyVal M g w r (front h e)
/-- What reaches a head's keys. -/
def toHead (h : Fin 4) (r : Fin 256) (e : Fin 128) : EReal := D r (col h e)
/-- The gradient of the keys and values. -/
def back (r : Fin 256) (j : Fin 1024) : EReal := both (fun h => rowOf headWidth (head M g w h r) k (toHead D h r)) (V r) j
def weights (e j : Fin 1024) : EReal := ∑ r, normed M g r e * back M g w k D V r j
def toNorm (r : Fin 256) (e : Fin 1024) : EReal := ∑ j, back M g w k D V r j * w e j
def memGain (e : Fin 1024) : EReal := ∑ r, gainOf width (M r) (toNorm M g w k D V r) e
def keyGain (e : Fin 128) : EReal := ∑ r, ∑ h, gainOf headWidth (head M g w h r) (toHead D h r) e

end Cert.Memory

namespace Cert.Reference11Ideal.Hand

open Cert.Reference11Ideal Cert.Reference11Ideal.Gen Cert.Reference11Ideal.Read Cert.Norm Cert.Memory
open Cert.Xa (col byCol byCol_col col_surj)
open Cert.Reference3Ideal.Hand (reduce_over fst_col snd_col col_comm)
open Idealize.ShloMosaic Idealize.ShloMosaic.TcCoe

variable (x0 : FVec Ideal S256x1024 .f32) (x1 : FVec Ideal S1024 .f32) (x2 : FVec Ideal S1024x1024 .f32) (x3 : FVec Ideal S128 .f32) (x4 x5 : FVec Ideal S256x512 .f32)

abbrev mem : Fin 256 → Fin 1024 → EReal := fun r e => x0 (ix2 r e)
abbrev gain : Fin 1024 → EReal := fun e => x1 (ix1 e)
abbrev mat : Fin 1024 → Fin 1024 → EReal := fun e j => x2 (ix2 e j)
abbrev kgain : Fin 128 → EReal := fun e => x3 (ix1 e)
abbrev cols (d : FVec Ideal S256x512 .f32) : Fin 256 → Fin 512 → EReal := fun r y => d (ix2 r y)

variable (r : Fin 256) (h : Fin 4) (e : Fin 128) (i j : Fin 1024)

theorem v7 : val_main_v7 (F := Ideal) x0 (ix2 r 0) = inv width (mem x0 r) := by
  pointwise [val_main_v7, val_main_v6, val_main_v5, val_main_v4, val_main_v3, val_main_v2, val_main_v1, val_main_v0, val_main_cst, val_main_cst_0, val_main_cst_1]
  rfl

theorem v9 : val_main_v9 (F := Ideal) x0 (ix2 r i) = mem x0 r i * inv width (mem x0 r) := by
  pointwise [val_main_v9, val_main_v8]
  rw [v7]

theorem v12 : val_main_v12 (F := Ideal) x0 x1 (ix2 r i) = normed (mem x0) (gain x1) r i := by
  pointwise [val_main_v12, val_main_v11, val_main_v10]
  rw [v9]
  rfl

theorem v13 : val_main_v13 (F := Ideal) x0 x1 x2 (ix2 r j) = keyVal (mem x0) (gain x1) (mat x2) r j := by
  pointwise [val_main_v13]
  simp only [v12]
  rfl

theorem front_comm (p : h.val * 128 + e.val < 1024) : (⟨h.val * 128 + e.val, p⟩ : Fin 1024) = front h e :=
  Fin.ext (by show h.val * 128 + e.val = 128 * h.val + e.val; omega)

theorem v15 : val_main_v15 (F := Ideal) x0 x1 x2 (ix3 r h e) = head (mem x0) (gain x1) (mat x2) h r e := by
  pointwise [val_main_v15, val_main_v14]
  rw [v13, front_comm]
  rfl

theorem v22 : val_main_v22 (F := Ideal) x0 x1 x2 (ix3 r h 0) = meansq headWidth (head (mem x0) (gain x1) (mat x2) h r) := by
  pointwise [val_main_v22, val_main_v21, val_main_v20, val_main_v19, val_main_v18, val_main_v17, val_main_v16, val_main_cst_2, val_main_cst_3, val_main_cst_4]
  simp only [v15]
  rfl

theorem v23 : val_main_v23 (F := Ideal) x0 x1 x2 (ix3 r h 0) = inv headWidth (head (mem x0) (gain x1) (mat x2) h r) := by
  pointwise [val_main_v23]
  rw [v22]
  rfl

theorem v35 : val_main_v35 (F := Ideal) x4 (ix3 r h e) = toHead (cols x4) h r e := by
  pointwise [val_main_v35]
  rw [col_comm]
  rfl

/-- The gradient of the keys' gain. -/
theorem v41 : val_main_v41 (F := Ideal) x0 x1 x2 x4 (ix1 e) = keyGain (mem x0) (gain x1) (mat x2) (cols x4) e := by
  have one : val_main_v37 (F := Ideal) x0 x1 x2 x4 (ix1 e) = keyGain (mem x0) (gain x1) (mat x2) (cols x4) e := by
    pointwise [val_main_v37]
    rw [reduce_over (K := Fin 256 × Fin 4) reducesTo_S256x4x128_S128_d0_1 _ _ (ix1 e) (fun k => ix3 k.1 k.2 e) (fun i => (i 0, i 1)) (fun _ => rfl)
      (fun k => by funext b; exact match b with | ⟨0, _⟩ => rfl)
      (fun i hi => by
        have h3 : i 2 = e := congrFun hi 0
        rw [eq_ix3 i, h3]; rfl)]
    rw [Fintype.sum_prod_type]
    pointwise [val_main_cst_7, val_main_v36, val_main_v28, val_main_v27]
    simp only [v15, v23, v35]
    rfl
  pointwise [val_main_v41]
  rw [reduce_over (K := Unit) _ _ _ _ (fun _ => ix3 0 0 e) (fun _ => ()) (fun _ => rfl) (fun _ => by funext b; fin_cases b; rfl)
    (fun i hi => by
      have h3 : i 2 = e := congrFun hi 0
      rw [eq_ix3 i, h3, Subsingleton.elim (α := Fin 1) (i 0) 0, Subsingleton.elim (α := Fin 1) (i 1) 0])]
  pointwise [val_main_cst_8, val_main_v38]
  exact (Fintype.sum_unique _).trans one

theorem v49 : val_main_v49 (F := Ideal) x0 x1 x2 x3 x4 (ix3 r h 0)
    = pull headWidth (head (mem x0) (gain x1) (mat x2) h r) (kgain x3) (toHead (cols x4) h r) := by
  pointwise [val_main_v49, val_main_v48, val_main_cst_10, val_main_v47, val_main_v44, val_main_v43, val_main_cst_9, val_main_v42, val_main_v40, val_main_v39, val_main_v29,
    val_main_v26, val_main_v25, val_main_cst_5, val_main_v24]
  simp only [v15, v35, v23, v22]
  rfl

theorem v50 : val_main_v50 (F := Ideal) x0 x1 x2 x3 x4 (ix2 r h)
    = pull headWidth (head (mem x0) (gain x1) (mat x2) h r) (kgain x3) (toHead (cols x4) h r) := by
  pointwise [val_main_v50, val_main_cst_11]
  simp only [Fin.sum_univ_one, v49]

theorem v56 : val_main_v56 (F := Ideal) x0 x1 x2 x3 x4 (ix2 r (col h e))
    = rowOf headWidth (head (mem x0) (gain x1) (mat x2) h r) (kgain x3) (toHead (cols x4) h r) e := by
  pointwise [val_main_v56]
  simp only [fst_col, snd_col]
  pointwise [val_main_v55, val_main_v54, val_main_v53, val_main_v52, val_main_v51, val_main_v46, val_main_v45, val_main_v40, val_main_v39, val_main_v29]
  rw [v15, v35, v23, v50]
  rfl

theorem v58 : val_main_v58 (F := Ideal) x0 x1 x2 x3 x4 x5 (ix2 r j)
    = back (mem x0) (gain x1) (mat x2) (kgain x3) (cols x4) (cols x5) r j := by
  pointwise [val_main_v58, val_main_v57, val_main_v34, val_main_cst_6, val_main_cst_12]
  unfold back both
  by_cases hj : j.val < 512
  · rw [dif_neg (by omega), dif_pos hj, dif_pos hj, zero_add]
    obtain ⟨h, e, he⟩ := col_surj ⟨j.val, hj⟩
    rw [he, v56, byCol_col]
  · rw [dif_pos ⟨by omega, by omega⟩, dif_neg hj, dif_neg hj, add_zero]

/-- The gradient of the weights. -/
theorem v60 : val_main_v60 (F := Ideal) x0 x1 x2 x3 x4 x5 (ix2 i j)
    = weights (mem x0) (gain x1) (mat x2) (kgain x3) (cols x4) (cols x5) i j := by
  pointwise [val_main_v60, val_main_v59]
  simp only [v58, v12]
  exact Fintype.sum_congr _ _ fun r => mul_comm _ _

/-- The gradient of the memory's gain. -/
theorem v63 : val_main_v63 (F := Ideal) x0 x1 x2 x3 x4 x5 (ix1 i)
    = memGain (mem x0) (gain x1) (mat x2) (kgain x3) (cols x4) (cols x5) i := by
  pointwise [val_main_v63, val_main_cst_13, val_main_v62, val_main_v61]
  simp only [v58, v9]
  rfl

theorem v65 : val_main_v65 (F := Ideal) x0 x1 x2 x3 x4 x5 (ix1 i)
    = memGain (mem x0) (gain x1) (mat x2) (kgain x3) (cols x4) (cols x5) i := by
  pointwise [val_main_v65, val_main_cst_14, val_main_v64]
  simp only [Fin.sum_univ_one, v63]

end Cert.Reference11Ideal.Hand

end
-- ==== Proof.Mem.lean ====
/-
  The gradients of the memory's norm, its product and the keys' norm, after the forward call that leaves the normed memory
  and the keys and values: what the two calls leave, and that it is the reference's.
-/
module

public import proofs.«01_k».proof.Defs
public import proofs.«01_k».proof.Proof.MemRef
public import proofs.«01_k».proof.Proof.Gen.Kernel11.Frame
public import proofs.«01_k».proof.Proof.Gen.Kernel11Ideal.Frame
public import proofs.«01_k».proof.Proof.Gen.Reference11Ideal.Run
public import Idealize.ShloMosaic.Lib.Pipeline.ValueKit

@[expose] public section

set_option maxRecDepth 16384

noncomputable section

namespace Cert.Kernel11Ideal.Hand

open Cert.Kernel11Ideal Cert.Kernel11Ideal.Gen Cert.Norm Cert.Memory
open Cert.Xa (col byCol byCol_col col_surj)
open Idealize.ShloMosaic Idealize.ShloMosaic.TcCoe Idealize.SL Idealize.SL.BI Idealize.SL.Sem
open Idealize.ShloMosaic.Pipeline (Dat)

section Body

variable (X : FVec Ideal S256x1024 .f32) (G : FVec Ideal S1x1024 .f32) (W : FVec Ideal S1024x1024 .bf16)
  (r : Fin 256) (h : Fin 4) (e : Fin 128) (i j : Fin 1024)

theorem pay3_at : k0_pay3 (F := Ideal) X G (ix2 r i) = normed (fun r e => X (ix2 r e)) (fun e => G (ix2 0 e)) r i := by
  pointwise [k0_pay3]
  rfl

theorem pay4_at : k0_pay4 (F := Ideal) X G (ix2 r i) = normed (fun r e => X (ix2 r e)) (fun e => G (ix2 0 e)) r i := by
  pointwise [k0_pay4]
  rw [pay3_at]

theorem pay5_at : k0_pay5 (F := Ideal) X G W (ix2 r j) = keyVal (fun r e => X (ix2 r e)) (fun e => G (ix2 0 e)) (fun e j => W (ix2 e j)) r j := by
  pointwise [k0_pay5]
  simp only [pay3_at]
  rfl

variable (x d : FVec Ideal S256x128 .f32) (k p : FVec Ideal S1x128 .f32)

/-- A head's gradient. -/
theorem rows_at : k1_pay11 (F := Ideal) x k d (ix2 r e) = rowOf headWidth (fun e => x (ix2 r e)) (fun e => k (ix2 0 e)) (fun e => d (ix2 r e)) e := by
  pointwise [k1_pay11, k1_pay10, k1_pay9]
  simp only [Fin.sum_univ_one]
  rfl

/-- A head's share of the gain's gradient, added. -/
theorem gain_at : k1_pay12 (F := Ideal) p x d (ix2 0 e) = p (ix2 0 e) + ∑ r, gainOf headWidth (fun e => x (ix2 r e)) (fun e => d (ix2 r e)) e := by
  pointwise [k1_pay12, k1_pay10, k1_pay9]
  rfl

variable (K : FVec Ideal S256x1024 .f32) (D V : FVec Ideal S256x512 .f32)

/-- The four heads' keys. -/
def heads : Fin 4 → FVec Ideal S256x128 .f32 := ![k1_pay3 K, k1_pay8 K, k1_pay13 (k1_pay2 K), k1_pay21 (k1_pay2 K)]
/-- What reaches them. -/
def slices : Fin 4 → FVec Ideal S256x128 .f32 := ![View.ld (Val := Elt Ideal) (e' := .f32) D r1_2, View.ld (Val := Elt Ideal) (e' := .f32) D r1_3,
  View.ld (Val := Elt Ideal) (e' := .f32) D r1_4, View.ld (Val := Elt Ideal) (e' := .f32) D r1_5]

theorem heads_at : heads K h (ix2 r e) = K (ix2 r (front h e)) := by
  fin_cases h
  · show k1_pay3 (F := Ideal) K (ix2 r e) = _
    pointwise [k1_pay3, k1_pay2]
    exact congrArg (fun y => K (ix2 r y)) (Fin.ext (by simp [front, col]))
  · show k1_pay8 (F := Ideal) K (ix2 r e) = _
    pointwise [k1_pay8, k1_pay2]
    exact congrArg (fun y => K (ix2 r y)) (Fin.ext (by simp [front, col]))
  · show k1_pay13 (k1_pay2 (F := Ideal) K) (ix2 r e) = _
    pointwise [k1_pay13, k1_pay2]
    exact congrArg (fun y => K (ix2 r y)) (Fin.ext (by simp [front, col]))
  · show k1_pay21 (k1_pay2 (F := Ideal) K) (ix2 r e) = _
    pointwise [k1_pay21, k1_pay2]
    exact congrArg (fun y => K (ix2 r y)) (Fin.ext (by simp [front, col]))

theorem ld_at (o : ℕ) (inb) (y : Fin 512) (hy : y.val = o + e.val) :
    View.ld (Val := Elt Ideal) (e' := .f32) D (Rect.unit (s := S256x512) ![0, o] ![256, 128] inb) (ix2 r e : S256x128.Idx) = D (ix2 r y) := by
  refine congrArg D (funext fun a => Fin.ext ?_)
  show ((Rect.unit (s := S256x512) ![0, o] ![256, 128] inb).emb (ix2 r e) a).val = _
  rw [Rect.emb_apply]
  fin_cases a
  · show 0 + 1 * r.val = r.val
    omega
  · show o + 1 * e.val = y.val
    omega

theorem slices_at : slices D h (ix2 r e) = D (ix2 r (col h e)) := by
  fin_cases h
  · exact ld_at r e D 0 _ _ (by simp [col])
  · exact ld_at r e D 128 _ _ (by simp [col])
  · exact ld_at r e D 256 _ _ (by simp [col])
  · exact ld_at r e D 384 _ _ (by simp [col])

/-- A piece of rows put side by side. -/
theorem at_piece {n : ℕ} (xs : List ((s : Shape) × (s.Idx → EReal))) (hc : Shape.Concatenates (xs.map (·.1)) S256x1024 1) (q : ℕ) (hq : q < xs.length)
    {x : (⟨2, ![256, n]⟩ : Shape).Idx → EReal} (hx : xs[q] = ⟨⟨2, ![256, n]⟩, x⟩) (o : ℕ)
    (ho : (((xs.take q).map (·.1)).map fun s => if h : s.rank = S256x1024.rank then s.size ((1 : Fin S256x1024.rank).cast h.symm) else 0).sum = o)
    (r : Fin 256) (j : Fin 1024) (e : Fin n) (hj : j.val = o + e.val) :
    concatenate S256x1024 1 xs hc (ix2 r j) = x (ix2 r e) := by
  refine concatenate_apply_piece 1 xs hc (ix2 r j) q hq ⟨2, ![256, n]⟩ x hx rfl o ho (ix2 r e) (fun b hb => ?_) hj.symm
  fin_cases b
  · rfl
  · exact absurd rfl hb

/-- The gradient of the keys and values, put together. -/
def packed : FVec Ideal S256x1024 .f32 :=
  concatenate S256x1024 1 [⟨S256x128, k1_pay11 (heads K 0) k (slices D 0)⟩, ⟨S256x128, k1_pay11 (heads K 1) k (slices D 1)⟩,
    ⟨S256x128, k1_pay11 (heads K 2) k (slices D 2)⟩, ⟨S256x128, k1_pay11 (heads K 3) k (slices D 3)⟩, ⟨S256x512, V⟩]
    concatenates_S256x128_S256x128_S256x128_S256x128_S256x512_S256x1024_d1

theorem head_row : k1_pay11 (heads K h) k (slices D h) (ix2 r e)
    = rowOf headWidth (fun e => K (ix2 r (front h e))) (fun e => k (ix2 0 e)) (fun e => D (ix2 r (col h e))) e := by
  rw [rows_at]
  simp only [heads_at, slices_at]

theorem packed_at : packed k K D V (ix2 r j)
    = both (fun h => rowOf headWidth (fun e => K (ix2 r (front h e))) (fun e => k (ix2 0 e)) (fun e => D (ix2 r (col h e)))) (fun y => V (ix2 r y)) j := by
  unfold both packed
  by_cases hj : j.val < 512
  · rw [dif_pos hj]
    obtain ⟨h, e, he⟩ := col_surj ⟨j.val, hj⟩
    have hv : j.val = 128 * h.val + e.val := congrArg Fin.val he
    rw [he, byCol_col, ← head_row]
    fin_cases h
    · exact at_piece _ _ 0 (by simp) rfl 0 rfl r j e (by omega)
    · exact at_piece _ _ 1 (by simp) rfl 128 rfl r j e (by omega)
    · exact at_piece _ _ 2 (by simp) rfl 256 rfl r j e (by omega)
    · exact at_piece _ _ 3 (by simp) rfl 384 rfl r j e (by omega)
  · rw [dif_neg hj]
    exact at_piece _ _ 4 (by simp) rfl 512 rfl r j ⟨j.val - 512, by omega⟩ (by show j.val = 512 + (j.val - 512); omega)

variable (N : FVec Ideal S256x1024 .bf16) (B : FVec Ideal S256x1024 .f32)

/-- The product with the normed memory. -/
def forWeights : FVec Ideal S1024x1024 .f32 :=
  matmul dot_S256x1024_S256x1024_S1024x1024_0_0_1_1_n_n none (shapeCast S256x1024 N shapeCasts_S256x1024_S256x1024) (truncf .bf16 B bitsLt_bf16_f32)
    (constant S1024x1024 .f32 0x00000000#32)
/-- The product with the weights. -/
def forMemory : FVec Ideal S256x1024 .f32 :=
  matmul dot_S256x1024_S1024x1024_S256x1024_1_1_0_0_n_n none (truncf .bf16 B bitsLt_bf16_f32) (shapeCast S1024x1024 W shapeCasts_S1024x1024_S1024x1024)
    (constant S256x1024 .f32 0x00000000#32)

theorem forWeights_at : forWeights N B (ix2 i j) = ∑ r, N (ix2 r i) * B (ix2 r j) := by
  pointwise [forWeights]

theorem forMemory_at : forMemory W B (ix2 r i) = ∑ j, B (ix2 r j) * W (ix2 i j) := by
  pointwise [forMemory]

theorem memory_gain_at : k1_pay1 (F := Ideal) B X (k1_pay31 X) (Scalar.ofBits .f32 0x44800000#32) (ix2 0 i)
    = ∑ r, gainOf width (fun e => X (ix2 r e)) (fun e => B (ix2 r e)) i := by
  pointwise [k1_pay1, k1_pay31]
  rfl

section Named

theorem whole_keys : View.ld (Val := Elt Ideal) (e' := .f32) K r1_0 = K := View.ld_unit_lit' _ _ (by decide)
theorem whole_gain : View.ld (Val := Elt Ideal) (e' := .f32) k r1_1 = k := View.ld_unit_lit' _ _ (by decide)

theorem first (d : FVec Ideal S256x128 .f32) : k1_pay6 (F := Ideal) K k d = k1_pay11 (F := Ideal) (k1_pay3 K) k d := rfl
theorem third (d : FVec Ideal S256x128 .f32) (v : FVec Ideal S256x1024 .f32) :
    k1_pay19 (F := Ideal) (k1_pay13 v) (k1_pay14 k) (k1_pay15 v) k1_pay16 d = k1_pay11 (F := Ideal) (k1_pay13 v) k d := rfl
theorem fourth (a b c d : FVec Ideal S256x128 .f32) (v : FVec Ideal S256x1024 .f32) :
    k1_pay28 (F := Ideal) a b c (k1_pay21 v) (k1_pay22 k) (k1_pay24 v) (k1_pay25 v) d V
      = concatenate S256x1024 1 [⟨S256x128, a⟩, ⟨S256x128, b⟩, ⟨S256x128, c⟩, ⟨S256x128, k1_pay11 (F := Ideal) (k1_pay21 v) k d⟩, ⟨S256x512, V⟩]
          concatenates_S256x128_S256x128_S256x128_S256x128_S256x512_S256x1024_d1 := rfl

/-- The body's put-together gradient. -/
theorem packs : k1_pay28 (F := Ideal) (k1_pay33 X G N W K k D V) (k1_pay35 X G N W K k D V) (k1_pay39 X G N W K k D V) (k1_pay40 X G N W K k D V)
      (k1_pay41 X G N W K k D V) (k1_pay42 X G N W K k D V) (k1_pay43 X G N W K k D V) (slices D 3) V = packed k K D V := by
  unfold k1_pay33 k1_pay35 k1_pay39 k1_pay40 k1_pay41 k1_pay42 k1_pay43 k1_pay38 k1_pay37 k1_pay36 k1_pay34 k1_pay32
  rw [whole_keys, whole_gain, first, third k, fourth]
  rfl

end Named

/-- What the second call leaves for the weights. -/
theorem leaves_weights : out1_8 (F := Ideal) X G N W K k D V = forWeights N (packed k K D V) := by
  rw [← packs X G W k K D V N]
  frame_out
  rfl

theorem leaves_memory : out1_9 (F := Ideal) X G N W K k D V
    = k1_pay1 (F := Ideal) (forMemory W (packed k K D V)) X (k1_pay31 X) (Scalar.ofBits .f32 0x44800000#32) := by
  rw [← packs X G W k K D V N]
  frame_out
  rfl

theorem seventh (d : FVec Ideal S256x128 .f32) :
    k1_pay7 (F := Ideal) K d = k1_pay12 (F := Ideal) (broadcast S1x128 (Scalar.ofBits .f32 0x00000000#32)) (k1_pay3 K) d := rfl
theorem twentieth (d : FVec Ideal S256x128 .f32) (v : FVec Ideal S256x1024 .f32) :
    k1_pay20 (F := Ideal) p (k1_pay13 v) (k1_pay15 v) k1_pay16 d = k1_pay12 (F := Ideal) p (k1_pay13 v) d := rfl
theorem last (d : FVec Ideal S256x128 .f32) (v : FVec Ideal S256x1024 .f32) :
    k1_pay27 (F := Ideal) p (k1_pay26 v) d = k1_pay12 (F := Ideal) p (k1_pay21 v) d := rfl

theorem leaves_keys : out1_10 (F := Ideal) X G N W K k D V
    = k1_pay12 (F := Ideal) (k1_pay12 (F := Ideal) (k1_pay12 (F := Ideal) (k1_pay12 (F := Ideal) (broadcast S1x128 (Scalar.ofBits .f32 0x00000000#32)) (heads K 0) (slices D 0))
        (heads K 1) (slices D 1)) (heads K 2) (slices D 2)) (heads K 3) (slices D 3) := by
  frame_out
  unfold k1_pay38 k1_pay37 k1_pay36 k1_pay34 k1_pay32
  rw [whole_keys, seventh, twentieth, last]
  rfl

theorem keys_at : out1_10 (F := Ideal) X G N W K k D V (ix2 0 e)
    = ∑ r, ∑ h, gainOf headWidth (fun e => K (ix2 r (front h e))) (fun e => D (ix2 r (col h e))) e := by
  rw [leaves_keys, gain_at, gain_at, gain_at, gain_at]
  simp only [heads_at, slices_at, Fin.sum_univ_four, Finset.sum_add_distrib]
  refine congrArg₂ (· + ·) (congrArg₂ (· + ·) (congrArg₂ (· + ·) ?_ rfl) rfl) rfl
  show Ideal.ofBits .f32 0x00000000#32 + _ = _
  rw [Ideal.ofBits_zero_f32, zero_add]

end Body

variable (m : (ℓ : Loc nD τ sig) → Buf (Elt Ideal) ℓ) (ρ : Dev nD → PrngReg) (c : Dev nD)

abbrev argM : FVec Ideal S256x1024 .f32 := m ((c.tc : Thread nD τ).loc main_arg0)
abbrev argG : FVec Ideal S1024 .f32 := m ((c.tc : Thread nD τ).loc main_arg1)
abbrev argW : FVec Ideal S1024x1024 .f32 := m ((c.tc : Thread nD τ).loc main_arg2)
abbrev argK : FVec Ideal S128 .f32 := m ((c.tc : Thread nD τ).loc main_arg3)
abbrev argD : FVec Ideal S256x512 .f32 := m ((c.tc : Thread nD τ).loc main_arg4)
abbrev argV : FVec Ideal S256x512 .f32 := m ((c.tc : Thread nD τ).loc main_arg5)

abbrev mem : Fin 256 → Fin 1024 → EReal := fun r e => argM m c (ix2 r e)
abbrev gain : Fin 1024 → EReal := fun e => argG m c (ix1 e)
abbrev mat : Fin 1024 → Fin 1024 → EReal := fun e j => argW m c (ix2 e j)
abbrev kgain : Fin 128 → EReal := fun e => argK m c (ix1 e)
abbrev dkeys : Fin 256 → Fin 512 → EReal := fun r y => argD m c (ix2 r y)
abbrev dvals : Fin 256 → Fin 512 → EReal := fun r y => argV m c (ix2 r y)

theorem entry_g : V1 m ρ c main_v1 = shapeCast (s := S1024) S1x1024 (argG m c) shapeCasts_S1024_S1x1024 := by
  show StableHlo.after hostOps0 (W0 m ρ c) (Proc.devRef .tc main_v1) = _
  entry_read
  rfl

theorem entry_w : V1 m ρ c main_v0 = truncf (F := Ideal) (s := S1024x1024) (φ := .f32) .bf16 (argW m c) bitsLt_bf16_f32 := by
  show StableHlo.after hostOps0 (W0 m ρ c) (Proc.devRef .tc main_v0) = _
  entry_read
  rfl

/-- Every window is its whole array. -/
theorem idx0 : ∀ t : Fin cfg0.N, win0_0.index t 0 = 0 ∧ win0_0.index t 1 = 0 ∧ win0_1.index t 0 = 0 ∧ win0_1.index t 1 = 0 ∧ win0_2.index t 0 = 0 ∧ win0_2.index t 1 = 0
    ∧ win0_4.index t 0 = 0 ∧ win0_4.index t 1 = 0 ∧ win0_5.index t 0 = 0 ∧ win0_5.index t 1 = 0 :=
  (by decide +kernel : ∀ t : Fin grid0.N, _)

theorem idx1 : ∀ t : Fin cfg1.N, win1_0.index t 0 = 0 ∧ win1_0.index t 1 = 0 ∧ win1_2.index t 0 = 0 ∧ win1_2.index t 1 = 0 ∧ win1_3.index t 0 = 0 ∧ win1_3.index t 1 = 0
    ∧ win1_4.index t 0 = 0 ∧ win1_4.index t 1 = 0 ∧ win1_5.index t 0 = 0 ∧ win1_5.index t 1 = 0 ∧ win1_6.index t 0 = 0 ∧ win1_6.index t 1 = 0 ∧ win1_7.index t 0 = 0 ∧ win1_7.index t 1 = 0
    ∧ win1_8.index t 0 = 0 ∧ win1_8.index t 1 = 0 ∧ win1_9.index t 0 = 0 ∧ win1_9.index t 1 = 0 ∧ win1_10.index t 0 = 0 ∧ win1_10.index t 1 = 0 :=
  (by decide +kernel : ∀ t : Fin grid1.N, _)

theorem blk0_0 (t : Fin cfg0.N) : (iblk0 (V1 m ρ) c 0 t : FVec Ideal S256x1024 .f32) = argM m c := by
  refine Eq.trans ?_ (W1_args m ρ c main_arg0 (by decide))
  funext y
  refine congrArg (V1 m ρ c main_arg0) ?_
  blk_ext [idx0 t]

theorem blk0_1 (t : Fin cfg0.N) : (iblk0 (V1 m ρ) c 1 t : FVec Ideal S1x1024 .f32) = shapeCast (s := S1024) S1x1024 (argG m c) shapeCasts_S1024_S1x1024 := by
  refine Eq.trans ?_ (entry_g m ρ c)
  funext y
  refine congrArg (V1 m ρ c main_v1) ?_
  blk_ext [idx0 t]

theorem blk0_2 (t : Fin cfg0.N) : (iblk0 (V1 m ρ) c 2 t : FVec Ideal S1024x1024 .bf16) = truncf (F := Ideal) (s := S1024x1024) (φ := .f32) .bf16 (argW m c) bitsLt_bf16_f32 := by
  refine Eq.trans ?_ (entry_w m ρ c)
  funext y
  refine congrArg (V1 m ρ c main_v0) ?_
  blk_ext [idx0 t]

theorem row_gain (e : Fin 1024) : shapeCast (s := S1024) S1x1024 (argG m c) shapeCasts_S1024_S1x1024 (ix2 0 e) = gain m c e := by pointwise []

/-- The normed memory the forward call leaves. -/
def savedNorm : FVec Ideal S256x1024 .bf16 := fun i => normed (mem m c) (gain m c) (i 0) (i 1)
/-- The keys and values it leaves. -/
def savedKeys : FVec Ideal S256x1024 .f32 := fun i => keyVal (mem m c) (gain m c) (mat m c) (i 0) (i 1)

theorem final_norm : (dat0 (V1 m ρ) c).arrAt 4 cfg0.N = savedNorm m c := by
  refine (dat0 (V1 m ρ) c).arrAt_eq_of_covers 4 _ (by decide +kernel) fun t _ y => ?_
  blk_simp
  rw [after0_4]
  obtain ⟨r, e, rfl⟩ : ∃ (r : Fin 256) (e : Fin 1024), y = ix2 r e := ⟨y 0, y 1, eq_ix2 y⟩
  have he : (win0_4.blk t).view.emb (ix2 r e : S256x1024.Idx) = (ix2 r e : S256x1024.Idx) := by blk_ext [idx0 t]
  refine Eq.trans ?_ (congrArg (savedNorm m c) he).symm
  have ho : out0_4 (iblk0 (V1 m ρ) c 0 t) (iblk0 (V1 m ρ) c 1 t) (iblk0 (V1 m ρ) c 2 t) (iblk0 (V1 m ρ) c 3 t)
      = k0_pay4 (F := Ideal) (iblk0 (V1 m ρ) c 0 t) (iblk0 (V1 m ρ) c 1 t) := by frame_out
  rw [ho]
  refine (pay4_at _ _ r e).trans ?_
  rw [blk0_0, blk0_1]
  simp only [row_gain]
  rfl

theorem final_keys : (dat0 (V1 m ρ) c).arrAt 5 cfg0.N = savedKeys m c := by
  refine (dat0 (V1 m ρ) c).arrAt_eq_of_covers 5 _ (by decide +kernel) fun t _ y => ?_
  blk_simp
  rw [after0_5]
  obtain ⟨r, e, rfl⟩ : ∃ (r : Fin 256) (e : Fin 1024), y = ix2 r e := ⟨y 0, y 1, eq_ix2 y⟩
  have he : (win0_5.blk t).view.emb (ix2 r e : S256x1024.Idx) = (ix2 r e : S256x1024.Idx) := by blk_ext [idx0 t]
  refine Eq.trans ?_ (congrArg (savedKeys m c) he).symm
  have ho : out0_5 (iblk0 (V1 m ρ) c 0 t) (iblk0 (V1 m ρ) c 1 t) (iblk0 (V1 m ρ) c 2 t) (iblk0 (V1 m ρ) c 3 t)
      = k0_pay5 (F := Ideal) (iblk0 (V1 m ρ) c 0 t) (iblk0 (V1 m ρ) c 1 t) (iblk0 (V1 m ρ) c 2 t) := by frame_out
  rw [ho]
  refine (pay5_at _ _ _ r e).trans ?_
  rw [blk0_0, blk0_1, blk0_2]
  simp only [row_gain]
  rfl

theorem entry_k : V3 m ρ c main_v5 = shapeCast (s := S128) S1x128 (argK m c) shapeCasts_S128_S1x128 := by
  refine Eq.trans (b := shapeCast (s := S128) S1x128 (W2 m ρ c main_arg3) shapeCasts_S128_S1x128) ?_ ?_
  · show StableHlo.after hostOps1 (W2 m ρ c) (Proc.devRef .tc main_v5) = _
    entry_read
    rfl
  exact congrArg (fun v : FVec Ideal S128 .f32 => shapeCast S1x128 v shapeCasts_S128_S1x128) (W2_args m ρ c main_arg3 (by decide))

theorem blk1_0 (t : Fin cfg1.N) : (iblk1 (V3 m ρ) c 0 t : FVec Ideal S256x1024 .f32) = argM m c := by
  refine Eq.trans ?_ (W3_args m ρ c main_arg0 (by decide))
  funext y
  refine congrArg (V3 m ρ c main_arg0) ?_
  blk_ext [idx1 t]

theorem blk1_2 (t : Fin cfg1.N) : (iblk1 (V3 m ρ) c 2 t : FVec Ideal S256x1024 .bf16) = savedNorm m c := by
  refine Eq.trans ?_ ((W3_of m ρ c main_v3_0 (by decide)).trans ((W2_arr m ρ c 4).trans (final_norm m ρ c)))
  funext y
  refine congrArg (V3 m ρ c main_v3_0) ?_
  blk_ext [idx1 t]

theorem blk1_3 (t : Fin cfg1.N) : (iblk1 (V3 m ρ) c 3 t : FVec Ideal S1024x1024 .bf16) = truncf (F := Ideal) (s := S1024x1024) (φ := .f32) .bf16 (argW m c) bitsLt_bf16_f32 := by
  refine Eq.trans ?_ ((W3_of m ρ c main_v0 (by decide)).trans ((W2_of m ρ c main_v0 (by decide)).trans (entry_w m ρ c)))
  funext y
  refine congrArg (V3 m ρ c main_v0) ?_
  blk_ext [idx1 t]

theorem blk1_4 (t : Fin cfg1.N) : (iblk1 (V3 m ρ) c 4 t : FVec Ideal S256x1024 .f32) = savedKeys m c := by
  refine Eq.trans ?_ ((W3_of m ρ c main_v3_1 (by decide)).trans ((W2_arr m ρ c 5).trans (final_keys m ρ c)))
  funext y
  refine congrArg (V3 m ρ c main_v3_1) ?_
  blk_ext [idx1 t]

theorem blk1_5 (t : Fin cfg1.N) : (iblk1 (V3 m ρ) c 5 t : FVec Ideal S1x128 .f32) = shapeCast (s := S128) S1x128 (argK m c) shapeCasts_S128_S1x128 := by
  refine Eq.trans ?_ (entry_k m ρ c)
  funext y
  refine congrArg (V3 m ρ c main_v5) ?_
  blk_ext [idx1 t]

theorem blk1_6 (t : Fin cfg1.N) : (iblk1 (V3 m ρ) c 6 t : FVec Ideal S256x512 .f32) = argD m c := by
  refine Eq.trans ?_ (W3_args m ρ c main_arg4 (by decide))
  funext y
  refine congrArg (V3 m ρ c main_arg4) ?_
  blk_ext [idx1 t]

theorem blk1_7 (t : Fin cfg1.N) : (iblk1 (V3 m ρ) c 7 t : FVec Ideal S256x512 .f32) = argV m c := by
  refine Eq.trans ?_ (W3_args m ρ c main_arg5 (by decide))
  funext y
  refine congrArg (V3 m ρ c main_arg5) ?_
  blk_ext [idx1 t]

theorem row_kgain (e : Fin 128) : shapeCast (s := S128) S1x128 (argK m c) shapeCasts_S128_S1x128 (ix2 0 e) = kgain m c e := by pointwise []

theorem back_at (r : Fin 256) (j : Fin 1024) :
    packed (shapeCast (s := S128) S1x128 (argK m c) shapeCasts_S128_S1x128) (savedKeys m c) (argD m c) (argV m c) (ix2 r j)
      = back (mem m c) (gain m c) (mat m c) (kgain m c) (dkeys m c) (dvals m c) r j := by
  rw [packed_at]
  simp only [row_kgain]
  rfl

/-- The kernel's results. -/
def resW : FVec Ideal S1024x1024 .f32 := fun i => weights (mem m c) (gain m c) (mat m c) (kgain m c) (dkeys m c) (dvals m c) (i 0) (i 1)
def resG : FVec Ideal S1x1024 .f32 := fun i => memGain (mem m c) (gain m c) (mat m c) (kgain m c) (dkeys m c) (dvals m c) (i 1)
def resK : FVec Ideal S1x128 .f32 := fun i => keyGain (mem m c) (gain m c) (mat m c) (dkeys m c) (i 1)

theorem final_w : (dat1 (V3 m ρ) c).arrAt 8 cfg1.N = resW m c := by
  refine (dat1 (V3 m ρ) c).arrAt_eq_of_covers 8 _ (by decide +kernel) fun t _ y => ?_
  blk_simp
  rw [after1_8]
  obtain ⟨i, j, rfl⟩ : ∃ (i j : Fin 1024), y = ix2 i j := ⟨y 0, y 1, eq_ix2 y⟩
  have he : (win1_8.blk t).view.emb (ix2 i j : S1024x1024.Idx) = (ix2 i j : S1024x1024.Idx) := by blk_ext [idx1 t]
  refine Eq.trans ?_ (congrArg (resW m c) he).symm
  refine (congrFun (leaves_weights _ _ _ _ _ _ _ _) _).trans ?_
  refine (forWeights_at _ _ _ _).trans ?_
  rw [blk1_2, blk1_4, blk1_5, blk1_6, blk1_7]
  simp only [back_at]
  rfl

theorem final_g : (dat1 (V3 m ρ) c).arrAt 9 cfg1.N = resG m c := by
  refine (dat1 (V3 m ρ) c).arrAt_eq_of_covers 9 _ (by decide +kernel) fun t _ y => ?_
  blk_simp
  rw [after1_9]
  obtain ⟨i, rfl⟩ : ∃ (i : Fin 1024), y = ix2 0 i := ⟨y 1, (eq_ix2 y).trans (by rw [Subsingleton.elim (α := Fin 1) (y 0) 0])⟩
  have he : (win1_9.blk t).view.emb (ix2 0 i : S1x1024.Idx) = (ix2 0 i : S1x1024.Idx) := by blk_ext [idx1 t]
  refine Eq.trans ?_ (congrArg (resG m c) he).symm
  refine (congrFun (leaves_memory _ _ _ _ _ _ _ _) _).trans ?_
  refine (memory_gain_at _ _ _).trans ?_
  simp only [forMemory_at]
  rw [blk1_0, blk1_3, blk1_4, blk1_5, blk1_6, blk1_7]
  simp only [back_at]
  rfl

theorem final_k : (dat1 (V3 m ρ) c).arrAt 10 cfg1.N = resK m c := by
  refine (dat1 (V3 m ρ) c).arrAt_eq_of_covers 10 _ (by decide +kernel) fun t _ y => ?_
  blk_simp
  rw [after1_10]
  obtain ⟨e, rfl⟩ : ∃ (e : Fin 128), y = ix2 0 e := ⟨y 1, (eq_ix2 y).trans (by rw [Subsingleton.elim (α := Fin 1) (y 0) 0])⟩
  have he : (win1_10.blk t).view.emb (ix2 0 e : S1x128.Idx) = (ix2 0 e : S1x128.Idx) := by blk_ext [idx1 t]
  refine Eq.trans ?_ (congrArg (resK m c) he).symm
  refine (keys_at _ _ _ _ _ _ _ _ _).trans ?_
  rw [blk1_4, blk1_6]
  rfl

theorem exit_g (e : Fin 1024) : (W5 m ρ c main_v7 : FVec Ideal S1024 .f32) (ix1 e) = memGain (mem m c) (gain m c) (mat m c) (kgain m c) (dkeys m c) (dvals m c) e := by
  have h : W5 m ρ c main_v7 = shapeCast (s := S1x1024) S1024 (W4 m ρ c main_v6_1) shapeCasts_S1x1024_S1024 := by
    show StableHlo.after hostOps2 (W4 m ρ c) (Proc.devRef .tc main_v7) = _
    entry_read
    rfl
  rw [h, show W4 m ρ c main_v6_1 = resG m c from (W4_arr m ρ c 9).trans (final_g m ρ c)]
  pointwise []
  rfl

theorem exit_k (e : Fin 128) : (W5 m ρ c main_v8 : FVec Ideal S128 .f32) (ix1 e) = keyGain (mem m c) (gain m c) (mat m c) (dkeys m c) e := by
  have h : W5 m ρ c main_v8 = shapeCast (s := S1x128) S128 (W4 m ρ c main_v6_2) shapeCasts_S1x128_S128 := by
    show StableHlo.after hostOps2 (W4 m ρ c) (Proc.devRef .tc main_v8) = _
    entry_read
    rfl
  rw [h, show W4 m ρ c main_v6_2 = resK m c from (W4_arr m ρ c 10).trans (final_k m ρ c)]
  pointwise []
  rfl

section Launch

open Idealize.SL.RA Idealize.ShloMosaic.Tactic Idealize.ShloMosaic.Rounds
open scoped Idealize.SL.BI
open Idealize.SL.BI.BIBase Idealize.SL.BI.Laws Idealize.SL.ProofMode

set_option backward.isDefEq.respectTransparency.types false in
/-- The two calls run, and every buffer ends at what they leave. -/
theorem run : θ_run defs (onTc (τ := τ) (main (F := Ideal))) ⟨m, fun _ => 0, ρ⟩ fun r =>
    ∀ (c : Dev nD), ∀ b ∈ Pipeline.ucRefs τ sig, r.2.mem (((c : Thread nD τ)).1, b) = W5 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

end Launch

end Cert.Kernel11Ideal.Hand

namespace Cert.Proof

open Idealize.ShloMosaic Idealize.ShloMosaic.TcCoe Idealize.SL.Sem
open Cert.Kernel11Ideal.Gen (mem_uc W4_arr W5_of W5_main_arg0 W5_main_arg1 W5_main_arg2 W5_main_arg3 W5_main_arg4 W5_main_arg5)

theorem mem_frame_reference : Cert.quiescent_Reference11Ideal := fun m ρ _ =>
  (θ_run Cert.Reference11Ideal.defs _ _).mono
    (fun r h => ⟨fun c => (h c).2.2.2, sem_eq_zero_of_no_sems (by decide) r.2⟩) (Cert.Reference11Ideal.Value.run m ρ)

/-- The memory's gradients, after the forward call. -/
theorem mem_algebraic : Cert.algebraic_Kernel11Ideal_Reference11Ideal := by
  intro m g m' g' _ hagree
  refine ⟨fun c => Cert.Kernel11Ideal.Gen.W5 m g c Cert.Kernel11Ideal.main_v6_0, fun c => Cert.Kernel11Ideal.Gen.W5 m g c Cert.Kernel11Ideal.main_v7,
    fun c => Cert.Kernel11Ideal.Gen.W5 m g c Cert.Kernel11Ideal.main_v8,
    (θ_run _ _ _).mono (fun r h c => ⟨h c _ (mem_uc Cert.Kernel11Ideal.main_v6_0 (by decide)), h c _ (mem_uc Cert.Kernel11Ideal.main_v7 (by decide)),
      h c _ (mem_uc Cert.Kernel11Ideal.main_v8 (by decide)), ?_, ?_, ?_, ?_, ?_, ?_⟩) (Cert.Kernel11Ideal.Hand.run m g),
    (θ_run _ _ _).mono (fun r h c => ?_) (Cert.Reference11Ideal.Value.run m' g')⟩
  · exact (h c _ (mem_uc Cert.Kernel11Ideal.main_arg0 (by decide))).trans (W5_main_arg0 m g c)
  · exact (h c _ (mem_uc Cert.Kernel11Ideal.main_arg1 (by decide))).trans (W5_main_arg1 m g c)
  · exact (h c _ (mem_uc Cert.Kernel11Ideal.main_arg2 (by decide))).trans (W5_main_arg2 m g c)
  · exact (h c _ (mem_uc Cert.Kernel11Ideal.main_arg3 (by decide))).trans (W5_main_arg3 m g c)
  · exact (h c _ (mem_uc Cert.Kernel11Ideal.main_arg4 (by decide))).trans (W5_main_arg4 m g c)
  · exact (h c _ (mem_uc Cert.Kernel11Ideal.main_arg5 (by decide))).trans (W5_main_arg5 m g c)
  obtain ⟨h0, h1, h2, h3⟩ := h c
  obtain ⟨a0, a1, a2, a3, a4, a5⟩ := hagree c
  refine ⟨h0.trans ?_, h1.trans ?_, h2.trans ?_, h3⟩
  · rw [Cert.Reference11Ideal.Read.val_main_v60_eq, a0, a1, a2, a3, a4, a5]
    refine Eq.trans ?_ ((W5_of m g c Cert.Kernel11Ideal.main_v6_0 (by decide)).trans ((W4_arr m g c 8).trans (Cert.Kernel11Ideal.Hand.final_w m g c))).symm
    funext i
    obtain ⟨r, e, rfl⟩ : ∃ (r e : Fin 1024), i = ix2 r e := ⟨i 0, i 1, eq_ix2 i⟩
    exact Cert.Reference11Ideal.Hand.v60 _ _ _ _ _ _ r e
  · rw [Cert.Reference11Ideal.Read.val_main_v65_eq, a0, a1, a2, a3, a4, a5]
    funext i
    obtain ⟨e, rfl⟩ : ∃ e : Fin 1024, i = ix1 e := ⟨i 0, eq_ix1 i⟩
    exact (Cert.Reference11Ideal.Hand.v65 _ _ _ _ _ _ e).trans (Cert.Kernel11Ideal.Hand.exit_g m g c e).symm
  · rw [Cert.Reference11Ideal.Read.val_main_v41_eq, a0, a1, a2, a4]
    funext i
    obtain ⟨e, rfl⟩ : ∃ e : Fin 128, i = ix1 e := ⟨i 0, eq_ix1 i⟩
    exact (Cert.Reference11Ideal.Hand.v41 _ _ _ _ e).trans (Cert.Kernel11Ideal.Hand.exit_k m g c e).symm

end Cert.Proof

end
-- ==== Proof.Fwd.lean ====
/-
  Three forward calls: the first norm, the two norms before the output product, the gate behind its product. What each
  leaves, and that it is the reference's.
-/
module

public import proofs.«01_k».proof.Defs
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Reference17Ideal.Read
public import proofs.«01_k».proof.Proof.Norm
public import Idealize.ShloMosaic.Lib.Pointwise
public import Idealize.ShloMosaic.Lib.Pipeline.ValueKit

@[expose] public section

set_option maxRecDepth 16384

noncomputable section

namespace Cert.Forward

open Cert.Norm Idealize.ShloMosaic

/-- A normed row. -/
def normed {n : ℕ} (w : EReal) (x g : Fin n → EReal) (e : Fin n) : EReal := x e * inv w x * g e

/-- Two blocks side by side, at a column of the first or of the second. -/
theorem side_by_side {n a : ℕ} (x y : (⟨2, ![a, n]⟩ : Shape).Idx → EReal)
    (hc : Shape.Concatenates ([⟨⟨2, ![a, n]⟩, x⟩, ⟨⟨2, ![a, n]⟩, y⟩].map fun p : (s : Shape) × (s.Idx → EReal) => p.1) ⟨2, ![a, n + n]⟩ 1)
    (r : Fin a) (j : Fin (n + n)) :
    concatenate ⟨2, ![a, n + n]⟩ 1 [⟨⟨2, ![a, n]⟩, x⟩, ⟨⟨2, ![a, n]⟩, y⟩] hc (ix2 r j)
      = if h : j.val < n then x (ix2 r ⟨j.val, h⟩) else y (ix2 r ⟨j.val - n, by omega⟩) := by
  split_ifs with h
  · refine concatenate_apply_piece 1 _ hc (ix2 r j) 0 (by simp) ⟨2, ![a, n]⟩ x rfl rfl 0 rfl (ix2 r ⟨j.val, h⟩) (fun b hb => ?_) (Nat.zero_add _)
    fin_cases b
    · rfl
    · exact absurd rfl hb
  · refine concatenate_apply_piece 1 _ hc (ix2 r j) 1 (by simp) ⟨2, ![a, n]⟩ y rfl rfl n rfl (ix2 r ⟨j.val - n, by omega⟩) (fun b hb => ?_)
      (by show n + (j.val - n) = j.val; omega)
    fin_cases b
    · rfl
    · exact absurd rfl hb

end Cert.Forward

namespace Cert.Kernel15Ideal.Hand

open Cert.Kernel15Ideal Cert.Kernel15Ideal.Gen Cert.Norm Cert.Forward
open Idealize.ShloMosaic Idealize.ShloMosaic.TcCoe Idealize.SL.Sem
open Idealize.ShloMosaic.Pipeline (Dat)

/-- The width of the model. -/
abbrev width : EReal := Ideal.ofBits .f32 0x44800000#32

theorem block_at (x : FVec Ideal S1024x1024 .f32) (g : FVec Ideal S1x1024 .f32) (i e : Fin 1024) :
    k0_pay1 (F := Ideal) x g (ix2 i e) = normed width (fun e => x (ix2 i e)) (fun e => g (ix2 0 e)) e := by
  pointwise [k0_pay1]
  rfl

variable (m : (ℓ : Loc nD τ sig) → Buf (Elt Ideal) ℓ) (c : Dev nD)

abbrev argX : FVec Ideal S8192x1024 .f32 := m ((c.tc : Thread nD τ).loc main_arg0)
abbrev argG : FVec Ideal S1024 .f32 := m ((c.tc : Thread nD τ).loc main_arg1)

theorem entry_g : V m c main_v0 = shapeCast (s := S1024) S1x1024 (argG m c) shapeCasts_S1024_S1x1024 := by entry_read; rfl

theorem idx : ∀ t : Fin cfg0.N, win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

section Point

variable (t : Fin cfg0.N) (i e : Fin 1024)

/-- Row `i` of the block at a point. -/
def brow : Fin 8192 := ⟨t.val * 1024 + i.val, by have := lt_of_lt_of_eq t.isLt N_0; omega⟩

theorem blk_x : (iblk m c 0 t : FVec Ideal S1024x1024 .f32) (ix2 i e) = argX m c (ix2 (brow t i) e) := by
  have h := idx t
  show V m c main_arg0 _ = _
  rw [V_main_arg0]
  refine congrArg (argX m c) ?_
  blk_ext [h, brow]

theorem blk_g : (iblk m c 1 t : FVec Ideal S1x1024 .f32) (ix2 0 e) = argG m c (ix1 e) := by
  have h := idx t
  have e1 : (iblk m c 1 t : FVec Ideal S1x1024 .f32) (ix2 0 e) = (V m c main_v0 : FVec Ideal S1x1024 .f32) (ix2 0 e) := by
    refine congrArg (V m c main_v0) ?_
    blk_ext [h]
  refine e1.trans ?_
  rw [entry_g]
  pointwise []

end Point

/-- The kernel's result. -/
def result : FVec Ideal S8192x1024 .bf16 := fun i => normed width (fun e => argX m c (ix2 (i 0) e)) (fun e => argG m c (ix1 e)) (i 1)

theorem final2 : (dats m 0 c).arrAt 2 cfg0.N = result m c := by
  refine (dats m 0 c).arrAt_eq_of_covers 2 _ (by decide +kernel) fun t _ y => ?_
  have hi := idx t
  blk_simp
  rw [after0_2]
  obtain ⟨i, e, rfl⟩ : ∃ (i e : Fin 1024), y = ix2 i e := ⟨y 0, y 1, eq_ix2 y⟩
  have he : (win0_2.blk t).view.emb (ix2 i e : S1024x1024.Idx) = (ix2 (brow t i) e : S8192x1024.Idx) := by blk_ext [hi, brow]
  refine Eq.trans ?_ (congrArg (result m c) he).symm
  have ho : out0_2 (iblk m c 0 t) (iblk m c 1 t) = k0_pay1 (F := Ideal) (iblk m c 0 t) (iblk m c 1 t) := by
    frame_out
  rw [ho]
  refine (block_at _ _ i e).trans ?_
  simp only [blk_x, blk_g]
  rfl

end Cert.Kernel15Ideal.Hand

namespace Cert.Reference15Ideal.Hand

open Cert.Reference15Ideal Cert.Reference15Ideal.Gen Cert.Reference15Ideal.Read Cert.Norm Cert.Forward
open Cert.Kernel15Ideal.Hand (width)
open Idealize.ShloMosaic Idealize.ShloMosaic.TcCoe

theorem v13 (x0 : FVec Ideal S8192x1024 .f32) (x1 : FVec Ideal S1024 .f32) (r : Fin 8192) (e : Fin 1024) :
    val_main_v13 (F := Ideal) x0 x1 (ix2 r e) = normed width (fun e => x0 (ix2 r e)) (fun e => x1 (ix1 e)) e := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

end Cert.Reference15Ideal.Hand

namespace Cert.Kernel16Ideal.Hand

open Cert.Kernel16Ideal Cert.Kernel16Ideal.Gen Cert.Norm Cert.Forward
open Idealize.ShloMosaic Idealize.ShloMosaic.TcCoe Idealize.SL.Sem
open Idealize.ShloMosaic.Pipeline (Dat)

/-- The width of a half. -/
abbrev width : EReal := Ideal.ofBits .f32 0x44000000#32

/-- Two normed rows side by side. -/
def both (x y g h : Fin 512 → EReal) (e : Fin 1024) : EReal :=
  if he : e.val < 512 then normed width x g ⟨e.val, he⟩ else normed width y h ⟨e.val - 512, by omega⟩

theorem block_at (x y : FVec Ideal S1024x512 .f32) (g h : FVec Ideal S1x512 .f32) (i e : Fin 1024) :
    k0_pay1 (F := Ideal) x y g h (ix2 i e) = both (fun e => x (ix2 i e)) (fun e => y (ix2 i e)) (fun e => g (ix2 0 e)) (fun e => h (ix2 0 e)) e := by
  refine Eq.trans (side_by_side (n := 512) _ _ concatenates_S1024x512_S1024x512_S1024x1024_d1 i e) ?_
  unfold both
  split_ifs with he
  · pointwise []
    rfl
  · pointwise []
    rfl

variable (m : (ℓ : Loc nD τ sig) → Buf (Elt Ideal) ℓ) (c : Dev nD)

abbrev argA : FVec Ideal S8192x512 .f32 := m ((c.tc : Thread nD τ).loc main_arg0)
abbrev argB : FVec Ideal S8192x512 .f32 := m ((c.tc : Thread nD τ).loc main_arg1)
abbrev argGa : FVec Ideal S512 .f32 := m ((c.tc : Thread nD τ).loc main_arg2)
abbrev argGb : FVec Ideal S512 .f32 := m ((c.tc : Thread nD τ).loc main_arg3)

theorem entry_ga : V m c main_v0 = shapeCast (s := S512) S1x512 (argGa m c) shapeCasts_S512_S1x512 := by entry_read; rfl
theorem entry_gb : V m c main_v1 = shapeCast (s := S512) S1x512 (argGb m c) shapeCasts_S512_S1x512 := by entry_read; rfl

theorem idx : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = 0 ∧ win0_3.index t 1 = 0 ∧ win0_4.index t 0 = t.val ∧ win0_4.index t 1 = 0 :=
  (by decide +kernel : ∀ t : Fin grid0.N, _)

section Point

variable (t : Fin cfg0.N) (i : Fin 1024) (e : Fin 512)

/-- Row `i` of the block at a point. -/
def brow : Fin 8192 := ⟨t.val * 1024 + i.val, by have := lt_of_lt_of_eq t.isLt N_0; omega⟩

theorem blk_a : (iblk m c 0 t : FVec Ideal S1024x512 .f32) (ix2 i e) = argA m c (ix2 (brow t i) e) := by
  have h := idx t
  show V m c main_arg0 _ = _
  rw [V_main_arg0]
  refine congrArg (argA m c) ?_
  blk_ext [h, brow]

theorem blk_b : (iblk m c 1 t : FVec Ideal S1024x512 .f32) (ix2 i e) = argB m c (ix2 (brow t i) e) := by
  have h := idx t
  show V m c main_arg1 _ = _
  rw [V_main_arg1]
  refine congrArg (argB m c) ?_
  blk_ext [h, brow]

theorem blk_ga : (iblk m c 2 t : FVec Ideal S1x512 .f32) (ix2 0 e) = argGa m c (ix1 e) := by
  have h := idx t
  have e1 : (iblk m c 2 t : FVec Ideal S1x512 .f32) (ix2 0 e) = (V m c main_v0 : FVec Ideal S1x512 .f32) (ix2 0 e) := by
    refine congrArg (V m c main_v0) ?_
    blk_ext [h]
  refine e1.trans ?_
  rw [entry_ga]
  pointwise []

theorem blk_gb : (iblk m c 3 t : FVec Ideal S1x512 .f32) (ix2 0 e) = argGb m c (ix1 e) := by
  have h := idx t
  have e1 : (iblk m c 3 t : FVec Ideal S1x512 .f32) (ix2 0 e) = (V m c main_v1 : FVec Ideal S1x512 .f32) (ix2 0 e) := by
    refine congrArg (V m c main_v1) ?_
    blk_ext [h]
  refine e1.trans ?_
  rw [entry_gb]
  pointwise []

end Point

/-- The kernel's result. -/
def result : FVec Ideal S8192x1024 .bf16 := fun i => both (fun e => argA m c (ix2 (i 0) e)) (fun e => argB m c (ix2 (i 0) e))
  (fun e => argGa m c (ix1 e)) (fun e => argGb m c (ix1 e)) (i 1)

theorem final4 : (dats m 0 c).arrAt 4 cfg0.N = result m c := by
  refine (dats m 0 c).arrAt_eq_of_covers 4 _ (by decide +kernel) fun t _ y => ?_
  have hi := idx t
  blk_simp
  rw [after0_4]
  obtain ⟨i, e, rfl⟩ : ∃ (i e : Fin 1024), y = ix2 i e := ⟨y 0, y 1, eq_ix2 y⟩
  have he : (win0_4.blk t).view.emb (ix2 i e : S1024x1024.Idx) = (ix2 (brow t i) e : S8192x1024.Idx) := by blk_ext [hi, brow]
  refine Eq.trans ?_ (congrArg (result m c) he).symm
  have ho : out0_4 (iblk m c 0 t) (iblk m c 1 t) (iblk m c 2 t) (iblk m c 3 t)
      = k0_pay1 (F := Ideal) (iblk m c 0 t) (iblk m c 1 t) (iblk m c 2 t) (iblk m c 3 t) := by
    frame_out
  rw [ho]
  refine (block_at _ _ _ _ i e).trans ?_
  simp only [blk_a, blk_b, blk_ga, blk_gb]
  rfl

end Cert.Kernel16Ideal.Hand

namespace Cert.Reference16Ideal.Hand

open Cert.Reference16Ideal Cert.Reference16Ideal.Gen Cert.Reference16Ideal.Read Cert.Norm Cert.Forward
open Cert.Kernel16Ideal.Hand (width both)
open Idealize.ShloMosaic Idealize.ShloMosaic.TcCoe

variable (x0 x1 : FVec Ideal S8192x512 .f32) (x2 x3 : FVec Ideal S512 .f32) (r : Fin 8192)

theorem v12 (e : Fin 512) : val_main_v12 (F := Ideal) x0 x2 (ix2 r e) = normed width (fun e => x0 (ix2 r e)) (fun e => x2 (ix1 e)) e := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem v25 (e : Fin 512) : val_main_v25 (F := Ideal) x1 x3 (ix2 r e) = normed width (fun e => x1 (ix2 r e)) (fun e => x3 (ix1 e)) e := by
  pointwise [val_main_v25, val_main_v24, val_main_v23, val_main_v22, val_main_v21, val_main_v20, val_main_v19, val_main_v18, val_main_v17,
    val_main_v16, val_main_v15, val_main_v14, val_main_v13, val_main_cst_2, val_main_cst_3, val_main_cst_4]
  rfl

theorem v27 (e : Fin 1024) : val_main_v27 (F := Ideal) x0 x1 x2 x3 (ix2 r e)
    = both (fun e => x0 (ix2 r e)) (fun e => x1 (ix2 r e)) (fun e => x2 (ix1 e)) (fun e => x3 (ix1 e)) e := by
  refine Eq.trans (side_by_side (n := 512) _ _ concatenates_S8192x512_S8192x512_S8192x1024_d1 r e) ?_
  unfold both
  split_ifs with he
  · exact v12 x0 x2 r _
  · exact v25 x1 x3 r _

end Cert.Reference16Ideal.Hand

namespace Cert.Kernel17Ideal.Hand

open Cert.Kernel17Ideal Cert.Kernel17Ideal.Gen
open Idealize.ShloMosaic Idealize.ShloMosaic.TcCoe Idealize.SL.Sem
open Idealize.ShloMosaic.Pipeline (Dat)

theorem pay1_at (a : FVec Ideal S1024x512 .f32) (b : FVec Ideal S512x512 .bf16) (i : Fin 1024) (e : Fin 512) :
    k0_pay1 (F := Ideal) a b (ix2 i e) = ∑ z, a (ix2 i z) * b (ix2 z e) := by
  pointwise [k0_pay1]

theorem pay2_at (a y : FVec Ideal S1024x512 .f32) (b : FVec Ideal S512x512 .bf16) (i : Fin 1024) (e : Fin 512) :
    k0_pay2 (F := Ideal) a b y (ix2 i e) = y (ix2 i e) * Ideal.logistic (∑ z, a (ix2 i z) * b (ix2 z e)) := by
  pointwise [k0_pay2]
  rw [pay1_at]

variable (m : (ℓ : Loc nD τ sig) → Buf (Elt Ideal) ℓ) (c : Dev nD)

abbrev argY : FVec Ideal S8192x512 .f32 := m ((c.tc : Thread nD τ).loc main_arg0)
abbrev argW : FVec Ideal S512x512 .f32 := m ((c.tc : Thread nD τ).loc main_arg1)

theorem entry_w : V m c main_v0 = truncf (F := Ideal) (s := S512x512) (φ := .f32) .bf16 (argW m c) bitsLt_bf16_f32 := by entry_read; rfl

theorem idx : ∀ t : Fin cfg0.N, win0_0.index t 0 = t.val ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 :=
  (by decide +kernel : ∀ t : Fin grid0.N, _)

section Point

variable (t : Fin cfg0.N) (i : Fin 1024) (e z : Fin 512)

/-- Row `i` of the block at a point. -/
def brow : Fin 8192 := ⟨t.val * 1024 + i.val, by have := lt_of_lt_of_eq t.isLt N_0; omega⟩

theorem blk_a : (iblk m c 0 t : FVec Ideal S1024x512 .f32) (ix2 i e) = argY m c (ix2 (brow t i) e) := by
  have h := idx t
  show V m c main_arg0 _ = _
  rw [V_main_arg0]
  refine congrArg (argY m c) ?_
  blk_ext [h, brow]

theorem blk_y : (iblk m c 2 t : FVec Ideal S1024x512 .f32) (ix2 i e) = argY m c (ix2 (brow t i) e) := by
  have h := idx t
  show V m c main_arg0 _ = _
  rw [V_main_arg0]
  refine congrArg (argY m c) ?_
  blk_ext [h, brow]

theorem blk_w : (iblk m c 1 t : FVec Ideal S512x512 .bf16) (ix2 z e) = argW m c (ix2 z e) := by
  have h := idx t
  have e1 : (iblk m c 1 t : FVec Ideal S512x512 .bf16) (ix2 z e) = (V m c main_v0 : FVec Ideal S512x512 .bf16) (ix2 z e) := by
    refine congrArg (V m c main_v0) ?_
    blk_ext [h]
  refine e1.trans ?_
  rw [entry_w]
  rfl

end Point

/-- The product, and the gated rows. -/
def scores : FVec Ideal S8192x512 .f32 := fun i => ∑ z, argY m c (ix2 (i 0) z) * argW m c (ix2 z (i 1))
def gated : FVec Ideal S8192x512 .f32 := fun i => argY m c (ix2 (i 0) (i 1)) * Ideal.logistic (∑ z, argY m c (ix2 (i 0) z) * argW m c (ix2 z (i 1)))

theorem final3 : (dats m 0 c).arrAt 3 cfg0.N = scores m c := by
  refine (dats m 0 c).arrAt_eq_of_covers 3 _ (by decide +kernel) fun t _ y => ?_
  have hi := idx t
  blk_simp
  rw [after0_3]
  obtain ⟨i, e, rfl⟩ : ∃ (i : Fin 1024) (e : Fin 512), y = ix2 i e := ⟨y 0, y 1, eq_ix2 y⟩
  have he : (win0_3.blk t).view.emb (ix2 i e : S1024x512.Idx) = (ix2 (brow t i) e : S8192x512.Idx) := by blk_ext [hi, brow]
  refine Eq.trans ?_ (congrArg (scores m c) he).symm
  have ho : out0_3 (iblk m c 0 t) (iblk m c 1 t) (iblk m c 2 t) = k0_pay1 (F := Ideal) (iblk m c 0 t) (iblk m c 1 t) := by
    frame_out
  rw [ho]
  refine (pay1_at _ _ i e).trans ?_
  simp only [blk_a, blk_w]
  rfl

theorem final4 : (dats m 0 c).arrAt 4 cfg0.N = gated m c := by
  refine (dats m 0 c).arrAt_eq_of_covers 4 _ (by decide +kernel) fun t _ y => ?_
  have hi := idx t
  blk_simp
  rw [after0_4]
  obtain ⟨i, e, rfl⟩ : ∃ (i : Fin 1024) (e : Fin 512), y = ix2 i e := ⟨y 0, y 1, eq_ix2 y⟩
  have he : (win0_4.blk t).view.emb (ix2 i e : S1024x512.Idx) = (ix2 (brow t i) e : S8192x512.Idx) := by blk_ext [hi, brow]
  refine Eq.trans ?_ (congrArg (gated m c) he).symm
  have ho : out0_4 (iblk m c 0 t) (iblk m c 1 t) (iblk m c 2 t) = k0_pay2 (F := Ideal) (iblk m c 0 t) (iblk m c 1 t) (iblk m c 2 t) := by
    frame_out
  rw [ho]
  refine (pay2_at _ _ _ i e).trans ?_
  simp only [blk_a, blk_w, blk_y]
  rfl

end Cert.Kernel17Ideal.Hand

namespace Cert.Reference17Ideal.Hand

open Cert.Reference17Ideal Cert.Reference17Ideal.Gen Cert.Reference17Ideal.Read
open Idealize.ShloMosaic Idealize.ShloMosaic.TcCoe

variable (x0 : FVec Ideal S8192x512 .f32) (x1 : FVec Ideal S512x512 .f32) (r : Fin 8192) (e : Fin 512)

theorem v0 : val_main_v0 (F := Ideal) x0 x1 (ix2 r e) = ∑ z, x0 (ix2 r z) * x1 (ix2 z e) := by
  pointwise [val_main_v0]

theorem v7 : val_main_v7 (F := Ideal) x0 x1 (ix2 r e) = x0 (ix2 r e) * Ideal.logistic (∑ z, x0 (ix2 r z) * x1 (ix2 z e)) := by
  pointwise [val_main_v7, val_main_v6, val_main_v5, val_main_v4, val_main_v3, val_main_v2, val_main_v1, val_main_cst, val_main_cst_0]
  rw [v0]
  rfl

end Cert.Reference17Ideal.Hand

namespace Cert.Proof

open Idealize.ShloMosaic Idealize.ShloMosaic.TcCoe Idealize.SL.Sem

theorem normf_frame_reference : Cert.quiescent_Reference15Ideal := fun m ρ _ =>
  (θ_run Cert.Reference15Ideal.defs _ _).mono
    (fun r h => ⟨fun c => (h c).2, sem_eq_zero_of_no_sems (by decide) r.2⟩) (Cert.Reference15Ideal.Value.run m ρ)

theorem outf_frame_reference : Cert.quiescent_Reference16Ideal := fun m ρ _ =>
  (θ_run Cert.Reference16Ideal.defs _ _).mono
    (fun r h => ⟨fun c => (h c).2, sem_eq_zero_of_no_sems (by decide) r.2⟩) (Cert.Reference16Ideal.Value.run m ρ)

theorem gluf_frame_reference : Cert.quiescent_Reference17Ideal := fun m ρ _ =>
  (θ_run Cert.Reference17Ideal.defs _ _).mono
    (fun r h => ⟨fun c => (h c).2.2, sem_eq_zero_of_no_sems (by decide) r.2⟩) (Cert.Reference17Ideal.Value.run m ρ)

/-- The first norm. -/
theorem normf_algebraic : Cert.algebraic_Kernel15Ideal_Reference15Ideal := by
  intro m g m' g' _ hagree
  refine ⟨fun c => Cert.Kernel15Ideal.Hand.result m c, (θ_run _ _ _).mono (fun r h c => ⟨((h.2 c).1 2).trans (Cert.Kernel15Ideal.Hand.final2 m c), h.1 c⟩)
    (θ_run_and (Cert.Kernel15Ideal.Gen.unchanged m g) (Cert.Kernel15Ideal.Gen.run_main m g)),
    (θ_run _ _ _).mono (fun r h c => ?_) (Cert.Reference15Ideal.Value.run m' g')⟩
  obtain ⟨h0, h1⟩ := h c
  obtain ⟨a0, a1⟩ := hagree c
  refine ⟨h0.trans ?_, h1⟩
  rw [Cert.Reference15Ideal.Read.val_main_v13_eq, a0, a1]
  funext i
  obtain ⟨r, e, rfl⟩ : ∃ (r : Fin 8192) (e : Fin 1024), i = ix2 r e := ⟨i 0, i 1, eq_ix2 i⟩
  exact Cert.Reference15Ideal.Hand.v13 _ _ r e

/-- The two norms before the output product. -/
theorem outf_algebraic : Cert.algebraic_Kernel16Ideal_Reference16Ideal := by
  intro m g m' g' _ hagree
  refine ⟨fun c => Cert.Kernel16Ideal.Hand.result m c, (θ_run _ _ _).mono (fun r h c => ⟨((h.2 c).1 4).trans (Cert.Kernel16Ideal.Hand.final4 m c), h.1 c⟩)
    (θ_run_and (Cert.Kernel16Ideal.Gen.unchanged m g) (Cert.Kernel16Ideal.Gen.run_main m g)),
    (θ_run _ _ _).mono (fun r h c => ?_) (Cert.Reference16Ideal.Value.run m' g')⟩
  obtain ⟨h0, h1⟩ := h c
  obtain ⟨a0, a1, a2, a3⟩ := hagree c
  refine ⟨h0.trans ?_, h1⟩
  rw [Cert.Reference16Ideal.Read.val_main_v27_eq, a0, a1, a2, a3]
  funext i
  obtain ⟨r, e, rfl⟩ : ∃ (r : Fin 8192) (e : Fin 1024), i = ix2 r e := ⟨i 0, i 1, eq_ix2 i⟩
  exact Cert.Reference16Ideal.Hand.v27 _ _ _ _ r e

/-- The gate behind its product. -/
theorem gluf_algebraic : Cert.algebraic_Kernel17Ideal_Reference17Ideal := by
  intro m g m' g' _ hagree
  refine ⟨fun c => Cert.Kernel17Ideal.Hand.scores m c, fun c => Cert.Kernel17Ideal.Hand.gated m c,
    (θ_run _ _ _).mono (fun r h c => ⟨((h.2 c).1 3).trans (Cert.Kernel17Ideal.Hand.final3 m c), ((h.2 c).1 4).trans (Cert.Kernel17Ideal.Hand.final4 m c), h.1 c⟩)
    (θ_run_and (Cert.Kernel17Ideal.Gen.unchanged m g) (Cert.Kernel17Ideal.Gen.run_main m g)),
    (θ_run _ _ _).mono (fun r h c => ?_) (Cert.Reference17Ideal.Value.run m' g')⟩
  obtain ⟨h0, h1, h2⟩ := h c
  obtain ⟨a0, a1⟩ := hagree c
  refine ⟨h0.trans ?_, h1.trans ?_, h2⟩
  · rw [Cert.Reference17Ideal.Read.val_main_v0_eq, a0, a1]
    funext i
    obtain ⟨r, e, rfl⟩ : ∃ (r : Fin 8192) (e : Fin 512), i = ix2 r e := ⟨i 0, i 1, eq_ix2 i⟩
    exact Cert.Reference17Ideal.Hand.v0 _ _ r e
  · rw [Cert.Reference17Ideal.Read.val_main_v7_eq, a0, a1]
    funext i
    obtain ⟨r, e, rfl⟩ : ∃ (r : Fin 8192) (e : Fin 512), i = ix2 r e := ⟨i 0, i 1, eq_ix2 i⟩
    exact Cert.Reference17Ideal.Hand.v7 _ _ r e

end Cert.Proof

end
-- ==== Proof.XaFwd.lean ====
/-
  The cross-attention.
-/
module

public import proofs.«01_k».proof.Defs
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Reference18Ideal.Read
public import proofs.«01_k».proof.Proof.XaOut
public import proofs.«01_k».proof.Proof.XaRef
public import Idealize.ShloMosaic.Lib.Pointwise
public import Idealize.ShloMosaic.Lib.Pipeline.ValueKit

@[expose] public section

set_option maxRecDepth 16384

noncomputable section

namespace Cert.Xa

/-- One head's values read back by the probabilities. -/
def rValue (x : Fin 512 → EReal) (g : Fin 128 → EReal) (k v : Fin 256 → Fin 512 → EReal) (h : Fin 4) : Fin 128 → EReal :=
  back (fun j e => v j (col h e)) (prob (rScore x g k h))

end Cert.Xa

namespace Cert.Kernel18Ideal.Hand

open Cert.Kernel18Ideal Cert.Kernel18Ideal.Gen
open Cert.Xa (col col_surj)
open Cert.Kernel3Ideal.Hand (bProb bProb_at hBack hBack_at keysOf keysOf_at rowsCat rowsCat_at pay4_eq rowAt gainAt keyAt)
open Idealize.ShloMosaic Idealize.ShloMosaic.TcCoe Idealize.SL.Sem
open Idealize.ShloMosaic.Pipeline (Dat)

section Block

variable {F : FTy → Type} [FloatOps F] (x : FVec F S512x512 .f32) (g : FVec F S1x128 .f32) (k v : FVec F S256x512 .bf16)

/-- One head's rows of the block. -/
def bRead (h : Fin 4) : FVec F S512x128 .f32 := hBack (bProb x g k h) (keysOf (Cert.Kernel3Ideal.Gen.k0_pay4 v) h)

theorem head_0 : k0_pay5 (F := F) x g k v = bRead x g k v 0 := rfl
theorem head_1 : k0_pay9 (F := F) (k0_pay2 g) (k0_pay4 v) (k0_pay6 x) (k0_pay7 k) (k0_pay8 x) = bRead x g k v 1 := rfl

theorem whole (p q : FVec F S512x128 .f32) :
    k0_pay1 (F := F) x (k0_pay2 g) (k0_pay3 k) (k0_pay4 v) p q (k0_pay10 x (k0_pay2 g) (k0_pay3 k))
      = truncf .bf16 (concatenate S512x512 1 [⟨S512x128, p⟩, ⟨S512x128, q⟩, ⟨S512x128, bRead x g k v 2⟩, ⟨S512x128, bRead x g k v 3⟩]
          concatenates_S512x128_S512x128_S512x128_S512x128_S512x512_d1) bitsLt_bf16_f32 := rfl

theorem block : k0_pay1 (F := F) x (k0_pay2 g) (k0_pay3 k) (k0_pay4 v) (k0_pay5 x g k v)
      (k0_pay9 (k0_pay2 g) (k0_pay4 v) (k0_pay6 x) (k0_pay7 k) (k0_pay8 x)) (k0_pay10 x (k0_pay2 g) (k0_pay3 k))
    = truncf .bf16 (rowsCat (bRead x g k v)) bitsLt_bf16_f32 := by
  rw [head_0, head_1, whole]
  rfl

end Block

theorem block_at (x : FVec Ideal S512x512 .f32) (g : FVec Ideal S1x128 .f32) (k v : FVec Ideal S256x512 .bf16) (i : Fin 512) (h : Fin 4) (e : Fin 128) :
    (truncf (F := Ideal) .bf16 (rowsCat (bRead x g k v)) bitsLt_bf16_f32 : FVec Ideal S512x512 .bf16) (ix2 i (col h e))
      = Xa.rValue (rowAt x i) (gainAt g) (keyAt k) (keyAt v) h e := by
  refine Eq.trans (rowsCat_at (bRead x g k v) h i e) ?_
  unfold bRead
  rw [hBack_at]
  simp only [bProb_at, pay4_eq, keysOf_at]
  rfl

variable (m : (ℓ : Loc nD τ sig) → Buf (Elt Ideal) ℓ) (c : Dev nD)

abbrev argX (r : Fin 8192) (y : Fin 512) : EReal := (show FVec Ideal S8192x512 .f32 from m ((c.tc : Thread nD τ).loc main_arg0)) (ix2 r y)
abbrev argG (e : Fin 128) : EReal := (show FVec Ideal S128 .f32 from m ((c.tc : Thread nD τ).loc main_arg1)) (ix1 e)
abbrev argK (j : Fin 256) (y : Fin 512) : EReal := (show FVec Ideal S256x512 .f32 from m ((c.tc : Thread nD τ).loc main_arg2)) (ix2 j y)
abbrev argV (j : Fin 256) (y : Fin 512) : EReal := (show FVec Ideal S256x512 .f32 from m ((c.tc : Thread nD τ).loc main_arg3)) (ix2 j y)

theorem entry_g : V m c main_v0 = shapeCast (s := S128) S1x128 (m ((c.tc : Thread nD τ).loc main_arg1)) shapeCasts_S128_S1x128 := by entry_read; rfl
theorem entry_k : V m c main_v1 = truncf (F := Ideal) (s := S256x512) (φ := .f32) .bf16 (m ((c.tc : Thread nD τ).loc main_arg2)) bitsLt_bf16_f32 := by entry_read; rfl
theorem entry_v : V m c main_v2 = truncf (F := Ideal) (s := S256x512) (φ := .f32) .bf16 (m ((c.tc : Thread nD τ).loc main_arg3)) bitsLt_bf16_f32 := by entry_read; rfl

theorem idx : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 ∧ win0_4.index t 0 = t.val ∧ win0_4.index t 1 = 0 :=
  (by decide +kernel : ∀ t : Fin grid0.N, _)

section Point

variable (t : Fin cfg0.N)

/-- Row `i` of the block at a point. -/
def brow (i : Fin 512) : Fin 8192 := ⟨t.val * 512 + i.val, by have := lt_of_lt_of_eq t.isLt N_0; omega⟩

theorem blk_x (i : Fin 512) : rowAt (iblk m c 0 t) i = argX m c (brow t i) := by
  funext y
  have h := idx t
  show V m c main_arg0 _ = _
  rw [V_main_arg0]
  refine congrArg (m ((c.tc : Thread nD τ).loc main_arg0)) ?_
  blk_ext [h, brow]

theorem blk_g : gainAt (iblk m c 1 t) = argG m c := by
  funext e
  have h := idx t
  have e1 : (iblk m c 1 t : FVec Ideal S1x128 .f32) (ix2 0 e) = (V m c main_v0 : FVec Ideal S1x128 .f32) (ix2 0 e) := by
    refine congrArg (V m c main_v0) ?_
    blk_ext [h]
  refine e1.trans ?_
  rw [entry_g]
  pointwise []

theorem blk_k : keyAt (iblk m c 2 t) = argK m c := by
  funext j y
  have h := idx t
  have e1 : (iblk m c 2 t : FVec Ideal S256x512 .bf16) (ix2 j y) = (V m c main_v1 : FVec Ideal S256x512 .bf16) (ix2 j y) := by
    refine congrArg (V m c main_v1) ?_
    blk_ext [h]
  refine e1.trans ?_
  rw [entry_k]
  rfl

theorem blk_v : keyAt (iblk m c 3 t) = argV m c := by
  funext j y
  have h := idx t
  have e1 : (iblk m c 3 t : FVec Ideal S256x512 .bf16) (ix2 j y) = (V m c main_v2 : FVec Ideal S256x512 .bf16) (ix2 j y) := by
    refine congrArg (V m c main_v2) ?_
    blk_ext [h]
  refine e1.trans ?_
  rw [entry_v]
  rfl

end Point

/-- The kernel's result. -/
def result : FVec Ideal S8192x512 .bf16 := fun i => Xa.byCol (Xa.rValue (argX m c (i 0)) (argG m c) (argK m c) (argV m c)) (i 1)

theorem final4 : (dats m 0 c).arrAt 4 cfg0.N = result m c := by
  refine (dats m 0 c).arrAt_eq_of_covers 4 _ (by decide +kernel) fun t _ y => ?_
  have hi := idx t
  blk_simp
  rw [after0_4]
  obtain ⟨i, z, rfl⟩ : ∃ (i : Fin 512) (z : Fin 512), y = ix2 i z := ⟨y 0, y 1, eq_ix2 y⟩
  have he : (win0_4.blk t).view.emb (ix2 i z : S512x512.Idx) = (ix2 (brow t i) z : S8192x512.Idx) := by blk_ext [hi, brow]
  have ho : out0_4 (iblk m c 0 t) (iblk m c 1 t) (iblk m c 2 t) (iblk m c 3 t)
      = truncf (F := Ideal) .bf16 (rowsCat (bRead (iblk m c 0 t) (iblk m c 1 t) (iblk m c 2 t) (iblk m c 3 t))) bitsLt_bf16_f32 := by
    rw [← block]
    unfold out0_4 k0_pay11 k0_pay12 k0_pay13
    frame_out
  rw [ho]
  obtain ⟨h, e, rfl⟩ := col_surj z
  refine Eq.trans (block_at _ _ _ _ i h e) ?_
  rw [blk_x, blk_g, blk_k, blk_v]
  refine Eq.trans ?_ (congrArg (result m c) he).symm
  exact (Xa.byCol_col _ h e).symm

end Cert.Kernel18Ideal.Hand

namespace Cert.Reference18Ideal.Hand

open Cert.Reference18Ideal Cert.Reference18Ideal.Gen Cert.Reference18Ideal.Read Cert.Xa
open Cert.Reference3Ideal.Hand (row keys gain col_comm low_word fst_col snd_col)
open Idealize.ShloMosaic Idealize.ShloMosaic.TcCoe

variable (x0 : FVec Ideal S8192x512 .f32) (x1 : FVec Ideal S128 .f32) (x2 x3 : FVec Ideal S256x512 .f32)
  (r : Fin 8192) (h : Fin 4) (e : Fin 128) (j : Fin 256)

theorem v0 : val_main_v0 (F := Ideal) x0 (ix4 0 r h e) = row x0 r (col h e) := by
  pointwise [val_main_v0]
  rw [col_comm]

theorem v1 : val_main_v1 (F := Ideal) x2 (ix4 0 j h e) = keys x2 j (col h e) := by
  pointwise [val_main_v1]
  rw [col_comm]

theorem v2 : val_main_v2 (F := Ideal) x3 (ix4 0 j h e) = keys x3 j (col h e) := by
  pointwise [val_main_v2]
  rw [col_comm]

theorem v10 : val_main_v10 (F := Ideal) x0 (ix4 0 r h 0) = inv fun e => row x0 r (col h e) := by
  pointwise [val_main_v10, val_main_v9, val_main_v8, val_main_v7, val_main_v6, val_main_v5, val_main_v4, val_main_v3, val_main_cst, val_main_cst_0, val_main_cst_1]
  simp only [v0]
  rfl

theorem v15 : val_main_v15 (F := Ideal) x0 x1 (ix4 0 r h e) = rNorm (row x0 r) (gain x1) h e := by
  pointwise [val_main_v15, val_main_v14, val_main_v13, val_main_v12, val_main_v11]
  rw [v0, v10]
  rfl

theorem v18 : val_main_v18 (F := Ideal) x0 x1 x2 (ix4 0 h r j) = rScore (row x0 r) (gain x1) (keys x2) h j := by
  pointwise [val_main_v18, val_main_v17, val_main_v16, val_main_cst_2]
  simp only [v15, v1]
  unfold rScore score
  rfl

theorem v19 : val_main_v19 (F := Ideal) x0 x1 x2 (ix3 0 h r) = top (rScore (row x0 r) (gain x1) (keys x2) h) := by
  pointwise [val_main_v19, val_main_cst_3]
  simp only [v18, low_word]
  rfl

theorem v21 : val_main_v21 (F := Ideal) x0 x1 x2 (ix3 0 h r) = top (rScore (row x0 r) (gain x1) (keys x2) h) := by
  rw [val_main_v21_apply, val_main_v20_apply, val_main_cst_4_apply, v19]
  exact (congrArg (max · _) low_word).trans (max_bot_left _)

theorem v25 : val_main_v25 (F := Ideal) x0 x1 x2 (ix4 0 h r j) = num (rScore (row x0 r) (gain x1) (keys x2) h) j := by
  pointwise [val_main_v25, val_main_v24, val_main_v23, val_main_v22]
  rw [v18, v21]
  rfl

theorem v27 : val_main_v27 (F := Ideal) x0 x1 x2 (ix4 0 h r 0) = ∑ j, num (rScore (row x0 r) (gain x1) (keys x2) h) j := by
  pointwise [val_main_v27, val_main_v26, val_main_cst_5]
  simp only [v25]

theorem v29 : val_main_v29 (F := Ideal) x0 x1 x2 (ix4 0 h r j) = prob (rScore (row x0 r) (gain x1) (keys x2) h) j := by
  pointwise [val_main_v29, val_main_v28]
  rw [v25, v27]
  rfl

theorem v31 : val_main_v31 (F := Ideal) x0 x1 x2 x3 (ix4 0 r h e) = rValue (row x0 r) (gain x1) (keys x2) (keys x3) h e := by
  pointwise [val_main_v31, val_main_v30]
  simp only [v29, v2]
  unfold rValue back
  exact Finset.sum_congr rfl fun _ _ => mul_comm _ _

theorem v33 : val_main_v33 (F := Ideal) x0 x1 x2 x3 (ix2 r (col h e)) = rValue (row x0 r) (gain x1) (keys x2) (keys x3) h e := by
  pointwise [val_main_v33, val_main_v32]
  simp only [fst_col, snd_col]
  exact v31 x0 x1 x2 x3 r h e

end Cert.Reference18Ideal.Hand

namespace Cert.Proof

open Cert
open Idealize.ShloMosaic Idealize.ShloMosaic.TcCoe Idealize.SL.Sem

theorem xaf_frame_reference : Cert.quiescent_Reference18Ideal := fun m ρ _ =>
  (θ_run Cert.Reference18Ideal.defs _ _).mono
    (fun r h => ⟨fun c => (h c).2, sem_eq_zero_of_no_sems (by decide) r.2⟩) (Cert.Reference18Ideal.Value.run m ρ)

theorem xaf_algebraic : Cert.algebraic_Kernel18Ideal_Reference18Ideal := by
  intro m g m' g' _ hagree
  refine ⟨fun c => Cert.Kernel18Ideal.Hand.result m c, (θ_run _ _ _).mono (fun r h c => ⟨((h.2 c).1 4).trans (Cert.Kernel18Ideal.Hand.final4 m c), h.1 c⟩)
    (θ_run_and (Cert.Kernel18Ideal.Gen.unchanged m g) (Cert.Kernel18Ideal.Gen.run_main m g)),
    (θ_run _ _ _).mono (fun r h c => ?_) (Cert.Reference18Ideal.Value.run m' g')⟩
  obtain ⟨h0, h1⟩ := h c
  obtain ⟨a0, a1, a2, a3⟩ := hagree c
  refine ⟨h0.trans ?_, h1⟩
  rw [Cert.Reference18Ideal.Read.val_main_v33_eq, a0, a1, a2, a3]
  funext i
  obtain ⟨r, z, rfl⟩ : ∃ (r : Fin 8192) (z : Fin 512), i = ix2 r z := ⟨i 0, i 1, eq_ix2 i⟩
  obtain ⟨h, e, rfl⟩ := Xa.col_surj z
  refine (Cert.Reference18Ideal.Hand.v33 _ _ _ _ r h e).trans ?_
  exact (Xa.byCol_col _ h e).symm

end Cert.Proof

end
-- ==== Proof.Resid.lean ====
/-
  The products that add the residual and norm the sum: the output's, and the cross-attention's.
-/
module

public import proofs.«01_k».proof.Defs
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Reference20Ideal.Read
public import proofs.«01_k».proof.Proof.Fwd
public import Idealize.ShloMosaic.Lib.Pointwise
public import Idealize.ShloMosaic.Lib.Pipeline.ValueKit

@[expose] public section

set_option maxRecDepth 16384

noncomputable section

namespace Cert.Kernel19Ideal.Hand

open Cert.Kernel19Ideal Cert.Kernel19Ideal.Gen Cert.Norm Cert.Forward
open Cert.Kernel15Ideal.Hand (width)
open Idealize.ShloMosaic Idealize.ShloMosaic.TcCoe Idealize.SL.Sem
open Idealize.ShloMosaic.Pipeline (Dat)

theorem block_sum (y : FVec Ideal S1024x1024 .bf16) (w : FVec Ideal S1024x1024 .bf16) (x : FVec Ideal S1024x1024 .f32) (i e : Fin 1024) :
    k0_pay1 (F := Ideal) y w x (ix2 i e) = x (ix2 i e) + ∑ z : Fin 1024, y (ix2 i z) * w (ix2 z e) := by
  pointwise [k0_pay1]
  exact add_comm _ _

theorem block_norm (y : FVec Ideal S1024x1024 .bf16) (w : FVec Ideal S1024x1024 .bf16) (x : FVec Ideal S1024x1024 .f32) (g : FVec Ideal S1x1024 .f32)
    (i e : Fin 1024) : k0_pay2 (F := Ideal) y w x g (ix2 i e)
      = normed width (fun e => k0_pay1 (F := Ideal) y w x (ix2 i e)) (fun e => g (ix2 0 e)) e := by
  have hp : k0_pay2 (F := Ideal) y w x g = Cert.Kernel15Ideal.Gen.k0_pay1 (F := Ideal) (k0_pay1 (F := Ideal) y w x) g := rfl
  rw [hp]
  exact Cert.Kernel15Ideal.Hand.block_at _ _ i e

variable (m : (ℓ : Loc nD τ sig) → Buf (Elt Ideal) ℓ) (c : Dev nD)

abbrev argX : FVec Ideal S8192x1024 .f32 := m ((c.tc : Thread nD τ).loc main_arg0)
abbrev argY : FVec Ideal S8192x1024 .f32 := m ((c.tc : Thread nD τ).loc main_arg1)
abbrev argW : FVec Ideal S1024x1024 .f32 := m ((c.tc : Thread nD τ).loc main_arg2)
abbrev argG : FVec Ideal S1024 .f32 := m ((c.tc : Thread nD τ).loc main_arg3)

theorem entry_y : V m c main_v0 = truncf (F := Ideal) (s := S8192x1024) (φ := .f32) .bf16 (argY m c) bitsLt_bf16_f32 := by entry_read; rfl
theorem entry_w : V m c main_v1 = truncf (F := Ideal) (s := S1024x1024) (φ := .f32) .bf16 (argW m c) bitsLt_bf16_f32 := by entry_read; rfl
theorem entry_g : V m c main_v2 = shapeCast (s := S1024) S1x1024 (argG m c) shapeCasts_S1024_S1x1024 := by entry_read; rfl

theorem idx : ∀ t : Fin cfg0.N, win0_0.index t 0 = t.val ∧ win0_0.index t 1 = 0 ∧ win0_1.index t 0 = 0 ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0 :=
  (by decide +kernel : ∀ t : Fin grid0.N, _)

section Point

variable (t : Fin cfg0.N) (i e : Fin 1024) (z : Fin 1024)

/-- Row `i` of the block at a point. -/
def brow : Fin 8192 := ⟨t.val * 1024 + i.val, by have := lt_of_lt_of_eq t.isLt N_0; omega⟩

theorem blk_y : (iblk m c 0 t : FVec Ideal S1024x1024 .bf16) (ix2 i z) = argY m c (ix2 (brow t i) z) := by
  have h := idx t
  have e1 : (iblk m c 0 t : FVec Ideal S1024x1024 .bf16) (ix2 i z) = (V m c main_v0 : FVec Ideal S8192x1024 .bf16) (ix2 (brow t i) z) := by
    refine congrArg (V m c main_v0) ?_
    blk_ext [h, brow]
  refine e1.trans ?_
  rw [entry_y]
  rfl

theorem blk_w : (iblk m c 1 t : FVec Ideal S1024x1024 .bf16) (ix2 z e) = argW m c (ix2 z e) := by
  have h := idx t
  have e1 : (iblk m c 1 t : FVec Ideal S1024x1024 .bf16) (ix2 z e) = (V m c main_v1 : FVec Ideal S1024x1024 .bf16) (ix2 z e) := by
    refine congrArg (V m c main_v1) ?_
    blk_ext [h]
  refine e1.trans ?_
  rw [entry_w]
  rfl

theorem blk_x : (iblk m c 2 t : FVec Ideal S1024x1024 .f32) (ix2 i e) = argX m c (ix2 (brow t i) e) := by
  have h := idx t
  show V m c main_arg0 _ = _
  rw [V_main_arg0]
  refine congrArg (argX m c) ?_
  blk_ext [h, brow]

theorem blk_g : (iblk m c 3 t : FVec Ideal S1x1024 .f32) (ix2 0 e) = argG m c (ix1 e) := by
  have h := idx t
  have e1 : (iblk m c 3 t : FVec Ideal S1x1024 .f32) (ix2 0 e) = (V m c main_v2 : FVec Ideal S1x1024 .f32) (ix2 0 e) := by
    refine congrArg (V m c main_v2) ?_
    blk_ext [h]
  refine e1.trans ?_
  rw [entry_g]
  pointwise []

end Point

/-- A row with the product added. -/
def summed (x : FVec Ideal S8192x1024 .f32) (y : FVec Ideal S8192x1024 .f32) (w : FVec Ideal S1024x1024 .f32) (r : Fin 8192) (e : Fin 1024) : EReal :=
  x (ix2 r e) + ∑ z : Fin 1024, y (ix2 r z) * w (ix2 z e)

/-- The sum, and its norm. -/
def total : FVec Ideal S8192x1024 .f32 := fun i => summed (argX m c) (argY m c) (argW m c) (i 0) (i 1)
def result : FVec Ideal S8192x1024 .bf16 := fun i =>
  normed width (summed (argX m c) (argY m c) (argW m c) (i 0)) (fun e => argG m c (ix1 e)) (i 1)

theorem sum_at (t : Fin cfg0.N) (i e : Fin 1024) :
    k0_pay1 (F := Ideal) (iblk m c 0 t) (iblk m c 1 t) (iblk m c 2 t) (ix2 i e) = summed (argX m c) (argY m c) (argW m c) (brow t i) e := by
  refine (block_sum _ _ _ i e).trans ?_
  simp only [blk_x, blk_y, blk_w]
  rfl

theorem final4 : (dats m 0 c).arrAt 4 cfg0.N = total m c := by
  refine (dats m 0 c).arrAt_eq_of_covers 4 _ (by decide +kernel) fun t _ y => ?_
  have hi := idx t
  blk_simp
  rw [after0_4]
  obtain ⟨i, e, rfl⟩ : ∃ (i e : Fin 1024), y = ix2 i e := ⟨y 0, y 1, eq_ix2 y⟩
  have he : (win0_4.blk t).view.emb (ix2 i e : S1024x1024.Idx) = (ix2 (brow t i) e : S8192x1024.Idx) := by blk_ext [hi, brow]
  refine Eq.trans ?_ (congrArg (total m c) he).symm
  have ho : out0_4 (iblk m c 0 t) (iblk m c 1 t) (iblk m c 2 t) (iblk m c 3 t)
      = k0_pay1 (F := Ideal) (iblk m c 0 t) (iblk m c 1 t) (iblk m c 2 t) := by
    frame_out
  rw [ho]
  exact sum_at m c t i e

theorem final5 : (dats m 0 c).arrAt 5 cfg0.N = result m c := by
  refine (dats m 0 c).arrAt_eq_of_covers 5 _ (by decide +kernel) fun t _ y => ?_
  have hi := idx t
  blk_simp
  rw [after0_5]
  obtain ⟨i, e, rfl⟩ : ∃ (i e : Fin 1024), y = ix2 i e := ⟨y 0, y 1, eq_ix2 y⟩
  have he : (win0_5.blk t).view.emb (ix2 i e : S1024x1024.Idx) = (ix2 (brow t i) e : S8192x1024.Idx) := by blk_ext [hi, brow]
  refine Eq.trans ?_ (congrArg (result m c) he).symm
  have ho : out0_5 (iblk m c 0 t) (iblk m c 1 t) (iblk m c 2 t) (iblk m c 3 t)
      = k0_pay2 (F := Ideal) (iblk m c 0 t) (iblk m c 1 t) (iblk m c 2 t) (iblk m c 3 t) := by
    frame_out
  rw [ho]
  refine (block_norm _ _ _ _ i e).trans ?_
  simp only [sum_at, blk_g]
  rfl

end Cert.Kernel19Ideal.Hand

namespace Cert.Reference19Ideal.Hand

open Cert.Reference19Ideal Cert.Reference19Ideal.Gen Cert.Reference19Ideal.Read Cert.Norm Cert.Forward
open Cert.Kernel15Ideal.Hand (width)
open Cert.Kernel19Ideal.Hand (summed)
open Idealize.ShloMosaic Idealize.ShloMosaic.TcCoe

variable (x0 : FVec Ideal S8192x1024 .f32) (x1 : FVec Ideal S8192x1024 .f32) (x2 : FVec Ideal S1024x1024 .f32) (x3 : FVec Ideal S1024 .f32)
  (r : Fin 8192) (e : Fin 1024)

theorem v1 : val_main_v1 (F := Ideal) x0 x1 x2 (ix2 r e) = summed x0 x1 x2 r e := by
  pointwise [val_main_v1, val_main_v0]
  rfl

theorem v9 : val_main_v9 (F := Ideal) x0 x1 x2 (ix2 r 0) = inv width (summed x0 x1 x2 r) := by
  pointwise [val_main_v9, val_main_v8, val_main_v7, val_main_v6, val_main_v5, val_main_v4, val_main_v3, val_main_v2, val_main_cst, val_main_cst_0, val_main_cst_1]
  simp only [v1]
  rfl

theorem v15 : val_main_v15 (F := Ideal) x0 x1 x2 x3 (ix2 r e) = normed width (summed x0 x1 x2 r) (fun e => x3 (ix1 e)) e := by
  pointwise [val_main_v15, val_main_v14, val_main_v13, val_main_v12, val_main_v11, val_main_v10]
  rw [v1, v9]
  rfl

end Cert.Reference19Ideal.Hand

namespace Cert.Proof

open Cert
open Idealize.ShloMosaic Idealize.ShloMosaic.TcCoe Idealize.SL.Sem

theorem mixo_frame_reference : Cert.quiescent_Reference19Ideal := fun m ρ _ =>
  (θ_run Cert.Reference19Ideal.defs _ _).mono
    (fun r h => ⟨fun c => (h c).2.2, sem_eq_zero_of_no_sems (by decide) r.2⟩) (Cert.Reference19Ideal.Value.run m ρ)

theorem mixo_algebraic : Cert.algebraic_Kernel19Ideal_Reference19Ideal := by
  intro m g m' g' _ hagree
  refine ⟨fun c => Cert.Kernel19Ideal.Hand.total m c, fun c => Cert.Kernel19Ideal.Hand.result m c,
    (θ_run _ _ _).mono (fun r h c => ⟨((h.2 c).1 4).trans (Cert.Kernel19Ideal.Hand.final4 m c), ((h.2 c).1 5).trans (Cert.Kernel19Ideal.Hand.final5 m c), h.1 c⟩)
    (θ_run_and (Cert.Kernel19Ideal.Gen.unchanged m g) (Cert.Kernel19Ideal.Gen.run_main m g)),
    (θ_run _ _ _).mono (fun r h c => ?_) (Cert.Reference19Ideal.Value.run m' g')⟩
  obtain ⟨h0, h1, h2⟩ := h c
  obtain ⟨a0, a1, a2, a3⟩ := hagree c
  refine ⟨h0.trans ?_, h1.trans ?_, h2⟩
  · rw [Cert.Reference19Ideal.Read.val_main_v1_eq, a0, a1, a2]
    funext i
    obtain ⟨r, e, rfl⟩ : ∃ (r : Fin 8192) (e : Fin 1024), i = ix2 r e := ⟨i 0, i 1, eq_ix2 i⟩
    exact Cert.Reference19Ideal.Hand.v1 _ _ _ r e
  · rw [Cert.Reference19Ideal.Read.val_main_v15_eq, a0, a1, a2, a3]
    funext i
    obtain ⟨r, e, rfl⟩ : ∃ (r : Fin 8192) (e : Fin 1024), i = ix2 r e := ⟨i 0, i 1, eq_ix2 i⟩
    exact Cert.Reference19Ideal.Hand.v15 _ _ _ _ r e

end Cert.Proof

namespace Cert.Kernel20Ideal.Hand

open Cert.Kernel20Ideal Cert.Kernel20Ideal.Gen Cert.Norm Cert.Forward
open Cert.Kernel15Ideal.Hand (width)
open Idealize.ShloMosaic Idealize.ShloMosaic.TcCoe Idealize.SL.Sem
open Idealize.ShloMosaic.Pipeline (Dat)

theorem block_sum (y : FVec Ideal S1024x512 .bf16) (w : FVec Ideal S512x1024 .bf16) (x : FVec Ideal S1024x1024 .f32) (i e : Fin 1024) :
    k0_pay1 (F := Ideal) y w x (ix2 i e) = x (ix2 i e) + ∑ z : Fin 512, y (ix2 i z) * w (ix2 z e) := by
  pointwise [k0_pay1]
  exact add_comm _ _

theorem block_norm (y : FVec Ideal S1024x512 .bf16) (w : FVec Ideal S512x1024 .bf16) (x : FVec Ideal S1024x1024 .f32) (g : FVec Ideal S1x1024 .f32)
    (i e : Fin 1024) : k0_pay2 (F := Ideal) y w x g (ix2 i e)
      = normed width (fun e => k0_pay1 (F := Ideal) y w x (ix2 i e)) (fun e => g (ix2 0 e)) e := by
  have hp : k0_pay2 (F := Ideal) y w x g = Cert.Kernel15Ideal.Gen.k0_pay1 (F := Ideal) (k0_pay1 (F := Ideal) y w x) g := rfl
  rw [hp]
  exact Cert.Kernel15Ideal.Hand.block_at _ _ i e

variable (m : (ℓ : Loc nD τ sig) → Buf (Elt Ideal) ℓ) (c : Dev nD)

abbrev argX : FVec Ideal S8192x1024 .f32 := m ((c.tc : Thread nD τ).loc main_arg0)
abbrev argY : FVec Ideal S8192x512 .f32 := m ((c.tc : Thread nD τ).loc main_arg1)
abbrev argW : FVec Ideal S512x1024 .f32 := m ((c.tc : Thread nD τ).loc main_arg2)
abbrev argG : FVec Ideal S1024 .f32 := m ((c.tc : Thread nD τ).loc main_arg3)

theorem entry_y : V m c main_v0 = truncf (F := Ideal) (s := S8192x512) (φ := .f32) .bf16 (argY m c) bitsLt_bf16_f32 := by entry_read; rfl
theorem entry_w : V m c main_v1 = truncf (F := Ideal) (s := S512x1024) (φ := .f32) .bf16 (argW m c) bitsLt_bf16_f32 := by entry_read; rfl
theorem entry_g : V m c main_v2 = shapeCast (s := S1024) S1x1024 (argG m c) shapeCasts_S1024_S1x1024 := by entry_read; rfl

theorem idx : ∀ t : Fin cfg0.N, win0_0.index t 0 = t.val ∧ win0_0.index t 1 = 0 ∧ win0_1.index t 0 = 0 ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0 :=
  (by decide +kernel : ∀ t : Fin grid0.N, _)

section Point

variable (t : Fin cfg0.N) (i e : Fin 1024) (z : Fin 512)

/-- Row `i` of the block at a point. -/
def brow : Fin 8192 := ⟨t.val * 1024 + i.val, by have := lt_of_lt_of_eq t.isLt N_0; omega⟩

theorem blk_y : (iblk m c 0 t : FVec Ideal S1024x512 .bf16) (ix2 i z) = argY m c (ix2 (brow t i) z) := by
  have h := idx t
  have e1 : (iblk m c 0 t : FVec Ideal S1024x512 .bf16) (ix2 i z) = (V m c main_v0 : FVec Ideal S8192x512 .bf16) (ix2 (brow t i) z) := by
    refine congrArg (V m c main_v0) ?_
    blk_ext [h, brow]
  refine e1.trans ?_
  rw [entry_y]
  rfl

theorem blk_w : (iblk m c 1 t : FVec Ideal S512x1024 .bf16) (ix2 z e) = argW m c (ix2 z e) := by
  have h := idx t
  have e1 : (iblk m c 1 t : FVec Ideal S512x1024 .bf16) (ix2 z e) = (V m c main_v1 : FVec Ideal S512x1024 .bf16) (ix2 z e) := by
    refine congrArg (V m c main_v1) ?_
    blk_ext [h]
  refine e1.trans ?_
  rw [entry_w]
  rfl

theorem blk_x : (iblk m c 2 t : FVec Ideal S1024x1024 .f32) (ix2 i e) = argX m c (ix2 (brow t i) e) := by
  have h := idx t
  show V m c main_arg0 _ = _
  rw [V_main_arg0]
  refine congrArg (argX m c) ?_
  blk_ext [h, brow]

theorem blk_g : (iblk m c 3 t : FVec Ideal S1x1024 .f32) (ix2 0 e) = argG m c (ix1 e) := by
  have h := idx t
  have e1 : (iblk m c 3 t : FVec Ideal S1x1024 .f32) (ix2 0 e) = (V m c main_v2 : FVec Ideal S1x1024 .f32) (ix2 0 e) := by
    refine congrArg (V m c main_v2) ?_
    blk_ext [h]
  refine e1.trans ?_
  rw [entry_g]
  pointwise []

end Point

/-- A row with the product added. -/
def summed (x : FVec Ideal S8192x1024 .f32) (y : FVec Ideal S8192x512 .f32) (w : FVec Ideal S512x1024 .f32) (r : Fin 8192) (e : Fin 1024) : EReal :=
  x (ix2 r e) + ∑ z : Fin 512, y (ix2 r z) * w (ix2 z e)

/-- The sum, and its norm. -/
def total : FVec Ideal S8192x1024 .f32 := fun i => summed (argX m c) (argY m c) (argW m c) (i 0) (i 1)
def result : FVec Ideal S8192x1024 .bf16 := fun i =>
  normed width (summed (argX m c) (argY m c) (argW m c) (i 0)) (fun e => argG m c (ix1 e)) (i 1)

theorem sum_at (t : Fin cfg0.N) (i e : Fin 1024) :
    k0_pay1 (F := Ideal) (iblk m c 0 t) (iblk m c 1 t) (iblk m c 2 t) (ix2 i e) = summed (argX m c) (argY m c) (argW m c) (brow t i) e := by
  refine (block_sum _ _ _ i e).trans ?_
  simp only [blk_x, blk_y, blk_w]
  rfl

theorem final4 : (dats m 0 c).arrAt 4 cfg0.N = total m c := by
  refine (dats m 0 c).arrAt_eq_of_covers 4 _ (by decide +kernel) fun t _ y => ?_
  have hi := idx t
  blk_simp
  rw [after0_4]
  obtain ⟨i, e, rfl⟩ : ∃ (i e : Fin 1024), y = ix2 i e := ⟨y 0, y 1, eq_ix2 y⟩
  have he : (win0_4.blk t).view.emb (ix2 i e : S1024x1024.Idx) = (ix2 (brow t i) e : S8192x1024.Idx) := by blk_ext [hi, brow]
  refine Eq.trans ?_ (congrArg (total m c) he).symm
  have ho : out0_4 (iblk m c 0 t) (iblk m c 1 t) (iblk m c 2 t) (iblk m c 3 t)
      = k0_pay1 (F := Ideal) (iblk m c 0 t) (iblk m c 1 t) (iblk m c 2 t) := by
    frame_out
  rw [ho]
  exact sum_at m c t i e

theorem final5 : (dats m 0 c).arrAt 5 cfg0.N = result m c := by
  refine (dats m 0 c).arrAt_eq_of_covers 5 _ (by decide +kernel) fun t _ y => ?_
  have hi := idx t
  blk_simp
  rw [after0_5]
  obtain ⟨i, e, rfl⟩ : ∃ (i e : Fin 1024), y = ix2 i e := ⟨y 0, y 1, eq_ix2 y⟩
  have he : (win0_5.blk t).view.emb (ix2 i e : S1024x1024.Idx) = (ix2 (brow t i) e : S8192x1024.Idx) := by blk_ext [hi, brow]
  refine Eq.trans ?_ (congrArg (result m c) he).symm
  have ho : out0_5 (iblk m c 0 t) (iblk m c 1 t) (iblk m c 2 t) (iblk m c 3 t)
      = k0_pay2 (F := Ideal) (iblk m c 0 t) (iblk m c 1 t) (iblk m c 2 t) (iblk m c 3 t) := by
    frame_out
  rw [ho]
  refine (block_norm _ _ _ _ i e).trans ?_
  simp only [sum_at, blk_g]
  rfl

end Cert.Kernel20Ideal.Hand

namespace Cert.Reference20Ideal.Hand

open Cert.Reference20Ideal Cert.Reference20Ideal.Gen Cert.Reference20Ideal.Read Cert.Norm Cert.Forward
open Cert.Kernel15Ideal.Hand (width)
open Cert.Kernel20Ideal.Hand (summed)
open Idealize.ShloMosaic Idealize.ShloMosaic.TcCoe

variable (x0 : FVec Ideal S8192x1024 .f32) (x1 : FVec Ideal S8192x512 .f32) (x2 : FVec Ideal S512x1024 .f32) (x3 : FVec Ideal S1024 .f32)
  (r : Fin 8192) (e : Fin 1024)

theorem v1 : val_main_v1 (F := Ideal) x0 x1 x2 (ix2 r e) = summed x0 x1 x2 r e := by
  pointwise [val_main_v1, val_main_v0]
  rfl

theorem v9 : val_main_v9 (F := Ideal) x0 x1 x2 (ix2 r 0) = inv width (summed x0 x1 x2 r) := by
  pointwise [val_main_v9, val_main_v8, val_main_v7, val_main_v6, val_main_v5, val_main_v4, val_main_v3, val_main_v2, val_main_cst, val_main_cst_0, val_main_cst_1]
  simp only [v1]
  rfl

theorem v15 : val_main_v15 (F := Ideal) x0 x1 x2 x3 (ix2 r e) = normed width (summed x0 x1 x2 r) (fun e => x3 (ix1 e)) e := by
  pointwise [val_main_v15, val_main_v14, val_main_v13, val_main_v12, val_main_v11, val_main_v10]
  rw [v1, v9]
  rfl

end Cert.Reference20Ideal.Hand

namespace Cert.Proof

open Cert
open Idealize.ShloMosaic Idealize.ShloMosaic.TcCoe Idealize.SL.Sem

theorem xao_frame_reference : Cert.quiescent_Reference20Ideal := fun m ρ _ =>
  (θ_run Cert.Reference20Ideal.defs _ _).mono
    (fun r h => ⟨fun c => (h c).2.2, sem_eq_zero_of_no_sems (by decide) r.2⟩) (Cert.Reference20Ideal.Value.run m ρ)

theorem xao_algebraic : Cert.algebraic_Kernel20Ideal_Reference20Ideal := by
  intro m g m' g' _ hagree
  refine ⟨fun c => Cert.Kernel20Ideal.Hand.total m c, fun c => Cert.Kernel20Ideal.Hand.result m c,
    (θ_run _ _ _).mono (fun r h c => ⟨((h.2 c).1 4).trans (Cert.Kernel20Ideal.Hand.final4 m c), ((h.2 c).1 5).trans (Cert.Kernel20Ideal.Hand.final5 m c), h.1 c⟩)
    (θ_run_and (Cert.Kernel20Ideal.Gen.unchanged m g) (Cert.Kernel20Ideal.Gen.run_main m g)),
    (θ_run _ _ _).mono (fun r h c => ?_) (Cert.Reference20Ideal.Value.run m' g')⟩
  obtain ⟨h0, h1, h2⟩ := h c
  obtain ⟨a0, a1, a2, a3⟩ := hagree c
  refine ⟨h0.trans ?_, h1.trans ?_, h2⟩
  · rw [Cert.Reference20Ideal.Read.val_main_v1_eq, a0, a1, a2]
    funext i
    obtain ⟨r, e, rfl⟩ : ∃ (r : Fin 8192) (e : Fin 1024), i = ix2 r e := ⟨i 0, i 1, eq_ix2 i⟩
    exact Cert.Reference20Ideal.Hand.v1 _ _ _ r e
  · rw [Cert.Reference20Ideal.Read.val_main_v15_eq, a0, a1, a2, a3]
    funext i
    obtain ⟨r, e, rfl⟩ : ∃ (r : Fin 8192) (e : Fin 1024), i = ix2 r e := ⟨i 0, i 1, eq_ix2 i⟩
    exact Cert.Reference20Ideal.Hand.v15 _ _ _ _ r e

end Cert.Proof

end
-- ==== Proof.UpFwd.lean ====
/-
  The feed-forward's first product with the squared positive part.
-/
module

public import proofs.«01_k».proof.Defs
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Reference21Ideal.Read
public import proofs.«01_k».proof.Proof.Up
public import Idealize.ShloMosaic.Lib.Pointwise
public import Idealize.ShloMosaic.Lib.Pipeline.ValueKit

@[expose] public section

set_option maxRecDepth 16384

noncomputable section

namespace Cert.Kernel21Ideal.Hand

open Cert.Kernel21Ideal Cert.Kernel21Ideal.Gen
open Cert.Kernel8Ideal.Hand (square)
open Idealize.ShloMosaic Idealize.ShloMosaic.TcCoe Idealize.SL.Sem
open Idealize.ShloMosaic.Pipeline (Dat)

theorem block_at (a : FVec Ideal S2048x1024 .bf16) (b : FVec Ideal S1024x2048 .bf16) (i j : Fin 2048) :
    k0_pay1 (F := Ideal) a b (ix2 i j) = square (∑ z, a (ix2 i z) * b (ix2 z j)) := by
  pointwise [k0_pay1]
  rfl

variable (m : (ℓ : Loc nD τ sig) → Buf (Elt Ideal) ℓ) (c : Dev nD)

abbrev argH : FVec Ideal S8192x1024 .f32 := m ((c.tc : Thread nD τ).loc main_arg0)
abbrev argU : FVec Ideal S1024x4096 .f32 := m ((c.tc : Thread nD τ).loc main_arg1)

theorem entry_h : V m c main_v0 = truncf (F := Ideal) (s := S8192x1024) (φ := .f32) .bf16 (argH m c) bitsLt_bf16_f32 := by entry_read; rfl
theorem entry_u : V m c main_v1 = truncf (F := Ideal) (s := S1024x4096) (φ := .f32) .bf16 (argU m c) bitsLt_bf16_f32 := by entry_read; rfl

theorem idx : ∀ t : Fin cfg0.N, win0_0.index t 0 = t.val / 2 ∧ win0_0.index t 1 = 0 ∧ win0_1.index t 0 = 0 ∧ win0_1.index t 1 = t.val % 2
    ∧ win0_2.index t 0 = t.val / 2 ∧ win0_2.index t 1 = t.val % 2 :=
  (by decide +kernel : ∀ t : Fin grid0.N, _)

section Point

variable (t : Fin cfg0.N) (i j : Fin 2048) (z : Fin 1024)

/-- A row and a column of the block at a point. -/
def brow : Fin 8192 := ⟨t.val / 2 * 2048 + i.val, by have := lt_of_lt_of_eq t.isLt N_0; omega⟩
def bcol : Fin 4096 := ⟨t.val % 2 * 2048 + j.val, by omega⟩

theorem blk_h : (iblk m c 0 t : FVec Ideal S2048x1024 .bf16) (ix2 i z) = argH m c (ix2 (brow t i) z) := by
  have h := idx t
  have e1 : (iblk m c 0 t : FVec Ideal S2048x1024 .bf16) (ix2 i z) = (V m c main_v0 : FVec Ideal S8192x1024 .bf16) (ix2 (brow t i) z) := by
    refine congrArg (V m c main_v0) ?_
    blk_ext [h, brow]
  refine e1.trans ?_
  rw [entry_h]
  rfl

theorem blk_u : (iblk m c 1 t : FVec Ideal S1024x2048 .bf16) (ix2 z j) = argU m c (ix2 z (bcol t j)) := by
  have h := idx t
  have e1 : (iblk m c 1 t : FVec Ideal S1024x2048 .bf16) (ix2 z j) = (V m c main_v1 : FVec Ideal S1024x4096 .bf16) (ix2 z (bcol t j)) := by
    refine congrArg (V m c main_v1) ?_
    blk_ext [h, bcol]
  refine e1.trans ?_
  rw [entry_u]
  rfl

end Point

/-- The kernel's result. -/
def result : FVec Ideal S8192x4096 .bf16 := fun i => square (∑ z, argH m c (ix2 (i 0) z) * argU m c (ix2 z (i 1)))

theorem final2 : (dats m 0 c).arrAt 2 cfg0.N = result m c := by
  refine (dats m 0 c).arrAt_eq_of_covers 2 _ (by decide +kernel) fun t _ y => ?_
  have hi := idx t
  blk_simp
  rw [after0_2]
  obtain ⟨i, j, rfl⟩ : ∃ (i j : Fin 2048), y = ix2 i j := ⟨y 0, y 1, eq_ix2 y⟩
  have he : (win0_2.blk t).view.emb (ix2 i j : S2048x2048.Idx) = (ix2 (brow t i) (bcol t j) : S8192x4096.Idx) := by blk_ext [hi, brow, bcol]
  refine Eq.trans ?_ (congrArg (result m c) he).symm
  have ho : out0_2 (iblk m c 0 t) (iblk m c 1 t) = k0_pay1 (F := Ideal) (iblk m c 0 t) (iblk m c 1 t) := by
    frame_out
  rw [ho]
  refine (block_at _ _ i j).trans ?_
  simp only [blk_h, blk_u]
  rfl

end Cert.Kernel21Ideal.Hand

namespace Cert.Reference21Ideal.Hand

open Cert.Reference21Ideal Cert.Reference21Ideal.Gen Cert.Reference21Ideal.Read
open Cert.Kernel8Ideal.Hand (square)
open Idealize.ShloMosaic Idealize.ShloMosaic.TcCoe

theorem last (x0 : FVec Ideal S8192x1024 .f32) (x1 : FVec Ideal S1024x4096 .f32) (r : Fin 8192) (e : Fin 4096) :
    val_main_v3 (F := Ideal) x0 x1 (ix2 r e) = square (∑ z, x0 (ix2 r z) * x1 (ix2 z e)) := by
  pointwise [val_main_v3, val_main_v2, val_main_v1, val_main_call0_v0, val_main_call0_cst, val_main_v0]
  rfl

end Cert.Reference21Ideal.Hand

namespace Cert.Proof

open Cert
open Idealize.ShloMosaic Idealize.ShloMosaic.TcCoe Idealize.SL.Sem

theorem upf_frame_reference : Cert.quiescent_Reference21Ideal := fun m ρ _ =>
  (θ_run Cert.Reference21Ideal.defs _ _).mono
    (fun r h => ⟨fun c => (h c).2, sem_eq_zero_of_no_sems (by decide) r.2⟩) (Cert.Reference21Ideal.Value.run m ρ)

theorem upf_algebraic : Cert.algebraic_Kernel21Ideal_Reference21Ideal := by
  intro m g m' g' _ hagree
  refine ⟨fun c => Cert.Kernel21Ideal.Hand.result m c, (θ_run _ _ _).mono (fun r h c => ⟨((h.2 c).1 2).trans (Cert.Kernel21Ideal.Hand.final2 m c), h.1 c⟩)
    (θ_run_and (Cert.Kernel21Ideal.Gen.unchanged m g) (Cert.Kernel21Ideal.Gen.run_main m g)),
    (θ_run _ _ _).mono (fun r h c => ?_) (Cert.Reference21Ideal.Value.run m' g')⟩
  obtain ⟨h0, h1⟩ := h c
  obtain ⟨a0, a1⟩ := hagree c
  refine ⟨h0.trans ?_, h1⟩
  rw [Cert.Reference21Ideal.Read.val_main_v3_eq, a0, a1]
  funext i
  obtain ⟨r, e, rfl⟩ : ∃ (r : Fin 8192) (e : Fin 4096), i = ix2 r e := ⟨i 0, i 1, eq_ix2 i⟩
  exact Cert.Reference21Ideal.Hand.last _ _ r e

end Cert.Proof

end
-- ==== Proof.QkFwd.lean ====
/-
  The heads of the queries and of the keys, normed.
-/
module

public import proofs.«01_k».proof.Defs
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Reference22Ideal.Read
public import proofs.«01_k».proof.Proof.Fwd
public import proofs.«01_k».proof.Proof.XaHead
public import proofs.«01_k».proof.Proof.XaModel
public import proofs.«01_k».proof.Proof.SbUp
public import Idealize.ShloMosaic.Lib.Pointwise
public import Idealize.ShloMosaic.Lib.Pipeline.ValueKit

@[expose] public section

set_option maxRecDepth 16384

noncomputable section

namespace Cert.Forward

open Cert.Norm Idealize.ShloMosaic

/-- Column `e` of head `h` of eight. -/
def col8 (h : Fin 8) (e : Fin 64) : Fin 512 := ⟨64 * h.val + e.val, by have := h.isLt; have := e.isLt; omega⟩

theorem col8_surj (y : Fin 512) : ∃ h e, y = col8 h e :=
  ⟨⟨y.val / 64, by omega⟩, ⟨y.val % 64, by omega⟩, Fin.ext (Nat.div_add_mod y.val 64).symm⟩

/-- What is given by head and column of the head, by column. -/
def byCol8 (f : Fin 8 → Fin 64 → EReal) (y : Fin 512) : EReal := f ⟨y.val / 64, by omega⟩ ⟨y.val % 64, by omega⟩

theorem byCol8_col (f : Fin 8 → Fin 64 → EReal) (h : Fin 8) (e : Fin 64) : byCol8 f (col8 h e) = f h e := by
  have := h.isLt
  have := e.isLt
  exact congrArg₂ f (Fin.ext (show (64 * h.val + e.val) / 64 = h.val by omega)) (Fin.ext (show (64 * h.val + e.val) % 64 = e.val by omega))

theorem lower_half (f : Fin 128 → EReal) : (∑ z : Fin 128, if z.val < 64 then f z else 0) = ∑ e : Fin 64, f ⟨e.val, by omega⟩ := by
  refine (Fin.sum_univ_add (a := 64) (b := 64) fun z : Fin (64 + 64) => if z.val < 64 then f z else 0).trans ?_
  have h2 : ∀ e : Fin 64, (if (Fin.natAdd 64 e : Fin (64 + 64)).val < 64 then f (Fin.natAdd 64 e : Fin (64 + 64)) else 0) = 0 :=
    fun e => if_neg (by simp)
  have h1 : ∀ e : Fin 64, (if (Fin.castAdd 64 e : Fin (64 + 64)).val < 64 then f (Fin.castAdd 64 e : Fin (64 + 64)) else 0) = f ⟨e.val, by omega⟩ :=
    fun e => if_pos e.isLt
  rw [Finset.sum_congr rfl fun e _ => h1 e, Finset.sum_congr rfl fun e _ => h2 e, Finset.sum_const_zero, add_zero]

theorem upper_half (f : Fin 128 → EReal) : (∑ z : Fin 128, if z.val < 64 then 0 else f z) = ∑ e : Fin 64, f ⟨64 + e.val, by omega⟩ := by
  refine (Fin.sum_univ_add (a := 64) (b := 64) fun z : Fin (64 + 64) => if z.val < 64 then 0 else f z).trans ?_
  have h1 : ∀ e : Fin 64, (if (Fin.castAdd 64 e : Fin (64 + 64)).val < 64 then 0 else f (Fin.castAdd 64 e : Fin (64 + 64))) = 0 :=
    fun e => if_pos e.isLt
  have h2 : ∀ e : Fin 64, (if (Fin.natAdd 64 e : Fin (64 + 64)).val < 64 then 0 else f (Fin.natAdd 64 e : Fin (64 + 64))) = f ⟨64 + e.val, by omega⟩ :=
    fun e => if_neg (by simp)
  rw [Finset.sum_congr rfl fun e _ => h1 e, Finset.sum_congr rfl fun e _ => h2 e, Finset.sum_const_zero, zero_add]

/-- The width of a head. -/
abbrev headWidth : EReal := Ideal.ofBits .f32 0x42800000#32

theorem over_head (z : EReal) : Ideal.div z headWidth = z * Ideal.ofBits .f32 0x3C800000#32 := by
  have h1 : headWidth = ((64 : ℝ) : EReal) := by simp [headWidth, Ideal.ofBits, Ideal.ieee, -EReal.coe_mul]; norm_num
  have h2 : Ideal.ofBits .f32 0x3C800000#32 = (((1 : ℝ) / 64 : ℝ) : EReal) := by simp [Ideal.ofBits, Ideal.ieee, -EReal.coe_mul]; norm_num
  rw [h1, h2, Ideal.div_coe (by norm_num)]

/-- One head of a row, normed. -/
def headNorm (x : Fin 512 → EReal) (g : Fin 64 → EReal) (h : Fin 8) (e : Fin 64) : EReal :=
  normed headWidth (fun e => x (col8 h e)) g e

end Cert.Forward

namespace Cert.Kernel22Ideal.Hand

open Cert.Kernel22Ideal Cert.Kernel22Ideal.Gen Cert.Norm Cert.Forward
open Cert.Kernel3Ideal.Hand (pick)
open Cert.Xa (col col_surj)
open Idealize.ShloMosaic Idealize.ShloMosaic.TcCoe Idealize.SL.Sem
open Idealize.ShloMosaic.Pipeline (Dat)

section Block

variable {F : FTy → Type} [FloatOps F]

/-- The lanes of the first head of two. -/
def lanes : IVec S1024x128 1 := broadcastTo S1024x128 (shapeCast S1x128 k0_pay5 shapeCasts_S1x128_S1x128) broadcasts_S1x128_S1024x128

def root (p : FVec F S1024x128 .f32) : FVec F S1024x1 .f32 :=
  rsqrt (addf (mulf (shapeCast S1024x1 (multiReduction .add [1] S1024 p 0x00000000#32 reduces_S1024x128_S1024 (.inl rfl) rfl) shapeCasts_S1024_S1024x1)
    (broadcast S1024x1 (Scalar.ofBits .f32 0x3C800000#32))) (broadcast S1024x1 (Scalar.ofBits .f32 0x358637BD#32)))

def zeros : FVec F S1024x128 .f32 := broadcast S1024x128 (Scalar.ofBits .f32 0x00000000#32)

def over (r : FVec F S1024x1 .f32) : FVec F S1024x128 .f32 :=
  broadcastTo S1024x128 (shapeCast S1024x1 r shapeCasts_S1024x1_S1024x1) broadcasts_S1024x1_S1024x128

def piece (x p : FVec F S1024x128 .f32) : FVec F S1024x128 .f32 :=
  mulf x (select lanes (over (root (select lanes p zeros))) (over (root (select lanes zeros p))))

def quarter (x : FVec F S1024x512 .f32) : Fin 4 → FVec F S1024x128 .f32
  | 0 => extractStridedSlice S1024x128 ![0, 0] x slices_S1024x512_o0_0_S1024x128
  | 1 => extractStridedSlice S1024x128 ![0, 128] x slices_S1024x512_o0_128_S1024x128
  | 2 => extractStridedSlice S1024x128 ![0, 256] x slices_S1024x512_o0_256_S1024x128
  | 3 => extractStridedSlice S1024x128 ![0, 384] x slices_S1024x512_o0_384_S1024x128

def cat (p : Fin 4 → FVec F S1024x128 .f32) : FVec F S1024x512 .f32 :=
  concatenate S1024x512 1 [⟨S1024x128, p 0⟩, ⟨S1024x128, p 1⟩, ⟨S1024x128, p 2⟩, ⟨S1024x128, p 3⟩]
    concatenates_S1024x128_S1024x128_S1024x128_S1024x128_S1024x512_d1

def whole (s : BitVec 32) (x : FVec F S1024x512 .f32) (g : FVec F S1x512 .f32) : FVec F S1024x512 .bf16 :=
  truncf .bf16 (mulf (mulf (cat fun c => piece (quarter x c) (quarter (mulf x x) c))
    (broadcastTo S1024x512 (shapeCast S1x512 g shapeCasts_S1x512_S1x512) broadcasts_S1x512_S1024x512))
    (broadcast S1024x512 (Scalar.ofBits .f32 s))) bitsLt_bf16_f32

variable (x : FVec F S1024x512 .f32) (g : FVec F S1x512 .f32)

theorem block_q : k0_pay1 (k0_pay17 x (k0_pay3 g) (k0_pay9 (k0_pay7 x) (k0_pay8 x)) (k0_pay10 x k0_pay5 (k0_pay6 x))
      (k0_pay13 x k0_pay5 (k0_pay11 k0_pay5 (k0_pay6 x)) (k0_pay12 k0_pay5 (k0_pay6 x))) (k0_pay14 k0_pay5)
      (k0_pay15 k0_pay5 (k0_pay6 x)) (k0_pay16 k0_pay5 (k0_pay6 x))) = whole 0x3E000000#32 x g := rfl

theorem block_k : k0_pay2 (k0_pay4 g) (k0_pay27 x k0_pay18 (k0_pay19 x) (k0_pay20 x)
      (k0_pay23 x k0_pay18 (k0_pay19 x) (k0_pay21 x) (Scalar.ofBits .f32 0x00000000#32) k0_pay22)
      (k0_pay24 k0_pay18 (k0_pay19 x)) (k0_pay25 k0_pay18 (k0_pay19 x)) (k0_pay26 (F := F))) = whole 0x3F800000#32 x g := rfl

end Block

theorem cat_at (p : Fin 4 → FVec Ideal S1024x128 .f32) (h : Fin 4) (i : Fin 1024) (e : Fin 128) :
    cat p (ix2 i (col h e) : S1024x512.Idx) = p h (ix2 i e) := by
  obtain ⟨y, hy⟩ : ∃ y : Fin 512, y.val = 128 * h.val + e.val := ⟨col h e, rfl⟩
  rw [show col h e = y from Fin.ext hy.symm]
  refine Eq.trans ?_ (pick (fun h e => p h (ix2 i e)) h e y hy)
  pointwise [cat]

theorem quarter_at (x : FVec Ideal S1024x512 .f32) (h : Fin 4) (i : Fin 1024) (e : Fin 128) :
    quarter x h (ix2 i e : S1024x128.Idx) = x (ix2 i (col h e)) := by
  fin_cases h <;> (pointwise [quarter]; blk_ext [col])

theorem select_at (x y : FVec Ideal S1024x128 .f32) (i : Fin 1024) (e : Fin 128) :
    (select lanes x y : FVec Ideal S1024x128 .f32) (ix2 i e) = if e.val < 64 then x (ix2 i e) else y (ix2 i e) := by
  pointwise [lanes, k0_pay5]
  rw [Cert.Kernel2Ideal.Hand.lane_word, Cert.Kernel2Ideal.Hand.sel]
  by_cases hc : e.val < 64
  · rw [if_pos hc, if_pos (decide_eq_true hc)]
  · rw [if_neg hc, if_neg (by simpa using hc)]

theorem root_at (p : FVec Ideal S1024x128 .f32) (i : Fin 1024) :
    root p (ix2 i 0 : S1024x1.Idx) = Ideal.rsqrt ((∑ e, p (ix2 i e)) * Ideal.ofBits .f32 0x3C800000#32 + Ideal.ofBits .f32 0x358637BD#32) := by
  pointwise [root]

theorem over_at (r : FVec Ideal S1024x1 .f32) (i : Fin 1024) (e : Fin 128) : over r (ix2 i e : S1024x128.Idx) = r (ix2 i 0) := by
  pointwise [over]

theorem zeros_at (i : Fin 1024) (e : Fin 128) : (zeros : FVec Ideal S1024x128 .f32) (ix2 i e) = 0 := by
  pointwise [zeros]

theorem inv_head (x : Fin 64 → EReal) :
    Ideal.rsqrt ((∑ e, x e * x e) * Ideal.ofBits .f32 0x3C800000#32 + Ideal.ofBits .f32 0x358637BD#32) = inv headWidth x := by
  rw [← over_head]
  rfl

/-- The head of a lane of a quarter. -/
def headOf (c : Fin 4) (e : Fin 128) : Fin 8 := ⟨2 * c.val + e.val / 64, by omega⟩

theorem piece_at (x : FVec Ideal S1024x512 .f32) (c : Fin 4) (i : Fin 1024) (e : Fin 128) :
    piece (quarter x c) (quarter (mulf x x) c) (ix2 i e : S1024x128.Idx)
      = x (ix2 i (col c e)) * inv headWidth fun z => x (ix2 i (col8 (headOf c e) z)) := by
  have hq : ∀ z, quarter (mulf x x) c (ix2 i z : S1024x128.Idx) = x (ix2 i (col c z)) * x (ix2 i (col c z)) := fun z => by
    rw [quarter_at]
    pointwise []
  have hm : piece (quarter x c) (quarter (mulf x x) c) (ix2 i e : S1024x128.Idx) = quarter x c (ix2 i e)
      * (select lanes (over (root (select lanes (quarter (mulf x x) c) zeros))) (over (root (select lanes zeros (quarter (mulf x x) c)))) : FVec Ideal S1024x128 .f32) (ix2 i e) := rfl
  rw [hm, quarter_at, select_at, over_at, over_at, root_at, root_at]
  simp only [select_at, zeros_at, hq]
  rw [lower_half (fun z => x (ix2 i (col c z)) * x (ix2 i (col c z))), upper_half (fun z => x (ix2 i (col c z)) * x (ix2 i (col c z)))]
  refine congrArg (x (ix2 i (col c e)) * ·) ?_
  split_ifs with he
  · rw [inv_head fun z : Fin 64 => x (ix2 i (col c ⟨z.val, by omega⟩))]
    refine congrArg (inv headWidth) (funext fun z => congrArg (fun y => x (ix2 i y)) (Fin.ext ?_))
    show 128 * c.val + z.val = 64 * (2 * c.val + e.val / 64) + z.val
    omega
  · rw [inv_head fun z : Fin 64 => x (ix2 i (col c ⟨64 + z.val, by omega⟩))]
    refine congrArg (inv headWidth) (funext fun z => congrArg (fun y => x (ix2 i y)) (Fin.ext ?_))
    show 128 * c.val + (64 + z.val) = 64 * (2 * c.val + e.val / 64) + z.val
    omega

theorem whole_at (s : BitVec 32) (x : FVec Ideal S1024x512 .f32) (g : FVec Ideal S1x512 .f32) (i : Fin 1024) (h : Fin 8) (e : Fin 64) :
    whole s x g (ix2 i (col8 h e) : S1024x512.Idx)
      = headNorm (fun y => x (ix2 i y)) (fun e => g (ix2 0 (col8 h e))) h e * Ideal.ofBits .f32 s := by
  have hm : ∀ y : Fin 512, whole s x g (ix2 i y : S1024x512.Idx)
      = (cat fun c => piece (quarter x c) (quarter (mulf x x) c)) (ix2 i y) * g (ix2 0 y) * Ideal.ofBits .f32 s := fun y => by
    unfold whole
    generalize (cat fun c => piece (quarter x c) (quarter (mulf x x) c)) = w
    pointwise []
  rw [hm]
  obtain ⟨c, z, hz⟩ := col_surj (col8 h e)
  rw [hz, cat_at, piece_at, ← hz]
  have hv : 64 * h.val + e.val = 128 * c.val + z.val := congrArg Fin.val hz
  have hh : headOf c z = h := Fin.ext (by show 2 * c.val + z.val / 64 = h.val; omega)
  rw [hh]
  rfl

variable (m : (ℓ : Loc nD τ sig) → Buf (Elt Ideal) ℓ) (c : Dev nD)

abbrev argP : FVec Ideal S8192x2048 .f32 := m ((c.tc : Thread nD τ).loc main_arg0)
abbrev argGq : FVec Ideal S64 .f32 := m ((c.tc : Thread nD τ).loc main_arg1)
abbrev argGk : FVec Ideal S64 .f32 := m ((c.tc : Thread nD τ).loc main_arg2)

theorem gain_q (h : Fin 8) (e : Fin 64) : (V m c main_v3 : FVec Ideal S1x512 .f32) (ix2 0 (col8 h e)) = argGq m c (ix1 e) := by
  entry_read
  pointwise []
  refine congrArg (argGq m c) ?_
  blk_ext [col8]

theorem gain_k (h : Fin 8) (e : Fin 64) : (V m c main_v7 : FVec Ideal S1x512 .f32) (ix2 0 (col8 h e)) = argGk m c (ix1 e) := by
  entry_read
  pointwise []
  refine congrArg (argGk m c) ?_
  blk_ext [col8]

theorem idx : ∀ t : Fin cfg0.N, win0_0.index t 0 = t.val ∧ win0_0.index t 1 = 1 ∧ win0_1.index t 0 = t.val ∧ win0_1.index t 1 = 2
    ∧ win0_2.index t 0 = 0 ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0 :=
  (by decide +kernel : ∀ t : Fin grid0.N, _)

/-- A row's columns of the queries and of the keys. -/
def rowQ (P : FVec Ideal S8192x2048 .f32) (r : Fin 8192) (y : Fin 512) : EReal := P (ix2 r ⟨512 + y.val, by omega⟩)
def rowK (P : FVec Ideal S8192x2048 .f32) (r : Fin 8192) (y : Fin 512) : EReal := P (ix2 r ⟨1024 + y.val, by omega⟩)

section Point

variable (t : Fin cfg0.N) (i : Fin 1024)

/-- Row `i` of the block at a point. -/
def brow : Fin 8192 := ⟨t.val * 1024 + i.val, by have := lt_of_lt_of_eq t.isLt N_0; omega⟩

theorem blk_q (y : Fin 512) : (iblk m c 0 t : FVec Ideal S1024x512 .f32) (ix2 i y) = rowQ (argP m c) (brow t i) y := by
  have h := idx t
  show V m c main_arg0 _ = _
  rw [V_main_arg0]
  refine congrArg (argP m c) ?_
  blk_ext [h, brow]

theorem blk_k (y : Fin 512) : (iblk m c 1 t : FVec Ideal S1024x512 .f32) (ix2 i y) = rowK (argP m c) (brow t i) y := by
  have h := idx t
  show V m c main_arg0 _ = _
  rw [V_main_arg0]
  refine congrArg (argP m c) ?_
  blk_ext [h, brow]

theorem blk_gq (h : Fin 8) (e : Fin 64) : (iblk m c 2 t : FVec Ideal S1x512 .f32) (ix2 0 (col8 h e)) = argGq m c (ix1 e) := by
  have hi := idx t
  have e1 : (iblk m c 2 t : FVec Ideal S1x512 .f32) (ix2 0 (col8 h e)) = (V m c main_v3 : FVec Ideal S1x512 .f32) (ix2 0 (col8 h e)) := by
    refine congrArg (V m c main_v3) ?_
    blk_ext [hi]
  exact e1.trans (gain_q m c h e)

theorem blk_gk (h : Fin 8) (e : Fin 64) : (iblk m c 3 t : FVec Ideal S1x512 .f32) (ix2 0 (col8 h e)) = argGk m c (ix1 e) := by
  have hi := idx t
  have e1 : (iblk m c 3 t : FVec Ideal S1x512 .f32) (ix2 0 (col8 h e)) = (V m c main_v7 : FVec Ideal S1x512 .f32) (ix2 0 (col8 h e)) := by
    refine congrArg (V m c main_v7) ?_
    blk_ext [hi]
  exact e1.trans (gain_k m c h e)

end Point

/-- The queries and the keys, normed head by head. -/
def queries : FVec Ideal S8192x512 .bf16 := fun i =>
  byCol8 (fun h e => headNorm (rowQ (argP m c) (i 0)) (fun e => argGq m c (ix1 e)) h e * Ideal.ofBits .f32 0x3E000000#32) (i 1)
def keys : FVec Ideal S8192x512 .bf16 := fun i =>
  byCol8 (fun h e => headNorm (rowK (argP m c) (i 0)) (fun e => argGk m c (ix1 e)) h e) (i 1)

theorem queries_at (r : Fin 8192) (h : Fin 8) (e : Fin 64) : queries m c (ix2 r (col8 h e) : S8192x512.Idx)
    = headNorm (rowQ (argP m c) r) (fun e => argGq m c (ix1 e)) h e * Ideal.ofBits .f32 0x3E000000#32 :=
  byCol8_col (fun h e => headNorm (rowQ (argP m c) r) (fun e => argGq m c (ix1 e)) h e * Ideal.ofBits .f32 0x3E000000#32) h e
theorem keys_at (r : Fin 8192) (h : Fin 8) (e : Fin 64) : keys m c (ix2 r (col8 h e) : S8192x512.Idx)
    = headNorm (rowK (argP m c) r) (fun e => argGk m c (ix1 e)) h e :=
  byCol8_col (fun h e => headNorm (rowK (argP m c) r) (fun e => argGk m c (ix1 e)) h e) h e

theorem one_word : Ideal.ofBits .f32 0x3F800000#32 = 1 := by simp [Ideal.ofBits, Ideal.ieee, -EReal.coe_mul]; norm_num

theorem final4 : (dats m 0 c).arrAt 4 cfg0.N = queries m c := by
  refine (dats m 0 c).arrAt_eq_of_covers 4 _ (by decide +kernel) fun t _ y => ?_
  have hi := idx t
  blk_simp
  rw [after0_4]
  obtain ⟨i, z, rfl⟩ : ∃ (i : Fin 1024) (z : Fin 512), y = ix2 i z := ⟨y 0, y 1, eq_ix2 y⟩
  have he : (win0_4.blk t).view.emb (ix2 i z : S1024x512.Idx) = (ix2 (brow t i) z : S8192x512.Idx) := by blk_ext [hi, brow]
  have ho : out0_4 (iblk m c 0 t) (iblk m c 1 t) (iblk m c 2 t) (iblk m c 3 t) = whole (F := Ideal) 0x3E000000#32 (iblk m c 0 t) (iblk m c 2 t) := by
    rw [← block_q]
    unfold out0_4 k0_pay28 k0_pay29
    frame_out
  rw [ho]
  obtain ⟨h, e, rfl⟩ := col8_surj z
  refine Eq.trans (whole_at _ _ _ i h e) ?_
  simp only [blk_q, blk_gq]
  refine Eq.trans ?_ (congrArg (queries m c) he).symm
  exact (queries_at m c _ h e).symm

theorem final5 : (dats m 0 c).arrAt 5 cfg0.N = keys m c := by
  refine (dats m 0 c).arrAt_eq_of_covers 5 _ (by decide +kernel) fun t _ y => ?_
  have hi := idx t
  blk_simp
  rw [after0_5]
  obtain ⟨i, z, rfl⟩ : ∃ (i : Fin 1024) (z : Fin 512), y = ix2 i z := ⟨y 0, y 1, eq_ix2 y⟩
  have he : (win0_5.blk t).view.emb (ix2 i z : S1024x512.Idx) = (ix2 (brow t i) z : S8192x512.Idx) := by blk_ext [hi, brow]
  have ho : out0_5 (iblk m c 0 t) (iblk m c 1 t) (iblk m c 2 t) (iblk m c 3 t) = whole (F := Ideal) 0x3F800000#32 (iblk m c 1 t) (iblk m c 3 t) := by
    rw [← block_k]
    unfold out0_5 k0_pay30 k0_pay31
    frame_out
  rw [ho]
  obtain ⟨h, e, rfl⟩ := col8_surj z
  refine Eq.trans (whole_at _ _ _ i h e) ?_
  rw [one_word, mul_one]
  simp only [blk_k, blk_gk]
  refine Eq.trans ?_ (congrArg (keys m c) he).symm
  exact (keys_at m c _ h e).symm

end Cert.Kernel22Ideal.Hand

namespace Cert.Reference22Ideal.Hand

open Cert.Reference22Ideal Cert.Reference22Ideal.Gen Cert.Reference22Ideal.Read Cert.Norm Cert.Forward
open Cert.Kernel22Ideal.Hand (rowQ rowK)
open Idealize.ShloMosaic Idealize.ShloMosaic.TcCoe

variable (x0 : FVec Ideal S8192x2048 .f32) (x1 x2 : FVec Ideal S64 .f32) (r : Fin 8192) (h : Fin 8) (e : Fin 64)

theorem v1 : val_main_v1 (F := Ideal) x0 (ix3 r h e) = rowQ x0 r (col8 h e) := by
  pointwise [val_main_v1, val_main_v0]
  refine congrArg x0 ?_
  blk_ext [col8]

theorem v18 : val_main_v18 (F := Ideal) x0 (ix3 r h e) = rowK x0 r (col8 h e) := by
  pointwise [val_main_v18, val_main_v17]
  refine congrArg x0 ?_
  blk_ext [col8]

theorem v9 : val_main_v9 (F := Ideal) x0 (ix3 r h 0) = inv headWidth fun e => rowQ x0 r (col8 h e) := by
  pointwise [val_main_v9, val_main_v8, val_main_v7, val_main_v6, val_main_v5, val_main_v4, val_main_v3, val_main_v2, val_main_cst, val_main_cst_0, val_main_cst_1]
  simp only [v1]
  rfl

theorem v26 : val_main_v26 (F := Ideal) x0 (ix3 r h 0) = inv headWidth fun e => rowK x0 r (col8 h e) := by
  pointwise [val_main_v26, val_main_v25, val_main_v24, val_main_v23, val_main_v22, val_main_v21, val_main_v20, val_main_v19, val_main_cst_3, val_main_cst_4, val_main_cst_5]
  simp only [v18]
  rfl

theorem v16 : val_main_v16 (F := Ideal) x0 x1 (ix3 r h e) = headNorm (rowQ x0 r) (fun e => x1 (ix1 e)) h e * Ideal.ofBits .f32 0x3E000000#32 := by
  pointwise [val_main_v16, val_main_v15, val_main_v14, val_main_v13, val_main_v12, val_main_v11, val_main_v10, val_main_cst_2]
  rw [v1, v9]
  rfl

theorem v31 : val_main_v31 (F := Ideal) x0 x2 (ix3 r h e) = headNorm (rowK x0 r) (fun e => x2 (ix1 e)) h e := by
  pointwise [val_main_v31, val_main_v30, val_main_v29, val_main_v28, val_main_v27]
  rw [v18, v26]
  rfl

theorem fst_col8 (p : (col8 h e).val / 64 < 8) : (⟨(col8 h e).val / 64, p⟩ : Fin 8) = h :=
  Fin.ext (by have := e.isLt; show (64 * h.val + e.val) / 64 = h.val; omega)
theorem snd_col8 (p : (col8 h e).val % 64 < 64) : (⟨(col8 h e).val % 64, p⟩ : Fin 64) = e :=
  Fin.ext (by have := e.isLt; show (64 * h.val + e.val) % 64 = e.val; omega)

theorem v33 : val_main_v33 (F := Ideal) x0 x1 (ix2 r (col8 h e)) = headNorm (rowQ x0 r) (fun e => x1 (ix1 e)) h e * Ideal.ofBits .f32 0x3E000000#32 := by
  pointwise [val_main_v33, val_main_v32]
  simp only [fst_col8, snd_col8]
  exact v16 x0 x1 r h e

theorem v35 : val_main_v35 (F := Ideal) x0 x2 (ix2 r (col8 h e)) = headNorm (rowK x0 r) (fun e => x2 (ix1 e)) h e := by
  pointwise [val_main_v35, val_main_v34]
  simp only [fst_col8, snd_col8]
  exact v31 x0 x2 r h e

end Cert.Reference22Ideal.Hand

namespace Cert.Proof

open Cert
open Idealize.ShloMosaic Idealize.ShloMosaic.TcCoe Idealize.SL.Sem

theorem qkf_frame_reference : Cert.quiescent_Reference22Ideal := fun m ρ _ =>
  (θ_run Cert.Reference22Ideal.defs _ _).mono
    (fun r h => ⟨fun c => (h c).2.2, sem_eq_zero_of_no_sems (by decide) r.2⟩) (Cert.Reference22Ideal.Value.run m ρ)

theorem qkf_algebraic : Cert.algebraic_Kernel22Ideal_Reference22Ideal := by
  intro m g m' g' _ hagree
  refine ⟨fun c => Cert.Kernel22Ideal.Hand.queries m c, fun c => Cert.Kernel22Ideal.Hand.keys m c,
    (θ_run _ _ _).mono (fun r h c => ⟨((h.2 c).1 4).trans (Cert.Kernel22Ideal.Hand.final4 m c), ((h.2 c).1 5).trans (Cert.Kernel22Ideal.Hand.final5 m c), h.1 c⟩)
    (θ_run_and (Cert.Kernel22Ideal.Gen.unchanged m g) (Cert.Kernel22Ideal.Gen.run_main m g)),
    (θ_run _ _ _).mono (fun r h c => ?_) (Cert.Reference22Ideal.Value.run m' g')⟩
  obtain ⟨h0, h1, h2⟩ := h c
  obtain ⟨a0, a1, a2⟩ := hagree c
  refine ⟨h0.trans ?_, h1.trans ?_, h2⟩
  · rw [Cert.Reference22Ideal.Read.val_main_v33_eq, a0, a1]
    funext i
    obtain ⟨r, z, rfl⟩ : ∃ (r : Fin 8192) (z : Fin 512), i = ix2 r z := ⟨i 0, i 1, eq_ix2 i⟩
    obtain ⟨h, e, rfl⟩ := Cert.Forward.col8_surj z
    refine (Cert.Reference22Ideal.Hand.v33 _ _ r h e).trans ?_
    exact (Cert.Kernel22Ideal.Hand.queries_at m c r h e).symm
  · rw [Cert.Reference22Ideal.Read.val_main_v35_eq, a0, a2]
    funext i
    obtain ⟨r, z, rfl⟩ : ∃ (r : Fin 8192) (z : Fin 512), i = ix2 r z := ⟨i 0, i 1, eq_ix2 i⟩
    obtain ⟨h, e, rfl⟩ := Cert.Forward.col8_surj z
    refine (Cert.Reference22Ideal.Hand.v35 _ _ r h e).trans ?_
    exact (Cert.Kernel22Ideal.Hand.keys_at m c r h e).symm

end Cert.Proof

end
-- ==== Proof.XaqFwd.lean ====
/-
  A plain product: the cross-attention's queries.
-/
module

public import proofs.«01_k».proof.Defs
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Reference23Ideal.Read
public import proofs.«01_k».proof.Proof.Up
public import Idealize.ShloMosaic.Lib.Pointwise
public import Idealize.ShloMosaic.Lib.Pipeline.ValueKit

@[expose] public section

set_option maxRecDepth 16384

noncomputable section

namespace Cert.Kernel23Ideal.Hand

open Cert.Kernel23Ideal Cert.Kernel23Ideal.Gen
open Idealize.ShloMosaic Idealize.ShloMosaic.TcCoe Idealize.SL.Sem
open Idealize.ShloMosaic.Pipeline (Dat)

theorem block_at (a : FVec Ideal S1024x1024 .bf16) (b : FVec Ideal S1024x512 .bf16) (i : Fin 1024) (j : Fin 512) :
    k0_pay1 (F := Ideal) a b (ix2 i j) = ∑ z, a (ix2 i z) * b (ix2 z j) := by
  pointwise [k0_pay1]

variable (m : (ℓ : Loc nD τ sig) → Buf (Elt Ideal) ℓ) (c : Dev nD)

abbrev argH : FVec Ideal S8192x1024 .f32 := m ((c.tc : Thread nD τ).loc main_arg0)
abbrev argU : FVec Ideal S1024x512 .f32 := m ((c.tc : Thread nD τ).loc main_arg1)

theorem entry_h : V m c main_v0 = truncf (F := Ideal) (s := S8192x1024) (φ := .f32) .bf16 (argH m c) bitsLt_bf16_f32 := by entry_read; rfl
theorem entry_u : V m c main_v1 = truncf (F := Ideal) (s := S1024x512) (φ := .f32) .bf16 (argU m c) bitsLt_bf16_f32 := by entry_read; rfl

theorem idx : ∀ t : Fin cfg0.N, win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

section Point

variable (t : Fin cfg0.N) (i : Fin 1024) (j : Fin 512) (z : Fin 1024)

/-- A row of the block at a point. -/
def brow : Fin 8192 := ⟨t.val * 1024 + i.val, by have := lt_of_lt_of_eq t.isLt N_0; omega⟩

theorem blk_h : (iblk m c 0 t : FVec Ideal S1024x1024 .bf16) (ix2 i z) = argH m c (ix2 (brow t i) z) := by
  have h := idx t
  have e1 : (iblk m c 0 t : FVec Ideal S1024x1024 .bf16) (ix2 i z) = (V m c main_v0 : FVec Ideal S8192x1024 .bf16) (ix2 (brow t i) z) := by
    refine congrArg (V m c main_v0) ?_
    blk_ext [h, brow]
  refine e1.trans ?_
  rw [entry_h]
  rfl

theorem blk_u : (iblk m c 1 t : FVec Ideal S1024x512 .bf16) (ix2 z j) = argU m c (ix2 z j) := by
  have h := idx t
  have e1 : (iblk m c 1 t : FVec Ideal S1024x512 .bf16) (ix2 z j) = (V m c main_v1 : FVec Ideal S1024x512 .bf16) (ix2 z j) := by
    refine congrArg (V m c main_v1) ?_
    blk_ext [h]
  refine e1.trans ?_
  rw [entry_u]
  rfl

end Point

/-- The kernel's result. -/
def result : FVec Ideal S8192x512 .f32 := fun i => ∑ z, argH m c (ix2 (i 0) z) * argU m c (ix2 z (i 1))

theorem final2 : (dats m 0 c).arrAt 2 cfg0.N = result m c := by
  refine (dats m 0 c).arrAt_eq_of_covers 2 _ (by decide +kernel) fun t _ y => ?_
  have hi := idx t
  blk_simp
  rw [after0_2]
  obtain ⟨i, j, rfl⟩ : ∃ (i : Fin 1024) (j : Fin 512), y = ix2 i j := ⟨y 0, y 1, eq_ix2 y⟩
  have he : (win0_2.blk t).view.emb (ix2 i j : S1024x512.Idx) = (ix2 (brow t i) j : S8192x512.Idx) := by blk_ext [hi, brow]
  refine Eq.trans ?_ (congrArg (result m c) he).symm
  have ho : out0_2 (iblk m c 0 t) (iblk m c 1 t) = k0_pay1 (F := Ideal) (iblk m c 0 t) (iblk m c 1 t) := by
    frame_out
  rw [ho]
  refine (block_at _ _ i j).trans ?_
  simp only [blk_h, blk_u]
  rfl

end Cert.Kernel23Ideal.Hand

namespace Cert.Reference23Ideal.Hand

open Cert.Reference23Ideal Cert.Reference23Ideal.Gen Cert.Reference23Ideal.Read
open Idealize.ShloMosaic Idealize.ShloMosaic.TcCoe

theorem last (x0 : FVec Ideal S8192x1024 .f32) (x1 : FVec Ideal S1024x512 .f32) (r : Fin 8192) (e : Fin 512) :
    val_main_v0 (F := Ideal) x0 x1 (ix2 r e) = ∑ z, x0 (ix2 r z) * x1 (ix2 z e) := by
  pointwise [val_main_v0]

end Cert.Reference23Ideal.Hand

namespace Cert.Proof

open Cert
open Idealize.ShloMosaic Idealize.ShloMosaic.TcCoe Idealize.SL.Sem

theorem xaq_frame_reference : Cert.quiescent_Reference23Ideal := fun m ρ _ =>
  (θ_run Cert.Reference23Ideal.defs _ _).mono
    (fun r h => ⟨fun c => (h c).2, sem_eq_zero_of_no_sems (by decide) r.2⟩) (Cert.Reference23Ideal.Value.run m ρ)

theorem xaq_algebraic : Cert.algebraic_Kernel23Ideal_Reference23Ideal := by
  intro m g m' g' _ hagree
  refine ⟨fun c => Cert.Kernel23Ideal.Hand.result m c, (θ_run _ _ _).mono (fun r h c => ⟨((h.2 c).1 2).trans (Cert.Kernel23Ideal.Hand.final2 m c), h.1 c⟩)
    (θ_run_and (Cert.Kernel23Ideal.Gen.unchanged m g) (Cert.Kernel23Ideal.Gen.run_main m g)),
    (θ_run _ _ _).mono (fun r h c => ?_) (Cert.Reference23Ideal.Value.run m' g')⟩
  obtain ⟨h0, h1⟩ := h c
  obtain ⟨a0, a1⟩ := hagree c
  refine ⟨h0.trans ?_, h1⟩
  rw [Cert.Reference23Ideal.Read.val_main_v0_eq, a0, a1]
  funext i
  obtain ⟨r, e, rfl⟩ : ∃ (r : Fin 8192) (e : Fin 512), i = ix2 r e := ⟨i 0, i 1, eq_ix2 i⟩
  exact Cert.Reference23Ideal.Hand.last _ _ r e

end Cert.Proof

end
-- ==== Proof.MemFwd.lean ====
/-
  The memory: its norm, its product and the keys' norm.
-/
module

public import proofs.«01_k».proof.Defs
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Reference24Ideal.Read
public import proofs.«01_k».proof.Proof.MemRef
public import proofs.«01_k».proof.Proof.XaHead
public import Idealize.ShloMosaic.Lib.Pointwise
public import Idealize.ShloMosaic.Lib.Pipeline.ValueKit

@[expose] public section

set_option maxRecDepth 16384

noncomputable section

namespace Cert.Kernel24Ideal.Hand

open Cert.Kernel24Ideal Cert.Kernel24Ideal.Gen Cert.Norm Cert.Memory
open Cert.Xa (col byCol byCol_col col_surj)
open Idealize.ShloMosaic Idealize.ShloMosaic.TcCoe Idealize.SL.Sem
open Idealize.ShloMosaic.Pipeline (Dat)

section Body

variable (X : FVec Ideal S256x1024 .f32) (G : FVec Ideal S1x1024 .f32) (W : FVec Ideal S1024x1024 .bf16)
  (r : Fin 256) (h : Fin 4) (e : Fin 128) (i j : Fin 1024)

theorem pay3_at : k0_pay3 (F := Ideal) X G (ix2 r i) = normed (fun r e => X (ix2 r e)) (fun e => G (ix2 0 e)) r i := by
  pointwise [k0_pay3]
  rfl

theorem pay4_at : k0_pay4 (F := Ideal) X G (ix2 r i) = normed (fun r e => X (ix2 r e)) (fun e => G (ix2 0 e)) r i := by
  pointwise [k0_pay4]
  rw [pay3_at]

theorem pay5_at : k0_pay5 (F := Ideal) X G W (ix2 r j) = keyVal (fun r e => X (ix2 r e)) (fun e => G (ix2 0 e)) (fun e j => W (ix2 e j)) r j := by
  pointwise [k0_pay5]
  simp only [pay3_at]
  rfl

variable (K : FVec Ideal S256x1024 .f32) (k : FVec Ideal S1x128 .f32)

/-- The heads of the keys. -/
def heads : Fin 4 → FVec Ideal S256x128 .f32
  | 0 => extractStridedSlice S256x128 ![0, 0] K slices_S256x1024_o0_0_S256x128
  | 1 => extractStridedSlice S256x128 ![0, 128] K slices_S256x1024_o0_128_S256x128
  | 2 => extractStridedSlice S256x128 ![0, 256] K slices_S256x1024_o0_256_S256x128
  | 3 => extractStridedSlice S256x128 ![0, 384] K slices_S256x1024_o0_384_S256x128

theorem heads_at : heads K h (ix2 r e : S256x128.Idx) = K (ix2 r (front h e)) := by
  fin_cases h <;> (pointwise [heads]; blk_ext [front, col])

/-- A head of the keys, normed. -/
def key (s : FVec Ideal S256x128 .f32) : FVec Ideal S256x128 .bf16 := k0_pay1 (F := Ideal) s (k0_pay10 k) (mulf s s)

theorem key_at (s : FVec Ideal S256x128 .f32) : key k s (ix2 r e : S256x128.Idx) = s (ix2 r e) * inv headWidth (fun e => s (ix2 r e)) * k (ix2 0 e) := by
  pointwise [key, k0_pay1, k0_pay10]
  rfl

theorem key_0 : k0_pay6 (F := Ideal) X G W k = key k (heads (k0_pay5 X G W) 0) := rfl
theorem key_1 : k0_pay7 (F := Ideal) K k = key k (heads K 1) := rfl
theorem key_2 : k0_pay8 (F := Ideal) K k = key k (heads K 2) := rfl
theorem key_3 : k0_pay1 (F := Ideal) (k0_pay9 K) (k0_pay10 k) (k0_pay11 K) = key k (heads K 3) := rfl

/-- The keys, normed head by head. -/
def keysNormed : FVec Ideal S256x512 .bf16 := fun i =>
  byCol (fun h e => K (ix2 (i 0) (front h e)) * inv headWidth (fun e => K (ix2 (i 0) (front h e))) * k (ix2 0 e)) (i 1)

theorem keysNormed_at : keysNormed K k (ix2 r (col h e) : S256x512.Idx)
    = K (ix2 r (front h e)) * inv headWidth (fun e => K (ix2 r (front h e))) * k (ix2 0 e) :=
  byCol_col (fun h e => K (ix2 r (front h e)) * inv headWidth (fun e => K (ix2 r (front h e))) * k (ix2 0 e)) h e

theorem piece (o : ℕ) (inb) (ho : o = 128 * h.val) (x : S256x128.Idx) :
    key k (heads K h) x = keysNormed K k ((Rect.unit (s := S256x512) ![0, o] ![256, 128] inb).emb x) := by
  obtain ⟨r, e, rfl⟩ : ∃ (r : Fin 256) (e : Fin 128), x = ix2 r e := ⟨x 0, x 1, eq_ix2 x⟩
  have he : (Rect.unit (s := S256x512) ![0, o] ![256, 128] inb).emb (ix2 r e : S256x128.Idx) = (ix2 r (col h e) : S256x512.Idx) := by
    refine funext fun a => Fin.ext ?_
    rw [Rect.emb_apply]
    fin_cases a
    · show 0 + 1 * r.val = r.val
      omega
    · show o + 1 * e.val = 128 * h.val + e.val
      omega
  refine Eq.trans ?_ (congrArg (keysNormed K k) he).symm
  rw [keysNormed_at, key_at]
  simp only [heads_at]

theorem leaves_keys : out0_6 (F := Ideal) X G W k = keysNormed (k0_pay5 X G W) k := by
  have hp : ∀ y, View.canon (Val := Elt Ideal) (s := S256x512) (e := .bf16)
      [⟨r0_7, key k (heads (k0_pay5 X G W) 3)⟩, ⟨r0_6, key k (heads (k0_pay5 X G W) 2)⟩, ⟨r0_5, key k (heads (k0_pay5 X G W) 1)⟩,
       ⟨r0_4, key k (heads (k0_pay5 X G W) 0)⟩] y = keysNormed (k0_pay5 X G W) k y := by
    intro y
    refine View.canon_apply_of_pieces (Val := Elt Ideal) (e := .bf16) (keysNormed (k0_pay5 X G W) k) _ ?_ y ?_
    swap
    · exact View.cover_of_tiled _ ![256, 128] rfl y
    simp only [List.forall_mem_cons, List.forall_mem_nil, and_true]
    exact ⟨piece 3 _ k 384 _ rfl, piece 2 _ k 256 _ rfl, piece 1 _ k 128 _ rfl, piece 0 _ k 0 _ rfl, fun _ h => absurd h List.not_mem_nil⟩
  refine Eq.trans ?_ (funext hp)
  rw [← key_0, ← key_1, ← key_2, ← key_3]
  unfold out0_6 k0_pay12
  frame_out

theorem pay2_at (y : Fin 512) : k0_pay2 (F := Ideal) K (ix2 r y : S256x512.Idx) = K (ix2 r ⟨512 + y.val, by omega⟩) := by
  pointwise [k0_pay2]
  blk_ext []

end Body

variable (m : (ℓ : Loc nD τ sig) → Buf (Elt Ideal) ℓ) (c : Dev nD)

abbrev argM : FVec Ideal S256x1024 .f32 := m ((c.tc : Thread nD τ).loc main_arg0)
abbrev argG : FVec Ideal S1024 .f32 := m ((c.tc : Thread nD τ).loc main_arg1)
abbrev argW : FVec Ideal S1024x1024 .f32 := m ((c.tc : Thread nD τ).loc main_arg2)
abbrev argK : FVec Ideal S128 .f32 := m ((c.tc : Thread nD τ).loc main_arg3)

abbrev mem : Fin 256 → Fin 1024 → EReal := fun r e => argM m c (ix2 r e)
abbrev gain : Fin 1024 → EReal := fun e => argG m c (ix1 e)
abbrev mat : Fin 1024 → Fin 1024 → EReal := fun e j => argW m c (ix2 e j)

theorem entry_g : V m c main_v0 = shapeCast (s := S1024) S1x1024 (argG m c) shapeCasts_S1024_S1x1024 := by
  entry_read
  rfl
theorem entry_w : V m c main_v1 = truncf (F := Ideal) (s := S1024x1024) (φ := .f32) .bf16 (argW m c) bitsLt_bf16_f32 := by
  entry_read
  rfl
theorem entry_k : V m c main_v2 = shapeCast (s := S128) S1x128 (argK m c) shapeCasts_S128_S1x128 := by
  entry_read
  rfl

/-- Every window is its whole array. -/
theorem idx : ∀ t : Fin cfg0.N, win0_0.index t 0 = 0 ∧ win0_0.index t 1 = 0 ∧ win0_1.index t 0 = 0 ∧ win0_1.index t 1 = 0 ∧ win0_2.index t 0 = 0 ∧ win0_2.index t 1 = 0
    ∧ win0_3.index t 0 = 0 ∧ win0_3.index t 1 = 0 ∧ win0_4.index t 0 = 0 ∧ win0_4.index t 1 = 0 ∧ win0_5.index t 0 = 0 ∧ win0_5.index t 1 = 0
    ∧ win0_6.index t 0 = 0 ∧ win0_6.index t 1 = 0 ∧ win0_7.index t 0 = 0 ∧ win0_7.index t 1 = 0 :=
  (by decide +kernel : ∀ t : Fin grid0.N, _)

section Point

variable (t : Fin cfg0.N)

theorem blk_m : (iblk m c 0 t : FVec Ideal S256x1024 .f32) = argM m c := by
  refine Eq.trans (b := (V m c main_arg0 : FVec Ideal S256x1024 .f32)) ?_ (V_main_arg0 m c)
  funext y
  refine congrArg (V m c main_arg0) ?_
  blk_ext [idx t]

theorem blk_g : (iblk m c 1 t : FVec Ideal S1x1024 .f32) = shapeCast (s := S1024) S1x1024 (argG m c) shapeCasts_S1024_S1x1024 := by
  refine Eq.trans ?_ (entry_g m c)
  funext y
  refine congrArg (V m c main_v0) ?_
  blk_ext [idx t]

theorem blk_w : (iblk m c 2 t : FVec Ideal S1024x1024 .bf16) = truncf (F := Ideal) (s := S1024x1024) (φ := .f32) .bf16 (argW m c) bitsLt_bf16_f32 := by
  refine Eq.trans ?_ (entry_w m c)
  funext y
  refine congrArg (V m c main_v1) ?_
  blk_ext [idx t]

theorem blk_k : (iblk m c 3 t : FVec Ideal S1x128 .f32) = shapeCast (s := S128) S1x128 (argK m c) shapeCasts_S128_S1x128 := by
  refine Eq.trans ?_ (entry_k m c)
  funext y
  refine congrArg (V m c main_v2) ?_
  blk_ext [idx t]

theorem row_gain (e : Fin 1024) : shapeCast (s := S1024) S1x1024 (argG m c) shapeCasts_S1024_S1x1024 (ix2 0 e) = gain m c e := by pointwise []
theorem row_kgain (e : Fin 128) : shapeCast (s := S128) S1x128 (argK m c) shapeCasts_S128_S1x128 (ix2 0 e) = argK m c (ix1 e) := by pointwise []

theorem product_at (r : Fin 256) (j : Fin 1024) :
    k0_pay5 (F := Ideal) (iblk m c 0 t) (iblk m c 1 t) (iblk m c 2 t) (ix2 r j) = keyVal (mem m c) (gain m c) (mat m c) r j := by
  refine (pay5_at _ _ _ r j).trans ?_
  rw [blk_m, blk_g, blk_w]
  simp only [row_gain]
  rfl

end Point

/-- The four results: the normed memory, the keys and values, the normed keys, the values. -/
def resN : FVec Ideal S256x1024 .bf16 := fun i => normed (mem m c) (gain m c) (i 0) (i 1)
def resP : FVec Ideal S256x1024 .f32 := fun i => keyVal (mem m c) (gain m c) (mat m c) (i 0) (i 1)
def resK : FVec Ideal S256x512 .bf16 := fun i =>
  byCol (fun h e => head (mem m c) (gain m c) (mat m c) h (i 0) e * inv headWidth (head (mem m c) (gain m c) (mat m c) h (i 0)) * argK m c (ix1 e)) (i 1)
def resV : FVec Ideal S256x512 .bf16 := fun i => keyVal (mem m c) (gain m c) (mat m c) (i 0) ⟨512 + (i 1).val, by have := (i 1).isLt; change (i 1).val < 512 at this; omega⟩

theorem resK_at (r : Fin 256) (h : Fin 4) (e : Fin 128) : resK m c (ix2 r (col h e) : S256x512.Idx)
    = head (mem m c) (gain m c) (mat m c) h r e * inv headWidth (head (mem m c) (gain m c) (mat m c) h r) * argK m c (ix1 e) :=
  byCol_col (fun h e => head (mem m c) (gain m c) (mat m c) h r e * inv headWidth (head (mem m c) (gain m c) (mat m c) h r) * argK m c (ix1 e)) h e

theorem final4 : (dats m 0 c).arrAt 4 cfg0.N = resN m c := by
  refine (dats m 0 c).arrAt_eq_of_covers 4 _ (by decide +kernel) fun t _ y => ?_
  blk_simp
  rw [after0_4]
  obtain ⟨r, e, rfl⟩ : ∃ (r : Fin 256) (e : Fin 1024), y = ix2 r e := ⟨y 0, y 1, eq_ix2 y⟩
  have he : (win0_4.blk t).view.emb (ix2 r e : S256x1024.Idx) = (ix2 r e : S256x1024.Idx) := by blk_ext [idx t]
  refine Eq.trans ?_ (congrArg (resN m c) he).symm
  have ho : out0_4 (iblk m c 0 t) (iblk m c 1 t) (iblk m c 2 t) (iblk m c 3 t) = k0_pay4 (F := Ideal) (iblk m c 0 t) (iblk m c 1 t) := by frame_out
  rw [ho]
  refine (pay4_at _ _ r e).trans ?_
  rw [blk_m, blk_g]
  simp only [row_gain]
  rfl

theorem final5 : (dats m 0 c).arrAt 5 cfg0.N = resP m c := by
  refine (dats m 0 c).arrAt_eq_of_covers 5 _ (by decide +kernel) fun t _ y => ?_
  blk_simp
  rw [after0_5]
  obtain ⟨r, e, rfl⟩ : ∃ (r : Fin 256) (e : Fin 1024), y = ix2 r e := ⟨y 0, y 1, eq_ix2 y⟩
  have he : (win0_5.blk t).view.emb (ix2 r e : S256x1024.Idx) = (ix2 r e : S256x1024.Idx) := by blk_ext [idx t]
  refine Eq.trans ?_ (congrArg (resP m c) he).symm
  have ho : out0_5 (iblk m c 0 t) (iblk m c 1 t) (iblk m c 2 t) (iblk m c 3 t) = k0_pay5 (F := Ideal) (iblk m c 0 t) (iblk m c 1 t) (iblk m c 2 t) := by frame_out
  rw [ho]
  exact product_at m c t r e

theorem final6 : (dats m 0 c).arrAt 6 cfg0.N = resK m c := by
  refine (dats m 0 c).arrAt_eq_of_covers 6 _ (by decide +kernel) fun t _ y => ?_
  blk_simp
  rw [after0_6]
  obtain ⟨r, z, rfl⟩ : ∃ (r : Fin 256) (z : Fin 512), y = ix2 r z := ⟨y 0, y 1, eq_ix2 y⟩
  have he : (win0_6.blk t).view.emb (ix2 r z : S256x512.Idx) = (ix2 r z : S256x512.Idx) := by blk_ext [idx t]
  refine Eq.trans ?_ (congrArg (resK m c) he).symm
  obtain ⟨h, e, rfl⟩ := col_surj z
  refine (congrFun (leaves_keys _ _ _ _) _).trans ?_
  refine (keysNormed_at r h e _ _).trans ?_
  rw [resK_at]
  simp only [product_at]
  rw [blk_k, row_kgain]
  rfl

theorem final7 : (dats m 0 c).arrAt 7 cfg0.N = resV m c := by
  refine (dats m 0 c).arrAt_eq_of_covers 7 _ (by decide +kernel) fun t _ y => ?_
  blk_simp
  rw [after0_7]
  obtain ⟨r, z, rfl⟩ : ∃ (r : Fin 256) (z : Fin 512), y = ix2 r z := ⟨y 0, y 1, eq_ix2 y⟩
  have he : (win0_7.blk t).view.emb (ix2 r z : S256x512.Idx) = (ix2 r z : S256x512.Idx) := by blk_ext [idx t]
  refine Eq.trans ?_ (congrArg (resV m c) he).symm
  have ho : out0_7 (iblk m c 0 t) (iblk m c 1 t) (iblk m c 2 t) (iblk m c 3 t)
      = k0_pay2 (F := Ideal) (k0_pay5 (iblk m c 0 t) (iblk m c 1 t) (iblk m c 2 t)) := by
    unfold out0_7 k0_pay12
    frame_out
  rw [ho]
  refine (pay2_at r _ z).trans ?_
  exact product_at m c t r _

end Cert.Kernel24Ideal.Hand

namespace Cert.Reference24Ideal.Hand

open Cert.Reference24Ideal Cert.Reference24Ideal.Gen Cert.Reference24Ideal.Read Cert.Norm Cert.Memory
open Cert.Xa (col byCol byCol_col col_surj)
open Cert.Reference3Ideal.Hand (fst_col snd_col)
open Idealize.ShloMosaic Idealize.ShloMosaic.TcCoe

variable (x0 : FVec Ideal S256x1024 .f32) (x1 : FVec Ideal S1024 .f32) (x2 : FVec Ideal S1024x1024 .f32) (x3 : FVec Ideal S128 .f32)

abbrev mem : Fin 256 → Fin 1024 → EReal := fun r e => x0 (ix2 r e)
abbrev gain : Fin 1024 → EReal := fun e => x1 (ix1 e)
abbrev mat : Fin 1024 → Fin 1024 → EReal := fun e j => x2 (ix2 e j)

variable (r : Fin 256) (h : Fin 4) (e : Fin 128) (i j : Fin 1024)

theorem v7 : val_main_v7 (F := Ideal) x0 (ix2 r 0) = inv width (mem x0 r) := by
  pointwise [val_main_v7, val_main_v6, val_main_v5, val_main_v4, val_main_v3, val_main_v2, val_main_v1, val_main_v0, val_main_cst, val_main_cst_0, val_main_cst_1]
  rfl

theorem v12 : val_main_v12 (F := Ideal) x0 x1 (ix2 r i) = normed (mem x0) (gain x1) r i := by
  pointwise [val_main_v12, val_main_v11, val_main_v10, val_main_v9, val_main_v8]
  rw [v7]
  rfl

theorem v13 : val_main_v13 (F := Ideal) x0 x1 x2 (ix2 r j) = keyVal (mem x0) (gain x1) (mat x2) r j := by
  pointwise [val_main_v13]
  simp only [v12]
  rfl

theorem v15 : val_main_v15 (F := Ideal) x0 x1 x2 (ix3 r h e) = head (mem x0) (gain x1) (mat x2) h r e := by
  pointwise [val_main_v15, val_main_v14]
  rw [v13, Cert.Reference11Ideal.Hand.front_comm]
  rfl

theorem v23 : val_main_v23 (F := Ideal) x0 x1 x2 (ix3 r h 0) = inv headWidth (head (mem x0) (gain x1) (mat x2) h r) := by
  pointwise [val_main_v23, val_main_v22, val_main_v21, val_main_v20, val_main_v19, val_main_v18, val_main_v17, val_main_v16, val_main_cst_2, val_main_cst_3, val_main_cst_4]
  simp only [v15]
  rfl

theorem v28 : val_main_v28 (F := Ideal) x0 x1 x2 x3 (ix3 r h e)
    = head (mem x0) (gain x1) (mat x2) h r e * inv headWidth (head (mem x0) (gain x1) (mat x2) h r) * x3 (ix1 e) := by
  pointwise [val_main_v28, val_main_v27, val_main_v26, val_main_v25, val_main_v24]
  rw [v15, v23]

theorem v29 : val_main_v29 (F := Ideal) x0 x1 (ix2 r i) = normed (mem x0) (gain x1) r i := by
  pointwise [val_main_v29]
  rw [v12]

theorem v31 : val_main_v31 (F := Ideal) x0 x1 x2 x3 (ix2 r (col h e))
    = head (mem x0) (gain x1) (mat x2) h r e * inv headWidth (head (mem x0) (gain x1) (mat x2) h r) * x3 (ix1 e) := by
  pointwise [val_main_v31, val_main_v30]
  simp only [fst_col, snd_col]
  exact v28 x0 x1 x2 x3 r h e

theorem v33 (z : Fin 512) : val_main_v33 (F := Ideal) x0 x1 x2 (ix2 r z) = keyVal (mem x0) (gain x1) (mat x2) r ⟨512 + z.val, by omega⟩ := by
  pointwise [val_main_v33, val_main_v32]
  exact v13 x0 x1 x2 r _

end Cert.Reference24Ideal.Hand

namespace Cert.Proof

open Cert
open Idealize.ShloMosaic Idealize.ShloMosaic.TcCoe Idealize.SL.Sem

theorem memf_frame_reference : Cert.quiescent_Reference24Ideal := fun m ρ _ =>
  (θ_run Cert.Reference24Ideal.defs _ _).mono
    (fun r h => ⟨fun c => (h c).2.2.2.2, sem_eq_zero_of_no_sems (by decide) r.2⟩) (Cert.Reference24Ideal.Value.run m ρ)

theorem memf_algebraic : Cert.algebraic_Kernel24Ideal_Reference24Ideal := by
  intro m g m' g' _ hagree
  refine ⟨fun c => Cert.Kernel24Ideal.Hand.resN m c, fun c => Cert.Kernel24Ideal.Hand.resP m c, fun c => Cert.Kernel24Ideal.Hand.resK m c, fun c => Cert.Kernel24Ideal.Hand.resV m c,
    (θ_run _ _ _).mono (fun r h c => ⟨((h.2 c).1 4).trans (Cert.Kernel24Ideal.Hand.final4 m c), ((h.2 c).1 5).trans (Cert.Kernel24Ideal.Hand.final5 m c),
      ((h.2 c).1 6).trans (Cert.Kernel24Ideal.Hand.final6 m c), ((h.2 c).1 7).trans (Cert.Kernel24Ideal.Hand.final7 m c), h.1 c⟩)
    (θ_run_and (Cert.Kernel24Ideal.Gen.unchanged m g) (Cert.Kernel24Ideal.Gen.run_main m g)),
    (θ_run _ _ _).mono (fun r h c => ?_) (Cert.Reference24Ideal.Value.run m' g')⟩
  obtain ⟨h0, h1, h2, h3, h4⟩ := h c
  obtain ⟨a0, a1, a2, a3⟩ := hagree c
  refine ⟨h0.trans ?_, h1.trans ?_, h2.trans ?_, h3.trans ?_, h4⟩
  · rw [Cert.Reference24Ideal.Read.val_main_v29_eq, a0, a1]
    funext i
    obtain ⟨r, z, rfl⟩ : ∃ (r : Fin 256) (z : Fin 1024), i = ix2 r z := ⟨i 0, i 1, eq_ix2 i⟩
    exact Cert.Reference24Ideal.Hand.v29 _ _ r z
  · rw [Cert.Reference24Ideal.Read.val_main_v13_eq, a0, a1, a2]
    funext i
    obtain ⟨r, z, rfl⟩ : ∃ (r : Fin 256) (z : Fin 1024), i = ix2 r z := ⟨i 0, i 1, eq_ix2 i⟩
    exact Cert.Reference24Ideal.Hand.v13 _ _ _ r z
  · rw [Cert.Reference24Ideal.Read.val_main_v31_eq, a0, a1, a2, a3]
    funext i
    obtain ⟨r, z, rfl⟩ : ∃ (r : Fin 256) (z : Fin 512), i = ix2 r z := ⟨i 0, i 1, eq_ix2 i⟩
    obtain ⟨h, e, rfl⟩ := Cert.Xa.col_surj z
    exact (Cert.Reference24Ideal.Hand.v31 _ _ _ _ r h e).trans (Cert.Kernel24Ideal.Hand.resK_at m c r h e).symm
  · rw [Cert.Reference24Ideal.Read.val_main_v33_eq, a0, a1, a2]
    funext i
    obtain ⟨r, z, rfl⟩ : ∃ (r : Fin 256) (z : Fin 512), i = ix2 r z := ⟨i 0, i 1, eq_ix2 i⟩
    exact Cert.Reference24Ideal.Hand.v33 _ _ _ r z

end Cert.Proof

end
-- ==== Proof.Loss.lean ====
/-
  The loss with its product: what the kernel leaves, and that it is the reference's. The kernel sums the product over
  four blocks of the inner axis, takes the difference to the target in four slabs of a block's rows, and adds its squares
  up column by column over all rows.
-/
module

public import proofs.«01_k».proof.Defs
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal.Run
public import proofs.«01_k».proof.Proof.Gen.Reference12Ideal.Run
public import proofs.«01_k».proof.Proof.Gen.Reference12Ideal.Read
public import proofs.«01_k».proof.Proof.H2
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Reference12Ideal.Hand

open Cert.Reference12Ideal Cert.Reference12Ideal.Gen Cert.Reference12Ideal.Read
open Idealize.ShloMosaic Idealize.ShloMosaic.TcCoe

variable (x : FVec Ideal S8192x1024 .f32) (a : FVec Ideal S8192x4096 .f32) (w : FVec Ideal S4096x1024 .f32) (t : FVec Ideal S8192x1024 .f32)

/-- The product of row `r`. -/
abbrev reach (r : Fin 8192) (e : Fin 1024) : EReal := ∑ y, a (ix2 r y) * w (ix2 y e)

/-- The difference to the target. -/
abbrev diff (r : Fin 8192) (e : Fin 1024) : EReal := x (ix2 r e) + reach a w r e - t (ix2 r e)

/-- The gradient of the loss in an entry of which `d` is the difference to the target. -/
abbrev slope (d : EReal) : EReal := d * Ideal.ofBits .f32 0x3A800000#32

theorem half : Ideal.ofBits .f32 0x3F000000#32 = (((1 : ℝ) / 2 : ℝ) : EReal) := by simp [Ideal.ofBits, Ideal.ieee, -EReal.coe_mul]; norm_num
theorem two : Ideal.ofBits .f32 0x40000000#32 = ((2 : ℝ) : EReal) := by simp [Ideal.ofBits, Ideal.ieee, -EReal.coe_mul]; norm_num
theorem wide : Ideal.ofBits .f32 0x44800000#32 = ((1024 : ℝ) : EReal) := by simp [Ideal.ofBits, Ideal.ieee, -EReal.coe_mul]; norm_num
theorem part : Ideal.ofBits .f32 0x3A800000#32 = (((1 : ℝ) / 1024 : ℝ) : EReal) := by simp [Ideal.ofBits, Ideal.ieee, -EReal.coe_mul]; norm_num
theorem halfpart : Ideal.ofBits .f32 0x3A000000#32 = (((1 : ℝ) / 2048 : ℝ) : EReal) := by simp [Ideal.ofBits, Ideal.ieee, -EReal.coe_mul]; norm_num

theorem v2 (r : Fin 8192) (e : Fin 1024) : val_main_v2 (F := Ideal) x a w t (ix2 r e) = diff x a w t r e := by
  pointwise [val_main_v2, val_main_v1, val_main_v0]

theorem over (z : EReal) : Ideal.div z (Ideal.ofBits .f32 0x44800000#32) = z * (((1 : ℝ) / 1024 : ℝ) : EReal) := by
  rw [wide, Ideal.div_coe (by norm_num)]

theorem v16 (r : Fin 8192) (e : Fin 1024) : val_main_v16 (F := Ideal) x a w t (ix2 r e) = slope (diff x a w t r e) := by
  pointwise [val_main_v16, val_main_v15, val_main_v14, val_main_v13, val_main_v12, val_main_v11, val_main_v5, val_main_v4, val_main_cst, val_main_cst_4,
    val_main_cst_5, val_main_cst_6]
  rw [v2, over, half, two, slope, part, ← mul_assoc, ← EReal.coe_mul, ← EReal.coe_mul, mul_comm]
  norm_num

/-- A scale goes through a sum. -/
theorem scaled {ι : Type} (s : Finset ι) (f : ι → EReal) (k : ℝ) (hk : 0 ≤ k) : ∑ i ∈ s, f i * (k : EReal) = (∑ i ∈ s, f i) * (k : EReal) := by
  classical
  induction s using Finset.induction_on with
  | empty => simp
  | insert i s hi ih =>
    rw [Finset.sum_insert hi, Finset.sum_insert hi, ih, EReal.right_distrib_of_nonneg_of_ne_top (EReal.coe_nonneg.2 hk) (EReal.coe_ne_top k)]

theorem v10 (i : S_.Idx) : val_main_v10 (F := Ideal) x a w t i
    = (∑ e, ∑ r, diff x a w t r e * diff x a w t r e) * Ideal.ofBits .f32 0x3A000000#32 := by
  have h8 : ∀ r : Fin 8192, val_main_v8 (F := Ideal) x a w t (ix1 r) = (∑ e, diff x a w t r e * diff x a w t r e) * (((1 : ℝ) / 1024 : ℝ) : EReal) := fun r => by
    pointwise [val_main_v8, val_main_v7, val_main_v6, val_main_v3, val_main_cst_0, val_main_cst_1]
    simp only [v2]
    rw [over]
  have h9 : ∑ j : S8192.Idx, val_main_v8 (F := Ideal) x a w t j = (∑ e, ∑ r, diff x a w t r e * diff x a w t r e) * (((1 : ℝ) / 1024 : ℝ) : EReal) := by
    rw [sum_idx1]
    simp only [h8]
    rw [scaled _ _ _ (by norm_num), Finset.sum_comm]
  rw [val_main_v10_apply, val_main_v9_apply, h9, halfpart]
  show Ideal.ofBits .f32 0x3F000000#32 * (Ideal.ofBits .f32 0x00000000#32 + _) = _
  rw [half, Ideal.ofBits_zero_f32, zero_add, mul_comm, mul_assoc, ← EReal.coe_mul]
  norm_num

end Cert.Reference12Ideal.Hand

namespace Cert.Kernel12Ideal.Hand

open Cert.Kernel12Ideal Cert.Kernel12Ideal.Gen
open Cert.Reference12Ideal.Hand (reach diff slope)
open Cert.Kernel6Ideal.Hand (rowAt slabRow part part_row down slabs_sum row0)
open Idealize.ShloMosaic Idealize.ShloMosaic.TcCoe Idealize.SL.Sem
open Idealize.ShloMosaic.Pipeline (Dat)

/-- A point's share of the product. -/
abbrev product (a b : FVec Ideal S1024x1024 .bf16) (i : S1024x1024.Idx) : EReal := ∑ y : Fin 1024, a (ix2 (i 0) y) * b (ix2 y (i 1))

theorem pay2_at (p : FVec Ideal S1024x1024 .f32) (a b : FVec Ideal S1024x1024 .bf16) (i e : Fin 1024) :
    k0_pay2 (F := Ideal) p a b (ix2 i e) = p (ix2 i e) + product a b (ix2 i e) := by
  pointwise [k0_pay2]
  rfl

section Slab

variable (x t u : FVec Ideal S256x1024 .f32) (p : FVec Ideal S1x1024 .f32)

/-- A slab of the gradient. -/
abbrev slab : FVec Ideal S256x1024 .f32 := k0_pay4 (F := Ideal) x t u
/-- The squares' sums, a slab later. -/
abbrev squares : FVec Ideal S1x1024 .f32 := k0_pay5 (F := Ideal) x t u p

theorem slab_0 : k0_pay9 (F := Ideal) x t u = slab x t u := rfl
theorem slab_1 : k0_pay13 (F := Ideal) x t u = slab x t u := rfl
theorem slab_2 : k0_pay18 (F := Ideal) x t u = slab x t u := rfl
theorem squares_0 : k0_pay10 (F := Ideal) x t u p = squares x t u p := rfl
theorem squares_1 : k0_pay15 (F := Ideal) (k0_pay14 x t u) p = squares x t u p := rfl
theorem squares_2 : k0_pay19 (F := Ideal) x t u p = squares x t u p := rfl

/-- A square. -/
abbrev sq (d : EReal) : EReal := d * d

/-- A row's difference to the target. -/
abbrev off (x t u : Fin 1024 → EReal) (e : Fin 1024) : EReal := x e + u e - t e

theorem pay3_at (i : Fin 256) (e : Fin 1024) : k0_pay3 (F := Ideal) x t u (ix2 i e : S256x1024.Idx) = off (slabRow x i) (slabRow t i) (slabRow u i) e := by
  pointwise [k0_pay3]
  rw [add_comm]

theorem slab_at (i : Fin 256) (e : Fin 1024) : slab x t u (ix2 i e : S256x1024.Idx) = slope (off (slabRow x i) (slabRow t i) (slabRow u i) e) := by
  pointwise [slab, k0_pay4]
  rw [pay3_at]

theorem squares_at (e : Fin 1024) : squares x t u p (ix2 0 e : S1x1024.Idx)
    = p (ix2 0 e) + ∑ i, off (slabRow x i) (slabRow t i) (slabRow u i) e * off (slabRow x i) (slabRow t i) (slabRow u i) e := by
  pointwise [squares, k0_pay5]
  simp only [pay3_at]

end Slab

/-- The rows of a block of the gradient. -/
def rows (X T U : FVec Ideal S1024x1024 .f32) : FVec Ideal S1024x1024 .f32 := fun y => slope (off (rowAt X (y 0)) (rowAt T (y 0)) (rowAt U (y 0)) (y 1))

theorem piece (X T U : FVec Ideal S1024x1024 .f32) (o : ℕ) (inb) (ho : o + 256 ≤ 1024) (y : (Rect.unit (s := S1024x1024) ![o, 0] ![256, 1024] inb).shape.Idx) :
    slab (part X o inb) (part T o inb) (part U o inb) y = rows X T U ((Rect.unit (s := S1024x1024) ![o, 0] ![256, 1024] inb).emb y) := by
  obtain ⟨i, e, rfl⟩ : ∃ (i : Fin 256) (e : Fin 1024), y = ix2 i e := ⟨y 0, y 1, eq_ix2 y⟩
  refine (slab_at _ _ _ i e).trans ?_
  simp only [part_row _ o inb ho]
  have he : (Rect.unit (s := S1024x1024) ![o, 0] ![256, 1024] inb).emb (ix2 i e) = (ix2 (down o ho i) e : S1024x1024.Idx) := by
    refine funext fun a => Fin.ext ?_
    rw [Rect.emb_apply]
    fin_cases a
    · show o + 1 * i.val = o + i.val
      omega
    · show 0 + 1 * e.val = e.val
      omega
  exact (congrArg (rows X T U) he).symm

theorem zeros : ∀ a : Fin S1024x1024.rank, (![0, 0] : Fin 2 → ℕ) a = 0 := by intro a; fin_cases a <;> rfl

/-- Part of the running product, read back. -/
theorem read_part (Z : FVec Ideal S1024x1024 .f32) (r : Rect S1024x1024) (L) :
    (View.whole cc0_scratch0).readCov (Val := Elt Ideal) (⟨Rect.unit ![0, 0] ![1024, 1024] inb_S1024x1024_S1024x1024_0_0, Z⟩ :: L) r.toLoadRect
      = View.ld (Val := Elt Ideal) (e' := .f32) Z r :=
  View.readCov_fill (Val := Elt Ideal) (s := S1024x1024) (e := .f32) _ inb_S1024x1024_S1024x1024_0_0 Z L r zeros

variable (m : (ℓ : Loc nD τ sig) → Buf (Elt Ideal) ℓ) (c : Dev nD)

abbrev argX : FVec Ideal S8192x1024 .f32 := m ((c.tc : Thread nD τ).loc main_arg0)
abbrev argA : FVec Ideal S8192x4096 .f32 := m ((c.tc : Thread nD τ).loc main_arg1)
abbrev argW : FVec Ideal S4096x1024 .f32 := m ((c.tc : Thread nD τ).loc main_arg2)
abbrev argT : FVec Ideal S8192x1024 .f32 := m ((c.tc : Thread nD τ).loc main_arg3)

theorem entry_a : V m c main_v0 = truncf (F := Ideal) (s := S8192x4096) (φ := .f32) .bf16 (argA m c) bitsLt_bf16_f32 := by entry_read; rfl

theorem entry_w : V m c main_v1 = truncf (F := Ideal) (s := S4096x1024) (φ := .f32) .bf16 (argW m c) bitsLt_bf16_f32 := by entry_read; rfl

theorem idx : ∀ t : Fin cfg0.N, win0_0.index t 0 = t.val / 4 ∧ win0_2.index t 0 = t.val / 4 ∧ win0_3.index t 0 = t.val / 4 ∧ win0_4.index t 0 = t.val / 4 ∧ win0_5.index t 0 = t.val / 4
    ∧ win0_0.index t 1 = t.val % 4 ∧ win0_2.index t 1 = 0 ∧ win0_3.index t 1 = 0 ∧ win0_4.index t 1 = 0 ∧ win0_5.index t 1 = 0
    ∧ win0_1.index t 0 = t.val % 4 ∧ win0_1.index t 1 = 0 ∧ win0_6.index t 0 = 0 ∧ win0_6.index t 1 = 0 :=
  (by decide +kernel : ∀ t : Fin grid0.N, _)

section Point

variable (t : Fin cfg0.N)

/-- Row `i` of the block at a point. -/
def brow (i : Fin 1024) : Fin 8192 := ⟨t.val / 4 * 1024 + i.val, by have := lt_of_lt_of_eq t.isLt N_0; omega⟩
/-- Place `y` of the inner axis of a block at a point. -/
def bcol (y : Fin 1024) : Fin 4096 := ⟨t.val % 4 * 1024 + y.val, by omega⟩

theorem blk_x (i : Fin 1024) : rowAt (iblk m c 2 t) i = fun e => argX m c (ix2 (brow t i) e) := by
  funext y
  have h := idx t
  show V m c main_arg0 _ = _
  rw [V_main_arg0]
  refine congrArg (argX m c) ?_
  blk_ext [h, brow]

theorem blk_t (i : Fin 1024) : rowAt (iblk m c 3 t) i = fun e => argT m c (ix2 (brow t i) e) := by
  funext y
  have h := idx t
  show V m c main_arg3 _ = _
  rw [V_main_arg3]
  refine congrArg (argT m c) ?_
  blk_ext [h, brow]

theorem blk_a (i y : Fin 1024) : (iblk m c 0 t : FVec Ideal S1024x1024 .bf16) (ix2 i y) = argA m c (ix2 (brow t i) (bcol t y)) := by
  have h := idx t
  have e1 : (iblk m c 0 t : FVec Ideal S1024x1024 .bf16) (ix2 i y) = (V m c main_v0 : FVec Ideal S8192x4096 .bf16) (ix2 (brow t i) (bcol t y)) := by
    refine congrArg (V m c main_v0) ?_
    blk_ext [h, brow, bcol]
  refine e1.trans ?_
  rw [entry_a]
  rfl

theorem blk_w (y e : Fin 1024) : (iblk m c 1 t : FVec Ideal S1024x1024 .bf16) (ix2 y e) = argW m c (ix2 (bcol t y) e) := by
  have h := idx t
  have e1 : (iblk m c 1 t : FVec Ideal S1024x1024 .bf16) (ix2 y e) = (V m c main_v1 : FVec Ideal S4096x1024 .bf16) (ix2 (bcol t y) e) := by
    refine congrArg (V m c main_v1) ?_
    blk_ext [h, bcol]
  refine e1.trans ?_
  rw [entry_w]
  rfl

/-- The running product past a point. -/
abbrev sum (n : ℕ) (h : n < cfg0.N) : FVec Ideal S1024x1024 .f32 := (outsAt0 m c n h).2.2.2
/-- The running product a point adds to. -/
abbrev before : FVec Ideal S1024x1024 .f32 := sum m c (t.val - 1) (Nat.lt_of_le_of_lt (Nat.sub_le _ _) t.isLt)

theorem sum_A (h : t.val % 4 = 0) : sum m c t.val t.isLt = k0_pay2 (F := Ideal) (k0_pay1 (F := Ideal)) (iblk m c 0 t) (iblk m c 1 t) := by
  unfold sum
  rw [outsAt0_A m c t h (by omega)]
  frame_out

theorem sum_B (h : ¬ t.val % 4 = 0) : sum m c t.val t.isLt = k0_pay2 (F := Ideal) (before m c t) (iblk m c 0 t) (iblk m c 1 t) := by
  unfold before sum
  by_cases h1 : t.val % 4 = 3
  · by_cases h2 : t.val < 4
    · rw [outsAt0_C m c t h h1 h2]
      frame_out
      simp only [read_unread_whole]
    · rw [outsAt0_D m c t h h1 h2]
      frame_out
      simp only [read_unread_whole]
  · rw [outsAt0_B m c t h h1]
    frame_out
    simp only [read_unread_whole]

theorem sum_last (ht : t.val % 4 = 3) (i : Fin 1024) : rowAt (sum m c t.val t.isLt) i = reach (argA m c) (argW m c) (brow t i) := by
  funext e
  have hN := lt_of_lt_of_eq t.isLt N_0
  refine (Pipeline.eq_sum_fin_of_reset_step_apply_of_flush (M := EReal) (sum m c) 4 (fun _ => 0) (fun t j => product (iblk m c 0 t) (iblk m c 1 t) j)
    (fun t h j => ?_) (fun t h j => ?_) t ht (ix2 i e)).trans ?_
  · obtain ⟨i, e, rfl⟩ : ∃ (i e : Fin 1024), j = ix2 i e := ⟨j 0, j 1, eq_ix2 j⟩
    rw [sum_A m c t h, pay2_at]
    refine congrArg (· + _) ?_
    pointwise [k0_pay1]
  · obtain ⟨i, e, rfl⟩ : ∃ (i e : Fin 1024), j = ix2 i e := ⟨j 0, j 1, eq_ix2 j⟩
    rw [sum_B m c t h, pay2_at]
  · rw [zero_add]
    refine Fin.sum_mul_add_congr fun s y hl => ?_
    refine (congrArg₂ (fun a b : EReal => a * b) (blk_a m c _ i y) (blk_w m c _ y e)).trans ?_
    have hr : brow ⟨4 * (t.val / 4) + s.val, Pipeline.run_point_lt_of_flush t ht s⟩ i = brow t i := Fin.ext (by
      show (4 * (t.val / 4) + s.val) / 4 * 1024 + i.val = t.val / 4 * 1024 + i.val
      omega)
    have hc : bcol ⟨4 * (t.val / 4) + s.val, Pipeline.run_point_lt_of_flush t ht s⟩ y = ⟨s.val * 1024 + y.val, hl⟩ := Fin.ext (by
      show (4 * (t.val / 4) + s.val) % 4 * 1024 + y.val = s.val * 1024 + y.val
      omega)
    rw [hr, hc]

/-- The block of rows at a point. -/
abbrev tRows : FVec Ideal S1024x1024 .f32 := rows (iblk m c 2 t) (iblk m c 3 t) (sum m c t.val t.isLt)

/-- The slab at row `o` of a point. -/
abbrev tSlab (o : ℕ) (inb : ∀ a, (![o, 0] : Fin 2 → ℕ) a + (![256, 1024] : Fin 2 → ℕ) a ≤ S1024x1024.size a) : FVec Ideal S256x1024 .f32 :=
  slab (part (iblk m c 2 t) o inb) (part (iblk m c 3 t) o inb) (part (sum m c t.val t.isLt) o inb)

theorem tSlab_at (o : ℕ) (inb) (ho : o + 256 ≤ 1024) (y : (Rect.unit (s := S1024x1024) ![o, 0] ![256, 1024] inb).shape.Idx) :
    tSlab m c t o inb y = tRows m c t ((Rect.unit (s := S1024x1024) ![o, 0] ![256, 1024] inb).emb y) :=
  piece _ _ _ o inb ho y

theorem out4 (ht : t.val % 4 = 3) : (outsAt0 m c t.val t.isLt).1 = tRows m c t := by
  have hp : ∀ y, View.canon (Val := Elt Ideal) (s := S1024x1024) (e := .f32)
      [⟨Rect.unit ![768, 0] ![256, 1024] inb_S1024x1024_S256x1024_768_0, tSlab m c t 768 inb_S1024x1024_S256x1024_768_0⟩,
       ⟨Rect.unit ![512, 0] ![256, 1024] inb_S1024x1024_S256x1024_512_0, tSlab m c t 512 inb_S1024x1024_S256x1024_512_0⟩,
       ⟨Rect.unit ![256, 0] ![256, 1024] inb_S1024x1024_S256x1024_256_0, tSlab m c t 256 inb_S1024x1024_S256x1024_256_0⟩,
       ⟨Rect.unit ![0, 0] ![256, 1024] inb_S1024x1024_S256x1024_0_0, tSlab m c t 0 inb_S1024x1024_S256x1024_0_0⟩] y = tRows m c t y := by
    intro y
    refine View.canon_apply_of_pieces (Val := Elt Ideal) (e := .f32) (tRows m c t) _ ?_ y ?_
    swap
    · exact View.cover_of_tiled _ ![256, 1024] rfl y
    simp only [List.forall_mem_cons, List.forall_mem_nil, and_true]
    exact ⟨tSlab_at m c t 768 _ (by decide), tSlab_at m c t 512 _ (by decide), tSlab_at m c t 256 _ (by decide), tSlab_at m c t 0 _ (by decide),
      fun _ h => absurd h List.not_mem_nil⟩
  refine Eq.trans ?_ (funext hp)
  unfold tSlab
  rw [sum_B m c t (by omega)]
  by_cases h2 : t.val < 4
  · rw [outsAt0_C m c t (by omega) ht h2]
    frame_out
    simp only [read_unread_whole, slab_0, slab_1, slab_2]
    rw [read_part, read_part, read_part, read_part]
  · rw [outsAt0_D m c t (by omega) ht h2]
    frame_out
    simp only [read_unread_whole, slab_0, slab_1, slab_2]
    rw [read_part, read_part, read_part, read_part]

theorem out5 (ht : t.val % 4 = 3) : (outsAt0 m c t.val t.isLt).2.1 = (outsAt0 m c t.val t.isLt).1 := by
  by_cases h2 : t.val < 4
  · rw [outsAt0_C m c t (by omega) ht h2]
    frame_out
    rfl
  · rw [outsAt0_D m c t (by omega) ht h2]
    frame_out
    rfl

/-- The squares' sum, a slab later. -/
abbrev next (p : FVec Ideal S1x1024 .f32) (o : ℕ) (inb : ∀ a, (![o, 0] : Fin 2 → ℕ) a + (![256, 1024] : Fin 2 → ℕ) a ≤ S1024x1024.size a) : FVec Ideal S1x1024 .f32 :=
  squares (part (iblk m c 2 t) o inb) (part (iblk m c 3 t) o inb) (part (sum m c t.val t.isLt) o inb) p

/-- The squares' sum past a point. -/
abbrev after (p : FVec Ideal S1x1024 .f32) : FVec Ideal S1x1024 .f32 :=
  next m c t (next m c t (next m c t (next m c t p 0 inb_S1024x1024_S256x1024_0_0) 256 inb_S1024x1024_S256x1024_256_0) 512 inb_S1024x1024_S256x1024_512_0) 768
    inb_S1024x1024_S256x1024_768_0

/-- A point's share of the squares' sum. -/
def tG : FVec Ideal S1x1024 .f32 := fun j => ∑ i, sq (off (rowAt (iblk m c 2 t) i) (rowAt (iblk m c 3 t) i) (rowAt (sum m c t.val t.isLt) i) (j 1))

theorem after_at (p : FVec Ideal S1x1024 .f32) (e : Fin 1024) : after m c t p (ix2 0 e) = p (ix2 0 e) + tG m c t (ix2 0 e) := by
  simp only [after, next, squares_at, part_row _ 0 _ (by decide), part_row _ 256 _ (by decide), part_row _ 512 _ (by decide), part_row _ 768 _ (by decide)]
  rw [add_assoc, add_assoc, add_assoc]
  refine congrArg _ (Eq.trans ?_ (slabs_sum fun i => sq (off (rowAt (iblk m c 2 t) i) (rowAt (iblk m c 3 t) i) (rowAt (sum m c t.val t.isLt) i) e)))
  rw [add_assoc, add_assoc]

/-- The squares' sum past a point. -/
abbrev gsum (n : ℕ) (h : n < cfg0.N) : FVec Ideal S1x1024 .f32 := (outsAt0 m c n h).2.2.1

theorem gsum_first (ht : t.val = 3) : gsum m c t.val t.isLt = after m c t k0_pay7 := by
  unfold after next
  rw [sum_B m c t (by omega)]
  unfold gsum
  rw [outsAt0_C m c t (by omega) (by omega) (by omega)]
  frame_out
  simp only [read_unread_whole, squares_0, squares_1, squares_2]
  rw [read_part, read_part, read_part, read_part]

theorem gsum_step (ht : t.val % 4 = 3) (h2 : ¬ t.val < 4) : gsum m c t.val t.isLt = after m c t (gsum m c (t.val - 1) (Nat.lt_of_le_of_lt (Nat.sub_le _ _) t.isLt)) := by
  unfold after next
  rw [sum_B m c t (by omega)]
  unfold gsum
  rw [outsAt0_D m c t (by omega) ht h2]
  frame_out
  simp only [read_unread_whole, squares_0, squares_1, squares_2]
  rw [read_part, read_part, read_part, read_part]

/-- A point that is no row block's last leaves the squares' sum. -/
theorem gsum_keep (ht : ¬ t.val % 4 = 3) (h0 : t.val ≠ 0) : gsum m c t.val t.isLt = gsum m c (t.val - 1) (Nat.lt_of_le_of_lt (Nat.sub_le _ _) t.isLt) := by
  unfold gsum
  by_cases h : t.val % 4 = 0
  · rw [outsAt0_A m c t h ht]
    rfl
  · rw [outsAt0_B m c t h ht]
    rfl

end Point

/-- The last point of a row block. -/
def last (p : Fin 8) : Fin cfg0.N := ⟨4 * p.val + 3, by rw [show cfg0.N = 32 from N_0]; omega⟩

/-- The squares' sum past a row block. -/
def past (n : ℕ) (h : n < 8) : S1x1024.Idx → EReal := gsum m c (last ⟨n, h⟩).val (last ⟨n, h⟩).isLt

/-- A row block's share of the squares' sum. -/
def share (p : Fin 8) : S1x1024.Idx → EReal := tG m c (last p)

theorem past_first (j : S1x1024.Idx) : past m c 0 (by decide) j = 0 + share m c 0 j := by
  obtain ⟨e, rfl⟩ := row0 j
  unfold past share
  refine (congrFun (gsum_first m c (last 0) rfl) _).trans ?_
  refine (after_at m c (last 0) _ e).trans (congrArg (· + _) ?_)
  pointwise [k0_pay7]

theorem gsum_back (n a : ℕ) (h : n < cfg0.N) (ha : a < cfg0.N) (e : a = n - 1) (h3 : ¬ n % 4 = 3) (h0 : n ≠ 0) : gsum m c n h = gsum m c a ha := by
  subst e
  exact gsum_keep m c ⟨n, h⟩ h3 h0

theorem past_step (p : Fin 8) (hp : 0 < p.val) (j : S1x1024.Idx) :
    past m c p.val p.isLt j = past m c (p.val - 1) (Nat.lt_of_le_of_lt (Nat.sub_le _ _) p.isLt) j + share m c p j := by
  obtain ⟨e, rfl⟩ := row0 j
  have h4 : (last p).val = 4 * p.val + 3 := rfl
  have hb : ∀ a, a < 32 → a < cfg0.N := fun a h => lt_of_lt_of_eq h N_0.symm
  have hl := p.isLt
  unfold past share
  rw [gsum_step m c (last p) (by omega) (by omega)]
  refine (after_at m c (last p) _ e).trans (congrArg (· + _) (congrFun ?_ _))
  refine (gsum_back m c _ (4 * p.val + 1) _ (hb _ (by omega)) (by omega) (by omega) (by omega)).trans ?_
  refine (gsum_back m c _ (4 * p.val) _ (hb _ (by omega)) (by omega) (by omega) (by omega)).trans ?_
  exact gsum_back m c _ (4 * (p.val - 1) + 3) _ (hb _ (by omega)) (by omega) (by omega) (by omega)

theorem gsum_all (j : S1x1024.Idx) : gsum m c (last 7).val (last 7).isLt j = ∑ p : Fin 8, share m c p j :=
  (Pipeline.eq_sum_fin_of_reset_step_apply_last (M := EReal) (N := 8) (past m c) 8 (fun _ => 0) (share m c)
    (fun p h j => by
      have hp : p = 0 := Fin.ext (by rw [Fin.val_zero]; omega)
      subst hp
      exact past_first m c j)
    (fun p h j => past_step m c p (by omega) j) (Nat.le_refl 8) (7 : Fin 8) rfl j).trans (zero_add _)

/-- The kernel's rows. -/
abbrev result : FVec Ideal S8192x1024 .f32 := fun i =>
  slope (diff (argX m c) (argA m c) (argW m c) (argT m c) (i 0) (i 1))

theorem tRows_at (t : Fin cfg0.N) (ht : t.val % 4 = 3) (i e : Fin 1024) : tRows m c t (ix2 i e) = result m c (ix2 (brow t i) e) := by
  show slope (off (rowAt (iblk m c 2 t) i) (rowAt (iblk m c 3 t) i) (rowAt (sum m c t.val t.isLt) i) e) = _
  rw [blk_x, sum_last m c t ht, blk_t]
  rfl

theorem final4 : (dats m 0 c).arrAt 4 cfg0.N = result m c := by
  refine (dats m 0 c).arrAt_eq_of_covers 4 _ (by decide +kernel) fun t hf y => ?_
  have hi := idx t
  have ht := (flush0_4 t).1 hf
  blk_simp
  rw [after0_4, out4 m c t ht]
  obtain ⟨i, e, rfl⟩ : ∃ (i : Fin 1024) (e : Fin 1024), y = ix2 i e := ⟨y 0, y 1, eq_ix2 y⟩
  have he : (win0_4.blk t).view.emb (ix2 i e : S1024x1024.Idx) = (ix2 (brow t i) e : S8192x1024.Idx) := by blk_ext [hi, brow]
  exact (tRows_at m c t ht i e).trans (congrArg (result m c) he).symm

theorem final5 : (dats m 0 c).arrAt 5 cfg0.N = result m c := by
  refine (dats m 0 c).arrAt_eq_of_covers 5 _ (by decide +kernel) fun t hf y => ?_
  have hi := idx t
  have ht := (flush0_5 t).1 hf
  blk_simp
  rw [after0_5, out5 m c t ht, out4 m c t ht]
  obtain ⟨i, e, rfl⟩ : ∃ (i : Fin 1024) (e : Fin 1024), y = ix2 i e := ⟨y 0, y 1, eq_ix2 y⟩
  have he : (win0_5.blk t).view.emb (ix2 i e : S1024x1024.Idx) = (ix2 (brow t i) e : S8192x1024.Idx) := by blk_ext [hi, brow]
  exact (tRows_at m c t ht i e).trans (congrArg (result m c) he).symm

theorem share_at (p : Fin 8) (e : Fin 1024) : share m c p (ix2 0 e)
    = ∑ i, sq (diff (argX m c) (argA m c) (argW m c) (argT m c) (brow (last p) i) e) := by
  have h4 : (last p).val = 4 * p.val + 3 := rfl
  show ∑ i, sq (off (rowAt (iblk m c 2 (last p)) i) (rowAt (iblk m c 3 (last p)) i) (rowAt (sum m c (last p).val (last p).isLt) i) e) = _
  simp only [blk_x, blk_t, sum_last m c (last p) (by omega)]

theorem shares (e : Fin 1024) : ∑ p : Fin 8, share m c p (ix2 0 e) = ∑ r, sq (diff (argX m c) (argA m c) (argW m c) (argT m c) r e) := by
  simp only [share_at]
  refine Fin.sum_mul_add_congr (S := 8) (n := 1024) (F := fun p i => sq (diff (argX m c) (argA m c) (argW m c) (argT m c) (brow (last p) i) e))
    fun p i hl => ?_
  have hb : brow (last p) i = ⟨p.val * 1024 + i.val, hl⟩ := Fin.ext (by
    show (4 * p.val + 3) / 4 * 1024 + i.val = p.val * 1024 + i.val
    omega)
  rw [hb]

theorem final6 : (dats m 0 c).arrAt 6 cfg0.N = fun i : S1x1024.Idx => ∑ r, sq (diff (argX m c) (argA m c) (argW m c) (argT m c) r (i 1)) := by
  refine (dats m 0 c).arrAt_eq_of_covers 6 _ (by decide +kernel) fun t hf y => ?_
  have hi := idx t
  have ht := (flush0_6 t).1 hf
  have hN := lt_of_lt_of_eq t.isLt N_0
  have hl : t = last 7 := Fin.ext (by show t.val = 31; omega)
  blk_simp
  rw [after0_6]
  obtain ⟨e, rfl⟩ := row0 y
  have he : (win0_6.blk t).view.emb (ix2 0 e : S1x1024.Idx) = (ix2 0 e : S1x1024.Idx) := by blk_ext [hi]
  refine Eq.trans ?_ (congrArg (fun i : S1x1024.Idx => ∑ r, sq (diff (argX m c) (argA m c) (argW m c) (argT m c) r (i 1))) he).symm
  subst hl
  exact (gsum_all m c _).trans (shares m c e)

theorem total (X : FVec Ideal S1x1024 .f32) (i : S_.Idx) :
    mulf (Host.reduceAdd X (constant (F := Ideal) S_ .f32 0x00000000#32) reducesTo_S1x1024_S_d0_1 h_S_) (constant S_ .f32 0x3A000000#32) i
      = (∑ e, X (ix2 0 e)) * Ideal.ofBits .f32 0x3A000000#32 := by
  show Host.reduceAdd X (constant (F := Ideal) S_ .f32 0x00000000#32) reducesTo_S1x1024_S_d0_1 h_S_ i * Ideal.ofBits .f32 0x3A000000#32 = _
  refine congrArg (· * _) ?_
  simp only [Host.reduceAdd, Ideal.hostReduceAdd_def]
  rw [Ideal.hostReduceAdd_total _ fun b => b.elim0, sum_idx2, Fin.sum_univ_one]
  exact (congrArg (· + _) Ideal.ofBits_zero_f32).trans (zero_add _)

end Cert.Kernel12Ideal.Hand

namespace Cert.Proof

open Idealize.ShloMosaic Idealize.ShloMosaic.TcCoe Idealize.SL.Sem

theorem loss_frame_reference : Cert.quiescent_Reference12Ideal := fun m ρ _ =>
  (θ_run Cert.Reference12Ideal.defs _ _).mono
    (fun r h => ⟨fun c => (h c).2.2.2, sem_eq_zero_of_no_sems (by decide) r.2⟩) (Cert.Reference12Ideal.Value.run m ρ)

/-- The loss, and the gradient it starts with. -/
theorem loss_algebraic : Cert.algebraic_Kernel12Ideal_Reference12Ideal := by
  intro m g m' g' _ hagree
  refine ⟨_, _, _, Cert.Kernel12Ideal.Value.run m g, (θ_run _ _ _).mono (fun r h c => ?_) (Cert.Reference12Ideal.Value.run m' g')⟩
  obtain ⟨h0, h1, h2, h3⟩ := h c
  obtain ⟨a0, a1, a2, a3⟩ := hagree c
  have hrows : ∀ i, Cert.Reference12Ideal.Read.val_main_v16 (F := Ideal) _ _ _ _ i = Cert.Kernel12Ideal.Hand.result m c i := fun i => by
    obtain ⟨r, e, rfl⟩ : ∃ (r : Fin 8192) (e : Fin 1024), i = ix2 r e := ⟨i 0, i 1, eq_ix2 i⟩
    exact Cert.Reference12Ideal.Hand.v16 _ _ _ _ r e
  refine ⟨h0.trans ?_, h1.trans ?_, h2.trans ?_, h3⟩
  · rw [Cert.Reference12Ideal.Read.val_main_v10_eq, a0, a1, a2, a3]
    unfold Cert.Kernel12Ideal.Value.reg_main_v2_2
    rw [Cert.Kernel12Ideal.Hand.final6]
    funext i
    refine (Cert.Reference12Ideal.Hand.v10 _ _ _ _ i).trans (Eq.symm ?_)
    exact Cert.Kernel12Ideal.Hand.total _ i
  · rw [Cert.Reference12Ideal.Read.val_main_v16_eq, a0, a1, a2, a3]
    unfold Cert.Kernel12Ideal.Value.reg_main_v2_0
    rw [Cert.Kernel12Ideal.Hand.final4]
    exact funext hrows
  · rw [Cert.Reference12Ideal.Read.val_main_v17_eq, a0, a1, a2, a3]
    unfold Cert.Kernel12Ideal.Value.reg_main_v2_1
    rw [Cert.Kernel12Ideal.Hand.final5]
    exact funext hrows

end Cert.Proof

end
-- ==== Proof.lean ====
/- The proof of the claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal.Run
public import proofs.«01_k».proof.Proof.Gen.ReferenceIdeal.Run
public import proofs.«01_k».proof.Proof.Glu
public import proofs.«01_k».proof.Proof.Sb
public import proofs.«01_k».proof.Proof.Xa
public import proofs.«01_k».proof.Proof.Mix
public import proofs.«01_k».proof.Proof.Out
public import proofs.«01_k».proof.Proof.H2
public import proofs.«01_k».proof.Proof.Y1
public import proofs.«01_k».proof.Proof.Up
public import proofs.«01_k».proof.Proof.H3
public import proofs.«01_k».proof.Proof.Sbf
public import proofs.«01_k».proof.Proof.Others
public import proofs.«01_k».proof.Proof.Mem
public import proofs.«01_k».proof.Proof.Fwd
public import proofs.«01_k».proof.Proof.XaFwd
public import proofs.«01_k».proof.Proof.Resid
public import proofs.«01_k».proof.Proof.UpFwd
public import proofs.«01_k».proof.Proof.QkFwd
public import proofs.«01_k».proof.Proof.XaqFwd
public import proofs.«01_k».proof.Proof.MemFwd
public import proofs.«01_k».proof.Proof.Loss
public import Idealize.ShloMosaic.Adequacy
public import Idealize.ShloMosaic.Init

@[expose] public section

set_option maxRecDepth 16384

noncomputable section

namespace Cert.Proof

open Idealize.ShloMosaic Idealize.SL.Sem

theorem glu_frame_reference : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run m ρ)

theorem gate_comm (a b s : EReal) : a * b * (s * (1 - s)) = b * a * s * (1 - s) := by
  rw [mul_comm a b, mul_assoc (b * a)]

theorem glu_algebraic : Cert.algebraic_KernelIdeal_ReferenceIdeal := by
  intro m g m' g' _ hagree
  refine ⟨_, _, Cert.KernelIdeal.Value.run m g,
    (θ_run _ _ _).mono (fun r h c => ?_) (Cert.ReferenceIdeal.Value.run m' g')⟩
  obtain ⟨h0, h1, h2⟩ := h c
  obtain ⟨a0, a1, a2⟩ := hagree c
  refine ⟨h0.trans ?_, h1.trans ?_, h2⟩
  · rw [a0, a1, a2]
    unfold Cert.KernelIdeal.Value.reg_main_v9_0
    rw [Cert.KernelIdeal.Hand.finalY, Cert.KernelIdeal.Hand.entry_ct, Cert.KernelIdeal.Hand.entry_z]
    refine Eq.trans ?_ (Cert.KernelIdeal.Hand.unseg_gY _ _).symm
    rw [Cert.KernelIdeal.Hand.unseg_dot, Cert.KernelIdeal.Hand.unseg_toseg]
    funext i
    pointwise [Cert.KernelIdeal.Hand.gY]
    rfl
  · rw [a0, a1, a2]
    unfold Cert.KernelIdeal.Value.reg_main_v9_1
    rw [Cert.KernelIdeal.Hand.finalZ, Cert.KernelIdeal.Hand.entry_ct, Cert.KernelIdeal.Hand.entry_y, Cert.KernelIdeal.Hand.entry_z]
    refine Eq.trans ?_ (Cert.KernelIdeal.Hand.unseg_gZ _ _ _).symm
    rw [Cert.KernelIdeal.Hand.unseg_dot, Cert.KernelIdeal.Hand.unseg_toseg, Cert.KernelIdeal.Hand.unseg_toseg]
    funext i
    pointwise [Cert.KernelIdeal.Hand.gZ]
    exact gate_comm _ _ _

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts,
    Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Finite.facts, Finite3.facts, Finite13.facts,
    fun m ρ _ => Cert.Kernel.Gen.frame m ρ, fun m ρ _ => Cert.KernelIdeal.Gen.frame m ρ,
    glu_frame_reference, sb_frame_words, sb_frame, sb_frame_finite, sb_frame_reference, sb_frame_reference_finite,
    fun m ρ _ => Cert.Kernel3.Gen.frame m ρ, fun m ρ _ => Cert.Kernel3Ideal.Gen.frame m ρ, xa_frame_finite, xa_frame_reference, xa_frame_reference_finite,
    fun m ρ _ => Cert.Kernel4.Gen.frame m ρ, fun m ρ _ => Cert.Kernel4Ideal.Gen.frame m ρ, mix_frame_reference,
    fun m ρ _ => Cert.Kernel5.Gen.frame m ρ, fun m ρ _ => Cert.Kernel5Ideal.Gen.frame m ρ, out_frame_reference,
    fun m ρ _ => Cert.Kernel6.Gen.frame m ρ, fun m ρ _ => Cert.Kernel6Ideal.Gen.frame m ρ, h2_frame_reference,
    fun m ρ _ => Cert.Kernel7.Gen.frame m ρ, fun m ρ _ => Cert.Kernel7Ideal.Gen.frame m ρ, y1_frame_reference,
    fun m ρ _ => Cert.Kernel8.Gen.frame m ρ, fun m ρ _ => Cert.Kernel8Ideal.Gen.frame m ρ, up_frame_reference,
    fun m ρ _ => Cert.Kernel9.Gen.frame m ρ, fun m ρ _ => Cert.Kernel9Ideal.Gen.frame m ρ, h3_frame_reference,
    fun m ρ _ => Cert.Kernel10.Gen.frame m ρ, fun m ρ _ => Cert.Kernel10Ideal.Gen.frame m ρ, proj_frame_reference,
    fun m ρ _ => Cert.Kernel11.Gen.frame m ρ, fun m ρ _ => Cert.Kernel11Ideal.Gen.frame m ρ, mem_frame_reference,
    fun m ρ _ => Cert.Kernel12.Gen.frame m ρ, fun m ρ _ => Cert.Kernel12Ideal.Gen.frame m ρ, loss_frame_reference,
    sbf_frame_words, sbf_frame, sbf_frame_finite, sbf_frame_reference, sbf_frame_reference_finite,
    fun m ρ _ => Cert.Kernel14.Gen.frame m ρ, fun m ρ _ => Cert.Kernel14Ideal.Gen.frame m ρ, mats_frame_reference,
    fun m ρ _ => Cert.Kernel15.Gen.frame m ρ, fun m ρ _ => Cert.Kernel15Ideal.Gen.frame m ρ, normf_frame_reference,
    fun m ρ _ => Cert.Kernel16.Gen.frame m ρ, fun m ρ _ => Cert.Kernel16Ideal.Gen.frame m ρ, outf_frame_reference,
    fun m ρ _ => Cert.Kernel17.Gen.frame m ρ, fun m ρ _ => Cert.Kernel17Ideal.Gen.frame m ρ, gluf_frame_reference,
    fun m ρ _ => Cert.Kernel18.Gen.frame m ρ, fun m ρ _ => Cert.Kernel18Ideal.Gen.frame m ρ, xaf_frame_reference,
    fun m ρ _ => Cert.Kernel19.Gen.frame m ρ, fun m ρ _ => Cert.Kernel19Ideal.Gen.frame m ρ, mixo_frame_reference,
    fun m ρ _ => Cert.Kernel20.Gen.frame m ρ, fun m ρ _ => Cert.Kernel20Ideal.Gen.frame m ρ, xao_frame_reference,
    fun m ρ _ => Cert.Kernel21.Gen.frame m ρ, fun m ρ _ => Cert.Kernel21Ideal.Gen.frame m ρ, upf_frame_reference,
    fun m ρ _ => Cert.Kernel22.Gen.frame m ρ, fun m ρ _ => Cert.Kernel22Ideal.Gen.frame m ρ, qkf_frame_reference,
    fun m ρ _ => Cert.Kernel23.Gen.frame m ρ, fun m ρ _ => Cert.Kernel23Ideal.Gen.frame m ρ, xaq_frame_reference,
    fun m ρ _ => Cert.Kernel24.Gen.frame m ρ, fun m ρ _ => Cert.Kernel24Ideal.Gen.frame m ρ, memf_frame_reference,
    trivial, glu_algebraic, sb_preserves, sb_algebraic, trivial, xa_algebraic,
    trivial, mix_algebraic, trivial, out_algebraic, trivial, h2_algebraic, trivial, y1_algebraic, trivial, up_algebraic,
    trivial, h3_algebraic, trivial, trivial, mem_algebraic, trivial, loss_algebraic, sbf_preserves, sbf_algebraic, trivial,
    trivial, normf_algebraic, trivial, outf_algebraic, trivial, gluf_algebraic, trivial, xaf_algebraic, trivial, mixo_algebraic, trivial, xao_algebraic,
    trivial, upf_algebraic, trivial, qkf_algebraic,
    trivial, xaq_algebraic, trivial, memf_algebraic⟩

end Cert.Proof

end
